-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_pair [hPre_finite_pair : Cert.Pre_finite_pair.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_pair.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))) = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite_pair [hPre_finite_pair : Cert.Pre_finite_pair.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite_pair.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1))) = (fun _ => 1#1)

def Pre_ZProjDw (m : (ℓ : Loc Cert.ZProjDw.nD Cert.ZProjDw.τ Cert.ZProjDw.sig) → Buf (Elt Bits) ℓ) : Prop :=
  True

def Pre_ZProjDwIdeal (m : (ℓ : Loc Cert.ZProjDwIdeal.nD Cert.ZProjDwIdeal.τ Cert.ZProjDwIdeal.sig) → Buf (Elt Ideal) ℓ) : Prop :=
  True

def Pre_ZProjDwReferenceIdeal (m : (ℓ : Loc Cert.ZProjDwReferenceIdeal.nD Cert.ZProjDwReferenceIdeal.τ Cert.ZProjDwReferenceIdeal.sig) → Buf (Elt Ideal) ℓ) : Prop :=
  True

def Pre_ZProjDx (m : (ℓ : Loc Cert.ZProjDx.nD Cert.ZProjDx.τ Cert.ZProjDx.sig) → Buf (Elt Bits) ℓ) : Prop :=
  True

def Pre_ZProjDxIdeal (m : (ℓ : Loc Cert.ZProjDxIdeal.nD Cert.ZProjDxIdeal.τ Cert.ZProjDxIdeal.sig) → Buf (Elt Ideal) ℓ) : Prop :=
  True

def Pre_ZProjDxReferenceIdeal (m : (ℓ : Loc Cert.ZProjDxReferenceIdeal.nD Cert.ZProjDxReferenceIdeal.τ Cert.ZProjDxReferenceIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwReferenceIdeal (m : (ℓ : Loc Cert.FfnInDwReferenceIdeal.nD Cert.FfnInDwReferenceIdeal.τ Cert.FfnInDwReferenceIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxReferenceIdeal (m : (ℓ : Loc Cert.FfnInDxReferenceIdeal.nD Cert.FfnInDxReferenceIdeal.τ Cert.FfnInDxReferenceIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwReferenceIdeal (m : (ℓ : Loc Cert.FfnOutDwReferenceIdeal.nD Cert.FfnOutDwReferenceIdeal.τ Cert.FfnOutDwReferenceIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxReferenceIdeal (m : (ℓ : Loc Cert.FfnOutDxReferenceIdeal.nD Cert.FfnOutDxReferenceIdeal.τ Cert.FfnOutDxReferenceIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwReferenceIdeal (m : (ℓ : Loc Cert.MixOutDwReferenceIdeal.nD Cert.MixOutDwReferenceIdeal.τ Cert.MixOutDwReferenceIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxReferenceIdeal (m : (ℓ : Loc Cert.MixOutDxReferenceIdeal.nD Cert.MixOutDxReferenceIdeal.τ Cert.MixOutDxReferenceIdeal.sig) → Buf (Elt Ideal) ℓ) : Prop :=
  True

def Pre_BranchAttDx (m : (ℓ : Loc Cert.BranchAttDx.nD Cert.BranchAttDx.τ Cert.BranchAttDx.sig) → Buf (Elt Bits) ℓ) : Prop :=
  True

def Pre_BranchAttDxIdeal (m : (ℓ : Loc Cert.BranchAttDxIdeal.nD Cert.BranchAttDxIdeal.τ Cert.BranchAttDxIdeal.sig) → Buf (Elt Ideal) ℓ) : Prop :=
  True

def Pre_BranchAttDxReferenceIdeal (m : (ℓ : Loc Cert.BranchAttDxReferenceIdeal.nD Cert.BranchAttDxReferenceIdeal.τ Cert.BranchAttDxReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_ZProjQkv (m : (ℓ : Loc Cert.ZProjQkv.nD Cert.ZProjQkv.τ Cert.ZProjQkv.sig) → Buf (Elt Bits) ℓ) : Prop :=
  True

def Pre_ZProjQkvIdeal (m : (ℓ : Loc Cert.ZProjQkvIdeal.nD Cert.ZProjQkvIdeal.τ Cert.ZProjQkvIdeal.sig) → Buf (Elt Ideal) ℓ) : Prop :=
  True

def Pre_ZProjQkvReferenceIdeal (m : (ℓ : Loc Cert.ZProjQkvReferenceIdeal.nD Cert.ZProjQkvReferenceIdeal.τ Cert.ZProjQkvReferenceIdeal.sig) → Buf (Elt Ideal) ℓ) : Prop :=
  True

def Pre_ZProjRest (m : (ℓ : Loc Cert.ZProjRest.nD Cert.ZProjRest.τ Cert.ZProjRest.sig) → Buf (Elt Bits) ℓ) : Prop :=
  True

def Pre_ZProjRestIdeal (m : (ℓ : Loc Cert.ZProjRestIdeal.nD Cert.ZProjRestIdeal.τ Cert.ZProjRestIdeal.sig) → Buf (Elt Ideal) ℓ) : Prop :=
  True

def Pre_ZProjRestReferenceIdeal (m : (ℓ : Loc Cert.ZProjRestReferenceIdeal.nD Cert.ZProjRestReferenceIdeal.τ Cert.ZProjRestReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_BranchAttDw (m : (ℓ : Loc Cert.BranchAttDw.nD Cert.BranchAttDw.τ Cert.BranchAttDw.sig) → Buf (Elt Bits) ℓ) : Prop :=
  True

def Pre_BranchAttDwIdeal (m : (ℓ : Loc Cert.BranchAttDwIdeal.nD Cert.BranchAttDwIdeal.τ Cert.BranchAttDwIdeal.sig) → Buf (Elt Ideal) ℓ) : Prop :=
  True

def Pre_BranchAttDwReferenceIdeal (m : (ℓ : Loc Cert.BranchAttDwReferenceIdeal.nD Cert.BranchAttDwReferenceIdeal.τ Cert.BranchAttDwReferenceIdeal.sig) → Buf (Elt Ideal) ℓ) : Prop :=
  True

def Pre_BranchRnnDw (m : (ℓ : Loc Cert.BranchRnnDw.nD Cert.BranchRnnDw.τ Cert.BranchRnnDw.sig) → Buf (Elt Bits) ℓ) : Prop :=
  True

def Pre_BranchRnnDwIdeal (m : (ℓ : Loc Cert.BranchRnnDwIdeal.nD Cert.BranchRnnDwIdeal.τ Cert.BranchRnnDwIdeal.sig) → Buf (Elt Ideal) ℓ) : Prop :=
  True

def Pre_BranchRnnDwReferenceIdeal (m : (ℓ : Loc Cert.BranchRnnDwReferenceIdeal.nD Cert.BranchRnnDwReferenceIdeal.τ Cert.BranchRnnDwReferenceIdeal.sig) → Buf (Elt Ideal) ℓ) : Prop :=
  True

def Pre_PleGateDw (m : (ℓ : Loc Cert.PleGateDw.nD Cert.PleGateDw.τ Cert.PleGateDw.sig) → Buf (Elt Bits) ℓ) : Prop :=
  True

def Pre_PleGateDwIdeal (m : (ℓ : Loc Cert.PleGateDwIdeal.nD Cert.PleGateDwIdeal.τ Cert.PleGateDwIdeal.sig) → Buf (Elt Ideal) ℓ) : Prop :=
  True

def Pre_PleGateDwReferenceIdeal (m : (ℓ : Loc Cert.PleGateDwReferenceIdeal.nD Cert.PleGateDwReferenceIdeal.τ Cert.PleGateDwReferenceIdeal.sig) → Buf (Elt Ideal) ℓ) : Prop :=
  True

def Pre_BranchRnnDx (m : (ℓ : Loc Cert.BranchRnnDx.nD Cert.BranchRnnDx.τ Cert.BranchRnnDx.sig) → Buf (Elt Bits) ℓ) : Prop :=
  True

def Pre_BranchRnnDxIdeal (m : (ℓ : Loc Cert.BranchRnnDxIdeal.nD Cert.BranchRnnDxIdeal.τ Cert.BranchRnnDxIdeal.sig) → Buf (Elt Ideal) ℓ) : Prop :=
  True

def Pre_BranchRnnDxReferenceIdeal (m : (ℓ : Loc Cert.BranchRnnDxReferenceIdeal.nD Cert.BranchRnnDxReferenceIdeal.τ Cert.BranchRnnDxReferenceIdeal.sig) → Buf (Elt Ideal) ℓ) : Prop :=
  True

def Pre_PleGateDx (m : (ℓ : Loc Cert.PleGateDx.nD Cert.PleGateDx.τ Cert.PleGateDx.sig) → Buf (Elt Bits) ℓ) : Prop :=
  True

def Pre_PleGateDxIdeal (m : (ℓ : Loc Cert.PleGateDxIdeal.nD Cert.PleGateDxIdeal.τ Cert.PleGateDxIdeal.sig) → Buf (Elt Ideal) ℓ) : Prop :=
  True

def Pre_PleGateDxReferenceIdeal (m : (ℓ : Loc Cert.PleGateDxReferenceIdeal.nD Cert.PleGateDxReferenceIdeal.τ Cert.PleGateDxReferenceIdeal.sig) → Buf (Elt Ideal) ℓ) : Prop :=
  True

def Pre_BranchAtt (m : (ℓ : Loc Cert.BranchAtt.nD Cert.BranchAtt.τ Cert.BranchAtt.sig) → Buf (Elt Bits) ℓ) : Prop :=
  True

def Pre_BranchAttIdeal (m : (ℓ : Loc Cert.BranchAttIdeal.nD Cert.BranchAttIdeal.τ Cert.BranchAttIdeal.sig) → Buf (Elt Ideal) ℓ) : Prop :=
  True

def Pre_BranchAttReferenceIdeal (m : (ℓ : Loc Cert.BranchAttReferenceIdeal.nD Cert.BranchAttReferenceIdeal.τ Cert.BranchAttReferenceIdeal.sig) → Buf (Elt Ideal) ℓ) : Prop :=
  True

def Pre_BranchRnn (m : (ℓ : Loc Cert.BranchRnn.nD Cert.BranchRnn.τ Cert.BranchRnn.sig) → Buf (Elt Bits) ℓ) : Prop :=
  True

def Pre_BranchRnnIdeal (m : (ℓ : Loc Cert.BranchRnnIdeal.nD Cert.BranchRnnIdeal.τ Cert.BranchRnnIdeal.sig) → Buf (Elt Ideal) ℓ) : Prop :=
  True

def Pre_BranchRnnReferenceIdeal (m : (ℓ : Loc Cert.BranchRnnReferenceIdeal.nD Cert.BranchRnnReferenceIdeal.τ Cert.BranchRnnReferenceIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateReferenceIdeal (m : (ℓ : Loc Cert.PleGateReferenceIdeal.nD Cert.PleGateReferenceIdeal.τ Cert.PleGateReferenceIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjReferenceIdeal (m : (ℓ : Loc Cert.PleProjReferenceIdeal.nD Cert.PleProjReferenceIdeal.τ Cert.PleProjReferenceIdeal.sig) → Buf (Elt Ideal) ℓ) : Prop :=
  True

def Pre_PleProjDw (m : (ℓ : Loc Cert.PleProjDw.nD Cert.PleProjDw.τ Cert.PleProjDw.sig) → Buf (Elt Bits) ℓ) : Prop :=
  True

def Pre_PleProjDwIdeal (m : (ℓ : Loc Cert.PleProjDwIdeal.nD Cert.PleProjDwIdeal.τ Cert.PleProjDwIdeal.sig) → Buf (Elt Ideal) ℓ) : Prop :=
  True

def Pre_PleProjDwReferenceIdeal (m : (ℓ : Loc Cert.PleProjDwReferenceIdeal.nD Cert.PleProjDwReferenceIdeal.τ Cert.PleProjDwReferenceIdeal.sig) → Buf (Elt Ideal) ℓ) : Prop :=
  True

def Pre_FProj (m : (ℓ : Loc Cert.FProj.nD Cert.FProj.τ Cert.FProj.sig) → Buf (Elt Bits) ℓ) : Prop :=
  True

def Pre_FProjIdeal (m : (ℓ : Loc Cert.FProjIdeal.nD Cert.FProjIdeal.τ Cert.FProjIdeal.sig) → Buf (Elt Ideal) ℓ) : Prop :=
  True

def Pre_FProjReferenceIdeal (m : (ℓ : Loc Cert.FProjReferenceIdeal.nD Cert.FProjReferenceIdeal.τ Cert.FProjReferenceIdeal.sig) → Buf (Elt Ideal) ℓ) : Prop :=
  True

def Pre_FProjDw (m : (ℓ : Loc Cert.FProjDw.nD Cert.FProjDw.τ Cert.FProjDw.sig) → Buf (Elt Bits) ℓ) : Prop :=
  True

def Pre_FProjDwIdeal (m : (ℓ : Loc Cert.FProjDwIdeal.nD Cert.FProjDwIdeal.τ Cert.FProjDwIdeal.sig) → Buf (Elt Ideal) ℓ) : Prop :=
  True

def Pre_FProjDwReferenceIdeal (m : (ℓ : Loc Cert.FProjDwReferenceIdeal.nD Cert.FProjDwReferenceIdeal.τ Cert.FProjDwReferenceIdeal.sig) → Buf (Elt Ideal) ℓ) : Prop :=
  True

def Pre_FProjDx (m : (ℓ : Loc Cert.FProjDx.nD Cert.FProjDx.τ Cert.FProjDx.sig) → Buf (Elt Bits) ℓ) : Prop :=
  True

def Pre_FProjDxIdeal (m : (ℓ : Loc Cert.FProjDxIdeal.nD Cert.FProjDxIdeal.τ Cert.FProjDxIdeal.sig) → Buf (Elt Ideal) ℓ) : Prop :=
  True

def Pre_FProjDxReferenceIdeal (m : (ℓ : Loc Cert.FProjDxReferenceIdeal.nD Cert.FProjDxReferenceIdeal.τ Cert.FProjDxReferenceIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_RnnOutBwd (m : (ℓ : Loc Cert.RnnOutBwd.nD Cert.RnnOutBwd.τ Cert.RnnOutBwd.sig) → Buf (Elt Bits) ℓ) : Prop :=
  True

def Pre_RnnOutBwdIdeal (m : (ℓ : Loc Cert.RnnOutBwdIdeal.nD Cert.RnnOutBwdIdeal.τ Cert.RnnOutBwdIdeal.sig) → Buf (Elt Ideal) ℓ) : Prop :=
  True

def Pre_RnnOutBwdReferenceIdeal (m : (ℓ : Loc Cert.RnnOutBwdReferenceIdeal.nD Cert.RnnOutBwdReferenceIdeal.τ Cert.RnnOutBwdReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_RnnOutFwd (m : (ℓ : Loc Cert.RnnOutFwd.nD Cert.RnnOutFwd.τ Cert.RnnOutFwd.sig) → Buf (Elt Bits) ℓ) : Prop :=
  True

def Pre_RnnOutFwdIdeal (m : (ℓ : Loc Cert.RnnOutFwdIdeal.nD Cert.RnnOutFwdIdeal.τ Cert.RnnOutFwdIdeal.sig) → Buf (Elt Ideal) ℓ) : Prop :=
  True

def Pre_RnnOutFwdReferenceIdeal (m : (ℓ : Loc Cert.RnnOutFwdReferenceIdeal.nD Cert.RnnOutFwdReferenceIdeal.τ Cert.RnnOutFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_finite_pair [hAttnFwdIdeal : Cert.AttnFwdIdeal.Facts] [hPre_finite_pair : Cert.Pre_finite_pair.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_pair m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1))
      ∧ r.2.sem = fun _ => 0)

def quiescent_AttnFwdReferenceIdeal_pre_finite_pair [hAttnFwdReferenceIdeal : Cert.AttnFwdReferenceIdeal.Facts] [hPre_finite_pair : Cert.Pre_finite_pair.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite_pair m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1))
      ∧ r.2.sem = fun _ => 0)

def quiescent_ZProjDw [hZProjDw : Cert.ZProjDw.Facts] : Prop :=
  ∀ (m : (ℓ : Loc Cert.ZProjDw.nD Cert.ZProjDw.τ Cert.ZProjDw.sig) → Buf (Elt Bits) ℓ) (g : Dev Cert.ZProjDw.nD → PrngReg), Pre_ZProjDw m →
    θ_run (Cert.ZProjDw.defs (F := Bits)) (onTc (τ := Cert.ZProjDw.τ) (Cert.ZProjDw.main (F := Bits))) ⟨m, fun _ => 0, g⟩ (fun r => (∀ c : Dev Cert.ZProjDw.nD,
      r.2.mem ((c.tc : Thread Cert.ZProjDw.nD Cert.ZProjDw.τ).loc Cert.ZProjDw.main_arg0) = m ((c.tc : Thread Cert.ZProjDw.nD Cert.ZProjDw.τ).loc Cert.ZProjDw.main_arg0)
      ∧ r.2.mem ((c.tc : Thread Cert.ZProjDw.nD Cert.ZProjDw.τ).loc Cert.ZProjDw.main_arg1) = m ((c.tc : Thread Cert.ZProjDw.nD Cert.ZProjDw.τ).loc Cert.ZProjDw.main_arg1))
      ∧ r.2.sem = fun _ => 0)

def quiescent_ZProjDwIdeal [hZProjDwIdeal : Cert.ZProjDwIdeal.Facts] : Prop :=
  ∀ (m : (ℓ : Loc Cert.ZProjDwIdeal.nD Cert.ZProjDwIdeal.τ Cert.ZProjDwIdeal.sig) → Buf (Elt Ideal) ℓ) (g : Dev Cert.ZProjDwIdeal.nD → PrngReg), Pre_ZProjDwIdeal m →
    θ_run (Cert.ZProjDwIdeal.defs (F := Ideal)) (onTc (τ := Cert.ZProjDwIdeal.τ) (Cert.ZProjDwIdeal.main (F := Ideal))) ⟨m, fun _ => 0, g⟩ (fun r => (∀ c : Dev Cert.ZProjDwIdeal.nD,
      r.2.mem ((c.tc : Thread Cert.ZProjDwIdeal.nD Cert.ZProjDwIdeal.τ).loc Cert.ZProjDwIdeal.main_arg0) = m ((c.tc : Thread Cert.ZProjDwIdeal.nD Cert.ZProjDwIdeal.τ).loc Cert.ZProjDwIdeal.main_arg0)
      ∧ r.2.mem ((c.tc : Thread Cert.ZProjDwIdeal.nD Cert.ZProjDwIdeal.τ).loc Cert.ZProjDwIdeal.main_arg1) = m ((c.tc : Thread Cert.ZProjDwIdeal.nD Cert.ZProjDwIdeal.τ).loc Cert.ZProjDwIdeal.main_arg1))
      ∧ r.2.sem = fun _ => 0)

def quiescent_ZProjDwReferenceIdeal [hZProjDwReferenceIdeal : Cert.ZProjDwReferenceIdeal.Facts] : Prop :=
  ∀ (m : (ℓ : Loc Cert.ZProjDwReferenceIdeal.nD Cert.ZProjDwReferenceIdeal.τ Cert.ZProjDwReferenceIdeal.sig) → Buf (Elt Ideal) ℓ) (g : Dev Cert.ZProjDwReferenceIdeal.nD → PrngReg), Pre_ZProjDwReferenceIdeal m →
    θ_run (Cert.ZProjDwReferenceIdeal.defs (F := Ideal)) (onTc (τ := Cert.ZProjDwReferenceIdeal.τ) (Cert.ZProjDwReferenceIdeal.main (F := Ideal))) ⟨m, fun _ => 0, g⟩ (fun r => (∀ c : Dev Cert.ZProjDwReferenceIdeal.nD,
      r.2.mem ((c.tc : Thread Cert.ZProjDwReferenceIdeal.nD Cert.ZProjDwReferenceIdeal.τ).loc Cert.ZProjDwReferenceIdeal.main_arg0) = m ((c.tc : Thread Cert.ZProjDwReferenceIdeal.nD Cert.ZProjDwReferenceIdeal.τ).loc Cert.ZProjDwReferenceIdeal.main_arg0)
      ∧ r.2.mem ((c.tc : Thread Cert.ZProjDwReferenceIdeal.nD Cert.ZProjDwReferenceIdeal.τ).loc Cert.ZProjDwReferenceIdeal.main_arg1) = m ((c.tc : Thread Cert.ZProjDwReferenceIdeal.nD Cert.ZProjDwReferenceIdeal.τ).loc Cert.ZProjDwReferenceIdeal.main_arg1))
      ∧ r.2.sem = fun _ => 0)

def quiescent_ZProjDx [hZProjDx : Cert.ZProjDx.Facts] : Prop :=
  ∀ (m : (ℓ : Loc Cert.ZProjDx.nD Cert.ZProjDx.τ Cert.ZProjDx.sig) → Buf (Elt Bits) ℓ) (g : Dev Cert.ZProjDx.nD → PrngReg), Pre_ZProjDx m →
    θ_run (Cert.ZProjDx.defs (F := Bits)) (onTc (τ := Cert.ZProjDx.τ) (Cert.ZProjDx.main (F := Bits))) ⟨m, fun _ => 0, g⟩ (fun r => (∀ c : Dev Cert.ZProjDx.nD,
      r.2.mem ((c.tc : Thread Cert.ZProjDx.nD Cert.ZProjDx.τ).loc Cert.ZProjDx.main_arg0) = m ((c.tc : Thread Cert.ZProjDx.nD Cert.ZProjDx.τ).loc Cert.ZProjDx.main_arg0)
      ∧ r.2.mem ((c.tc : Thread Cert.ZProjDx.nD Cert.ZProjDx.τ).loc Cert.ZProjDx.main_arg1) = m ((c.tc : Thread Cert.ZProjDx.nD Cert.ZProjDx.τ).loc Cert.ZProjDx.main_arg1)
      ∧ r.2.mem ((c.tc : Thread Cert.ZProjDx.nD Cert.ZProjDx.τ).loc Cert.ZProjDx.main_arg2) = m ((c.tc : Thread Cert.ZProjDx.nD Cert.ZProjDx.τ).loc Cert.ZProjDx.main_arg2))
      ∧ r.2.sem = fun _ => 0)

def quiescent_ZProjDxIdeal [hZProjDxIdeal : Cert.ZProjDxIdeal.Facts] : Prop :=
  ∀ (m : (ℓ : Loc Cert.ZProjDxIdeal.nD Cert.ZProjDxIdeal.τ Cert.ZProjDxIdeal.sig) → Buf (Elt Ideal) ℓ) (g : Dev Cert.ZProjDxIdeal.nD → PrngReg), Pre_ZProjDxIdeal m →
    θ_run (Cert.ZProjDxIdeal.defs (F := Ideal)) (onTc (τ := Cert.ZProjDxIdeal.τ) (Cert.ZProjDxIdeal.main (F := Ideal))) ⟨m, fun _ => 0, g⟩ (fun r => (∀ c : Dev Cert.ZProjDxIdeal.nD,
      r.2.mem ((c.tc : Thread Cert.ZProjDxIdeal.nD Cert.ZProjDxIdeal.τ).loc Cert.ZProjDxIdeal.main_arg0) = m ((c.tc : Thread Cert.ZProjDxIdeal.nD Cert.ZProjDxIdeal.τ).loc Cert.ZProjDxIdeal.main_arg0)
      ∧ r.2.mem ((c.tc : Thread Cert.ZProjDxIdeal.nD Cert.ZProjDxIdeal.τ).loc Cert.ZProjDxIdeal.main_arg1) = m ((c.tc : Thread Cert.ZProjDxIdeal.nD Cert.ZProjDxIdeal.τ).loc Cert.ZProjDxIdeal.main_arg1)
      ∧ r.2.mem ((c.tc : Thread Cert.ZProjDxIdeal.nD Cert.ZProjDxIdeal.τ).loc Cert.ZProjDxIdeal.main_arg2) = m ((c.tc : Thread Cert.ZProjDxIdeal.nD Cert.ZProjDxIdeal.τ).loc Cert.ZProjDxIdeal.main_arg2))
      ∧ r.2.sem = fun _ => 0)

def quiescent_ZProjDxReferenceIdeal [hZProjDxReferenceIdeal : Cert.ZProjDxReferenceIdeal.Facts] : Prop :=
  ∀ (m : (ℓ : Loc Cert.ZProjDxReferenceIdeal.nD Cert.ZProjDxReferenceIdeal.τ Cert.ZProjDxReferenceIdeal.sig) → Buf (Elt Ideal) ℓ) (g : Dev Cert.ZProjDxReferenceIdeal.nD → PrngReg), Pre_ZProjDxReferenceIdeal m →
    θ_run (Cert.ZProjDxReferenceIdeal.defs (F := Ideal)) (onTc (τ := Cert.ZProjDxReferenceIdeal.τ) (Cert.ZProjDxReferenceIdeal.main (F := Ideal))) ⟨m, fun _ => 0, g⟩ (fun r => (∀ c : Dev Cert.ZProjDxReferenceIdeal.nD,
      r.2.mem ((c.tc : Thread Cert.ZProjDxReferenceIdeal.nD Cert.ZProjDxReferenceIdeal.τ).loc Cert.ZProjDxReferenceIdeal.main_arg0) = m ((c.tc : Thread Cert.ZProjDxReferenceIdeal.nD Cert.ZProjDxReferenceIdeal.τ).loc Cert.ZProjDxReferenceIdeal.main_arg0)
      ∧ r.2.mem ((c.tc : Thread Cert.ZProjDxReferenceIdeal.nD Cert.ZProjDxReferenceIdeal.τ).loc Cert.ZProjDxReferenceIdeal.main_arg1) = m ((c.tc : Thread Cert.ZProjDxReferenceIdeal.nD Cert.ZProjDxReferenceIdeal.τ).loc Cert.ZProjDxReferenceIdeal.main_arg1)
      ∧ r.2.mem ((c.tc : Thread Cert.ZProjDxReferenceIdeal.nD Cert.ZProjDxReferenceIdeal.τ).loc Cert.ZProjDxReferenceIdeal.main_arg2) = m ((c.tc : Thread Cert.ZProjDxReferenceIdeal.nD Cert.ZProjDxReferenceIdeal.τ).loc Cert.ZProjDxReferenceIdeal.main_arg2))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwReferenceIdeal [hFfnInDwReferenceIdeal : Cert.FfnInDwReferenceIdeal.Facts] : Prop :=
  ∀ (m : (ℓ : Loc Cert.FfnInDwReferenceIdeal.nD Cert.FfnInDwReferenceIdeal.τ Cert.FfnInDwReferenceIdeal.sig) → Buf (Elt Ideal) ℓ) (g : Dev Cert.FfnInDwReferenceIdeal.nD → PrngReg), Pre_FfnInDwReferenceIdeal m →
    θ_run (Cert.FfnInDwReferenceIdeal.defs (F := Ideal)) (onTc (τ := Cert.FfnInDwReferenceIdeal.τ) (Cert.FfnInDwReferenceIdeal.main (F := Ideal))) ⟨m, fun _ => 0, g⟩ (fun r => (∀ c : Dev Cert.FfnInDwReferenceIdeal.nD,
      r.2.mem ((c.tc : Thread Cert.FfnInDwReferenceIdeal.nD Cert.FfnInDwReferenceIdeal.τ).loc Cert.FfnInDwReferenceIdeal.main_arg0) = m ((c.tc : Thread Cert.FfnInDwReferenceIdeal.nD Cert.FfnInDwReferenceIdeal.τ).loc Cert.FfnInDwReferenceIdeal.main_arg0)
      ∧ r.2.mem ((c.tc : Thread Cert.FfnInDwReferenceIdeal.nD Cert.FfnInDwReferenceIdeal.τ).loc Cert.FfnInDwReferenceIdeal.main_arg1) = m ((c.tc : Thread Cert.FfnInDwReferenceIdeal.nD Cert.FfnInDwReferenceIdeal.τ).loc Cert.FfnInDwReferenceIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxReferenceIdeal [hFfnInDxReferenceIdeal : Cert.FfnInDxReferenceIdeal.Facts] : Prop :=
  ∀ (m : (ℓ : Loc Cert.FfnInDxReferenceIdeal.nD Cert.FfnInDxReferenceIdeal.τ Cert.FfnInDxReferenceIdeal.sig) → Buf (Elt Ideal) ℓ) (g : Dev Cert.FfnInDxReferenceIdeal.nD → PrngReg), Pre_FfnInDxReferenceIdeal m →
    θ_run (Cert.FfnInDxReferenceIdeal.defs (F := Ideal)) (onTc (τ := Cert.FfnInDxReferenceIdeal.τ) (Cert.FfnInDxReferenceIdeal.main (F := Ideal))) ⟨m, fun _ => 0, g⟩ (fun r => (∀ c : Dev Cert.FfnInDxReferenceIdeal.nD,
      r.2.mem ((c.tc : Thread Cert.FfnInDxReferenceIdeal.nD Cert.FfnInDxReferenceIdeal.τ).loc Cert.FfnInDxReferenceIdeal.main_arg0) = m ((c.tc : Thread Cert.FfnInDxReferenceIdeal.nD Cert.FfnInDxReferenceIdeal.τ).loc Cert.FfnInDxReferenceIdeal.main_arg0)
      ∧ r.2.mem ((c.tc : Thread Cert.FfnInDxReferenceIdeal.nD Cert.FfnInDxReferenceIdeal.τ).loc Cert.FfnInDxReferenceIdeal.main_arg1) = m ((c.tc : Thread Cert.FfnInDxReferenceIdeal.nD Cert.FfnInDxReferenceIdeal.τ).loc Cert.FfnInDxReferenceIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwReferenceIdeal [hFfnOutDwReferenceIdeal : Cert.FfnOutDwReferenceIdeal.Facts] : Prop :=
  ∀ (m : (ℓ : Loc Cert.FfnOutDwReferenceIdeal.nD Cert.FfnOutDwReferenceIdeal.τ Cert.FfnOutDwReferenceIdeal.sig) → Buf (Elt Ideal) ℓ) (g : Dev Cert.FfnOutDwReferenceIdeal.nD → PrngReg), Pre_FfnOutDwReferenceIdeal m →
    θ_run (Cert.FfnOutDwReferenceIdeal.defs (F := Ideal)) (onTc (τ := Cert.FfnOutDwReferenceIdeal.τ) (Cert.FfnOutDwReferenceIdeal.main (F := Ideal))) ⟨m, fun _ => 0, g⟩ (fun r => (∀ c : Dev Cert.FfnOutDwReferenceIdeal.nD,
      r.2.mem ((c.tc : Thread Cert.FfnOutDwReferenceIdeal.nD Cert.FfnOutDwReferenceIdeal.τ).loc Cert.FfnOutDwReferenceIdeal.main_arg0) = m ((c.tc : Thread Cert.FfnOutDwReferenceIdeal.nD Cert.FfnOutDwReferenceIdeal.τ).loc Cert.FfnOutDwReferenceIdeal.main_arg0)
      ∧ r.2.mem ((c.tc : Thread Cert.FfnOutDwReferenceIdeal.nD Cert.FfnOutDwReferenceIdeal.τ).loc Cert.FfnOutDwReferenceIdeal.main_arg1) = m ((c.tc : Thread Cert.FfnOutDwReferenceIdeal.nD Cert.FfnOutDwReferenceIdeal.τ).loc Cert.FfnOutDwReferenceIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1)
      ∧ r.2.mem ((c.tc : Thread Cert.FfnOutDx.nD Cert.FfnOutDx.τ).loc Cert.FfnOutDx.main_arg2) = m ((c.tc : Thread Cert.FfnOutDx.nD Cert.FfnOutDx.τ).loc Cert.FfnOutDx.main_arg2))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ r.2.sem = fun _ => 0)

def quiescent_FfnOutDxReferenceIdeal [hFfnOutDxReferenceIdeal : Cert.FfnOutDxReferenceIdeal.Facts] : Prop :=
  ∀ (m : (ℓ : Loc Cert.FfnOutDxReferenceIdeal.nD Cert.FfnOutDxReferenceIdeal.τ Cert.FfnOutDxReferenceIdeal.sig) → Buf (Elt Ideal) ℓ) (g : Dev Cert.FfnOutDxReferenceIdeal.nD → PrngReg), Pre_FfnOutDxReferenceIdeal m →
    θ_run (Cert.FfnOutDxReferenceIdeal.defs (F := Ideal)) (onTc (τ := Cert.FfnOutDxReferenceIdeal.τ) (Cert.FfnOutDxReferenceIdeal.main (F := Ideal))) ⟨m, fun _ => 0, g⟩ (fun r => (∀ c : Dev Cert.FfnOutDxReferenceIdeal.nD,
      r.2.mem ((c.tc : Thread Cert.FfnOutDxReferenceIdeal.nD Cert.FfnOutDxReferenceIdeal.τ).loc Cert.FfnOutDxReferenceIdeal.main_arg0) = m ((c.tc : Thread Cert.FfnOutDxReferenceIdeal.nD Cert.FfnOutDxReferenceIdeal.τ).loc Cert.FfnOutDxReferenceIdeal.main_arg0)
      ∧ r.2.mem ((c.tc : Thread Cert.FfnOutDxReferenceIdeal.nD Cert.FfnOutDxReferenceIdeal.τ).loc Cert.FfnOutDxReferenceIdeal.main_arg1) = m ((c.tc : Thread Cert.FfnOutDxReferenceIdeal.nD Cert.FfnOutDxReferenceIdeal.τ).loc Cert.FfnOutDxReferenceIdeal.main_arg1)
      ∧ r.2.mem ((c.tc : Thread Cert.FfnOutDxReferenceIdeal.nD Cert.FfnOutDxReferenceIdeal.τ).loc Cert.FfnOutDxReferenceIdeal.main_arg2) = m ((c.tc : Thread Cert.FfnOutDxReferenceIdeal.nD Cert.FfnOutDxReferenceIdeal.τ).loc Cert.FfnOutDxReferenceIdeal.main_arg2))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwReferenceIdeal [hMixOutDwReferenceIdeal : Cert.MixOutDwReferenceIdeal.Facts] : Prop :=
  ∀ (m : (ℓ : Loc Cert.MixOutDwReferenceIdeal.nD Cert.MixOutDwReferenceIdeal.τ Cert.MixOutDwReferenceIdeal.sig) → Buf (Elt Ideal) ℓ) (g : Dev Cert.MixOutDwReferenceIdeal.nD → PrngReg), Pre_MixOutDwReferenceIdeal m →
    θ_run (Cert.MixOutDwReferenceIdeal.defs (F := Ideal)) (onTc (τ := Cert.MixOutDwReferenceIdeal.τ) (Cert.MixOutDwReferenceIdeal.main (F := Ideal))) ⟨m, fun _ => 0, g⟩ (fun r => (∀ c : Dev Cert.MixOutDwReferenceIdeal.nD,
      r.2.mem ((c.tc : Thread Cert.MixOutDwReferenceIdeal.nD Cert.MixOutDwReferenceIdeal.τ).loc Cert.MixOutDwReferenceIdeal.main_arg0) = m ((c.tc : Thread Cert.MixOutDwReferenceIdeal.nD Cert.MixOutDwReferenceIdeal.τ).loc Cert.MixOutDwReferenceIdeal.main_arg0)
      ∧ r.2.mem ((c.tc : Thread Cert.MixOutDwReferenceIdeal.nD Cert.MixOutDwReferenceIdeal.τ).loc Cert.MixOutDwReferenceIdeal.main_arg1) = m ((c.tc : Thread Cert.MixOutDwReferenceIdeal.nD Cert.MixOutDwReferenceIdeal.τ).loc Cert.MixOutDwReferenceIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxReferenceIdeal [hMixOutDxReferenceIdeal : Cert.MixOutDxReferenceIdeal.Facts] : Prop :=
  ∀ (m : (ℓ : Loc Cert.MixOutDxReferenceIdeal.nD Cert.MixOutDxReferenceIdeal.τ Cert.MixOutDxReferenceIdeal.sig) → Buf (Elt Ideal) ℓ) (g : Dev Cert.MixOutDxReferenceIdeal.nD → PrngReg), Pre_MixOutDxReferenceIdeal m →
    θ_run (Cert.MixOutDxReferenceIdeal.defs (F := Ideal)) (onTc (τ := Cert.MixOutDxReferenceIdeal.τ) (Cert.MixOutDxReferenceIdeal.main (F := Ideal))) ⟨m, fun _ => 0, g⟩ (fun r => (∀ c : Dev Cert.MixOutDxReferenceIdeal.nD,
      r.2.mem ((c.tc : Thread Cert.MixOutDxReferenceIdeal.nD Cert.MixOutDxReferenceIdeal.τ).loc Cert.MixOutDxReferenceIdeal.main_arg0) = m ((c.tc : Thread Cert.MixOutDxReferenceIdeal.nD Cert.MixOutDxReferenceIdeal.τ).loc Cert.MixOutDxReferenceIdeal.main_arg0)
      ∧ r.2.mem ((c.tc : Thread Cert.MixOutDxReferenceIdeal.nD Cert.MixOutDxReferenceIdeal.τ).loc Cert.MixOutDxReferenceIdeal.main_arg1) = m ((c.tc : Thread Cert.MixOutDxReferenceIdeal.nD Cert.MixOutDxReferenceIdeal.τ).loc Cert.MixOutDxReferenceIdeal.main_arg1))
      ∧ r.2.sem = fun _ => 0)

def quiescent_BranchAttDx [hBranchAttDx : Cert.BranchAttDx.Facts] : Prop :=
  ∀ (m : (ℓ : Loc Cert.BranchAttDx.nD Cert.BranchAttDx.τ Cert.BranchAttDx.sig) → Buf (Elt Bits) ℓ) (g : Dev Cert.BranchAttDx.nD → PrngReg), Pre_BranchAttDx m →
    θ_run (Cert.BranchAttDx.defs (F := Bits)) (onTc (τ := Cert.BranchAttDx.τ) (Cert.BranchAttDx.main (F := Bits))) ⟨m, fun _ => 0, g⟩ (fun r => (∀ c : Dev Cert.BranchAttDx.nD,
      r.2.mem ((c.tc : Thread Cert.BranchAttDx.nD Cert.BranchAttDx.τ).loc Cert.BranchAttDx.main_arg0) = m ((c.tc : Thread Cert.BranchAttDx.nD Cert.BranchAttDx.τ).loc Cert.BranchAttDx.main_arg0)
      ∧ r.2.mem ((c.tc : Thread Cert.BranchAttDx.nD Cert.BranchAttDx.τ).loc Cert.BranchAttDx.main_arg1) = m ((c.tc : Thread Cert.BranchAttDx.nD Cert.BranchAttDx.τ).loc Cert.BranchAttDx.main_arg1))
      ∧ r.2.sem = fun _ => 0)

def quiescent_BranchAttDxIdeal [hBranchAttDxIdeal : Cert.BranchAttDxIdeal.Facts] : Prop :=
  ∀ (m : (ℓ : Loc Cert.BranchAttDxIdeal.nD Cert.BranchAttDxIdeal.τ Cert.BranchAttDxIdeal.sig) → Buf (Elt Ideal) ℓ) (g : Dev Cert.BranchAttDxIdeal.nD → PrngReg), Pre_BranchAttDxIdeal m →
    θ_run (Cert.BranchAttDxIdeal.defs (F := Ideal)) (onTc (τ := Cert.BranchAttDxIdeal.τ) (Cert.BranchAttDxIdeal.main (F := Ideal))) ⟨m, fun _ => 0, g⟩ (fun r => (∀ c : Dev Cert.BranchAttDxIdeal.nD,
      r.2.mem ((c.tc : Thread Cert.BranchAttDxIdeal.nD Cert.BranchAttDxIdeal.τ).loc Cert.BranchAttDxIdeal.main_arg0) = m ((c.tc : Thread Cert.BranchAttDxIdeal.nD Cert.BranchAttDxIdeal.τ).loc Cert.BranchAttDxIdeal.main_arg0)
      ∧ r.2.mem ((c.tc : Thread Cert.BranchAttDxIdeal.nD Cert.BranchAttDxIdeal.τ).loc Cert.BranchAttDxIdeal.main_arg1) = m ((c.tc : Thread Cert.BranchAttDxIdeal.nD Cert.BranchAttDxIdeal.τ).loc Cert.BranchAttDxIdeal.main_arg1))
      ∧ r.2.sem = fun _ => 0)

def quiescent_BranchAttDxReferenceIdeal [hBranchAttDxReferenceIdeal : Cert.BranchAttDxReferenceIdeal.Facts] : Prop :=
  ∀ (m : (ℓ : Loc Cert.BranchAttDxReferenceIdeal.nD Cert.BranchAttDxReferenceIdeal.τ Cert.BranchAttDxReferenceIdeal.sig) → Buf (Elt Ideal) ℓ) (g : Dev Cert.BranchAttDxReferenceIdeal.nD → PrngReg), Pre_BranchAttDxReferenceIdeal m →
    θ_run (Cert.BranchAttDxReferenceIdeal.defs (F := Ideal)) (onTc (τ := Cert.BranchAttDxReferenceIdeal.τ) (Cert.BranchAttDxReferenceIdeal.main (F := Ideal))) ⟨m, fun _ => 0, g⟩ (fun r => (∀ c : Dev Cert.BranchAttDxReferenceIdeal.nD,
      r.2.mem ((c.tc : Thread Cert.BranchAttDxReferenceIdeal.nD Cert.BranchAttDxReferenceIdeal.τ).loc Cert.BranchAttDxReferenceIdeal.main_arg0) = m ((c.tc : Thread Cert.BranchAttDxReferenceIdeal.nD Cert.BranchAttDxReferenceIdeal.τ).loc Cert.BranchAttDxReferenceIdeal.main_arg0)
      ∧ r.2.mem ((c.tc : Thread Cert.BranchAttDxReferenceIdeal.nD Cert.BranchAttDxReferenceIdeal.τ).loc Cert.BranchAttDxReferenceIdeal.main_arg1) = m ((c.tc : Thread Cert.BranchAttDxReferenceIdeal.nD Cert.BranchAttDxReferenceIdeal.τ).loc Cert.BranchAttDxReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1))
      ∧ r.2.sem = fun _ => 0)

def quiescent_ZProjQkv [hZProjQkv : Cert.ZProjQkv.Facts] : Prop :=
  ∀ (m : (ℓ : Loc Cert.ZProjQkv.nD Cert.ZProjQkv.τ Cert.ZProjQkv.sig) → Buf (Elt Bits) ℓ) (g : Dev Cert.ZProjQkv.nD → PrngReg), Pre_ZProjQkv m →
    θ_run (Cert.ZProjQkv.defs (F := Bits)) (onTc (τ := Cert.ZProjQkv.τ) (Cert.ZProjQkv.main (F := Bits))) ⟨m, fun _ => 0, g⟩ (fun r => (∀ c : Dev Cert.ZProjQkv.nD,
      r.2.mem ((c.tc : Thread Cert.ZProjQkv.nD Cert.ZProjQkv.τ).loc Cert.ZProjQkv.main_arg0) = m ((c.tc : Thread Cert.ZProjQkv.nD Cert.ZProjQkv.τ).loc Cert.ZProjQkv.main_arg0)
      ∧ r.2.mem ((c.tc : Thread Cert.ZProjQkv.nD Cert.ZProjQkv.τ).loc Cert.ZProjQkv.main_arg1) = m ((c.tc : Thread Cert.ZProjQkv.nD Cert.ZProjQkv.τ).loc Cert.ZProjQkv.main_arg1))
      ∧ r.2.sem = fun _ => 0)

def quiescent_ZProjQkvIdeal [hZProjQkvIdeal : Cert.ZProjQkvIdeal.Facts] : Prop :=
  ∀ (m : (ℓ : Loc Cert.ZProjQkvIdeal.nD Cert.ZProjQkvIdeal.τ Cert.ZProjQkvIdeal.sig) → Buf (Elt Ideal) ℓ) (g : Dev Cert.ZProjQkvIdeal.nD → PrngReg), Pre_ZProjQkvIdeal m →
    θ_run (Cert.ZProjQkvIdeal.defs (F := Ideal)) (onTc (τ := Cert.ZProjQkvIdeal.τ) (Cert.ZProjQkvIdeal.main (F := Ideal))) ⟨m, fun _ => 0, g⟩ (fun r => (∀ c : Dev Cert.ZProjQkvIdeal.nD,
      r.2.mem ((c.tc : Thread Cert.ZProjQkvIdeal.nD Cert.ZProjQkvIdeal.τ).loc Cert.ZProjQkvIdeal.main_arg0) = m ((c.tc : Thread Cert.ZProjQkvIdeal.nD Cert.ZProjQkvIdeal.τ).loc Cert.ZProjQkvIdeal.main_arg0)
      ∧ r.2.mem ((c.tc : Thread Cert.ZProjQkvIdeal.nD Cert.ZProjQkvIdeal.τ).loc Cert.ZProjQkvIdeal.main_arg1) = m ((c.tc : Thread Cert.ZProjQkvIdeal.nD Cert.ZProjQkvIdeal.τ).loc Cert.ZProjQkvIdeal.main_arg1))
      ∧ r.2.sem = fun _ => 0)

def quiescent_ZProjQkvReferenceIdeal [hZProjQkvReferenceIdeal : Cert.ZProjQkvReferenceIdeal.Facts] : Prop :=
  ∀ (m : (ℓ : Loc Cert.ZProjQkvReferenceIdeal.nD Cert.ZProjQkvReferenceIdeal.τ Cert.ZProjQkvReferenceIdeal.sig) → Buf (Elt Ideal) ℓ) (g : Dev Cert.ZProjQkvReferenceIdeal.nD → PrngReg), Pre_ZProjQkvReferenceIdeal m →
    θ_run (Cert.ZProjQkvReferenceIdeal.defs (F := Ideal)) (onTc (τ := Cert.ZProjQkvReferenceIdeal.τ) (Cert.ZProjQkvReferenceIdeal.main (F := Ideal))) ⟨m, fun _ => 0, g⟩ (fun r => (∀ c : Dev Cert.ZProjQkvReferenceIdeal.nD,
      r.2.mem ((c.tc : Thread Cert.ZProjQkvReferenceIdeal.nD Cert.ZProjQkvReferenceIdeal.τ).loc Cert.ZProjQkvReferenceIdeal.main_arg0) = m ((c.tc : Thread Cert.ZProjQkvReferenceIdeal.nD Cert.ZProjQkvReferenceIdeal.τ).loc Cert.ZProjQkvReferenceIdeal.main_arg0)
      ∧ r.2.mem ((c.tc : Thread Cert.ZProjQkvReferenceIdeal.nD Cert.ZProjQkvReferenceIdeal.τ).loc Cert.ZProjQkvReferenceIdeal.main_arg1) = m ((c.tc : Thread Cert.ZProjQkvReferenceIdeal.nD Cert.ZProjQkvReferenceIdeal.τ).loc Cert.ZProjQkvReferenceIdeal.main_arg1))
      ∧ r.2.sem = fun _ => 0)

def quiescent_ZProjRest [hZProjRest : Cert.ZProjRest.Facts] : Prop :=
  ∀ (m : (ℓ : Loc Cert.ZProjRest.nD Cert.ZProjRest.τ Cert.ZProjRest.sig) → Buf (Elt Bits) ℓ) (g : Dev Cert.ZProjRest.nD → PrngReg), Pre_ZProjRest m →
    θ_run (Cert.ZProjRest.defs (F := Bits)) (onTc (τ := Cert.ZProjRest.τ) (Cert.ZProjRest.main (F := Bits))) ⟨m, fun _ => 0, g⟩ (fun r => (∀ c : Dev Cert.ZProjRest.nD,
      r.2.mem ((c.tc : Thread Cert.ZProjRest.nD Cert.ZProjRest.τ).loc Cert.ZProjRest.main_arg0) = m ((c.tc : Thread Cert.ZProjRest.nD Cert.ZProjRest.τ).loc Cert.ZProjRest.main_arg0)
      ∧ r.2.mem ((c.tc : Thread Cert.ZProjRest.nD Cert.ZProjRest.τ).loc Cert.ZProjRest.main_arg1) = m ((c.tc : Thread Cert.ZProjRest.nD Cert.ZProjRest.τ).loc Cert.ZProjRest.main_arg1))
      ∧ r.2.sem = fun _ => 0)

def quiescent_ZProjRestIdeal [hZProjRestIdeal : Cert.ZProjRestIdeal.Facts] : Prop :=
  ∀ (m : (ℓ : Loc Cert.ZProjRestIdeal.nD Cert.ZProjRestIdeal.τ Cert.ZProjRestIdeal.sig) → Buf (Elt Ideal) ℓ) (g : Dev Cert.ZProjRestIdeal.nD → PrngReg), Pre_ZProjRestIdeal m →
    θ_run (Cert.ZProjRestIdeal.defs (F := Ideal)) (onTc (τ := Cert.ZProjRestIdeal.τ) (Cert.ZProjRestIdeal.main (F := Ideal))) ⟨m, fun _ => 0, g⟩ (fun r => (∀ c : Dev Cert.ZProjRestIdeal.nD,
      r.2.mem ((c.tc : Thread Cert.ZProjRestIdeal.nD Cert.ZProjRestIdeal.τ).loc Cert.ZProjRestIdeal.main_arg0) = m ((c.tc : Thread Cert.ZProjRestIdeal.nD Cert.ZProjRestIdeal.τ).loc Cert.ZProjRestIdeal.main_arg0)
      ∧ r.2.mem ((c.tc : Thread Cert.ZProjRestIdeal.nD Cert.ZProjRestIdeal.τ).loc Cert.ZProjRestIdeal.main_arg1) = m ((c.tc : Thread Cert.ZProjRestIdeal.nD Cert.ZProjRestIdeal.τ).loc Cert.ZProjRestIdeal.main_arg1))
      ∧ r.2.sem = fun _ => 0)

def quiescent_ZProjRestReferenceIdeal [hZProjRestReferenceIdeal : Cert.ZProjRestReferenceIdeal.Facts] : Prop :=
  ∀ (m : (ℓ : Loc Cert.ZProjRestReferenceIdeal.nD Cert.ZProjRestReferenceIdeal.τ Cert.ZProjRestReferenceIdeal.sig) → Buf (Elt Ideal) ℓ) (g : Dev Cert.ZProjRestReferenceIdeal.nD → PrngReg), Pre_ZProjRestReferenceIdeal m →
    θ_run (Cert.ZProjRestReferenceIdeal.defs (F := Ideal)) (onTc (τ := Cert.ZProjRestReferenceIdeal.τ) (Cert.ZProjRestReferenceIdeal.main (F := Ideal))) ⟨m, fun _ => 0, g⟩ (fun r => (∀ c : Dev Cert.ZProjRestReferenceIdeal.nD,
      r.2.mem ((c.tc : Thread Cert.ZProjRestReferenceIdeal.nD Cert.ZProjRestReferenceIdeal.τ).loc Cert.ZProjRestReferenceIdeal.main_arg0) = m ((c.tc : Thread Cert.ZProjRestReferenceIdeal.nD Cert.ZProjRestReferenceIdeal.τ).loc Cert.ZProjRestReferenceIdeal.main_arg0)
      ∧ r.2.mem ((c.tc : Thread Cert.ZProjRestReferenceIdeal.nD Cert.ZProjRestReferenceIdeal.τ).loc Cert.ZProjRestReferenceIdeal.main_arg1) = m ((c.tc : Thread Cert.ZProjRestReferenceIdeal.nD Cert.ZProjRestReferenceIdeal.τ).loc Cert.ZProjRestReferenceIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1))
      ∧ r.2.sem = fun _ => 0)

def quiescent_BranchAttDw [hBranchAttDw : Cert.BranchAttDw.Facts] : Prop :=
  ∀ (m : (ℓ : Loc Cert.BranchAttDw.nD Cert.BranchAttDw.τ Cert.BranchAttDw.sig) → Buf (Elt Bits) ℓ) (g : Dev Cert.BranchAttDw.nD → PrngReg), Pre_BranchAttDw m →
    θ_run (Cert.BranchAttDw.defs (F := Bits)) (onTc (τ := Cert.BranchAttDw.τ) (Cert.BranchAttDw.main (F := Bits))) ⟨m, fun _ => 0, g⟩ (fun r => (∀ c : Dev Cert.BranchAttDw.nD,
      r.2.mem ((c.tc : Thread Cert.BranchAttDw.nD Cert.BranchAttDw.τ).loc Cert.BranchAttDw.main_arg0) = m ((c.tc : Thread Cert.BranchAttDw.nD Cert.BranchAttDw.τ).loc Cert.BranchAttDw.main_arg0)
      ∧ r.2.mem ((c.tc : Thread Cert.BranchAttDw.nD Cert.BranchAttDw.τ).loc Cert.BranchAttDw.main_arg1) = m ((c.tc : Thread Cert.BranchAttDw.nD Cert.BranchAttDw.τ).loc Cert.BranchAttDw.main_arg1))
      ∧ r.2.sem = fun _ => 0)

def quiescent_BranchAttDwIdeal [hBranchAttDwIdeal : Cert.BranchAttDwIdeal.Facts] : Prop :=
  ∀ (m : (ℓ : Loc Cert.BranchAttDwIdeal.nD Cert.BranchAttDwIdeal.τ Cert.BranchAttDwIdeal.sig) → Buf (Elt Ideal) ℓ) (g : Dev Cert.BranchAttDwIdeal.nD → PrngReg), Pre_BranchAttDwIdeal m →
    θ_run (Cert.BranchAttDwIdeal.defs (F := Ideal)) (onTc (τ := Cert.BranchAttDwIdeal.τ) (Cert.BranchAttDwIdeal.main (F := Ideal))) ⟨m, fun _ => 0, g⟩ (fun r => (∀ c : Dev Cert.BranchAttDwIdeal.nD,
      r.2.mem ((c.tc : Thread Cert.BranchAttDwIdeal.nD Cert.BranchAttDwIdeal.τ).loc Cert.BranchAttDwIdeal.main_arg0) = m ((c.tc : Thread Cert.BranchAttDwIdeal.nD Cert.BranchAttDwIdeal.τ).loc Cert.BranchAttDwIdeal.main_arg0)
      ∧ r.2.mem ((c.tc : Thread Cert.BranchAttDwIdeal.nD Cert.BranchAttDwIdeal.τ).loc Cert.BranchAttDwIdeal.main_arg1) = m ((c.tc : Thread Cert.BranchAttDwIdeal.nD Cert.BranchAttDwIdeal.τ).loc Cert.BranchAttDwIdeal.main_arg1))
      ∧ r.2.sem = fun _ => 0)

def quiescent_BranchAttDwReferenceIdeal [hBranchAttDwReferenceIdeal : Cert.BranchAttDwReferenceIdeal.Facts] : Prop :=
  ∀ (m : (ℓ : Loc Cert.BranchAttDwReferenceIdeal.nD Cert.BranchAttDwReferenceIdeal.τ Cert.BranchAttDwReferenceIdeal.sig) → Buf (Elt Ideal) ℓ) (g : Dev Cert.BranchAttDwReferenceIdeal.nD → PrngReg), Pre_BranchAttDwReferenceIdeal m →
    θ_run (Cert.BranchAttDwReferenceIdeal.defs (F := Ideal)) (onTc (τ := Cert.BranchAttDwReferenceIdeal.τ) (Cert.BranchAttDwReferenceIdeal.main (F := Ideal))) ⟨m, fun _ => 0, g⟩ (fun r => (∀ c : Dev Cert.BranchAttDwReferenceIdeal.nD,
      r.2.mem ((c.tc : Thread Cert.BranchAttDwReferenceIdeal.nD Cert.BranchAttDwReferenceIdeal.τ).loc Cert.BranchAttDwReferenceIdeal.main_arg0) = m ((c.tc : Thread Cert.BranchAttDwReferenceIdeal.nD Cert.BranchAttDwReferenceIdeal.τ).loc Cert.BranchAttDwReferenceIdeal.main_arg0)
      ∧ r.2.mem ((c.tc : Thread Cert.BranchAttDwReferenceIdeal.nD Cert.BranchAttDwReferenceIdeal.τ).loc Cert.BranchAttDwReferenceIdeal.main_arg1) = m ((c.tc : Thread Cert.BranchAttDwReferenceIdeal.nD Cert.BranchAttDwReferenceIdeal.τ).loc Cert.BranchAttDwReferenceIdeal.main_arg1))
      ∧ r.2.sem = fun _ => 0)

def quiescent_BranchRnnDw [hBranchRnnDw : Cert.BranchRnnDw.Facts] : Prop :=
  ∀ (m : (ℓ : Loc Cert.BranchRnnDw.nD Cert.BranchRnnDw.τ Cert.BranchRnnDw.sig) → Buf (Elt Bits) ℓ) (g : Dev Cert.BranchRnnDw.nD → PrngReg), Pre_BranchRnnDw m →
    θ_run (Cert.BranchRnnDw.defs (F := Bits)) (onTc (τ := Cert.BranchRnnDw.τ) (Cert.BranchRnnDw.main (F := Bits))) ⟨m, fun _ => 0, g⟩ (fun r => (∀ c : Dev Cert.BranchRnnDw.nD,
      r.2.mem ((c.tc : Thread Cert.BranchRnnDw.nD Cert.BranchRnnDw.τ).loc Cert.BranchRnnDw.main_arg0) = m ((c.tc : Thread Cert.BranchRnnDw.nD Cert.BranchRnnDw.τ).loc Cert.BranchRnnDw.main_arg0)
      ∧ r.2.mem ((c.tc : Thread Cert.BranchRnnDw.nD Cert.BranchRnnDw.τ).loc Cert.BranchRnnDw.main_arg1) = m ((c.tc : Thread Cert.BranchRnnDw.nD Cert.BranchRnnDw.τ).loc Cert.BranchRnnDw.main_arg1))
      ∧ r.2.sem = fun _ => 0)

def quiescent_BranchRnnDwIdeal [hBranchRnnDwIdeal : Cert.BranchRnnDwIdeal.Facts] : Prop :=
  ∀ (m : (ℓ : Loc Cert.BranchRnnDwIdeal.nD Cert.BranchRnnDwIdeal.τ Cert.BranchRnnDwIdeal.sig) → Buf (Elt Ideal) ℓ) (g : Dev Cert.BranchRnnDwIdeal.nD → PrngReg), Pre_BranchRnnDwIdeal m →
    θ_run (Cert.BranchRnnDwIdeal.defs (F := Ideal)) (onTc (τ := Cert.BranchRnnDwIdeal.τ) (Cert.BranchRnnDwIdeal.main (F := Ideal))) ⟨m, fun _ => 0, g⟩ (fun r => (∀ c : Dev Cert.BranchRnnDwIdeal.nD,
      r.2.mem ((c.tc : Thread Cert.BranchRnnDwIdeal.nD Cert.BranchRnnDwIdeal.τ).loc Cert.BranchRnnDwIdeal.main_arg0) = m ((c.tc : Thread Cert.BranchRnnDwIdeal.nD Cert.BranchRnnDwIdeal.τ).loc Cert.BranchRnnDwIdeal.main_arg0)
      ∧ r.2.mem ((c.tc : Thread Cert.BranchRnnDwIdeal.nD Cert.BranchRnnDwIdeal.τ).loc Cert.BranchRnnDwIdeal.main_arg1) = m ((c.tc : Thread Cert.BranchRnnDwIdeal.nD Cert.BranchRnnDwIdeal.τ).loc Cert.BranchRnnDwIdeal.main_arg1))
      ∧ r.2.sem = fun _ => 0)

def quiescent_BranchRnnDwReferenceIdeal [hBranchRnnDwReferenceIdeal : Cert.BranchRnnDwReferenceIdeal.Facts] : Prop :=
  ∀ (m : (ℓ : Loc Cert.BranchRnnDwReferenceIdeal.nD Cert.BranchRnnDwReferenceIdeal.τ Cert.BranchRnnDwReferenceIdeal.sig) → Buf (Elt Ideal) ℓ) (g : Dev Cert.BranchRnnDwReferenceIdeal.nD → PrngReg), Pre_BranchRnnDwReferenceIdeal m →
    θ_run (Cert.BranchRnnDwReferenceIdeal.defs (F := Ideal)) (onTc (τ := Cert.BranchRnnDwReferenceIdeal.τ) (Cert.BranchRnnDwReferenceIdeal.main (F := Ideal))) ⟨m, fun _ => 0, g⟩ (fun r => (∀ c : Dev Cert.BranchRnnDwReferenceIdeal.nD,
      r.2.mem ((c.tc : Thread Cert.BranchRnnDwReferenceIdeal.nD Cert.BranchRnnDwReferenceIdeal.τ).loc Cert.BranchRnnDwReferenceIdeal.main_arg0) = m ((c.tc : Thread Cert.BranchRnnDwReferenceIdeal.nD Cert.BranchRnnDwReferenceIdeal.τ).loc Cert.BranchRnnDwReferenceIdeal.main_arg0)
      ∧ r.2.mem ((c.tc : Thread Cert.BranchRnnDwReferenceIdeal.nD Cert.BranchRnnDwReferenceIdeal.τ).loc Cert.BranchRnnDwReferenceIdeal.main_arg1) = m ((c.tc : Thread Cert.BranchRnnDwReferenceIdeal.nD Cert.BranchRnnDwReferenceIdeal.τ).loc Cert.BranchRnnDwReferenceIdeal.main_arg1))
      ∧ r.2.sem = fun _ => 0)

def quiescent_PleGateDw [hPleGateDw : Cert.PleGateDw.Facts] : Prop :=
  ∀ (m : (ℓ : Loc Cert.PleGateDw.nD Cert.PleGateDw.τ Cert.PleGateDw.sig) → Buf (Elt Bits) ℓ) (g : Dev Cert.PleGateDw.nD → PrngReg), Pre_PleGateDw m →
    θ_run (Cert.PleGateDw.defs (F := Bits)) (onTc (τ := Cert.PleGateDw.τ) (Cert.PleGateDw.main (F := Bits))) ⟨m, fun _ => 0, g⟩ (fun r => (∀ c : Dev Cert.PleGateDw.nD,
      r.2.mem ((c.tc : Thread Cert.PleGateDw.nD Cert.PleGateDw.τ).loc Cert.PleGateDw.main_arg0) = m ((c.tc : Thread Cert.PleGateDw.nD Cert.PleGateDw.τ).loc Cert.PleGateDw.main_arg0)
      ∧ r.2.mem ((c.tc : Thread Cert.PleGateDw.nD Cert.PleGateDw.τ).loc Cert.PleGateDw.main_arg1) = m ((c.tc : Thread Cert.PleGateDw.nD Cert.PleGateDw.τ).loc Cert.PleGateDw.main_arg1))
      ∧ r.2.sem = fun _ => 0)

def quiescent_PleGateDwIdeal [hPleGateDwIdeal : Cert.PleGateDwIdeal.Facts] : Prop :=
  ∀ (m : (ℓ : Loc Cert.PleGateDwIdeal.nD Cert.PleGateDwIdeal.τ Cert.PleGateDwIdeal.sig) → Buf (Elt Ideal) ℓ) (g : Dev Cert.PleGateDwIdeal.nD → PrngReg), Pre_PleGateDwIdeal m →
    θ_run (Cert.PleGateDwIdeal.defs (F := Ideal)) (onTc (τ := Cert.PleGateDwIdeal.τ) (Cert.PleGateDwIdeal.main (F := Ideal))) ⟨m, fun _ => 0, g⟩ (fun r => (∀ c : Dev Cert.PleGateDwIdeal.nD,
      r.2.mem ((c.tc : Thread Cert.PleGateDwIdeal.nD Cert.PleGateDwIdeal.τ).loc Cert.PleGateDwIdeal.main_arg0) = m ((c.tc : Thread Cert.PleGateDwIdeal.nD Cert.PleGateDwIdeal.τ).loc Cert.PleGateDwIdeal.main_arg0)
      ∧ r.2.mem ((c.tc : Thread Cert.PleGateDwIdeal.nD Cert.PleGateDwIdeal.τ).loc Cert.PleGateDwIdeal.main_arg1) = m ((c.tc : Thread Cert.PleGateDwIdeal.nD Cert.PleGateDwIdeal.τ).loc Cert.PleGateDwIdeal.main_arg1))
      ∧ r.2.sem = fun _ => 0)

def quiescent_PleGateDwReferenceIdeal [hPleGateDwReferenceIdeal : Cert.PleGateDwReferenceIdeal.Facts] : Prop :=
  ∀ (m : (ℓ : Loc Cert.PleGateDwReferenceIdeal.nD Cert.PleGateDwReferenceIdeal.τ Cert.PleGateDwReferenceIdeal.sig) → Buf (Elt Ideal) ℓ) (g : Dev Cert.PleGateDwReferenceIdeal.nD → PrngReg), Pre_PleGateDwReferenceIdeal m →
    θ_run (Cert.PleGateDwReferenceIdeal.defs (F := Ideal)) (onTc (τ := Cert.PleGateDwReferenceIdeal.τ) (Cert.PleGateDwReferenceIdeal.main (F := Ideal))) ⟨m, fun _ => 0, g⟩ (fun r => (∀ c : Dev Cert.PleGateDwReferenceIdeal.nD,
      r.2.mem ((c.tc : Thread Cert.PleGateDwReferenceIdeal.nD Cert.PleGateDwReferenceIdeal.τ).loc Cert.PleGateDwReferenceIdeal.main_arg0) = m ((c.tc : Thread Cert.PleGateDwReferenceIdeal.nD Cert.PleGateDwReferenceIdeal.τ).loc Cert.PleGateDwReferenceIdeal.main_arg0)
      ∧ r.2.mem ((c.tc : Thread Cert.PleGateDwReferenceIdeal.nD Cert.PleGateDwReferenceIdeal.τ).loc Cert.PleGateDwReferenceIdeal.main_arg1) = m ((c.tc : Thread Cert.PleGateDwReferenceIdeal.nD Cert.PleGateDwReferenceIdeal.τ).loc Cert.PleGateDwReferenceIdeal.main_arg1))
      ∧ r.2.sem = fun _ => 0)

def quiescent_BranchRnnDx [hBranchRnnDx : Cert.BranchRnnDx.Facts] : Prop :=
  ∀ (m : (ℓ : Loc Cert.BranchRnnDx.nD Cert.BranchRnnDx.τ Cert.BranchRnnDx.sig) → Buf (Elt Bits) ℓ) (g : Dev Cert.BranchRnnDx.nD → PrngReg), Pre_BranchRnnDx m →
    θ_run (Cert.BranchRnnDx.defs (F := Bits)) (onTc (τ := Cert.BranchRnnDx.τ) (Cert.BranchRnnDx.main (F := Bits))) ⟨m, fun _ => 0, g⟩ (fun r => (∀ c : Dev Cert.BranchRnnDx.nD,
      r.2.mem ((c.tc : Thread Cert.BranchRnnDx.nD Cert.BranchRnnDx.τ).loc Cert.BranchRnnDx.main_arg0) = m ((c.tc : Thread Cert.BranchRnnDx.nD Cert.BranchRnnDx.τ).loc Cert.BranchRnnDx.main_arg0)
      ∧ r.2.mem ((c.tc : Thread Cert.BranchRnnDx.nD Cert.BranchRnnDx.τ).loc Cert.BranchRnnDx.main_arg1) = m ((c.tc : Thread Cert.BranchRnnDx.nD Cert.BranchRnnDx.τ).loc Cert.BranchRnnDx.main_arg1))
      ∧ r.2.sem = fun _ => 0)

def quiescent_BranchRnnDxIdeal [hBranchRnnDxIdeal : Cert.BranchRnnDxIdeal.Facts] : Prop :=
  ∀ (m : (ℓ : Loc Cert.BranchRnnDxIdeal.nD Cert.BranchRnnDxIdeal.τ Cert.BranchRnnDxIdeal.sig) → Buf (Elt Ideal) ℓ) (g : Dev Cert.BranchRnnDxIdeal.nD → PrngReg), Pre_BranchRnnDxIdeal m →
    θ_run (Cert.BranchRnnDxIdeal.defs (F := Ideal)) (onTc (τ := Cert.BranchRnnDxIdeal.τ) (Cert.BranchRnnDxIdeal.main (F := Ideal))) ⟨m, fun _ => 0, g⟩ (fun r => (∀ c : Dev Cert.BranchRnnDxIdeal.nD,
      r.2.mem ((c.tc : Thread Cert.BranchRnnDxIdeal.nD Cert.BranchRnnDxIdeal.τ).loc Cert.BranchRnnDxIdeal.main_arg0) = m ((c.tc : Thread Cert.BranchRnnDxIdeal.nD Cert.BranchRnnDxIdeal.τ).loc Cert.BranchRnnDxIdeal.main_arg0)
      ∧ r.2.mem ((c.tc : Thread Cert.BranchRnnDxIdeal.nD Cert.BranchRnnDxIdeal.τ).loc Cert.BranchRnnDxIdeal.main_arg1) = m ((c.tc : Thread Cert.BranchRnnDxIdeal.nD Cert.BranchRnnDxIdeal.τ).loc Cert.BranchRnnDxIdeal.main_arg1))
      ∧ r.2.sem = fun _ => 0)

def quiescent_BranchRnnDxReferenceIdeal [hBranchRnnDxReferenceIdeal : Cert.BranchRnnDxReferenceIdeal.Facts] : Prop :=
  ∀ (m : (ℓ : Loc Cert.BranchRnnDxReferenceIdeal.nD Cert.BranchRnnDxReferenceIdeal.τ Cert.BranchRnnDxReferenceIdeal.sig) → Buf (Elt Ideal) ℓ) (g : Dev Cert.BranchRnnDxReferenceIdeal.nD → PrngReg), Pre_BranchRnnDxReferenceIdeal m →
    θ_run (Cert.BranchRnnDxReferenceIdeal.defs (F := Ideal)) (onTc (τ := Cert.BranchRnnDxReferenceIdeal.τ) (Cert.BranchRnnDxReferenceIdeal.main (F := Ideal))) ⟨m, fun _ => 0, g⟩ (fun r => (∀ c : Dev Cert.BranchRnnDxReferenceIdeal.nD,
      r.2.mem ((c.tc : Thread Cert.BranchRnnDxReferenceIdeal.nD Cert.BranchRnnDxReferenceIdeal.τ).loc Cert.BranchRnnDxReferenceIdeal.main_arg0) = m ((c.tc : Thread Cert.BranchRnnDxReferenceIdeal.nD Cert.BranchRnnDxReferenceIdeal.τ).loc Cert.BranchRnnDxReferenceIdeal.main_arg0)
      ∧ r.2.mem ((c.tc : Thread Cert.BranchRnnDxReferenceIdeal.nD Cert.BranchRnnDxReferenceIdeal.τ).loc Cert.BranchRnnDxReferenceIdeal.main_arg1) = m ((c.tc : Thread Cert.BranchRnnDxReferenceIdeal.nD Cert.BranchRnnDxReferenceIdeal.τ).loc Cert.BranchRnnDxReferenceIdeal.main_arg1))
      ∧ r.2.sem = fun _ => 0)

def quiescent_PleGateDx [hPleGateDx : Cert.PleGateDx.Facts] : Prop :=
  ∀ (m : (ℓ : Loc Cert.PleGateDx.nD Cert.PleGateDx.τ Cert.PleGateDx.sig) → Buf (Elt Bits) ℓ) (g : Dev Cert.PleGateDx.nD → PrngReg), Pre_PleGateDx m →
    θ_run (Cert.PleGateDx.defs (F := Bits)) (onTc (τ := Cert.PleGateDx.τ) (Cert.PleGateDx.main (F := Bits))) ⟨m, fun _ => 0, g⟩ (fun r => (∀ c : Dev Cert.PleGateDx.nD,
      r.2.mem ((c.tc : Thread Cert.PleGateDx.nD Cert.PleGateDx.τ).loc Cert.PleGateDx.main_arg0) = m ((c.tc : Thread Cert.PleGateDx.nD Cert.PleGateDx.τ).loc Cert.PleGateDx.main_arg0)
      ∧ r.2.mem ((c.tc : Thread Cert.PleGateDx.nD Cert.PleGateDx.τ).loc Cert.PleGateDx.main_arg1) = m ((c.tc : Thread Cert.PleGateDx.nD Cert.PleGateDx.τ).loc Cert.PleGateDx.main_arg1))
      ∧ r.2.sem = fun _ => 0)

def quiescent_PleGateDxIdeal [hPleGateDxIdeal : Cert.PleGateDxIdeal.Facts] : Prop :=
  ∀ (m : (ℓ : Loc Cert.PleGateDxIdeal.nD Cert.PleGateDxIdeal.τ Cert.PleGateDxIdeal.sig) → Buf (Elt Ideal) ℓ) (g : Dev Cert.PleGateDxIdeal.nD → PrngReg), Pre_PleGateDxIdeal m →
    θ_run (Cert.PleGateDxIdeal.defs (F := Ideal)) (onTc (τ := Cert.PleGateDxIdeal.τ) (Cert.PleGateDxIdeal.main (F := Ideal))) ⟨m, fun _ => 0, g⟩ (fun r => (∀ c : Dev Cert.PleGateDxIdeal.nD,
      r.2.mem ((c.tc : Thread Cert.PleGateDxIdeal.nD Cert.PleGateDxIdeal.τ).loc Cert.PleGateDxIdeal.main_arg0) = m ((c.tc : Thread Cert.PleGateDxIdeal.nD Cert.PleGateDxIdeal.τ).loc Cert.PleGateDxIdeal.main_arg0)
      ∧ r.2.mem ((c.tc : Thread Cert.PleGateDxIdeal.nD Cert.PleGateDxIdeal.τ).loc Cert.PleGateDxIdeal.main_arg1) = m ((c.tc : Thread Cert.PleGateDxIdeal.nD Cert.PleGateDxIdeal.τ).loc Cert.PleGateDxIdeal.main_arg1))
      ∧ r.2.sem = fun _ => 0)

def quiescent_PleGateDxReferenceIdeal [hPleGateDxReferenceIdeal : Cert.PleGateDxReferenceIdeal.Facts] : Prop :=
  ∀ (m : (ℓ : Loc Cert.PleGateDxReferenceIdeal.nD Cert.PleGateDxReferenceIdeal.τ Cert.PleGateDxReferenceIdeal.sig) → Buf (Elt Ideal) ℓ) (g : Dev Cert.PleGateDxReferenceIdeal.nD → PrngReg), Pre_PleGateDxReferenceIdeal m →
    θ_run (Cert.PleGateDxReferenceIdeal.defs (F := Ideal)) (onTc (τ := Cert.PleGateDxReferenceIdeal.τ) (Cert.PleGateDxReferenceIdeal.main (F := Ideal))) ⟨m, fun _ => 0, g⟩ (fun r => (∀ c : Dev Cert.PleGateDxReferenceIdeal.nD,
      r.2.mem ((c.tc : Thread Cert.PleGateDxReferenceIdeal.nD Cert.PleGateDxReferenceIdeal.τ).loc Cert.PleGateDxReferenceIdeal.main_arg0) = m ((c.tc : Thread Cert.PleGateDxReferenceIdeal.nD Cert.PleGateDxReferenceIdeal.τ).loc Cert.PleGateDxReferenceIdeal.main_arg0)
      ∧ r.2.mem ((c.tc : Thread Cert.PleGateDxReferenceIdeal.nD Cert.PleGateDxReferenceIdeal.τ).loc Cert.PleGateDxReferenceIdeal.main_arg1) = m ((c.tc : Thread Cert.PleGateDxReferenceIdeal.nD Cert.PleGateDxReferenceIdeal.τ).loc Cert.PleGateDxReferenceIdeal.main_arg1))
      ∧ r.2.sem = fun _ => 0)

def quiescent_BranchAtt [hBranchAtt : Cert.BranchAtt.Facts] : Prop :=
  ∀ (m : (ℓ : Loc Cert.BranchAtt.nD Cert.BranchAtt.τ Cert.BranchAtt.sig) → Buf (Elt Bits) ℓ) (g : Dev Cert.BranchAtt.nD → PrngReg), Pre_BranchAtt m →
    θ_run (Cert.BranchAtt.defs (F := Bits)) (onTc (τ := Cert.BranchAtt.τ) (Cert.BranchAtt.main (F := Bits))) ⟨m, fun _ => 0, g⟩ (fun r => (∀ c : Dev Cert.BranchAtt.nD,
      r.2.mem ((c.tc : Thread Cert.BranchAtt.nD Cert.BranchAtt.τ).loc Cert.BranchAtt.main_arg0) = m ((c.tc : Thread Cert.BranchAtt.nD Cert.BranchAtt.τ).loc Cert.BranchAtt.main_arg0)
      ∧ r.2.mem ((c.tc : Thread Cert.BranchAtt.nD Cert.BranchAtt.τ).loc Cert.BranchAtt.main_arg1) = m ((c.tc : Thread Cert.BranchAtt.nD Cert.BranchAtt.τ).loc Cert.BranchAtt.main_arg1))
      ∧ r.2.sem = fun _ => 0)

def quiescent_BranchAttIdeal [hBranchAttIdeal : Cert.BranchAttIdeal.Facts] : Prop :=
  ∀ (m : (ℓ : Loc Cert.BranchAttIdeal.nD Cert.BranchAttIdeal.τ Cert.BranchAttIdeal.sig) → Buf (Elt Ideal) ℓ) (g : Dev Cert.BranchAttIdeal.nD → PrngReg), Pre_BranchAttIdeal m →
    θ_run (Cert.BranchAttIdeal.defs (F := Ideal)) (onTc (τ := Cert.BranchAttIdeal.τ) (Cert.BranchAttIdeal.main (F := Ideal))) ⟨m, fun _ => 0, g⟩ (fun r => (∀ c : Dev Cert.BranchAttIdeal.nD,
      r.2.mem ((c.tc : Thread Cert.BranchAttIdeal.nD Cert.BranchAttIdeal.τ).loc Cert.BranchAttIdeal.main_arg0) = m ((c.tc : Thread Cert.BranchAttIdeal.nD Cert.BranchAttIdeal.τ).loc Cert.BranchAttIdeal.main_arg0)
      ∧ r.2.mem ((c.tc : Thread Cert.BranchAttIdeal.nD Cert.BranchAttIdeal.τ).loc Cert.BranchAttIdeal.main_arg1) = m ((c.tc : Thread Cert.BranchAttIdeal.nD Cert.BranchAttIdeal.τ).loc Cert.BranchAttIdeal.main_arg1))
      ∧ r.2.sem = fun _ => 0)

def quiescent_BranchAttReferenceIdeal [hBranchAttReferenceIdeal : Cert.BranchAttReferenceIdeal.Facts] : Prop :=
  ∀ (m : (ℓ : Loc Cert.BranchAttReferenceIdeal.nD Cert.BranchAttReferenceIdeal.τ Cert.BranchAttReferenceIdeal.sig) → Buf (Elt Ideal) ℓ) (g : Dev Cert.BranchAttReferenceIdeal.nD → PrngReg), Pre_BranchAttReferenceIdeal m →
    θ_run (Cert.BranchAttReferenceIdeal.defs (F := Ideal)) (onTc (τ := Cert.BranchAttReferenceIdeal.τ) (Cert.BranchAttReferenceIdeal.main (F := Ideal))) ⟨m, fun _ => 0, g⟩ (fun r => (∀ c : Dev Cert.BranchAttReferenceIdeal.nD,
      r.2.mem ((c.tc : Thread Cert.BranchAttReferenceIdeal.nD Cert.BranchAttReferenceIdeal.τ).loc Cert.BranchAttReferenceIdeal.main_arg0) = m ((c.tc : Thread Cert.BranchAttReferenceIdeal.nD Cert.BranchAttReferenceIdeal.τ).loc Cert.BranchAttReferenceIdeal.main_arg0)
      ∧ r.2.mem ((c.tc : Thread Cert.BranchAttReferenceIdeal.nD Cert.BranchAttReferenceIdeal.τ).loc Cert.BranchAttReferenceIdeal.main_arg1) = m ((c.tc : Thread Cert.BranchAttReferenceIdeal.nD Cert.BranchAttReferenceIdeal.τ).loc Cert.BranchAttReferenceIdeal.main_arg1))
      ∧ r.2.sem = fun _ => 0)

def quiescent_BranchRnn [hBranchRnn : Cert.BranchRnn.Facts] : Prop :=
  ∀ (m : (ℓ : Loc Cert.BranchRnn.nD Cert.BranchRnn.τ Cert.BranchRnn.sig) → Buf (Elt Bits) ℓ) (g : Dev Cert.BranchRnn.nD → PrngReg), Pre_BranchRnn m →
    θ_run (Cert.BranchRnn.defs (F := Bits)) (onTc (τ := Cert.BranchRnn.τ) (Cert.BranchRnn.main (F := Bits))) ⟨m, fun _ => 0, g⟩ (fun r => (∀ c : Dev Cert.BranchRnn.nD,
      r.2.mem ((c.tc : Thread Cert.BranchRnn.nD Cert.BranchRnn.τ).loc Cert.BranchRnn.main_arg0) = m ((c.tc : Thread Cert.BranchRnn.nD Cert.BranchRnn.τ).loc Cert.BranchRnn.main_arg0)
      ∧ r.2.mem ((c.tc : Thread Cert.BranchRnn.nD Cert.BranchRnn.τ).loc Cert.BranchRnn.main_arg1) = m ((c.tc : Thread Cert.BranchRnn.nD Cert.BranchRnn.τ).loc Cert.BranchRnn.main_arg1))
      ∧ r.2.sem = fun _ => 0)

def quiescent_BranchRnnIdeal [hBranchRnnIdeal : Cert.BranchRnnIdeal.Facts] : Prop :=
  ∀ (m : (ℓ : Loc Cert.BranchRnnIdeal.nD Cert.BranchRnnIdeal.τ Cert.BranchRnnIdeal.sig) → Buf (Elt Ideal) ℓ) (g : Dev Cert.BranchRnnIdeal.nD → PrngReg), Pre_BranchRnnIdeal m →
    θ_run (Cert.BranchRnnIdeal.defs (F := Ideal)) (onTc (τ := Cert.BranchRnnIdeal.τ) (Cert.BranchRnnIdeal.main (F := Ideal))) ⟨m, fun _ => 0, g⟩ (fun r => (∀ c : Dev Cert.BranchRnnIdeal.nD,
      r.2.mem ((c.tc : Thread Cert.BranchRnnIdeal.nD Cert.BranchRnnIdeal.τ).loc Cert.BranchRnnIdeal.main_arg0) = m ((c.tc : Thread Cert.BranchRnnIdeal.nD Cert.BranchRnnIdeal.τ).loc Cert.BranchRnnIdeal.main_arg0)
      ∧ r.2.mem ((c.tc : Thread Cert.BranchRnnIdeal.nD Cert.BranchRnnIdeal.τ).loc Cert.BranchRnnIdeal.main_arg1) = m ((c.tc : Thread Cert.BranchRnnIdeal.nD Cert.BranchRnnIdeal.τ).loc Cert.BranchRnnIdeal.main_arg1))
      ∧ r.2.sem = fun _ => 0)

def quiescent_BranchRnnReferenceIdeal [hBranchRnnReferenceIdeal : Cert.BranchRnnReferenceIdeal.Facts] : Prop :=
  ∀ (m : (ℓ : Loc Cert.BranchRnnReferenceIdeal.nD Cert.BranchRnnReferenceIdeal.τ Cert.BranchRnnReferenceIdeal.sig) → Buf (Elt Ideal) ℓ) (g : Dev Cert.BranchRnnReferenceIdeal.nD → PrngReg), Pre_BranchRnnReferenceIdeal m →
    θ_run (Cert.BranchRnnReferenceIdeal.defs (F := Ideal)) (onTc (τ := Cert.BranchRnnReferenceIdeal.τ) (Cert.BranchRnnReferenceIdeal.main (F := Ideal))) ⟨m, fun _ => 0, g⟩ (fun r => (∀ c : Dev Cert.BranchRnnReferenceIdeal.nD,
      r.2.mem ((c.tc : Thread Cert.BranchRnnReferenceIdeal.nD Cert.BranchRnnReferenceIdeal.τ).loc Cert.BranchRnnReferenceIdeal.main_arg0) = m ((c.tc : Thread Cert.BranchRnnReferenceIdeal.nD Cert.BranchRnnReferenceIdeal.τ).loc Cert.BranchRnnReferenceIdeal.main_arg0)
      ∧ r.2.mem ((c.tc : Thread Cert.BranchRnnReferenceIdeal.nD Cert.BranchRnnReferenceIdeal.τ).loc Cert.BranchRnnReferenceIdeal.main_arg1) = m ((c.tc : Thread Cert.BranchRnnReferenceIdeal.nD Cert.BranchRnnReferenceIdeal.τ).loc Cert.BranchRnnReferenceIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateReferenceIdeal [hPleGateReferenceIdeal : Cert.PleGateReferenceIdeal.Facts] : Prop :=
  ∀ (m : (ℓ : Loc Cert.PleGateReferenceIdeal.nD Cert.PleGateReferenceIdeal.τ Cert.PleGateReferenceIdeal.sig) → Buf (Elt Ideal) ℓ) (g : Dev Cert.PleGateReferenceIdeal.nD → PrngReg), Pre_PleGateReferenceIdeal m →
    θ_run (Cert.PleGateReferenceIdeal.defs (F := Ideal)) (onTc (τ := Cert.PleGateReferenceIdeal.τ) (Cert.PleGateReferenceIdeal.main (F := Ideal))) ⟨m, fun _ => 0, g⟩ (fun r => (∀ c : Dev Cert.PleGateReferenceIdeal.nD,
      r.2.mem ((c.tc : Thread Cert.PleGateReferenceIdeal.nD Cert.PleGateReferenceIdeal.τ).loc Cert.PleGateReferenceIdeal.main_arg0) = m ((c.tc : Thread Cert.PleGateReferenceIdeal.nD Cert.PleGateReferenceIdeal.τ).loc Cert.PleGateReferenceIdeal.main_arg0)
      ∧ r.2.mem ((c.tc : Thread Cert.PleGateReferenceIdeal.nD Cert.PleGateReferenceIdeal.τ).loc Cert.PleGateReferenceIdeal.main_arg1) = m ((c.tc : Thread Cert.PleGateReferenceIdeal.nD Cert.PleGateReferenceIdeal.τ).loc Cert.PleGateReferenceIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjReferenceIdeal [hPleProjReferenceIdeal : Cert.PleProjReferenceIdeal.Facts] : Prop :=
  ∀ (m : (ℓ : Loc Cert.PleProjReferenceIdeal.nD Cert.PleProjReferenceIdeal.τ Cert.PleProjReferenceIdeal.sig) → Buf (Elt Ideal) ℓ) (g : Dev Cert.PleProjReferenceIdeal.nD → PrngReg), Pre_PleProjReferenceIdeal m →
    θ_run (Cert.PleProjReferenceIdeal.defs (F := Ideal)) (onTc (τ := Cert.PleProjReferenceIdeal.τ) (Cert.PleProjReferenceIdeal.main (F := Ideal))) ⟨m, fun _ => 0, g⟩ (fun r => (∀ c : Dev Cert.PleProjReferenceIdeal.nD,
      r.2.mem ((c.tc : Thread Cert.PleProjReferenceIdeal.nD Cert.PleProjReferenceIdeal.τ).loc Cert.PleProjReferenceIdeal.main_arg0) = m ((c.tc : Thread Cert.PleProjReferenceIdeal.nD Cert.PleProjReferenceIdeal.τ).loc Cert.PleProjReferenceIdeal.main_arg0)
      ∧ r.2.mem ((c.tc : Thread Cert.PleProjReferenceIdeal.nD Cert.PleProjReferenceIdeal.τ).loc Cert.PleProjReferenceIdeal.main_arg1) = m ((c.tc : Thread Cert.PleProjReferenceIdeal.nD Cert.PleProjReferenceIdeal.τ).loc Cert.PleProjReferenceIdeal.main_arg1))
      ∧ r.2.sem = fun _ => 0)

def quiescent_PleProjDw [hPleProjDw : Cert.PleProjDw.Facts] : Prop :=
  ∀ (m : (ℓ : Loc Cert.PleProjDw.nD Cert.PleProjDw.τ Cert.PleProjDw.sig) → Buf (Elt Bits) ℓ) (g : Dev Cert.PleProjDw.nD → PrngReg), Pre_PleProjDw m →
    θ_run (Cert.PleProjDw.defs (F := Bits)) (onTc (τ := Cert.PleProjDw.τ) (Cert.PleProjDw.main (F := Bits))) ⟨m, fun _ => 0, g⟩ (fun r => (∀ c : Dev Cert.PleProjDw.nD,
      r.2.mem ((c.tc : Thread Cert.PleProjDw.nD Cert.PleProjDw.τ).loc Cert.PleProjDw.main_arg0) = m ((c.tc : Thread Cert.PleProjDw.nD Cert.PleProjDw.τ).loc Cert.PleProjDw.main_arg0)
      ∧ r.2.mem ((c.tc : Thread Cert.PleProjDw.nD Cert.PleProjDw.τ).loc Cert.PleProjDw.main_arg1) = m ((c.tc : Thread Cert.PleProjDw.nD Cert.PleProjDw.τ).loc Cert.PleProjDw.main_arg1))
      ∧ r.2.sem = fun _ => 0)

def quiescent_PleProjDwIdeal [hPleProjDwIdeal : Cert.PleProjDwIdeal.Facts] : Prop :=
  ∀ (m : (ℓ : Loc Cert.PleProjDwIdeal.nD Cert.PleProjDwIdeal.τ Cert.PleProjDwIdeal.sig) → Buf (Elt Ideal) ℓ) (g : Dev Cert.PleProjDwIdeal.nD → PrngReg), Pre_PleProjDwIdeal m →
    θ_run (Cert.PleProjDwIdeal.defs (F := Ideal)) (onTc (τ := Cert.PleProjDwIdeal.τ) (Cert.PleProjDwIdeal.main (F := Ideal))) ⟨m, fun _ => 0, g⟩ (fun r => (∀ c : Dev Cert.PleProjDwIdeal.nD,
      r.2.mem ((c.tc : Thread Cert.PleProjDwIdeal.nD Cert.PleProjDwIdeal.τ).loc Cert.PleProjDwIdeal.main_arg0) = m ((c.tc : Thread Cert.PleProjDwIdeal.nD Cert.PleProjDwIdeal.τ).loc Cert.PleProjDwIdeal.main_arg0)
      ∧ r.2.mem ((c.tc : Thread Cert.PleProjDwIdeal.nD Cert.PleProjDwIdeal.τ).loc Cert.PleProjDwIdeal.main_arg1) = m ((c.tc : Thread Cert.PleProjDwIdeal.nD Cert.PleProjDwIdeal.τ).loc Cert.PleProjDwIdeal.main_arg1))
      ∧ r.2.sem = fun _ => 0)

def quiescent_PleProjDwReferenceIdeal [hPleProjDwReferenceIdeal : Cert.PleProjDwReferenceIdeal.Facts] : Prop :=
  ∀ (m : (ℓ : Loc Cert.PleProjDwReferenceIdeal.nD Cert.PleProjDwReferenceIdeal.τ Cert.PleProjDwReferenceIdeal.sig) → Buf (Elt Ideal) ℓ) (g : Dev Cert.PleProjDwReferenceIdeal.nD → PrngReg), Pre_PleProjDwReferenceIdeal m →
    θ_run (Cert.PleProjDwReferenceIdeal.defs (F := Ideal)) (onTc (τ := Cert.PleProjDwReferenceIdeal.τ) (Cert.PleProjDwReferenceIdeal.main (F := Ideal))) ⟨m, fun _ => 0, g⟩ (fun r => (∀ c : Dev Cert.PleProjDwReferenceIdeal.nD,
      r.2.mem ((c.tc : Thread Cert.PleProjDwReferenceIdeal.nD Cert.PleProjDwReferenceIdeal.τ).loc Cert.PleProjDwReferenceIdeal.main_arg0) = m ((c.tc : Thread Cert.PleProjDwReferenceIdeal.nD Cert.PleProjDwReferenceIdeal.τ).loc Cert.PleProjDwReferenceIdeal.main_arg0)
      ∧ r.2.mem ((c.tc : Thread Cert.PleProjDwReferenceIdeal.nD Cert.PleProjDwReferenceIdeal.τ).loc Cert.PleProjDwReferenceIdeal.main_arg1) = m ((c.tc : Thread Cert.PleProjDwReferenceIdeal.nD Cert.PleProjDwReferenceIdeal.τ).loc Cert.PleProjDwReferenceIdeal.main_arg1))
      ∧ r.2.sem = fun _ => 0)

def quiescent_FProj [hFProj : Cert.FProj.Facts] : Prop :=
  ∀ (m : (ℓ : Loc Cert.FProj.nD Cert.FProj.τ Cert.FProj.sig) → Buf (Elt Bits) ℓ) (g : Dev Cert.FProj.nD → PrngReg), Pre_FProj m →
    θ_run (Cert.FProj.defs (F := Bits)) (onTc (τ := Cert.FProj.τ) (Cert.FProj.main (F := Bits))) ⟨m, fun _ => 0, g⟩ (fun r => (∀ c : Dev Cert.FProj.nD,
      r.2.mem ((c.tc : Thread Cert.FProj.nD Cert.FProj.τ).loc Cert.FProj.main_arg0) = m ((c.tc : Thread Cert.FProj.nD Cert.FProj.τ).loc Cert.FProj.main_arg0)
      ∧ r.2.mem ((c.tc : Thread Cert.FProj.nD Cert.FProj.τ).loc Cert.FProj.main_arg1) = m ((c.tc : Thread Cert.FProj.nD Cert.FProj.τ).loc Cert.FProj.main_arg1))
      ∧ r.2.sem = fun _ => 0)

def quiescent_FProjIdeal [hFProjIdeal : Cert.FProjIdeal.Facts] : Prop :=
  ∀ (m : (ℓ : Loc Cert.FProjIdeal.nD Cert.FProjIdeal.τ Cert.FProjIdeal.sig) → Buf (Elt Ideal) ℓ) (g : Dev Cert.FProjIdeal.nD → PrngReg), Pre_FProjIdeal m →
    θ_run (Cert.FProjIdeal.defs (F := Ideal)) (onTc (τ := Cert.FProjIdeal.τ) (Cert.FProjIdeal.main (F := Ideal))) ⟨m, fun _ => 0, g⟩ (fun r => (∀ c : Dev Cert.FProjIdeal.nD,
      r.2.mem ((c.tc : Thread Cert.FProjIdeal.nD Cert.FProjIdeal.τ).loc Cert.FProjIdeal.main_arg0) = m ((c.tc : Thread Cert.FProjIdeal.nD Cert.FProjIdeal.τ).loc Cert.FProjIdeal.main_arg0)
      ∧ r.2.mem ((c.tc : Thread Cert.FProjIdeal.nD Cert.FProjIdeal.τ).loc Cert.FProjIdeal.main_arg1) = m ((c.tc : Thread Cert.FProjIdeal.nD Cert.FProjIdeal.τ).loc Cert.FProjIdeal.main_arg1))
      ∧ r.2.sem = fun _ => 0)

def quiescent_FProjReferenceIdeal [hFProjReferenceIdeal : Cert.FProjReferenceIdeal.Facts] : Prop :=
  ∀ (m : (ℓ : Loc Cert.FProjReferenceIdeal.nD Cert.FProjReferenceIdeal.τ Cert.FProjReferenceIdeal.sig) → Buf (Elt Ideal) ℓ) (g : Dev Cert.FProjReferenceIdeal.nD → PrngReg), Pre_FProjReferenceIdeal m →
    θ_run (Cert.FProjReferenceIdeal.defs (F := Ideal)) (onTc (τ := Cert.FProjReferenceIdeal.τ) (Cert.FProjReferenceIdeal.main (F := Ideal))) ⟨m, fun _ => 0, g⟩ (fun r => (∀ c : Dev Cert.FProjReferenceIdeal.nD,
      r.2.mem ((c.tc : Thread Cert.FProjReferenceIdeal.nD Cert.FProjReferenceIdeal.τ).loc Cert.FProjReferenceIdeal.main_arg0) = m ((c.tc : Thread Cert.FProjReferenceIdeal.nD Cert.FProjReferenceIdeal.τ).loc Cert.FProjReferenceIdeal.main_arg0)
      ∧ r.2.mem ((c.tc : Thread Cert.FProjReferenceIdeal.nD Cert.FProjReferenceIdeal.τ).loc Cert.FProjReferenceIdeal.main_arg1) = m ((c.tc : Thread Cert.FProjReferenceIdeal.nD Cert.FProjReferenceIdeal.τ).loc Cert.FProjReferenceIdeal.main_arg1))
      ∧ r.2.sem = fun _ => 0)

def quiescent_FProjDw [hFProjDw : Cert.FProjDw.Facts] : Prop :=
  ∀ (m : (ℓ : Loc Cert.FProjDw.nD Cert.FProjDw.τ Cert.FProjDw.sig) → Buf (Elt Bits) ℓ) (g : Dev Cert.FProjDw.nD → PrngReg), Pre_FProjDw m →
    θ_run (Cert.FProjDw.defs (F := Bits)) (onTc (τ := Cert.FProjDw.τ) (Cert.FProjDw.main (F := Bits))) ⟨m, fun _ => 0, g⟩ (fun r => (∀ c : Dev Cert.FProjDw.nD,
      r.2.mem ((c.tc : Thread Cert.FProjDw.nD Cert.FProjDw.τ).loc Cert.FProjDw.main_arg0) = m ((c.tc : Thread Cert.FProjDw.nD Cert.FProjDw.τ).loc Cert.FProjDw.main_arg0)
      ∧ r.2.mem ((c.tc : Thread Cert.FProjDw.nD Cert.FProjDw.τ).loc Cert.FProjDw.main_arg1) = m ((c.tc : Thread Cert.FProjDw.nD Cert.FProjDw.τ).loc Cert.FProjDw.main_arg1))
      ∧ r.2.sem = fun _ => 0)

def quiescent_FProjDwIdeal [hFProjDwIdeal : Cert.FProjDwIdeal.Facts] : Prop :=
  ∀ (m : (ℓ : Loc Cert.FProjDwIdeal.nD Cert.FProjDwIdeal.τ Cert.FProjDwIdeal.sig) → Buf (Elt Ideal) ℓ) (g : Dev Cert.FProjDwIdeal.nD → PrngReg), Pre_FProjDwIdeal m →
    θ_run (Cert.FProjDwIdeal.defs (F := Ideal)) (onTc (τ := Cert.FProjDwIdeal.τ) (Cert.FProjDwIdeal.main (F := Ideal))) ⟨m, fun _ => 0, g⟩ (fun r => (∀ c : Dev Cert.FProjDwIdeal.nD,
      r.2.mem ((c.tc : Thread Cert.FProjDwIdeal.nD Cert.FProjDwIdeal.τ).loc Cert.FProjDwIdeal.main_arg0) = m ((c.tc : Thread Cert.FProjDwIdeal.nD Cert.FProjDwIdeal.τ).loc Cert.FProjDwIdeal.main_arg0)
      ∧ r.2.mem ((c.tc : Thread Cert.FProjDwIdeal.nD Cert.FProjDwIdeal.τ).loc Cert.FProjDwIdeal.main_arg1) = m ((c.tc : Thread Cert.FProjDwIdeal.nD Cert.FProjDwIdeal.τ).loc Cert.FProjDwIdeal.main_arg1))
      ∧ r.2.sem = fun _ => 0)

def quiescent_FProjDwReferenceIdeal [hFProjDwReferenceIdeal : Cert.FProjDwReferenceIdeal.Facts] : Prop :=
  ∀ (m : (ℓ : Loc Cert.FProjDwReferenceIdeal.nD Cert.FProjDwReferenceIdeal.τ Cert.FProjDwReferenceIdeal.sig) → Buf (Elt Ideal) ℓ) (g : Dev Cert.FProjDwReferenceIdeal.nD → PrngReg), Pre_FProjDwReferenceIdeal m →
    θ_run (Cert.FProjDwReferenceIdeal.defs (F := Ideal)) (onTc (τ := Cert.FProjDwReferenceIdeal.τ) (Cert.FProjDwReferenceIdeal.main (F := Ideal))) ⟨m, fun _ => 0, g⟩ (fun r => (∀ c : Dev Cert.FProjDwReferenceIdeal.nD,
      r.2.mem ((c.tc : Thread Cert.FProjDwReferenceIdeal.nD Cert.FProjDwReferenceIdeal.τ).loc Cert.FProjDwReferenceIdeal.main_arg0) = m ((c.tc : Thread Cert.FProjDwReferenceIdeal.nD Cert.FProjDwReferenceIdeal.τ).loc Cert.FProjDwReferenceIdeal.main_arg0)
      ∧ r.2.mem ((c.tc : Thread Cert.FProjDwReferenceIdeal.nD Cert.FProjDwReferenceIdeal.τ).loc Cert.FProjDwReferenceIdeal.main_arg1) = m ((c.tc : Thread Cert.FProjDwReferenceIdeal.nD Cert.FProjDwReferenceIdeal.τ).loc Cert.FProjDwReferenceIdeal.main_arg1))
      ∧ r.2.sem = fun _ => 0)

def quiescent_FProjDx [hFProjDx : Cert.FProjDx.Facts] : Prop :=
  ∀ (m : (ℓ : Loc Cert.FProjDx.nD Cert.FProjDx.τ Cert.FProjDx.sig) → Buf (Elt Bits) ℓ) (g : Dev Cert.FProjDx.nD → PrngReg), Pre_FProjDx m →
    θ_run (Cert.FProjDx.defs (F := Bits)) (onTc (τ := Cert.FProjDx.τ) (Cert.FProjDx.main (F := Bits))) ⟨m, fun _ => 0, g⟩ (fun r => (∀ c : Dev Cert.FProjDx.nD,
      r.2.mem ((c.tc : Thread Cert.FProjDx.nD Cert.FProjDx.τ).loc Cert.FProjDx.main_arg0) = m ((c.tc : Thread Cert.FProjDx.nD Cert.FProjDx.τ).loc Cert.FProjDx.main_arg0)
      ∧ r.2.mem ((c.tc : Thread Cert.FProjDx.nD Cert.FProjDx.τ).loc Cert.FProjDx.main_arg1) = m ((c.tc : Thread Cert.FProjDx.nD Cert.FProjDx.τ).loc Cert.FProjDx.main_arg1)
      ∧ r.2.mem ((c.tc : Thread Cert.FProjDx.nD Cert.FProjDx.τ).loc Cert.FProjDx.main_arg2) = m ((c.tc : Thread Cert.FProjDx.nD Cert.FProjDx.τ).loc Cert.FProjDx.main_arg2))
      ∧ r.2.sem = fun _ => 0)

def quiescent_FProjDxIdeal [hFProjDxIdeal : Cert.FProjDxIdeal.Facts] : Prop :=
  ∀ (m : (ℓ : Loc Cert.FProjDxIdeal.nD Cert.FProjDxIdeal.τ Cert.FProjDxIdeal.sig) → Buf (Elt Ideal) ℓ) (g : Dev Cert.FProjDxIdeal.nD → PrngReg), Pre_FProjDxIdeal m →
    θ_run (Cert.FProjDxIdeal.defs (F := Ideal)) (onTc (τ := Cert.FProjDxIdeal.τ) (Cert.FProjDxIdeal.main (F := Ideal))) ⟨m, fun _ => 0, g⟩ (fun r => (∀ c : Dev Cert.FProjDxIdeal.nD,
      r.2.mem ((c.tc : Thread Cert.FProjDxIdeal.nD Cert.FProjDxIdeal.τ).loc Cert.FProjDxIdeal.main_arg0) = m ((c.tc : Thread Cert.FProjDxIdeal.nD Cert.FProjDxIdeal.τ).loc Cert.FProjDxIdeal.main_arg0)
      ∧ r.2.mem ((c.tc : Thread Cert.FProjDxIdeal.nD Cert.FProjDxIdeal.τ).loc Cert.FProjDxIdeal.main_arg1) = m ((c.tc : Thread Cert.FProjDxIdeal.nD Cert.FProjDxIdeal.τ).loc Cert.FProjDxIdeal.main_arg1)
      ∧ r.2.mem ((c.tc : Thread Cert.FProjDxIdeal.nD Cert.FProjDxIdeal.τ).loc Cert.FProjDxIdeal.main_arg2) = m ((c.tc : Thread Cert.FProjDxIdeal.nD Cert.FProjDxIdeal.τ).loc Cert.FProjDxIdeal.main_arg2))
      ∧ r.2.sem = fun _ => 0)

def quiescent_FProjDxReferenceIdeal [hFProjDxReferenceIdeal : Cert.FProjDxReferenceIdeal.Facts] : Prop :=
  ∀ (m : (ℓ : Loc Cert.FProjDxReferenceIdeal.nD Cert.FProjDxReferenceIdeal.τ Cert.FProjDxReferenceIdeal.sig) → Buf (Elt Ideal) ℓ) (g : Dev Cert.FProjDxReferenceIdeal.nD → PrngReg), Pre_FProjDxReferenceIdeal m →
    θ_run (Cert.FProjDxReferenceIdeal.defs (F := Ideal)) (onTc (τ := Cert.FProjDxReferenceIdeal.τ) (Cert.FProjDxReferenceIdeal.main (F := Ideal))) ⟨m, fun _ => 0, g⟩ (fun r => (∀ c : Dev Cert.FProjDxReferenceIdeal.nD,
      r.2.mem ((c.tc : Thread Cert.FProjDxReferenceIdeal.nD Cert.FProjDxReferenceIdeal.τ).loc Cert.FProjDxReferenceIdeal.main_arg0) = m ((c.tc : Thread Cert.FProjDxReferenceIdeal.nD Cert.FProjDxReferenceIdeal.τ).loc Cert.FProjDxReferenceIdeal.main_arg0)
      ∧ r.2.mem ((c.tc : Thread Cert.FProjDxReferenceIdeal.nD Cert.FProjDxReferenceIdeal.τ).loc Cert.FProjDxReferenceIdeal.main_arg1) = m ((c.tc : Thread Cert.FProjDxReferenceIdeal.nD Cert.FProjDxReferenceIdeal.τ).loc Cert.FProjDxReferenceIdeal.main_arg1)
      ∧ r.2.mem ((c.tc : Thread Cert.FProjDxReferenceIdeal.nD Cert.FProjDxReferenceIdeal.τ).loc Cert.FProjDxReferenceIdeal.main_arg2) = m ((c.tc : Thread Cert.FProjDxReferenceIdeal.nD Cert.FProjDxReferenceIdeal.τ).loc Cert.FProjDxReferenceIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3)
      ∧ r.2.mem ((c.tc : Thread Cert.MergeBwdReferenceIdeal.nD Cert.MergeBwdReferenceIdeal.τ).loc Cert.MergeBwdReferenceIdeal.main_arg4) = m ((c.tc : Thread Cert.MergeBwdReferenceIdeal.nD Cert.MergeBwdReferenceIdeal.τ).loc Cert.MergeBwdReferenceIdeal.main_arg4)
      ∧ r.2.mem ((c.tc : Thread Cert.MergeBwdReferenceIdeal.nD Cert.MergeBwdReferenceIdeal.τ).loc Cert.MergeBwdReferenceIdeal.main_arg5) = m ((c.tc : Thread Cert.MergeBwdReferenceIdeal.nD Cert.MergeBwdReferenceIdeal.τ).loc Cert.MergeBwdReferenceIdeal.main_arg5))
      ∧ r.2.sem = fun _ => 0)

def quiescent_RnnOutBwd [hRnnOutBwd : Cert.RnnOutBwd.Facts] : Prop :=
  ∀ (m : (ℓ : Loc Cert.RnnOutBwd.nD Cert.RnnOutBwd.τ Cert.RnnOutBwd.sig) → Buf (Elt Bits) ℓ) (g : Dev Cert.RnnOutBwd.nD → PrngReg), Pre_RnnOutBwd m →
    θ_run (Cert.RnnOutBwd.defs (F := Bits)) (onTc (τ := Cert.RnnOutBwd.τ) (Cert.RnnOutBwd.main (F := Bits))) ⟨m, fun _ => 0, g⟩ (fun r => (∀ c : Dev Cert.RnnOutBwd.nD,
      r.2.mem ((c.tc : Thread Cert.RnnOutBwd.nD Cert.RnnOutBwd.τ).loc Cert.RnnOutBwd.main_arg0) = m ((c.tc : Thread Cert.RnnOutBwd.nD Cert.RnnOutBwd.τ).loc Cert.RnnOutBwd.main_arg0)
      ∧ r.2.mem ((c.tc : Thread Cert.RnnOutBwd.nD Cert.RnnOutBwd.τ).loc Cert.RnnOutBwd.main_arg1) = m ((c.tc : Thread Cert.RnnOutBwd.nD Cert.RnnOutBwd.τ).loc Cert.RnnOutBwd.main_arg1)
      ∧ r.2.mem ((c.tc : Thread Cert.RnnOutBwd.nD Cert.RnnOutBwd.τ).loc Cert.RnnOutBwd.main_arg2) = m ((c.tc : Thread Cert.RnnOutBwd.nD Cert.RnnOutBwd.τ).loc Cert.RnnOutBwd.main_arg2))
      ∧ r.2.sem = fun _ => 0)

def quiescent_RnnOutBwdIdeal [hRnnOutBwdIdeal : Cert.RnnOutBwdIdeal.Facts] : Prop :=
  ∀ (m : (ℓ : Loc Cert.RnnOutBwdIdeal.nD Cert.RnnOutBwdIdeal.τ Cert.RnnOutBwdIdeal.sig) → Buf (Elt Ideal) ℓ) (g : Dev Cert.RnnOutBwdIdeal.nD → PrngReg), Pre_RnnOutBwdIdeal m →
    θ_run (Cert.RnnOutBwdIdeal.defs (F := Ideal)) (onTc (τ := Cert.RnnOutBwdIdeal.τ) (Cert.RnnOutBwdIdeal.main (F := Ideal))) ⟨m, fun _ => 0, g⟩ (fun r => (∀ c : Dev Cert.RnnOutBwdIdeal.nD,
      r.2.mem ((c.tc : Thread Cert.RnnOutBwdIdeal.nD Cert.RnnOutBwdIdeal.τ).loc Cert.RnnOutBwdIdeal.main_arg0) = m ((c.tc : Thread Cert.RnnOutBwdIdeal.nD Cert.RnnOutBwdIdeal.τ).loc Cert.RnnOutBwdIdeal.main_arg0)
      ∧ r.2.mem ((c.tc : Thread Cert.RnnOutBwdIdeal.nD Cert.RnnOutBwdIdeal.τ).loc Cert.RnnOutBwdIdeal.main_arg1) = m ((c.tc : Thread Cert.RnnOutBwdIdeal.nD Cert.RnnOutBwdIdeal.τ).loc Cert.RnnOutBwdIdeal.main_arg1)
      ∧ r.2.mem ((c.tc : Thread Cert.RnnOutBwdIdeal.nD Cert.RnnOutBwdIdeal.τ).loc Cert.RnnOutBwdIdeal.main_arg2) = m ((c.tc : Thread Cert.RnnOutBwdIdeal.nD Cert.RnnOutBwdIdeal.τ).loc Cert.RnnOutBwdIdeal.main_arg2))
      ∧ r.2.sem = fun _ => 0)

def quiescent_RnnOutBwdReferenceIdeal [hRnnOutBwdReferenceIdeal : Cert.RnnOutBwdReferenceIdeal.Facts] : Prop :=
  ∀ (m : (ℓ : Loc Cert.RnnOutBwdReferenceIdeal.nD Cert.RnnOutBwdReferenceIdeal.τ Cert.RnnOutBwdReferenceIdeal.sig) → Buf (Elt Ideal) ℓ) (g : Dev Cert.RnnOutBwdReferenceIdeal.nD → PrngReg), Pre_RnnOutBwdReferenceIdeal m →
    θ_run (Cert.RnnOutBwdReferenceIdeal.defs (F := Ideal)) (onTc (τ := Cert.RnnOutBwdReferenceIdeal.τ) (Cert.RnnOutBwdReferenceIdeal.main (F := Ideal))) ⟨m, fun _ => 0, g⟩ (fun r => (∀ c : Dev Cert.RnnOutBwdReferenceIdeal.nD,
      r.2.mem ((c.tc : Thread Cert.RnnOutBwdReferenceIdeal.nD Cert.RnnOutBwdReferenceIdeal.τ).loc Cert.RnnOutBwdReferenceIdeal.main_arg0) = m ((c.tc : Thread Cert.RnnOutBwdReferenceIdeal.nD Cert.RnnOutBwdReferenceIdeal.τ).loc Cert.RnnOutBwdReferenceIdeal.main_arg0)
      ∧ r.2.mem ((c.tc : Thread Cert.RnnOutBwdReferenceIdeal.nD Cert.RnnOutBwdReferenceIdeal.τ).loc Cert.RnnOutBwdReferenceIdeal.main_arg1) = m ((c.tc : Thread Cert.RnnOutBwdReferenceIdeal.nD Cert.RnnOutBwdReferenceIdeal.τ).loc Cert.RnnOutBwdReferenceIdeal.main_arg1)
      ∧ r.2.mem ((c.tc : Thread Cert.RnnOutBwdReferenceIdeal.nD Cert.RnnOutBwdReferenceIdeal.τ).loc Cert.RnnOutBwdReferenceIdeal.main_arg2) = m ((c.tc : Thread Cert.RnnOutBwdReferenceIdeal.nD Cert.RnnOutBwdReferenceIdeal.τ).loc Cert.RnnOutBwdReferenceIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4))
      ∧ r.2.sem = fun _ => 0)

def quiescent_RnnOutFwd [hRnnOutFwd : Cert.RnnOutFwd.Facts] : Prop :=
  ∀ (m : (ℓ : Loc Cert.RnnOutFwd.nD Cert.RnnOutFwd.τ Cert.RnnOutFwd.sig) → Buf (Elt Bits) ℓ) (g : Dev Cert.RnnOutFwd.nD → PrngReg), Pre_RnnOutFwd m →
    θ_run (Cert.RnnOutFwd.defs (F := Bits)) (onTc (τ := Cert.RnnOutFwd.τ) (Cert.RnnOutFwd.main (F := Bits))) ⟨m, fun _ => 0, g⟩ (fun r => (∀ c : Dev Cert.RnnOutFwd.nD,
      r.2.mem ((c.tc : Thread Cert.RnnOutFwd.nD Cert.RnnOutFwd.τ).loc Cert.RnnOutFwd.main_arg0) = m ((c.tc : Thread Cert.RnnOutFwd.nD Cert.RnnOutFwd.τ).loc Cert.RnnOutFwd.main_arg0)
      ∧ r.2.mem ((c.tc : Thread Cert.RnnOutFwd.nD Cert.RnnOutFwd.τ).loc Cert.RnnOutFwd.main_arg1) = m ((c.tc : Thread Cert.RnnOutFwd.nD Cert.RnnOutFwd.τ).loc Cert.RnnOutFwd.main_arg1))
      ∧ r.2.sem = fun _ => 0)

def quiescent_RnnOutFwdIdeal [hRnnOutFwdIdeal : Cert.RnnOutFwdIdeal.Facts] : Prop :=
  ∀ (m : (ℓ : Loc Cert.RnnOutFwdIdeal.nD Cert.RnnOutFwdIdeal.τ Cert.RnnOutFwdIdeal.sig) → Buf (Elt Ideal) ℓ) (g : Dev Cert.RnnOutFwdIdeal.nD → PrngReg), Pre_RnnOutFwdIdeal m →
    θ_run (Cert.RnnOutFwdIdeal.defs (F := Ideal)) (onTc (τ := Cert.RnnOutFwdIdeal.τ) (Cert.RnnOutFwdIdeal.main (F := Ideal))) ⟨m, fun _ => 0, g⟩ (fun r => (∀ c : Dev Cert.RnnOutFwdIdeal.nD,
      r.2.mem ((c.tc : Thread Cert.RnnOutFwdIdeal.nD Cert.RnnOutFwdIdeal.τ).loc Cert.RnnOutFwdIdeal.main_arg0) = m ((c.tc : Thread Cert.RnnOutFwdIdeal.nD Cert.RnnOutFwdIdeal.τ).loc Cert.RnnOutFwdIdeal.main_arg0)
      ∧ r.2.mem ((c.tc : Thread Cert.RnnOutFwdIdeal.nD Cert.RnnOutFwdIdeal.τ).loc Cert.RnnOutFwdIdeal.main_arg1) = m ((c.tc : Thread Cert.RnnOutFwdIdeal.nD Cert.RnnOutFwdIdeal.τ).loc Cert.RnnOutFwdIdeal.main_arg1))
      ∧ r.2.sem = fun _ => 0)

def quiescent_RnnOutFwdReferenceIdeal [hRnnOutFwdReferenceIdeal : Cert.RnnOutFwdReferenceIdeal.Facts] : Prop :=
  ∀ (m : (ℓ : Loc Cert.RnnOutFwdReferenceIdeal.nD Cert.RnnOutFwdReferenceIdeal.τ Cert.RnnOutFwdReferenceIdeal.sig) → Buf (Elt Ideal) ℓ) (g : Dev Cert.RnnOutFwdReferenceIdeal.nD → PrngReg), Pre_RnnOutFwdReferenceIdeal m →
    θ_run (Cert.RnnOutFwdReferenceIdeal.defs (F := Ideal)) (onTc (τ := Cert.RnnOutFwdReferenceIdeal.τ) (Cert.RnnOutFwdReferenceIdeal.main (F := Ideal))) ⟨m, fun _ => 0, g⟩ (fun r => (∀ c : Dev Cert.RnnOutFwdReferenceIdeal.nD,
      r.2.mem ((c.tc : Thread Cert.RnnOutFwdReferenceIdeal.nD Cert.RnnOutFwdReferenceIdeal.τ).loc Cert.RnnOutFwdReferenceIdeal.main_arg0) = m ((c.tc : Thread Cert.RnnOutFwdReferenceIdeal.nD Cert.RnnOutFwdReferenceIdeal.τ).loc Cert.RnnOutFwdReferenceIdeal.main_arg0)
      ∧ r.2.mem ((c.tc : Thread Cert.RnnOutFwdReferenceIdeal.nD Cert.RnnOutFwdReferenceIdeal.τ).loc Cert.RnnOutFwdReferenceIdeal.main_arg1) = m ((c.tc : Thread Cert.RnnOutFwdReferenceIdeal.nD Cert.RnnOutFwdReferenceIdeal.τ).loc Cert.RnnOutFwdReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)) (v4 : (c : Dev Cert.KernelIdeal.nD) → Buf (Elt Ideal) ((c.tc : Thread Cert.KernelIdeal.nD Cert.KernelIdeal.τ).loc Cert.KernelIdeal.main_v38_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_v38_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_AttnFwd_AttnFwdIdeal : Prop :=
  IdealRules.named_const.Statement Cert.AttnFwdIdeal.κ "mask" .f32 0xF149F2CA#32 ⊥

def algebraic_AttnFwdIdeal_AttnFwdReferenceIdeal_pre_finite_pair [hAttnFwdIdeal : Cert.AttnFwdIdeal.Facts] [hAttnFwdReferenceIdeal : Cert.AttnFwdReferenceIdeal.Facts] [hPre_finite_pair : Cert.Pre_finite_pair.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite_pair m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v3_0)) (v1 : (c : Dev Cert.AttnFwdIdeal.nD) → Buf (Elt Ideal) ((c.tc : Thread Cert.AttnFwdIdeal.nD Cert.AttnFwdIdeal.τ).loc Cert.AttnFwdIdeal.main_v3_1)) (v2 : (c : Dev Cert.AttnFwdIdeal.nD) → Buf (Elt Ideal) ((c.tc : Thread Cert.AttnFwdIdeal.nD Cert.AttnFwdIdeal.τ).loc Cert.AttnFwdIdeal.main_v3_2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v3_0) = v0 c
          ∧ r.2.mem ((c.tc : Thread Cert.AttnFwdIdeal.nD Cert.AttnFwdIdeal.τ).loc Cert.AttnFwdIdeal.main_v3_1) = v1 c
          ∧ r.2.mem ((c.tc : Thread Cert.AttnFwdIdeal.nD Cert.AttnFwdIdeal.τ).loc Cert.AttnFwdIdeal.main_v3_2) = v2 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v36) = v0 c
          ∧ r.2.mem ((c.tc : Thread Cert.AttnFwdReferenceIdeal.nD Cert.AttnFwdReferenceIdeal.τ).loc Cert.AttnFwdReferenceIdeal.main_v46) = v1 c
          ∧ r.2.mem ((c.tc : Thread Cert.AttnFwdReferenceIdeal.nD Cert.AttnFwdReferenceIdeal.τ).loc Cert.AttnFwdReferenceIdeal.main_v45) = v2 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1))

def preserves_ZProjDw_ZProjDwIdeal : Prop :=
  True

def algebraic_ZProjDwIdeal_ZProjDwReferenceIdeal [hZProjDwIdeal : Cert.ZProjDwIdeal.Facts] [hZProjDwReferenceIdeal : Cert.ZProjDwReferenceIdeal.Facts] : Prop :=
  ∀ (m : (ℓ : Loc Cert.ZProjDwIdeal.nD Cert.ZProjDwIdeal.τ Cert.ZProjDwIdeal.sig) → Buf (Elt Ideal) ℓ) (g : Dev Cert.ZProjDwIdeal.nD → PrngReg)
    (m' : (ℓ : Loc Cert.ZProjDwReferenceIdeal.nD Cert.ZProjDwReferenceIdeal.τ Cert.ZProjDwReferenceIdeal.sig) → Buf (Elt Ideal) ℓ) (g' : Dev Cert.ZProjDwReferenceIdeal.nD → PrngReg), Pre_ZProjDwIdeal m →
    (∀ c : Dev Cert.ZProjDwIdeal.nD,
      m' ((c.tc : Thread Cert.ZProjDwReferenceIdeal.nD Cert.ZProjDwReferenceIdeal.τ).loc Cert.ZProjDwReferenceIdeal.main_arg0) = m ((c.tc : Thread Cert.ZProjDwIdeal.nD Cert.ZProjDwIdeal.τ).loc Cert.ZProjDwIdeal.main_arg0)
      ∧ m' ((c.tc : Thread Cert.ZProjDwReferenceIdeal.nD Cert.ZProjDwReferenceIdeal.τ).loc Cert.ZProjDwReferenceIdeal.main_arg1) = m ((c.tc : Thread Cert.ZProjDwIdeal.nD Cert.ZProjDwIdeal.τ).loc Cert.ZProjDwIdeal.main_arg1)) →
    ∃ (v0 : (c : Dev Cert.ZProjDwIdeal.nD) → Buf (Elt Ideal) ((c.tc : Thread Cert.ZProjDwIdeal.nD Cert.ZProjDwIdeal.τ).loc Cert.ZProjDwIdeal.main_v0)),
      θ_run (Cert.ZProjDwIdeal.defs (F := Ideal)) (onTc (τ := Cert.ZProjDwIdeal.τ) (Cert.ZProjDwIdeal.main (F := Ideal))) ⟨m, fun _ => 0, g⟩ (fun r => ∀ c : Dev Cert.ZProjDwIdeal.nD,
          r.2.mem ((c.tc : Thread Cert.ZProjDwIdeal.nD Cert.ZProjDwIdeal.τ).loc Cert.ZProjDwIdeal.main_v0) = v0 c
          ∧ r.2.mem ((c.tc : Thread Cert.ZProjDwIdeal.nD Cert.ZProjDwIdeal.τ).loc Cert.ZProjDwIdeal.main_arg0) = m ((c.tc : Thread Cert.ZProjDwIdeal.nD Cert.ZProjDwIdeal.τ).loc Cert.ZProjDwIdeal.main_arg0)
          ∧ r.2.mem ((c.tc : Thread Cert.ZProjDwIdeal.nD Cert.ZProjDwIdeal.τ).loc Cert.ZProjDwIdeal.main_arg1) = m ((c.tc : Thread Cert.ZProjDwIdeal.nD Cert.ZProjDwIdeal.τ).loc Cert.ZProjDwIdeal.main_arg1))
      ∧ θ_run (Cert.ZProjDwReferenceIdeal.defs (F := Ideal)) (onTc (τ := Cert.ZProjDwReferenceIdeal.τ) (Cert.ZProjDwReferenceIdeal.main (F := Ideal))) ⟨m', fun _ => 0, g'⟩ (fun r => ∀ c : Dev Cert.ZProjDwReferenceIdeal.nD,
          r.2.mem ((c.tc : Thread Cert.ZProjDwReferenceIdeal.nD Cert.ZProjDwReferenceIdeal.τ).loc Cert.ZProjDwReferenceIdeal.main_v6) = v0 c
          ∧ r.2.mem ((c.tc : Thread Cert.ZProjDwReferenceIdeal.nD Cert.ZProjDwReferenceIdeal.τ).loc Cert.ZProjDwReferenceIdeal.main_arg0) = m' ((c.tc : Thread Cert.ZProjDwReferenceIdeal.nD Cert.ZProjDwReferenceIdeal.τ).loc Cert.ZProjDwReferenceIdeal.main_arg0)
          ∧ r.2.mem ((c.tc : Thread Cert.ZProjDwReferenceIdeal.nD Cert.ZProjDwReferenceIdeal.τ).loc Cert.ZProjDwReferenceIdeal.main_arg1) = m' ((c.tc : Thread Cert.ZProjDwReferenceIdeal.nD Cert.ZProjDwReferenceIdeal.τ).loc Cert.ZProjDwReferenceIdeal.main_arg1))

def preserves_ZProjDx_ZProjDxIdeal : Prop :=
  True

def algebraic_ZProjDxIdeal_ZProjDxReferenceIdeal [hZProjDxIdeal : Cert.ZProjDxIdeal.Facts] [hZProjDxReferenceIdeal : Cert.ZProjDxReferenceIdeal.Facts] : Prop :=
  ∀ (m : (ℓ : Loc Cert.ZProjDxIdeal.nD Cert.ZProjDxIdeal.τ Cert.ZProjDxIdeal.sig) → Buf (Elt Ideal) ℓ) (g : Dev Cert.ZProjDxIdeal.nD → PrngReg)
    (m' : (ℓ : Loc Cert.ZProjDxReferenceIdeal.nD Cert.ZProjDxReferenceIdeal.τ Cert.ZProjDxReferenceIdeal.sig) → Buf (Elt Ideal) ℓ) (g' : Dev Cert.ZProjDxReferenceIdeal.nD → PrngReg), Pre_ZProjDxIdeal m →
    (∀ c : Dev Cert.ZProjDxIdeal.nD,
      m' ((c.tc : Thread Cert.ZProjDxReferenceIdeal.nD Cert.ZProjDxReferenceIdeal.τ).loc Cert.ZProjDxReferenceIdeal.main_arg0) = m ((c.tc : Thread Cert.ZProjDxIdeal.nD Cert.ZProjDxIdeal.τ).loc Cert.ZProjDxIdeal.main_arg0)
      ∧ m' ((c.tc : Thread Cert.ZProjDxReferenceIdeal.nD Cert.ZProjDxReferenceIdeal.τ).loc Cert.ZProjDxReferenceIdeal.main_arg1) = m ((c.tc : Thread Cert.ZProjDxIdeal.nD Cert.ZProjDxIdeal.τ).loc Cert.ZProjDxIdeal.main_arg1)
      ∧ m' ((c.tc : Thread Cert.ZProjDxReferenceIdeal.nD Cert.ZProjDxReferenceIdeal.τ).loc Cert.ZProjDxReferenceIdeal.main_arg2) = m ((c.tc : Thread Cert.ZProjDxIdeal.nD Cert.ZProjDxIdeal.τ).loc Cert.ZProjDxIdeal.main_arg2)) →
    ∃ (v0 : (c : Dev Cert.ZProjDxIdeal.nD) → Buf (Elt Ideal) ((c.tc : Thread Cert.ZProjDxIdeal.nD Cert.ZProjDxIdeal.τ).loc Cert.ZProjDxIdeal.main_v0)),
      θ_run (Cert.ZProjDxIdeal.defs (F := Ideal)) (onTc (τ := Cert.ZProjDxIdeal.τ) (Cert.ZProjDxIdeal.main (F := Ideal))) ⟨m, fun _ => 0, g⟩ (fun r => ∀ c : Dev Cert.ZProjDxIdeal.nD,
          r.2.mem ((c.tc : Thread Cert.ZProjDxIdeal.nD Cert.ZProjDxIdeal.τ).loc Cert.ZProjDxIdeal.main_v0) = v0 c
          ∧ r.2.mem ((c.tc : Thread Cert.ZProjDxIdeal.nD Cert.ZProjDxIdeal.τ).loc Cert.ZProjDxIdeal.main_arg0) = m ((c.tc : Thread Cert.ZProjDxIdeal.nD Cert.ZProjDxIdeal.τ).loc Cert.ZProjDxIdeal.main_arg0)
          ∧ r.2.mem ((c.tc : Thread Cert.ZProjDxIdeal.nD Cert.ZProjDxIdeal.τ).loc Cert.ZProjDxIdeal.main_arg1) = m ((c.tc : Thread Cert.ZProjDxIdeal.nD Cert.ZProjDxIdeal.τ).loc Cert.ZProjDxIdeal.main_arg1)
          ∧ r.2.mem ((c.tc : Thread Cert.ZProjDxIdeal.nD Cert.ZProjDxIdeal.τ).loc Cert.ZProjDxIdeal.main_arg2) = m ((c.tc : Thread Cert.ZProjDxIdeal.nD Cert.ZProjDxIdeal.τ).loc Cert.ZProjDxIdeal.main_arg2))
      ∧ θ_run (Cert.ZProjDxReferenceIdeal.defs (F := Ideal)) (onTc (τ := Cert.ZProjDxReferenceIdeal.τ) (Cert.ZProjDxReferenceIdeal.main (F := Ideal))) ⟨m', fun _ => 0, g'⟩ (fun r => ∀ c : Dev Cert.ZProjDxReferenceIdeal.nD,
          r.2.mem ((c.tc : Thread Cert.ZProjDxReferenceIdeal.nD Cert.ZProjDxReferenceIdeal.τ).loc Cert.ZProjDxReferenceIdeal.main_v5) = v0 c
          ∧ r.2.mem ((c.tc : Thread Cert.ZProjDxReferenceIdeal.nD Cert.ZProjDxReferenceIdeal.τ).loc Cert.ZProjDxReferenceIdeal.main_arg0) = m' ((c.tc : Thread Cert.ZProjDxReferenceIdeal.nD Cert.ZProjDxReferenceIdeal.τ).loc Cert.ZProjDxReferenceIdeal.main_arg0)
          ∧ r.2.mem ((c.tc : Thread Cert.ZProjDxReferenceIdeal.nD Cert.ZProjDxReferenceIdeal.τ).loc Cert.ZProjDxReferenceIdeal.main_arg1) = m' ((c.tc : Thread Cert.ZProjDxReferenceIdeal.nD Cert.ZProjDxReferenceIdeal.τ).loc Cert.ZProjDxReferenceIdeal.main_arg1)
          ∧ r.2.mem ((c.tc : Thread Cert.ZProjDxReferenceIdeal.nD Cert.ZProjDxReferenceIdeal.τ).loc Cert.ZProjDxReferenceIdeal.main_arg2) = m' ((c.tc : Thread Cert.ZProjDxReferenceIdeal.nD Cert.ZProjDxReferenceIdeal.τ).loc Cert.ZProjDxReferenceIdeal.main_arg2))

def preserves_FfnInDw_FfnInDwIdeal : Prop :=
  True

def algebraic_FfnInDwIdeal_FfnInDwReferenceIdeal [hFfnInDwIdeal : Cert.FfnInDwIdeal.Facts] [hFfnInDwReferenceIdeal : Cert.FfnInDwReferenceIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwReferenceIdeal.nD Cert.FfnInDwReferenceIdeal.τ Cert.FfnInDwReferenceIdeal.sig) → Buf (Elt Ideal) ℓ) (g' : Dev Cert.FfnInDwReferenceIdeal.nD → PrngReg), Pre_FfnInDwIdeal m →
    (∀ c : Dev Cert.FfnInDwIdeal.nD,
      m' ((c.tc : Thread Cert.FfnInDwReferenceIdeal.nD Cert.FfnInDwReferenceIdeal.τ).loc Cert.FfnInDwReferenceIdeal.main_arg0) = m ((c.tc : Thread Cert.FfnInDwIdeal.nD Cert.FfnInDwIdeal.τ).loc Cert.FfnInDwIdeal.main_arg0)
      ∧ m' ((c.tc : Thread Cert.FfnInDwReferenceIdeal.nD Cert.FfnInDwReferenceIdeal.τ).loc Cert.FfnInDwReferenceIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwReferenceIdeal.defs (F := Ideal)) (onTc (τ := Cert.FfnInDwReferenceIdeal.τ) (Cert.FfnInDwReferenceIdeal.main (F := Ideal))) ⟨m', fun _ => 0, g'⟩ (fun r => ∀ c : Dev Cert.FfnInDwReferenceIdeal.nD,
          r.2.mem ((c.tc : Thread Cert.FfnInDwReferenceIdeal.nD Cert.FfnInDwReferenceIdeal.τ).loc Cert.FfnInDwReferenceIdeal.main_v8) = v0 c
          ∧ r.2.mem ((c.tc : Thread Cert.FfnInDwReferenceIdeal.nD Cert.FfnInDwReferenceIdeal.τ).loc Cert.FfnInDwReferenceIdeal.main_arg0) = m' ((c.tc : Thread Cert.FfnInDwReferenceIdeal.nD Cert.FfnInDwReferenceIdeal.τ).loc Cert.FfnInDwReferenceIdeal.main_arg0)
          ∧ r.2.mem ((c.tc : Thread Cert.FfnInDwReferenceIdeal.nD Cert.FfnInDwReferenceIdeal.τ).loc Cert.FfnInDwReferenceIdeal.main_arg1) = m' ((c.tc : Thread Cert.FfnInDwReferenceIdeal.nD Cert.FfnInDwReferenceIdeal.τ).loc Cert.FfnInDwReferenceIdeal.main_arg1))

def preserves_FfnInDx_FfnInDxIdeal : Prop :=
  True

def algebraic_FfnInDxIdeal_FfnInDxReferenceIdeal [hFfnInDxIdeal : Cert.FfnInDxIdeal.Facts] [hFfnInDxReferenceIdeal : Cert.FfnInDxReferenceIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxReferenceIdeal.nD Cert.FfnInDxReferenceIdeal.τ Cert.FfnInDxReferenceIdeal.sig) → Buf (Elt Ideal) ℓ) (g' : Dev Cert.FfnInDxReferenceIdeal.nD → PrngReg), Pre_FfnInDxIdeal m →
    (∀ c : Dev Cert.FfnInDxIdeal.nD,
      m' ((c.tc : Thread Cert.FfnInDxReferenceIdeal.nD Cert.FfnInDxReferenceIdeal.τ).loc Cert.FfnInDxReferenceIdeal.main_arg0) = m ((c.tc : Thread Cert.FfnInDxIdeal.nD Cert.FfnInDxIdeal.τ).loc Cert.FfnInDxIdeal.main_arg0)
      ∧ m' ((c.tc : Thread Cert.FfnInDxReferenceIdeal.nD Cert.FfnInDxReferenceIdeal.τ).loc Cert.FfnInDxReferenceIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxReferenceIdeal.defs (F := Ideal)) (onTc (τ := Cert.FfnInDxReferenceIdeal.τ) (Cert.FfnInDxReferenceIdeal.main (F := Ideal))) ⟨m', fun _ => 0, g'⟩ (fun r => ∀ c : Dev Cert.FfnInDxReferenceIdeal.nD,
          r.2.mem ((c.tc : Thread Cert.FfnInDxReferenceIdeal.nD Cert.FfnInDxReferenceIdeal.τ).loc Cert.FfnInDxReferenceIdeal.main_v6) = v0 c
          ∧ r.2.mem ((c.tc : Thread Cert.FfnInDxReferenceIdeal.nD Cert.FfnInDxReferenceIdeal.τ).loc Cert.FfnInDxReferenceIdeal.main_arg0) = m' ((c.tc : Thread Cert.FfnInDxReferenceIdeal.nD Cert.FfnInDxReferenceIdeal.τ).loc Cert.FfnInDxReferenceIdeal.main_arg0)
          ∧ r.2.mem ((c.tc : Thread Cert.FfnInDxReferenceIdeal.nD Cert.FfnInDxReferenceIdeal.τ).loc Cert.FfnInDxReferenceIdeal.main_arg1) = m' ((c.tc : Thread Cert.FfnInDxReferenceIdeal.nD Cert.FfnInDxReferenceIdeal.τ).loc Cert.FfnInDxReferenceIdeal.main_arg1))

def preserves_FfnOutDw_FfnOutDwIdeal : Prop :=
  True

def algebraic_FfnOutDwIdeal_FfnOutDwReferenceIdeal [hFfnOutDwIdeal : Cert.FfnOutDwIdeal.Facts] [hFfnOutDwReferenceIdeal : Cert.FfnOutDwReferenceIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwReferenceIdeal.nD Cert.FfnOutDwReferenceIdeal.τ Cert.FfnOutDwReferenceIdeal.sig) → Buf (Elt Ideal) ℓ) (g' : Dev Cert.FfnOutDwReferenceIdeal.nD → PrngReg), Pre_FfnOutDwIdeal m →
    (∀ c : Dev Cert.FfnOutDwIdeal.nD,
      m' ((c.tc : Thread Cert.FfnOutDwReferenceIdeal.nD Cert.FfnOutDwReferenceIdeal.τ).loc Cert.FfnOutDwReferenceIdeal.main_arg0) = m ((c.tc : Thread Cert.FfnOutDwIdeal.nD Cert.FfnOutDwIdeal.τ).loc Cert.FfnOutDwIdeal.main_arg0)
      ∧ m' ((c.tc : Thread Cert.FfnOutDwReferenceIdeal.nD Cert.FfnOutDwReferenceIdeal.τ).loc Cert.FfnOutDwReferenceIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwReferenceIdeal.defs (F := Ideal)) (onTc (τ := Cert.FfnOutDwReferenceIdeal.τ) (Cert.FfnOutDwReferenceIdeal.main (F := Ideal))) ⟨m', fun _ => 0, g'⟩ (fun r => ∀ c : Dev Cert.FfnOutDwReferenceIdeal.nD,
          r.2.mem ((c.tc : Thread Cert.FfnOutDwReferenceIdeal.nD Cert.FfnOutDwReferenceIdeal.τ).loc Cert.FfnOutDwReferenceIdeal.main_v6) = v0 c
          ∧ r.2.mem ((c.tc : Thread Cert.FfnOutDwReferenceIdeal.nD Cert.FfnOutDwReferenceIdeal.τ).loc Cert.FfnOutDwReferenceIdeal.main_arg0) = m' ((c.tc : Thread Cert.FfnOutDwReferenceIdeal.nD Cert.FfnOutDwReferenceIdeal.τ).loc Cert.FfnOutDwReferenceIdeal.main_arg0)
          ∧ r.2.mem ((c.tc : Thread Cert.FfnOutDwReferenceIdeal.nD Cert.FfnOutDwReferenceIdeal.τ).loc Cert.FfnOutDwReferenceIdeal.main_arg1) = m' ((c.tc : Thread Cert.FfnOutDwReferenceIdeal.nD Cert.FfnOutDwReferenceIdeal.τ).loc Cert.FfnOutDwReferenceIdeal.main_arg1))

def preserves_FfnOutDx_FfnOutDxIdeal : Prop :=
  True

def algebraic_FfnOutDxIdeal_FfnOutDxReferenceIdeal [hFfnOutDxIdeal : Cert.FfnOutDxIdeal.Facts] [hFfnOutDxReferenceIdeal : Cert.FfnOutDxReferenceIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxReferenceIdeal.nD Cert.FfnOutDxReferenceIdeal.τ Cert.FfnOutDxReferenceIdeal.sig) → Buf (Elt Ideal) ℓ) (g' : Dev Cert.FfnOutDxReferenceIdeal.nD → PrngReg), Pre_FfnOutDxIdeal m →
    (∀ c : Dev Cert.FfnOutDxIdeal.nD,
      m' ((c.tc : Thread Cert.FfnOutDxReferenceIdeal.nD Cert.FfnOutDxReferenceIdeal.τ).loc Cert.FfnOutDxReferenceIdeal.main_arg0) = m ((c.tc : Thread Cert.FfnOutDxIdeal.nD Cert.FfnOutDxIdeal.τ).loc Cert.FfnOutDxIdeal.main_arg0)
      ∧ m' ((c.tc : Thread Cert.FfnOutDxReferenceIdeal.nD Cert.FfnOutDxReferenceIdeal.τ).loc Cert.FfnOutDxReferenceIdeal.main_arg1) = m ((c.tc : Thread Cert.FfnOutDxIdeal.nD Cert.FfnOutDxIdeal.τ).loc Cert.FfnOutDxIdeal.main_arg1)
      ∧ m' ((c.tc : Thread Cert.FfnOutDxReferenceIdeal.nD Cert.FfnOutDxReferenceIdeal.τ).loc Cert.FfnOutDxReferenceIdeal.main_arg2) = m ((c.tc : Thread Cert.FfnOutDxIdeal.nD Cert.FfnOutDxIdeal.τ).loc Cert.FfnOutDxIdeal.main_arg2)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
          ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ θ_run (Cert.FfnOutDxReferenceIdeal.defs (F := Ideal)) (onTc (τ := Cert.FfnOutDxReferenceIdeal.τ) (Cert.FfnOutDxReferenceIdeal.main (F := Ideal))) ⟨m', fun _ => 0, g'⟩ (fun r => ∀ c : Dev Cert.FfnOutDxReferenceIdeal.nD,
          r.2.mem ((c.tc : Thread Cert.FfnOutDxReferenceIdeal.nD Cert.FfnOutDxReferenceIdeal.τ).loc Cert.FfnOutDxReferenceIdeal.main_v15) = v0 c
          ∧ r.2.mem ((c.tc : Thread Cert.FfnOutDxReferenceIdeal.nD Cert.FfnOutDxReferenceIdeal.τ).loc Cert.FfnOutDxReferenceIdeal.main_arg0) = m' ((c.tc : Thread Cert.FfnOutDxReferenceIdeal.nD Cert.FfnOutDxReferenceIdeal.τ).loc Cert.FfnOutDxReferenceIdeal.main_arg0)
          ∧ r.2.mem ((c.tc : Thread Cert.FfnOutDxReferenceIdeal.nD Cert.FfnOutDxReferenceIdeal.τ).loc Cert.FfnOutDxReferenceIdeal.main_arg1) = m' ((c.tc : Thread Cert.FfnOutDxReferenceIdeal.nD Cert.FfnOutDxReferenceIdeal.τ).loc Cert.FfnOutDxReferenceIdeal.main_arg1)
          ∧ r.2.mem ((c.tc : Thread Cert.FfnOutDxReferenceIdeal.nD Cert.FfnOutDxReferenceIdeal.τ).loc Cert.FfnOutDxReferenceIdeal.main_arg2) = m' ((c.tc : Thread Cert.FfnOutDxReferenceIdeal.nD Cert.FfnOutDxReferenceIdeal.τ).loc Cert.FfnOutDxReferenceIdeal.main_arg2))

def preserves_MixOutDw_MixOutDwIdeal : Prop :=
  True

def algebraic_MixOutDwIdeal_MixOutDwReferenceIdeal [hMixOutDwIdeal : Cert.MixOutDwIdeal.Facts] [hMixOutDwReferenceIdeal : Cert.MixOutDwReferenceIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwReferenceIdeal.nD Cert.MixOutDwReferenceIdeal.τ Cert.MixOutDwReferenceIdeal.sig) → Buf (Elt Ideal) ℓ) (g' : Dev Cert.MixOutDwReferenceIdeal.nD → PrngReg), Pre_MixOutDwIdeal m →
    (∀ c : Dev Cert.MixOutDwIdeal.nD,
      m' ((c.tc : Thread Cert.MixOutDwReferenceIdeal.nD Cert.MixOutDwReferenceIdeal.τ).loc Cert.MixOutDwReferenceIdeal.main_arg0) = m ((c.tc : Thread Cert.MixOutDwIdeal.nD Cert.MixOutDwIdeal.τ).loc Cert.MixOutDwIdeal.main_arg0)
      ∧ m' ((c.tc : Thread Cert.MixOutDwReferenceIdeal.nD Cert.MixOutDwReferenceIdeal.τ).loc Cert.MixOutDwReferenceIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwReferenceIdeal.defs (F := Ideal)) (onTc (τ := Cert.MixOutDwReferenceIdeal.τ) (Cert.MixOutDwReferenceIdeal.main (F := Ideal))) ⟨m', fun _ => 0, g'⟩ (fun r => ∀ c : Dev Cert.MixOutDwReferenceIdeal.nD,
          r.2.mem ((c.tc : Thread Cert.MixOutDwReferenceIdeal.nD Cert.MixOutDwReferenceIdeal.τ).loc Cert.MixOutDwReferenceIdeal.main_v6) = v0 c
          ∧ r.2.mem ((c.tc : Thread Cert.MixOutDwReferenceIdeal.nD Cert.MixOutDwReferenceIdeal.τ).loc Cert.MixOutDwReferenceIdeal.main_arg0) = m' ((c.tc : Thread Cert.MixOutDwReferenceIdeal.nD Cert.MixOutDwReferenceIdeal.τ).loc Cert.MixOutDwReferenceIdeal.main_arg0)
          ∧ r.2.mem ((c.tc : Thread Cert.MixOutDwReferenceIdeal.nD Cert.MixOutDwReferenceIdeal.τ).loc Cert.MixOutDwReferenceIdeal.main_arg1) = m' ((c.tc : Thread Cert.MixOutDwReferenceIdeal.nD Cert.MixOutDwReferenceIdeal.τ).loc Cert.MixOutDwReferenceIdeal.main_arg1))

def preserves_MixOutDx_MixOutDxIdeal : Prop :=
  True

def algebraic_MixOutDxIdeal_MixOutDxReferenceIdeal [hMixOutDxIdeal : Cert.MixOutDxIdeal.Facts] [hMixOutDxReferenceIdeal : Cert.MixOutDxReferenceIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxReferenceIdeal.nD Cert.MixOutDxReferenceIdeal.τ Cert.MixOutDxReferenceIdeal.sig) → Buf (Elt Ideal) ℓ) (g' : Dev Cert.MixOutDxReferenceIdeal.nD → PrngReg), Pre_MixOutDxIdeal m →
    (∀ c : Dev Cert.MixOutDxIdeal.nD,
      m' ((c.tc : Thread Cert.MixOutDxReferenceIdeal.nD Cert.MixOutDxReferenceIdeal.τ).loc Cert.MixOutDxReferenceIdeal.main_arg0) = m ((c.tc : Thread Cert.MixOutDxIdeal.nD Cert.MixOutDxIdeal.τ).loc Cert.MixOutDxIdeal.main_arg0)
      ∧ m' ((c.tc : Thread Cert.MixOutDxReferenceIdeal.nD Cert.MixOutDxReferenceIdeal.τ).loc Cert.MixOutDxReferenceIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxReferenceIdeal.defs (F := Ideal)) (onTc (τ := Cert.MixOutDxReferenceIdeal.τ) (Cert.MixOutDxReferenceIdeal.main (F := Ideal))) ⟨m', fun _ => 0, g'⟩ (fun r => ∀ c : Dev Cert.MixOutDxReferenceIdeal.nD,
          r.2.mem ((c.tc : Thread Cert.MixOutDxReferenceIdeal.nD Cert.MixOutDxReferenceIdeal.τ).loc Cert.MixOutDxReferenceIdeal.main_v4) = v0 c
          ∧ r.2.mem ((c.tc : Thread Cert.MixOutDxReferenceIdeal.nD Cert.MixOutDxReferenceIdeal.τ).loc Cert.MixOutDxReferenceIdeal.main_arg0) = m' ((c.tc : Thread Cert.MixOutDxReferenceIdeal.nD Cert.MixOutDxReferenceIdeal.τ).loc Cert.MixOutDxReferenceIdeal.main_arg0)
          ∧ r.2.mem ((c.tc : Thread Cert.MixOutDxReferenceIdeal.nD Cert.MixOutDxReferenceIdeal.τ).loc Cert.MixOutDxReferenceIdeal.main_arg1) = m' ((c.tc : Thread Cert.MixOutDxReferenceIdeal.nD Cert.MixOutDxReferenceIdeal.τ).loc Cert.MixOutDxReferenceIdeal.main_arg1))

def preserves_BranchAttDx_BranchAttDxIdeal : Prop :=
  True

def algebraic_BranchAttDxIdeal_BranchAttDxReferenceIdeal [hBranchAttDxIdeal : Cert.BranchAttDxIdeal.Facts] [hBranchAttDxReferenceIdeal : Cert.BranchAttDxReferenceIdeal.Facts] : Prop :=
  ∀ (m : (ℓ : Loc Cert.BranchAttDxIdeal.nD Cert.BranchAttDxIdeal.τ Cert.BranchAttDxIdeal.sig) → Buf (Elt Ideal) ℓ) (g : Dev Cert.BranchAttDxIdeal.nD → PrngReg)
    (m' : (ℓ : Loc Cert.BranchAttDxReferenceIdeal.nD Cert.BranchAttDxReferenceIdeal.τ Cert.BranchAttDxReferenceIdeal.sig) → Buf (Elt Ideal) ℓ) (g' : Dev Cert.BranchAttDxReferenceIdeal.nD → PrngReg), Pre_BranchAttDxIdeal m →
    (∀ c : Dev Cert.BranchAttDxIdeal.nD,
      m' ((c.tc : Thread Cert.BranchAttDxReferenceIdeal.nD Cert.BranchAttDxReferenceIdeal.τ).loc Cert.BranchAttDxReferenceIdeal.main_arg0) = m ((c.tc : Thread Cert.BranchAttDxIdeal.nD Cert.BranchAttDxIdeal.τ).loc Cert.BranchAttDxIdeal.main_arg0)
      ∧ m' ((c.tc : Thread Cert.BranchAttDxReferenceIdeal.nD Cert.BranchAttDxReferenceIdeal.τ).loc Cert.BranchAttDxReferenceIdeal.main_arg1) = m ((c.tc : Thread Cert.BranchAttDxIdeal.nD Cert.BranchAttDxIdeal.τ).loc Cert.BranchAttDxIdeal.main_arg1)) →
    ∃ (v0 : (c : Dev Cert.BranchAttDxIdeal.nD) → Buf (Elt Ideal) ((c.tc : Thread Cert.BranchAttDxIdeal.nD Cert.BranchAttDxIdeal.τ).loc Cert.BranchAttDxIdeal.main_v0)),
      θ_run (Cert.BranchAttDxIdeal.defs (F := Ideal)) (onTc (τ := Cert.BranchAttDxIdeal.τ) (Cert.BranchAttDxIdeal.main (F := Ideal))) ⟨m, fun _ => 0, g⟩ (fun r => ∀ c : Dev Cert.BranchAttDxIdeal.nD,
          r.2.mem ((c.tc : Thread Cert.BranchAttDxIdeal.nD Cert.BranchAttDxIdeal.τ).loc Cert.BranchAttDxIdeal.main_v0) = v0 c
          ∧ r.2.mem ((c.tc : Thread Cert.BranchAttDxIdeal.nD Cert.BranchAttDxIdeal.τ).loc Cert.BranchAttDxIdeal.main_arg0) = m ((c.tc : Thread Cert.BranchAttDxIdeal.nD Cert.BranchAttDxIdeal.τ).loc Cert.BranchAttDxIdeal.main_arg0)
          ∧ r.2.mem ((c.tc : Thread Cert.BranchAttDxIdeal.nD Cert.BranchAttDxIdeal.τ).loc Cert.BranchAttDxIdeal.main_arg1) = m ((c.tc : Thread Cert.BranchAttDxIdeal.nD Cert.BranchAttDxIdeal.τ).loc Cert.BranchAttDxIdeal.main_arg1))
      ∧ θ_run (Cert.BranchAttDxReferenceIdeal.defs (F := Ideal)) (onTc (τ := Cert.BranchAttDxReferenceIdeal.τ) (Cert.BranchAttDxReferenceIdeal.main (F := Ideal))) ⟨m', fun _ => 0, g'⟩ (fun r => ∀ c : Dev Cert.BranchAttDxReferenceIdeal.nD,
          r.2.mem ((c.tc : Thread Cert.BranchAttDxReferenceIdeal.nD Cert.BranchAttDxReferenceIdeal.τ).loc Cert.BranchAttDxReferenceIdeal.main_v5) = v0 c
          ∧ r.2.mem ((c.tc : Thread Cert.BranchAttDxReferenceIdeal.nD Cert.BranchAttDxReferenceIdeal.τ).loc Cert.BranchAttDxReferenceIdeal.main_arg0) = m' ((c.tc : Thread Cert.BranchAttDxReferenceIdeal.nD Cert.BranchAttDxReferenceIdeal.τ).loc Cert.BranchAttDxReferenceIdeal.main_arg0)
          ∧ r.2.mem ((c.tc : Thread Cert.BranchAttDxReferenceIdeal.nD Cert.BranchAttDxReferenceIdeal.τ).loc Cert.BranchAttDxReferenceIdeal.main_arg1) = m' ((c.tc : Thread Cert.BranchAttDxReferenceIdeal.nD Cert.BranchAttDxReferenceIdeal.τ).loc Cert.BranchAttDxReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v2) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1))

def preserves_ZProjQkv_ZProjQkvIdeal : Prop :=
  True

def algebraic_ZProjQkvIdeal_ZProjQkvReferenceIdeal [hZProjQkvIdeal : Cert.ZProjQkvIdeal.Facts] [hZProjQkvReferenceIdeal : Cert.ZProjQkvReferenceIdeal.Facts] : Prop :=
  ∀ (m : (ℓ : Loc Cert.ZProjQkvIdeal.nD Cert.ZProjQkvIdeal.τ Cert.ZProjQkvIdeal.sig) → Buf (Elt Ideal) ℓ) (g : Dev Cert.ZProjQkvIdeal.nD → PrngReg)
    (m' : (ℓ : Loc Cert.ZProjQkvReferenceIdeal.nD Cert.ZProjQkvReferenceIdeal.τ Cert.ZProjQkvReferenceIdeal.sig) → Buf (Elt Ideal) ℓ) (g' : Dev Cert.ZProjQkvReferenceIdeal.nD → PrngReg), Pre_ZProjQkvIdeal m →
    (∀ c : Dev Cert.ZProjQkvIdeal.nD,
      m' ((c.tc : Thread Cert.ZProjQkvReferenceIdeal.nD Cert.ZProjQkvReferenceIdeal.τ).loc Cert.ZProjQkvReferenceIdeal.main_arg0) = m ((c.tc : Thread Cert.ZProjQkvIdeal.nD Cert.ZProjQkvIdeal.τ).loc Cert.ZProjQkvIdeal.main_arg0)
      ∧ m' ((c.tc : Thread Cert.ZProjQkvReferenceIdeal.nD Cert.ZProjQkvReferenceIdeal.τ).loc Cert.ZProjQkvReferenceIdeal.main_arg1) = m ((c.tc : Thread Cert.ZProjQkvIdeal.nD Cert.ZProjQkvIdeal.τ).loc Cert.ZProjQkvIdeal.main_arg1)) →
    ∃ (v0 : (c : Dev Cert.ZProjQkvIdeal.nD) → Buf (Elt Ideal) ((c.tc : Thread Cert.ZProjQkvIdeal.nD Cert.ZProjQkvIdeal.τ).loc Cert.ZProjQkvIdeal.main_v0)),
      θ_run (Cert.ZProjQkvIdeal.defs (F := Ideal)) (onTc (τ := Cert.ZProjQkvIdeal.τ) (Cert.ZProjQkvIdeal.main (F := Ideal))) ⟨m, fun _ => 0, g⟩ (fun r => ∀ c : Dev Cert.ZProjQkvIdeal.nD,
          r.2.mem ((c.tc : Thread Cert.ZProjQkvIdeal.nD Cert.ZProjQkvIdeal.τ).loc Cert.ZProjQkvIdeal.main_v0) = v0 c
          ∧ r.2.mem ((c.tc : Thread Cert.ZProjQkvIdeal.nD Cert.ZProjQkvIdeal.τ).loc Cert.ZProjQkvIdeal.main_arg0) = m ((c.tc : Thread Cert.ZProjQkvIdeal.nD Cert.ZProjQkvIdeal.τ).loc Cert.ZProjQkvIdeal.main_arg0)
          ∧ r.2.mem ((c.tc : Thread Cert.ZProjQkvIdeal.nD Cert.ZProjQkvIdeal.τ).loc Cert.ZProjQkvIdeal.main_arg1) = m ((c.tc : Thread Cert.ZProjQkvIdeal.nD Cert.ZProjQkvIdeal.τ).loc Cert.ZProjQkvIdeal.main_arg1))
      ∧ θ_run (Cert.ZProjQkvReferenceIdeal.defs (F := Ideal)) (onTc (τ := Cert.ZProjQkvReferenceIdeal.τ) (Cert.ZProjQkvReferenceIdeal.main (F := Ideal))) ⟨m', fun _ => 0, g'⟩ (fun r => ∀ c : Dev Cert.ZProjQkvReferenceIdeal.nD,
          r.2.mem ((c.tc : Thread Cert.ZProjQkvReferenceIdeal.nD Cert.ZProjQkvReferenceIdeal.τ).loc Cert.ZProjQkvReferenceIdeal.main_v4) = v0 c
          ∧ r.2.mem ((c.tc : Thread Cert.ZProjQkvReferenceIdeal.nD Cert.ZProjQkvReferenceIdeal.τ).loc Cert.ZProjQkvReferenceIdeal.main_arg0) = m' ((c.tc : Thread Cert.ZProjQkvReferenceIdeal.nD Cert.ZProjQkvReferenceIdeal.τ).loc Cert.ZProjQkvReferenceIdeal.main_arg0)
          ∧ r.2.mem ((c.tc : Thread Cert.ZProjQkvReferenceIdeal.nD Cert.ZProjQkvReferenceIdeal.τ).loc Cert.ZProjQkvReferenceIdeal.main_arg1) = m' ((c.tc : Thread Cert.ZProjQkvReferenceIdeal.nD Cert.ZProjQkvReferenceIdeal.τ).loc Cert.ZProjQkvReferenceIdeal.main_arg1))

def preserves_ZProjRest_ZProjRestIdeal : Prop :=
  True

def algebraic_ZProjRestIdeal_ZProjRestReferenceIdeal [hZProjRestIdeal : Cert.ZProjRestIdeal.Facts] [hZProjRestReferenceIdeal : Cert.ZProjRestReferenceIdeal.Facts] : Prop :=
  ∀ (m : (ℓ : Loc Cert.ZProjRestIdeal.nD Cert.ZProjRestIdeal.τ Cert.ZProjRestIdeal.sig) → Buf (Elt Ideal) ℓ) (g : Dev Cert.ZProjRestIdeal.nD → PrngReg)
    (m' : (ℓ : Loc Cert.ZProjRestReferenceIdeal.nD Cert.ZProjRestReferenceIdeal.τ Cert.ZProjRestReferenceIdeal.sig) → Buf (Elt Ideal) ℓ) (g' : Dev Cert.ZProjRestReferenceIdeal.nD → PrngReg), Pre_ZProjRestIdeal m →
    (∀ c : Dev Cert.ZProjRestIdeal.nD,
      m' ((c.tc : Thread Cert.ZProjRestReferenceIdeal.nD Cert.ZProjRestReferenceIdeal.τ).loc Cert.ZProjRestReferenceIdeal.main_arg0) = m ((c.tc : Thread Cert.ZProjRestIdeal.nD Cert.ZProjRestIdeal.τ).loc Cert.ZProjRestIdeal.main_arg0)
      ∧ m' ((c.tc : Thread Cert.ZProjRestReferenceIdeal.nD Cert.ZProjRestReferenceIdeal.τ).loc Cert.ZProjRestReferenceIdeal.main_arg1) = m ((c.tc : Thread Cert.ZProjRestIdeal.nD Cert.ZProjRestIdeal.τ).loc Cert.ZProjRestIdeal.main_arg1)) →
    ∃ (v0 : (c : Dev Cert.ZProjRestIdeal.nD) → Buf (Elt Ideal) ((c.tc : Thread Cert.ZProjRestIdeal.nD Cert.ZProjRestIdeal.τ).loc Cert.ZProjRestIdeal.main_v0)),
      θ_run (Cert.ZProjRestIdeal.defs (F := Ideal)) (onTc (τ := Cert.ZProjRestIdeal.τ) (Cert.ZProjRestIdeal.main (F := Ideal))) ⟨m, fun _ => 0, g⟩ (fun r => ∀ c : Dev Cert.ZProjRestIdeal.nD,
          r.2.mem ((c.tc : Thread Cert.ZProjRestIdeal.nD Cert.ZProjRestIdeal.τ).loc Cert.ZProjRestIdeal.main_v0) = v0 c
          ∧ r.2.mem ((c.tc : Thread Cert.ZProjRestIdeal.nD Cert.ZProjRestIdeal.τ).loc Cert.ZProjRestIdeal.main_arg0) = m ((c.tc : Thread Cert.ZProjRestIdeal.nD Cert.ZProjRestIdeal.τ).loc Cert.ZProjRestIdeal.main_arg0)
          ∧ r.2.mem ((c.tc : Thread Cert.ZProjRestIdeal.nD Cert.ZProjRestIdeal.τ).loc Cert.ZProjRestIdeal.main_arg1) = m ((c.tc : Thread Cert.ZProjRestIdeal.nD Cert.ZProjRestIdeal.τ).loc Cert.ZProjRestIdeal.main_arg1))
      ∧ θ_run (Cert.ZProjRestReferenceIdeal.defs (F := Ideal)) (onTc (τ := Cert.ZProjRestReferenceIdeal.τ) (Cert.ZProjRestReferenceIdeal.main (F := Ideal))) ⟨m', fun _ => 0, g'⟩ (fun r => ∀ c : Dev Cert.ZProjRestReferenceIdeal.nD,
          r.2.mem ((c.tc : Thread Cert.ZProjRestReferenceIdeal.nD Cert.ZProjRestReferenceIdeal.τ).loc Cert.ZProjRestReferenceIdeal.main_v3) = v0 c
          ∧ r.2.mem ((c.tc : Thread Cert.ZProjRestReferenceIdeal.nD Cert.ZProjRestReferenceIdeal.τ).loc Cert.ZProjRestReferenceIdeal.main_arg0) = m' ((c.tc : Thread Cert.ZProjRestReferenceIdeal.nD Cert.ZProjRestReferenceIdeal.τ).loc Cert.ZProjRestReferenceIdeal.main_arg0)
          ∧ r.2.mem ((c.tc : Thread Cert.ZProjRestReferenceIdeal.nD Cert.ZProjRestReferenceIdeal.τ).loc Cert.ZProjRestReferenceIdeal.main_arg1) = m' ((c.tc : Thread Cert.ZProjRestReferenceIdeal.nD Cert.ZProjRestReferenceIdeal.τ).loc Cert.ZProjRestReferenceIdeal.main_arg1))

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v8) = v0 c
          ∧ r.2.mem ((c.tc : Thread Cert.FfnInReferenceIdeal.nD Cert.FfnInReferenceIdeal.τ).loc Cert.FfnInReferenceIdeal.main_v11) = v1 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v2) = v0 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1))

def preserves_BranchAttDw_BranchAttDwIdeal : Prop :=
  True

def algebraic_BranchAttDwIdeal_BranchAttDwReferenceIdeal [hBranchAttDwIdeal : Cert.BranchAttDwIdeal.Facts] [hBranchAttDwReferenceIdeal : Cert.BranchAttDwReferenceIdeal.Facts] : Prop :=
  ∀ (m : (ℓ : Loc Cert.BranchAttDwIdeal.nD Cert.BranchAttDwIdeal.τ Cert.BranchAttDwIdeal.sig) → Buf (Elt Ideal) ℓ) (g : Dev Cert.BranchAttDwIdeal.nD → PrngReg)
    (m' : (ℓ : Loc Cert.BranchAttDwReferenceIdeal.nD Cert.BranchAttDwReferenceIdeal.τ Cert.BranchAttDwReferenceIdeal.sig) → Buf (Elt Ideal) ℓ) (g' : Dev Cert.BranchAttDwReferenceIdeal.nD → PrngReg), Pre_BranchAttDwIdeal m →
    (∀ c : Dev Cert.BranchAttDwIdeal.nD,
      m' ((c.tc : Thread Cert.BranchAttDwReferenceIdeal.nD Cert.BranchAttDwReferenceIdeal.τ).loc Cert.BranchAttDwReferenceIdeal.main_arg0) = m ((c.tc : Thread Cert.BranchAttDwIdeal.nD Cert.BranchAttDwIdeal.τ).loc Cert.BranchAttDwIdeal.main_arg0)
      ∧ m' ((c.tc : Thread Cert.BranchAttDwReferenceIdeal.nD Cert.BranchAttDwReferenceIdeal.τ).loc Cert.BranchAttDwReferenceIdeal.main_arg1) = m ((c.tc : Thread Cert.BranchAttDwIdeal.nD Cert.BranchAttDwIdeal.τ).loc Cert.BranchAttDwIdeal.main_arg1)) →
    ∃ (v0 : (c : Dev Cert.BranchAttDwIdeal.nD) → Buf (Elt Ideal) ((c.tc : Thread Cert.BranchAttDwIdeal.nD Cert.BranchAttDwIdeal.τ).loc Cert.BranchAttDwIdeal.main_v0)),
      θ_run (Cert.BranchAttDwIdeal.defs (F := Ideal)) (onTc (τ := Cert.BranchAttDwIdeal.τ) (Cert.BranchAttDwIdeal.main (F := Ideal))) ⟨m, fun _ => 0, g⟩ (fun r => ∀ c : Dev Cert.BranchAttDwIdeal.nD,
          r.2.mem ((c.tc : Thread Cert.BranchAttDwIdeal.nD Cert.BranchAttDwIdeal.τ).loc Cert.BranchAttDwIdeal.main_v0) = v0 c
          ∧ r.2.mem ((c.tc : Thread Cert.BranchAttDwIdeal.nD Cert.BranchAttDwIdeal.τ).loc Cert.BranchAttDwIdeal.main_arg0) = m ((c.tc : Thread Cert.BranchAttDwIdeal.nD Cert.BranchAttDwIdeal.τ).loc Cert.BranchAttDwIdeal.main_arg0)
          ∧ r.2.mem ((c.tc : Thread Cert.BranchAttDwIdeal.nD Cert.BranchAttDwIdeal.τ).loc Cert.BranchAttDwIdeal.main_arg1) = m ((c.tc : Thread Cert.BranchAttDwIdeal.nD Cert.BranchAttDwIdeal.τ).loc Cert.BranchAttDwIdeal.main_arg1))
      ∧ θ_run (Cert.BranchAttDwReferenceIdeal.defs (F := Ideal)) (onTc (τ := Cert.BranchAttDwReferenceIdeal.τ) (Cert.BranchAttDwReferenceIdeal.main (F := Ideal))) ⟨m', fun _ => 0, g'⟩ (fun r => ∀ c : Dev Cert.BranchAttDwReferenceIdeal.nD,
          r.2.mem ((c.tc : Thread Cert.BranchAttDwReferenceIdeal.nD Cert.BranchAttDwReferenceIdeal.τ).loc Cert.BranchAttDwReferenceIdeal.main_v6) = v0 c
          ∧ r.2.mem ((c.tc : Thread Cert.BranchAttDwReferenceIdeal.nD Cert.BranchAttDwReferenceIdeal.τ).loc Cert.BranchAttDwReferenceIdeal.main_arg0) = m' ((c.tc : Thread Cert.BranchAttDwReferenceIdeal.nD Cert.BranchAttDwReferenceIdeal.τ).loc Cert.BranchAttDwReferenceIdeal.main_arg0)
          ∧ r.2.mem ((c.tc : Thread Cert.BranchAttDwReferenceIdeal.nD Cert.BranchAttDwReferenceIdeal.τ).loc Cert.BranchAttDwReferenceIdeal.main_arg1) = m' ((c.tc : Thread Cert.BranchAttDwReferenceIdeal.nD Cert.BranchAttDwReferenceIdeal.τ).loc Cert.BranchAttDwReferenceIdeal.main_arg1))

def preserves_BranchRnnDw_BranchRnnDwIdeal : Prop :=
  True

def algebraic_BranchRnnDwIdeal_BranchRnnDwReferenceIdeal [hBranchRnnDwIdeal : Cert.BranchRnnDwIdeal.Facts] [hBranchRnnDwReferenceIdeal : Cert.BranchRnnDwReferenceIdeal.Facts] : Prop :=
  ∀ (m : (ℓ : Loc Cert.BranchRnnDwIdeal.nD Cert.BranchRnnDwIdeal.τ Cert.BranchRnnDwIdeal.sig) → Buf (Elt Ideal) ℓ) (g : Dev Cert.BranchRnnDwIdeal.nD → PrngReg)
    (m' : (ℓ : Loc Cert.BranchRnnDwReferenceIdeal.nD Cert.BranchRnnDwReferenceIdeal.τ Cert.BranchRnnDwReferenceIdeal.sig) → Buf (Elt Ideal) ℓ) (g' : Dev Cert.BranchRnnDwReferenceIdeal.nD → PrngReg), Pre_BranchRnnDwIdeal m →
    (∀ c : Dev Cert.BranchRnnDwIdeal.nD,
      m' ((c.tc : Thread Cert.BranchRnnDwReferenceIdeal.nD Cert.BranchRnnDwReferenceIdeal.τ).loc Cert.BranchRnnDwReferenceIdeal.main_arg0) = m ((c.tc : Thread Cert.BranchRnnDwIdeal.nD Cert.BranchRnnDwIdeal.τ).loc Cert.BranchRnnDwIdeal.main_arg0)
      ∧ m' ((c.tc : Thread Cert.BranchRnnDwReferenceIdeal.nD Cert.BranchRnnDwReferenceIdeal.τ).loc Cert.BranchRnnDwReferenceIdeal.main_arg1) = m ((c.tc : Thread Cert.BranchRnnDwIdeal.nD Cert.BranchRnnDwIdeal.τ).loc Cert.BranchRnnDwIdeal.main_arg1)) →
    ∃ (v0 : (c : Dev Cert.BranchRnnDwIdeal.nD) → Buf (Elt Ideal) ((c.tc : Thread Cert.BranchRnnDwIdeal.nD Cert.BranchRnnDwIdeal.τ).loc Cert.BranchRnnDwIdeal.main_v0)),
      θ_run (Cert.BranchRnnDwIdeal.defs (F := Ideal)) (onTc (τ := Cert.BranchRnnDwIdeal.τ) (Cert.BranchRnnDwIdeal.main (F := Ideal))) ⟨m, fun _ => 0, g⟩ (fun r => ∀ c : Dev Cert.BranchRnnDwIdeal.nD,
          r.2.mem ((c.tc : Thread Cert.BranchRnnDwIdeal.nD Cert.BranchRnnDwIdeal.τ).loc Cert.BranchRnnDwIdeal.main_v0) = v0 c
          ∧ r.2.mem ((c.tc : Thread Cert.BranchRnnDwIdeal.nD Cert.BranchRnnDwIdeal.τ).loc Cert.BranchRnnDwIdeal.main_arg0) = m ((c.tc : Thread Cert.BranchRnnDwIdeal.nD Cert.BranchRnnDwIdeal.τ).loc Cert.BranchRnnDwIdeal.main_arg0)
          ∧ r.2.mem ((c.tc : Thread Cert.BranchRnnDwIdeal.nD Cert.BranchRnnDwIdeal.τ).loc Cert.BranchRnnDwIdeal.main_arg1) = m ((c.tc : Thread Cert.BranchRnnDwIdeal.nD Cert.BranchRnnDwIdeal.τ).loc Cert.BranchRnnDwIdeal.main_arg1))
      ∧ θ_run (Cert.BranchRnnDwReferenceIdeal.defs (F := Ideal)) (onTc (τ := Cert.BranchRnnDwReferenceIdeal.τ) (Cert.BranchRnnDwReferenceIdeal.main (F := Ideal))) ⟨m', fun _ => 0, g'⟩ (fun r => ∀ c : Dev Cert.BranchRnnDwReferenceIdeal.nD,
          r.2.mem ((c.tc : Thread Cert.BranchRnnDwReferenceIdeal.nD Cert.BranchRnnDwReferenceIdeal.τ).loc Cert.BranchRnnDwReferenceIdeal.main_v6) = v0 c
          ∧ r.2.mem ((c.tc : Thread Cert.BranchRnnDwReferenceIdeal.nD Cert.BranchRnnDwReferenceIdeal.τ).loc Cert.BranchRnnDwReferenceIdeal.main_arg0) = m' ((c.tc : Thread Cert.BranchRnnDwReferenceIdeal.nD Cert.BranchRnnDwReferenceIdeal.τ).loc Cert.BranchRnnDwReferenceIdeal.main_arg0)
          ∧ r.2.mem ((c.tc : Thread Cert.BranchRnnDwReferenceIdeal.nD Cert.BranchRnnDwReferenceIdeal.τ).loc Cert.BranchRnnDwReferenceIdeal.main_arg1) = m' ((c.tc : Thread Cert.BranchRnnDwReferenceIdeal.nD Cert.BranchRnnDwReferenceIdeal.τ).loc Cert.BranchRnnDwReferenceIdeal.main_arg1))

def preserves_PleGateDw_PleGateDwIdeal : Prop :=
  True

def algebraic_PleGateDwIdeal_PleGateDwReferenceIdeal [hPleGateDwIdeal : Cert.PleGateDwIdeal.Facts] [hPleGateDwReferenceIdeal : Cert.PleGateDwReferenceIdeal.Facts] : Prop :=
  ∀ (m : (ℓ : Loc Cert.PleGateDwIdeal.nD Cert.PleGateDwIdeal.τ Cert.PleGateDwIdeal.sig) → Buf (Elt Ideal) ℓ) (g : Dev Cert.PleGateDwIdeal.nD → PrngReg)
    (m' : (ℓ : Loc Cert.PleGateDwReferenceIdeal.nD Cert.PleGateDwReferenceIdeal.τ Cert.PleGateDwReferenceIdeal.sig) → Buf (Elt Ideal) ℓ) (g' : Dev Cert.PleGateDwReferenceIdeal.nD → PrngReg), Pre_PleGateDwIdeal m →
    (∀ c : Dev Cert.PleGateDwIdeal.nD,
      m' ((c.tc : Thread Cert.PleGateDwReferenceIdeal.nD Cert.PleGateDwReferenceIdeal.τ).loc Cert.PleGateDwReferenceIdeal.main_arg0) = m ((c.tc : Thread Cert.PleGateDwIdeal.nD Cert.PleGateDwIdeal.τ).loc Cert.PleGateDwIdeal.main_arg0)
      ∧ m' ((c.tc : Thread Cert.PleGateDwReferenceIdeal.nD Cert.PleGateDwReferenceIdeal.τ).loc Cert.PleGateDwReferenceIdeal.main_arg1) = m ((c.tc : Thread Cert.PleGateDwIdeal.nD Cert.PleGateDwIdeal.τ).loc Cert.PleGateDwIdeal.main_arg1)) →
    ∃ (v0 : (c : Dev Cert.PleGateDwIdeal.nD) → Buf (Elt Ideal) ((c.tc : Thread Cert.PleGateDwIdeal.nD Cert.PleGateDwIdeal.τ).loc Cert.PleGateDwIdeal.main_v0)),
      θ_run (Cert.PleGateDwIdeal.defs (F := Ideal)) (onTc (τ := Cert.PleGateDwIdeal.τ) (Cert.PleGateDwIdeal.main (F := Ideal))) ⟨m, fun _ => 0, g⟩ (fun r => ∀ c : Dev Cert.PleGateDwIdeal.nD,
          r.2.mem ((c.tc : Thread Cert.PleGateDwIdeal.nD Cert.PleGateDwIdeal.τ).loc Cert.PleGateDwIdeal.main_v0) = v0 c
          ∧ r.2.mem ((c.tc : Thread Cert.PleGateDwIdeal.nD Cert.PleGateDwIdeal.τ).loc Cert.PleGateDwIdeal.main_arg0) = m ((c.tc : Thread Cert.PleGateDwIdeal.nD Cert.PleGateDwIdeal.τ).loc Cert.PleGateDwIdeal.main_arg0)
          ∧ r.2.mem ((c.tc : Thread Cert.PleGateDwIdeal.nD Cert.PleGateDwIdeal.τ).loc Cert.PleGateDwIdeal.main_arg1) = m ((c.tc : Thread Cert.PleGateDwIdeal.nD Cert.PleGateDwIdeal.τ).loc Cert.PleGateDwIdeal.main_arg1))
      ∧ θ_run (Cert.PleGateDwReferenceIdeal.defs (F := Ideal)) (onTc (τ := Cert.PleGateDwReferenceIdeal.τ) (Cert.PleGateDwReferenceIdeal.main (F := Ideal))) ⟨m', fun _ => 0, g'⟩ (fun r => ∀ c : Dev Cert.PleGateDwReferenceIdeal.nD,
          r.2.mem ((c.tc : Thread Cert.PleGateDwReferenceIdeal.nD Cert.PleGateDwReferenceIdeal.τ).loc Cert.PleGateDwReferenceIdeal.main_v6) = v0 c
          ∧ r.2.mem ((c.tc : Thread Cert.PleGateDwReferenceIdeal.nD Cert.PleGateDwReferenceIdeal.τ).loc Cert.PleGateDwReferenceIdeal.main_arg0) = m' ((c.tc : Thread Cert.PleGateDwReferenceIdeal.nD Cert.PleGateDwReferenceIdeal.τ).loc Cert.PleGateDwReferenceIdeal.main_arg0)
          ∧ r.2.mem ((c.tc : Thread Cert.PleGateDwReferenceIdeal.nD Cert.PleGateDwReferenceIdeal.τ).loc Cert.PleGateDwReferenceIdeal.main_arg1) = m' ((c.tc : Thread Cert.PleGateDwReferenceIdeal.nD Cert.PleGateDwReferenceIdeal.τ).loc Cert.PleGateDwReferenceIdeal.main_arg1))

def preserves_BranchRnnDx_BranchRnnDxIdeal : Prop :=
  True

def algebraic_BranchRnnDxIdeal_BranchRnnDxReferenceIdeal [hBranchRnnDxIdeal : Cert.BranchRnnDxIdeal.Facts] [hBranchRnnDxReferenceIdeal : Cert.BranchRnnDxReferenceIdeal.Facts] : Prop :=
  ∀ (m : (ℓ : Loc Cert.BranchRnnDxIdeal.nD Cert.BranchRnnDxIdeal.τ Cert.BranchRnnDxIdeal.sig) → Buf (Elt Ideal) ℓ) (g : Dev Cert.BranchRnnDxIdeal.nD → PrngReg)
    (m' : (ℓ : Loc Cert.BranchRnnDxReferenceIdeal.nD Cert.BranchRnnDxReferenceIdeal.τ Cert.BranchRnnDxReferenceIdeal.sig) → Buf (Elt Ideal) ℓ) (g' : Dev Cert.BranchRnnDxReferenceIdeal.nD → PrngReg), Pre_BranchRnnDxIdeal m →
    (∀ c : Dev Cert.BranchRnnDxIdeal.nD,
      m' ((c.tc : Thread Cert.BranchRnnDxReferenceIdeal.nD Cert.BranchRnnDxReferenceIdeal.τ).loc Cert.BranchRnnDxReferenceIdeal.main_arg0) = m ((c.tc : Thread Cert.BranchRnnDxIdeal.nD Cert.BranchRnnDxIdeal.τ).loc Cert.BranchRnnDxIdeal.main_arg0)
      ∧ m' ((c.tc : Thread Cert.BranchRnnDxReferenceIdeal.nD Cert.BranchRnnDxReferenceIdeal.τ).loc Cert.BranchRnnDxReferenceIdeal.main_arg1) = m ((c.tc : Thread Cert.BranchRnnDxIdeal.nD Cert.BranchRnnDxIdeal.τ).loc Cert.BranchRnnDxIdeal.main_arg1)) →
    ∃ (v0 : (c : Dev Cert.BranchRnnDxIdeal.nD) → Buf (Elt Ideal) ((c.tc : Thread Cert.BranchRnnDxIdeal.nD Cert.BranchRnnDxIdeal.τ).loc Cert.BranchRnnDxIdeal.main_v0)),
      θ_run (Cert.BranchRnnDxIdeal.defs (F := Ideal)) (onTc (τ := Cert.BranchRnnDxIdeal.τ) (Cert.BranchRnnDxIdeal.main (F := Ideal))) ⟨m, fun _ => 0, g⟩ (fun r => ∀ c : Dev Cert.BranchRnnDxIdeal.nD,
          r.2.mem ((c.tc : Thread Cert.BranchRnnDxIdeal.nD Cert.BranchRnnDxIdeal.τ).loc Cert.BranchRnnDxIdeal.main_v0) = v0 c
          ∧ r.2.mem ((c.tc : Thread Cert.BranchRnnDxIdeal.nD Cert.BranchRnnDxIdeal.τ).loc Cert.BranchRnnDxIdeal.main_arg0) = m ((c.tc : Thread Cert.BranchRnnDxIdeal.nD Cert.BranchRnnDxIdeal.τ).loc Cert.BranchRnnDxIdeal.main_arg0)
          ∧ r.2.mem ((c.tc : Thread Cert.BranchRnnDxIdeal.nD Cert.BranchRnnDxIdeal.τ).loc Cert.BranchRnnDxIdeal.main_arg1) = m ((c.tc : Thread Cert.BranchRnnDxIdeal.nD Cert.BranchRnnDxIdeal.τ).loc Cert.BranchRnnDxIdeal.main_arg1))
      ∧ θ_run (Cert.BranchRnnDxReferenceIdeal.defs (F := Ideal)) (onTc (τ := Cert.BranchRnnDxReferenceIdeal.τ) (Cert.BranchRnnDxReferenceIdeal.main (F := Ideal))) ⟨m', fun _ => 0, g'⟩ (fun r => ∀ c : Dev Cert.BranchRnnDxReferenceIdeal.nD,
          r.2.mem ((c.tc : Thread Cert.BranchRnnDxReferenceIdeal.nD Cert.BranchRnnDxReferenceIdeal.τ).loc Cert.BranchRnnDxReferenceIdeal.main_v4) = v0 c
          ∧ r.2.mem ((c.tc : Thread Cert.BranchRnnDxReferenceIdeal.nD Cert.BranchRnnDxReferenceIdeal.τ).loc Cert.BranchRnnDxReferenceIdeal.main_arg0) = m' ((c.tc : Thread Cert.BranchRnnDxReferenceIdeal.nD Cert.BranchRnnDxReferenceIdeal.τ).loc Cert.BranchRnnDxReferenceIdeal.main_arg0)
          ∧ r.2.mem ((c.tc : Thread Cert.BranchRnnDxReferenceIdeal.nD Cert.BranchRnnDxReferenceIdeal.τ).loc Cert.BranchRnnDxReferenceIdeal.main_arg1) = m' ((c.tc : Thread Cert.BranchRnnDxReferenceIdeal.nD Cert.BranchRnnDxReferenceIdeal.τ).loc Cert.BranchRnnDxReferenceIdeal.main_arg1))

def preserves_PleGateDx_PleGateDxIdeal : Prop :=
  True

def algebraic_PleGateDxIdeal_PleGateDxReferenceIdeal [hPleGateDxIdeal : Cert.PleGateDxIdeal.Facts] [hPleGateDxReferenceIdeal : Cert.PleGateDxReferenceIdeal.Facts] : Prop :=
  ∀ (m : (ℓ : Loc Cert.PleGateDxIdeal.nD Cert.PleGateDxIdeal.τ Cert.PleGateDxIdeal.sig) → Buf (Elt Ideal) ℓ) (g : Dev Cert.PleGateDxIdeal.nD → PrngReg)
    (m' : (ℓ : Loc Cert.PleGateDxReferenceIdeal.nD Cert.PleGateDxReferenceIdeal.τ Cert.PleGateDxReferenceIdeal.sig) → Buf (Elt Ideal) ℓ) (g' : Dev Cert.PleGateDxReferenceIdeal.nD → PrngReg), Pre_PleGateDxIdeal m →
    (∀ c : Dev Cert.PleGateDxIdeal.nD,
      m' ((c.tc : Thread Cert.PleGateDxReferenceIdeal.nD Cert.PleGateDxReferenceIdeal.τ).loc Cert.PleGateDxReferenceIdeal.main_arg0) = m ((c.tc : Thread Cert.PleGateDxIdeal.nD Cert.PleGateDxIdeal.τ).loc Cert.PleGateDxIdeal.main_arg0)
      ∧ m' ((c.tc : Thread Cert.PleGateDxReferenceIdeal.nD Cert.PleGateDxReferenceIdeal.τ).loc Cert.PleGateDxReferenceIdeal.main_arg1) = m ((c.tc : Thread Cert.PleGateDxIdeal.nD Cert.PleGateDxIdeal.τ).loc Cert.PleGateDxIdeal.main_arg1)) →
    ∃ (v0 : (c : Dev Cert.PleGateDxIdeal.nD) → Buf (Elt Ideal) ((c.tc : Thread Cert.PleGateDxIdeal.nD Cert.PleGateDxIdeal.τ).loc Cert.PleGateDxIdeal.main_v0)),
      θ_run (Cert.PleGateDxIdeal.defs (F := Ideal)) (onTc (τ := Cert.PleGateDxIdeal.τ) (Cert.PleGateDxIdeal.main (F := Ideal))) ⟨m, fun _ => 0, g⟩ (fun r => ∀ c : Dev Cert.PleGateDxIdeal.nD,
          r.2.mem ((c.tc : Thread Cert.PleGateDxIdeal.nD Cert.PleGateDxIdeal.τ).loc Cert.PleGateDxIdeal.main_v0) = v0 c
          ∧ r.2.mem ((c.tc : Thread Cert.PleGateDxIdeal.nD Cert.PleGateDxIdeal.τ).loc Cert.PleGateDxIdeal.main_arg0) = m ((c.tc : Thread Cert.PleGateDxIdeal.nD Cert.PleGateDxIdeal.τ).loc Cert.PleGateDxIdeal.main_arg0)
          ∧ r.2.mem ((c.tc : Thread Cert.PleGateDxIdeal.nD Cert.PleGateDxIdeal.τ).loc Cert.PleGateDxIdeal.main_arg1) = m ((c.tc : Thread Cert.PleGateDxIdeal.nD Cert.PleGateDxIdeal.τ).loc Cert.PleGateDxIdeal.main_arg1))
      ∧ θ_run (Cert.PleGateDxReferenceIdeal.defs (F := Ideal)) (onTc (τ := Cert.PleGateDxReferenceIdeal.τ) (Cert.PleGateDxReferenceIdeal.main (F := Ideal))) ⟨m', fun _ => 0, g'⟩ (fun r => ∀ c : Dev Cert.PleGateDxReferenceIdeal.nD,
          r.2.mem ((c.tc : Thread Cert.PleGateDxReferenceIdeal.nD Cert.PleGateDxReferenceIdeal.τ).loc Cert.PleGateDxReferenceIdeal.main_v4) = v0 c
          ∧ r.2.mem ((c.tc : Thread Cert.PleGateDxReferenceIdeal.nD Cert.PleGateDxReferenceIdeal.τ).loc Cert.PleGateDxReferenceIdeal.main_arg0) = m' ((c.tc : Thread Cert.PleGateDxReferenceIdeal.nD Cert.PleGateDxReferenceIdeal.τ).loc Cert.PleGateDxReferenceIdeal.main_arg0)
          ∧ r.2.mem ((c.tc : Thread Cert.PleGateDxReferenceIdeal.nD Cert.PleGateDxReferenceIdeal.τ).loc Cert.PleGateDxReferenceIdeal.main_arg1) = m' ((c.tc : Thread Cert.PleGateDxReferenceIdeal.nD Cert.PleGateDxReferenceIdeal.τ).loc Cert.PleGateDxReferenceIdeal.main_arg1))

def preserves_BranchAtt_BranchAttIdeal : Prop :=
  True

def algebraic_BranchAttIdeal_BranchAttReferenceIdeal [hBranchAttIdeal : Cert.BranchAttIdeal.Facts] [hBranchAttReferenceIdeal : Cert.BranchAttReferenceIdeal.Facts] : Prop :=
  ∀ (m : (ℓ : Loc Cert.BranchAttIdeal.nD Cert.BranchAttIdeal.τ Cert.BranchAttIdeal.sig) → Buf (Elt Ideal) ℓ) (g : Dev Cert.BranchAttIdeal.nD → PrngReg)
    (m' : (ℓ : Loc Cert.BranchAttReferenceIdeal.nD Cert.BranchAttReferenceIdeal.τ Cert.BranchAttReferenceIdeal.sig) → Buf (Elt Ideal) ℓ) (g' : Dev Cert.BranchAttReferenceIdeal.nD → PrngReg), Pre_BranchAttIdeal m →
    (∀ c : Dev Cert.BranchAttIdeal.nD,
      m' ((c.tc : Thread Cert.BranchAttReferenceIdeal.nD Cert.BranchAttReferenceIdeal.τ).loc Cert.BranchAttReferenceIdeal.main_arg0) = m ((c.tc : Thread Cert.BranchAttIdeal.nD Cert.BranchAttIdeal.τ).loc Cert.BranchAttIdeal.main_arg0)
      ∧ m' ((c.tc : Thread Cert.BranchAttReferenceIdeal.nD Cert.BranchAttReferenceIdeal.τ).loc Cert.BranchAttReferenceIdeal.main_arg1) = m ((c.tc : Thread Cert.BranchAttIdeal.nD Cert.BranchAttIdeal.τ).loc Cert.BranchAttIdeal.main_arg1)) →
    ∃ (v0 : (c : Dev Cert.BranchAttIdeal.nD) → Buf (Elt Ideal) ((c.tc : Thread Cert.BranchAttIdeal.nD Cert.BranchAttIdeal.τ).loc Cert.BranchAttIdeal.main_v0)),
      θ_run (Cert.BranchAttIdeal.defs (F := Ideal)) (onTc (τ := Cert.BranchAttIdeal.τ) (Cert.BranchAttIdeal.main (F := Ideal))) ⟨m, fun _ => 0, g⟩ (fun r => ∀ c : Dev Cert.BranchAttIdeal.nD,
          r.2.mem ((c.tc : Thread Cert.BranchAttIdeal.nD Cert.BranchAttIdeal.τ).loc Cert.BranchAttIdeal.main_v0) = v0 c
          ∧ r.2.mem ((c.tc : Thread Cert.BranchAttIdeal.nD Cert.BranchAttIdeal.τ).loc Cert.BranchAttIdeal.main_arg0) = m ((c.tc : Thread Cert.BranchAttIdeal.nD Cert.BranchAttIdeal.τ).loc Cert.BranchAttIdeal.main_arg0)
          ∧ r.2.mem ((c.tc : Thread Cert.BranchAttIdeal.nD Cert.BranchAttIdeal.τ).loc Cert.BranchAttIdeal.main_arg1) = m ((c.tc : Thread Cert.BranchAttIdeal.nD Cert.BranchAttIdeal.τ).loc Cert.BranchAttIdeal.main_arg1))
      ∧ θ_run (Cert.BranchAttReferenceIdeal.defs (F := Ideal)) (onTc (τ := Cert.BranchAttReferenceIdeal.τ) (Cert.BranchAttReferenceIdeal.main (F := Ideal))) ⟨m', fun _ => 0, g'⟩ (fun r => ∀ c : Dev Cert.BranchAttReferenceIdeal.nD,
          r.2.mem ((c.tc : Thread Cert.BranchAttReferenceIdeal.nD Cert.BranchAttReferenceIdeal.τ).loc Cert.BranchAttReferenceIdeal.main_v2) = v0 c
          ∧ r.2.mem ((c.tc : Thread Cert.BranchAttReferenceIdeal.nD Cert.BranchAttReferenceIdeal.τ).loc Cert.BranchAttReferenceIdeal.main_arg0) = m' ((c.tc : Thread Cert.BranchAttReferenceIdeal.nD Cert.BranchAttReferenceIdeal.τ).loc Cert.BranchAttReferenceIdeal.main_arg0)
          ∧ r.2.mem ((c.tc : Thread Cert.BranchAttReferenceIdeal.nD Cert.BranchAttReferenceIdeal.τ).loc Cert.BranchAttReferenceIdeal.main_arg1) = m' ((c.tc : Thread Cert.BranchAttReferenceIdeal.nD Cert.BranchAttReferenceIdeal.τ).loc Cert.BranchAttReferenceIdeal.main_arg1))

def preserves_BranchRnn_BranchRnnIdeal : Prop :=
  True

def algebraic_BranchRnnIdeal_BranchRnnReferenceIdeal [hBranchRnnIdeal : Cert.BranchRnnIdeal.Facts] [hBranchRnnReferenceIdeal : Cert.BranchRnnReferenceIdeal.Facts] : Prop :=
  ∀ (m : (ℓ : Loc Cert.BranchRnnIdeal.nD Cert.BranchRnnIdeal.τ Cert.BranchRnnIdeal.sig) → Buf (Elt Ideal) ℓ) (g : Dev Cert.BranchRnnIdeal.nD → PrngReg)
    (m' : (ℓ : Loc Cert.BranchRnnReferenceIdeal.nD Cert.BranchRnnReferenceIdeal.τ Cert.BranchRnnReferenceIdeal.sig) → Buf (Elt Ideal) ℓ) (g' : Dev Cert.BranchRnnReferenceIdeal.nD → PrngReg), Pre_BranchRnnIdeal m →
    (∀ c : Dev Cert.BranchRnnIdeal.nD,
      m' ((c.tc : Thread Cert.BranchRnnReferenceIdeal.nD Cert.BranchRnnReferenceIdeal.τ).loc Cert.BranchRnnReferenceIdeal.main_arg0) = m ((c.tc : Thread Cert.BranchRnnIdeal.nD Cert.BranchRnnIdeal.τ).loc Cert.BranchRnnIdeal.main_arg0)
      ∧ m' ((c.tc : Thread Cert.BranchRnnReferenceIdeal.nD Cert.BranchRnnReferenceIdeal.τ).loc Cert.BranchRnnReferenceIdeal.main_arg1) = m ((c.tc : Thread Cert.BranchRnnIdeal.nD Cert.BranchRnnIdeal.τ).loc Cert.BranchRnnIdeal.main_arg1)) →
    ∃ (v0 : (c : Dev Cert.BranchRnnIdeal.nD) → Buf (Elt Ideal) ((c.tc : Thread Cert.BranchRnnIdeal.nD Cert.BranchRnnIdeal.τ).loc Cert.BranchRnnIdeal.main_v0)),
      θ_run (Cert.BranchRnnIdeal.defs (F := Ideal)) (onTc (τ := Cert.BranchRnnIdeal.τ) (Cert.BranchRnnIdeal.main (F := Ideal))) ⟨m, fun _ => 0, g⟩ (fun r => ∀ c : Dev Cert.BranchRnnIdeal.nD,
          r.2.mem ((c.tc : Thread Cert.BranchRnnIdeal.nD Cert.BranchRnnIdeal.τ).loc Cert.BranchRnnIdeal.main_v0) = v0 c
          ∧ r.2.mem ((c.tc : Thread Cert.BranchRnnIdeal.nD Cert.BranchRnnIdeal.τ).loc Cert.BranchRnnIdeal.main_arg0) = m ((c.tc : Thread Cert.BranchRnnIdeal.nD Cert.BranchRnnIdeal.τ).loc Cert.BranchRnnIdeal.main_arg0)
          ∧ r.2.mem ((c.tc : Thread Cert.BranchRnnIdeal.nD Cert.BranchRnnIdeal.τ).loc Cert.BranchRnnIdeal.main_arg1) = m ((c.tc : Thread Cert.BranchRnnIdeal.nD Cert.BranchRnnIdeal.τ).loc Cert.BranchRnnIdeal.main_arg1))
      ∧ θ_run (Cert.BranchRnnReferenceIdeal.defs (F := Ideal)) (onTc (τ := Cert.BranchRnnReferenceIdeal.τ) (Cert.BranchRnnReferenceIdeal.main (F := Ideal))) ⟨m', fun _ => 0, g'⟩ (fun r => ∀ c : Dev Cert.BranchRnnReferenceIdeal.nD,
          r.2.mem ((c.tc : Thread Cert.BranchRnnReferenceIdeal.nD Cert.BranchRnnReferenceIdeal.τ).loc Cert.BranchRnnReferenceIdeal.main_v2) = v0 c
          ∧ r.2.mem ((c.tc : Thread Cert.BranchRnnReferenceIdeal.nD Cert.BranchRnnReferenceIdeal.τ).loc Cert.BranchRnnReferenceIdeal.main_arg0) = m' ((c.tc : Thread Cert.BranchRnnReferenceIdeal.nD Cert.BranchRnnReferenceIdeal.τ).loc Cert.BranchRnnReferenceIdeal.main_arg0)
          ∧ r.2.mem ((c.tc : Thread Cert.BranchRnnReferenceIdeal.nD Cert.BranchRnnReferenceIdeal.τ).loc Cert.BranchRnnReferenceIdeal.main_arg1) = m' ((c.tc : Thread Cert.BranchRnnReferenceIdeal.nD Cert.BranchRnnReferenceIdeal.τ).loc Cert.BranchRnnReferenceIdeal.main_arg1))

def preserves_PleGate_PleGateIdeal : Prop :=
  True

def algebraic_PleGateIdeal_PleGateReferenceIdeal [hPleGateIdeal : Cert.PleGateIdeal.Facts] [hPleGateReferenceIdeal : Cert.PleGateReferenceIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateReferenceIdeal.nD Cert.PleGateReferenceIdeal.τ Cert.PleGateReferenceIdeal.sig) → Buf (Elt Ideal) ℓ) (g' : Dev Cert.PleGateReferenceIdeal.nD → PrngReg), Pre_PleGateIdeal m →
    (∀ c : Dev Cert.PleGateIdeal.nD,
      m' ((c.tc : Thread Cert.PleGateReferenceIdeal.nD Cert.PleGateReferenceIdeal.τ).loc Cert.PleGateReferenceIdeal.main_arg0) = m ((c.tc : Thread Cert.PleGateIdeal.nD Cert.PleGateIdeal.τ).loc Cert.PleGateIdeal.main_arg0)
      ∧ m' ((c.tc : Thread Cert.PleGateReferenceIdeal.nD Cert.PleGateReferenceIdeal.τ).loc Cert.PleGateReferenceIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v0)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateReferenceIdeal.defs (F := Ideal)) (onTc (τ := Cert.PleGateReferenceIdeal.τ) (Cert.PleGateReferenceIdeal.main (F := Ideal))) ⟨m', fun _ => 0, g'⟩ (fun r => ∀ c : Dev Cert.PleGateReferenceIdeal.nD,
          r.2.mem ((c.tc : Thread Cert.PleGateReferenceIdeal.nD Cert.PleGateReferenceIdeal.τ).loc Cert.PleGateReferenceIdeal.main_v2) = v0 c
          ∧ r.2.mem ((c.tc : Thread Cert.PleGateReferenceIdeal.nD Cert.PleGateReferenceIdeal.τ).loc Cert.PleGateReferenceIdeal.main_arg0) = m' ((c.tc : Thread Cert.PleGateReferenceIdeal.nD Cert.PleGateReferenceIdeal.τ).loc Cert.PleGateReferenceIdeal.main_arg0)
          ∧ r.2.mem ((c.tc : Thread Cert.PleGateReferenceIdeal.nD Cert.PleGateReferenceIdeal.τ).loc Cert.PleGateReferenceIdeal.main_arg1) = m' ((c.tc : Thread Cert.PleGateReferenceIdeal.nD Cert.PleGateReferenceIdeal.τ).loc Cert.PleGateReferenceIdeal.main_arg1))

def preserves_PleProj_PleProjIdeal : Prop :=
  True

def algebraic_PleProjIdeal_PleProjReferenceIdeal [hPleProjIdeal : Cert.PleProjIdeal.Facts] [hPleProjReferenceIdeal : Cert.PleProjReferenceIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjReferenceIdeal.nD Cert.PleProjReferenceIdeal.τ Cert.PleProjReferenceIdeal.sig) → Buf (Elt Ideal) ℓ) (g' : Dev Cert.PleProjReferenceIdeal.nD → PrngReg), Pre_PleProjIdeal m →
    (∀ c : Dev Cert.PleProjIdeal.nD,
      m' ((c.tc : Thread Cert.PleProjReferenceIdeal.nD Cert.PleProjReferenceIdeal.τ).loc Cert.PleProjReferenceIdeal.main_arg0) = m ((c.tc : Thread Cert.PleProjIdeal.nD Cert.PleProjIdeal.τ).loc Cert.PleProjIdeal.main_arg0)
      ∧ m' ((c.tc : Thread Cert.PleProjReferenceIdeal.nD Cert.PleProjReferenceIdeal.τ).loc Cert.PleProjReferenceIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjReferenceIdeal.defs (F := Ideal)) (onTc (τ := Cert.PleProjReferenceIdeal.τ) (Cert.PleProjReferenceIdeal.main (F := Ideal))) ⟨m', fun _ => 0, g'⟩ (fun r => ∀ c : Dev Cert.PleProjReferenceIdeal.nD,
          r.2.mem ((c.tc : Thread Cert.PleProjReferenceIdeal.nD Cert.PleProjReferenceIdeal.τ).loc Cert.PleProjReferenceIdeal.main_v2) = v0 c
          ∧ r.2.mem ((c.tc : Thread Cert.PleProjReferenceIdeal.nD Cert.PleProjReferenceIdeal.τ).loc Cert.PleProjReferenceIdeal.main_arg0) = m' ((c.tc : Thread Cert.PleProjReferenceIdeal.nD Cert.PleProjReferenceIdeal.τ).loc Cert.PleProjReferenceIdeal.main_arg0)
          ∧ r.2.mem ((c.tc : Thread Cert.PleProjReferenceIdeal.nD Cert.PleProjReferenceIdeal.τ).loc Cert.PleProjReferenceIdeal.main_arg1) = m' ((c.tc : Thread Cert.PleProjReferenceIdeal.nD Cert.PleProjReferenceIdeal.τ).loc Cert.PleProjReferenceIdeal.main_arg1))

def preserves_PleProjDw_PleProjDwIdeal : Prop :=
  True

def algebraic_PleProjDwIdeal_PleProjDwReferenceIdeal [hPleProjDwIdeal : Cert.PleProjDwIdeal.Facts] [hPleProjDwReferenceIdeal : Cert.PleProjDwReferenceIdeal.Facts] : Prop :=
  ∀ (m : (ℓ : Loc Cert.PleProjDwIdeal.nD Cert.PleProjDwIdeal.τ Cert.PleProjDwIdeal.sig) → Buf (Elt Ideal) ℓ) (g : Dev Cert.PleProjDwIdeal.nD → PrngReg)
    (m' : (ℓ : Loc Cert.PleProjDwReferenceIdeal.nD Cert.PleProjDwReferenceIdeal.τ Cert.PleProjDwReferenceIdeal.sig) → Buf (Elt Ideal) ℓ) (g' : Dev Cert.PleProjDwReferenceIdeal.nD → PrngReg), Pre_PleProjDwIdeal m →
    (∀ c : Dev Cert.PleProjDwIdeal.nD,
      m' ((c.tc : Thread Cert.PleProjDwReferenceIdeal.nD Cert.PleProjDwReferenceIdeal.τ).loc Cert.PleProjDwReferenceIdeal.main_arg0) = m ((c.tc : Thread Cert.PleProjDwIdeal.nD Cert.PleProjDwIdeal.τ).loc Cert.PleProjDwIdeal.main_arg0)
      ∧ m' ((c.tc : Thread Cert.PleProjDwReferenceIdeal.nD Cert.PleProjDwReferenceIdeal.τ).loc Cert.PleProjDwReferenceIdeal.main_arg1) = m ((c.tc : Thread Cert.PleProjDwIdeal.nD Cert.PleProjDwIdeal.τ).loc Cert.PleProjDwIdeal.main_arg1)) →
    ∃ (v0 : (c : Dev Cert.PleProjDwIdeal.nD) → Buf (Elt Ideal) ((c.tc : Thread Cert.PleProjDwIdeal.nD Cert.PleProjDwIdeal.τ).loc Cert.PleProjDwIdeal.main_v0)),
      θ_run (Cert.PleProjDwIdeal.defs (F := Ideal)) (onTc (τ := Cert.PleProjDwIdeal.τ) (Cert.PleProjDwIdeal.main (F := Ideal))) ⟨m, fun _ => 0, g⟩ (fun r => ∀ c : Dev Cert.PleProjDwIdeal.nD,
          r.2.mem ((c.tc : Thread Cert.PleProjDwIdeal.nD Cert.PleProjDwIdeal.τ).loc Cert.PleProjDwIdeal.main_v0) = v0 c
          ∧ r.2.mem ((c.tc : Thread Cert.PleProjDwIdeal.nD Cert.PleProjDwIdeal.τ).loc Cert.PleProjDwIdeal.main_arg0) = m ((c.tc : Thread Cert.PleProjDwIdeal.nD Cert.PleProjDwIdeal.τ).loc Cert.PleProjDwIdeal.main_arg0)
          ∧ r.2.mem ((c.tc : Thread Cert.PleProjDwIdeal.nD Cert.PleProjDwIdeal.τ).loc Cert.PleProjDwIdeal.main_arg1) = m ((c.tc : Thread Cert.PleProjDwIdeal.nD Cert.PleProjDwIdeal.τ).loc Cert.PleProjDwIdeal.main_arg1))
      ∧ θ_run (Cert.PleProjDwReferenceIdeal.defs (F := Ideal)) (onTc (τ := Cert.PleProjDwReferenceIdeal.τ) (Cert.PleProjDwReferenceIdeal.main (F := Ideal))) ⟨m', fun _ => 0, g'⟩ (fun r => ∀ c : Dev Cert.PleProjDwReferenceIdeal.nD,
          r.2.mem ((c.tc : Thread Cert.PleProjDwReferenceIdeal.nD Cert.PleProjDwReferenceIdeal.τ).loc Cert.PleProjDwReferenceIdeal.main_v6) = v0 c
          ∧ r.2.mem ((c.tc : Thread Cert.PleProjDwReferenceIdeal.nD Cert.PleProjDwReferenceIdeal.τ).loc Cert.PleProjDwReferenceIdeal.main_arg0) = m' ((c.tc : Thread Cert.PleProjDwReferenceIdeal.nD Cert.PleProjDwReferenceIdeal.τ).loc Cert.PleProjDwReferenceIdeal.main_arg0)
          ∧ r.2.mem ((c.tc : Thread Cert.PleProjDwReferenceIdeal.nD Cert.PleProjDwReferenceIdeal.τ).loc Cert.PleProjDwReferenceIdeal.main_arg1) = m' ((c.tc : Thread Cert.PleProjDwReferenceIdeal.nD Cert.PleProjDwReferenceIdeal.τ).loc Cert.PleProjDwReferenceIdeal.main_arg1))

def preserves_FProj_FProjIdeal : Prop :=
  True

def algebraic_FProjIdeal_FProjReferenceIdeal [hFProjIdeal : Cert.FProjIdeal.Facts] [hFProjReferenceIdeal : Cert.FProjReferenceIdeal.Facts] : Prop :=
  ∀ (m : (ℓ : Loc Cert.FProjIdeal.nD Cert.FProjIdeal.τ Cert.FProjIdeal.sig) → Buf (Elt Ideal) ℓ) (g : Dev Cert.FProjIdeal.nD → PrngReg)
    (m' : (ℓ : Loc Cert.FProjReferenceIdeal.nD Cert.FProjReferenceIdeal.τ Cert.FProjReferenceIdeal.sig) → Buf (Elt Ideal) ℓ) (g' : Dev Cert.FProjReferenceIdeal.nD → PrngReg), Pre_FProjIdeal m →
    (∀ c : Dev Cert.FProjIdeal.nD,
      m' ((c.tc : Thread Cert.FProjReferenceIdeal.nD Cert.FProjReferenceIdeal.τ).loc Cert.FProjReferenceIdeal.main_arg0) = m ((c.tc : Thread Cert.FProjIdeal.nD Cert.FProjIdeal.τ).loc Cert.FProjIdeal.main_arg0)
      ∧ m' ((c.tc : Thread Cert.FProjReferenceIdeal.nD Cert.FProjReferenceIdeal.τ).loc Cert.FProjReferenceIdeal.main_arg1) = m ((c.tc : Thread Cert.FProjIdeal.nD Cert.FProjIdeal.τ).loc Cert.FProjIdeal.main_arg1)) →
    ∃ (v0 : (c : Dev Cert.FProjIdeal.nD) → Buf (Elt Ideal) ((c.tc : Thread Cert.FProjIdeal.nD Cert.FProjIdeal.τ).loc Cert.FProjIdeal.main_v0)),
      θ_run (Cert.FProjIdeal.defs (F := Ideal)) (onTc (τ := Cert.FProjIdeal.τ) (Cert.FProjIdeal.main (F := Ideal))) ⟨m, fun _ => 0, g⟩ (fun r => ∀ c : Dev Cert.FProjIdeal.nD,
          r.2.mem ((c.tc : Thread Cert.FProjIdeal.nD Cert.FProjIdeal.τ).loc Cert.FProjIdeal.main_v0) = v0 c
          ∧ r.2.mem ((c.tc : Thread Cert.FProjIdeal.nD Cert.FProjIdeal.τ).loc Cert.FProjIdeal.main_arg0) = m ((c.tc : Thread Cert.FProjIdeal.nD Cert.FProjIdeal.τ).loc Cert.FProjIdeal.main_arg0)
          ∧ r.2.mem ((c.tc : Thread Cert.FProjIdeal.nD Cert.FProjIdeal.τ).loc Cert.FProjIdeal.main_arg1) = m ((c.tc : Thread Cert.FProjIdeal.nD Cert.FProjIdeal.τ).loc Cert.FProjIdeal.main_arg1))
      ∧ θ_run (Cert.FProjReferenceIdeal.defs (F := Ideal)) (onTc (τ := Cert.FProjReferenceIdeal.τ) (Cert.FProjReferenceIdeal.main (F := Ideal))) ⟨m', fun _ => 0, g'⟩ (fun r => ∀ c : Dev Cert.FProjReferenceIdeal.nD,
          r.2.mem ((c.tc : Thread Cert.FProjReferenceIdeal.nD Cert.FProjReferenceIdeal.τ).loc Cert.FProjReferenceIdeal.main_v2) = v0 c
          ∧ r.2.mem ((c.tc : Thread Cert.FProjReferenceIdeal.nD Cert.FProjReferenceIdeal.τ).loc Cert.FProjReferenceIdeal.main_arg0) = m' ((c.tc : Thread Cert.FProjReferenceIdeal.nD Cert.FProjReferenceIdeal.τ).loc Cert.FProjReferenceIdeal.main_arg0)
          ∧ r.2.mem ((c.tc : Thread Cert.FProjReferenceIdeal.nD Cert.FProjReferenceIdeal.τ).loc Cert.FProjReferenceIdeal.main_arg1) = m' ((c.tc : Thread Cert.FProjReferenceIdeal.nD Cert.FProjReferenceIdeal.τ).loc Cert.FProjReferenceIdeal.main_arg1))

def preserves_FProjDw_FProjDwIdeal : Prop :=
  True

def algebraic_FProjDwIdeal_FProjDwReferenceIdeal [hFProjDwIdeal : Cert.FProjDwIdeal.Facts] [hFProjDwReferenceIdeal : Cert.FProjDwReferenceIdeal.Facts] : Prop :=
  ∀ (m : (ℓ : Loc Cert.FProjDwIdeal.nD Cert.FProjDwIdeal.τ Cert.FProjDwIdeal.sig) → Buf (Elt Ideal) ℓ) (g : Dev Cert.FProjDwIdeal.nD → PrngReg)
    (m' : (ℓ : Loc Cert.FProjDwReferenceIdeal.nD Cert.FProjDwReferenceIdeal.τ Cert.FProjDwReferenceIdeal.sig) → Buf (Elt Ideal) ℓ) (g' : Dev Cert.FProjDwReferenceIdeal.nD → PrngReg), Pre_FProjDwIdeal m →
    (∀ c : Dev Cert.FProjDwIdeal.nD,
      m' ((c.tc : Thread Cert.FProjDwReferenceIdeal.nD Cert.FProjDwReferenceIdeal.τ).loc Cert.FProjDwReferenceIdeal.main_arg0) = m ((c.tc : Thread Cert.FProjDwIdeal.nD Cert.FProjDwIdeal.τ).loc Cert.FProjDwIdeal.main_arg0)
      ∧ m' ((c.tc : Thread Cert.FProjDwReferenceIdeal.nD Cert.FProjDwReferenceIdeal.τ).loc Cert.FProjDwReferenceIdeal.main_arg1) = m ((c.tc : Thread Cert.FProjDwIdeal.nD Cert.FProjDwIdeal.τ).loc Cert.FProjDwIdeal.main_arg1)) →
    ∃ (v0 : (c : Dev Cert.FProjDwIdeal.nD) → Buf (Elt Ideal) ((c.tc : Thread Cert.FProjDwIdeal.nD Cert.FProjDwIdeal.τ).loc Cert.FProjDwIdeal.main_v0)),
      θ_run (Cert.FProjDwIdeal.defs (F := Ideal)) (onTc (τ := Cert.FProjDwIdeal.τ) (Cert.FProjDwIdeal.main (F := Ideal))) ⟨m, fun _ => 0, g⟩ (fun r => ∀ c : Dev Cert.FProjDwIdeal.nD,
          r.2.mem ((c.tc : Thread Cert.FProjDwIdeal.nD Cert.FProjDwIdeal.τ).loc Cert.FProjDwIdeal.main_v0) = v0 c
          ∧ r.2.mem ((c.tc : Thread Cert.FProjDwIdeal.nD Cert.FProjDwIdeal.τ).loc Cert.FProjDwIdeal.main_arg0) = m ((c.tc : Thread Cert.FProjDwIdeal.nD Cert.FProjDwIdeal.τ).loc Cert.FProjDwIdeal.main_arg0)
          ∧ r.2.mem ((c.tc : Thread Cert.FProjDwIdeal.nD Cert.FProjDwIdeal.τ).loc Cert.FProjDwIdeal.main_arg1) = m ((c.tc : Thread Cert.FProjDwIdeal.nD Cert.FProjDwIdeal.τ).loc Cert.FProjDwIdeal.main_arg1))
      ∧ θ_run (Cert.FProjDwReferenceIdeal.defs (F := Ideal)) (onTc (τ := Cert.FProjDwReferenceIdeal.τ) (Cert.FProjDwReferenceIdeal.main (F := Ideal))) ⟨m', fun _ => 0, g'⟩ (fun r => ∀ c : Dev Cert.FProjDwReferenceIdeal.nD,
          r.2.mem ((c.tc : Thread Cert.FProjDwReferenceIdeal.nD Cert.FProjDwReferenceIdeal.τ).loc Cert.FProjDwReferenceIdeal.main_v6) = v0 c
          ∧ r.2.mem ((c.tc : Thread Cert.FProjDwReferenceIdeal.nD Cert.FProjDwReferenceIdeal.τ).loc Cert.FProjDwReferenceIdeal.main_arg0) = m' ((c.tc : Thread Cert.FProjDwReferenceIdeal.nD Cert.FProjDwReferenceIdeal.τ).loc Cert.FProjDwReferenceIdeal.main_arg0)
          ∧ r.2.mem ((c.tc : Thread Cert.FProjDwReferenceIdeal.nD Cert.FProjDwReferenceIdeal.τ).loc Cert.FProjDwReferenceIdeal.main_arg1) = m' ((c.tc : Thread Cert.FProjDwReferenceIdeal.nD Cert.FProjDwReferenceIdeal.τ).loc Cert.FProjDwReferenceIdeal.main_arg1))

def preserves_FProjDx_FProjDxIdeal : Prop :=
  True

def algebraic_FProjDxIdeal_FProjDxReferenceIdeal [hFProjDxIdeal : Cert.FProjDxIdeal.Facts] [hFProjDxReferenceIdeal : Cert.FProjDxReferenceIdeal.Facts] : Prop :=
  ∀ (m : (ℓ : Loc Cert.FProjDxIdeal.nD Cert.FProjDxIdeal.τ Cert.FProjDxIdeal.sig) → Buf (Elt Ideal) ℓ) (g : Dev Cert.FProjDxIdeal.nD → PrngReg)
    (m' : (ℓ : Loc Cert.FProjDxReferenceIdeal.nD Cert.FProjDxReferenceIdeal.τ Cert.FProjDxReferenceIdeal.sig) → Buf (Elt Ideal) ℓ) (g' : Dev Cert.FProjDxReferenceIdeal.nD → PrngReg), Pre_FProjDxIdeal m →
    (∀ c : Dev Cert.FProjDxIdeal.nD,
      m' ((c.tc : Thread Cert.FProjDxReferenceIdeal.nD Cert.FProjDxReferenceIdeal.τ).loc Cert.FProjDxReferenceIdeal.main_arg0) = m ((c.tc : Thread Cert.FProjDxIdeal.nD Cert.FProjDxIdeal.τ).loc Cert.FProjDxIdeal.main_arg0)
      ∧ m' ((c.tc : Thread Cert.FProjDxReferenceIdeal.nD Cert.FProjDxReferenceIdeal.τ).loc Cert.FProjDxReferenceIdeal.main_arg1) = m ((c.tc : Thread Cert.FProjDxIdeal.nD Cert.FProjDxIdeal.τ).loc Cert.FProjDxIdeal.main_arg1)
      ∧ m' ((c.tc : Thread Cert.FProjDxReferenceIdeal.nD Cert.FProjDxReferenceIdeal.τ).loc Cert.FProjDxReferenceIdeal.main_arg2) = m ((c.tc : Thread Cert.FProjDxIdeal.nD Cert.FProjDxIdeal.τ).loc Cert.FProjDxIdeal.main_arg2)) →
    ∃ (v0 : (c : Dev Cert.FProjDxIdeal.nD) → Buf (Elt Ideal) ((c.tc : Thread Cert.FProjDxIdeal.nD Cert.FProjDxIdeal.τ).loc Cert.FProjDxIdeal.main_v0)),
      θ_run (Cert.FProjDxIdeal.defs (F := Ideal)) (onTc (τ := Cert.FProjDxIdeal.τ) (Cert.FProjDxIdeal.main (F := Ideal))) ⟨m, fun _ => 0, g⟩ (fun r => ∀ c : Dev Cert.FProjDxIdeal.nD,
          r.2.mem ((c.tc : Thread Cert.FProjDxIdeal.nD Cert.FProjDxIdeal.τ).loc Cert.FProjDxIdeal.main_v0) = v0 c
          ∧ r.2.mem ((c.tc : Thread Cert.FProjDxIdeal.nD Cert.FProjDxIdeal.τ).loc Cert.FProjDxIdeal.main_arg0) = m ((c.tc : Thread Cert.FProjDxIdeal.nD Cert.FProjDxIdeal.τ).loc Cert.FProjDxIdeal.main_arg0)
          ∧ r.2.mem ((c.tc : Thread Cert.FProjDxIdeal.nD Cert.FProjDxIdeal.τ).loc Cert.FProjDxIdeal.main_arg1) = m ((c.tc : Thread Cert.FProjDxIdeal.nD Cert.FProjDxIdeal.τ).loc Cert.FProjDxIdeal.main_arg1)
          ∧ r.2.mem ((c.tc : Thread Cert.FProjDxIdeal.nD Cert.FProjDxIdeal.τ).loc Cert.FProjDxIdeal.main_arg2) = m ((c.tc : Thread Cert.FProjDxIdeal.nD Cert.FProjDxIdeal.τ).loc Cert.FProjDxIdeal.main_arg2))
      ∧ θ_run (Cert.FProjDxReferenceIdeal.defs (F := Ideal)) (onTc (τ := Cert.FProjDxReferenceIdeal.τ) (Cert.FProjDxReferenceIdeal.main (F := Ideal))) ⟨m', fun _ => 0, g'⟩ (fun r => ∀ c : Dev Cert.FProjDxReferenceIdeal.nD,
          r.2.mem ((c.tc : Thread Cert.FProjDxReferenceIdeal.nD Cert.FProjDxReferenceIdeal.τ).loc Cert.FProjDxReferenceIdeal.main_v5) = v0 c
          ∧ r.2.mem ((c.tc : Thread Cert.FProjDxReferenceIdeal.nD Cert.FProjDxReferenceIdeal.τ).loc Cert.FProjDxReferenceIdeal.main_arg0) = m' ((c.tc : Thread Cert.FProjDxReferenceIdeal.nD Cert.FProjDxReferenceIdeal.τ).loc Cert.FProjDxReferenceIdeal.main_arg0)
          ∧ r.2.mem ((c.tc : Thread Cert.FProjDxReferenceIdeal.nD Cert.FProjDxReferenceIdeal.τ).loc Cert.FProjDxReferenceIdeal.main_arg1) = m' ((c.tc : Thread Cert.FProjDxReferenceIdeal.nD Cert.FProjDxReferenceIdeal.τ).loc Cert.FProjDxReferenceIdeal.main_arg1)
          ∧ r.2.mem ((c.tc : Thread Cert.FProjDxReferenceIdeal.nD Cert.FProjDxReferenceIdeal.τ).loc Cert.FProjDxReferenceIdeal.main_arg2) = m' ((c.tc : Thread Cert.FProjDxReferenceIdeal.nD Cert.FProjDxReferenceIdeal.τ).loc Cert.FProjDxReferenceIdeal.main_arg2))

def preserves_MergeBwd_MergeBwdIdeal : Prop :=
  True

def algebraic_MergeBwdIdeal_MergeBwdReferenceIdeal [hMergeBwdIdeal : Cert.MergeBwdIdeal.Facts] [hMergeBwdReferenceIdeal : Cert.MergeBwdReferenceIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdIdeal m →
    (∀ c : Dev Cert.MergeBwdIdeal.nD,
      m' ((c.tc : Thread Cert.MergeBwdReferenceIdeal.nD Cert.MergeBwdReferenceIdeal.τ).loc Cert.MergeBwdReferenceIdeal.main_arg0) = m ((c.tc : Thread Cert.MergeBwdIdeal.nD Cert.MergeBwdIdeal.τ).loc Cert.MergeBwdIdeal.main_arg0)
      ∧ m' ((c.tc : Thread Cert.MergeBwdReferenceIdeal.nD Cert.MergeBwdReferenceIdeal.τ).loc Cert.MergeBwdReferenceIdeal.main_arg1) = m ((c.tc : Thread Cert.MergeBwdIdeal.nD Cert.MergeBwdIdeal.τ).loc Cert.MergeBwdIdeal.main_arg1)
      ∧ m' ((c.tc : Thread Cert.MergeBwdReferenceIdeal.nD Cert.MergeBwdReferenceIdeal.τ).loc Cert.MergeBwdReferenceIdeal.main_arg2) = m ((c.tc : Thread Cert.MergeBwdIdeal.nD Cert.MergeBwdIdeal.τ).loc Cert.MergeBwdIdeal.main_arg2)
      ∧ m' ((c.tc : Thread Cert.MergeBwdReferenceIdeal.nD Cert.MergeBwdReferenceIdeal.τ).loc Cert.MergeBwdReferenceIdeal.main_arg3) = m ((c.tc : Thread Cert.MergeBwdIdeal.nD Cert.MergeBwdIdeal.τ).loc Cert.MergeBwdIdeal.main_arg3)
      ∧ m' ((c.tc : Thread Cert.MergeBwdReferenceIdeal.nD Cert.MergeBwdReferenceIdeal.τ).loc Cert.MergeBwdReferenceIdeal.main_arg4) = m ((c.tc : Thread Cert.MergeBwdIdeal.nD Cert.MergeBwdIdeal.τ).loc Cert.MergeBwdIdeal.main_arg4)
      ∧ m' ((c.tc : Thread Cert.MergeBwdReferenceIdeal.nD Cert.MergeBwdReferenceIdeal.τ).loc Cert.MergeBwdReferenceIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v39) = v0 c
          ∧ r.2.mem ((c.tc : Thread Cert.MergeBwdReferenceIdeal.nD Cert.MergeBwdReferenceIdeal.τ).loc Cert.MergeBwdReferenceIdeal.main_v40) = v1 c
          ∧ r.2.mem ((c.tc : Thread Cert.MergeBwdReferenceIdeal.nD Cert.MergeBwdReferenceIdeal.τ).loc Cert.MergeBwdReferenceIdeal.main_v41) = v2 c
          ∧ r.2.mem ((c.tc : Thread Cert.MergeBwdReferenceIdeal.nD Cert.MergeBwdReferenceIdeal.τ).loc Cert.MergeBwdReferenceIdeal.main_v42) = v3 c
          ∧ r.2.mem ((c.tc : Thread Cert.MergeBwdReferenceIdeal.nD Cert.MergeBwdReferenceIdeal.τ).loc Cert.MergeBwdReferenceIdeal.main_v38) = v4 c
          ∧ r.2.mem ((c.tc : Thread Cert.MergeBwdReferenceIdeal.nD Cert.MergeBwdReferenceIdeal.τ).loc Cert.MergeBwdReferenceIdeal.main_v33) = v5 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3)
          ∧ r.2.mem ((c.tc : Thread Cert.MergeBwdReferenceIdeal.nD Cert.MergeBwdReferenceIdeal.τ).loc Cert.MergeBwdReferenceIdeal.main_arg4) = m' ((c.tc : Thread Cert.MergeBwdReferenceIdeal.nD Cert.MergeBwdReferenceIdeal.τ).loc Cert.MergeBwdReferenceIdeal.main_arg4)
          ∧ r.2.mem ((c.tc : Thread Cert.MergeBwdReferenceIdeal.nD Cert.MergeBwdReferenceIdeal.τ).loc Cert.MergeBwdReferenceIdeal.main_arg5) = m' ((c.tc : Thread Cert.MergeBwdReferenceIdeal.nD Cert.MergeBwdReferenceIdeal.τ).loc Cert.MergeBwdReferenceIdeal.main_arg5))

def preserves_RnnOutBwd_RnnOutBwdIdeal : Prop :=
  True

def algebraic_RnnOutBwdIdeal_RnnOutBwdReferenceIdeal [hRnnOutBwdIdeal : Cert.RnnOutBwdIdeal.Facts] [hRnnOutBwdReferenceIdeal : Cert.RnnOutBwdReferenceIdeal.Facts] : Prop :=
  ∀ (m : (ℓ : Loc Cert.RnnOutBwdIdeal.nD Cert.RnnOutBwdIdeal.τ Cert.RnnOutBwdIdeal.sig) → Buf (Elt Ideal) ℓ) (g : Dev Cert.RnnOutBwdIdeal.nD → PrngReg)
    (m' : (ℓ : Loc Cert.RnnOutBwdReferenceIdeal.nD Cert.RnnOutBwdReferenceIdeal.τ Cert.RnnOutBwdReferenceIdeal.sig) → Buf (Elt Ideal) ℓ) (g' : Dev Cert.RnnOutBwdReferenceIdeal.nD → PrngReg), Pre_RnnOutBwdIdeal m →
    (∀ c : Dev Cert.RnnOutBwdIdeal.nD,
      m' ((c.tc : Thread Cert.RnnOutBwdReferenceIdeal.nD Cert.RnnOutBwdReferenceIdeal.τ).loc Cert.RnnOutBwdReferenceIdeal.main_arg0) = m ((c.tc : Thread Cert.RnnOutBwdIdeal.nD Cert.RnnOutBwdIdeal.τ).loc Cert.RnnOutBwdIdeal.main_arg0)
      ∧ m' ((c.tc : Thread Cert.RnnOutBwdReferenceIdeal.nD Cert.RnnOutBwdReferenceIdeal.τ).loc Cert.RnnOutBwdReferenceIdeal.main_arg1) = m ((c.tc : Thread Cert.RnnOutBwdIdeal.nD Cert.RnnOutBwdIdeal.τ).loc Cert.RnnOutBwdIdeal.main_arg1)
      ∧ m' ((c.tc : Thread Cert.RnnOutBwdReferenceIdeal.nD Cert.RnnOutBwdReferenceIdeal.τ).loc Cert.RnnOutBwdReferenceIdeal.main_arg2) = m ((c.tc : Thread Cert.RnnOutBwdIdeal.nD Cert.RnnOutBwdIdeal.τ).loc Cert.RnnOutBwdIdeal.main_arg2)) →
    ∃ (v0 : (c : Dev Cert.RnnOutBwdIdeal.nD) → Buf (Elt Ideal) ((c.tc : Thread Cert.RnnOutBwdIdeal.nD Cert.RnnOutBwdIdeal.τ).loc Cert.RnnOutBwdIdeal.main_v0_0)) (v1 : (c : Dev Cert.RnnOutBwdIdeal.nD) → Buf (Elt Ideal) ((c.tc : Thread Cert.RnnOutBwdIdeal.nD Cert.RnnOutBwdIdeal.τ).loc Cert.RnnOutBwdIdeal.main_v0_1)),
      θ_run (Cert.RnnOutBwdIdeal.defs (F := Ideal)) (onTc (τ := Cert.RnnOutBwdIdeal.τ) (Cert.RnnOutBwdIdeal.main (F := Ideal))) ⟨m, fun _ => 0, g⟩ (fun r => ∀ c : Dev Cert.RnnOutBwdIdeal.nD,
          r.2.mem ((c.tc : Thread Cert.RnnOutBwdIdeal.nD Cert.RnnOutBwdIdeal.τ).loc Cert.RnnOutBwdIdeal.main_v0_0) = v0 c
          ∧ r.2.mem ((c.tc : Thread Cert.RnnOutBwdIdeal.nD Cert.RnnOutBwdIdeal.τ).loc Cert.RnnOutBwdIdeal.main_v0_1) = v1 c
          ∧ r.2.mem ((c.tc : Thread Cert.RnnOutBwdIdeal.nD Cert.RnnOutBwdIdeal.τ).loc Cert.RnnOutBwdIdeal.main_arg0) = m ((c.tc : Thread Cert.RnnOutBwdIdeal.nD Cert.RnnOutBwdIdeal.τ).loc Cert.RnnOutBwdIdeal.main_arg0)
          ∧ r.2.mem ((c.tc : Thread Cert.RnnOutBwdIdeal.nD Cert.RnnOutBwdIdeal.τ).loc Cert.RnnOutBwdIdeal.main_arg1) = m ((c.tc : Thread Cert.RnnOutBwdIdeal.nD Cert.RnnOutBwdIdeal.τ).loc Cert.RnnOutBwdIdeal.main_arg1)
          ∧ r.2.mem ((c.tc : Thread Cert.RnnOutBwdIdeal.nD Cert.RnnOutBwdIdeal.τ).loc Cert.RnnOutBwdIdeal.main_arg2) = m ((c.tc : Thread Cert.RnnOutBwdIdeal.nD Cert.RnnOutBwdIdeal.τ).loc Cert.RnnOutBwdIdeal.main_arg2))
      ∧ θ_run (Cert.RnnOutBwdReferenceIdeal.defs (F := Ideal)) (onTc (τ := Cert.RnnOutBwdReferenceIdeal.τ) (Cert.RnnOutBwdReferenceIdeal.main (F := Ideal))) ⟨m', fun _ => 0, g'⟩ (fun r => ∀ c : Dev Cert.RnnOutBwdReferenceIdeal.nD,
          r.2.mem ((c.tc : Thread Cert.RnnOutBwdReferenceIdeal.nD Cert.RnnOutBwdReferenceIdeal.τ).loc Cert.RnnOutBwdReferenceIdeal.main_v24) = v0 c
          ∧ r.2.mem ((c.tc : Thread Cert.RnnOutBwdReferenceIdeal.nD Cert.RnnOutBwdReferenceIdeal.τ).loc Cert.RnnOutBwdReferenceIdeal.main_v37) = v1 c
          ∧ r.2.mem ((c.tc : Thread Cert.RnnOutBwdReferenceIdeal.nD Cert.RnnOutBwdReferenceIdeal.τ).loc Cert.RnnOutBwdReferenceIdeal.main_arg0) = m' ((c.tc : Thread Cert.RnnOutBwdReferenceIdeal.nD Cert.RnnOutBwdReferenceIdeal.τ).loc Cert.RnnOutBwdReferenceIdeal.main_arg0)
          ∧ r.2.mem ((c.tc : Thread Cert.RnnOutBwdReferenceIdeal.nD Cert.RnnOutBwdReferenceIdeal.τ).loc Cert.RnnOutBwdReferenceIdeal.main_arg1) = m' ((c.tc : Thread Cert.RnnOutBwdReferenceIdeal.nD Cert.RnnOutBwdReferenceIdeal.τ).loc Cert.RnnOutBwdReferenceIdeal.main_arg1)
          ∧ r.2.mem ((c.tc : Thread Cert.RnnOutBwdReferenceIdeal.nD Cert.RnnOutBwdReferenceIdeal.τ).loc Cert.RnnOutBwdReferenceIdeal.main_arg2) = m' ((c.tc : Thread Cert.RnnOutBwdReferenceIdeal.nD Cert.RnnOutBwdReferenceIdeal.τ).loc Cert.RnnOutBwdReferenceIdeal.main_arg2))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)
      ∧ m' ((c.tc : Thread Cert.MergeFwdReferenceIdeal.nD Cert.MergeFwdReferenceIdeal.τ).loc Cert.MergeFwdReferenceIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v21) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4))

def preserves_RnnOutFwd_RnnOutFwdIdeal : Prop :=
  True

def algebraic_RnnOutFwdIdeal_RnnOutFwdReferenceIdeal [hRnnOutFwdIdeal : Cert.RnnOutFwdIdeal.Facts] [hRnnOutFwdReferenceIdeal : Cert.RnnOutFwdReferenceIdeal.Facts] : Prop :=
  ∀ (m : (ℓ : Loc Cert.RnnOutFwdIdeal.nD Cert.RnnOutFwdIdeal.τ Cert.RnnOutFwdIdeal.sig) → Buf (Elt Ideal) ℓ) (g : Dev Cert.RnnOutFwdIdeal.nD → PrngReg)
    (m' : (ℓ : Loc Cert.RnnOutFwdReferenceIdeal.nD Cert.RnnOutFwdReferenceIdeal.τ Cert.RnnOutFwdReferenceIdeal.sig) → Buf (Elt Ideal) ℓ) (g' : Dev Cert.RnnOutFwdReferenceIdeal.nD → PrngReg), Pre_RnnOutFwdIdeal m →
    (∀ c : Dev Cert.RnnOutFwdIdeal.nD,
      m' ((c.tc : Thread Cert.RnnOutFwdReferenceIdeal.nD Cert.RnnOutFwdReferenceIdeal.τ).loc Cert.RnnOutFwdReferenceIdeal.main_arg0) = m ((c.tc : Thread Cert.RnnOutFwdIdeal.nD Cert.RnnOutFwdIdeal.τ).loc Cert.RnnOutFwdIdeal.main_arg0)
      ∧ m' ((c.tc : Thread Cert.RnnOutFwdReferenceIdeal.nD Cert.RnnOutFwdReferenceIdeal.τ).loc Cert.RnnOutFwdReferenceIdeal.main_arg1) = m ((c.tc : Thread Cert.RnnOutFwdIdeal.nD Cert.RnnOutFwdIdeal.τ).loc Cert.RnnOutFwdIdeal.main_arg1)) →
    ∃ (v0 : (c : Dev Cert.RnnOutFwdIdeal.nD) → Buf (Elt Ideal) ((c.tc : Thread Cert.RnnOutFwdIdeal.nD Cert.RnnOutFwdIdeal.τ).loc Cert.RnnOutFwdIdeal.main_v0)),
      θ_run (Cert.RnnOutFwdIdeal.defs (F := Ideal)) (onTc (τ := Cert.RnnOutFwdIdeal.τ) (Cert.RnnOutFwdIdeal.main (F := Ideal))) ⟨m, fun _ => 0, g⟩ (fun r => ∀ c : Dev Cert.RnnOutFwdIdeal.nD,
          r.2.mem ((c.tc : Thread Cert.RnnOutFwdIdeal.nD Cert.RnnOutFwdIdeal.τ).loc Cert.RnnOutFwdIdeal.main_v0) = v0 c
          ∧ r.2.mem ((c.tc : Thread Cert.RnnOutFwdIdeal.nD Cert.RnnOutFwdIdeal.τ).loc Cert.RnnOutFwdIdeal.main_arg0) = m ((c.tc : Thread Cert.RnnOutFwdIdeal.nD Cert.RnnOutFwdIdeal.τ).loc Cert.RnnOutFwdIdeal.main_arg0)
          ∧ r.2.mem ((c.tc : Thread Cert.RnnOutFwdIdeal.nD Cert.RnnOutFwdIdeal.τ).loc Cert.RnnOutFwdIdeal.main_arg1) = m ((c.tc : Thread Cert.RnnOutFwdIdeal.nD Cert.RnnOutFwdIdeal.τ).loc Cert.RnnOutFwdIdeal.main_arg1))
      ∧ θ_run (Cert.RnnOutFwdReferenceIdeal.defs (F := Ideal)) (onTc (τ := Cert.RnnOutFwdReferenceIdeal.τ) (Cert.RnnOutFwdReferenceIdeal.main (F := Ideal))) ⟨m', fun _ => 0, g'⟩ (fun r => ∀ c : Dev Cert.RnnOutFwdReferenceIdeal.nD,
          r.2.mem ((c.tc : Thread Cert.RnnOutFwdReferenceIdeal.nD Cert.RnnOutFwdReferenceIdeal.τ).loc Cert.RnnOutFwdReferenceIdeal.main_v15) = v0 c
          ∧ r.2.mem ((c.tc : Thread Cert.RnnOutFwdReferenceIdeal.nD Cert.RnnOutFwdReferenceIdeal.τ).loc Cert.RnnOutFwdReferenceIdeal.main_arg0) = m' ((c.tc : Thread Cert.RnnOutFwdReferenceIdeal.nD Cert.RnnOutFwdReferenceIdeal.τ).loc Cert.RnnOutFwdReferenceIdeal.main_arg0)
          ∧ r.2.mem ((c.tc : Thread Cert.RnnOutFwdReferenceIdeal.nD Cert.RnnOutFwdReferenceIdeal.τ).loc Cert.RnnOutFwdReferenceIdeal.main_arg1) = m' ((c.tc : Thread Cert.RnnOutFwdReferenceIdeal.nD Cert.RnnOutFwdReferenceIdeal.τ).loc Cert.RnnOutFwdReferenceIdeal.main_arg1))

def Claim : Prop :=
  ∃ (hKernel : Cert.Kernel.Facts) (hKernelIdeal : Cert.KernelIdeal.Facts) (hReferenceIdeal : Cert.ReferenceIdeal.Facts) (hAttnFwd : Cert.AttnFwd.Facts) (hAttnFwdIdeal : Cert.AttnFwdIdeal.Facts) (hAttnFwdReferenceIdeal : Cert.AttnFwdReferenceIdeal.Facts) (hZProjDw : Cert.ZProjDw.Facts) (hZProjDwIdeal : Cert.ZProjDwIdeal.Facts) (hZProjDwReferenceIdeal : Cert.ZProjDwReferenceIdeal.Facts) (hZProjDx : Cert.ZProjDx.Facts) (hZProjDxIdeal : Cert.ZProjDxIdeal.Facts) (hZProjDxReferenceIdeal : Cert.ZProjDxReferenceIdeal.Facts) (hFfnInDw : Cert.FfnInDw.Facts) (hFfnInDwIdeal : Cert.FfnInDwIdeal.Facts) (hFfnInDwReferenceIdeal : Cert.FfnInDwReferenceIdeal.Facts) (hFfnInDx : Cert.FfnInDx.Facts) (hFfnInDxIdeal : Cert.FfnInDxIdeal.Facts) (hFfnInDxReferenceIdeal : Cert.FfnInDxReferenceIdeal.Facts) (hFfnOutDw : Cert.FfnOutDw.Facts) (hFfnOutDwIdeal : Cert.FfnOutDwIdeal.Facts) (hFfnOutDwReferenceIdeal : Cert.FfnOutDwReferenceIdeal.Facts) (hFfnOutDx : Cert.FfnOutDx.Facts) (hFfnOutDxIdeal : Cert.FfnOutDxIdeal.Facts) (hFfnOutDxReferenceIdeal : Cert.FfnOutDxReferenceIdeal.Facts) (hMixOutDw : Cert.MixOutDw.Facts) (hMixOutDwIdeal : Cert.MixOutDwIdeal.Facts) (hMixOutDwReferenceIdeal : Cert.MixOutDwReferenceIdeal.Facts) (hMixOutDx : Cert.MixOutDx.Facts) (hMixOutDxIdeal : Cert.MixOutDxIdeal.Facts) (hMixOutDxReferenceIdeal : Cert.MixOutDxReferenceIdeal.Facts) (hBranchAttDx : Cert.BranchAttDx.Facts) (hBranchAttDxIdeal : Cert.BranchAttDxIdeal.Facts) (hBranchAttDxReferenceIdeal : Cert.BranchAttDxReferenceIdeal.Facts) (hMixOut : Cert.MixOut.Facts) (hMixOutIdeal : Cert.MixOutIdeal.Facts) (hMixOutReferenceIdeal : Cert.MixOutReferenceIdeal.Facts) (hZProjQkv : Cert.ZProjQkv.Facts) (hZProjQkvIdeal : Cert.ZProjQkvIdeal.Facts) (hZProjQkvReferenceIdeal : Cert.ZProjQkvReferenceIdeal.Facts) (hZProjRest : Cert.ZProjRest.Facts) (hZProjRestIdeal : Cert.ZProjRestIdeal.Facts) (hZProjRestReferenceIdeal : Cert.ZProjRestReferenceIdeal.Facts) (hFfnIn : Cert.FfnIn.Facts) (hFfnInIdeal : Cert.FfnInIdeal.Facts) (hFfnInReferenceIdeal : Cert.FfnInReferenceIdeal.Facts) (hFfnOut : Cert.FfnOut.Facts) (hFfnOutIdeal : Cert.FfnOutIdeal.Facts) (hFfnOutReferenceIdeal : Cert.FfnOutReferenceIdeal.Facts) (hBranchAttDw : Cert.BranchAttDw.Facts) (hBranchAttDwIdeal : Cert.BranchAttDwIdeal.Facts) (hBranchAttDwReferenceIdeal : Cert.BranchAttDwReferenceIdeal.Facts) (hBranchRnnDw : Cert.BranchRnnDw.Facts) (hBranchRnnDwIdeal : Cert.BranchRnnDwIdeal.Facts) (hBranchRnnDwReferenceIdeal : Cert.BranchRnnDwReferenceIdeal.Facts) (hPleGateDw : Cert.PleGateDw.Facts) (hPleGateDwIdeal : Cert.PleGateDwIdeal.Facts) (hPleGateDwReferenceIdeal : Cert.PleGateDwReferenceIdeal.Facts) (hBranchRnnDx : Cert.BranchRnnDx.Facts) (hBranchRnnDxIdeal : Cert.BranchRnnDxIdeal.Facts) (hBranchRnnDxReferenceIdeal : Cert.BranchRnnDxReferenceIdeal.Facts) (hPleGateDx : Cert.PleGateDx.Facts) (hPleGateDxIdeal : Cert.PleGateDxIdeal.Facts) (hPleGateDxReferenceIdeal : Cert.PleGateDxReferenceIdeal.Facts) (hBranchAtt : Cert.BranchAtt.Facts) (hBranchAttIdeal : Cert.BranchAttIdeal.Facts) (hBranchAttReferenceIdeal : Cert.BranchAttReferenceIdeal.Facts) (hBranchRnn : Cert.BranchRnn.Facts) (hBranchRnnIdeal : Cert.BranchRnnIdeal.Facts) (hBranchRnnReferenceIdeal : Cert.BranchRnnReferenceIdeal.Facts) (hPleGate : Cert.PleGate.Facts) (hPleGateIdeal : Cert.PleGateIdeal.Facts) (hPleGateReferenceIdeal : Cert.PleGateReferenceIdeal.Facts) (hPleProj : Cert.PleProj.Facts) (hPleProjIdeal : Cert.PleProjIdeal.Facts) (hPleProjReferenceIdeal : Cert.PleProjReferenceIdeal.Facts) (hPleProjDw : Cert.PleProjDw.Facts) (hPleProjDwIdeal : Cert.PleProjDwIdeal.Facts) (hPleProjDwReferenceIdeal : Cert.PleProjDwReferenceIdeal.Facts) (hFProj : Cert.FProj.Facts) (hFProjIdeal : Cert.FProjIdeal.Facts) (hFProjReferenceIdeal : Cert.FProjReferenceIdeal.Facts) (hFProjDw : Cert.FProjDw.Facts) (hFProjDwIdeal : Cert.FProjDwIdeal.Facts) (hFProjDwReferenceIdeal : Cert.FProjDwReferenceIdeal.Facts) (hFProjDx : Cert.FProjDx.Facts) (hFProjDxIdeal : Cert.FProjDxIdeal.Facts) (hFProjDxReferenceIdeal : Cert.FProjDxReferenceIdeal.Facts) (hMergeBwd : Cert.MergeBwd.Facts) (hMergeBwdIdeal : Cert.MergeBwdIdeal.Facts) (hMergeBwdReferenceIdeal : Cert.MergeBwdReferenceIdeal.Facts) (hRnnOutBwd : Cert.RnnOutBwd.Facts) (hRnnOutBwdIdeal : Cert.RnnOutBwdIdeal.Facts) (hRnnOutBwdReferenceIdeal : Cert.RnnOutBwdReferenceIdeal.Facts) (hMergeFwd : Cert.MergeFwd.Facts) (hMergeFwdIdeal : Cert.MergeFwdIdeal.Facts) (hMergeFwdReferenceIdeal : Cert.MergeFwdReferenceIdeal.Facts) (hRnnOutFwd : Cert.RnnOutFwd.Facts) (hRnnOutFwdIdeal : Cert.RnnOutFwdIdeal.Facts) (hRnnOutFwdReferenceIdeal : Cert.RnnOutFwdReferenceIdeal.Facts) (hPre_finite : Cert.Pre_finite.Facts) (hPre_finite_pair : Cert.Pre_finite_pair.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnFwd (hAttnFwd := hAttnFwd)
    ∧ quiescent_AttnFwdIdeal (hAttnFwdIdeal := hAttnFwdIdeal)
    ∧ quiescent_AttnFwdIdeal_pre_finite_pair (hAttnFwdIdeal := hAttnFwdIdeal) (hPre_finite_pair := hPre_finite_pair)
    ∧ quiescent_AttnFwdReferenceIdeal (hAttnFwdReferenceIdeal := hAttnFwdReferenceIdeal)
    ∧ quiescent_AttnFwdReferenceIdeal_pre_finite_pair (hAttnFwdReferenceIdeal := hAttnFwdReferenceIdeal) (hPre_finite_pair := hPre_finite_pair)
    ∧ quiescent_ZProjDw (hZProjDw := hZProjDw)
    ∧ quiescent_ZProjDwIdeal (hZProjDwIdeal := hZProjDwIdeal)
    ∧ quiescent_ZProjDwReferenceIdeal (hZProjDwReferenceIdeal := hZProjDwReferenceIdeal)
    ∧ quiescent_ZProjDx (hZProjDx := hZProjDx)
    ∧ quiescent_ZProjDxIdeal (hZProjDxIdeal := hZProjDxIdeal)
    ∧ quiescent_ZProjDxReferenceIdeal (hZProjDxReferenceIdeal := hZProjDxReferenceIdeal)
    ∧ quiescent_FfnInDw (hFfnInDw := hFfnInDw)
    ∧ quiescent_FfnInDwIdeal (hFfnInDwIdeal := hFfnInDwIdeal)
    ∧ quiescent_FfnInDwReferenceIdeal (hFfnInDwReferenceIdeal := hFfnInDwReferenceIdeal)
    ∧ quiescent_FfnInDx (hFfnInDx := hFfnInDx)
    ∧ quiescent_FfnInDxIdeal (hFfnInDxIdeal := hFfnInDxIdeal)
    ∧ quiescent_FfnInDxReferenceIdeal (hFfnInDxReferenceIdeal := hFfnInDxReferenceIdeal)
    ∧ quiescent_FfnOutDw (hFfnOutDw := hFfnOutDw)
    ∧ quiescent_FfnOutDwIdeal (hFfnOutDwIdeal := hFfnOutDwIdeal)
    ∧ quiescent_FfnOutDwReferenceIdeal (hFfnOutDwReferenceIdeal := hFfnOutDwReferenceIdeal)
    ∧ quiescent_FfnOutDx (hFfnOutDx := hFfnOutDx)
    ∧ quiescent_FfnOutDxIdeal (hFfnOutDxIdeal := hFfnOutDxIdeal)
    ∧ quiescent_FfnOutDxReferenceIdeal (hFfnOutDxReferenceIdeal := hFfnOutDxReferenceIdeal)
    ∧ quiescent_MixOutDw (hMixOutDw := hMixOutDw)
    ∧ quiescent_MixOutDwIdeal (hMixOutDwIdeal := hMixOutDwIdeal)
    ∧ quiescent_MixOutDwReferenceIdeal (hMixOutDwReferenceIdeal := hMixOutDwReferenceIdeal)
    ∧ quiescent_MixOutDx (hMixOutDx := hMixOutDx)
    ∧ quiescent_MixOutDxIdeal (hMixOutDxIdeal := hMixOutDxIdeal)
    ∧ quiescent_MixOutDxReferenceIdeal (hMixOutDxReferenceIdeal := hMixOutDxReferenceIdeal)
    ∧ quiescent_BranchAttDx (hBranchAttDx := hBranchAttDx)
    ∧ quiescent_BranchAttDxIdeal (hBranchAttDxIdeal := hBranchAttDxIdeal)
    ∧ quiescent_BranchAttDxReferenceIdeal (hBranchAttDxReferenceIdeal := hBranchAttDxReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_ZProjQkv (hZProjQkv := hZProjQkv)
    ∧ quiescent_ZProjQkvIdeal (hZProjQkvIdeal := hZProjQkvIdeal)
    ∧ quiescent_ZProjQkvReferenceIdeal (hZProjQkvReferenceIdeal := hZProjQkvReferenceIdeal)
    ∧ quiescent_ZProjRest (hZProjRest := hZProjRest)
    ∧ quiescent_ZProjRestIdeal (hZProjRestIdeal := hZProjRestIdeal)
    ∧ quiescent_ZProjRestReferenceIdeal (hZProjRestReferenceIdeal := hZProjRestReferenceIdeal)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_BranchAttDw (hBranchAttDw := hBranchAttDw)
    ∧ quiescent_BranchAttDwIdeal (hBranchAttDwIdeal := hBranchAttDwIdeal)
    ∧ quiescent_BranchAttDwReferenceIdeal (hBranchAttDwReferenceIdeal := hBranchAttDwReferenceIdeal)
    ∧ quiescent_BranchRnnDw (hBranchRnnDw := hBranchRnnDw)
    ∧ quiescent_BranchRnnDwIdeal (hBranchRnnDwIdeal := hBranchRnnDwIdeal)
    ∧ quiescent_BranchRnnDwReferenceIdeal (hBranchRnnDwReferenceIdeal := hBranchRnnDwReferenceIdeal)
    ∧ quiescent_PleGateDw (hPleGateDw := hPleGateDw)
    ∧ quiescent_PleGateDwIdeal (hPleGateDwIdeal := hPleGateDwIdeal)
    ∧ quiescent_PleGateDwReferenceIdeal (hPleGateDwReferenceIdeal := hPleGateDwReferenceIdeal)
    ∧ quiescent_BranchRnnDx (hBranchRnnDx := hBranchRnnDx)
    ∧ quiescent_BranchRnnDxIdeal (hBranchRnnDxIdeal := hBranchRnnDxIdeal)
    ∧ quiescent_BranchRnnDxReferenceIdeal (hBranchRnnDxReferenceIdeal := hBranchRnnDxReferenceIdeal)
    ∧ quiescent_PleGateDx (hPleGateDx := hPleGateDx)
    ∧ quiescent_PleGateDxIdeal (hPleGateDxIdeal := hPleGateDxIdeal)
    ∧ quiescent_PleGateDxReferenceIdeal (hPleGateDxReferenceIdeal := hPleGateDxReferenceIdeal)
    ∧ quiescent_BranchAtt (hBranchAtt := hBranchAtt)
    ∧ quiescent_BranchAttIdeal (hBranchAttIdeal := hBranchAttIdeal)
    ∧ quiescent_BranchAttReferenceIdeal (hBranchAttReferenceIdeal := hBranchAttReferenceIdeal)
    ∧ quiescent_BranchRnn (hBranchRnn := hBranchRnn)
    ∧ quiescent_BranchRnnIdeal (hBranchRnnIdeal := hBranchRnnIdeal)
    ∧ quiescent_BranchRnnReferenceIdeal (hBranchRnnReferenceIdeal := hBranchRnnReferenceIdeal)
    ∧ quiescent_PleGate (hPleGate := hPleGate)
    ∧ quiescent_PleGateIdeal (hPleGateIdeal := hPleGateIdeal)
    ∧ quiescent_PleGateReferenceIdeal (hPleGateReferenceIdeal := hPleGateReferenceIdeal)
    ∧ quiescent_PleProj (hPleProj := hPleProj)
    ∧ quiescent_PleProjIdeal (hPleProjIdeal := hPleProjIdeal)
    ∧ quiescent_PleProjReferenceIdeal (hPleProjReferenceIdeal := hPleProjReferenceIdeal)
    ∧ quiescent_PleProjDw (hPleProjDw := hPleProjDw)
    ∧ quiescent_PleProjDwIdeal (hPleProjDwIdeal := hPleProjDwIdeal)
    ∧ quiescent_PleProjDwReferenceIdeal (hPleProjDwReferenceIdeal := hPleProjDwReferenceIdeal)
    ∧ quiescent_FProj (hFProj := hFProj)
    ∧ quiescent_FProjIdeal (hFProjIdeal := hFProjIdeal)
    ∧ quiescent_FProjReferenceIdeal (hFProjReferenceIdeal := hFProjReferenceIdeal)
    ∧ quiescent_FProjDw (hFProjDw := hFProjDw)
    ∧ quiescent_FProjDwIdeal (hFProjDwIdeal := hFProjDwIdeal)
    ∧ quiescent_FProjDwReferenceIdeal (hFProjDwReferenceIdeal := hFProjDwReferenceIdeal)
    ∧ quiescent_FProjDx (hFProjDx := hFProjDx)
    ∧ quiescent_FProjDxIdeal (hFProjDxIdeal := hFProjDxIdeal)
    ∧ quiescent_FProjDxReferenceIdeal (hFProjDxReferenceIdeal := hFProjDxReferenceIdeal)
    ∧ quiescent_MergeBwd (hMergeBwd := hMergeBwd)
    ∧ quiescent_MergeBwdIdeal (hMergeBwdIdeal := hMergeBwdIdeal)
    ∧ quiescent_MergeBwdReferenceIdeal (hMergeBwdReferenceIdeal := hMergeBwdReferenceIdeal)
    ∧ quiescent_RnnOutBwd (hRnnOutBwd := hRnnOutBwd)
    ∧ quiescent_RnnOutBwdIdeal (hRnnOutBwdIdeal := hRnnOutBwdIdeal)
    ∧ quiescent_RnnOutBwdReferenceIdeal (hRnnOutBwdReferenceIdeal := hRnnOutBwdReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_RnnOutFwd (hRnnOutFwd := hRnnOutFwd)
    ∧ quiescent_RnnOutFwdIdeal (hRnnOutFwdIdeal := hRnnOutFwdIdeal)
    ∧ quiescent_RnnOutFwdReferenceIdeal (hRnnOutFwdReferenceIdeal := hRnnOutFwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_AttnFwd_AttnFwdIdeal
    ∧ algebraic_AttnFwdIdeal_AttnFwdReferenceIdeal_pre_finite_pair (hAttnFwdIdeal := hAttnFwdIdeal) (hAttnFwdReferenceIdeal := hAttnFwdReferenceIdeal) (hPre_finite_pair := hPre_finite_pair)
    ∧ preserves_ZProjDw_ZProjDwIdeal
    ∧ algebraic_ZProjDwIdeal_ZProjDwReferenceIdeal (hZProjDwIdeal := hZProjDwIdeal) (hZProjDwReferenceIdeal := hZProjDwReferenceIdeal)
    ∧ preserves_ZProjDx_ZProjDxIdeal
    ∧ algebraic_ZProjDxIdeal_ZProjDxReferenceIdeal (hZProjDxIdeal := hZProjDxIdeal) (hZProjDxReferenceIdeal := hZProjDxReferenceIdeal)
    ∧ preserves_FfnInDw_FfnInDwIdeal
    ∧ algebraic_FfnInDwIdeal_FfnInDwReferenceIdeal (hFfnInDwIdeal := hFfnInDwIdeal) (hFfnInDwReferenceIdeal := hFfnInDwReferenceIdeal)
    ∧ preserves_FfnInDx_FfnInDxIdeal
    ∧ algebraic_FfnInDxIdeal_FfnInDxReferenceIdeal (hFfnInDxIdeal := hFfnInDxIdeal) (hFfnInDxReferenceIdeal := hFfnInDxReferenceIdeal)
    ∧ preserves_FfnOutDw_FfnOutDwIdeal
    ∧ algebraic_FfnOutDwIdeal_FfnOutDwReferenceIdeal (hFfnOutDwIdeal := hFfnOutDwIdeal) (hFfnOutDwReferenceIdeal := hFfnOutDwReferenceIdeal)
    ∧ preserves_FfnOutDx_FfnOutDxIdeal
    ∧ algebraic_FfnOutDxIdeal_FfnOutDxReferenceIdeal (hFfnOutDxIdeal := hFfnOutDxIdeal) (hFfnOutDxReferenceIdeal := hFfnOutDxReferenceIdeal)
    ∧ preserves_MixOutDw_MixOutDwIdeal
    ∧ algebraic_MixOutDwIdeal_MixOutDwReferenceIdeal (hMixOutDwIdeal := hMixOutDwIdeal) (hMixOutDwReferenceIdeal := hMixOutDwReferenceIdeal)
    ∧ preserves_MixOutDx_MixOutDxIdeal
    ∧ algebraic_MixOutDxIdeal_MixOutDxReferenceIdeal (hMixOutDxIdeal := hMixOutDxIdeal) (hMixOutDxReferenceIdeal := hMixOutDxReferenceIdeal)
    ∧ preserves_BranchAttDx_BranchAttDxIdeal
    ∧ algebraic_BranchAttDxIdeal_BranchAttDxReferenceIdeal (hBranchAttDxIdeal := hBranchAttDxIdeal) (hBranchAttDxReferenceIdeal := hBranchAttDxReferenceIdeal)
    ∧ preserves_MixOut_MixOutIdeal
    ∧ algebraic_MixOutIdeal_MixOutReferenceIdeal (hMixOutIdeal := hMixOutIdeal) (hMixOutReferenceIdeal := hMixOutReferenceIdeal)
    ∧ preserves_ZProjQkv_ZProjQkvIdeal
    ∧ algebraic_ZProjQkvIdeal_ZProjQkvReferenceIdeal (hZProjQkvIdeal := hZProjQkvIdeal) (hZProjQkvReferenceIdeal := hZProjQkvReferenceIdeal)
    ∧ preserves_ZProjRest_ZProjRestIdeal
    ∧ algebraic_ZProjRestIdeal_ZProjRestReferenceIdeal (hZProjRestIdeal := hZProjRestIdeal) (hZProjRestReferenceIdeal := hZProjRestReferenceIdeal)
    ∧ preserves_FfnIn_FfnInIdeal
    ∧ algebraic_FfnInIdeal_FfnInReferenceIdeal (hFfnInIdeal := hFfnInIdeal) (hFfnInReferenceIdeal := hFfnInReferenceIdeal)
    ∧ preserves_FfnOut_FfnOutIdeal
    ∧ algebraic_FfnOutIdeal_FfnOutReferenceIdeal (hFfnOutIdeal := hFfnOutIdeal) (hFfnOutReferenceIdeal := hFfnOutReferenceIdeal)
    ∧ preserves_BranchAttDw_BranchAttDwIdeal
    ∧ algebraic_BranchAttDwIdeal_BranchAttDwReferenceIdeal (hBranchAttDwIdeal := hBranchAttDwIdeal) (hBranchAttDwReferenceIdeal := hBranchAttDwReferenceIdeal)
    ∧ preserves_BranchRnnDw_BranchRnnDwIdeal
    ∧ algebraic_BranchRnnDwIdeal_BranchRnnDwReferenceIdeal (hBranchRnnDwIdeal := hBranchRnnDwIdeal) (hBranchRnnDwReferenceIdeal := hBranchRnnDwReferenceIdeal)
    ∧ preserves_PleGateDw_PleGateDwIdeal
    ∧ algebraic_PleGateDwIdeal_PleGateDwReferenceIdeal (hPleGateDwIdeal := hPleGateDwIdeal) (hPleGateDwReferenceIdeal := hPleGateDwReferenceIdeal)
    ∧ preserves_BranchRnnDx_BranchRnnDxIdeal
    ∧ algebraic_BranchRnnDxIdeal_BranchRnnDxReferenceIdeal (hBranchRnnDxIdeal := hBranchRnnDxIdeal) (hBranchRnnDxReferenceIdeal := hBranchRnnDxReferenceIdeal)
    ∧ preserves_PleGateDx_PleGateDxIdeal
    ∧ algebraic_PleGateDxIdeal_PleGateDxReferenceIdeal (hPleGateDxIdeal := hPleGateDxIdeal) (hPleGateDxReferenceIdeal := hPleGateDxReferenceIdeal)
    ∧ preserves_BranchAtt_BranchAttIdeal
    ∧ algebraic_BranchAttIdeal_BranchAttReferenceIdeal (hBranchAttIdeal := hBranchAttIdeal) (hBranchAttReferenceIdeal := hBranchAttReferenceIdeal)
    ∧ preserves_BranchRnn_BranchRnnIdeal
    ∧ algebraic_BranchRnnIdeal_BranchRnnReferenceIdeal (hBranchRnnIdeal := hBranchRnnIdeal) (hBranchRnnReferenceIdeal := hBranchRnnReferenceIdeal)
    ∧ preserves_PleGate_PleGateIdeal
    ∧ algebraic_PleGateIdeal_PleGateReferenceIdeal (hPleGateIdeal := hPleGateIdeal) (hPleGateReferenceIdeal := hPleGateReferenceIdeal)
    ∧ preserves_PleProj_PleProjIdeal
    ∧ algebraic_PleProjIdeal_PleProjReferenceIdeal (hPleProjIdeal := hPleProjIdeal) (hPleProjReferenceIdeal := hPleProjReferenceIdeal)
    ∧ preserves_PleProjDw_PleProjDwIdeal
    ∧ algebraic_PleProjDwIdeal_PleProjDwReferenceIdeal (hPleProjDwIdeal := hPleProjDwIdeal) (hPleProjDwReferenceIdeal := hPleProjDwReferenceIdeal)
    ∧ preserves_FProj_FProjIdeal
    ∧ algebraic_FProjIdeal_FProjReferenceIdeal (hFProjIdeal := hFProjIdeal) (hFProjReferenceIdeal := hFProjReferenceIdeal)
    ∧ preserves_FProjDw_FProjDwIdeal
    ∧ algebraic_FProjDwIdeal_FProjDwReferenceIdeal (hFProjDwIdeal := hFProjDwIdeal) (hFProjDwReferenceIdeal := hFProjDwReferenceIdeal)
    ∧ preserves_FProjDx_FProjDxIdeal
    ∧ algebraic_FProjDxIdeal_FProjDxReferenceIdeal (hFProjDxIdeal := hFProjDxIdeal) (hFProjDxReferenceIdeal := hFProjDxReferenceIdeal)
    ∧ preserves_MergeBwd_MergeBwdIdeal
    ∧ algebraic_MergeBwdIdeal_MergeBwdReferenceIdeal (hMergeBwdIdeal := hMergeBwdIdeal) (hMergeBwdReferenceIdeal := hMergeBwdReferenceIdeal)
    ∧ preserves_RnnOutBwd_RnnOutBwdIdeal
    ∧ algebraic_RnnOutBwdIdeal_RnnOutBwdReferenceIdeal (hRnnOutBwdIdeal := hRnnOutBwdIdeal) (hRnnOutBwdReferenceIdeal := hRnnOutBwdReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_RnnOutFwd_RnnOutFwdIdeal
    ∧ algebraic_RnnOutFwdIdeal_RnnOutFwdReferenceIdeal (hRnnOutFwdIdeal := hRnnOutFwdIdeal) (hRnnOutFwdReferenceIdeal := hRnnOutFwdReferenceIdeal)
-- ==== Pre_finite.lean ====
abbrev S4096x3072 : Shape := ⟨2, ![4096, 3072]⟩
abbrev S2x8x2048 : Shape := ⟨3, ![2, 8, 2048]⟩
abbrev S4096x1024 : Shape := ⟨2, ![4096, 1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S2x8x2048 : S_.BroadcastsInDim S2x8x2048 (![] : Fin 0 → Fin S2x8x2048.rank)
  bcast_S_S4096x1024 : S_.BroadcastsInDim S4096x1024 (![] : Fin 0 → Fin S4096x1024.rank)
  reducesTo_S4096x3072_S_d0_1 : S4096x3072.ReducesTo [0, 1] S_
  h_S_ : 0 < S_.numel
  reducesTo_S2x8x2048_S_d0_1_2 : S2x8x2048.ReducesTo [0, 1, 2] S_
  reducesTo_S4096x1024_S_d0_1 : S4096x1024.ReducesTo [0, 1] S_

variable [Facts]

def fn {F : FTy → Type} [FloatOps F] (main_arg0 : FVec F S4096x3072 .bf16) (main_arg1 : FVec F S2x8x2048 .f32) (main_arg2 : FVec F S4096x1024 .bf16) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S2x8x2048 .f32 := Host.absf main_arg1
  let main_cst_0 : FVec F S_ .f32 := constant S_ .f32 0x7F800000#32
  let main_v5 : FVec F S2x8x2048 .f32 := broadcastInDim S2x8x2048 ![] bcast_S_S2x8x2048 main_cst_0
  let main_v6 : IVec S2x8x2048 1 := cmpf .olt main_v4 main_v5
  let main_v7 : FVec F S4096x1024 .f32 := (extf .f32 · bitsLt_bf16_f32) main_arg2
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_c : IVec S_ 1 := constantI S_ 1 1#1
  let main_v11 : IVec S_ 1 := (fun x v => Host.reduce IntOp.andi x v reducesTo_S4096x3072_S_d0_1 h_S_) main_v3 main_c
  let main_c_2 : IVec S_ 1 := constantI S_ 1 1#1
  let main_v12 : IVec S_ 1 := (fun x v => Host.reduce IntOp.andi x v reducesTo_S2x8x2048_S_d0_1_2 h_S_) main_v6 main_c_2
  let main_v13 : IVec S_ 1 := andi main_v11 main_v12
  let main_c_3 : IVec S_ 1 := constantI S_ 1 1#1
  let main_v14 : IVec S_ 1 := (fun x v => Host.reduce IntOp.andi x v reducesTo_S4096x1024_S_d0_1 h_S_) main_v10 main_c_3
  let main_v15 : IVec S_ 1 := andi main_v13 main_v14
  main_v15
-- ==== Pre_finite_pair.lean ====
abbrev S4096x3072 : Shape := ⟨2, ![4096, 3072]⟩
abbrev S2x8x2048 : Shape := ⟨3, ![2, 8, 2048]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S2x8x2048 : S_.BroadcastsInDim S2x8x2048 (![] : Fin 0 → Fin S2x8x2048.rank)
  reducesTo_S2x8x2048_S_d0_1_2 : S2x8x2048.ReducesTo [0, 1, 2] S_

variable [Facts]

def fn {F : FTy → Type} [FloatOps F] (main_arg0 : FVec F S4096x3072 .bf16) (main_arg1 : FVec F S2x8x2048 .f32) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S2x8x2048 .f32 := Host.absf main_arg1
  let main_cst_0 : FVec F S_ .f32 := constant S_ .f32 0x7F800000#32
  let main_v6 : FVec F S2x8x2048 .f32 := broadcastInDim S2x8x2048 ![] bcast_S_S2x8x2048 main_cst_0
  let main_v7 : IVec S2x8x2048 1 := cmpf .olt main_v5 main_v6
  let main_c_1 : IVec S_ 1 := constantI S_ 1 1#1
  let main_v8 : IVec S_ 1 := (fun x v => Host.reduce IntOp.andi x v reducesTo_S2x8x2048_S_d0_1_2 h_S_) main_v7 main_c_1
  let main_v9 : IVec S_ 1 := andi main_v4 main_v8
  main_v9
-- ==== Kernel.lean ====
abbrev S4096x3072 : Shape := ⟨2, ![4096, 3072]⟩
abbrev S2x8x2048 : Shape := ⟨3, ![2, 8, 2048]⟩
abbrev S4096x1024 : Shape := ⟨2, ![4096, 1024]⟩
abbrev S2x8x2048x1 : Shape := ⟨4, ![2, 8, 2048, 1]⟩
abbrev S2x8x1x2048 : Shape := ⟨4, ![2, 8, 1, 2048]⟩
abbrev S2x2048x8x128 : Shape := ⟨4, ![2, 2048, 8, 128]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x128x2048 : Shape := ⟨4, ![2, 8, 128, 2048]⟩
abbrev S2x8x4x512 : Shape := ⟨4, ![2, 8, 4, 512]⟩
abbrev S2048x128 : Shape := ⟨2, ![2048, 128]⟩
abbrev S1x1x2048x1 : Shape := ⟨4, ![1, 1, 2048, 1]⟩
abbrev S1x1x4x512 : Shape := ⟨4, ![1, 1, 4, 512]⟩
abbrev S512x128 : Shape := ⟨2, ![512, 128]⟩
abbrev S1x1x1x512 : Shape := ⟨4, ![1, 1, 1, 512]⟩
abbrev S1x512 : Shape := ⟨2, ![1, 512]⟩
abbrev S1x1x512x1 : Shape := ⟨4, ![1, 1, 512, 1]⟩
abbrev S512x1 : Shape := ⟨2, ![512, 1]⟩
abbrev S512x512 : Shape := ⟨2, ![512, 512]⟩
abbrev S512 : Shape := ⟨1, ![512]⟩

abbrev nBuf : Space → Nat
  | .hbm => 53
  | .vmem => 27
  | .smem => 0
  | _ => 0

abbrev bufTy : (tb : Table) → Fin (tcTables nBuf tb) → BufTy
  | .hbm, ⟨0, _⟩ => ⟨S4096x3072, .bf16⟩
  | .hbm, ⟨1, _⟩ => ⟨S2x8x2048, .f32⟩
  | .hbm, ⟨2, _⟩ => ⟨S4096x1024, .bf16⟩
  | .hbm, ⟨3, _⟩ => ⟨S2x8x2048x1, .f32⟩
  | .hbm, ⟨4, _⟩ => ⟨S2x8x1x2048, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S2x2048x8x128, .f32⟩
  | .hbm, ⟨10, _⟩ => ⟨S2x2048x8x128, .f32⟩
  | .hbm, ⟨11, _⟩ => ⟨S2x2048x8x128, .f32⟩
  | .hbm, ⟨12, _⟩ => ⟨S2x8x2048x2048, .f32⟩
  | .hbm, ⟨13, _⟩ => ⟨S_, .f32⟩
  | .hbm, ⟨14, _⟩ => ⟨S2x8x2048x2048, .f32⟩
  | .hbm, ⟨15, _⟩ => ⟨S2x8x2048x2048, .f32⟩
  | .hbm, ⟨16, _⟩ => ⟨S2x8x2048x2048, .f32⟩
  | .hbm, ⟨17, _⟩ => ⟨S2x8x2048x2048, .f32⟩
  | .hbm, ⟨18, _⟩ => ⟨S2x8x2048x2048, .f32⟩
  | .hbm, ⟨19, _⟩ => ⟨S2x8x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S2x8x2048x2048, .i1⟩
  | .hbm, ⟨29, _⟩ => ⟨S2x8x2048x2048, .f32⟩
  | .hbm, ⟨30, _⟩ => ⟨S2x8x2048x2048, .f32⟩
  | .hbm, ⟨31, _⟩ => ⟨S_, .f32⟩
  | .hbm, ⟨32, _⟩ => ⟨S2x8x2048, .f32⟩
  | .hbm, ⟨33, _⟩ => ⟨S2x8x2048x1, .f32⟩
  | .hbm, ⟨34, _⟩ => ⟨S2x8x2048x2048, .f32⟩
  | .hbm, ⟨35, _⟩ => ⟨S2x8x2048x2048, .f32⟩
  | .hbm, ⟨36, _⟩ => ⟨S2x8x2048x2048, .f32⟩
  | .hbm, ⟨37, _⟩ => ⟨S_, .f32⟩
  | .hbm, ⟨38, _⟩ => ⟨S2x8x2048, .f32⟩
  | .hbm, ⟨39, _⟩ => ⟨S2x8x2048x1, .f32⟩
  | .hbm, ⟨40, _⟩ => ⟨S2x8x2048x1, .f32⟩
  | .hbm, ⟨41, _⟩ => ⟨S2x8x2048x1, .f32⟩
  | .hbm, ⟨42, _⟩ => ⟨S2x8x2048x2048, .f32⟩
  | .hbm, ⟨43, _⟩ => ⟨S2x8x2048x2048, .f32⟩
  | .hbm, ⟨44, _⟩ => ⟨S2x8x128x2048, .f32⟩
  | .hbm, ⟨45, _⟩ => ⟨S2x2048x8x128, .f32⟩
  | .hbm, ⟨46, _⟩ => ⟨S4096x1024, .f32⟩
  | .hbm, ⟨47, _⟩ => ⟨S2x8x4x512, .f32⟩
  | .hbm, ⟨48, _⟩ => ⟨S4096x1024, .bf16⟩
  | .hbm, ⟨49, _⟩ => ⟨S4096x1024, .bf16⟩
  | .hbm, ⟨50, _⟩ => ⟨S4096x1024, .bf16⟩
  | .hbm, ⟨51, _⟩ => ⟨S2x8x2048x1, .f32⟩
  | .hbm, ⟨52, _⟩ => ⟨S2x8x4x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S1x1x2048x1, .f32⟩
  | .local _ .vmem, ⟨11, _⟩ => ⟨S1x1x2048x1, .f32⟩
  | .local _ .vmem, ⟨12, _⟩ => ⟨S1x1x2048x1, .f32⟩
  | .local _ .vmem, ⟨13, _⟩ => ⟨S1x1x2048x1, .f32⟩
  | .local _ .vmem, ⟨14, _⟩ => ⟨S1x1x4x512, .f32⟩
  | .local _ .vmem, ⟨15, _⟩ => ⟨S1x1x4x512, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x1x2048x1, .f32⟩
  | .local _ .vmem, ⟨23, _⟩ => ⟨S1x1x2048x1, .f32⟩
  | .local _ .vmem, ⟨24, _⟩ => ⟨S1x1x4x512, .f32⟩
  | .local _ .vmem, ⟨25, _⟩ => ⟨S1x1x4x512, .f32⟩
  | .local _ .vmem, ⟨26, _⟩ => ⟨S2048x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev main_v38_3 : Ref sig .tc := ⟨.hbm, 51, rfl⟩
abbrev main_v38_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x4x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x3072 : Shape := ⟨2, ![4096, 3072]⟩
abbrev S2x8x2048 : Shape := ⟨3, ![2, 8, 2048]⟩
abbrev S4096x1024 : Shape := ⟨2, ![4096, 1024]⟩
abbrev S2x2048x8x128 : Shape := ⟨4, ![2, 2048, 8, 128]⟩
abbrev S2x8x2048x2048 : Shape := ⟨4, ![2, 8, 2048, 2048]⟩
abbrev S_ : Shape := ⟨0, ![]⟩
abbrev S2x8x2048x1 : Shape := ⟨4, ![2, 8, 2048, 1]⟩
abbrev S2x8x1x2048 : Shape := ⟨4, ![2, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x128x2048 : Shape := ⟨4, ![2, 8, 128, 2048]⟩
abbrev S2x8x2048x128 : Shape := ⟨4, ![2, 8, 2048, 128]⟩
abbrev S2x8x4x512 : Shape := ⟨4, ![2, 8, 4, 512]⟩

abbrev nBuf : Space → Nat
  | .hbm => 123
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2x8x2048, .f32⟩
  | .hbm, ⟨2, _⟩ => ⟨S4096x1024, .bf16⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S2x2048x8x128, .f32⟩
  | .hbm, ⟨8, _⟩ => ⟨S2x2048x8x128, .f32⟩
  | .hbm, ⟨9, _⟩ => ⟨S2x2048x8x128, .f32⟩
  | .hbm, ⟨10, _⟩ => ⟨S2x8x2048x2048, .f32⟩
  | .hbm, ⟨11, _⟩ => ⟨S_, .f32⟩
  | .hbm, ⟨12, _⟩ => ⟨S2x8x2048x2048, .f32⟩
  | .hbm, ⟨13, _⟩ => ⟨S2x8x2048x2048, .f32⟩
  | .hbm, ⟨14, _⟩ => ⟨S2x8x2048x1, .f32⟩
  | .hbm, ⟨15, _⟩ => ⟨S2x8x2048x2048, .f32⟩
  | .hbm, ⟨16, _⟩ => ⟨S2x8x2048x2048, .f32⟩
  | .hbm, ⟨17, _⟩ => ⟨S2x8x1x2048, .f32⟩
  | .hbm, ⟨18, _⟩ => ⟨S2x8x2048x2048, .f32⟩
  | .hbm, ⟨19, _⟩ => ⟨S2x8x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S2x8x2048x2048, .i1⟩
  | .hbm, ⟨29, _⟩ => ⟨S2x8x2048x2048, .f32⟩
  | .hbm, ⟨30, _⟩ => ⟨S2x8x2048x2048, .f32⟩
  | .hbm, ⟨31, _⟩ => ⟨S_, .f32⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S2x8x2048x1, .f32⟩
  | .hbm, ⟨36, _⟩ => ⟨S2x8x2048x2048, .f32⟩
  | .hbm, ⟨37, _⟩ => ⟨S2x8x2048x2048, .i1⟩
  | .hbm, ⟨38, _⟩ => ⟨S2x8x2048x2048, .f32⟩
  | .hbm, ⟨39, _⟩ => ⟨S_, .f32⟩
  | .hbm, ⟨40, _⟩ => ⟨S2x8x2048, .f32⟩
  | .hbm, ⟨41, _⟩ => ⟨S_, .f32⟩
  | .hbm, ⟨42, _⟩ => ⟨S2x8x2048, .f32⟩
  | .hbm, ⟨43, _⟩ => ⟨S2x8x2048, .f32⟩
  | .hbm, ⟨44, _⟩ => ⟨S_, .f32⟩
  | .hbm, ⟨45, _⟩ => ⟨S2x8x2048, .f32⟩
  | .hbm, ⟨46, _⟩ => ⟨S2x8x2048, .i1⟩
  | .hbm, ⟨47, _⟩ => ⟨S_, .f32⟩
  | .hbm, ⟨48, _⟩ => ⟨S2x8x2048, .f32⟩
  | .hbm, ⟨49, _⟩ => ⟨S2x8x2048, .i1⟩
  | .hbm, ⟨50, _⟩ => ⟨S_, .f32⟩
  | .hbm, ⟨51, _⟩ => ⟨S2x8x2048, .f32⟩
  | .hbm, ⟨52, _⟩ => ⟨S_, .f32⟩
  | .hbm, ⟨53, _⟩ => ⟨S2x8x2048, .f32⟩
  | .hbm, ⟨54, _⟩ => ⟨S_, .f32⟩
  | .hbm, ⟨55, _⟩ => ⟨S2x8x2048, .f32⟩
  | .hbm, ⟨56, _⟩ => ⟨S2x8x2048, .f32⟩
  | .hbm, ⟨57, _⟩ => ⟨S2x8x2048, .f32⟩
  | .hbm, ⟨58, _⟩ => ⟨S2x8x2048x1, .f32⟩
  | .hbm, ⟨59, _⟩ => ⟨S2x8x2048x2048, .f32⟩
  | .hbm, ⟨60, _⟩ => ⟨S2x8x2048x2048, .f32⟩
  | .hbm, ⟨61, _⟩ => ⟨S2x8x2048x2048, .f32⟩
  | .hbm, ⟨62, _⟩ => ⟨S_, .f32⟩
  | .hbm, ⟨63, _⟩ => ⟨S2x8x2048, .f32⟩
  | .hbm, ⟨64, _⟩ => ⟨S2x8x2048x1, .f32⟩
  | .hbm, ⟨65, _⟩ => ⟨S2x8x2048x2048, .f32⟩
  | .hbm, ⟨66, _⟩ => ⟨S2x8x2048x2048, .f32⟩
  | .hbm, ⟨67, _⟩ => ⟨S2x8x2048x1, .f32⟩
  | .hbm, ⟨68, _⟩ => ⟨S_, .f32⟩
  | .hbm, ⟨69, _⟩ => ⟨S2x8x2048x1, .f32⟩
  | .hbm, ⟨70, _⟩ => ⟨S2x8x2048x1, .f32⟩
  | .hbm, ⟨71, _⟩ => ⟨S2x8x128x2048, .f32⟩
  | .hbm, ⟨72, _⟩ => ⟨S2x2048x8x128, .f32⟩
  | .hbm, ⟨73, _⟩ => ⟨S4096x1024, .f32⟩
  | .hbm, ⟨74, _⟩ => ⟨S4096x1024, .f32⟩
  | .hbm, ⟨75, _⟩ => ⟨S2x2048x8x128, .f32⟩
  | .hbm, ⟨76, _⟩ => ⟨S2x8x128x2048, .f32⟩
  | .hbm, ⟨77, _⟩ => ⟨S2x8x2048x2048, .f32⟩
  | .hbm, ⟨78, _⟩ => ⟨S2x8x128x2048, .f32⟩
  | .hbm, ⟨79, _⟩ => ⟨S2x2048x8x128, .f32⟩
  | .hbm, ⟨80, _⟩ => ⟨S2x8x2048x2048, .f32⟩
  | .hbm, ⟨81, _⟩ => ⟨S2x8x2048x2048, .f32⟩
  | .hbm, ⟨82, _⟩ => ⟨S2x8x2048x2048, .f32⟩
  | .hbm, ⟨83, _⟩ => ⟨S_, .f32⟩
  | .hbm, ⟨84, _⟩ => ⟨S2x8x2048, .f32⟩
  | .hbm, ⟨85, _⟩ => ⟨S2x8x2048x1, .f32⟩
  | .hbm, ⟨86, _⟩ => ⟨S2x8x2048x1, .f32⟩
  | .hbm, ⟨87, _⟩ => ⟨S2x8x2048x2048, .f32⟩
  | .hbm, ⟨88, _⟩ => ⟨S2x8x2048x2048, .f32⟩
  | .hbm, ⟨89, _⟩ => ⟨S_, .f32⟩
  | .hbm, ⟨90, _⟩ => ⟨S2x8x2048, .f32⟩
  | .hbm, ⟨91, _⟩ => ⟨S2x8x2048x2048, .f32⟩
  | .hbm, ⟨92, _⟩ => ⟨S2x8x2048x2048, .f32⟩
  | .hbm, ⟨93, _⟩ => ⟨S2x8x2048x2048, .f32⟩
  | .hbm, ⟨94, _⟩ => ⟨S_, .f32⟩
  | .hbm, ⟨95, _⟩ => ⟨S2x8x2048x2048, .f32⟩
  | .hbm, ⟨96, _⟩ => ⟨S2x8x2048x2048, .f32⟩
  | .hbm, ⟨97, _⟩ => ⟨S2x8x2048x2048, .f32⟩
  | .hbm, ⟨98, _⟩ => ⟨S_, .f32⟩
  | .hbm, ⟨99, _⟩ => ⟨S2x8x2048, .f32⟩
  | .hbm, ⟨100, _⟩ => ⟨S2x8x1x2048, .f32⟩
  | .hbm, ⟨101, _⟩ => ⟨S_, .f32⟩
  | .hbm, ⟨102, _⟩ => ⟨S2x8x2048, .f32⟩
  | .hbm, ⟨103, _⟩ => ⟨S_, .f32⟩
  | .hbm, ⟨104, _⟩ => ⟨S2x8x2048, .f32⟩
  | .hbm, ⟨105, _⟩ => ⟨S2x8x2048x1, .f32⟩
  | .hbm, ⟨106, _⟩ => ⟨S_, .f32⟩
  | .hbm, ⟨107, _⟩ => ⟨S2x8x2048, .f32⟩
  | .hbm, ⟨108, _⟩ => ⟨S_, .f32⟩
  | .hbm, ⟨109, _⟩ => ⟨S2x8x2048x2048, .f32⟩
  | .hbm, ⟨110, _⟩ => ⟨S2x8x2048x2048, .f32⟩
  | .hbm, ⟨111, _⟩ => ⟨S2x8x2048x128, .f32⟩
  | .hbm, ⟨112, _⟩ => ⟨S2x2048x8x128, .f32⟩
  | .hbm, ⟨113, _⟩ => ⟨S2x8x2048x128, .f32⟩
  | .hbm, ⟨114, _⟩ => ⟨S2x2048x8x128, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x1024, .bf16⟩
  | .hbm, ⟨119, _⟩ => ⟨S4096x1024, .bf16⟩
  | .hbm, ⟨120, _⟩ => ⟨S4096x1024, .bf16⟩
  | .hbm, ⟨121, _⟩ => ⟨S2x8x2048x1, .f32⟩
  | .hbm, ⟨122, _⟩ => ⟨S2x8x4x512, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_v22_1 : Ref sig .tc := ⟨.hbm, 28, rfl⟩
abbrev main_call0_v2 : Ref sig .tc := ⟨.hbm, 29, rfl⟩
abbrev main_v22_0 : Ref sig .tc := ⟨.hbm, 30, rfl⟩
abbrev main_call0_cst : Ref sig .tc := ⟨.hbm, 31, rfl⟩
abbrev main_v22_2 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_cst : Ref sig .tc := ⟨.hbm, 94, rfl⟩
abbrev main_call1_v0 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== AttnFwd.lean ====
abbrev S4096x3072 : Shape := ⟨2, ![4096, 3072]⟩
abbrev S2x8x2048 : Shape := ⟨3, ![2, 8, 2048]⟩
abbrev S2x8x2048x1 : Shape := ⟨4, ![2, 8, 2048, 1]⟩
abbrev S2x8x1x2048 : Shape := ⟨4, ![2, 8, 1, 2048]⟩
abbrev S2x8x4x512 : Shape := ⟨4, ![2, 8, 4, 512]⟩
abbrev S4096x1024 : Shape := ⟨2, ![4096, 1024]⟩
abbrev S2048x256 : Shape := ⟨2, ![2048, 256]⟩
abbrev S1x2x2048x1 : Shape := ⟨4, ![1, 2, 2048, 1]⟩
abbrev S1x2x4x512 : Shape := ⟨4, ![1, 2, 4, 512]⟩
abbrev S512x128 : Shape := ⟨2, ![512, 128]⟩
abbrev S1x1x512x1 : Shape := ⟨4, ![1, 1, 512, 1]⟩
abbrev S512x1 : Shape := ⟨2, ![512, 1]⟩
abbrev S1x1x1x512 : Shape := ⟨4, ![1, 1, 1, 512]⟩
abbrev S1x512 : Shape := ⟨2, ![1, 512]⟩
abbrev S512x512 : Shape := ⟨2, ![512, 512]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S4096x3072, .bf16⟩
  | .hbm, ⟨1, _⟩ => ⟨S2x8x2048, .f32⟩
  | .hbm, ⟨2, _⟩ => ⟨S2x8x2048x1, .f32⟩
  | .hbm, ⟨3, _⟩ => ⟨S2x8x1x2048, .f32⟩
  | .hbm, ⟨4, _⟩ => ⟨S2x8x4x512, .f32⟩
  | .hbm, ⟨5, _⟩ => ⟨S4096x1024, .f32⟩
  | .hbm, ⟨6, _⟩ => ⟨S4096x1024, .bf16⟩
  | .hbm, ⟨7, _⟩ => ⟨S2x8x2048x1, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x2x2048x1, .f32⟩
  | .local _ .vmem, ⟨7, _⟩ => ⟨S1x2x2048x1, .f32⟩
  | .local _ .vmem, ⟨8, _⟩ => ⟨S1x2x4x512, .f32⟩
  | .local _ .vmem, ⟨9, _⟩ => ⟨S1x2x4x512, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S1x2x2048x1, .f32⟩
  | .local _ .vmem, ⟨15, _⟩ => ⟨S1x2x2048x1, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnFwdIdeal.lean ====
variable {F : FTy → Type} [FloatOps F] [Named F]
def κ : String → Option EReal := fun
  | "mask" => some ⊥
  | _ => none
-- ==== AttnFwdReferenceIdeal.lean ====
abbrev S4096x3072 : Shape := ⟨2, ![4096, 3072]⟩
abbrev S2x8x2048 : Shape := ⟨3, ![2, 8, 2048]⟩
abbrev S4096x1024 : Shape := ⟨2, ![4096, 1024]⟩
abbrev S2x2048x8x128 : Shape := ⟨4, ![2, 2048, 8, 128]⟩
abbrev S2x8x2048x2048 : Shape := ⟨4, ![2, 8, 2048, 2048]⟩
abbrev S_ : Shape := ⟨0, ![]⟩
abbrev S2x8x2048x1 : Shape := ⟨4, ![2, 8, 2048, 1]⟩
abbrev S2x8x1x2048 : Shape := ⟨4, ![2, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x128x2048 : Shape := ⟨4, ![2, 8, 128, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2x8x2048, .f32⟩
  | .hbm, ⟨2, _⟩ => ⟨S4096x3072, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S2x2048x8x128, .f32⟩
  | .hbm, ⟨7, _⟩ => ⟨S2x2048x8x128, .f32⟩
  | .hbm, ⟨8, _⟩ => ⟨S2x2048x8x128, .f32⟩
  | .hbm, ⟨9, _⟩ => ⟨S2x8x2048x2048, .f32⟩
  | .hbm, ⟨10, _⟩ => ⟨S_, .f32⟩
  | .hbm, ⟨11, _⟩ => ⟨S2x8x2048x2048, .f32⟩
  | .hbm, ⟨12, _⟩ => ⟨S2x8x2048x2048, .f32⟩
  | .hbm, ⟨13, _⟩ => ⟨S2x8x2048x1, .f32⟩
  | .hbm, ⟨14, _⟩ => ⟨S2x8x2048x2048, .f32⟩
  | .hbm, ⟨15, _⟩ => ⟨S2x8x2048x2048, .f32⟩
  | .hbm, ⟨16, _⟩ => ⟨S2x8x1x2048, .f32⟩
  | .hbm, ⟨17, _⟩ => ⟨S2x8x2048x2048, .f32⟩
  | .hbm, ⟨18, _⟩ => ⟨S2x8x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S2x8x2048x2048, .i1⟩
  | .hbm, ⟨28, _⟩ => ⟨S2x8x2048x2048, .f32⟩
  | .hbm, ⟨29, _⟩ => ⟨S2x8x2048x2048, .f32⟩
  | .hbm, ⟨30, _⟩ => ⟨S_, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S2x8x2048, .f32⟩
  | .hbm, ⟨35, _⟩ => ⟨S2x8x2048x1, .f32⟩
  | .hbm, ⟨36, _⟩ => ⟨S2x8x2048x2048, .f32⟩
  | .hbm, ⟨37, _⟩ => ⟨S2x8x2048x2048, .f32⟩
  | .hbm, ⟨38, _⟩ => ⟨S2x8x2048x2048, .f32⟩
  | .hbm, ⟨39, _⟩ => ⟨S_, .f32⟩
  | .hbm, ⟨40, _⟩ => ⟨S2x8x2048, .f32⟩
  | .hbm, ⟨41, _⟩ => ⟨S2x8x2048x1, .f32⟩
  | .hbm, ⟨42, _⟩ => ⟨S2x8x2048x2048, .f32⟩
  | .hbm, ⟨43, _⟩ => ⟨S2x8x2048x2048, .f32⟩
  | .hbm, ⟨44, _⟩ => ⟨S2x8x128x2048, .f32⟩
  | .hbm, ⟨45, _⟩ => ⟨S2x2048x8x128, .f32⟩
  | .hbm, ⟨46, _⟩ => ⟨S4096x1024, .f32⟩
  | .hbm, ⟨47, _⟩ => ⟨S_, .f32⟩
  | .hbm, ⟨48, _⟩ => ⟨S2x8x2048, .f32⟩
  | .hbm, ⟨49, _⟩ => ⟨S2x8x2048x1, .f32⟩
  | .hbm, ⟨50, _⟩ => ⟨S2x8x2048x2048, .f32⟩
  | .hbm, ⟨51, _⟩ => ⟨S2x8x2048x2048, .f32⟩
  | .hbm, ⟨52, _⟩ => ⟨S2x8x2048x2048, .f32⟩
  | .hbm, ⟨53, _⟩ => ⟨S_, .f32⟩
  | .hbm, ⟨54, _⟩ => ⟨S2x8x2048, .f32⟩
  | .hbm, ⟨55, _⟩ => ⟨S2x8x2048x1, .f32⟩
  | .hbm, ⟨56, _⟩ => ⟨S2x8x2048x1, .f32⟩
  | .hbm, ⟨57, _⟩ => ⟨S2x8x2048x1, .f32⟩
  | .hbm, ⟨58, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== ZProjDw.lean ====
abbrev S4096x1024 : Shape := ⟨2, ![4096, 1024]⟩
abbrev S4096x7168 : Shape := ⟨2, ![4096, 7168]⟩
abbrev S1024x7168 : Shape := ⟨2, ![1024, 7168]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x7168, .bf16⟩
  | .hbm, ⟨2, _⟩ => ⟨S1024x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZProjDwReferenceIdeal.lean ====
abbrev S4096x1024 : Shape := ⟨2, ![4096, 1024]⟩
abbrev S4096x7168 : Shape := ⟨2, ![4096, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x7168, .bf16⟩
  | .hbm, ⟨2, _⟩ => ⟨S_, .f32⟩
  | .hbm, ⟨3, _⟩ => ⟨S1024x7168, .f32⟩
  | .hbm, ⟨4, _⟩ => ⟨S4096x1024, .f32⟩
  | .hbm, ⟨5, _⟩ => ⟨S4096x7168, .f32⟩
  | .hbm, ⟨6, _⟩ => ⟨S4096x7168, .f32⟩
  | .hbm, ⟨7, _⟩ => ⟨S7168x1024, .f32⟩
  | .hbm, ⟨8, _⟩ => ⟨S1024x7168, .f32⟩
  | .hbm, ⟨9, _⟩ => ⟨S1024x7168, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ZProjDx.lean ====
abbrev S4096x7168 : Shape := ⟨2, ![4096, 7168]⟩
abbrev S1024x7168 : Shape := ⟨2, ![1024, 7168]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x7168, .bf16⟩
  | .hbm, ⟨1, _⟩ => ⟨S1024x7168, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 7], ![false, false, false]⟩

def k0_cond1 (i : grid0.Coords) : BitVec 1 :=
  let arg2 : BitVec 32 := BitVec.ofNat 32 (i 2).val
  let c0_i32_5 : BitVec 32 := 0#32
  let v7 : BitVec 1 := Scalar.cmpi .eq arg2 c0_i32_5
  let v8 : BitVec 32 := Scalar.extui v7
  let c0_i32_6 : BitVec 32 := 0#32
  let v9 : BitVec 1 := Scalar.cmpi .ne v8 c0_i32_6
  v9

def k0_cond2 (i : grid0.Coords) : BitVec 1 :=
  let arg2 : BitVec 32 := BitVec.ofNat 32 (i 2).val
  let c0_i32_7 : BitVec 32 := 0#32
  let v10 : BitVec 1 := Scalar.cmpi .sgt arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ZProjDxReferenceIdeal.lean ====
abbrev S4096x7168 : Shape := ⟨2, ![4096, 7168]⟩
abbrev S1024x7168 : Shape := ⟨2, ![1024, 7168]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S1024x7168, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x7168, .f32⟩
  | .hbm, ⟨6, _⟩ => ⟨S4096x7168, .f32⟩
  | .hbm, ⟨7, _⟩ => ⟨S4096x7168, .f32⟩
  | .hbm, ⟨8, _⟩ => ⟨S4096x1024, .f32⟩
  | .hbm, ⟨9, _⟩ => ⟨S4096x1024, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfnInDw.lean ====
abbrev S4096x1024 : Shape := ⟨2, ![4096, 1024]⟩
abbrev S8x4096x704 : Shape := ⟨3, ![8, 4096, 704]⟩
abbrev S8x1024x704 : Shape := ⟨3, ![8, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x4096x704, .bf16⟩
  | .hbm, ⟨2, _⟩ => ⟨S8x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FfnInDwReferenceIdeal.lean ====
abbrev S4096x1024 : Shape := ⟨2, ![4096, 1024]⟩
abbrev S8x4096x704 : Shape := ⟨3, ![8, 4096, 704]⟩
abbrev S_ : Shape := ⟨0, ![]⟩
abbrev S8x1024x704 : Shape := ⟨3, ![8, 1024, 704]⟩
abbrev S8x704x4096 : Shape := ⟨3, ![8, 704, 4096]⟩
abbrev S8x704x1024 : Shape := ⟨3, ![8, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x4096x704, .bf16⟩
  | .hbm, ⟨2, _⟩ => ⟨S_, .f32⟩
  | .hbm, ⟨3, _⟩ => ⟨S8x1024x704, .f32⟩
  | .hbm, ⟨4, _⟩ => ⟨S4096x1024, .f32⟩
  | .hbm, ⟨5, _⟩ => ⟨S8x704x4096, .f32⟩
  | .hbm, ⟨6, _⟩ => ⟨S8x4096x704, .f32⟩
  | .hbm, ⟨7, _⟩ => ⟨S8x4096x704, .f32⟩
  | .hbm, ⟨8, _⟩ => ⟨S8x704x4096, .f32⟩
  | .hbm, ⟨9, _⟩ => ⟨S8x704x1024, .f32⟩
  | .hbm, ⟨10, _⟩ => ⟨S8x1024x704, .f32⟩
  | .hbm, ⟨11, _⟩ => ⟨S8x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnInDx.lean ====
abbrev S8x4096x704 : Shape := ⟨3, ![8, 4096, 704]⟩
abbrev S8x1024x704 : Shape := ⟨3, ![8, 1024, 704]⟩
abbrev S4096x1024 : Shape := ⟨2, ![4096, 1024]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x704, .bf16⟩
  | .hbm, ⟨1, _⟩ => ⟨S8x1024x704, .bf16⟩
  | .hbm, ⟨2, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .f32⟩
  | .local _ .vmem, ⟨5, _⟩ => ⟨S1024x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FfnInDxReferenceIdeal.lean ====
abbrev S8x4096x704 : Shape := ⟨3, ![8, 4096, 704]⟩
abbrev S8x1024x704 : Shape := ⟨3, ![8, 1024, 704]⟩
abbrev S_ : Shape := ⟨0, ![]⟩
abbrev S4096x1024 : Shape := ⟨2, ![4096, 1024]⟩
abbrev S8x704x4096 : Shape := ⟨3, ![8, 704, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x1024x704, .bf16⟩
  | .hbm, ⟨2, _⟩ => ⟨S_, .f32⟩
  | .hbm, ⟨3, _⟩ => ⟨S4096x1024, .f32⟩
  | .hbm, ⟨4, _⟩ => ⟨S8x1024x704, .f32⟩
  | .hbm, ⟨5, _⟩ => ⟨S8x704x4096, .f32⟩
  | .hbm, ⟨6, _⟩ => ⟨S8x4096x704, .f32⟩
  | .hbm, ⟨7, _⟩ => ⟨S8x4096x704, .f32⟩
  | .hbm, ⟨8, _⟩ => ⟨S8x704x4096, .f32⟩
  | .hbm, ⟨9, _⟩ => ⟨S4096x1024, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnOutDw.lean ====
abbrev S4x4096x704 : Shape := ⟨3, ![4, 4096, 704]⟩
abbrev S4096x1024 : Shape := ⟨2, ![4096, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FfnOutDwReferenceIdeal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .f32⟩
  | .hbm, ⟨3, _⟩ => ⟨S4x704x1024, .f32⟩
  | .hbm, ⟨4, _⟩ => ⟨S4x4096x704, .f32⟩
  | .hbm, ⟨5, _⟩ => ⟨S4096x1024, .f32⟩
  | .hbm, ⟨6, _⟩ => ⟨S4096x1024, .f32⟩
  | .hbm, ⟨7, _⟩ => ⟨S1024x4x704, .f32⟩
  | .hbm, ⟨8, _⟩ => ⟨S4x704x1024, .f32⟩
  | .hbm, ⟨9, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnOutDx.lean ====
abbrev S4096x1024 : Shape := ⟨2, ![4096, 1024]⟩
abbrev S4x704x1024 : Shape := ⟨3, ![4, 704, 1024]⟩
abbrev S8x4096x704 : Shape := ⟨3, ![8, 4096, 704]⟩
abbrev S2x4x4096x704 : Shape := ⟨4, ![2, 4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S8x4096x704, .f32⟩
  | .hbm, ⟨3, _⟩ => ⟨S2x4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .f32⟩
  | .local _ .vmem, ⟨5, _⟩ => ⟨S1x1024x704, .f32⟩
  | .local _ .vmem, ⟨6, _⟩ => ⟨S1x1024x704, .f32⟩
  | .local _ .vmem, ⟨7, _⟩ => ⟨S1x1024x704, .f32⟩
  | .local _ .vmem, ⟨8, _⟩ => ⟨S2x1x1024x704, .bf16⟩
  | .local _ .vmem, ⟨9, _⟩ => ⟨S2x1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnOutDxReferenceIdeal.lean ====
abbrev S4096x1024 : Shape := ⟨2, ![4096, 1024]⟩
abbrev S4x704x1024 : Shape := ⟨3, ![4, 704, 1024]⟩
abbrev S8x4096x704 : Shape := ⟨3, ![8, 4096, 704]⟩
abbrev S4x4096x704 : Shape := ⟨3, ![4, 4096, 704]⟩
abbrev S_ : Shape := ⟨0, ![]⟩
abbrev S4096x4x704 : Shape := ⟨3, ![4096, 4, 704]⟩
abbrev S1x4x4096x704 : Shape := ⟨4, ![1, 4, 4096, 704]⟩
abbrev S2x4x4096x704 : Shape := ⟨4, ![2, 4, 4096, 704]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S8x4096x704, .f32⟩
  | .hbm, ⟨3, _⟩ => ⟨S4x4096x704, .f32⟩
  | .hbm, ⟨4, _⟩ => ⟨S4x4096x704, .f32⟩
  | .hbm, ⟨5, _⟩ => ⟨S4x4096x704, .f32⟩
  | .hbm, ⟨6, _⟩ => ⟨S4x4096x704, .f32⟩
  | .hbm, ⟨7, _⟩ => ⟨S_, .f32⟩
  | .hbm, ⟨8, _⟩ => ⟨S4x4096x704, .f32⟩
  | .hbm, ⟨9, _⟩ => ⟨S4x4096x704, .f32⟩
  | .hbm, ⟨10, _⟩ => ⟨S_, .f32⟩
  | .hbm, ⟨11, _⟩ => ⟨S4x4096x704, .f32⟩
  | .hbm, ⟨12, _⟩ => ⟨S4x4096x704, .f32⟩
  | .hbm, ⟨13, _⟩ => ⟨S_, .f32⟩
  | .hbm, ⟨14, _⟩ => ⟨S4x4096x704, .f32⟩
  | .hbm, ⟨15, _⟩ => ⟨S4x4096x704, .f32⟩
  | .hbm, ⟨16, _⟩ => ⟨S4x4096x704, .f32⟩
  | .hbm, ⟨17, _⟩ => ⟨S4x4096x704, .f32⟩
  | .hbm, ⟨18, _⟩ => ⟨S4x4096x704, .f32⟩
  | .hbm, ⟨19, _⟩ => ⟨S4x704x1024, .f32⟩
  | .hbm, ⟨20, _⟩ => ⟨S4096x1024, .f32⟩
  | .hbm, ⟨21, _⟩ => ⟨S4096x1024, .f32⟩
  | .hbm, ⟨22, _⟩ => ⟨S4096x4x704, .f32⟩
  | .hbm, ⟨23, _⟩ => ⟨S4x4096x704, .f32⟩
  | .hbm, ⟨24, _⟩ => ⟨S4x4096x704, .f32⟩
  | .hbm, ⟨25, _⟩ => ⟨S4x4096x704, .f32⟩
  | .hbm, ⟨26, _⟩ => ⟨S4x4096x704, .f32⟩
  | .hbm, ⟨27, _⟩ => ⟨S4x4096x704, .f32⟩
  | .hbm, ⟨28, _⟩ => ⟨S4x4096x704, .f32⟩
  | .hbm, ⟨29, _⟩ => ⟨S4x4096x704, .f32⟩
  | .hbm, ⟨30, _⟩ => ⟨S1x4x4096x704, .f32⟩
  | .hbm, ⟨31, _⟩ => ⟨S1x4x4096x704, .f32⟩
  | .hbm, ⟨32, _⟩ => ⟨S2x4x4096x704, .f32⟩
  | .hbm, ⟨33, _⟩ => ⟨S2x4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== MixOutDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixOutDwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchAttDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchAttDxReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ZProjQkv.lean ====
abbrev S4096x1024 : Shape := ⟨2, ![4096, 1024]⟩
abbrev S1024x7168 : Shape := ⟨2, ![1024, 7168]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x7168, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZProjQkvReferenceIdeal.lean ====
abbrev S4096x1024 : Shape := ⟨2, ![4096, 1024]⟩
abbrev S1024x7168 : Shape := ⟨2, ![1024, 7168]⟩
abbrev S4096x7168 : Shape := ⟨2, ![4096, 7168]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7168, .bf16⟩
  | .hbm, ⟨2, _⟩ => ⟨S4096x1024, .f32⟩
  | .hbm, ⟨3, _⟩ => ⟨S1024x7168, .f32⟩
  | .hbm, ⟨4, _⟩ => ⟨S4096x7168, .f32⟩
  | .hbm, ⟨5, _⟩ => ⟨S4096x3072, .f32⟩
  | .hbm, ⟨6, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ZProjRest.lean ====
abbrev S4096x1024 : Shape := ⟨2, ![4096, 1024]⟩
abbrev S1024x7168 : Shape := ⟨2, ![1024, 7168]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x7168, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZProjRestReferenceIdeal.lean ====
abbrev S4096x1024 : Shape := ⟨2, ![4096, 1024]⟩
abbrev S1024x7168 : Shape := ⟨2, ![1024, 7168]⟩
abbrev S4096x7168 : Shape := ⟨2, ![4096, 7168]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7168, .bf16⟩
  | .hbm, ⟨2, _⟩ => ⟨S4096x1024, .f32⟩
  | .hbm, ⟨3, _⟩ => ⟨S1024x7168, .f32⟩
  | .hbm, ⟨4, _⟩ => ⟨S4096x7168, .f32⟩
  | .hbm, ⟨5, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnIn.lean ====
abbrev S4096x1024 : Shape := ⟨2, ![4096, 1024]⟩
abbrev S8x1024x704 : Shape := ⟨3, ![8, 1024, 704]⟩
abbrev S2x4x4096x704 : Shape := ⟨4, ![2, 4, 4096, 704]⟩
abbrev S4x4096x704 : Shape := ⟨3, ![4, 4096, 704]⟩
abbrev S1024x1024 : Shape := ⟨2, ![1024, 1024]⟩
abbrev S1x1024x704 : Shape := ⟨3, ![1, 1024, 704]⟩
abbrev S2x1x1024x704 : Shape := ⟨4, ![2, 1, 1024, 704]⟩
abbrev S1024x704 : Shape := ⟨2, ![1024, 704]⟩
abbrev S1x1x1024x704 : Shape := ⟨4, ![1, 1, 1024, 704]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S8x1024x704, .bf16⟩
  | .hbm, ⟨2, _⟩ => ⟨S2x4x4096x704, .f32⟩
  | .hbm, ⟨3, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S2x1x1024x704, .f32⟩
  | .local _ .vmem, ⟨7, _⟩ => ⟨S2x1x1024x704, .f32⟩
  | .local _ .vmem, ⟨8, _⟩ => ⟨S1x1024x704, .bf16⟩
  | .local _ .vmem, ⟨9, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInReferenceIdeal.lean ====
abbrev S4096x1024 : Shape := ⟨2, ![4096, 1024]⟩
abbrev S8x1024x704 : Shape := ⟨3, ![8, 1024, 704]⟩
abbrev S8x704x4096 : Shape := ⟨3, ![8, 704, 4096]⟩
abbrev S8x4096x704 : Shape := ⟨3, ![8, 4096, 704]⟩
abbrev S4x4096x704 : Shape := ⟨3, ![4, 4096, 704]⟩
abbrev S1x4x4096x704 : Shape := ⟨4, ![1, 4, 4096, 704]⟩
abbrev S2x4x4096x704 : Shape := ⟨4, ![2, 4, 4096, 704]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x704, .bf16⟩
  | .hbm, ⟨2, _⟩ => ⟨S4096x1024, .f32⟩
  | .hbm, ⟨3, _⟩ => ⟨S8x1024x704, .f32⟩
  | .hbm, ⟨4, _⟩ => ⟨S8x704x4096, .f32⟩
  | .hbm, ⟨5, _⟩ => ⟨S8x4096x704, .f32⟩
  | .hbm, ⟨6, _⟩ => ⟨S4x4096x704, .f32⟩
  | .hbm, ⟨7, _⟩ => ⟨S4x4096x704, .f32⟩
  | .hbm, ⟨8, _⟩ => ⟨S1x4x4096x704, .f32⟩
  | .hbm, ⟨9, _⟩ => ⟨S1x4x4096x704, .f32⟩
  | .hbm, ⟨10, _⟩ => ⟨S2x4x4096x704, .f32⟩
  | .hbm, ⟨11, _⟩ => ⟨S4x4096x704, .f32⟩
  | .hbm, ⟨12, _⟩ => ⟨S4x4096x704, .f32⟩
  | .hbm, ⟨13, _⟩ => ⟨S_, .f32⟩
  | .hbm, ⟨14, _⟩ => ⟨S4x4096x704, .f32⟩
  | .hbm, ⟨15, _⟩ => ⟨S4x4096x704, .f32⟩
  | .hbm, ⟨16, _⟩ => ⟨S_, .f32⟩
  | .hbm, ⟨17, _⟩ => ⟨S4x4096x704, .f32⟩
  | .hbm, ⟨18, _⟩ => ⟨S4x4096x704, .f32⟩
  | .hbm, ⟨19, _⟩ => ⟨S4x4096x704, .f32⟩
  | .hbm, ⟨20, _⟩ => ⟨S4x4096x704, .f32⟩
  | .hbm, ⟨21, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== FfnOut.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FfnOutReferenceIdeal.lean ====
abbrev S4x4096x704 : Shape := ⟨3, ![4, 4096, 704]⟩
abbrev S4x704x1024 : Shape := ⟨3, ![4, 704, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4x4096x704, .f32⟩
  | .hbm, ⟨3, _⟩ => ⟨S4x704x1024, .f32⟩
  | .hbm, ⟨4, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchAttDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchAttDwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchRnnDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchRnnDwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PleGateDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleGateDwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchRnnDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRnnDxReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleGateDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateDxReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchAtt.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchAttReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchRnn.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRnnReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleGate.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleProj.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjReferenceIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleProjDw.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleProjDwReferenceIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FProj.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FProjReferenceIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FProjDw.lean ====
abbrev S4096x1024 : Shape := ⟨2, ![4096, 1024]⟩
abbrev S4096x128 : Shape := ⟨2, ![4096, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== FProjDwReferenceIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FProjDx.lean ====
abbrev S4096x128 : Shape := ⟨2, ![4096, 128]⟩
abbrev S1024x128 : Shape := ⟨2, ![1024, 128]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FProjDxReferenceIdeal.lean ====
abbrev S4096x128 : Shape := ⟨2, ![4096, 128]⟩
abbrev S1024x128 : Shape := ⟨2, ![1024, 128]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x128, .f32⟩
  | .hbm, ⟨6, _⟩ => ⟨S4096x128, .f32⟩
  | .hbm, ⟨7, _⟩ => ⟨S4096x128, .f32⟩
  | .hbm, ⟨8, _⟩ => ⟨S4096x1024, .f32⟩
  | .hbm, ⟨9, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MergeBwd.lean ====
abbrev S4096x4096 : Shape := ⟨2, ![4096, 4096]⟩
abbrev S4096x1024 : Shape := ⟨2, ![4096, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 12
  | .vmem => 22
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S1x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_24 : BitVec 32 := 0#32
  let v43 : BitVec 1 := Scalar.cmpi .ne v42 c0_i32_24
  v43

def k0_cond2 (i : grid0.Coords) : BitVec 1 :=
  let arg0 : BitVec 32 := BitVec.ofNat 32 (i 0).val
  let c0_i32_25 : BitVec 32 := 0#32
  let v44 : BitVec 1 := Scalar.cmpi .sgt arg0 c0_i32_25
  let v45 : BitVec 32 := Scalar.extui v44
  let c0_i32_26 : BitVec 32 := 0#32
  let v46 : BitVec 1 := Scalar.cmpi .ne v45 c0_i32_26
  v46

def k0_cond3 (i : grid0.Coords) : BitVec 1 :=
  let arg0 : BitVec 32 := BitVec.ofNat 32 (i 0).val
  let c0_i32_27 : BitVec 32 := 0#32
  let v47 : BitVec 1 := Scalar.cmpi .eq arg0 c0_i32_27
  let v48 : BitVec 32 := Scalar.extui v47
  let c0_i32_28 : BitVec 32 := 0#32
  let v49 : BitVec 1 := Scalar.cmpi .ne v48 c0_i32_28
  v49

def k0_cond4 (i : grid0.Coords) : BitVec 1 :=
  let arg0 : BitVec 32 := BitVec.ofNat 32 (i 0).val
  let c0_i32_29 : BitVec 32 := 0#32
  let v50 : BitVec 1 := Scalar.cmpi .sgt arg0 c0_i32_29
  let v51 : BitVec 32 := Scalar.extui v50
  let c0_i32_30 : BitVec 32 := 0#32
  let v52 : BitVec 1 := Scalar.cmpi .ne v51 c0_i32_30
  v52

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MergeBwdReferenceIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .bf16⟩
  | .hbm, ⟨54, _⟩ => ⟨S4096x1024, .bf16⟩
  | .hbm, ⟨55, _⟩ => ⟨S4096x1024, .bf16⟩
  | .hbm, ⟨56, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== RnnOutBwd.lean ====
abbrev S4096x1024 : Shape := ⟨2, ![4096, 1024]⟩
abbrev S4096x4096 : Shape := ⟨2, ![4096, 4096]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S4096x1024, .f32⟩
  | .hbm, ⟨4, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RnnOutBwdReferenceIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MergeFwd.lean ====
abbrev S4096x4096 : Shape := ⟨2, ![4096, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFwdReferenceIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== RnnOutFwd.lean ====
abbrev S4096x1024 : Shape := ⟨2, ![4096, 1024]⟩
abbrev S4096x4096 : Shape := ⟨2, ![4096, 4096]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RnnOutFwdReferenceIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Frames.lean ====
/- The frames of the three programs, and the one named constant. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Fox

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem mask_named : Cert.preserves_Kernel_KernelIdeal :=
  IdealRules.named_const.statement Cert.KernelIdeal.κ "mask" .f32 0xF149F2CA#32 ⊥ rfl

end Cert.Fox

end
-- ==== Proof.Stage.lean ====
/- The attention's reference values, one after another, as named functions of the three arguments. -/
module

public import proofs.«01_k».proof.Proof.Gen.ReferenceIdeal.Run
public import Idealize.ShloMosaic.Lib.Pointwise

@[expose] public section

set_option maxRecDepth 16384

noncomputable section

namespace Cert.Fox

open Cert.ReferenceIdeal Cert.ReferenceIdeal.Gen Idealize.ShloMosaic Idealize.ShloMosaic.TcCoe Idealize.SL.Sem

abbrev Heads : Type := FVec Ideal S2x2048x8x128 .f32
abbrev Square : Type := FVec Ideal S2x8x2048x2048 .f32
abbrev Lines : Type := FVec Ideal S2x8x2048 .f32
abbrev Thin : Type := FVec Ideal S2x8x2048x1 .f32

/-- Queries, keys and values by head. -/
def qh (z : FVec Ideal S4096x3072 .bf16) : Heads :=
  shapeCast _ (extractStridedSlice S4096x1024 ![0, 0] (extf .f32 z bitsLt_bf16_f32) slices_S4096x3072_S4096x1024_0_0) shapeCasts_S4096x1024_S2x2048x8x128
def kh (z : FVec Ideal S4096x3072 .bf16) : Heads :=
  shapeCast _ (extractStridedSlice S4096x1024 ![0, 1024] (extf .f32 z bitsLt_bf16_f32) slices_S4096x3072_S4096x1024_0_1024) shapeCasts_S4096x1024_S2x2048x8x128
def vh (z : FVec Ideal S4096x3072 .bf16) : Heads :=
  shapeCast _ (extractStridedSlice S4096x1024 ![0, 2048] (extf .f32 z bitsLt_bf16_f32) slices_S4096x3072_S4096x1024_0_2048) shapeCasts_S4096x1024_S2x2048x8x128

/-- The causal mask. -/
def cm : IVec S2x8x2048x2048 1 :=
  broadcastInDim S2x8x2048x2048 ![2, 3] bcast_S2048x2048_S2x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The masked scores. -/
def sc (q k : Heads) (c : Lines) : Square :=
  select cm (subf (addf (mulf (Host.dotGeneral dot_S2x2048x8x128_S2x2048x8x128_S2x8x2048x2048_3_3_1_1_02_02 none q k) (broadcastInDim S2x8x2048x2048 ![] bcast_S_S2x8x2048x2048 (constant S_ .f32 0x3DB504F3#32))) (broadcastInDim S2x8x2048x2048 ![0, 1, 2, 3] bcast_S2x8x2048x1_S2x8x2048x2048_0_1_2_3 (broadcastInDim S2x8x2048x1 ![0, 1, 2] bcast_S2x8x2048_S2x8x2048x1_0_1_2 c))) (broadcastInDim S2x8x2048x2048 ![0, 1, 2, 3] bcast_S2x8x1x2048_S2x8x2048x2048_0_1_2_3 (broadcastInDim S2x8x1x2048 ![0, 1, 3] bcast_S2x8x2048_S2x8x1x2048_0_1_3 c)))
    (broadcastInDim S2x8x2048x2048 ![] bcast_S_S2x8x2048x2048 (id (constant S_ .f32 0xFF800000#32)))

/-- A row's largest score. -/
def mx (s : Square) : Lines :=
  Host.reduce FloatOps.maximumf s (constant S_ .f32 0xFF800000#32) reducesTo_S2x8x2048x2048_S2x8x2048_d3 h_S_

def thin (x : Lines) : Thin := broadcastInDim S2x8x2048x1 ![0, 1, 2] bcast_S2x8x2048_S2x8x2048x1_0_1_2 x
def wide (x : Thin) : Square := broadcastInDim S2x8x2048x2048 ![0, 1, 2, 3] bcast_S2x8x2048x1_S2x8x2048x2048_0_1_2_3 x
def zero : FVec Ideal S_ .f32 := constant S_ .f32 0x00000000#32
/-- Exponentials, and the sum along a row. -/
def ex (s : Square) (m : Lines) : Square := Host.exp (subf s (wide (thin m)))
def sm (e : Square) : Lines := Host.reduceAdd e zero reducesTo_S2x8x2048x2048_S2x8x2048_d3 h_S_

/-- The output's gradient by head, and its products with the values. -/
def gh (g : FVec Ideal S4096x1024 .bf16) : FVec Ideal S2x8x128x2048 .f32 :=
  transpose S2x8x128x2048 [0, 2, 3, 1] (shapeCast _ (extf .f32 g bitsLt_bf16_f32) shapeCasts_S4096x1024_S2x2048x8x128) transposes_S2x2048x8x128_S2x8x128x2048_0_2_3_1
def dp (g : FVec Ideal S2x8x128x2048 .f32) (v : Heads) : Square :=
  Host.dotGeneral dot_S2x8x128x2048_S2x2048x8x128_S2x8x2048x2048_2_3_3_1_01_02 none g v

/-- The gradient of the scores. -/
def ds (e p : Square) (l : Lines) : Square :=
  select cm (mulf (addf (Host.divf p (wide (thin l)))
    (broadcastInDim S2x8x2048x2048 ![0, 1, 2] bcast_S2x8x2048_S2x8x2048x2048_0_1_2
      (Host.reduceAdd (Host.negf (shapeCast _ (Host.reduceAdd (mulf (mulf p (wide (Host.divf (broadcastInDim S2x8x2048x1 ![] bcast_S_S2x8x2048x1 (constant S_ .f32 0x3F800000#32)) (mulf (thin l) (thin l))))) e) zero reducesTo_S2x8x2048x2048_S2x8x2048_d3 h_S_) shapeCasts_S2x8x2048_S2x8x2048x1)) zero reducesTo_S2x8x2048x1_S2x8x2048_d3 h_S_))) e)
    (broadcastInDim S2x8x2048x2048 ![] bcast_S_S2x8x2048x2048 (constant S_ .f32 0x00000000#32))
def dss (d : Square) : Square := mulf d (broadcastInDim S2x8x2048x2048 ![] bcast_S_S2x8x2048x2048 (constant S_ .f32 0x3DB504F3#32))

/-- The five results. -/
def oq (d : Square) (k : Heads) : FVec Ideal S4096x1024 .bf16 :=
  truncf .bf16 (shapeCast _ (transpose S2x2048x8x128 [0, 2, 1, 3] (Host.dotGeneral dot_S2x8x2048x2048_S2x2048x8x128_S2x8x2048x128_3_1_2_3_01_02 none (dss d) k) transposes_S2x8x2048x128_S2x2048x8x128_0_2_1_3) shapeCasts_S2x2048x8x128_S4096x1024) bitsLt_bf16_f32
def ok (d : Square) (q : Heads) : FVec Ideal S4096x1024 .bf16 :=
  truncf .bf16 (shapeCast _ (transpose S2x2048x8x128 [0, 2, 1, 3] (Host.dotGeneral dot_S2x8x2048x2048_S2x2048x8x128_S2x8x2048x128_2_1_3_3_01_02 none (dss d) q) transposes_S2x8x2048x128_S2x2048x8x128_0_2_1_3) shapeCasts_S2x2048x8x128_S4096x1024) bitsLt_bf16_f32
def ov (e : Square) (l : Lines) (g : FVec Ideal S2x8x128x2048 .f32) : FVec Ideal S4096x1024 .bf16 :=
  truncf .bf16 (shapeCast _ (transpose S2x2048x8x128 [0, 3, 1, 2] (Host.dotGeneral dot_S2x8x128x2048_S2x8x2048x2048_S2x8x128x2048_3_2_2_3_01_01 none g (Host.divf e (wide (thin l)))) transposes_S2x8x128x2048_S2x2048x8x128_0_3_1_2) shapeCasts_S2x2048x8x128_S4096x1024) bitsLt_bf16_f32
def ocq (d : Square) : Thin :=
  thin (Host.reduceAdd (shapeCast _ (Host.reduceAdd d zero reducesTo_S2x8x2048x2048_S2x8x2048_d3 h_S_) shapeCasts_S2x8x2048_S2x8x2048x1) zero reducesTo_S2x8x2048x1_S2x8x2048_d3 h_S_)
def ock (d : Square) : FVec Ideal S2x8x4x512 .f32 :=
  shapeCast _ (Host.reduceAdd (shapeCast _ (Host.reduceAdd (Host.negf d) zero reducesTo_S2x8x2048x2048_S2x8x2048_d2 h_S_) shapeCasts_S2x8x2048_S2x8x1x2048) zero reducesTo_S2x8x1x2048_S2x8x2048_d2 h_S_) shapeCasts_S2x8x2048_S2x8x4x512

/-- The reference's row maximum, which it takes once more against −∞. -/
def mx' (s : Square) : Lines := maximumf (broadcastInDim S2x8x2048 ![] bcast_S_S2x8x2048 (constant S_ .f32 0xFF800000#32)) (mx s)

section
variable (z : FVec Ideal S4096x3072 .bf16) (c : Lines) (g : FVec Ideal S4096x1024 .bf16)
def rS : Square := sc (qh z) (kh z) c
def rE : Square := ex (rS z c) (mx' (rS z c))
def rL : Lines := sm (rE z c)
def rD : Square := ds (rE z c) (dp (gh g) (vh z)) (rL z c)
end

variable (m : (ℓ : Loc nD τ sig) → Buf (Elt Ideal) ℓ) (c : Dev nD)

theorem out0_eq : Value.res_out0 m c = oq (rD (m ((c.tc : Thread nD τ).loc main_arg0)) (m ((c.tc : Thread nD τ).loc main_arg1)) (m ((c.tc : Thread nD τ).loc main_arg2))) (kh (m ((c.tc : Thread nD τ).loc main_arg0))) := rfl
theorem out1_eq : Value.res_out1 m c = ok (rD (m ((c.tc : Thread nD τ).loc main_arg0)) (m ((c.tc : Thread nD τ).loc main_arg1)) (m ((c.tc : Thread nD τ).loc main_arg2))) (qh (m ((c.tc : Thread nD τ).loc main_arg0))) := rfl
theorem out2_eq : Value.res_out2 m c = ov (rE (m ((c.tc : Thread nD τ).loc main_arg0)) (m ((c.tc : Thread nD τ).loc main_arg1))) (rL (m ((c.tc : Thread nD τ).loc main_arg0)) (m ((c.tc : Thread nD τ).loc main_arg1))) (gh (m ((c.tc : Thread nD τ).loc main_arg2))) := rfl
theorem out3_eq : Value.res_out3 m c = ocq (rD (m ((c.tc : Thread nD τ).loc main_arg0)) (m ((c.tc : Thread nD τ).loc main_arg1)) (m ((c.tc : Thread nD τ).loc main_arg2))) := rfl
theorem out4_eq : Value.res_out4 m c = ock (rD (m ((c.tc : Thread nD τ).loc main_arg0)) (m ((c.tc : Thread nD τ).loc main_arg1)) (m ((c.tc : Thread nD τ).loc main_arg2))) := rfl

end Cert.Fox

end
-- ==== Proof.Softmax.lean ====
/- A causal softmax row and the gradient through it, over the reals, and their readings over the extended reals. -/
module

public import Idealize.ShloMosaic.Lib.Pointwise
public import Mathlib.Analysis.SpecialFunctions.Log.Basic

@[expose] public section

noncomputable section

namespace Cert.Fox

open Idealize.ShloMosaic

/-- A finite sum of reals read over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (a b : ℝ) (h : b ≠ 0) : Ideal.div (a : EReal) (b : EReal) = ((a / b : ℝ) : EReal) := by
  rw [Ideal.div_coe h, ← EReal.coe_mul]; congr 1; field_simp

section
variable {n : ℕ} (S P : Fin n → Fin n → ℝ) (M : Fin n → ℝ)

/-- The exponential of a score against the row's reference value, zero above the diagonal. -/
def eR (t u : Fin n) : ℝ := if u ≤ t then Real.exp (S t u - M t) else 0
/-- The row's sum. -/
def lR (t : Fin n) : ℝ := ∑ u, eR S M t u
/-- The softmax. -/
def pR (t u : Fin n) : ℝ := eR S M t u / lR S M t
/-- The gradient of the scores, `P` the gradient of the softmax. -/
def dR (t u : Fin n) : ℝ := pR S M t u * (P t u - ∑ w, pR S M t w * P t w)

theorem eR_nonneg (t u : Fin n) : 0 ≤ eR S M t u := by
  unfold eR; split
  · exact (Real.exp_pos _).le
  · exact le_rfl

theorem lR_pos (t : Fin n) : 0 < lR S M t :=
  Finset.sum_pos' (fun u _ => eR_nonneg S M t u) ⟨t, Finset.mem_univ _, by unfold eR; rw [if_pos le_rfl]; exact Real.exp_pos _⟩

theorem pR_above {t u : Fin n} (h : ¬u ≤ t) : pR S M t u = 0 := by unfold pR eR; rw [if_neg h, zero_div]
theorem dR_above {t u : Fin n} (h : ¬u ≤ t) : dR S P M t u = 0 := by unfold dR; rw [pR_above S M h, zero_mul]

/-- The softmax from the logarithm of the row's sum. -/
theorem exp_lse {t u : Fin n} (h : u ≤ t) : Real.exp (S t u - (M t + Real.log (lR S M t))) = pR S M t u := by
  unfold pR eR
  rw [if_pos h, ← sub_sub, Real.exp_sub (S t u - M t), Real.exp_log (lR_pos S M t)]

/-- The gradient of the scores in the form of the quotient's derivative. -/
theorem dR_quot (t u : Fin n) :
    (P t u / lR S M t + -∑ w, P t w * (1 / (lR S M t * lR S M t)) * eR S M t w) * eR S M t u = dR S P M t u := by
  have hl := (lR_pos S M t).ne'
  unfold dR pR
  have : ∑ w, P t w * (1 / (lR S M t * lR S M t)) * eR S M t w = (∑ w, eR S M t w / lR S M t * P t w) / lR S M t := by
    rw [Finset.sum_div]; refine Finset.sum_congr rfl fun w _ => ?_; field_simp
  rw [this]; field_simp; ring

end

/-- A maximum of finitely many extended reals, each a real or −∞, one of them a real, is a real. -/
theorem fold_max_real {n : ℕ} (f : Fin n → EReal) (t : Fin n) (h : ∀ u, f u ≠ ⊤) (ht : f t ≠ ⊥) :
    ∃ r : ℝ, Finset.univ.fold max ⊥ f = (r : EReal) := by
  have hle : f t ≤ Finset.univ.fold max ⊥ f := (Finset.le_fold_max _).mpr (Or.inr ⟨t, Finset.mem_univ _, le_rfl⟩)
  have hlt : Finset.univ.fold max ⊥ f < ⊤ := (Finset.fold_max_lt _).mpr ⟨bot_lt_top, fun u _ => lt_top_iff_ne_top.mpr (h u)⟩
  have hb : Finset.univ.fold max ⊥ f ≠ ⊥ := fun e => ht (le_bot_iff.mp (e ▸ hle))
  exact ⟨_, (EReal.coe_toReal hlt.ne hb).symm⟩

theorem ofBits_negInf : Ideal.ofBits .f32 0xFF800000#32 = ⊥ := by simp [Ideal.ofBits, Ideal.ieee]

/-- The score scale as a real. -/
theorem scale_real : ∃ r : ℝ, Ideal.ofBits .f32 0x3DB504F3#32 = (r : EReal) := by
  simp only [Ideal.ofBits, Ideal.ieee]
  rw [if_neg (by decide), if_neg (by decide)]
  exact ⟨_, rfl⟩
def scl : ℝ := scale_real.choose
theorem ofBits_scl : Ideal.ofBits .f32 0x3DB504F3#32 = ((scl : ℝ) : EReal) := scale_real.choose_spec

end Cert.Fox

end
-- ==== Proof.Index.lean ====
/- The reference's values at an index, as real numbers: masked scores, exponentials, the scores' gradient, the results. -/
module

public import proofs.«01_k».proof.Proof.Stage
public import proofs.«01_k».proof.Proof.Softmax
public import Idealize.ShloMosaic.Lib.WordCmp

@[expose] public section

set_option maxRecDepth 16384

noncomputable section

namespace Cert.Fox

open Cert.ReferenceIdeal Cert.ReferenceIdeal.Gen Idealize.ShloMosaic

/-- Row `t` of batch `b`, column `d` of head `h`. -/
def rowi (b : Fin 2) (t : Fin 2048) : Fin 4096 := ⟨b.val * 2048 + t.val, by omega⟩
def coli (h : Fin 8) (d : Fin 128) : Fin 1024 := ⟨h.val * 128 + d.val, by omega⟩

theorem rowi_div (b : Fin 2) (t : Fin 2048) (p : (rowi b t).val / 2048 < 2) : (⟨(rowi b t).val / 2048, p⟩ : Fin 2) = b := by
  apply Fin.ext; simp only [rowi]; omega
theorem rowi_mod (b : Fin 2) (t : Fin 2048) (p : (rowi b t).val % 2048 < 2048) : (⟨(rowi b t).val % 2048, p⟩ : Fin 2048) = t := by
  apply Fin.ext; simp only [rowi]; omega
theorem coli_div (h : Fin 8) (d : Fin 128) (p : (coli h d).val / 128 < 8) : (⟨(coli h d).val / 128, p⟩ : Fin 8) = h := by
  apply Fin.ext; simp only [coli]; omega
theorem coli_mod (h : Fin 8) (d : Fin 128) (p : (coli h d).val % 128 < 128) : (⟨(coli h d).val % 128, p⟩ : Fin 128) = d := by
  apply Fin.ext; simp only [coli]; omega

/-- The arguments as reals. -/
structure Data where
  z : Fin 4096 → Fin 3072 → ℝ
  c : Fin 2 → Fin 8 → Fin 2048 → ℝ
  g : Fin 4096 → Fin 1024 → ℝ

/-- The arguments hold these reals. -/
structure Data.Of (A : Data) (z : FVec Ideal S4096x3072 .bf16) (c : Lines) (g : FVec Ideal S4096x1024 .bf16) : Prop where
  hz : ∀ i j, z (ix2 i j) = ((A.z i j : ℝ) : EReal)
  hc : ∀ b h t, c (ix3 b h t) = ((A.c b h t : ℝ) : EReal)
  hg : ∀ i j, g (ix2 i j) = ((A.g i j : ℝ) : EReal)

namespace Data
variable (A : Data)

def Q (b : Fin 2) (h : Fin 8) (t : Fin 2048) (d : Fin 128) : ℝ := A.z (rowi b t) ⟨h.val * 128 + d.val, by omega⟩
def K (b : Fin 2) (h : Fin 8) (t : Fin 2048) (d : Fin 128) : ℝ := A.z (rowi b t) ⟨1024 + (h.val * 128 + d.val), by omega⟩
def V (b : Fin 2) (h : Fin 8) (t : Fin 2048) (d : Fin 128) : ℝ := A.z (rowi b t) ⟨2048 + (h.val * 128 + d.val), by omega⟩
def G (b : Fin 2) (h : Fin 8) (t : Fin 2048) (d : Fin 128) : ℝ := A.g (rowi b t) (coli h d)
/-- Scores, the gradient of the softmax, a row's largest score. -/
def S (b : Fin 2) (h : Fin 8) (t u : Fin 2048) : ℝ := (∑ d, A.Q b h t d * A.K b h u d) * scl + A.c b h t - A.c b h u
def DP (b : Fin 2) (h : Fin 8) (t u : Fin 2048) : ℝ := ∑ d, A.G b h t d * A.V b h u d
def Sm (b : Fin 2) (h : Fin 8) (t u : Fin 2048) : EReal := if u ≤ t then ((A.S b h t u : ℝ) : EReal) else ⊥
def M (b : Fin 2) (h : Fin 8) (t : Fin 2048) : ℝ := (Finset.univ.fold max ⊥ (A.Sm b h t)).toReal
def E (b : Fin 2) (h : Fin 8) : Fin 2048 → Fin 2048 → ℝ := eR (A.S b h) (A.M b h)
def L (b : Fin 2) (h : Fin 8) : Fin 2048 → ℝ := lR (A.S b h) (A.M b h)
def P (b : Fin 2) (h : Fin 8) : Fin 2048 → Fin 2048 → ℝ := pR (A.S b h) (A.M b h)
def D (b : Fin 2) (h : Fin 8) : Fin 2048 → Fin 2048 → ℝ := dR (A.S b h) (A.DP b h) (A.M b h)

theorem fold_Sm (b : Fin 2) (h : Fin 8) (t : Fin 2048) : Finset.univ.fold max ⊥ (A.Sm b h t) = ((A.M b h t : ℝ) : EReal) := by
  obtain ⟨r, hr⟩ := fold_max_real (A.Sm b h t) t (fun u => by unfold Sm; split <;> simp) (by unfold Sm; simp)
  unfold M; rw [hr, EReal.toReal_coe]

theorem L_ne (b : Fin 2) (h : Fin 8) (t : Fin 2048) : A.L b h t ≠ 0 := (lR_pos _ _ t).ne'
end Data

/-! ## The stages at an index -/

theorem qh_at (z : FVec Ideal S4096x3072 .bf16) (b : Fin 2) (t : Fin 2048) (h : Fin 8) (d : Fin 128) :
    qh z (ix4 b t h d) = z (ix2 (rowi b t) ⟨h.val * 128 + d.val, by omega⟩) := by
  pointwise [qh]; rfl
theorem kh_at (z : FVec Ideal S4096x3072 .bf16) (b : Fin 2) (t : Fin 2048) (h : Fin 8) (d : Fin 128) :
    kh z (ix4 b t h d) = z (ix2 (rowi b t) ⟨1024 + (h.val * 128 + d.val), by omega⟩) := by
  pointwise [kh]; rfl
theorem vh_at (z : FVec Ideal S4096x3072 .bf16) (b : Fin 2) (t : Fin 2048) (h : Fin 8) (d : Fin 128) :
    vh z (ix4 b t h d) = z (ix2 (rowi b t) ⟨2048 + (h.val * 128 + d.val), by omega⟩) := by
  pointwise [vh]; rfl

theorem sel_mask {n : ℕ} (hn : n ≤ 2048) (t u : Fin n) (x y : EReal) :
    Scalar.select (IntOp.cmpi .sle (BitVec.ofNat 32 u.val) (BitVec.ofNat 32 t.val)) x y = if u ≤ t then x else y := by
  rw [WordCmp.cmpi_sle_ofNat (by have := u.isLt; omega) (by have := t.isLt; omega)]
  by_cases hut : u ≤ t
  · rw [if_pos hut, decide_eq_true (Fin.le_def.mp hut)]; rfl
  · rw [if_neg hut, decide_eq_false (fun hh => hut (Fin.le_def.mpr hh))]; rfl

theorem sc_at (q k : Heads) (c : Lines) (b : Fin 2) (h : Fin 8) (t u : Fin 2048) :
    sc q k c (ix4 b h t u)
      = if u ≤ t then (∑ x, q (ix4 b t h x) * k (ix4 b u h x)) * Ideal.ofBits FTy.f32 1035273459#32 + c (ix3 b h t) - c (ix3 b h u) else ⊥ := by
  pointwise [sc, cm]
  rw [sel_mask le_rfl]
  rfl

theorem fold_maximumf {n : ℕ} (b : EReal) (f : Fin n → EReal) :
    Finset.univ.fold (FloatOps.maximumf (F := Ideal) (φ := .f32)) b f = Finset.univ.fold max b f := rfl

theorem mx_at (s : Square) (b : Fin 2) (h : Fin 8) (t : Fin 2048) :
    mx s (ix3 b h t) = Finset.univ.fold max (Ideal.ofBits FTy.f32 4286578688#32) fun u => s (ix4 b h t u) := by
  unfold mx
  rw [Host.reduce_eq_fold, Shape.ReducesTo.fold_fiber_r4_a3, fold_maximumf]
  rfl

theorem cap_at (m : Lines) (b : Fin 2) (h : Fin 8) (t : Fin 2048) :
    maximumf (broadcastInDim S2x8x2048 ![] bcast_S_S2x8x2048 (constant S_ .f32 0xFF800000#32)) m (ix3 b h t)
      = max (Ideal.ofBits FTy.f32 4286578688#32) (m (ix3 b h t)) := by
  pointwise

theorem mx'_at (s : Square) (b : Fin 2) (h : Fin 8) (t : Fin 2048) :
    mx' s (ix3 b h t) = max (Ideal.ofBits FTy.f32 4286578688#32) (mx s (ix3 b h t)) := by
  unfold mx'
  exact cap_at (mx s) b h t

theorem ex_at (s : Square) (m : Lines) (b : Fin 2) (h : Fin 8) (t u : Fin 2048) :
    ex s m (ix4 b h t u) = Ideal.exp (s (ix4 b h t u) - m (ix3 b h t)) := by
  pointwise [ex, wide, thin]
theorem sm_at (s : Square) (b : Fin 2) (h : Fin 8) (t : Fin 2048) : sm s (ix3 b h t) = ∑ u, s (ix4 b h t u) := by
  pointwise [sm, zero]
theorem dp_at (g : FVec Ideal S4096x1024 .bf16) (v : Heads) (b : Fin 2) (h : Fin 8) (t u : Fin 2048) :
    dp (gh g) v (ix4 b h t u) = ∑ x, g (ix2 (rowi b t) (coli h x)) * v (ix4 b u h x) := by
  pointwise [dp, gh]; rfl
theorem ds_at (e p : Square) (l : Lines) (b : Fin 2) (h : Fin 8) (t u : Fin 2048) :
    ds e p l (ix4 b h t u)
      = if u ≤ t then (Ideal.div (p (ix4 b h t u)) (l (ix3 b h t)) +
          ∑ _x : Fin 1, -∑ x, p (ix4 b h t x) * Ideal.div 1 (l (ix3 b h t) * l (ix3 b h t)) * e (ix4 b h t x)) *
        e (ix4 b h t u) else 0 := by
  pointwise [ds, wide, thin, zero, cm]
  rw [sel_mask le_rfl]
theorem oq_at (d : Square) (k : Heads) (b : Fin 2) (t : Fin 2048) (h : Fin 8) (x : Fin 128) :
    oq d k (ix2 (rowi b t) (coli h x)) = ∑ u, d (ix4 b h t u) * Ideal.ofBits FTy.f32 1035273459#32 * k (ix4 b u h x) := by
  pointwise [oq, dss]
  simp only [rowi_div, rowi_mod, coli_div, coli_mod]
theorem ok_at (d : Square) (q : Heads) (b : Fin 2) (u : Fin 2048) (h : Fin 8) (x : Fin 128) :
    ok d q (ix2 (rowi b u) (coli h x)) = ∑ t, d (ix4 b h t u) * Ideal.ofBits FTy.f32 1035273459#32 * q (ix4 b t h x) := by
  pointwise [ok, dss]
  simp only [rowi_div, rowi_mod, coli_div, coli_mod]
theorem ov_at (e : Square) (l : Lines) (g : FVec Ideal S4096x1024 .bf16) (b : Fin 2) (u : Fin 2048) (h : Fin 8) (x : Fin 128) :
    ov e l (gh g) (ix2 (rowi b u) (coli h x))
      = ∑ t, g (ix2 (rowi b t) (coli h x)) * Ideal.div (e (ix4 b h t u)) (l (ix3 b h t)) := by
  pointwise [ov, gh, thin, wide]
  simp only [rowi_div, rowi_mod, coli_div, coli_mod]
  refine Finset.sum_congr rfl fun t _ => ?_
  congr 3
  apply Fin.ext; simp only [rowi]; omega
theorem ocq_at (e : Square) (b : Fin 2) (h : Fin 8) (t : Fin 2048) (x : Fin 1) :
    ocq e (ix4 b h t x) = ∑ _x : Fin 1, ∑ u, e (ix4 b h t u) := by
  pointwise [ocq, thin, zero]
theorem ock_at (e : Square) (b : Fin 2) (h : Fin 8) (j : Fin 4) (x : Fin 512) :
    ock e (ix4 b h j x) = ∑ _x : Fin 1, ∑ t, -e (ix4 b h t ⟨j.val * 512 + x.val, by omega⟩) := by
  pointwise [ock, zero]

/-! ## … and as reals -/

variable {A : Data} {z : FVec Ideal S4096x3072 .bf16} {c : Lines} {g : FVec Ideal S4096x1024 .bf16} (hA : A.Of z c g)
include hA

theorem qh_val (b : Fin 2) (t : Fin 2048) (h : Fin 8) (d : Fin 128) : qh z (ix4 b t h d) = ((A.Q b h t d : ℝ) : EReal) := by
  rw [qh_at, hA.hz]; rfl
theorem kh_val (b : Fin 2) (t : Fin 2048) (h : Fin 8) (d : Fin 128) : kh z (ix4 b t h d) = ((A.K b h t d : ℝ) : EReal) := by
  rw [kh_at, hA.hz]; rfl
theorem vh_val (b : Fin 2) (t : Fin 2048) (h : Fin 8) (d : Fin 128) : vh z (ix4 b t h d) = ((A.V b h t d : ℝ) : EReal) := by
  rw [vh_at, hA.hz]; rfl

theorem rS_val (b : Fin 2) (h : Fin 8) (t u : Fin 2048) : rS z c (ix4 b h t u) = A.Sm b h t u := by
  unfold rS Data.Sm Data.S
  rw [sc_at]
  refine if_congr Iff.rfl ?_ rfl
  simp only [qh_val hA, kh_val hA, hA.hc, ofBits_scl, ← EReal.coe_mul, ← coe_sum, ← EReal.coe_add, ← EReal.coe_sub]

theorem mx_val (b : Fin 2) (h : Fin 8) (t : Fin 2048) : mx (rS z c) (ix3 b h t) = ((A.M b h t : ℝ) : EReal) := by
  rw [mx_at, ofBits_negInf, ← A.fold_Sm]
  simp only [rS_val hA]

theorem mx'_val (b : Fin 2) (h : Fin 8) (t : Fin 2048) : mx' (rS z c) (ix3 b h t) = ((A.M b h t : ℝ) : EReal) := by
  rw [mx'_at, ofBits_negInf, mx_val hA]; exact max_eq_right bot_le

theorem ex_val (m : Lines) (hm : ∀ b h t, m (ix3 b h t) = ((A.M b h t : ℝ) : EReal)) (b : Fin 2) (h : Fin 8) (t u : Fin 2048) :
    ex (rS z c) m (ix4 b h t u) = ((A.E b h t u : ℝ) : EReal) := by
  rw [ex_at, rS_val hA, hm]
  unfold Data.Sm Data.E eR
  split
  · rw [← EReal.coe_sub]; rfl
  · rw [EReal.bot_sub]; rfl

theorem sm_val (e : Square) (he : ∀ b h t u, e (ix4 b h t u) = ((A.E b h t u : ℝ) : EReal)) (b : Fin 2) (h : Fin 8) (t : Fin 2048) :
    sm e (ix3 b h t) = ((A.L b h t : ℝ) : EReal) := by
  rw [sm_at]; simp only [he, ← coe_sum]; rfl

theorem rE_val (b : Fin 2) (h : Fin 8) (t u : Fin 2048) : rE z c (ix4 b h t u) = ((A.E b h t u : ℝ) : EReal) :=
  ex_val hA _ (mx'_val hA) b h t u
theorem rL_val (b : Fin 2) (h : Fin 8) (t : Fin 2048) : rL z c (ix3 b h t) = ((A.L b h t : ℝ) : EReal) :=
  sm_val hA _ (rE_val hA) b h t

theorem dp_val (b : Fin 2) (h : Fin 8) (t u : Fin 2048) : dp (gh g) (vh z) (ix4 b h t u) = ((A.DP b h t u : ℝ) : EReal) := by
  rw [dp_at]; unfold Data.DP Data.G
  simp only [vh_val hA, hA.hg, ← EReal.coe_mul, ← coe_sum]

theorem rD_val (b : Fin 2) (h : Fin 8) (t u : Fin 2048) : rD z c g (ix4 b h t u) = ((A.D b h t u : ℝ) : EReal) := by
  unfold rD
  rw [ds_at]
  by_cases hut : u ≤ t
  · rw [if_pos hut]
    have hL := A.L_ne b h t
    have h1 : (1 : EReal) = ((1 : ℝ) : EReal) := rfl
    simp only [rE_val hA, rL_val hA, dp_val hA, div_real _ _ hL, ← EReal.coe_mul, h1, div_real _ _ (mul_ne_zero hL hL), ← coe_sum,
      ← EReal.coe_neg, ← EReal.coe_add, Finset.univ_unique, Finset.sum_singleton]
    exact congrArg _ (dR_quot (A.S b h) (A.DP b h) (A.M b h) t u)
  · rw [if_neg hut]; unfold Data.D; rw [dR_above _ _ _ hut]; rfl

theorem oq_val (b : Fin 2) (t : Fin 2048) (h : Fin 8) (x : Fin 128) :
    oq (rD z c g) (kh z) (ix2 (rowi b t) (coli h x)) = ((∑ u, A.D b h t u * scl * A.K b h u x : ℝ) : EReal) := by
  rw [oq_at]; simp only [rD_val hA, kh_val hA, ofBits_scl, ← EReal.coe_mul, ← coe_sum]
theorem ok_val (b : Fin 2) (u : Fin 2048) (h : Fin 8) (x : Fin 128) :
    ok (rD z c g) (qh z) (ix2 (rowi b u) (coli h x)) = ((∑ t, A.D b h t u * scl * A.Q b h t x : ℝ) : EReal) := by
  rw [ok_at]; simp only [rD_val hA, qh_val hA, ofBits_scl, ← EReal.coe_mul, ← coe_sum]
theorem ov_val (b : Fin 2) (u : Fin 2048) (h : Fin 8) (x : Fin 128) :
    ov (rE z c) (rL z c) (gh g) (ix2 (rowi b u) (coli h x)) = ((∑ t, A.P b h t u * A.G b h t x : ℝ) : EReal) := by
  rw [ov_at]
  simp only [rE_val hA, rL_val hA, hA.hg, fun t => div_real (A.E b h t u) _ (A.L_ne b h t), ← EReal.coe_mul, ← coe_sum]
  exact congrArg _ (Finset.sum_congr rfl fun t _ => mul_comm _ _)
theorem ocq_val (b : Fin 2) (h : Fin 8) (t : Fin 2048) (x : Fin 1) :
    ocq (rD z c g) (ix4 b h t x) = ((∑ u, A.D b h t u : ℝ) : EReal) := by
  rw [ocq_at]; simp only [rD_val hA, ← coe_sum, Finset.univ_unique, Finset.sum_singleton]
theorem ock_val (b : Fin 2) (h : Fin 8) (j : Fin 4) (x : Fin 512) :
    ock (rD z c g) (ix4 b h j x) = ((-∑ t, A.D b h t ⟨j.val * 512 + x.val, by omega⟩ : ℝ) : EReal) := by
  rw [ock_at]
  simp only [rD_val hA, ← EReal.coe_neg, ← coe_sum, Finset.univ_unique, Finset.sum_singleton, Finset.sum_neg_distrib]

end Cert.Fox

end
-- ==== Proof.Finite.lean ====
/- The precondition: every argument's element is a real number. -/
module

public import proofs.«01_k».proof.Defs
public import proofs.«01_k».proof.Proof.Index
public import Idealize.ShloMosaic.Lib.ReduceAll

@[expose] public section

set_option maxRecDepth 16384

noncomputable section

namespace Cert.Fox

open Idealize.ShloMosaic

instance finite_facts : Cert.Pre_finite.Facts where
  bitsLt_bf16_f32 := by decide
  bcast_S_S4096x3072 := by decide
  bcast_S_S2x8x2048 := by decide
  bcast_S_S4096x1024 := by decide
  reducesTo_S4096x3072_S_d0_1 := by decide
  h_S_ := by decide
  reducesTo_S2x8x2048_S_d0_1_2 := by decide
  reducesTo_S4096x1024_S_d0_1 := by decide

/-- Below +∞ in absolute value: a real. -/
theorem real_of_abs (x : EReal) (h : FloatOps.cmpf (F := Ideal) (φ := .f32) .olt (max x (-x)) (Ideal.ofBits .f32 0x7F800000#32) = 1#1) :
    x = ((x.toReal : ℝ) : EReal) := by
  have e : Ideal.ofBits .f32 0x7F800000#32 = ⊤ := by simp [Ideal.ofBits, Ideal.ieee]
  rw [e] at h
  induction x using EReal.rec with
  | bot => simp [FloatOps.cmpf, Ideal.cmp] at h
  | top => simp [FloatOps.cmpf, Ideal.cmp] at h
  | coe r => rfl

/-- The three arguments' elements are reals. -/
theorem finite_real (z : FVec Ideal Cert.ReferenceIdeal.S4096x3072 .bf16) (c : Lines) (g : FVec Ideal Cert.ReferenceIdeal.S4096x1024 .bf16)
    (h : Cert.Pre_finite.fn (F := Ideal) z c g = fun _ => 1#1) :
    (∀ i, z i = (((z i).toReal : ℝ) : EReal)) ∧ (∀ i, c i = (((c i).toReal : ℝ) : EReal)) ∧ ∀ i, g i = (((g i).toReal : ℝ) : EReal) := by
  have h1 := congrFun h (Shape.Idx.first (s := Cert.Pre_finite.S_) (by decide))
  unfold Cert.Pre_finite.fn at h1
  obtain ⟨h2, h3⟩ := IntOp.andi_eq_one.1 h1
  obtain ⟨h4, h5⟩ := IntOp.andi_eq_one.1 h2
  haveI : Subsingleton Cert.Pre_finite.S_.Idx := ⟨fun a b => funext fun x => x.elim0⟩
  exact ⟨fun i => real_of_abs _ (Host.reduce_andi_all _ _ _ _ _ h4 i), fun i => real_of_abs _ (Host.reduce_andi_all _ _ _ _ _ h5 i),
    fun i => real_of_abs _ (Host.reduce_andi_all _ _ _ _ _ h3 i)⟩

theorem data_of (z : FVec Ideal Cert.ReferenceIdeal.S4096x3072 .bf16) (c : Lines) (g : FVec Ideal Cert.ReferenceIdeal.S4096x1024 .bf16)
    (h : Cert.Pre_finite.fn (F := Ideal) z c g = fun _ => 1#1) : ∃ A : Data, A.Of z c g :=
  let e := finite_real z c g h
  ⟨⟨fun i j => (z (ix2 i j)).toReal, fun b h t => (c (ix3 b h t)).toReal, fun i j => (g (ix2 i j)).toReal⟩,
    fun _ _ => e.1 _, fun _ _ _ => e.2.1 _, fun _ _ => e.2.2 _⟩

end Cert.Fox

end
-- ==== Proof.Tile.lean ====
/- One step of the attention's backward call on a row block and a key block, and the pieces its ten steps write. -/
module

public import proofs.«01_k».proof.Proof.Gen.KernelIdeal.Value

@[expose] public section

set_option maxRecDepth 16384

noncomputable section

namespace Cert.Fox

open Cert.KernelIdeal Cert.KernelIdeal.Gen Idealize.ShloMosaic

/-! ## One step -/

abbrev Blk (φ : FTy) := FVec Ideal S512x128 φ
abbrev Sq := FVec Ideal S512x512 .f32
abbrev Col := FVec Ideal S1x1x512x1 .f32
abbrev Row := FVec Ideal S1x1x1x512 .f32

/-- A column or a row of numbers, over the whole step. -/
def overCols (c : Col) : Sq := broadcastTo S512x512 (shapeCast S512x1 c shapeCasts_S1x1x512x1_S512x1) broadcasts_S512x1_S512x512
def overRows (r : Row) : Sq := broadcastTo S512x512 (shapeCast S1x512 r shapeCasts_S1x1x1x512_S1x512) broadcasts_S1x512_S512x512
/-- Rows of `a` against rows of `b`. -/
def rowsBy (a b : Blk .bf16) : Sq := matmul dot_S512x128_S512x128_S512x512_1_1_0_0_n_n none a b (constant S512x512 .f32 0x00000000#32)
/-- Scores, the diagonal step's with the later keys masked. -/
def tS (q k : Blk .bf16) (cq : Col) (ck : Row) : Sq :=
  subf (addf (mulf (rowsBy q k) (broadcast S512x512 (Scalar.ofBits .f32 0x3DB504F3#32))) (overCols cq)) (overRows ck)
def tMask (s : Sq) : Sq :=
  select (cmpi .sle (iota .tc S512x512 32 [1] iota_S512x512_d1_w32) (iota .tc S512x512 32 [0] iota_S512x512_d0_w32)) s
    (broadcast S512x512 (Named.named κ "mask" 0xF149F2CA#32))
/-- Weights, their gradient against the softmax, and that times the scale. -/
def tP (s : Sq) (l : Col) : Sq := exp (subf s (overCols l))
def tDelta (g : Blk .bf16) (o : Blk .f32) : FVec Ideal S512 .f32 :=
  multiReduction .add [1] S512 (mulf (extf .f32 g bitsLt_bf16_f32) (shapeCast S512x128 o shapeCasts_S512x128_S512x128)) 0x00000000#32
    reduces_S512x128_S512 (.inl rfl) rfl
def tDs (p : Sq) (g : Blk .bf16) (o : Blk .f32) (v : Blk .bf16) : Sq :=
  mulf p (subf (rowsBy g v) (broadcastTo S512x512 (shapeCast S512x1 (tDelta g o) shapeCasts_S512_S512x1) broadcasts_S512x1_S512x512))
def tDsb (d : Sq) : FVec Ideal S512x512 .bf16 :=
  truncf .bf16 (mulf d (broadcast S512x512 (Scalar.ofBits .f32 0x3DB504F3#32))) bitsLt_bf16_f32
/-- What a step adds to each running sum. -/
def tDq (d : FVec Ideal S512x512 .bf16) (k : Blk .bf16) (a : Blk .f32) : Blk .f32 :=
  shapeCast S512x128 (addf a (matmul dot_S512x512_S512x128_S512x128_1_0_0_1_n_n none d k (constant S512x128 .f32 0x00000000#32)))
    shapeCasts_S512x128_S512x128
def tDcq (d : Sq) (a : Col) : Col :=
  shapeCast S1x1x512x1 (addf (shapeCast S512x1 a shapeCasts_S1x1x512x1_S512x1)
    (shapeCast S512x1 (multiReduction .add [1] S512 d 0x00000000#32 reduces_S512x512_S512 (.inl rfl) rfl) shapeCasts_S512_S512x1))
    shapeCasts_S512x1_S1x1x512x1
/-- Columns of `d` against columns of `x`: the keys' side. -/
def tKey (d : FVec Ideal S512x512 .bf16) (x : Blk .bf16) (a : Blk .f32) : Blk .f32 :=
  addf a (matmul dot_S512x512_S512x128_S512x128_0_0_1_1_n_n none d x (constant S512x128 .f32 0x00000000#32))
def tDck (d : Sq) (a : FVec Ideal S1x512 .f32) : FVec Ideal S1x512 .f32 :=
  subf a (shapeCast S1x512 (multiReduction .add [0] S512 d 0x00000000#32 reduces_S512x512_S512_2 (.inl rfl) rfl) shapeCasts_S512_S1x512)

/-! ## The head's blocks -/

/-- Row block `i` of a head's array, of a column, key row `j` of the keys' decay sums. -/
def rI (i : Fin 4) : Rect S2048x128 := Rect.unit ![512 * i.val, 0] S512x128.size (by revert i; decide)
def rC (i : Fin 4) : Rect S1x1x2048x1 := Rect.unit ![0, 0, 512 * i.val, 0] S1x1x512x1.size (by revert i; decide)
def rR (j : Fin 4) : Rect S1x1x4x512 := Rect.unit ![0, 0, j.val, 0] S1x1x1x512.size (by revert j; decide)

/-- A piece written to a block of rows, of a column, to a key row; a running sum's rows read back. -/
def pcI {e : EltTy} (i : Fin 4) (w : S512x128.Idx → Elt Ideal e) : View.Piece (Elt Ideal) S2048x128 e := ⟨rI i, w⟩
def pcC (i : Fin 4) (w : Col) : View.Piece (Elt Ideal) S1x1x2048x1 .f32 := ⟨rC i, w⟩
def pcR (j : Fin 4) (w : Row) : View.Piece (Elt Ideal) S1x1x4x512 .f32 := ⟨rR j, w⟩
def backI (w : View sig .tc .vmem S2048x128 .f32) (L : List (View.Piece (Elt Ideal) S2048x128 .f32)) (i : Fin 4) : Blk .f32 :=
  w.readCov L (rI i).toLoadRect
def backC (w : View sig .tc .vmem S1x1x2048x1 .f32) (L : List (View.Piece (Elt Ideal) S1x1x2048x1 .f32)) (i : Fin 4) : Col :=
  w.readCov L (rC i).toLoadRect

/-- What one grid point loads, by block. -/
structure Tiles where
  q : Fin 4 → Blk .bf16
  k : Fin 4 → Blk .bf16
  v : Fin 4 → Blk .bf16
  o : Fin 4 → Blk .f32
  g : Fin 4 → Blk .bf16
  l : Fin 4 → Col
  cq : Fin 4 → Col
  ck : Fin 4 → Row

/-- A step: on the diagonal or not, its key block, its row block. -/
abbrev Step := Bool × Fin 4 × Fin 4

namespace Tiles
variable (T : Tiles)

def p (s : Step) : Sq :=
  tP (bif s.1 then tMask (tS (T.q s.2.2) (T.k s.2.1) (T.cq s.2.2) (T.ck s.2.1)) else tS (T.q s.2.2) (T.k s.2.1) (T.cq s.2.2) (T.ck s.2.1)) (T.l s.2.2)
def ds (s : Step) : Sq := tDs (T.p s) (T.g s.2.2) (T.o s.2.2) (T.v s.2.1)
def dsb (s : Step) : FVec Ideal S512x512 .bf16 := tDsb (T.ds s)

/-- The steps of key block `j`, and all of them in the order they run. -/
def stepsOf : Fin 4 → List Step :=
  ![[(true, 0, 0), (false, 0, 1), (false, 0, 2), (false, 0, 3)], [(true, 1, 1), (false, 1, 2), (false, 1, 3)],
    [(true, 2, 2), (false, 2, 3)], [(true, 3, 3)]]
def steps : List Step := stepsOf 0 ++ stepsOf 1 ++ stepsOf 2 ++ stepsOf 3

def dk (j : Fin 4) : Blk .f32 := (stepsOf j).foldl (fun a s => tKey (T.dsb s) (T.q s.2.2) a) (broadcast S512x128 (Scalar.ofBits .f32 0x00000000#32))
def dv (j : Fin 4) : Blk .f32 :=
  (stepsOf j).foldl (fun a s => tKey (truncf .bf16 (T.p s) bitsLt_bf16_f32) (T.g s.2.2) a) (broadcast S512x128 (Scalar.ofBits .f32 0x00000000#32))
def dck (j : Fin 4) : FVec Ideal S1x512 .f32 := (stepsOf j).foldl (fun a s => tDck (T.ds s) a) (broadcast S1x512 (Scalar.ofBits .f32 0x00000000#32))

/-- The pieces of the keys' three results, last first. -/
def dkPieces : List (View.Piece (Elt Ideal) S2048x128 .bf16) := [3, 2, 1, 0].map fun j => pcI (e := .bf16) j (truncf .bf16 (T.dk j) bitsLt_bf16_f32)
def dvPieces : List (View.Piece (Elt Ideal) S2048x128 .bf16) := [3, 2, 1, 0].map fun j => pcI (e := .bf16) j (truncf .bf16 (T.dv j) bitsLt_bf16_f32)
def dckPieces : List (View.Piece (Elt Ideal) S1x1x4x512 .f32) :=
  [3, 2, 1, 0].map fun j => pcR j (shapeCast S1x1x1x512 (T.dck j) shapeCasts_S1x512_S1x1x1x512)

/-- The pieces of the queries' two running sums: each step reads its rows back and adds to them. -/
def dqStep (w : View sig .tc .vmem S2048x128 .f32) (L : List (View.Piece (Elt Ideal) S2048x128 .f32)) (s : Step) : List (View.Piece (Elt Ideal) S2048x128 .f32) :=
  pcI (e := .f32) s.2.2 (tDq (T.dsb s) (T.k s.2.1) (backI w L s.2.2)) :: L
def dcqStep (w : View sig .tc .vmem S1x1x2048x1 .f32) (L : List (View.Piece (Elt Ideal) S1x1x2048x1 .f32)) (s : Step) : List (View.Piece (Elt Ideal) S1x1x2048x1 .f32) :=
  pcC s.2.2 (tDcq (T.ds s) (backC w L s.2.2)) :: L
def dqPieces (w : View sig .tc .vmem S2048x128 .f32) : List (View.Piece (Elt Ideal) S2048x128 .f32) :=
  steps.foldl (T.dqStep w) [⟨Rect.unit ![0, 0] S2048x128.size inb_S2048x128_S2048x128_0_0, k0_pay3 (F := Ideal)⟩]
def dcqPieces (w : View sig .tc .vmem S1x1x2048x1 .f32) : List (View.Piece (Elt Ideal) S1x1x2048x1 .f32) :=
  steps.foldl (T.dcqStep w) [⟨Rect.unit ![0, 0, 0, 0] S1x1x2048x1.size inb_S1x1x2048x1_S1x1x2048x1_0_0_0_0, k0_pay4 (F := Ideal)⟩]

end Tiles

/-! ## The run's pieces are these -/

section
variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S2048x128 .bf16) (harg6 : arg6.IsWhole)
  (arg7 : Memref sig .tc .vmem S1x1x2048x1 .f32) (harg7 : arg7.IsWhole)
  (arg8 : Memref sig .tc .vmem S1x1x2048x1 .f32) (harg8 : arg8.IsWhole)
  (arg9 : Memref sig .tc .vmem S1x1x4x512 .f32) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S1x1x2048x1 .f32) (harg13 : arg13.IsWhole)
  (arg14 : Memref sig .tc .vmem S1x1x4x512 .f32) (harg14 : arg14.IsWhole)
  (arg15 : Memref sig .tc .vmem S2048x128 .f32) (harg15 : arg15.IsWhole)
  (x0 x1 x2 : Vec Ideal S2048x128 .bf16) (x3 : Vec Ideal S2048x128 .f32) (x4 : Vec Ideal S2048x128 .bf16) (x5 x6 : Vec Ideal S1x1x2048x1 .f32) (x7 : Vec Ideal S1x1x4x512 .f32)
/-- The blocks as the body loads them. -/
def loads : Tiles where
  q i := View.readAt (Elt Ideal) arg2.view (rI i).toLoadRect (harg2.unread x0)
  k i := View.readAt (Elt Ideal) arg3.view (rI i).toLoadRect (harg3.unread x1)
  v i := View.readAt (Elt Ideal) arg4.view (rI i).toLoadRect (harg4.unread x2)
  o i := View.readAt (Elt Ideal) arg5.view (rI i).toLoadRect (harg5.unread x3)
  g i := View.readAt (Elt Ideal) arg6.view (rI i).toLoadRect (harg6.unread x4)
  l i := View.readAt (Elt Ideal) arg7.view (rC i).toLoadRect (harg7.unread x5)
  cq i := View.readAt (Elt Ideal) arg8.view (rC i).toLoadRect (harg8.unread x6)
  ck j := View.readAt (Elt Ideal) arg9.view (rR j).toLoadRect (harg9.unread x7)

theorem pieces9 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1 = (loads arg2 harg2 arg3 harg3 arg4 harg4 arg5 harg5 arg6 harg6 arg7 harg7 arg8 harg8 arg9 harg9 x0 x1 x2 x3 x4 x5 x6 x7).dkPieces := by sl_kernel_rfl
theorem pieces10 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1 = (loads arg2 harg2 arg3 harg3 arg4 harg4 arg5 harg5 arg6 harg6 arg7 harg7 arg8 harg8 arg9 harg9 x0 x1 x2 x3 x4 x5 x6 x7).dvPieces := by sl_kernel_rfl
theorem pieces11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1 = (loads arg2 harg2 arg3 harg3 arg4 harg4 arg5 harg5 arg6 harg6 arg7 harg7 arg8 harg8 arg9 harg9 x0 x1 x2 x3 x4 x5 x6 x7).dcqPieces arg13.view := by sl_kernel_rfl
theorem pieces12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1 = (loads arg2 harg2 arg3 harg3 arg4 harg4 arg5 harg5 arg6 harg6 arg7 harg7 arg8 harg8 arg9 harg9 x0 x1 x2 x3 x4 x5 x6 x7).dckPieces := by sl_kernel_rfl
theorem pieces8 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1 = [⟨Rect.unit ![0, 0] S2048x128.size inb_S2048x128_S2048x128_0_0,
    k0_pay2 (arg15.view.readCov ((loads arg2 harg2 arg3 harg3 arg4 harg4 arg5 harg5 arg6 harg6 arg7 harg7 arg8 harg8 arg9 harg9 x0 x1 x2 x3 x4 x5 x6 x7).dqPieces arg15.view) (Rect.unit ![0, 0] S2048x128.size inb_S2048x128_S2048x128_0_0).toLoadRect)⟩] := by
  sl_kernel_rfl
end

end Cert.Fox

end
-- ==== Proof.TileAt.lean ====
/- The attention's backward call: a step's numbers at an index. -/
module

public import proofs.«01_k».proof.Proof.Tile
public import proofs.«01_k».proof.Proof.Index

@[expose] public section

set_option maxRecDepth 16384

noncomputable section

namespace Cert.Fox

open Cert.KernelIdeal Cert.KernelIdeal.Gen Idealize.ShloMosaic

theorem overCols_at (c : Col) (t u : Fin 512) : overCols c (ix2 t u) = c (ix4 0 0 t 0) := by
  pointwise [overCols]
theorem overRows_at (r : Row) (t u : Fin 512) : overRows r (ix2 t u) = r (ix4 0 0 0 u) := by
  pointwise [overRows]
theorem rowsBy_at (a b : Blk .bf16) (t u : Fin 512) : rowsBy a b (ix2 t u) = ∑ x, a (ix2 t x) * b (ix2 u x) := by
  pointwise [rowsBy]
theorem tS_at (q k : Blk .bf16) (cq : Col) (ck : Row) (t u : Fin 512) :
    tS q k cq ck (ix2 t u) = (∑ x, q (ix2 t x) * k (ix2 u x)) * Ideal.ofBits FTy.f32 1035273459#32 + cq (ix4 0 0 t 0) - ck (ix4 0 0 0 u) := by
  rw [← overCols_at cq t u, ← overRows_at ck t u, ← rowsBy_at]
  unfold tS
  generalize rowsBy q k = a
  generalize overCols cq = b
  generalize overRows ck = d
  pointwise
theorem tMask_at (s : Sq) (t u : Fin 512) : tMask s (ix2 t u) = if u ≤ t then s (ix2 t u) else ⊥ := by
  pointwise [tMask]
  rw [sel_mask (by omega), IdealRules.named_const.ideal_named_scalar _ _ _ _ rfl]
theorem tP_at (s : Sq) (l : Col) (t u : Fin 512) : tP s l (ix2 t u) = Ideal.exp (s (ix2 t u) - l (ix4 0 0 t 0)) := by
  rw [← overCols_at l t u]
  unfold tP
  generalize overCols l = b
  pointwise
theorem tDelta_at (g : Blk .bf16) (o : Blk .f32) (t : Fin 512) : tDelta g o (ix1 t) = ∑ x, g (ix2 t x) * o (ix2 t x) := by
  pointwise [tDelta]
theorem tDs_at (p : Sq) (g : Blk .bf16) (o : Blk .f32) (v : Blk .bf16) (t u : Fin 512) :
    tDs p g o v (ix2 t u) = p (ix2 t u) * ((∑ x, g (ix2 t x) * v (ix2 u x)) - ∑ x, g (ix2 t x) * o (ix2 t x)) := by
  rw [← rowsBy_at, ← tDelta_at]
  unfold tDs
  generalize rowsBy g v = a
  generalize tDelta g o = b
  pointwise
theorem tDsb_at (d : Sq) (t u : Fin 512) : tDsb d (ix2 t u) = d (ix2 t u) * Ideal.ofBits FTy.f32 1035273459#32 := by
  pointwise [tDsb]
theorem tDq_at (d : FVec Ideal S512x512 .bf16) (k : Blk .bf16) (a : Blk .f32) (t : Fin 512) (x : Fin 128) :
    tDq d k a (ix2 t x) = a (ix2 t x) + ∑ u, d (ix2 t u) * k (ix2 u x) := by
  pointwise [tDq]
theorem tDcq_at (d : Sq) (a : Col) (t : Fin 512) : tDcq d a (ix4 0 0 t 0) = a (ix4 0 0 t 0) + ∑ u, d (ix2 t u) := by
  pointwise [tDcq]
theorem tKey_at (d : FVec Ideal S512x512 .bf16) (y : Blk .bf16) (a : Blk .f32) (u : Fin 512) (x : Fin 128) :
    tKey d y a (ix2 u x) = a (ix2 u x) + ∑ t, d (ix2 t u) * y (ix2 t x) := by
  pointwise [tKey]
theorem tDck_at (d : Sq) (a : FVec Ideal S1x512 .f32) (u : Fin 512) : tDck d a (ix2 0 u) = a (ix2 0 u) - ∑ t, d (ix2 t u) := by
  pointwise [tDck]

/-! ## A point's loads hold a head's arrays -/

/-- Row `t` of block `i`. -/
def bi (i : Fin 4) (t : Fin 512) : Fin 2048 := ⟨512 * i.val + t.val, by omega⟩

theorem sum_blocks (f : Fin 2048 → ℝ) : ∑ t, f t = ∑ i, ∑ t, f (bi i t) := by
  rw [← Equiv.sum_comp (finProdFinEquiv (m := 4) (n := 512)) f, Fintype.sum_prod_type]
  refine Finset.sum_congr rfl fun i _ => Finset.sum_congr rfl fun t _ => congrArg f (Fin.ext ?_)
  simp only [bi, finProdFinEquiv_apply_val]; omega

/-- The loads of head `h` of batch `b`: its blocks, the forward pass's output and log of the sum. -/
structure Tiles.Of (T : Tiles) (A : Data) (b : Fin 2) (h : Fin 8) : Prop where
  q : ∀ i t x, T.q i (ix2 t x) = ((A.Q b h (bi i t) x : ℝ) : EReal)
  k : ∀ i t x, T.k i (ix2 t x) = ((A.K b h (bi i t) x : ℝ) : EReal)
  v : ∀ i t x, T.v i (ix2 t x) = ((A.V b h (bi i t) x : ℝ) : EReal)
  g : ∀ i t x, T.g i (ix2 t x) = ((A.G b h (bi i t) x : ℝ) : EReal)
  o : ∀ i t x, T.o i (ix2 t x) = ((∑ u, A.P b h (bi i t) u * A.V b h u x : ℝ) : EReal)
  l : ∀ i t, T.l i (ix4 0 0 t 0) = ((A.M b h (bi i t) + Real.log (A.L b h (bi i t)) : ℝ) : EReal)
  cq : ∀ i t, T.cq i (ix4 0 0 t 0) = ((A.c b h (bi i t) : ℝ) : EReal)
  ck : ∀ j u, T.ck j (ix4 0 0 0 u) = ((A.c b h (bi j u) : ℝ) : EReal)

/-- A step that runs: the diagonal one, or a later row block. -/
def Runs (s : Step) : Prop := if s.1 then s.2.2 = s.2.1 else s.2.1 < s.2.2

theorem runs_steps : ∀ s ∈ Tiles.steps, Runs s := by
  simp [Tiles.steps, Tiles.stepsOf, Runs]
theorem runs_stepsOf (j : Fin 4) : ∀ s ∈ Tiles.stepsOf j, Runs s ∧ s.2.1 = j := by
  fin_cases j <;> simp [Tiles.stepsOf, Runs]

/-- Adding a key block's steps up is adding over all row blocks, where those above the diagonal add nothing; and a row block's over all steps. -/
theorem stepsOf_sum (j : Fin 4) (f : Fin 4 → ℝ) (hf : ∀ i < j, f i = 0) : ((Tiles.stepsOf j).map fun s => f s.2.2).sum = ∑ i, f i := by
  rw [Fin.sum_univ_four]
  fin_cases j
  · simp [Tiles.stepsOf]; ring
  · have h0 := hf 0 (by decide)
    simp [Tiles.stepsOf, h0]; ring
  · have h0 := hf 0 (by decide)
    have h1 := hf 1 (by decide)
    simp [Tiles.stepsOf, h0, h1]
  · have h0 := hf 0 (by decide)
    have h1 := hf 1 (by decide)
    have h2 := hf 2 (by decide)
    simp [Tiles.stepsOf, h0, h1, h2]
theorem steps_sum (i : Fin 4) (f : Fin 4 → ℝ) (hf : ∀ j > i, f j = 0) :
    (Tiles.steps.map fun s => if s.2.2 = i then f s.2.1 else 0).sum = ∑ j, f j := by
  rw [Fin.sum_univ_four]
  fin_cases i
  · have h1 := hf 1 (by decide)
    have h2 := hf 2 (by decide)
    have h3 := hf 3 (by decide)
    simp [Tiles.steps, Tiles.stepsOf, h1, h2, h3]
  · have h2 := hf 2 (by decide)
    have h3 := hf 3 (by decide)
    simp [Tiles.steps, Tiles.stepsOf, h2, h3]
  · have h3 := hf 3 (by decide)
    simp [Tiles.steps, Tiles.stepsOf, h3]; ring
  · simp [Tiles.steps, Tiles.stepsOf]; ring

theorem bi_le (i : Fin 4) (t u : Fin 512) : bi i u ≤ bi i t ↔ u ≤ t := by
  simp only [Fin.le_def, bi]; omega
theorem bi_lt {i j : Fin 4} (h : j < i) (t u : Fin 512) : bi j u < bi i t := by
  simp only [Fin.lt_def, bi] at *; omega

section
variable {T : Tiles} {A : Data} {b : Fin 2} {h : Fin 8} (hT : T.Of A b h)
include hT

theorem tS_val (i j : Fin 4) (t u : Fin 512) :
    tS (T.q i) (T.k j) (T.cq i) (T.ck j) (ix2 t u) = ((A.S b h (bi i t) (bi j u) : ℝ) : EReal) := by
  rw [tS_at]; unfold Data.S
  simp only [hT.q, hT.k, hT.cq, hT.ck, ofBits_scl, ← EReal.coe_mul, ← coe_sum, ← EReal.coe_add, ← EReal.coe_sub]

theorem p_val {s : Step} (hs : Runs s) (t u : Fin 512) : T.p s (ix2 t u) = ((A.P b h (bi s.2.2 t) (bi s.2.1 u) : ℝ) : EReal) := by
  obtain ⟨d, j, i⟩ := s
  unfold Tiles.p
  rw [tP_at, hT.l]
  cases d
  · have hji : j < i := by simpa [Runs] using hs
    simp only [cond_false]
    rw [tS_val hT, ← EReal.coe_sub, Ideal.exp_coe]
    exact congrArg _ (exp_lse (A.S b h) (A.M b h) (bi_lt hji t u).le)
  · have hji : i = j := by simpa [Runs] using hs
    subst hji
    simp only [cond_true]
    rw [tMask_at, tS_val hT]
    by_cases hut : u ≤ t
    · rw [if_pos hut, ← EReal.coe_sub, Ideal.exp_coe]
      exact congrArg _ (exp_lse (A.S b h) (A.M b h) ((bi_le i t u).mpr hut))
    · rw [if_neg hut, EReal.bot_sub]
      unfold Data.P
      rw [pR_above _ _ (fun hh => hut ((bi_le i t u).mp hh))]
      rfl

theorem ds_val {s : Step} (hs : Runs s) (t u : Fin 512) : T.ds s (ix2 t u) = ((A.D b h (bi s.2.2 t) (bi s.2.1 u) : ℝ) : EReal) := by
  unfold Tiles.ds
  rw [tDs_at, p_val hT hs]
  simp only [hT.g, hT.o, hT.v, ← EReal.coe_mul, ← coe_sum, ← EReal.coe_sub]
  refine congrArg _ ?_
  unfold Data.D dR
  refine congrArg₂ _ rfl (congrArg₂ _ rfl ?_)
  simp only [Data.DP, Finset.mul_sum]
  rw [Finset.sum_comm]
  refine Finset.sum_congr rfl fun x _ => Finset.sum_congr rfl fun w _ => ?_
  unfold Data.P
  ring

theorem dsb_val {s : Step} (hs : Runs s) (t u : Fin 512) :
    T.dsb s (ix2 t u) = ((A.D b h (bi s.2.2 t) (bi s.2.1 u) * scl : ℝ) : EReal) := by
  unfold Tiles.dsb
  rw [tDsb_at, ds_val hT hs, ofBits_scl, ← EReal.coe_mul]
end

/-! ## The keys' side: the sums over a key block's steps -/

theorem foldl_key (d : Step → FVec Ideal S512x512 .bf16) (y : Step → Blk .bf16) (f : Step → ℝ) (u : Fin 512) (x : Fin 128) :
    ∀ (ss : List Step) (_ : ∀ s ∈ ss, ∑ t, d s (ix2 t u) * y s (ix2 t x) = ((f s : ℝ) : EReal)) (a : Blk .f32) (r : ℝ)
      (_ : a (ix2 u x) = (r : EReal)),
      ss.foldl (fun a s => tKey (d s) (y s) a) a (ix2 u x) = ((r + (ss.map f).sum : ℝ) : EReal)
  | [], _, a, r, ha => by simpa using ha
  | s :: ss, hs, a, r, ha => by
    rw [List.foldl_cons, foldl_key d y f u x ss (fun s' h' => hs s' (List.mem_cons_of_mem _ h')) _ (r + f s)
      (by rw [tKey_at, ha, hs s List.mem_cons_self, ← EReal.coe_add]), List.map_cons, List.sum_cons, add_assoc]

theorem foldl_dck (d : Step → Sq) (f : Step → ℝ) (u : Fin 512) :
    ∀ (ss : List Step) (_ : ∀ s ∈ ss, ∑ t, d s (ix2 t u) = ((f s : ℝ) : EReal)) (a : FVec Ideal S1x512 .f32) (r : ℝ)
      (_ : a (ix2 0 u) = (r : EReal)),
      ss.foldl (fun a s => tDck (d s) a) a (ix2 0 u) = ((r - (ss.map f).sum : ℝ) : EReal)
  | [], _, a, r, ha => by simpa using ha
  | s :: ss, hs, a, r, ha => by
    rw [List.foldl_cons, foldl_dck d f u ss (fun s' h' => hs s' (List.mem_cons_of_mem _ h')) _ (r - f s)
      (by rw [tDck_at, ha, hs s List.mem_cons_self, ← EReal.coe_sub]), List.map_cons, List.sum_cons, sub_sub]

theorem cast_at (a : Sq) (t u : Fin 512) : truncf .bf16 a bitsLt_bf16_f32 (ix2 t u) = a (ix2 t u) := by
  pointwise
theorem zeros_at (u : Fin 512) (x : Fin 128) : (broadcast S512x128 (Scalar.ofBits .f32 0x00000000#32) : Blk .f32) (ix2 u x) = ((0 : ℝ) : EReal) := by
  pointwise; simp
theorem zeroRow_at (u : Fin 512) : (broadcast S1x512 (Scalar.ofBits .f32 0x00000000#32) : FVec Ideal S1x512 .f32) (ix2 0 u) = ((0 : ℝ) : EReal) := by
  pointwise; simp

section
variable {T : Tiles} {A : Data} {b : Fin 2} {h : Fin 8} (hT : T.Of A b h)
include hT

theorem D_above {i j : Fin 4} (hij : i < j) (t u : Fin 512) : A.D b h (bi i t) (bi j u) = 0 :=
  dR_above _ _ _ (not_le.mpr (bi_lt hij u t))
theorem P_above {i j : Fin 4} (hij : i < j) (t u : Fin 512) : A.P b h (bi i t) (bi j u) = 0 :=
  pR_above _ _ (not_le.mpr (bi_lt hij u t))

theorem dk_val (j : Fin 4) (u : Fin 512) (x : Fin 128) :
    T.dk j (ix2 u x) = ((∑ t, A.D b h t (bi j u) * scl * A.Q b h t x : ℝ) : EReal) := by
  unfold Tiles.dk
  rw [sum_blocks fun t => A.D b h t (bi j u) * scl * A.Q b h t x, foldl_key _ _ (fun s => ∑ t, A.D b h (bi s.2.2 t) (bi j u) * scl * A.Q b h (bi s.2.2 t) x) u x _ ?_ _ 0 (zeros_at u x), zero_add,
    stepsOf_sum j (fun i => ∑ t, A.D b h (bi i t) (bi j u) * scl * A.Q b h (bi i t) x) ?_]
  · intro i hi; simp only [D_above hT hi, zero_mul, Finset.sum_const_zero]
  · intro s hs
    obtain ⟨hr, rfl⟩ := runs_stepsOf j s hs
    simp only [dsb_val hT hr, hT.q, ← EReal.coe_mul, ← coe_sum]

theorem dv_val (j : Fin 4) (u : Fin 512) (x : Fin 128) :
    T.dv j (ix2 u x) = ((∑ t, A.P b h t (bi j u) * A.G b h t x : ℝ) : EReal) := by
  unfold Tiles.dv
  rw [sum_blocks fun t => A.P b h t (bi j u) * A.G b h t x, foldl_key _ _ (fun s => ∑ t, A.P b h (bi s.2.2 t) (bi j u) * A.G b h (bi s.2.2 t) x) u x _ ?_ _ 0 (zeros_at u x), zero_add,
    stepsOf_sum j (fun i => ∑ t, A.P b h (bi i t) (bi j u) * A.G b h (bi i t) x) ?_]
  · intro i hi; simp only [P_above hT hi, zero_mul, Finset.sum_const_zero]
  · intro s hs
    obtain ⟨hr, rfl⟩ := runs_stepsOf j s hs
    simp only [cast_at, p_val hT hr, hT.g, ← EReal.coe_mul, ← coe_sum]

theorem dck_val (j : Fin 4) (u : Fin 512) : T.dck j (ix2 0 u) = ((-∑ t, A.D b h t (bi j u) : ℝ) : EReal) := by
  unfold Tiles.dck
  rw [sum_blocks fun t => A.D b h t (bi j u), foldl_dck _ (fun s => ∑ t, A.D b h (bi s.2.2 t) (bi j u)) u _ ?_ _ 0 (zeroRow_at u), zero_sub,
    stepsOf_sum j (fun i => ∑ t, A.D b h (bi i t) (bi j u)) ?_]
  · intro i hi; simp only [D_above hT hi, Finset.sum_const_zero]
  · intro s hs
    obtain ⟨hr, rfl⟩ := runs_stepsOf j s hs
    simp only [ds_val hT hr, ← coe_sum]
end

/-! ## The queries' side: the running sums read back and added to -/

theorem rI_emb (i : Fin 4) (t : Fin 512) (x : Fin 128) : (rI i).emb (ix2 t x) = ix2 (bi i t) x :=
  Rect.emb_eq_of_coords (rI i) (x := ix2 t x) (y := ix2 (bi i t) x) fun a => by
    fin_cases a
    · exact congrArg (512 * i.val + ·) (Nat.one_mul t.val).symm
    · exact (Nat.zero_add _).symm.trans (congrArg (0 + ·) (Nat.one_mul x.val).symm)
theorem rC_emb (i : Fin 4) (t : Fin 512) : (rC i).emb (ix4 0 0 t 0) = ix4 0 0 (bi i t) 0 :=
  Rect.emb_eq_of_coords (rC i) (x := ix4 0 0 t 0) (y := ix4 0 0 (bi i t) 0) fun a => by
    fin_cases a
    · rfl
    · rfl
    · exact congrArg (512 * i.val + ·) (Nat.one_mul t.val).symm
    · rfl
theorem rR_emb (j : Fin 4) (u : Fin 512) : (rR j).emb (ix4 0 0 0 u) = ix4 0 0 j u :=
  Rect.emb_eq_of_coords (rR j) (x := ix4 0 0 0 u) (y := ix4 0 0 j u) fun a => by
    fin_cases a
    · rfl
    · rfl
    · rfl
    · exact (Nat.zero_add _).symm.trans (congrArg (0 + ·) (Nat.one_mul u.val).symm)

theorem canon_hit {s : Shape} {e : EltTy} (r : Rect s) (w : r.shape.Idx → Elt Ideal e) (L : List (View.Piece (Elt Ideal) s e)) (x : r.shape.Idx)
    (y : s.Idx) (hx : r.emb x = y) : View.canon (⟨r, w⟩ :: L) y = w x := by
  subst hx; exact View.canon_cons_emb r w L x
/-- A piece read at its own block, and at another. -/
theorem pcI_hit {e : EltTy} (i : Fin 4) (w : S512x128.Idx → Elt Ideal e) (L : List (View.Piece (Elt Ideal) S2048x128 e)) (t : Fin 512) (x : Fin 128) :
    View.canon (pcI i w :: L) (ix2 (bi i t) x) = w (ix2 t x) :=
  canon_hit (rI i) w L (ix2 t x) _ (rI_emb i t x)
theorem pcC_hit (i : Fin 4) (w : Col) (L : List (View.Piece (Elt Ideal) S1x1x2048x1 .f32)) (t : Fin 512) :
    View.canon (pcC i w :: L) (ix4 0 0 (bi i t) 0) = w (ix4 0 0 t 0) :=
  by
  have e := canon_hit (rC i) w L (ix4 0 0 t 0) (ix4 0 0 (bi i t) 0) (rC_emb i t)
  exact e
theorem pcR_hit (j : Fin 4) (w : Row) (L : List (View.Piece (Elt Ideal) S1x1x4x512 .f32)) (u : Fin 512) :
    View.canon (pcR j w :: L) (ix4 0 0 j u) = w (ix4 0 0 0 u) :=
  by
  have e := canon_hit (rR j) w L (ix4 0 0 0 u) (ix4 0 0 j u) (rR_emb j u)
  exact e
theorem pcI_miss {e : EltTy} {i i' : Fin 4} (hne : i ≠ i') (w : S512x128.Idx → Elt Ideal e) (L : List (View.Piece (Elt Ideal) S2048x128 e))
    (t : Fin 512) (x : Fin 128) : View.canon (pcI i' w :: L) (ix2 (bi i t) x) = View.canon L (ix2 (bi i t) x) :=
  View.canon_cons_of_not_mem (pcI i' w) L (Rect.not_mem_set_of_axis (rI i') (ix2 (bi i t) x) 0 (512 * i'.val) 512 rfl rfl rfl (by
    have h1 : ((ix2 (bi i t) x : S2048x128.Idx) 0).val = 512 * i.val + t.val := rfl
    have h2 := t.isLt
    have h3 : i.val ≠ i'.val := fun hh => hne (Fin.ext hh)
    rw [h1]; omega))
theorem pcC_miss {i i' : Fin 4} (hne : i ≠ i') (w : Col) (L : List (View.Piece (Elt Ideal) S1x1x2048x1 .f32)) (t : Fin 512) :
    View.canon (pcC i' w :: L) (ix4 0 0 (bi i t) 0) = View.canon L (ix4 0 0 (bi i t) 0) :=
  View.canon_cons_of_not_mem (pcC i' w) L (Rect.not_mem_set_of_axis (rC i') (ix4 0 0 (bi i t) 0) 2 (512 * i'.val) 512 rfl rfl rfl (by
    have h1 : ((ix4 0 0 (bi i t) 0 : S1x1x2048x1.Idx) 2).val = 512 * i.val + t.val := rfl
    have h2 := t.isLt
    have h3 : i.val ≠ i'.val := fun hh => hne (Fin.ext hh)
    rw [h1]; omega))
theorem pcR_miss {j j' : Fin 4} (hne : j ≠ j') (w : Row) (L : List (View.Piece (Elt Ideal) S1x1x4x512 .f32)) (u : Fin 512) :
    View.canon (pcR j' w :: L) (ix4 0 0 j u) = View.canon L (ix4 0 0 j u) :=
  View.canon_cons_of_not_mem (pcR j' w) L (Rect.not_mem_set_of_axis (rR j') (ix4 0 0 j u) 2 j'.val 1 rfl rfl rfl (by
    have h1 : ((ix4 0 0 j u : S1x1x4x512.Idx) 2).val = j.val := rfl
    have h3 : j.val ≠ j'.val := fun hh => hne (Fin.ext hh)
    rw [h1]; omega))
theorem backI_at (w : View sig .tc .vmem S2048x128 .f32) (L : List (View.Piece (Elt Ideal) S2048x128 .f32)) (i : Fin 4) (t : Fin 512) (x : Fin 128) :
    backI w L i (ix2 t x) = View.canon L (ix2 (bi i t) x) :=
  (congrFun (View.readCov_eq_canon' w L (rI i).toLoadRect) (ix2 t x)).trans (congrArg (View.canon L) (rI_emb i t x))
theorem backC_at (w : View sig .tc .vmem S1x1x2048x1 .f32) (L : List (View.Piece (Elt Ideal) S1x1x2048x1 .f32)) (i : Fin 4) (t : Fin 512) :
    backC w L i (ix4 0 0 t 0) = View.canon L (ix4 0 0 (bi i t) 0) :=
  (congrFun (View.readCov_eq_canon' w L (rC i).toLoadRect) (ix4 0 0 t 0)).trans (congrArg (View.canon L) (rC_emb i t))

section
variable {T : Tiles} {A : Data} {b : Fin 2} {h : Fin 8} (hT : T.Of A b h)
include hT

theorem canon_dq (w : View sig .tc .vmem S2048x128 .f32) (i : Fin 4) (t : Fin 512) (x : Fin 128) :
    ∀ (ss : List Step) (_ : ∀ s ∈ ss, Runs s) (L : List (View.Piece (Elt Ideal) S2048x128 .f32)) (r : ℝ)
      (_ : View.canon L (ix2 (bi i t) x) = ((r : ℝ) : EReal)),
      View.canon (ss.foldl (T.dqStep w) L) (ix2 (bi i t) x)
        = ((r + (ss.map fun s => if s.2.2 = i then ∑ u, A.D b h (bi i t) (bi s.2.1 u) * scl * A.K b h (bi s.2.1 u) x else 0).sum : ℝ) : EReal)
  | [], _, L, r, hL => by simpa using hL
  | s :: ss, hs, L, r, hL => by
    rw [List.foldl_cons, canon_dq w i t x ss (fun s' h' => hs s' (List.mem_cons_of_mem _ h')) _
      (r + if s.2.2 = i then ∑ u, A.D b h (bi i t) (bi s.2.1 u) * scl * A.K b h (bi s.2.1 u) x else 0) ?_, List.map_cons, List.sum_cons, add_assoc]
    have hr := hs s List.mem_cons_self
    unfold Tiles.dqStep
    by_cases hi : s.2.2 = i
    · subst hi
      rw [if_pos rfl, pcI_hit, tDq_at, backI_at, hL]
      simp only [dsb_val hT hr, hT.k, ← EReal.coe_mul, ← coe_sum, ← EReal.coe_add]
    · rw [if_neg hi, add_zero, pcI_miss (Ne.symm hi), hL]

theorem canon_dcq (w : View sig .tc .vmem S1x1x2048x1 .f32) (i : Fin 4) (t : Fin 512) :
    ∀ (ss : List Step) (_ : ∀ s ∈ ss, Runs s) (L : List (View.Piece (Elt Ideal) S1x1x2048x1 .f32)) (r : ℝ)
      (_ : View.canon L (ix4 0 0 (bi i t) 0) = ((r : ℝ) : EReal)),
      View.canon (ss.foldl (T.dcqStep w) L) (ix4 0 0 (bi i t) 0)
        = ((r + (ss.map fun s => if s.2.2 = i then ∑ u, A.D b h (bi i t) (bi s.2.1 u) else 0).sum : ℝ) : EReal)
  | [], _, L, r, hL => by simpa using hL
  | s :: ss, hs, L, r, hL => by
    rw [List.foldl_cons, canon_dcq w i t ss (fun s' h' => hs s' (List.mem_cons_of_mem _ h')) _
      (r + if s.2.2 = i then ∑ u, A.D b h (bi i t) (bi s.2.1 u) else 0) ?_, List.map_cons, List.sum_cons, add_assoc]
    have hr := hs s List.mem_cons_self
    unfold Tiles.dcqStep
    by_cases hi : s.2.2 = i
    · subst hi
      rw [if_pos rfl, pcC_hit, tDcq_at, backC_at, hL]
      simp only [ds_val hT hr, ← coe_sum, ← EReal.coe_add]
    · rw [if_neg hi, add_zero, pcC_miss (Ne.symm hi), hL]
end

/-- What the stores of zeros leave. -/
theorem canon_zero_dq (y : S2048x128.Idx) :
    View.canon [(⟨Rect.unit ![0, 0] S2048x128.size inb_S2048x128_S2048x128_0_0, k0_pay3 (F := Ideal)⟩ : View.Piece (Elt Ideal) S2048x128 .f32)] y = ((0 : ℝ) : EReal) := by
  rw [View.canon_unit_zero (S := S2048x128) (by decide)]
  idx_vars y
  pointwise [k0_pay3]
  simp
theorem canon_zero_dcq (t : Fin 2048) :
    View.canon [(⟨Rect.unit ![0, 0, 0, 0] S1x1x2048x1.size inb_S1x1x2048x1_S1x1x2048x1_0_0_0_0, k0_pay4 (F := Ideal)⟩ : View.Piece (Elt Ideal) S1x1x2048x1 .f32)] (ix4 0 0 t 0) = ((0 : ℝ) : EReal) := by
  rw [View.canon_unit_zero (S := S1x1x2048x1) (by decide)]
  pointwise [k0_pay4]
  simp

section
variable {T : Tiles} {A : Data} {b : Fin 2} {h : Fin 8} (hT : T.Of A b h)
include hT

theorem dqPieces_val (w : View sig .tc .vmem S2048x128 .f32) (i : Fin 4) (t : Fin 512) (x : Fin 128) :
    View.canon (T.dqPieces w) (ix2 (bi i t) x) = ((∑ u, A.D b h (bi i t) u * scl * A.K b h u x : ℝ) : EReal) := by
  unfold Tiles.dqPieces
  rw [canon_dq hT w i t x _ runs_steps _ 0 (canon_zero_dq _), zero_add, sum_blocks fun u => A.D b h (bi i t) u * scl * A.K b h u x,
    steps_sum i (fun j => ∑ u, A.D b h (bi i t) (bi j u) * scl * A.K b h (bi j u) x) ?_]
  intro j hj; simp only [D_above hT hj, zero_mul, Finset.sum_const_zero]
theorem dcqPieces_val (w : View sig .tc .vmem S1x1x2048x1 .f32) (i : Fin 4) (t : Fin 512) :
    View.canon (T.dcqPieces w) (ix4 0 0 (bi i t) 0) = ((∑ u, A.D b h (bi i t) u : ℝ) : EReal) := by
  unfold Tiles.dcqPieces
  rw [canon_dcq hT w i t _ runs_steps _ 0 (canon_zero_dcq _), zero_add, sum_blocks fun u => A.D b h (bi i t) u,
    steps_sum i (fun j => ∑ u, A.D b h (bi i t) (bi j u)) ?_]
  intro j hj; simp only [D_above hT hj, Finset.sum_const_zero]
end

/-- The keys' pieces, block by block. -/
theorem canon_blocks (P : Fin 4 → S512x128.Idx → Elt Ideal .bf16) (j : Fin 4) (u : Fin 512) (x : Fin 128) :
    View.canon ([3, 2, 1, 0].map fun j => pcI (e := .bf16) j (P j)) (ix2 (bi j u) x) = P j (ix2 u x) := by
  simp only [List.map_cons, List.map_nil]
  by_cases h3 : j = 3
  · subst h3; rw [pcI_hit]
  rw [pcI_miss h3]
  by_cases h2 : j = 2
  · subst h2; rw [pcI_hit]
  rw [pcI_miss h2]
  by_cases h1 : j = 1
  · subst h1; rw [pcI_hit]
  rw [pcI_miss h1]
  obtain rfl : j = 0 := by omega
  rw [pcI_hit]
theorem canon_rows (P : Fin 4 → Row) (j : Fin 4) (u : Fin 512) :
    View.canon ([3, 2, 1, 0].map fun j => pcR j (P j)) (ix4 0 0 j u) = P j (ix4 0 0 0 u) := by
  simp only [List.map_cons, List.map_nil]
  by_cases h3 : j = 3
  · subst h3; rw [pcR_hit]
  rw [pcR_miss h3]
  by_cases h2 : j = 2
  · subst h2; rw [pcR_hit]
  rw [pcR_miss h2]
  by_cases h1 : j = 1
  · subst h1; rw [pcR_hit]
  rw [pcR_miss h1]
  obtain rfl : j = 0 := by omega
  rw [pcR_hit]

theorem asRow_at (a : FVec Ideal S1x512 .f32) (u : Fin 512) :
    shapeCast S1x1x1x512 a shapeCasts_S1x512_S1x1x1x512 (ix4 0 0 0 u) = a (ix2 0 u) := by
  pointwise

/-- The whole running sum read back and cast. -/
theorem whole_back (w : View sig .tc .vmem S2048x128 .f32) (L : List (View.Piece (Elt Ideal) S2048x128 .f32)) :
    k0_pay2 (w.readCov L (Rect.unit ![0, 0] S2048x128.size inb_S2048x128_S2048x128_0_0).toLoadRect) = View.canon L := by
  have e : w.readCov L (Rect.unit ![0, 0] S2048x128.size inb_S2048x128_S2048x128_0_0).toLoadRect = View.canon L := by
    rw [View.readCov_eq_canon']
    exact View.ld_unit_zero (S := S2048x128) (by decide) _ (View.canon L)
  rw [e]
  rfl

/-! ## The blocks one point leaves -/

theorem bi_surj (t : Fin 2048) : ∃ i t', t = bi i t' :=
  ⟨⟨t.val / 512, by omega⟩, ⟨t.val % 512, Nat.mod_lt _ (by norm_num)⟩, Fin.ext (by simp only [bi]; omega)⟩

section
variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S2048x128 .bf16) (harg6 : arg6.IsWhole)
  (arg7 : Memref sig .tc .vmem S1x1x2048x1 .f32) (harg7 : arg7.IsWhole)
  (arg8 : Memref sig .tc .vmem S1x1x2048x1 .f32) (harg8 : arg8.IsWhole)
  (arg9 : Memref sig .tc .vmem S1x1x4x512 .f32) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S1x1x2048x1 .f32) (harg13 : arg13.IsWhole)
  (arg14 : Memref sig .tc .vmem S1x1x4x512 .f32) (harg14 : arg14.IsWhole)
  (arg15 : Memref sig .tc .vmem S2048x128 .f32) (harg15 : arg15.IsWhole)
  (x0 x1 x2 : Vec Ideal S2048x128 .bf16) (x3 : Vec Ideal S2048x128 .f32) (x4 : Vec Ideal S2048x128 .bf16) (x5 x6 : Vec Ideal S1x1x2048x1 .f32) (x7 : Vec Ideal S1x1x4x512 .f32)
variable {A : Data} {b : Fin 2} {h : Fin 8} (hT : (loads arg2 harg2 arg3 harg3 arg4 harg4 arg5 harg5 arg6 harg6 arg7 harg7 arg8 harg8 arg9 harg9 x0 x1 x2 x3 x4 x5 x6 x7).Of A b h)
include hT

theorem out8_val (t : Fin 2048) (x : Fin 128) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 t x) = ((∑ u, A.D b h t u * scl * A.K b h u x : ℝ) : EReal) := by
  obtain ⟨i', t, rfl⟩ := bi_surj t
  unfold out0_A_8
  rw [View.read_writes_junk_eq_canon, pieces8, View.canon_unit_zero (S := S2048x128) (by decide), whole_back]
  exact dqPieces_val hT arg15.view i' t x
theorem out9_val (t : Fin 2048) (x : Fin 128) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 t x) = ((∑ s, A.D b h s t * scl * A.Q b h s x : ℝ) : EReal) := by
  obtain ⟨j, u, rfl⟩ := bi_surj t
  unfold out0_A_9
  rw [View.read_writes_junk_eq_canon, pieces9, ← dk_val hT j u x]
  exact canon_blocks (fun j => truncf .bf16 ((loads arg2 harg2 arg3 harg3 arg4 harg4 arg5 harg5 arg6 harg6 arg7 harg7 arg8 harg8 arg9 harg9 x0 x1 x2 x3 x4 x5 x6 x7).dk j) bitsLt_bf16_f32) j u x
theorem out10_val (t : Fin 2048) (x : Fin 128) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 t x) = ((∑ s, A.P b h s t * A.G b h s x : ℝ) : EReal) := by
  obtain ⟨j, u, rfl⟩ := bi_surj t
  unfold out0_A_10
  rw [View.read_writes_junk_eq_canon, pieces10, ← dv_val hT j u x]
  exact canon_blocks (fun j => truncf .bf16 ((loads arg2 harg2 arg3 harg3 arg4 harg4 arg5 harg5 arg6 harg6 arg7 harg7 arg8 harg8 arg9 harg9 x0 x1 x2 x3 x4 x5 x6 x7).dv j) bitsLt_bf16_f32) j u x
theorem out11_val (t : Fin 2048) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix4 0 0 t 0) = ((∑ u, A.D b h t u : ℝ) : EReal) := by
  obtain ⟨i', t, rfl⟩ := bi_surj t
  unfold out0_A_11
  rw [View.read_writes_junk_eq_canon, pieces11, dcqPieces_val hT]
theorem out12_val (j : Fin 4) (u : Fin 512) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix4 0 0 j u) = ((-∑ t, A.D b h t (bi j u) : ℝ) : EReal) := by
  unfold out0_A_12
  rw [View.read_writes_junk_eq_canon, pieces12, ← dck_val hT j u]
  refine Eq.trans ?_ (asRow_at _ u)
  exact canon_rows (fun j => shapeCast S1x1x1x512 ((loads arg2 harg2 arg3 harg3 arg4 harg4 arg5 harg5 arg6 harg6 arg7 harg7 arg8 harg8 arg9 harg9 x0 x1 x2 x3 x4 x5 x6 x7).dck j) shapeCasts_S1x512_S1x1x1x512) j u
end

end Cert.Fox

end
-- ==== Proof.Host.lean ====
/- What the host's operations before the call leave: the output, the log-sum-exp, the decay sums as columns and rows. -/
module

public import proofs.«01_k».proof.Proof.Gen.KernelIdeal.Value
public import proofs.«01_k».proof.Proof.TileAt

@[expose] public section

set_option maxRecDepth 16384

noncomputable section

namespace Cert.Fox

open Cert.KernelIdeal Cert.KernelIdeal.Gen Idealize.ShloMosaic Idealize.ShloMosaic.TcCoe

section
variable (z : FVec Ideal S4096x3072 .bf16) (c : FVec Ideal S2x8x2048 .f32)
def hE : Square := ex (rS z c) (mx (rS z c))
def hL : Lines := sm (hE z c)
/-- Log-sum-exp, attention's output, the decay sums as key rows. -/
def hLse : Thin := addf (thin (mx (rS z c))) (Host.log (thin (hL z c)))
def attOf (v : Heads) (e : Square) (l : Lines) : FVec Ideal S4096x1024 .f32 :=
  shapeCast _ (transpose S2x2048x8x128 [0, 3, 1, 2]
    (Host.dotGeneral dot_S2x2048x8x128_S2x8x2048x2048_S2x8x128x2048_1_3_3_2_02_01 none v (Host.divf e (wide (thin l))))
    transposes_S2x8x128x2048_S2x2048x8x128_0_3_1_2) shapeCasts_S2x2048x8x128_S4096x1024
def rows (c : Lines) : FVec Ideal S2x8x4x512 .f32 :=
  shapeCast _ (broadcastInDim S2x8x1x2048 ![0, 1, 3] bcast_S2x8x2048_S2x8x1x2048_0_1_3 c) shapeCasts_S2x8x1x2048_S2x8x4x512
end

section
variable (m : (ℓ : Loc nD τ sig) → Buf (Elt Ideal) ℓ) (c : Dev nD)

theorem V_cq : V m c main_v0 = thin (m ((c : Thread nD τ).loc main_arg1)) := by
  unfold V
  simp only [hostOps0, hostOps0_1, hostOps0_2, List.flatten_cons, List.flatten_nil, List.append_nil, List.cons_append, List.nil_append, StableHlo.TRef.unary, StableHlo.TRef.ternary, StableHlo.TRef.toBuf, StableHlo.TRef.ofBuf, cast_eq]
  after_results_simp <;> rfl
theorem V_ck : V m c main_v37 = rows (m ((c : Thread nD τ).loc main_arg1)) := by
  unfold V
  simp only [hostOps0, hostOps0_1, hostOps0_2, List.flatten_cons, List.flatten_nil, List.append_nil, List.cons_append, List.nil_append, StableHlo.TRef.unary, StableHlo.TRef.ternary, StableHlo.TRef.toBuf, StableHlo.TRef.ofBuf, cast_eq]
  after_results_simp <;> rfl
theorem V_lse : V m c main_v31 = hLse (m ((c : Thread nD τ).loc main_arg0)) (m ((c : Thread nD τ).loc main_arg1)) := by
  unfold V
  simp only [hostOps0, hostOps0_1, hostOps0_2, List.flatten_cons, List.flatten_nil, List.append_nil, List.cons_append, List.nil_append, StableHlo.TRef.unary, StableHlo.TRef.ternary, StableHlo.TRef.toBuf, StableHlo.TRef.ofBuf, cast_eq]
  after_results_simp <;> rfl
theorem V_att : V m c main_v36
    = attOf (vh (m ((c : Thread nD τ).loc main_arg0))) (hE (m ((c : Thread nD τ).loc main_arg0)) (m ((c : Thread nD τ).loc main_arg1)))
        (hL (m ((c : Thread nD τ).loc main_arg0)) (m ((c : Thread nD τ).loc main_arg1))) := by
  unfold V
  simp only [hostOps0, hostOps0_1, hostOps0_2, List.flatten_cons, List.flatten_nil, List.append_nil, List.cons_append, List.nil_append, StableHlo.TRef.unary, StableHlo.TRef.ternary, StableHlo.TRef.toBuf, StableHlo.TRef.ofBuf, cast_eq]
  after_results_simp <;> rfl
end

/-! ## At an index -/

theorem thin_at (l : Lines) (b : Fin 2) (h : Fin 8) (t : Fin 2048) : thin l (ix4 b h t 0) = l (ix3 b h t) := by
  pointwise [thin]
theorem rows_at (l : Lines) (b : Fin 2) (h : Fin 8) (j : Fin 4) (u : Fin 512) : rows l (ix4 b h j u) = l (ix3 b h (bi j u)) := by
  pointwise [rows]
  congr 2
  apply Fin.ext; simp only [bi]; omega
theorem lse_at (a l : Lines) (b : Fin 2) (h : Fin 8) (t : Fin 2048) :
    addf (thin a) (Host.log (thin l)) (ix4 b h t 0) = a (ix3 b h t) + Ideal.log (l (ix3 b h t)) := by
  pointwise [thin]
theorem attOf_at (v : Heads) (e : Square) (l : Lines) (b : Fin 2) (t : Fin 2048) (h : Fin 8) (x : Fin 128) :
    attOf v e l (ix2 (rowi b t) (coli h x)) = ∑ u, v (ix4 b u h x) * Ideal.div (e (ix4 b h t u)) (l (ix3 b h t)) := by
  pointwise [attOf, thin, wide]
  simp only [rowi_div, rowi_mod, coli_div, coli_mod]

variable {A : Data} {z : FVec Ideal S4096x3072 .bf16} {c : Lines} {g : FVec Ideal S4096x1024 .bf16} (hA : A.Of z c g)
include hA

theorem hE_val (b : Fin 2) (h : Fin 8) (t u : Fin 2048) : hE z c (ix4 b h t u) = ((A.E b h t u : ℝ) : EReal) :=
  ex_val hA _ (mx_val hA) b h t u
theorem hL_val (b : Fin 2) (h : Fin 8) (t : Fin 2048) : hL z c (ix3 b h t) = ((A.L b h t : ℝ) : EReal) :=
  sm_val hA _ (hE_val hA) b h t
theorem hLse_val (b : Fin 2) (h : Fin 8) (t : Fin 2048) :
    hLse z c (ix4 b h t 0) = ((A.M b h t + Real.log (A.L b h t) : ℝ) : EReal) := by
  unfold hLse
  rw [lse_at, mx_val hA, hL_val hA, Ideal.log_coe, if_neg (show ¬ A.L b h t ≤ 0 from not_le.mpr (lR_pos (A.S b h) (A.M b h) t)), EReal.coe_add]
theorem att_val (b : Fin 2) (t : Fin 2048) (h : Fin 8) (x : Fin 128) :
    attOf (vh z) (hE z c) (hL z c) (ix2 (rowi b t) (coli h x)) = ((∑ u, A.P b h t u * A.V b h u x : ℝ) : EReal) := by
  rw [attOf_at]
  simp only [vh_val hA, hE_val hA, hL_val hA, fun u => div_real (A.E b h t u) _ (A.L_ne b h t), ← EReal.coe_mul, ← coe_sum]
  exact congrArg _ (Finset.sum_congr rfl fun u _ => mul_comm _ _)

end Cert.Fox

end
-- ==== Proof.Block.lean ====
/- The attention's backward call: a grid point's blocks, and what they hold of the arguments. -/
module

public import proofs.«01_k».proof.Proof.Gen.KernelIdeal.Value
public import proofs.«01_k».proof.Proof.Host

@[expose] public section

set_option maxRecDepth 16384

noncomputable section

namespace Cert.Fox

open Cert.KernelIdeal Cert.KernelIdeal.Gen Idealize.ShloMosaic Idealize.ShloMosaic.TcCoe

section
variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S2048x128 .bf16) (harg6 : arg6.IsWhole)
  (arg7 : Memref sig .tc .vmem S1x1x2048x1 .f32) (harg7 : arg7.IsWhole)
  (arg8 : Memref sig .tc .vmem S1x1x2048x1 .f32) (harg8 : arg8.IsWhole)
  (arg9 : Memref sig .tc .vmem S1x1x4x512 .f32) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S1x1x2048x1 .f32) (harg13 : arg13.IsWhole)
  (arg14 : Memref sig .tc .vmem S1x1x4x512 .f32) (harg14 : arg14.IsWhole)
  (arg15 : Memref sig .tc .vmem S2048x128 .f32) (harg15 : arg15.IsWhole)
  (x0 x1 x2 : Vec Ideal S2048x128 .bf16) (x3 : Vec Ideal S2048x128 .f32) (x4 : Vec Ideal S2048x128 .bf16) (x5 x6 : Vec Ideal S1x1x2048x1 .f32) (x7 : Vec Ideal S1x1x4x512 .f32)
  {A : Data} {b : Fin 2} {h : Fin 8}

/-- The tiles of a block, from the block's own numbers. -/
theorem loads_of
    (h0 : ∀ t x, x0 (ix2 t x) = ((A.Q b h t x : ℝ) : EReal)) (h1 : ∀ t x, x1 (ix2 t x) = ((A.K b h t x : ℝ) : EReal))
    (h2 : ∀ t x, x2 (ix2 t x) = ((A.V b h t x : ℝ) : EReal)) (h3 : ∀ t x, x3 (ix2 t x) = ((∑ u, A.P b h t u * A.V b h u x : ℝ) : EReal))
    (h4 : ∀ t x, x4 (ix2 t x) = ((A.G b h t x : ℝ) : EReal)) (h5 : ∀ t, x5 (ix4 0 0 t 0) = ((A.M b h t + Real.log (A.L b h t) : ℝ) : EReal))
    (h6 : ∀ t, x6 (ix4 0 0 t 0) = ((A.c b h t : ℝ) : EReal)) (h7 : ∀ j u, x7 (ix4 0 0 j u) = ((A.c b h (bi j u) : ℝ) : EReal)) :
    (loads arg2 harg2 arg3 harg3 arg4 harg4 arg5 harg5 arg6 harg6 arg7 harg7 arg8 harg8 arg9 harg9 x0 x1 x2 x3 x4 x5 x6 x7).Of A b h where
  q i t x := by
    show View.readAt (Elt Ideal) arg2.view (rI i).toLoadRect (harg2.unread x0) (ix2 t x) = _
    rw [View.readAt_eq_ld, harg2.read_unread, ← h0, ← rI_emb]; rfl
  k i t x := by
    show View.readAt (Elt Ideal) arg3.view (rI i).toLoadRect (harg3.unread x1) (ix2 t x) = _
    rw [View.readAt_eq_ld, harg3.read_unread, ← h1, ← rI_emb]; rfl
  v i t x := by
    show View.readAt (Elt Ideal) arg4.view (rI i).toLoadRect (harg4.unread x2) (ix2 t x) = _
    rw [View.readAt_eq_ld, harg4.read_unread, ← h2, ← rI_emb]; rfl
  g i t x := by
    show View.readAt (Elt Ideal) arg6.view (rI i).toLoadRect (harg6.unread x4) (ix2 t x) = _
    rw [View.readAt_eq_ld, harg6.read_unread, ← h4, ← rI_emb]; rfl
  o i t x := by
    show View.readAt (Elt Ideal) arg5.view (rI i).toLoadRect (harg5.unread x3) (ix2 t x) = _
    rw [View.readAt_eq_ld, harg5.read_unread, ← h3, ← rI_emb]; rfl
  l i t := by
    show View.readAt (Elt Ideal) arg7.view (rC i).toLoadRect (harg7.unread x5) (ix4 0 0 t 0) = _
    rw [View.readAt_eq_ld, harg7.read_unread, ← h5, ← rC_emb]; rfl
  cq i t := by
    show View.readAt (Elt Ideal) arg8.view (rC i).toLoadRect (harg8.unread x6) (ix4 0 0 t 0) = _
    rw [View.readAt_eq_ld, harg8.read_unread, ← h6, ← rC_emb]; rfl
  ck j u := by
    show View.readAt (Elt Ideal) arg9.view (rR j).toLoadRect (harg9.unread x7) (ix4 0 0 0 u) = _
    rw [View.readAt_eq_ld, harg9.read_unread, ← h7, ← rR_emb]; rfl
end

/-! ## A grid point's place in the arrays -/

/-- The grid point of batch `b` and head `h`. -/
def pt (b : Fin 2) (h : Fin 8) : Fin cfg0.N := ⟨b.val * 8 + h.val, by show _ < 16; omega⟩

theorem idx_io : ∀ (b : Fin 2) (h : Fin 8),
    (win0_0.index (pt b h) (0 : Fin 2) = b.val ∧ win0_0.index (pt b h) (1 : Fin 2) = h.val)
    ∧ (win0_1.index (pt b h) (0 : Fin 2) = b.val ∧ win0_1.index (pt b h) (1 : Fin 2) = 8 + h.val)
    ∧ (win0_2.index (pt b h) (0 : Fin 2) = b.val ∧ win0_2.index (pt b h) (1 : Fin 2) = 16 + h.val)
    ∧ (win0_3.index (pt b h) (0 : Fin 2) = b.val ∧ win0_3.index (pt b h) (1 : Fin 2) = h.val)
    ∧ (win0_4.index (pt b h) (0 : Fin 2) = b.val ∧ win0_4.index (pt b h) (1 : Fin 2) = h.val)
    ∧ (win0_8.index (pt b h) (0 : Fin 2) = b.val ∧ win0_8.index (pt b h) (1 : Fin 2) = h.val)
    ∧ (win0_9.index (pt b h) (0 : Fin 2) = b.val ∧ win0_9.index (pt b h) (1 : Fin 2) = h.val)
    ∧ (win0_10.index (pt b h) (0 : Fin 2) = b.val ∧ win0_10.index (pt b h) (1 : Fin 2) = h.val) := by decide +kernel

theorem idx_thin : ∀ (b : Fin 2) (h : Fin 8) (a : Fin 4),
    win0_5.index (pt b h) a = (![b.val, h.val, 0, 0] : Fin 4 → ℕ) a ∧ win0_6.index (pt b h) a = (![b.val, h.val, 0, 0] : Fin 4 → ℕ) a
    ∧ win0_7.index (pt b h) a = (![b.val, h.val, 0, 0] : Fin 4 → ℕ) a ∧ win0_11.index (pt b h) a = (![b.val, h.val, 0, 0] : Fin 4 → ℕ) a
    ∧ win0_12.index (pt b h) a = (![b.val, h.val, 0, 0] : Fin 4 → ℕ) a := by decide +kernel

/-- Column `x` of the `n`-th block of columns. -/
def colz (n : ℕ) (hn : n < 24) (x : Fin 128) : Fin 3072 := ⟨n * 128 + x.val, by omega⟩

theorem emb0 (b : Fin 2) (h : Fin 8) (t : Fin 2048) (x : Fin 128) :
    ((cfg0.win 0).blk (pt b h)).view.emb (ix2 t x) = ix2 (rowi b t) (colz h.val (by omega) x) := by
  have e := (idx_io b h).1
  funext a; apply Fin.ext
  match a with
  | ⟨0, _⟩ => show win0_0.index (pt b h) (0 : Fin 2) * 2048 + 1 * t.val = b.val * 2048 + t.val; omega
  | ⟨1, _⟩ => show win0_0.index (pt b h) (1 : Fin 2) * 128 + 1 * x.val = h.val * 128 + x.val; omega
theorem emb1 (b : Fin 2) (h : Fin 8) (t : Fin 2048) (x : Fin 128) :
    ((cfg0.win 1).blk (pt b h)).view.emb (ix2 t x) = ix2 (rowi b t) (colz (8 + h.val) (by omega) x) := by
  have e := (idx_io b h).2.1
  funext a; apply Fin.ext
  match a with
  | ⟨0, _⟩ => show win0_1.index (pt b h) (0 : Fin 2) * 2048 + 1 * t.val = b.val * 2048 + t.val; omega
  | ⟨1, _⟩ => show win0_1.index (pt b h) (1 : Fin 2) * 128 + 1 * x.val = (8 + h.val) * 128 + x.val; omega
theorem emb2 (b : Fin 2) (h : Fin 8) (t : Fin 2048) (x : Fin 128) :
    ((cfg0.win 2).blk (pt b h)).view.emb (ix2 t x) = ix2 (rowi b t) (colz (16 + h.val) (by omega) x) := by
  have e := (idx_io b h).2.2.1
  funext a; apply Fin.ext
  match a with
  | ⟨0, _⟩ => show win0_2.index (pt b h) (0 : Fin 2) * 2048 + 1 * t.val = b.val * 2048 + t.val; omega
  | ⟨1, _⟩ => show win0_2.index (pt b h) (1 : Fin 2) * 128 + 1 * x.val = (16 + h.val) * 128 + x.val; omega
theorem emb3 (b : Fin 2) (h : Fin 8) (t : Fin 2048) (x : Fin 128) :
    ((cfg0.win 3).blk (pt b h)).view.emb (ix2 t x) = ix2 (rowi b t) (coli h x) := by
  have e := (idx_io b h).2.2.2.1
  funext a; apply Fin.ext
  match a with
  | ⟨0, _⟩ => show win0_3.index (pt b h) (0 : Fin 2) * 2048 + 1 * t.val = b.val * 2048 + t.val; omega
  | ⟨1, _⟩ => show win0_3.index (pt b h) (1 : Fin 2) * 128 + 1 * x.val = h.val * 128 + x.val; omega
theorem emb4 (b : Fin 2) (h : Fin 8) (t : Fin 2048) (x : Fin 128) :
    ((cfg0.win 4).blk (pt b h)).view.emb (ix2 t x) = ix2 (rowi b t) (coli h x) := by
  have e := (idx_io b h).2.2.2.2.1
  funext a; apply Fin.ext
  match a with
  | ⟨0, _⟩ => show win0_4.index (pt b h) (0 : Fin 2) * 2048 + 1 * t.val = b.val * 2048 + t.val; omega
  | ⟨1, _⟩ => show win0_4.index (pt b h) (1 : Fin 2) * 128 + 1 * x.val = h.val * 128 + x.val; omega
theorem emb8 (b : Fin 2) (h : Fin 8) (t : Fin 2048) (x : Fin 128) :
    ((cfg0.win 8).blk (pt b h)).view.emb (ix2 t x) = ix2 (rowi b t) (coli h x) := by
  have e := (idx_io b h).2.2.2.2.2.1
  funext a; apply Fin.ext
  match a with
  | ⟨0, _⟩ => show win0_8.index (pt b h) (0 : Fin 2) * 2048 + 1 * t.val = b.val * 2048 + t.val; omega
  | ⟨1, _⟩ => show win0_8.index (pt b h) (1 : Fin 2) * 128 + 1 * x.val = h.val * 128 + x.val; omega
theorem emb9 (b : Fin 2) (h : Fin 8) (t : Fin 2048) (x : Fin 128) :
    ((cfg0.win 9).blk (pt b h)).view.emb (ix2 t x) = ix2 (rowi b t) (coli h x) := by
  have e := (idx_io b h).2.2.2.2.2.2.1
  funext a; apply Fin.ext
  match a with
  | ⟨0, _⟩ => show win0_9.index (pt b h) (0 : Fin 2) * 2048 + 1 * t.val = b.val * 2048 + t.val; omega
  | ⟨1, _⟩ => show win0_9.index (pt b h) (1 : Fin 2) * 128 + 1 * x.val = h.val * 128 + x.val; omega
theorem emb10 (b : Fin 2) (h : Fin 8) (t : Fin 2048) (x : Fin 128) :
    ((cfg0.win 10).blk (pt b h)).view.emb (ix2 t x) = ix2 (rowi b t) (coli h x) := by
  have e := (idx_io b h).2.2.2.2.2.2.2
  funext a; apply Fin.ext
  match a with
  | ⟨0, _⟩ => show win0_10.index (pt b h) (0 : Fin 2) * 2048 + 1 * t.val = b.val * 2048 + t.val; omega
  | ⟨1, _⟩ => show win0_10.index (pt b h) (1 : Fin 2) * 128 + 1 * x.val = h.val * 128 + x.val; omega
theorem emb5 (b : Fin 2) (h : Fin 8) (t : Fin 2048) (x : Fin 1) :
    ((cfg0.win 5).blk (pt b h)).view.emb (ix4 0 0 t x) = ix4 b h t x := by
  have e := fun a => (idx_thin b h a).1
  funext a; apply Fin.ext
  match a with
  | ⟨0, _⟩ => exact (congrArg (· * 1 + 1 * 0) (e 0)).trans (by show b.val * 1 + 1 * 0 = b.val; omega)
  | ⟨1, _⟩ => exact (congrArg (· * 1 + 1 * 0) (e 1)).trans (by show h.val * 1 + 1 * 0 = h.val; omega)
  | ⟨2, _⟩ => exact (congrArg (· * 2048 + 1 * t.val) (e 2)).trans (by show 0 * 2048 + 1 * t.val = t.val; omega)
  | ⟨3, _⟩ => exact (congrArg (· * 1 + 1 * x.val) (e 3)).trans (by show 0 * 1 + 1 * x.val = x.val; omega)
theorem emb6 (b : Fin 2) (h : Fin 8) (t : Fin 2048) (x : Fin 1) :
    ((cfg0.win 6).blk (pt b h)).view.emb (ix4 0 0 t x) = ix4 b h t x := by
  have e := fun a => (idx_thin b h a).2.1
  funext a; apply Fin.ext
  match a with
  | ⟨0, _⟩ => exact (congrArg (· * 1 + 1 * 0) (e 0)).trans (by show b.val * 1 + 1 * 0 = b.val; omega)
  | ⟨1, _⟩ => exact (congrArg (· * 1 + 1 * 0) (e 1)).trans (by show h.val * 1 + 1 * 0 = h.val; omega)
  | ⟨2, _⟩ => exact (congrArg (· * 2048 + 1 * t.val) (e 2)).trans (by show 0 * 2048 + 1 * t.val = t.val; omega)
  | ⟨3, _⟩ => exact (congrArg (· * 1 + 1 * x.val) (e 3)).trans (by show 0 * 1 + 1 * x.val = x.val; omega)
theorem emb7 (b : Fin 2) (h : Fin 8) (t : Fin 4) (x : Fin 512) :
    ((cfg0.win 7).blk (pt b h)).view.emb (ix4 0 0 t x) = ix4 b h t x := by
  have e := fun a => (idx_thin b h a).2.2.1
  funext a; apply Fin.ext
  match a with
  | ⟨0, _⟩ => exact (congrArg (· * 1 + 1 * 0) (e 0)).trans (by show b.val * 1 + 1 * 0 = b.val; omega)
  | ⟨1, _⟩ => exact (congrArg (· * 1 + 1 * 0) (e 1)).trans (by show h.val * 1 + 1 * 0 = h.val; omega)
  | ⟨2, _⟩ => exact (congrArg (· * 4 + 1 * t.val) (e 2)).trans (by show 0 * 4 + 1 * t.val = t.val; omega)
  | ⟨3, _⟩ => exact (congrArg (· * 512 + 1 * x.val) (e 3)).trans (by show 0 * 512 + 1 * x.val = x.val; omega)
theorem emb11 (b : Fin 2) (h : Fin 8) (t : Fin 2048) (x : Fin 1) :
    ((cfg0.win 11).blk (pt b h)).view.emb (ix4 0 0 t x) = ix4 b h t x := by
  have e := fun a => (idx_thin b h a).2.2.2.1
  funext a; apply Fin.ext
  match a with
  | ⟨0, _⟩ => exact (congrArg (· * 1 + 1 * 0) (e 0)).trans (by show b.val * 1 + 1 * 0 = b.val; omega)
  | ⟨1, _⟩ => exact (congrArg (· * 1 + 1 * 0) (e 1)).trans (by show h.val * 1 + 1 * 0 = h.val; omega)
  | ⟨2, _⟩ => exact (congrArg (· * 2048 + 1 * t.val) (e 2)).trans (by show 0 * 2048 + 1 * t.val = t.val; omega)
  | ⟨3, _⟩ => exact (congrArg (· * 1 + 1 * x.val) (e 3)).trans (by show 0 * 1 + 1 * x.val = x.val; omega)
theorem emb12 (b : Fin 2) (h : Fin 8) (t : Fin 4) (x : Fin 512) :
    ((cfg0.win 12).blk (pt b h)).view.emb (ix4 0 0 t x) = ix4 b h t x := by
  have e := fun a => (idx_thin b h a).2.2.2.2
  funext a; apply Fin.ext
  match a with
  | ⟨0, _⟩ => exact (congrArg (· * 1 + 1 * 0) (e 0)).trans (by show b.val * 1 + 1 * 0 = b.val; omega)
  | ⟨1, _⟩ => exact (congrArg (· * 1 + 1 * 0) (e 1)).trans (by show h.val * 1 + 1 * 0 = h.val; omega)
  | ⟨2, _⟩ => exact (congrArg (· * 4 + 1 * t.val) (e 2)).trans (by show 0 * 4 + 1 * t.val = t.val; omega)
  | ⟨3, _⟩ => exact (congrArg (· * 512 + 1 * x.val) (e 3)).trans (by show 0 * 512 + 1 * x.val = x.val; omega)

end Cert.Fox

end
-- ==== Proof.Reads.lean ====
/- The attention's backward call: what a grid point's blocks hold of the arguments. -/
module

public import proofs.«01_k».proof.Proof.Block

@[expose] public section

set_option maxRecDepth 16384

noncomputable section

namespace Cert.Fox

open Cert.KernelIdeal Cert.KernelIdeal.Gen Idealize.ShloMosaic Idealize.ShloMosaic.TcCoe

/-! ## The blocks a grid point reads -/

/-- A block of an array, at an index. -/
theorem read0 (X : FVec Ideal S4096x3072 .bf16) (b : Fin 2) (h : Fin 8) (t : Fin 2048) (x : Fin 128) :
    ((cfg0.win 0).blk (pt b h)).view.read (Elt Ideal) X (ix2 t x) = X (ix2 (rowi b t) (colz h.val (by omega) x)) :=
  congrArg X (emb0 b h t x)
theorem read1 (X : FVec Ideal S4096x3072 .bf16) (b : Fin 2) (h : Fin 8) (t : Fin 2048) (x : Fin 128) :
    ((cfg0.win 1).blk (pt b h)).view.read (Elt Ideal) X (ix2 t x) = X (ix2 (rowi b t) (colz (8 + h.val) (by omega) x)) :=
  congrArg X (emb1 b h t x)
theorem read2 (X : FVec Ideal S4096x3072 .bf16) (b : Fin 2) (h : Fin 8) (t : Fin 2048) (x : Fin 128) :
    ((cfg0.win 2).blk (pt b h)).view.read (Elt Ideal) X (ix2 t x) = X (ix2 (rowi b t) (colz (16 + h.val) (by omega) x)) :=
  congrArg X (emb2 b h t x)
theorem read3 (X : FVec Ideal S4096x1024 .f32) (b : Fin 2) (h : Fin 8) (t : Fin 2048) (x : Fin 128) :
    ((cfg0.win 3).blk (pt b h)).view.read (Elt Ideal) X (ix2 t x) = X (ix2 (rowi b t) (coli h x)) :=
  congrArg X (emb3 b h t x)
theorem read4 (X : FVec Ideal S4096x1024 .bf16) (b : Fin 2) (h : Fin 8) (t : Fin 2048) (x : Fin 128) :
    ((cfg0.win 4).blk (pt b h)).view.read (Elt Ideal) X (ix2 t x) = X (ix2 (rowi b t) (coli h x)) :=
  congrArg X (emb4 b h t x)
theorem read8 (X : FVec Ideal S4096x1024 .bf16) (b : Fin 2) (h : Fin 8) (t : Fin 2048) (x : Fin 128) :
    ((cfg0.win 8).blk (pt b h)).view.read (Elt Ideal) X (ix2 t x) = X (ix2 (rowi b t) (coli h x)) :=
  congrArg X (emb8 b h t x)
theorem read9 (X : FVec Ideal S4096x1024 .bf16) (b : Fin 2) (h : Fin 8) (t : Fin 2048) (x : Fin 128) :
    ((cfg0.win 9).blk (pt b h)).view.read (Elt Ideal) X (ix2 t x) = X (ix2 (rowi b t) (coli h x)) :=
  congrArg X (emb9 b h t x)
theorem read10 (X : FVec Ideal S4096x1024 .bf16) (b : Fin 2) (h : Fin 8) (t : Fin 2048) (x : Fin 128) :
    ((cfg0.win 10).blk (pt b h)).view.read (Elt Ideal) X (ix2 t x) = X (ix2 (rowi b t) (coli h x)) :=
  congrArg X (emb10 b h t x)
theorem read5 (X : FVec Ideal S2x8x2048x1 .f32) (b : Fin 2) (h : Fin 8) (t : Fin 2048) (x : Fin 1) :
    ((cfg0.win 5).blk (pt b h)).view.read (Elt Ideal) X (ix4 0 0 t x) = X (ix4 b h t x) :=
  congrArg X (emb5 b h t x)
theorem read6 (X : FVec Ideal S2x8x2048x1 .f32) (b : Fin 2) (h : Fin 8) (t : Fin 2048) (x : Fin 1) :
    ((cfg0.win 6).blk (pt b h)).view.read (Elt Ideal) X (ix4 0 0 t x) = X (ix4 b h t x) :=
  congrArg X (emb6 b h t x)
theorem read7 (X : FVec Ideal S2x8x4x512 .f32) (b : Fin 2) (h : Fin 8) (t : Fin 4) (x : Fin 512) :
    ((cfg0.win 7).blk (pt b h)).view.read (Elt Ideal) X (ix4 0 0 t x) = X (ix4 b h t x) :=
  congrArg X (emb7 b h t x)
theorem read11 (X : FVec Ideal S2x8x2048x1 .f32) (b : Fin 2) (h : Fin 8) (t : Fin 2048) (x : Fin 1) :
    ((cfg0.win 11).blk (pt b h)).view.read (Elt Ideal) X (ix4 0 0 t x) = X (ix4 b h t x) :=
  congrArg X (emb11 b h t x)
theorem read12 (X : FVec Ideal S2x8x4x512 .f32) (b : Fin 2) (h : Fin 8) (t : Fin 4) (x : Fin 512) :
    ((cfg0.win 12).blk (pt b h)).view.read (Elt Ideal) X (ix4 0 0 t x) = X (ix4 b h t x) :=
  congrArg X (emb12 b h t x)

section
variable (m : (ℓ : Loc nD τ sig) → Buf (Elt Ideal) ℓ) (c : Dev nD) {A : Data}
  (hA : A.Of (m ((c : Thread nD τ).loc main_arg0)) (m ((c : Thread nD τ).loc main_arg1)) (m ((c : Thread nD τ).loc main_arg2)))
  (b : Fin 2) (h : Fin 8)
include hA

theorem blk0_val (t : Fin 2048) (x : Fin 128) : iblk m c 0 (pt b h) (ix2 t x) = ((A.Q b h t x : ℝ) : EReal) := by
  refine (read0 (V m c main_arg0) b h t x).trans ?_
  rw [V_main_arg0]
  exact hA.hz _ _
theorem blk1_val (t : Fin 2048) (x : Fin 128) : iblk m c 1 (pt b h) (ix2 t x) = ((A.K b h t x : ℝ) : EReal) := by
  refine (read1 (V m c main_arg0) b h t x).trans ?_
  rw [V_main_arg0]
  refine (hA.hz _ _).trans (congrArg (fun j => ((A.z (rowi b t) j : ℝ) : EReal)) (Fin.ext ?_))
  show (8 + h.val) * 128 + x.val = 1024 + (h.val * 128 + x.val); omega
theorem blk2_val (t : Fin 2048) (x : Fin 128) : iblk m c 2 (pt b h) (ix2 t x) = ((A.V b h t x : ℝ) : EReal) := by
  refine (read2 (V m c main_arg0) b h t x).trans ?_
  rw [V_main_arg0]
  refine (hA.hz _ _).trans (congrArg (fun j => ((A.z (rowi b t) j : ℝ) : EReal)) (Fin.ext ?_))
  show (16 + h.val) * 128 + x.val = 2048 + (h.val * 128 + x.val); omega
theorem blk3_val (t : Fin 2048) (x : Fin 128) : iblk m c 3 (pt b h) (ix2 t x) = ((∑ u, A.P b h t u * A.V b h u x : ℝ) : EReal) := by
  refine (read3 (V m c main_v36) b h t x).trans ?_
  rw [V_att]
  exact att_val hA b t h x
theorem blk4_val (t : Fin 2048) (x : Fin 128) : iblk m c 4 (pt b h) (ix2 t x) = ((A.G b h t x : ℝ) : EReal) := by
  refine (read4 (V m c main_arg2) b h t x).trans ?_
  rw [V_main_arg2]
  exact hA.hg _ _
theorem blk5_val (t : Fin 2048) : iblk m c 5 (pt b h) (ix4 0 0 t 0) = ((A.M b h t + Real.log (A.L b h t) : ℝ) : EReal) := by
  refine (read5 (V m c main_v31) b h t 0).trans ?_
  rw [V_lse]
  exact hLse_val hA b h t
theorem blk6_val (t : Fin 2048) : iblk m c 6 (pt b h) (ix4 0 0 t 0) = ((A.c b h t : ℝ) : EReal) := by
  refine (read6 (V m c main_v0) b h t 0).trans ?_
  rw [V_cq, thin_at]
  exact hA.hc b h t
theorem blk7_val (j : Fin 4) (u : Fin 512) : iblk m c 7 (pt b h) (ix4 0 0 j u) = ((A.c b h (bi j u) : ℝ) : EReal) := by
  refine (read7 (V m c main_v37) b h j u).trans ?_
  rw [V_ck, rows_at]
  exact hA.hc b h _
end

end Cert.Fox

end
-- ==== Proof.Results.lean ====
/- The five arrays after the run are the reference's. -/
module

public import proofs.«01_k».proof.Proof.Reads

@[expose] public section

set_option maxRecDepth 16384

noncomputable section

namespace Cert.Fox

open Cert.KernelIdeal Cert.KernelIdeal.Gen Idealize.ShloMosaic Idealize.ShloMosaic.TcCoe

/-- An index of a [4096, 1024] array, a column, a key row. -/
theorem io_surj (y : S4096x1024.Idx) : ∃ b t h x, y = ix2 (rowi b t) (coli h x) := by
  idx_vars y
  refine ⟨⟨y0.val / 2048, by omega⟩, ⟨y0.val % 2048, by omega⟩, ⟨y1.val / 128, by omega⟩, ⟨y1.val % 128, by omega⟩, ?_⟩
  congr 1 <;> (apply Fin.ext; simp only [rowi, coli]; omega)
theorem col_surj (y : S2x8x2048x1.Idx) : ∃ b h t, y = ix4 b h t 0 := by
  idx_vars y
  exact ⟨y0, y1, y2, by rw [Subsingleton.elim y3 0]⟩
theorem row_surj (y : S2x8x4x512.Idx) : ∃ b h j u, y = ix4 b h j u := by
  idx_vars y
  exact ⟨y0, y1, y2, y3, rfl⟩

/-- A key block's row, counted either way. -/
theorem bi_comm (j : Fin 4) : (fun u : Fin 512 => (⟨j.val * 512 + u.val, by omega⟩ : Fin 2048)) = bi j :=
  funext fun u => Fin.ext (by simp only [bi]; omega)

/-- Every grid point writes its block of every result. -/
theorem flush_all : ∀ t : Fin cfg0.N, (cfg0.win 8).flush t = true ∧ (cfg0.win 9).flush t = true ∧ (cfg0.win 10).flush t = true
    ∧ (cfg0.win 11).flush t = true ∧ (cfg0.win 12).flush t = true :=
  (by decide +kernel : ∀ t : Fin grid0.N, _)

variable (m : (ℓ : Loc nD τ sig) → Buf (Elt Ideal) ℓ) (c : Dev nD) {A : Data}
  (hA : A.Of (m ((c : Thread nD τ).loc main_arg0)) (m ((c : Thread nD τ).loc main_arg1)) (m ((c : Thread nD τ).loc main_arg2)))
include hA

theorem tiles_of (b : Fin 2) (h : Fin 8) :
    (loads (ms0_0 (pt b h)) (hs0_0 (pt b h)) (ms0_1 (pt b h)) (hs0_1 (pt b h)) (ms0_2 (pt b h)) (hs0_2 (pt b h)) (ms0_3 (pt b h)) (hs0_3 (pt b h)) (ms0_4 (pt b h)) (hs0_4 (pt b h)) (ms0_5 (pt b h)) (hs0_5 (pt b h)) (ms0_6 (pt b h)) (hs0_6 (pt b h)) (ms0_7 (pt b h)) (hs0_7 (pt b h))
      (iblk m c 0 (pt b h)) (iblk m c 1 (pt b h)) (iblk m c 2 (pt b h)) (iblk m c 3 (pt b h)) (iblk m c 4 (pt b h)) (iblk m c 5 (pt b h)) (iblk m c 6 (pt b h)) (iblk m c 7 (pt b h))).Of A b h :=
  loads_of _ _ _ _ _ _ _ _ _ _ _ _ _ _ _ _ _ _ _ _ _ _ _ _ (blk0_val m c hA b h) (blk1_val m c hA b h) (blk2_val m c hA b h) (blk3_val m c hA b h)
    (blk4_val m c hA b h) (blk5_val m c hA b h) (blk6_val m c hA b h) (blk7_val m c hA b h)

theorem final8 : (Cert.KernelIdeal.Gen.dats m 0 c).arrAt 8 cfg0.N = oq (rD (m ((c : Thread nD τ).loc main_arg0)) (m ((c : Thread nD τ).loc main_arg1)) (m ((c : Thread nD τ).loc main_arg2))) (kh (m ((c : Thread nD τ).loc main_arg0))) := by
  funext y
  obtain ⟨b, t, h, x, rfl⟩ := io_surj y
  refine (read8 _ b h t x).symm.trans ?_
  have e := congrFun (Cert.KernelIdeal.Value.blocks8 m c (pt b h) (flush_all _).1) (ix2 t x)
  refine e.trans ?_
  rw [Cert.KernelIdeal.Value.flushed8_A]
  refine Eq.trans ?_ (oq_val hA b t h x).symm
  exact out8_val _ _ _ _ _ _ _ _ _ _ _ _ _ _ _ _ _ _ _ _ _ _ _ _ _ _ _ _ _ _ _ _ _ _ _ _ _ _ (tiles_of m c hA b h) t x
theorem final9 : (Cert.KernelIdeal.Gen.dats m 0 c).arrAt 9 cfg0.N = ok (rD (m ((c : Thread nD τ).loc main_arg0)) (m ((c : Thread nD τ).loc main_arg1)) (m ((c : Thread nD τ).loc main_arg2))) (qh (m ((c : Thread nD τ).loc main_arg0))) := by
  funext y
  obtain ⟨b, t, h, x, rfl⟩ := io_surj y
  refine (read9 _ b h t x).symm.trans ?_
  have e := congrFun (Cert.KernelIdeal.Value.blocks9 m c (pt b h) (flush_all _).2.1) (ix2 t x)
  refine e.trans ?_
  rw [Cert.KernelIdeal.Value.flushed9_A]
  refine Eq.trans ?_ (ok_val hA b t h x).symm
  exact out9_val _ _ _ _ _ _ _ _ _ _ _ _ _ _ _ _ _ _ _ _ _ _ _ _ _ _ _ _ _ _ _ _ _ _ _ _ _ _ (tiles_of m c hA b h) t x
theorem final10 : (Cert.KernelIdeal.Gen.dats m 0 c).arrAt 10 cfg0.N = ov (rE (m ((c : Thread nD τ).loc main_arg0)) (m ((c : Thread nD τ).loc main_arg1))) (rL (m ((c : Thread nD τ).loc main_arg0)) (m ((c : Thread nD τ).loc main_arg1))) (gh (m ((c : Thread nD τ).loc main_arg2))) := by
  funext y
  obtain ⟨b, t, h, x, rfl⟩ := io_surj y
  refine (read10 _ b h t x).symm.trans ?_
  have e := congrFun (Cert.KernelIdeal.Value.blocks10 m c (pt b h) (flush_all _).2.2.1) (ix2 t x)
  refine e.trans ?_
  rw [Cert.KernelIdeal.Value.flushed10_A]
  refine Eq.trans ?_ (ov_val hA b t h x).symm
  exact out10_val _ _ _ _ _ _ _ _ _ _ _ _ _ _ _ _ _ _ _ _ _ _ _ _ _ _ _ _ _ _ _ _ _ _ _ _ _ _ (tiles_of m c hA b h) t x
theorem final11 : (Cert.KernelIdeal.Gen.dats m 0 c).arrAt 11 cfg0.N = ocq (rD (m ((c : Thread nD τ).loc main_arg0)) (m ((c : Thread nD τ).loc main_arg1)) (m ((c : Thread nD τ).loc main_arg2))) := by
  funext y
  obtain ⟨b, h, t, rfl⟩ := col_surj y
  refine (read11 _ b h t 0).symm.trans ?_
  have e := congrFun (Cert.KernelIdeal.Value.blocks11 m c (pt b h) (flush_all _).2.2.2.1) (ix4 0 0 t 0)
  refine e.trans ?_
  rw [Cert.KernelIdeal.Value.flushed11_A]
  refine Eq.trans ?_ (ocq_val hA b h t 0).symm
  exact out11_val _ _ _ _ _ _ _ _ _ _ _ _ _ _ _ _ _ _ _ _ _ _ _ _ _ _ _ _ _ _ _ _ _ _ _ _ _ _ (tiles_of m c hA b h) t
theorem final12 : (Cert.KernelIdeal.Gen.dats m 0 c).arrAt 12 cfg0.N = ock (rD (m ((c : Thread nD τ).loc main_arg0)) (m ((c : Thread nD τ).loc main_arg1)) (m ((c : Thread nD τ).loc main_arg2))) := by
  funext y
  obtain ⟨b, h, j, u, rfl⟩ := row_surj y
  refine (read12 _ b h j u).symm.trans ?_
  have e := congrFun (Cert.KernelIdeal.Value.blocks12 m c (pt b h) (flush_all _).2.2.2.2) (ix4 0 0 j u)
  refine e.trans ?_
  rw [Cert.KernelIdeal.Value.flushed12_A]
  refine Eq.trans ?_ ((ock_val hA b h j u).trans (congrArg (fun f : Fin 512 → Fin 2048 => ((-∑ t, A.D b h t (f u) : ℝ) : EReal)) (bi_comm j))).symm
  exact out12_val _ _ _ _ _ _ _ _ _ _ _ _ _ _ _ _ _ _ _ _ _ _ _ _ _ _ _ _ _ _ _ _ _ _ _ _ _ _ (tiles_of m c hA b h) j u

end Cert.Fox

end
-- ==== Proof.Meet.lean ====
/- The kernel's arrays and the reference's results, from memories agreeing on the arguments. -/
module

public import proofs.«01_k».proof.Proof.Results

@[expose] public section

set_option maxRecDepth 16384

noncomputable section

namespace Cert.Fox

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  {A : Data} {z : FVec Ideal Cert.ReferenceIdeal.S4096x3072 .bf16} {l : Lines} {g : FVec Ideal Cert.ReferenceIdeal.S4096x1024 .bf16}
  (hA : A.Of z l g)
  (k0 : m ((c.tc : Thread Cert.KernelIdeal.nD Cert.KernelIdeal.τ).loc Cert.KernelIdeal.main_arg0) = z)
  (k1 : m ((c.tc : Thread Cert.KernelIdeal.nD Cert.KernelIdeal.τ).loc Cert.KernelIdeal.main_arg1) = l)
  (k2 : m ((c.tc : Thread Cert.KernelIdeal.nD Cert.KernelIdeal.τ).loc Cert.KernelIdeal.main_arg2) = g)
  (r0 : m' ((c.tc : Thread Cert.ReferenceIdeal.nD Cert.ReferenceIdeal.τ).loc Cert.ReferenceIdeal.main_arg0) = z)
  (r1 : m' ((c.tc : Thread Cert.ReferenceIdeal.nD Cert.ReferenceIdeal.τ).loc Cert.ReferenceIdeal.main_arg1) = l)
  (r2 : m' ((c.tc : Thread Cert.ReferenceIdeal.nD Cert.ReferenceIdeal.τ).loc Cert.ReferenceIdeal.main_arg2) = g)

section
include hA k0 k1 k2
theorem kern0 : (Cert.KernelIdeal.Gen.dats m 0 c).arrAt 8 Cert.KernelIdeal.cfg0.N = oq (rD z l g) (kh z) := by
  subst k0 k1 k2; exact final8 m c hA
theorem kern1 : (Cert.KernelIdeal.Gen.dats m 0 c).arrAt 9 Cert.KernelIdeal.cfg0.N = ok (rD z l g) (qh z) := by
  subst k0 k1 k2; exact final9 m c hA
theorem kern2 : (Cert.KernelIdeal.Gen.dats m 0 c).arrAt 10 Cert.KernelIdeal.cfg0.N = ov (rE z l) (rL z l) (gh g) := by
  subst k0 k1 k2; exact final10 m c hA
theorem kern3 : (Cert.KernelIdeal.Gen.dats m 0 c).arrAt 11 Cert.KernelIdeal.cfg0.N = ocq (rD z l g) := by
  subst k0 k1 k2; exact final11 m c hA
theorem kern4 : (Cert.KernelIdeal.Gen.dats m 0 c).arrAt 12 Cert.KernelIdeal.cfg0.N = ock (rD z l g) := by
  subst k0 k1 k2; exact final12 m c hA
end

section
include r0 r1 r2 in
theorem ref0 : Cert.ReferenceIdeal.Value.res_out0 m' c = oq (rD z l g) (kh z) := by
  subst r0 r1 r2; exact out0_eq m' c
include r0 r1 r2 in
theorem ref1 : Cert.ReferenceIdeal.Value.res_out1 m' c = ok (rD z l g) (qh z) := by
  subst r0 r1 r2; exact out1_eq m' c
include r0 r1 r2 in
theorem ref2 : Cert.ReferenceIdeal.Value.res_out2 m' c = ov (rE z l) (rL z l) (gh g) := by
  subst r0 r1 r2; exact out2_eq m' c
include r0 r1 r2 in
theorem ref3 : Cert.ReferenceIdeal.Value.res_out3 m' c = ocq (rD z l g) := by
  subst r0 r1 r2; exact out3_eq m' c
include r0 r1 r2 in
theorem ref4 : Cert.ReferenceIdeal.Value.res_out4 m' c = ock (rD z l g) := by
  subst r0 r1 r2; exact out4_eq m' c
end

end Cert.Fox

end
-- ==== Proof.Product.lean ====
/- Products of matrices over a grid of tiles: the contraction is a sum over its blocks. -/
module

public import Idealize.ShloMosaic.Lib.Pointwise
public import Idealize.ShloMosaic.Lib.Tactic
public import Idealize.ShloMosaic.Lib.Pipeline.Value

@[expose] public section

noncomputable section

namespace Cert.Product

open Idealize.ShloMosaic

/-- A sum over an axis of two equal blocks. -/
theorem sum_two {N : ℕ} (n : ℕ) (e : N = n + n) (f : Fin N → EReal) :
    ∑ t, f t = (∑ t : Fin n, f ⟨t.val, by omega⟩) + ∑ t : Fin n, f ⟨n + t.val, by omega⟩ := by
  subst e
  exact Fin.sum_univ_add f

/-- A sum over an axis of `k` blocks of `n`, the blocks counted from the first. -/
theorem sum_run (k n : ℕ) (f : Fin (k * n) → EReal) :
    ∑ t, f t = ∑ j : Fin k, ∑ t : Fin n, f ⟨j.val * n + t.val, by
      have h := Nat.mul_le_mul_right n j.isLt
      rw [Nat.succ_mul] at h
      omega⟩ := by
  rw [← Equiv.sum_comp (finProdFinEquiv (m := k) (n := n)) f, Fintype.sum_prod_type]
  refine Finset.sum_congr rfl fun i _ => Finset.sum_congr rfl fun t _ => congrArg f (Fin.ext ?_)
  rw [finProdFinEquiv_apply_val, Nat.mul_comm n, Nat.add_comm]

/-- An accumulator that starts at `g 0 + b` and adds `g j` at step `j` ends at the sum of the steps over `b`. -/
theorem acc_run (b : EReal) : ∀ {n : ℕ} (g a : Fin (n + 1) → EReal), a 0 = g 0 + b →
    (∀ j : Fin n, a j.succ = a j.castSucc + g j.succ) → a (Fin.last n) = (∑ j, g j) + b
  | 0, g, a, h0, _ => by rw [Fin.sum_univ_one]; exact h0
  | n + 1, g, a, h0, hs => by
    have e := acc_run b (fun j => g j.castSucc) (fun j => a j.castSucc) h0 fun j => hs j.castSucc
    rw [Fin.sum_univ_castSucc, ← Fin.succ_last, hs, e, add_right_comm]

theorem zero_two : (![0, 0] : Fin 2 → Nat) = fun _ => 0 := by funext a; match a with | ⟨0, _⟩ => rfl | ⟨1, _⟩ => rfl
theorem zero_three : (![0, 0, 0] : Fin 3 → Nat) = fun _ => 0 := by
  funext a; match a with | ⟨0, _⟩ => rfl | ⟨1, _⟩ => rfl | ⟨2, _⟩ => rfl

end Cert.Product

end
-- ==== Proof.MergeFwd.lean ====
/- The merge of the two branches: each branch's output times the logistic of its gate's column of the projection plus that gate's bias, and the two added. -/
module

public import proofs.«01_k».proof.Defs
public import proofs.«01_k».proof.Proof.Product
public import proofs.«01_k».proof.Proof.Gen.MergeFwd.Frame
public import proofs.«01_k».proof.Proof.Gen.MergeFwdIdeal.Value
public import proofs.«01_k».proof.Proof.Gen.MergeFwdReferenceIdeal.Run

@[expose] public section

set_option maxRecDepth 16384

noncomputable section

namespace Cert.Row.MergeFwd

open Cert.MergeFwdIdeal Cert.MergeFwdIdeal.Gen Idealize.ShloMosaic Idealize.ShloMosaic.TcCoe Idealize.SL.Sem

/-- A gate: the logistic of its entry of the projection plus its bias. -/
def sg (z b : EReal) : EReal := Ideal.logistic (z + b)

/-- An array of ones. -/
def ones : FVec Ideal S4096x1024 .f32 := broadcastInDim Cert.MergeFwdReferenceIdeal.S4096x1024 ![] Cert.MergeFwdReferenceIdeal.Facts₀.bcast_S_S4096x1024 (constant Cert.MergeFwdReferenceIdeal.S_ .f32 0x3F800000#32)
/-- The reference's logistic of a gate's columns plus its bias. -/
def lgt (p : FVec Ideal S4096x1024 .f32) (b : FVec Ideal S1x1024 .f32) : FVec Ideal S4096x1024 .f32 :=
  Host.divf ones (addf ones (Host.exp (Host.negf (addf p (broadcastInDim Cert.MergeFwdReferenceIdeal.S4096x1024 ![0, 1] Cert.MergeFwdReferenceIdeal.Facts₀.bcast_S1x1024_S4096x1024_0_1 b)))))
/-- The gates' columns of the projection. -/
def gate2 (z : FVec Ideal S4096x4096 .f32) : FVec Ideal S4096x1024 .f32 :=
  extractStridedSlice Cert.MergeFwdReferenceIdeal.S4096x1024 ![0, 2048] z Cert.MergeFwdReferenceIdeal.Facts₀.slices_S4096x4096_S4096x1024_0_2048
@[inherit_doc gate2]
def gate3 (z : FVec Ideal S4096x4096 .f32) : FVec Ideal S4096x1024 .f32 :=
  extractStridedSlice Cert.MergeFwdReferenceIdeal.S4096x1024 ![0, 3072] z Cert.MergeFwdReferenceIdeal.Facts₀.slices_S4096x4096_S4096x1024_0_3072
/-- The reference's array. -/
def prod (z : FVec Ideal S4096x4096 .f32) (ya yb : FVec Ideal S4096x1024 .f32) (b0 b1 : FVec Ideal S1x1024 .f32) : FVec Ideal S4096x1024 .bf16 :=
  truncf .bf16 (addf (mulf (lgt (gate2 z) b0) ya) (mulf (lgt (gate3 z) b1) yb)) Cert.MergeFwdReferenceIdeal.Facts₀.bitsLt_bf16_f32

theorem prod_congr {z z' : FVec Ideal S4096x4096 .f32} {ya ya' yb yb' : FVec Ideal S4096x1024 .f32} {b0 b0' b1 b1' : FVec Ideal S1x1024 .f32}
    (h0 : z = z') (h1 : ya = ya') (h2 : yb = yb') (h3 : b0 = b0') (h4 : b1 = b1') : prod z ya yb b0 b1 = prod z' ya' yb' b0' b1' := by
  subst h0 h1 h2 h3 h4; rfl

/-- A column of a gate, in the projection. -/
def at2 (x : Fin 1024) : Fin 4096 := ⟨2048 + x.val, by omega⟩
@[inherit_doc at2]
def at3 (x : Fin 1024) : Fin 4096 := ⟨3072 + x.val, by omega⟩

theorem ones_at (y : S4096x1024.Idx) : ones y = 1 := Ideal.ofBits_one_f32
theorem gate2_at (z : FVec Ideal S4096x4096 .f32) (t : Fin 4096) (x : Fin 1024) : gate2 z (ix2 t x) = z (ix2 t (at2 x)) := by
  pointwise [gate2, at2]
theorem gate3_at (z : FVec Ideal S4096x4096 .f32) (t : Fin 4096) (x : Fin 1024) : gate3 z (ix2 t x) = z (ix2 t (at3 x)) := by
  pointwise [gate3, at3]
theorem bias_at (b : FVec Ideal S1x1024 .f32) (t : Fin 4096) (x : Fin 1024) :
    broadcastInDim Cert.MergeFwdReferenceIdeal.S4096x1024 ![0, 1] Cert.MergeFwdReferenceIdeal.Facts₀.bcast_S1x1024_S4096x1024_0_1 b (ix2 t x) = b (ix2 0 x) := by
  pointwise []
theorem lgt_at (p : FVec Ideal S4096x1024 .f32) (b : FVec Ideal S1x1024 .f32) (t : Fin 4096) (x : Fin 1024) :
    lgt p b (ix2 t x) = sg (p (ix2 t x)) (b (ix2 0 x)) := by
  rw [← bias_at b t x]
  show Ideal.div (ones _) (ones _ + Ideal.exp (-(p (ix2 t x) + _))) = _
  rw [ones_at]; rfl
theorem prod_at (z : FVec Ideal S4096x4096 .f32) (ya yb : FVec Ideal S4096x1024 .f32) (b0 b1 : FVec Ideal S1x1024 .f32) (t : Fin 4096) (x : Fin 1024) :
    prod z ya yb b0 b1 (ix2 t x)
      = sg (z (ix2 t (at2 x))) (b0 (ix2 0 x)) * ya (ix2 t x) + sg (z (ix2 t (at3 x))) (b1 (ix2 0 x)) * yb (ix2 t x) := by
  rw [← gate2_at z t x, ← gate3_at z t x, ← lgt_at, ← lgt_at]
  rfl

/-- A bias row repeated down a point's rows. -/
theorem row_at (b : FVec Ideal S1x1024 .f32) (r : Fin 512) (x : Fin 1024) :
    broadcastTo S512x1024 (shapeCast S1x1024 b Facts₀.shapeCasts_S1x1024_S1x1024) Facts₀.broadcasts_S1x1024_S512x1024 (ix2 r x) = b (ix2 0 x) := by
  pointwise []
/-- A point's block of the result. -/
theorem out_at (ga gb ya yb : FVec Ideal S512x1024 .f32) (b0 b1 : FVec Ideal S1x1024 .f32) (r : Fin 512) (x : Fin 1024) :
    out0_6 (F := Ideal) ga gb ya yb b0 b1 (ix2 r x)
      = sg (ga (ix2 r x)) (b0 (ix2 0 x)) * ya (ix2 r x) + sg (gb (ix2 r x)) (b1 (ix2 0 x)) * yb (ix2 r x) := by
  unfold out0_6
  rw [View.canon_unit_zero Product.zero_two, ← row_at b0 r x, ← row_at b1 r x]
  simp only [View.ld_unit_zero (S := S512x1024) Product.zero_two, View.ld_unit_zero (S := S1x1024) Product.zero_two]
  rfl

/-! ## The array after the run -/

variable (m : (ℓ : Loc nD τ sig) → Buf (Elt Ideal) ℓ) (c : Dev nD)

/-- The point of block `i` of the rows. -/
def pt (i : Fin 8) : Fin cfg0.N := ⟨i.val, lt_of_lt_of_eq (by omega) N_0.symm⟩
/-- Row `r` of block `i`. -/
def row (i : Fin 8) (r : Fin 512) : Fin 4096 := ⟨i.val * 512 + r.val, by omega⟩

theorem idx : ∀ i : Fin 8, win0_0.index (pt i) = ![i.val, 2] ∧ win0_1.index (pt i) = ![i.val, 3] ∧ win0_2.index (pt i) = ![i.val, 0]
    ∧ win0_3.index (pt i) = ![i.val, 0] ∧ win0_4.index (pt i) = ![0, 0] ∧ win0_5.index (pt i) = ![0, 0] ∧ win0_6.index (pt i) = ![i.val, 0] := by decide +kernel
theorem flush_all : ∀ t : Fin cfg0.N, (cfg0.win 6).flush t = true := (by decide +kernel : ∀ t : Fin grid0.N, _)

theorem read0 (X : FVec Ideal S4096x4096 .f32) (i : Fin 8) (r : Fin 512) (x : Fin 1024) :
    ((cfg0.win 0).blk (pt i)).view.read (Elt Ideal) X (ix2 r x) = X (ix2 (row i r) (at2 x)) := by
  obtain ⟨e, -⟩ := idx i
  refine congrArg X (funext fun a => Fin.ext ?_)
  match a with
  | ⟨0, _⟩ => show win0_0.index (pt i) (0 : Fin 2) * 512 + 1 * r.val = i.val * 512 + r.val; rw [e]; simp
  | ⟨1, _⟩ => show win0_0.index (pt i) (1 : Fin 2) * 1024 + 1 * x.val = 2048 + x.val; rw [e]; simp
theorem read1 (X : FVec Ideal S4096x4096 .f32) (i : Fin 8) (r : Fin 512) (x : Fin 1024) :
    ((cfg0.win 1).blk (pt i)).view.read (Elt Ideal) X (ix2 r x) = X (ix2 (row i r) (at3 x)) := by
  obtain ⟨-, e, -⟩ := idx i
  refine congrArg X (funext fun a => Fin.ext ?_)
  match a with
  | ⟨0, _⟩ => show win0_1.index (pt i) (0 : Fin 2) * 512 + 1 * r.val = i.val * 512 + r.val; rw [e]; simp
  | ⟨1, _⟩ => show win0_1.index (pt i) (1 : Fin 2) * 1024 + 1 * x.val = 3072 + x.val; rw [e]; simp
theorem read2 (X : FVec Ideal S4096x1024 .f32) (i : Fin 8) (r : Fin 512) (x : Fin 1024) :
    ((cfg0.win 2).blk (pt i)).view.read (Elt Ideal) X (ix2 r x) = X (ix2 (row i r) x) := by
  obtain ⟨-, -, e, -⟩ := idx i
  refine congrArg X (funext fun a => Fin.ext ?_)
  match a with
  | ⟨0, _⟩ => show win0_2.index (pt i) (0 : Fin 2) * 512 + 1 * r.val = i.val * 512 + r.val; rw [e]; simp
  | ⟨1, _⟩ => show win0_2.index (pt i) (1 : Fin 2) * 1024 + 1 * x.val = x.val; rw [e]; simp
theorem read3 (X : FVec Ideal S4096x1024 .f32) (i : Fin 8) (r : Fin 512) (x : Fin 1024) :
    ((cfg0.win 3).blk (pt i)).view.read (Elt Ideal) X (ix2 r x) = X (ix2 (row i r) x) := by
  obtain ⟨-, -, -, e, -⟩ := idx i
  refine congrArg X (funext fun a => Fin.ext ?_)
  match a with
  | ⟨0, _⟩ => show win0_3.index (pt i) (0 : Fin 2) * 512 + 1 * r.val = i.val * 512 + r.val; rw [e]; simp
  | ⟨1, _⟩ => show win0_3.index (pt i) (1 : Fin 2) * 1024 + 1 * x.val = x.val; rw [e]; simp
theorem read4 (X : FVec Ideal S1x1024 .f32) (i : Fin 8) (x : Fin 1024) :
    ((cfg0.win 4).blk (pt i)).view.read (Elt Ideal) X (ix2 0 x) = X (ix2 0 x) := by
  obtain ⟨-, -, -, -, e, -⟩ := idx i
  refine congrArg X (funext fun a => Fin.ext ?_)
  match a with
  | ⟨0, _⟩ => show win0_4.index (pt i) (0 : Fin 2) * 1 + 1 * 0 = 0; rw [e]; simp
  | ⟨1, _⟩ => show win0_4.index (pt i) (1 : Fin 2) * 1024 + 1 * x.val = x.val; rw [e]; simp
theorem read5 (X : FVec Ideal S1x1024 .f32) (i : Fin 8) (x : Fin 1024) :
    ((cfg0.win 5).blk (pt i)).view.read (Elt Ideal) X (ix2 0 x) = X (ix2 0 x) := by
  obtain ⟨-, -, -, -, -, e, -⟩ := idx i
  refine congrArg X (funext fun a => Fin.ext ?_)
  match a with
  | ⟨0, _⟩ => show win0_5.index (pt i) (0 : Fin 2) * 1 + 1 * 0 = 0; rw [e]; simp
  | ⟨1, _⟩ => show win0_5.index (pt i) (1 : Fin 2) * 1024 + 1 * x.val = x.val; rw [e]; simp
theorem read6 (X : FVec Ideal S4096x1024 .bf16) (i : Fin 8) (r : Fin 512) (x : Fin 1024) :
    ((cfg0.win 6).blk (pt i)).view.read (Elt Ideal) X (ix2 r x) = X (ix2 (row i r) x) := by
  obtain ⟨-, -, -, -, -, -, e⟩ := idx i
  refine congrArg X (funext fun a => Fin.ext ?_)
  match a with
  | ⟨0, _⟩ => show win0_6.index (pt i) (0 : Fin 2) * 512 + 1 * r.val = i.val * 512 + r.val; rw [e]; simp
  | ⟨1, _⟩ => show win0_6.index (pt i) (1 : Fin 2) * 1024 + 1 * x.val = x.val; rw [e]; simp

theorem blk0 (i : Fin 8) (r : Fin 512) (x : Fin 1024) : (iblk m c 0 (pt i) : FVec Ideal S512x1024 .f32) (ix2 r x)
    = (m ((c : Thread nD τ).loc main_arg0) : FVec Ideal S4096x4096 .f32) (ix2 (row i r) (at2 x)) := by
  refine (read0 (V m c main_arg0) i r x).trans ?_
  rw [V_main_arg0]
theorem blk1 (i : Fin 8) (r : Fin 512) (x : Fin 1024) : (iblk m c 1 (pt i) : FVec Ideal S512x1024 .f32) (ix2 r x)
    = (m ((c : Thread nD τ).loc main_arg0) : FVec Ideal S4096x4096 .f32) (ix2 (row i r) (at3 x)) := by
  refine (read1 (V m c main_arg0) i r x).trans ?_
  rw [V_main_arg0]
theorem blk2 (i : Fin 8) (r : Fin 512) (x : Fin 1024) : (iblk m c 2 (pt i) : FVec Ideal S512x1024 .f32) (ix2 r x)
    = (m ((c : Thread nD τ).loc main_arg1) : FVec Ideal S4096x1024 .f32) (ix2 (row i r) x) := by
  refine (read2 (V m c main_arg1) i r x).trans ?_
  rw [V_main_arg1]
theorem blk3 (i : Fin 8) (r : Fin 512) (x : Fin 1024) : (iblk m c 3 (pt i) : FVec Ideal S512x1024 .f32) (ix2 r x)
    = (m ((c : Thread nD τ).loc main_arg2) : FVec Ideal S4096x1024 .f32) (ix2 (row i r) x) := by
  refine (read3 (V m c main_arg2) i r x).trans ?_
  rw [V_main_arg2]
theorem blk4 (i : Fin 8) (x : Fin 1024) : (iblk m c 4 (pt i) : FVec Ideal S1x1024 .f32) (ix2 0 x)
    = (m ((c : Thread nD τ).loc main_arg3) : FVec Ideal S1x1024 .f32) (ix2 0 x) := by
  refine (read4 (V m c main_arg3) i x).trans ?_
  rw [V_main_arg3]
theorem blk5 (i : Fin 8) (x : Fin 1024) : (iblk m c 5 (pt i) : FVec Ideal S1x1024 .f32) (ix2 0 x)
    = (m ((c : Thread nD τ).loc main_arg4) : FVec Ideal S1x1024 .f32) (ix2 0 x) := by
  refine (read5 (V m c main_arg4) i x).trans ?_
  rw [V_main_arg4]

theorem final : (dats m 0 c).arrAt 6 cfg0.N = prod (m ((c : Thread nD τ).loc main_arg0)) (m ((c : Thread nD τ).loc main_arg1)) (m ((c : Thread nD τ).loc main_arg2)) (m ((c : Thread nD τ).loc main_arg3)) (m ((c : Thread nD τ).loc main_arg4)) := by
  funext y
  obtain ⟨i, r, x, rfl⟩ : ∃ i r x, y = ix2 (row i r) x := by
    idx_vars y
    refine ⟨⟨y0.val / 512, by omega⟩, ⟨y0.val % 512, by omega⟩, y1, ?_⟩
    congr 1; apply Fin.ext; simp only [row]; omega
  refine (read6 _ i r x).symm.trans ((congrFun (Value.blocks6 m c (pt i) (flush_all _)) (ix2 r x)).trans ?_)
  rw [Value.flushed6]
  refine (out_at (iblk m c 0 (pt i)) (iblk m c 1 (pt i)) (iblk m c 2 (pt i)) (iblk m c 3 (pt i)) (iblk m c 4 (pt i)) (iblk m c 5 (pt i)) r x).trans
    (Eq.trans ?_ (prod_at _ _ _ _ _ (row i r) x).symm)
  exact congrArg₂ (· + ·) (congrArg₂ (· * ·) (congrArg₂ sg (blk0 m c i r x) (blk4 m c i x)) (blk2 m c i r x))
    (congrArg₂ (· * ·) (congrArg₂ sg (blk1 m c i r x) (blk5 m c i x)) (blk3 m c i r x))

/-! ## The claims -/

theorem frame_kernel : Cert.quiescent_MergeFwd := fun m ρ _ => Cert.MergeFwd.Gen.frame m ρ
theorem frame_ideal : Cert.quiescent_MergeFwdIdeal := fun m ρ _ => Cert.MergeFwdIdeal.Gen.frame m ρ
theorem frame_reference : Cert.quiescent_MergeFwdReferenceIdeal := fun m ρ _ =>
  (θ_run Cert.MergeFwdReferenceIdeal.defs _ _).mono (fun r h => ⟨fun c => (h c).2, sem_eq_zero_of_no_sems (by decide) r.2⟩)
    (Cert.MergeFwdReferenceIdeal.Value.run (F := Ideal) m ρ)

theorem same : Cert.algebraic_MergeFwdIdeal_MergeFwdReferenceIdeal (hMergeFwdIdeal := Cert.MergeFwdIdeal.Gen.facts)
    (hMergeFwdReferenceIdeal := Cert.MergeFwdReferenceIdeal.Gen.facts) := by
  intro m g m' g' _ hm
  refine ⟨fun c => prod (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run Cert.MergeFwdIdeal.defs _ _).mono (fun r h c => ⟨(h c).1.trans (final m c), (h c).2⟩) (Value.run_blocks (F := Ideal) m g)
  · refine (θ_run Cert.MergeFwdReferenceIdeal.defs _ _).mono (fun r h c => ⟨(h c).1.trans ?_, (h c).2⟩)
      (Cert.MergeFwdReferenceIdeal.Value.run (F := Ideal) m' g')
    obtain ⟨e0, e1, e2, e3, e4⟩ := hm c
    exact prod_congr e0 e1 e2 e3 e4

end Cert.Row.MergeFwd

end
-- ==== Proof.MergeBwd.lean ====
/- The gradient of the merge of the two branches: each gate's and each branch's gradient, element by element, and the column sums of the gates' gradients for the two bias rows. -/
module

public import proofs.«01_k».proof.Proof.MergeFwd
public import proofs.«01_k».proof.Proof.Gen.MergeBwd.Frame
public import proofs.«01_k».proof.Proof.Gen.MergeBwdIdeal.Value
public import proofs.«01_k».proof.Proof.Gen.MergeBwdReferenceIdeal.Run

@[expose] public section

set_option maxRecDepth 16384

noncomputable section

namespace Cert.Row.MergeBwd

open Cert.MergeBwdIdeal Cert.MergeBwdIdeal.Gen Idealize.ShloMosaic Idealize.ShloMosaic.TcCoe Idealize.SL.Sem
open Cert.Row.MergeFwd (sg ones lgt lgt_at gate2 gate3 gate2_at gate3_at at2 at3)

/-- The constant one. -/
def one : EReal := (Scalar.ofBits .f32 0x3F800000#32 : Ideal .f32)
/-- A gate's gradient at an entry. -/
def toGate (z b y d : EReal) : EReal := d * y * (sg z b * (one - sg z b))
/-- A branch's gradient at an entry. -/
def toBranch (z b d : EReal) : EReal := sg z b * d
theorem gate_congr {z z' b b' y y' d d' : EReal} (ez : z = z') (eb : b = b') (ey : y = y') (ed : d = d') : toGate z b y d = toGate z' b' y' d' := by
  rw [ez, eb, ey, ed]
theorem branch_congr {z z' b b' d d' : EReal} (ez : z = z') (eb : b = b') (ed : d = d') : toBranch z b d = toBranch z' b' d' := by
  rw [ez, eb, ed]

/-! ## The reference's arrays, of one gate's columns `p` and its bias -/

/-- The output's gradient, as the reference reads it. -/
def grad (d : FVec Ideal S4096x1024 .f32) : FVec Ideal S4096x1024 .f32 :=
  shapeCast Cert.MergeBwdReferenceIdeal.S4096x1024 d Cert.MergeBwdReferenceIdeal.Facts₀.shapeCasts_S4096x1024_S4096x1024
/-- A gate's gradient before its cast. -/
def wide (p : FVec Ideal S4096x1024 .f32) (b : FVec Ideal S1x1024 .f32) (y d : FVec Ideal S4096x1024 .f32) : FVec Ideal S4096x1024 .f32 :=
  mulf (mulf (grad d) y) (mulf (lgt p b) (subf ones (lgt p b)))
def gates (p : FVec Ideal S4096x1024 .f32) (b : FVec Ideal S1x1024 .f32) (y d : FVec Ideal S4096x1024 .f32) : FVec Ideal S4096x1024 .bf16 :=
  truncf .bf16 (wide p b y d) Cert.MergeBwdReferenceIdeal.Facts₀.bitsLt_bf16_f32
def branches (p : FVec Ideal S4096x1024 .f32) (b : FVec Ideal S1x1024 .f32) (d : FVec Ideal S4096x1024 .f32) : FVec Ideal S4096x1024 .bf16 :=
  truncf .bf16 (mulf (lgt p b) (grad d)) Cert.MergeBwdReferenceIdeal.Facts₀.bitsLt_bf16_f32
/-- An array's column sums. -/
def cols (a : FVec Ideal S4096x1024 .f32) : FVec Ideal S1x1024 .f32 :=
  shapeCast Cert.MergeBwdReferenceIdeal.S1x1024 (Host.reduceAdd (F := Ideal) a (constant Cert.MergeBwdReferenceIdeal.S_ .f32 0x00000000#32)
    Cert.MergeBwdReferenceIdeal.Facts₀.reducesTo_S4096x1024_S1024_d0 Cert.MergeBwdReferenceIdeal.Facts₀.h_S_) Cert.MergeBwdReferenceIdeal.Facts₀.shapeCasts_S1024_S1x1024

theorem grad_at (d : FVec Ideal S4096x1024 .f32) (t : Fin 4096) (x : Fin 1024) : grad d (ix2 t x) = d (ix2 t x) := by
  pointwise [grad]
theorem wide_at (p : FVec Ideal S4096x1024 .f32) (b : FVec Ideal S1x1024 .f32) (y d : FVec Ideal S4096x1024 .f32) (t : Fin 4096) (x : Fin 1024) :
    wide p b y d (ix2 t x) = toGate (p (ix2 t x)) (b (ix2 0 x)) (y (ix2 t x)) (d (ix2 t x)) := by
  rw [toGate, ← lgt_at, ← grad_at d t x]; rfl
theorem branches_at (p : FVec Ideal S4096x1024 .f32) (b : FVec Ideal S1x1024 .f32) (d : FVec Ideal S4096x1024 .f32) (t : Fin 4096) (x : Fin 1024) :
    branches p b d (ix2 t x) = toBranch (p (ix2 t x)) (b (ix2 0 x)) (d (ix2 t x)) := by
  rw [toBranch, ← lgt_at, ← grad_at d t x]; rfl
theorem cols_at (a : FVec Ideal S4096x1024 .f32) (x : Fin 1024) : cols a (ix2 0 x) = ∑ t : Fin 4096, a (ix2 t x) := by
  pointwise [cols]

/-! ## A point's values -/

/-- A bias row repeated down a point's rows. -/
theorem row_at (b : FVec Ideal S1x1024 .f32) (r : Fin 256) (x : Fin 1024) :
    broadcastTo S256x1024 (shapeCast S1x1024 b Facts₀.shapeCasts_S1x1024_S1x1024) Facts₀.broadcasts_S1x1024_S256x1024 (ix2 r x) = b (ix2 0 x) := by
  pointwise []
theorem pay7_at (d : FVec Ideal S256x1024 .f32) (r : Fin 256) (x : Fin 1024) : k0_pay7 (F := Ideal) d (ix2 r x) = d (ix2 r x) := by
  pointwise [k0_pay7]
theorem pay5_at (z : FVec Ideal S256x1024 .f32) (b : FVec Ideal S1x1024 .f32) (r : Fin 256) (x : Fin 1024) :
    k0_pay5 (F := Ideal) z b (ix2 r x) = sg (z (ix2 r x)) (b (ix2 0 x)) := by
  rw [← row_at b r x]; rfl
theorem pay12_at (z y d : FVec Ideal S256x1024 .f32) (b : FVec Ideal S1x1024 .f32) (r : Fin 256) (x : Fin 1024) :
    k0_pay12 (F := Ideal) z y d b (ix2 r x) = toGate (z (ix2 r x)) (b (ix2 0 x)) (y (ix2 r x)) (d (ix2 r x)) := by
  rw [toGate, ← pay5_at, ← pay7_at d r x]; rfl
theorem pay11_at (z d : FVec Ideal S256x1024 .f32) (b : FVec Ideal S1x1024 .f32) (r : Fin 256) (x : Fin 1024) :
    k0_pay11 (F := Ideal) z d b (ix2 r x) = toBranch (z (ix2 r x)) (b (ix2 0 x)) (d (ix2 r x)) := by
  rw [toBranch, ← pay5_at, ← pay7_at d r x]; rfl
theorem pay13_at (z y d : FVec Ideal S256x1024 .f32) (b : FVec Ideal S1x1024 .f32) (x : Fin 1024) :
    k0_pay13 (F := Ideal) z y d b (ix2 0 x) = ∑ r : Fin 256, toGate (z (ix2 r x)) (b (ix2 0 x)) (y (ix2 r x)) (d (ix2 r x)) := by
  simp only [← pay12_at]
  pointwise [k0_pay13]
theorem pay3_at (v s : FVec Ideal S1x1024 .f32) (x : Fin 1024) : k0_pay3 (F := Ideal) v s (ix2 0 x) = s (ix2 0 x) + v (ix2 0 x) := by
  pointwise [k0_pay3]

/-! ## What the grid's points leave -/

variable (m : (ℓ : Loc nD τ sig) → Buf (Elt Ideal) ℓ) (c : Dev nD)

theorem outs_first (t : Fin cfg0.N) (h : t.val % 16 = 0) : outsAt0 m c t.val t.isLt =
    (k0_pay15 (iblk m c 0 t) (iblk m c 2 t) (iblk m c 4 t) (iblk m c 5 t),
      k0_pay16 (iblk m c 1 t) (iblk m c 3 t) (iblk m c 4 t) (iblk m c 6 t),
      k0_pay1 (k0_pay11 (iblk m c 0 t) (iblk m c 4 t) (iblk m c 5 t)), k0_pay2 (k0_pay9 (iblk m c 1 t) (iblk m c 4 t) (iblk m c 6 t)),
      k0_pay13 (iblk m c 0 t) (iblk m c 2 t) (iblk m c 4 t) (iblk m c 5 t),
      k0_pay14 (iblk m c 1 t) (iblk m c 3 t) (iblk m c 4 t) (iblk m c 6 t)) := by
  have hN : t.val < 16 := lt_of_lt_of_eq t.isLt N_0
  rw [outsAt0_A m c t h (by omega) h (by omega)]
  refine Prod.ext ?_ (Prod.ext ?_ (Prod.ext ?_ (Prod.ext ?_ (Prod.ext ?_ ?_))))
  · dsimp only
    unfold out0_A_7
    rw [View.read_writes_eq_canon _ _ _ fun _ => cover0_A_7 ..]
    unfold kernelRun0_A
    dsimp only
    rw [View.canon_unit_zero Product.zero_two]
    simp only [kernelRun0_A.sl.r, kernelRun0_A.sl.r_1, kernelRun0_A.sl.r_2, kernelRun0_A.sl.r_3, kernelRun0_A.sl.r_4, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S256x1024) Product.zero_two, View.ld_unit_zero (S := S1x1024) Product.zero_two]
  · dsimp only
    unfold out0_A_8
    rw [View.read_writes_eq_canon _ _ _ fun _ => cover0_A_8 ..]
    unfold kernelRun0_A
    dsimp only
    rw [View.canon_unit_zero Product.zero_two]
    simp only [kernelRun0_A.sl.r, kernelRun0_A.sl.r_1, kernelRun0_A.sl.r_2, kernelRun0_A.sl.r_3, kernelRun0_A.sl.r_4, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S256x1024) Product.zero_two, View.ld_unit_zero (S := S1x1024) Product.zero_two]
  · dsimp only
    unfold out0_A_9
    rw [View.read_writes_eq_canon _ _ _ fun _ => cover0_A_9 ..]
    unfold kernelRun0_A
    dsimp only
    rw [View.canon_unit_zero Product.zero_two]
    simp only [kernelRun0_A.sl.r, kernelRun0_A.sl.r_1, kernelRun0_A.sl.r_2, kernelRun0_A.sl.r_3, kernelRun0_A.sl.r_4, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S256x1024) Product.zero_two, View.ld_unit_zero (S := S1x1024) Product.zero_two]
  · dsimp only
    unfold out0_A_10
    rw [View.read_writes_eq_canon _ _ _ fun _ => cover0_A_10 ..]
    unfold kernelRun0_A
    dsimp only
    rw [View.canon_unit_zero Product.zero_two]
    simp only [kernelRun0_A.sl.r, kernelRun0_A.sl.r_1, kernelRun0_A.sl.r_2, kernelRun0_A.sl.r_3, kernelRun0_A.sl.r_4, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S256x1024) Product.zero_two, View.ld_unit_zero (S := S1x1024) Product.zero_two]
  · dsimp only
    unfold out0_A_11
    rw [View.read_writes_eq_canon _ _ _ fun _ => cover0_A_11 ..]
    unfold kernelRun0_A
    dsimp only
    rw [View.canon_unit_zero Product.zero_two]
    simp only [kernelRun0_A.sl.r, kernelRun0_A.sl.r_1, kernelRun0_A.sl.r_2, kernelRun0_A.sl.r_3, kernelRun0_A.sl.r_4, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S256x1024) Product.zero_two, View.ld_unit_zero (S := S1x1024) Product.zero_two]
  · dsimp only
    unfold out0_A_12
    rw [View.read_writes_eq_canon _ _ _ fun _ => cover0_A_12 ..]
    unfold kernelRun0_A
    dsimp only
    rw [View.canon_unit_zero Product.zero_two]
    simp only [kernelRun0_A.sl.r, kernelRun0_A.sl.r_1, kernelRun0_A.sl.r_2, kernelRun0_A.sl.r_3, kernelRun0_A.sl.r_4, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S256x1024) Product.zero_two, View.ld_unit_zero (S := S1x1024) Product.zero_two]
theorem outs_next (t : Fin cfg0.N) (h : ¬t.val % 16 = 0) : outsAt0 m c t.val t.isLt =
    (k0_pay15 (iblk m c 0 t) (iblk m c 2 t) (iblk m c 4 t) (iblk m c 5 t),
      k0_pay16 (iblk m c 1 t) (iblk m c 3 t) (iblk m c 4 t) (iblk m c 6 t),
      k0_pay1 (k0_pay11 (iblk m c 0 t) (iblk m c 4 t) (iblk m c 5 t)), k0_pay2 (k0_pay9 (iblk m c 1 t) (iblk m c 4 t) (iblk m c 6 t)),
      k0_pay3 (k0_pay13 (iblk m c 0 t) (iblk m c 2 t) (iblk m c 4 t) (iblk m c 5 t)) (outsAt0 m c (t.val - 1) (Nat.lt_of_le_of_lt (Nat.sub_le _ _) t.isLt)).2.2.2.2.1,
      k0_pay4 (k0_pay14 (iblk m c 1 t) (iblk m c 3 t) (iblk m c 4 t) (iblk m c 6 t)) (outsAt0 m c (t.val - 1) (Nat.lt_of_le_of_lt (Nat.sub_le _ _) t.isLt)).2.2.2.2.2) := by
  have hN : t.val < 16 := lt_of_lt_of_eq t.isLt N_0
  rw [outsAt0_B m c t h (by omega) h (by omega)]
  refine Prod.ext ?_ (Prod.ext ?_ (Prod.ext ?_ (Prod.ext ?_ (Prod.ext ?_ ?_))))
  · dsimp only
    unfold out0_B_7
    rw [View.read_writes_eq_canon _ _ _ fun _ => cover0_B_7 ..]
    unfold kernelRun0_B
    dsimp only
    rw [View.canon_unit_zero Product.zero_two]
    simp only [kernelRun0_B.sl.r, kernelRun0_B.sl.r_1, kernelRun0_B.sl.r_2, kernelRun0_B.sl.r_3, kernelRun0_B.sl.r_4, View.readAt_eq_ld, (hs0_0 t).read_unread, (hs0_1 t).read_unread, (hs0_2 t).read_unread, (hs0_3 t).read_unread, (hs0_4 t).read_unread, (hs0_5 t).read_unread, (hs0_6 t).read_unread, (hs0_11 t).read_unread, (hs0_12 t).read_unread, View.ld_unit_zero (S := S256x1024) Product.zero_two, View.ld_unit_zero (S := S1x1024) Product.zero_two]
  · dsimp only
    unfold out0_B_8
    rw [View.read_writes_eq_canon _ _ _ fun _ => cover0_B_8 ..]
    unfold kernelRun0_B
    dsimp only
    rw [View.canon_unit_zero Product.zero_two]
    simp only [kernelRun0_B.sl.r, kernelRun0_B.sl.r_1, kernelRun0_B.sl.r_2, kernelRun0_B.sl.r_3, kernelRun0_B.sl.r_4, View.readAt_eq_ld, (hs0_0 t).read_unread, (hs0_1 t).read_unread, (hs0_2 t).read_unread, (hs0_3 t).read_unread, (hs0_4 t).read_unread, (hs0_5 t).read_unread, (hs0_6 t).read_unread, (hs0_11 t).read_unread, (hs0_12 t).read_unread, View.ld_unit_zero (S := S256x1024) Product.zero_two, View.ld_unit_zero (S := S1x1024) Product.zero_two]
  · dsimp only
    unfold out0_B_9
    rw [View.read_writes_eq_canon _ _ _ fun _ => cover0_B_9 ..]
    unfold kernelRun0_B
    dsimp only
    rw [View.canon_unit_zero Product.zero_two]
    simp only [kernelRun0_B.sl.r, kernelRun0_B.sl.r_1, kernelRun0_B.sl.r_2, kernelRun0_B.sl.r_3, kernelRun0_B.sl.r_4, View.readAt_eq_ld, (hs0_0 t).read_unread, (hs0_1 t).read_unread, (hs0_2 t).read_unread, (hs0_3 t).read_unread, (hs0_4 t).read_unread, (hs0_5 t).read_unread, (hs0_6 t).read_unread, (hs0_11 t).read_unread, (hs0_12 t).read_unread, View.ld_unit_zero (S := S256x1024) Product.zero_two, View.ld_unit_zero (S := S1x1024) Product.zero_two]
  · dsimp only
    unfold out0_B_10
    rw [View.read_writes_eq_canon _ _ _ fun _ => cover0_B_10 ..]
    unfold kernelRun0_B
    dsimp only
    rw [View.canon_unit_zero Product.zero_two]
    simp only [kernelRun0_B.sl.r, kernelRun0_B.sl.r_1, kernelRun0_B.sl.r_2, kernelRun0_B.sl.r_3, kernelRun0_B.sl.r_4, View.readAt_eq_ld, (hs0_0 t).read_unread, (hs0_1 t).read_unread, (hs0_2 t).read_unread, (hs0_3 t).read_unread, (hs0_4 t).read_unread, (hs0_5 t).read_unread, (hs0_6 t).read_unread, (hs0_11 t).read_unread, (hs0_12 t).read_unread, View.ld_unit_zero (S := S256x1024) Product.zero_two, View.ld_unit_zero (S := S1x1024) Product.zero_two]
  · dsimp only
    unfold out0_B_11
    rw [View.read_writes_eq_canon _ _ _ fun _ => cover0_B_11 ..]
    unfold kernelRun0_B
    dsimp only
    rw [View.canon_unit_zero Product.zero_two]
    simp only [kernelRun0_B.sl.r, kernelRun0_B.sl.r_1, kernelRun0_B.sl.r_2, kernelRun0_B.sl.r_3, kernelRun0_B.sl.r_4, View.readAt_eq_ld, (hs0_0 t).read_unread, (hs0_1 t).read_unread, (hs0_2 t).read_unread, (hs0_3 t).read_unread, (hs0_4 t).read_unread, (hs0_5 t).read_unread, (hs0_6 t).read_unread, (hs0_11 t).read_unread, (hs0_12 t).read_unread, View.ld_unit_zero (S := S256x1024) Product.zero_two, View.ld_unit_zero (S := S1x1024) Product.zero_two]
  · dsimp only
    unfold out0_B_12
    rw [View.read_writes_eq_canon _ _ _ fun _ => cover0_B_12 ..]
    unfold kernelRun0_B
    dsimp only
    rw [View.canon_unit_zero Product.zero_two]
    simp only [kernelRun0_B.sl.r, kernelRun0_B.sl.r_1, kernelRun0_B.sl.r_2, kernelRun0_B.sl.r_3, kernelRun0_B.sl.r_4, View.readAt_eq_ld, (hs0_0 t).read_unread, (hs0_1 t).read_unread, (hs0_2 t).read_unread, (hs0_3 t).read_unread, (hs0_4 t).read_unread, (hs0_5 t).read_unread, (hs0_6 t).read_unread, (hs0_11 t).read_unread, (hs0_12 t).read_unread, View.ld_unit_zero (S := S256x1024) Product.zero_two, View.ld_unit_zero (S := S1x1024) Product.zero_two]
/-- The four blocks that every point leaves alike. -/
theorem outs_rows (t : Fin cfg0.N) : (outsAt0 m c t.val t.isLt).1 = k0_pay15 (iblk m c 0 t) (iblk m c 2 t) (iblk m c 4 t) (iblk m c 5 t)
    ∧ (outsAt0 m c t.val t.isLt).2.1 = k0_pay16 (iblk m c 1 t) (iblk m c 3 t) (iblk m c 4 t) (iblk m c 6 t)
    ∧ (outsAt0 m c t.val t.isLt).2.2.1 = k0_pay1 (k0_pay11 (iblk m c 0 t) (iblk m c 4 t) (iblk m c 5 t)) ∧ (outsAt0 m c t.val t.isLt).2.2.2.1 = k0_pay2 (k0_pay9 (iblk m c 1 t) (iblk m c 4 t) (iblk m c 6 t)) := by
  by_cases h : t.val % 16 = 0
  · rw [outs_first m c t h]; exact ⟨rfl, rfl, rfl, rfl⟩
  · rw [outs_next m c t h]; exact ⟨rfl, rfl, rfl, rfl⟩
theorem outs_congr (n n' : ℕ) (h : n < cfg0.N) (h' : n' < cfg0.N) (e : n = n') : outsAt0 m c n h = outsAt0 m c n' h' := by subst e; rfl

/-! ## The arrays after the run -/

/-- The point of block `i` of the rows. -/
def pt (i : Fin 16) : Fin cfg0.N := ⟨i.val, lt_of_lt_of_eq (by omega) N_0.symm⟩
/-- Row `r` of block `i`. -/
def row (i : Fin 16) (r : Fin 256) : Fin 4096 := ⟨i.val * 256 + r.val, by omega⟩

theorem idx : ∀ i : Fin 16, win0_0.index (pt i) = ![i.val, 2] ∧ win0_1.index (pt i) = ![i.val, 3] ∧ win0_2.index (pt i) = ![i.val, 0]
    ∧ win0_3.index (pt i) = ![i.val, 0] ∧ win0_4.index (pt i) = ![i.val, 0] ∧ win0_5.index (pt i) = ![0, 0] ∧ win0_6.index (pt i) = ![0, 0] := by
  decide +kernel
theorem idx_out : ∀ i : Fin 16, win0_7.index (pt i) = ![i.val, 0] ∧ win0_8.index (pt i) = ![i.val, 0] ∧ win0_9.index (pt i) = ![i.val, 0]
    ∧ win0_10.index (pt i) = ![i.val, 0] ∧ win0_11.index (pt i) = ![0, 0] ∧ win0_12.index (pt i) = ![0, 0] := by
  decide +kernel

theorem read0 (X : FVec Ideal S4096x4096 .f32) (i : Fin 16) (r : Fin 256) (x : Fin 1024) :
    ((cfg0.win 0).blk (pt i)).view.read (Elt Ideal) X (ix2 r x) = X (ix2 (row i r) (at2 x)) := by
  obtain ⟨e, -⟩ := idx i
  refine congrArg X (funext fun a => Fin.ext ?_)
  match a with
  | ⟨0, _⟩ => show win0_0.index (pt i) (0 : Fin 2) * 256 + 1 * r.val = i.val * 256 + r.val; rw [e]; simp
  | ⟨1, _⟩ => show win0_0.index (pt i) (1 : Fin 2) * 1024 + 1 * x.val = 2048 + x.val; rw [e]; simp
theorem read1 (X : FVec Ideal S4096x4096 .f32) (i : Fin 16) (r : Fin 256) (x : Fin 1024) :
    ((cfg0.win 1).blk (pt i)).view.read (Elt Ideal) X (ix2 r x) = X (ix2 (row i r) (at3 x)) := by
  obtain ⟨-, e, -⟩ := idx i
  refine congrArg X (funext fun a => Fin.ext ?_)
  match a with
  | ⟨0, _⟩ => show win0_1.index (pt i) (0 : Fin 2) * 256 + 1 * r.val = i.val * 256 + r.val; rw [e]; simp
  | ⟨1, _⟩ => show win0_1.index (pt i) (1 : Fin 2) * 1024 + 1 * x.val = 3072 + x.val; rw [e]; simp
theorem read2 (X : FVec Ideal S4096x1024 .f32) (i : Fin 16) (r : Fin 256) (x : Fin 1024) :
    ((cfg0.win 2).blk (pt i)).view.read (Elt Ideal) X (ix2 r x) = X (ix2 (row i r) x) := by
  obtain ⟨-, -, e, -⟩ := idx i
  refine congrArg X (funext fun a => Fin.ext ?_)
  match a with
  | ⟨0, _⟩ => show win0_2.index (pt i) (0 : Fin 2) * 256 + 1 * r.val = i.val * 256 + r.val; rw [e]; simp
  | ⟨1, _⟩ => show win0_2.index (pt i) (1 : Fin 2) * 1024 + 1 * x.val = x.val; rw [e]; simp
theorem read3 (X : FVec Ideal S4096x1024 .f32) (i : Fin 16) (r : Fin 256) (x : Fin 1024) :
    ((cfg0.win 3).blk (pt i)).view.read (Elt Ideal) X (ix2 r x) = X (ix2 (row i r) x) := by
  obtain ⟨-, -, -, e, -⟩ := idx i
  refine congrArg X (funext fun a => Fin.ext ?_)
  match a with
  | ⟨0, _⟩ => show win0_3.index (pt i) (0 : Fin 2) * 256 + 1 * r.val = i.val * 256 + r.val; rw [e]; simp
  | ⟨1, _⟩ => show win0_3.index (pt i) (1 : Fin 2) * 1024 + 1 * x.val = x.val; rw [e]; simp
theorem read4 (X : FVec Ideal S4096x1024 .f32) (i : Fin 16) (r : Fin 256) (x : Fin 1024) :
    ((cfg0.win 4).blk (pt i)).view.read (Elt Ideal) X (ix2 r x) = X (ix2 (row i r) x) := by
  obtain ⟨-, -, -, -, e, -⟩ := idx i
  refine congrArg X (funext fun a => Fin.ext ?_)
  match a with
  | ⟨0, _⟩ => show win0_4.index (pt i) (0 : Fin 2) * 256 + 1 * r.val = i.val * 256 + r.val; rw [e]; simp
  | ⟨1, _⟩ => show win0_4.index (pt i) (1 : Fin 2) * 1024 + 1 * x.val = x.val; rw [e]; simp
theorem read5 (X : FVec Ideal S1x1024 .f32) (i : Fin 16) (x : Fin 1024) :
    ((cfg0.win 5).blk (pt i)).view.read (Elt Ideal) X (ix2 0 x) = X (ix2 0 x) := by
  obtain ⟨-, -, -, -, -, e, -⟩ := idx i
  refine congrArg X (funext fun a => Fin.ext ?_)
  match a with
  | ⟨0, _⟩ => show win0_5.index (pt i) (0 : Fin 2) * 1 + 1 * 0 = 0; rw [e]; simp
  | ⟨1, _⟩ => show win0_5.index (pt i) (1 : Fin 2) * 1024 + 1 * x.val = x.val; rw [e]; simp
theorem read6 (X : FVec Ideal S1x1024 .f32) (i : Fin 16) (x : Fin 1024) :
    ((cfg0.win 6).blk (pt i)).view.read (Elt Ideal) X (ix2 0 x) = X (ix2 0 x) := by
  obtain ⟨-, -, -, -, -, -, e⟩ := idx i
  refine congrArg X (funext fun a => Fin.ext ?_)
  match a with
  | ⟨0, _⟩ => show win0_6.index (pt i) (0 : Fin 2) * 1 + 1 * 0 = 0; rw [e]; simp
  | ⟨1, _⟩ => show win0_6.index (pt i) (1 : Fin 2) * 1024 + 1 * x.val = x.val; rw [e]; simp
theorem read7 (X : FVec Ideal S4096x1024 .bf16) (i : Fin 16) (r : Fin 256) (x : Fin 1024) :
    ((cfg0.win 7).blk (pt i)).view.read (Elt Ideal) X (ix2 r x) = X (ix2 (row i r) x) := by
  obtain ⟨e, -⟩ := idx_out i
  refine congrArg X (funext fun a => Fin.ext ?_)
  match a with
  | ⟨0, _⟩ => show win0_7.index (pt i) (0 : Fin 2) * 256 + 1 * r.val = i.val * 256 + r.val; rw [e]; simp
  | ⟨1, _⟩ => show win0_7.index (pt i) (1 : Fin 2) * 1024 + 1 * x.val = x.val; rw [e]; simp
theorem read8 (X : FVec Ideal S4096x1024 .bf16) (i : Fin 16) (r : Fin 256) (x : Fin 1024) :
    ((cfg0.win 8).blk (pt i)).view.read (Elt Ideal) X (ix2 r x) = X (ix2 (row i r) x) := by
  obtain ⟨-, e, -⟩ := idx_out i
  refine congrArg X (funext fun a => Fin.ext ?_)
  match a with
  | ⟨0, _⟩ => show win0_8.index (pt i) (0 : Fin 2) * 256 + 1 * r.val = i.val * 256 + r.val; rw [e]; simp
  | ⟨1, _⟩ => show win0_8.index (pt i) (1 : Fin 2) * 1024 + 1 * x.val = x.val; rw [e]; simp
theorem read9 (X : FVec Ideal S4096x1024 .bf16) (i : Fin 16) (r : Fin 256) (x : Fin 1024) :
    ((cfg0.win 9).blk (pt i)).view.read (Elt Ideal) X (ix2 r x) = X (ix2 (row i r) x) := by
  obtain ⟨-, -, e, -⟩ := idx_out i
  refine congrArg X (funext fun a => Fin.ext ?_)
  match a with
  | ⟨0, _⟩ => show win0_9.index (pt i) (0 : Fin 2) * 256 + 1 * r.val = i.val * 256 + r.val; rw [e]; simp
  | ⟨1, _⟩ => show win0_9.index (pt i) (1 : Fin 2) * 1024 + 1 * x.val = x.val; rw [e]; simp
theorem read10 (X : FVec Ideal S4096x1024 .bf16) (i : Fin 16) (r : Fin 256) (x : Fin 1024) :
    ((cfg0.win 10).blk (pt i)).view.read (Elt Ideal) X (ix2 r x) = X (ix2 (row i r) x) := by
  obtain ⟨-, -, -, e, -⟩ := idx_out i
  refine congrArg X (funext fun a => Fin.ext ?_)
  match a with
  | ⟨0, _⟩ => show win0_10.index (pt i) (0 : Fin 2) * 256 + 1 * r.val = i.val * 256 + r.val; rw [e]; simp
  | ⟨1, _⟩ => show win0_10.index (pt i) (1 : Fin 2) * 1024 + 1 * x.val = x.val; rw [e]; simp
theorem emb11 (i : Fin 16) (x : Fin 1024) : ((cfg0.win 11).blk (pt i)).view.emb (ix2 0 x) = ix2 0 x := by
  obtain ⟨-, -, -, -, e, -⟩ := idx_out i
  refine funext fun a => Fin.ext ?_
  match a with
  | ⟨0, _⟩ => show win0_11.index (pt i) (0 : Fin 2) * 1 + 1 * 0 = 0; rw [e]; simp
  | ⟨1, _⟩ => show win0_11.index (pt i) (1 : Fin 2) * 1024 + 1 * x.val = x.val; rw [e]; simp
theorem emb12 (i : Fin 16) (x : Fin 1024) : ((cfg0.win 12).blk (pt i)).view.emb (ix2 0 x) = ix2 0 x := by
  obtain ⟨-, -, -, -, -, e⟩ := idx_out i
  refine funext fun a => Fin.ext ?_
  match a with
  | ⟨0, _⟩ => show win0_12.index (pt i) (0 : Fin 2) * 1 + 1 * 0 = 0; rw [e]; simp
  | ⟨1, _⟩ => show win0_12.index (pt i) (1 : Fin 2) * 1024 + 1 * x.val = x.val; rw [e]; simp

theorem blk0 (i : Fin 16) (r : Fin 256) (x : Fin 1024) : (iblk m c 0 (pt i) : FVec Ideal S256x1024 .f32) (ix2 r x)
    = gate2 (m ((c : Thread nD τ).loc main_arg0)) (ix2 (row i r) x) := by
  refine (read0 (V m c main_arg0) i r x).trans ?_
  rw [V_main_arg0, gate2_at]
theorem blk1 (i : Fin 16) (r : Fin 256) (x : Fin 1024) : (iblk m c 1 (pt i) : FVec Ideal S256x1024 .f32) (ix2 r x)
    = gate3 (m ((c : Thread nD τ).loc main_arg0)) (ix2 (row i r) x) := by
  refine (read1 (V m c main_arg0) i r x).trans ?_
  rw [V_main_arg0, gate3_at]
theorem blk2 (i : Fin 16) (r : Fin 256) (x : Fin 1024) : (iblk m c 2 (pt i) : FVec Ideal S256x1024 .f32) (ix2 r x)
    = (m ((c : Thread nD τ).loc main_arg1) : FVec Ideal S4096x1024 .f32) (ix2 (row i r) x) := by
  refine (read2 (V m c main_arg1) i r x).trans ?_
  rw [V_main_arg1]
theorem blk3 (i : Fin 16) (r : Fin 256) (x : Fin 1024) : (iblk m c 3 (pt i) : FVec Ideal S256x1024 .f32) (ix2 r x)
    = (m ((c : Thread nD τ).loc main_arg2) : FVec Ideal S4096x1024 .f32) (ix2 (row i r) x) := by
  refine (read3 (V m c main_arg2) i r x).trans ?_
  rw [V_main_arg2]
theorem blk4 (i : Fin 16) (r : Fin 256) (x : Fin 1024) : (iblk m c 4 (pt i) : FVec Ideal S256x1024 .f32) (ix2 r x)
    = (m ((c : Thread nD τ).loc main_arg5) : FVec Ideal S4096x1024 .f32) (ix2 (row i r) x) := by
  refine (read4 (V m c main_arg5) i r x).trans ?_
  rw [V_main_arg5]
theorem blk5 (i : Fin 16) (x : Fin 1024) : (iblk m c 5 (pt i) : FVec Ideal S1x1024 .f32) (ix2 0 x)
    = (m ((c : Thread nD τ).loc main_arg3) : FVec Ideal S1x1024 .f32) (ix2 0 x) := by
  refine (read5 (V m c main_arg3) i x).trans ?_
  rw [V_main_arg3]
theorem blk6 (i : Fin 16) (x : Fin 1024) : (iblk m c 6 (pt i) : FVec Ideal S1x1024 .f32) (ix2 0 x)
    = (m ((c : Thread nD τ).loc main_arg4) : FVec Ideal S1x1024 .f32) (ix2 0 x) := by
  refine (read6 (V m c main_arg4) i x).trans ?_
  rw [V_main_arg4]

theorem io_surj (y : S4096x1024.Idx) : ∃ i r x, y = ix2 (row i r) x := by
  idx_vars y
  refine ⟨⟨y0.val / 256, by omega⟩, ⟨y0.val % 256, by omega⟩, y1, ?_⟩
  congr 1; apply Fin.ext; simp only [row]; omega
theorem final7 : (dats m 0 c).arrAt 7 cfg0.N = gates (gate2 (m ((c : Thread nD τ).loc main_arg0))) (m ((c : Thread nD τ).loc main_arg3)) (m ((c : Thread nD τ).loc main_arg1)) (m ((c : Thread nD τ).loc main_arg5)) := by
  funext y
  obtain ⟨i, r, x, rfl⟩ := io_surj y
  refine (read7 _ i r x).symm.trans ((congrFun (Value.blocks7 m c (pt i) (flush0_7 _)) (ix2 r x)).trans ?_)
  rw [Value.flushed7]
  refine (congrFun (outs_rows m c (pt i)).1 (ix2 r x)).trans ((pay12_at (iblk m c 0 (pt i)) (iblk m c 2 (pt i)) (iblk m c 4 (pt i)) (iblk m c 5 (pt i)) r x).trans (Eq.trans ?_ (wide_at _ _ _ _ (row i r) x).symm))
  exact gate_congr (blk0 m c i r x) (blk5 m c i x) (blk2 m c i r x) (blk4 m c i r x)
theorem final8 : (dats m 0 c).arrAt 8 cfg0.N = gates (gate3 (m ((c : Thread nD τ).loc main_arg0))) (m ((c : Thread nD τ).loc main_arg4)) (m ((c : Thread nD τ).loc main_arg2)) (m ((c : Thread nD τ).loc main_arg5)) := by
  funext y
  obtain ⟨i, r, x, rfl⟩ := io_surj y
  refine (read8 _ i r x).symm.trans ((congrFun (Value.blocks8 m c (pt i) (flush0_8 _)) (ix2 r x)).trans ?_)
  rw [Value.flushed8]
  refine (congrFun (outs_rows m c (pt i)).2.1 (ix2 r x)).trans ((pay12_at (iblk m c 1 (pt i)) (iblk m c 3 (pt i)) (iblk m c 4 (pt i)) (iblk m c 6 (pt i)) r x).trans (Eq.trans ?_ (wide_at _ _ _ _ (row i r) x).symm))
  exact gate_congr (blk1 m c i r x) (blk6 m c i x) (blk3 m c i r x) (blk4 m c i r x)
theorem final9 : (dats m 0 c).arrAt 9 cfg0.N = branches (gate2 (m ((c : Thread nD τ).loc main_arg0))) (m ((c : Thread nD τ).loc main_arg3)) (m ((c : Thread nD τ).loc main_arg5)) := by
  funext y
  obtain ⟨i, r, x, rfl⟩ := io_surj y
  refine (read9 _ i r x).symm.trans ((congrFun (Value.blocks9 m c (pt i) (flush0_9 _)) (ix2 r x)).trans ?_)
  rw [Value.flushed9]
  refine (congrFun (outs_rows m c (pt i)).2.2.1 (ix2 r x)).trans ((pay11_at (iblk m c 0 (pt i)) (iblk m c 4 (pt i)) (iblk m c 5 (pt i)) r x).trans (Eq.trans ?_ (branches_at _ _ _ (row i r) x).symm))
  exact branch_congr (blk0 m c i r x) (blk5 m c i x) (blk4 m c i r x)
theorem final10 : (dats m 0 c).arrAt 10 cfg0.N = branches (gate3 (m ((c : Thread nD τ).loc main_arg0))) (m ((c : Thread nD τ).loc main_arg4)) (m ((c : Thread nD τ).loc main_arg5)) := by
  funext y
  obtain ⟨i, r, x, rfl⟩ := io_surj y
  refine (read10 _ i r x).symm.trans ((congrFun (Value.blocks10 m c (pt i) (flush0_10 _)) (ix2 r x)).trans ?_)
  rw [Value.flushed10]
  refine (congrFun (outs_rows m c (pt i)).2.2.2 (ix2 r x)).trans ((pay11_at (iblk m c 1 (pt i)) (iblk m c 4 (pt i)) (iblk m c 6 (pt i)) r x).trans (Eq.trans ?_ (branches_at _ _ _ (row i r) x).symm))
  exact branch_congr (blk1 m c i r x) (blk6 m c i x) (blk4 m c i r x)
theorem row_surj (y : S1x1024.Idx) : ∃ x, y = ix2 0 x := by
  idx_vars y
  refine ⟨y1, ?_⟩
  congr 1; omega
theorem part11 (j : Fin 16) (x : Fin 1024) : k0_pay13 (iblk m c 0 (pt j)) (iblk m c 2 (pt j)) (iblk m c 4 (pt j)) (iblk m c 5 (pt j)) (ix2 0 x)
    = ∑ r : Fin 256, wide (gate2 (m ((c : Thread nD τ).loc main_arg0))) (m ((c : Thread nD τ).loc main_arg3)) (m ((c : Thread nD τ).loc main_arg1)) (m ((c : Thread nD τ).loc main_arg5)) (ix2 (row j r) x) :=
  (pay13_at (iblk m c 0 (pt j)) (iblk m c 2 (pt j)) (iblk m c 4 (pt j)) (iblk m c 5 (pt j)) x).trans (Finset.sum_congr rfl fun r _ => (
    gate_congr (blk0 m c j r x) (blk5 m c j x) (blk2 m c j r x) (blk4 m c j r x)).trans (wide_at _ _ _ _ (row j r) x).symm)
/-- The last point leaves the reference's column sums. -/
theorem last11 (x : Fin 1024) : (outsAt0 m c (pt 15).val (pt 15).isLt).2.2.2.2.1 (ix2 0 x) = cols (wide (gate2 (m ((c : Thread nD τ).loc main_arg0))) (m ((c : Thread nD τ).loc main_arg3)) (m ((c : Thread nD τ).loc main_arg1)) (m ((c : Thread nD τ).loc main_arg5))) (ix2 0 x) := by
  have e := Product.acc_run 0 (n := 15) (fun j => ∑ r : Fin 256, wide (gate2 (m ((c : Thread nD τ).loc main_arg0))) (m ((c : Thread nD τ).loc main_arg3)) (m ((c : Thread nD τ).loc main_arg1)) (m ((c : Thread nD τ).loc main_arg5)) (ix2 (row j r) x))
    (fun j => (outsAt0 m c (pt j).val (pt j).isLt).2.2.2.2.1 (ix2 0 x)) ?_ fun j => ?_
  · exact e.trans ((add_zero _).trans ((Product.sum_run 16 256 fun t => wide (gate2 (m ((c : Thread nD τ).loc main_arg0))) (m ((c : Thread nD τ).loc main_arg3)) (m ((c : Thread nD τ).loc main_arg1)) (m ((c : Thread nD τ).loc main_arg5)) (ix2 t x)).symm.trans (cols_at _ x).symm))
  · exact (congrArg (fun o => o.2.2.2.2.1 (ix2 0 x)) (outs_first m c (pt 0) rfl)).trans ((part11 m c 0 x).trans (add_zero _).symm)
  · refine (congrArg (fun o => o.2.2.2.2.1 (ix2 0 x)) (outs_next m c (pt j.succ) (by show ¬(j.val + 1) % 16 = 0; omega))).trans ((pay3_at _ _ x).trans ?_)
    exact congrArg₂ (fun o s => o.2.2.2.2.1 (ix2 0 x) + s) (outs_congr m c _ _ _ _ rfl) (part11 m c j.succ x)
theorem final11 : (dats m 0 c).arrAt 11 cfg0.N = cols (wide (gate2 (m ((c : Thread nD τ).loc main_arg0))) (m ((c : Thread nD τ).loc main_arg3)) (m ((c : Thread nD τ).loc main_arg1)) (m ((c : Thread nD τ).loc main_arg5))) := by
  refine (dats m 0 c).arrAt_eq_of_cover 11 _ (fun t hf => ?_) fun y => ?_
  · have h15 := (flush0_11 t).mp hf
    have hN : t.val < 16 := lt_of_lt_of_eq t.isLt N_0
    obtain rfl : t = pt 15 := Fin.ext (by show t.val = 15; omega)
    rw [Value.flushed11]
    funext y
    obtain ⟨x, rfl⟩ := row_surj y
    exact (last11 m c x).trans (congrArg (cols _) (emb11 15 x).symm)
  · obtain ⟨x, rfl⟩ := row_surj y
    exact ⟨pt 15, (flush0_11 _).mpr rfl, emb11 15 x ▸ View.emb_mem_set _ _⟩
theorem part12 (j : Fin 16) (x : Fin 1024) : k0_pay13 (iblk m c 1 (pt j)) (iblk m c 3 (pt j)) (iblk m c 4 (pt j)) (iblk m c 6 (pt j)) (ix2 0 x)
    = ∑ r : Fin 256, wide (gate3 (m ((c : Thread nD τ).loc main_arg0))) (m ((c : Thread nD τ).loc main_arg4)) (m ((c : Thread nD τ).loc main_arg2)) (m ((c : Thread nD τ).loc main_arg5)) (ix2 (row j r) x) :=
  (pay13_at (iblk m c 1 (pt j)) (iblk m c 3 (pt j)) (iblk m c 4 (pt j)) (iblk m c 6 (pt j)) x).trans (Finset.sum_congr rfl fun r _ => (
    gate_congr (blk1 m c j r x) (blk6 m c j x) (blk3 m c j r x) (blk4 m c j r x)).trans (wide_at _ _ _ _ (row j r) x).symm)
/-- The last point leaves the reference's column sums. -/
theorem last12 (x : Fin 1024) : (outsAt0 m c (pt 15).val (pt 15).isLt).2.2.2.2.2 (ix2 0 x) = cols (wide (gate3 (m ((c : Thread nD τ).loc main_arg0))) (m ((c : Thread nD τ).loc main_arg4)) (m ((c : Thread nD τ).loc main_arg2)) (m ((c : Thread nD τ).loc main_arg5))) (ix2 0 x) := by
  have e := Product.acc_run 0 (n := 15) (fun j => ∑ r : Fin 256, wide (gate3 (m ((c : Thread nD τ).loc main_arg0))) (m ((c : Thread nD τ).loc main_arg4)) (m ((c : Thread nD τ).loc main_arg2)) (m ((c : Thread nD τ).loc main_arg5)) (ix2 (row j r) x))
    (fun j => (outsAt0 m c (pt j).val (pt j).isLt).2.2.2.2.2 (ix2 0 x)) ?_ fun j => ?_
  · exact e.trans ((add_zero _).trans ((Product.sum_run 16 256 fun t => wide (gate3 (m ((c : Thread nD τ).loc main_arg0))) (m ((c : Thread nD τ).loc main_arg4)) (m ((c : Thread nD τ).loc main_arg2)) (m ((c : Thread nD τ).loc main_arg5)) (ix2 t x)).symm.trans (cols_at _ x).symm))
  · exact (congrArg (fun o => o.2.2.2.2.2 (ix2 0 x)) (outs_first m c (pt 0) rfl)).trans ((part12 m c 0 x).trans (add_zero _).symm)
  · refine (congrArg (fun o => o.2.2.2.2.2 (ix2 0 x)) (outs_next m c (pt j.succ) (by show ¬(j.val + 1) % 16 = 0; omega))).trans ((pay3_at _ _ x).trans ?_)
    exact congrArg₂ (fun o s => o.2.2.2.2.2 (ix2 0 x) + s) (outs_congr m c _ _ _ _ rfl) (part12 m c j.succ x)
theorem final12 : (dats m 0 c).arrAt 12 cfg0.N = cols (wide (gate3 (m ((c : Thread nD τ).loc main_arg0))) (m ((c : Thread nD τ).loc main_arg4)) (m ((c : Thread nD τ).loc main_arg2)) (m ((c : Thread nD τ).loc main_arg5))) := by
  refine (dats m 0 c).arrAt_eq_of_cover 12 _ (fun t hf => ?_) fun y => ?_
  · have h15 := (flush0_12 t).mp hf
    have hN : t.val < 16 := lt_of_lt_of_eq t.isLt N_0
    obtain rfl : t = pt 15 := Fin.ext (by show t.val = 15; omega)
    rw [Value.flushed12]
    funext y
    obtain ⟨x, rfl⟩ := row_surj y
    exact (last12 m c x).trans (congrArg (cols _) (emb12 15 x).symm)
  · obtain ⟨x, rfl⟩ := row_surj y
    exact ⟨pt 15, (flush0_12 _).mpr rfl, emb12 15 x ▸ View.emb_mem_set _ _⟩

theorem gates_congr {z z' : FVec Ideal S4096x1024 .f32} {b b' : FVec Ideal S1x1024 .f32} {y y' d d' : FVec Ideal S4096x1024 .f32}
    (ez : z = z') (eb : b = b') (ey : y = y') (ed : d = d') : wide z b y d = wide z' b' y' d' := by subst ez eb ey ed; rfl
theorem branches_congr {z z' : FVec Ideal S4096x1024 .f32} {b b' : FVec Ideal S1x1024 .f32} {d d' : FVec Ideal S4096x1024 .f32}
    (ez : z = z') (eb : b = b') (ed : d = d') : branches z b d = branches z' b' d' := by subst ez eb ed; rfl
/-- A gate's gradient after its cast. -/
def cast (w : FVec Ideal S4096x1024 .f32) : FVec Ideal S4096x1024 .bf16 := truncf .bf16 w Cert.MergeBwdReferenceIdeal.Facts₀.bitsLt_bf16_f32

/-! ## The claims -/

theorem frame_kernel : Cert.quiescent_MergeBwd := fun m ρ _ => Cert.MergeBwd.Gen.frame m ρ
theorem frame_ideal : Cert.quiescent_MergeBwdIdeal := fun m ρ _ => Cert.MergeBwdIdeal.Gen.frame m ρ
theorem frame_reference : Cert.quiescent_MergeBwdReferenceIdeal := fun m ρ _ =>
  (θ_run Cert.MergeBwdReferenceIdeal.defs _ _).mono (fun r h => ⟨fun c => (h c).2.2.2.2.2.2, sem_eq_zero_of_no_sems (by decide) r.2⟩)
    (Cert.MergeBwdReferenceIdeal.Value.run (F := Ideal) m ρ)

theorem same : Cert.algebraic_MergeBwdIdeal_MergeBwdReferenceIdeal (hMergeBwdIdeal := Cert.MergeBwdIdeal.Gen.facts)
    (hMergeBwdReferenceIdeal := Cert.MergeBwdReferenceIdeal.Gen.facts) := by
  intro m g m' g' _ hm
  refine ⟨fun c => gates (gate2 (m ((c : Thread nD τ).loc main_arg0))) (m ((c : Thread nD τ).loc main_arg3)) (m ((c : Thread nD τ).loc main_arg1)) (m ((c : Thread nD τ).loc main_arg5)), fun c => gates (gate3 (m ((c : Thread nD τ).loc main_arg0))) (m ((c : Thread nD τ).loc main_arg4)) (m ((c : Thread nD τ).loc main_arg2)) (m ((c : Thread nD τ).loc main_arg5)), fun c => branches (gate2 (m ((c : Thread nD τ).loc main_arg0))) (m ((c : Thread nD τ).loc main_arg3)) (m ((c : Thread nD τ).loc main_arg5)), fun c => branches (gate3 (m ((c : Thread nD τ).loc main_arg0))) (m ((c : Thread nD τ).loc main_arg4)) (m ((c : Thread nD τ).loc main_arg5)), fun c => cols (wide (gate2 (m ((c : Thread nD τ).loc main_arg0))) (m ((c : Thread nD τ).loc main_arg3)) (m ((c : Thread nD τ).loc main_arg1)) (m ((c : Thread nD τ).loc main_arg5))), fun c => cols (wide (gate3 (m ((c : Thread nD τ).loc main_arg0))) (m ((c : Thread nD τ).loc main_arg4)) (m ((c : Thread nD τ).loc main_arg2)) (m ((c : Thread nD τ).loc main_arg5))), ?_, ?_⟩
  · exact (θ_run Cert.MergeBwdIdeal.defs _ _).mono (fun r h c => ⟨(h c).1.trans (final7 m c), (h c).2.1.trans (final8 m c), (h c).2.2.1.trans (final9 m c), (h c).2.2.2.1.trans (final10 m c), (h c).2.2.2.2.1.trans (final11 m c), (h c).2.2.2.2.2.1.trans (final12 m c), (h c).2.2.2.2.2.2⟩)
      (Value.run_blocks (F := Ideal) m g)
  · refine (θ_run Cert.MergeBwdReferenceIdeal.defs _ _).mono (fun r h c => ?_) (Cert.MergeBwdReferenceIdeal.Value.run (F := Ideal) m' g')
    obtain ⟨e0, e1, e2, e3, e4, e5⟩ := hm c
    have wa := gates_congr (congrArg gate2 e0) e3 e1 e5
    have wb := gates_congr (congrArg gate3 e0) e4 e2 e5
    exact ⟨(h c).1.trans (congrArg cast wa), (h c).2.1.trans (congrArg cast wb),
      (h c).2.2.1.trans (branches_congr (congrArg gate2 e0) e3 e5), (h c).2.2.2.1.trans (branches_congr (congrArg gate3 e0) e4 e5),
      (h c).2.2.2.2.1.trans (congrArg cols wa), (h c).2.2.2.2.2.1.trans (congrArg cols wb), (h c).2.2.2.2.2.2⟩

end Cert.Row.MergeBwd

end
-- ==== Proof.RnnOutFwd.lean ====
/- The recurrent branch's output: the scanned state times the gated unit of the gate branch, element by element. -/
module

public import proofs.«01_k».proof.Defs
public import proofs.«01_k».proof.Proof.Product
public import proofs.«01_k».proof.Proof.Gen.RnnOutFwd.Frame
public import proofs.«01_k».proof.Proof.Gen.RnnOutFwdIdeal.Value
public import proofs.«01_k».proof.Proof.Gen.RnnOutFwdReferenceIdeal.Run

@[expose] public section

set_option maxRecDepth 16384

noncomputable section

namespace Cert.Row.RnnOutFwd

open Cert.RnnOutFwdIdeal Cert.RnnOutFwdIdeal.Gen Idealize.ShloMosaic Idealize.ShloMosaic.TcCoe Idealize.SL.Sem

/-- A constant of the texts. -/
def k (b : BitVec 32) : EReal := (Scalar.ofBits .f32 b : Ideal .f32)
/-- The hyperbolic tangent inside the gated unit. -/
def th (y : EReal) : EReal := Ideal.tanh (k 0x3F4C422A#32 * (y + k 0x3D372713#32 * (y * (y * y))))
/-- The factor of `y` in the gated unit. -/
def half (y : EReal) : EReal := k 0x3F000000#32 * (k 0x3F800000#32 + th y)

/-- The gate branch's columns of the projection. -/
def part (z : FVec Ideal S4096x4096 .f32) : FVec Ideal S4096x1024 .f32 :=
  extractStridedSlice Cert.RnnOutFwdReferenceIdeal.S4096x1024 ![0, 1024] z Cert.RnnOutFwdReferenceIdeal.Facts₀.slices_S4096x4096_S4096x1024_0_1024
/-- The reference's array. -/
def prod (h : FVec Ideal S4096x1024 .f32) (z : FVec Ideal S4096x4096 .f32) : FVec Ideal S4096x1024 .bf16 :=
  truncf .bf16 (mulf h (mulf (part z) (mulf (broadcastInDim Cert.RnnOutFwdReferenceIdeal.S4096x1024 ![] Cert.RnnOutFwdReferenceIdeal.Facts₀.bcast_S_S4096x1024 (constant Cert.RnnOutFwdReferenceIdeal.S_ .f32 0x3F000000#32)) (addf (broadcastInDim Cert.RnnOutFwdReferenceIdeal.S4096x1024 ![] Cert.RnnOutFwdReferenceIdeal.Facts₀.bcast_S_S4096x1024 (constant Cert.RnnOutFwdReferenceIdeal.S_ .f32 0x3F800000#32)) (Host.tanh (mulf (broadcastInDim Cert.RnnOutFwdReferenceIdeal.S4096x1024 ![] Cert.RnnOutFwdReferenceIdeal.Facts₀.bcast_S_S4096x1024 (constant Cert.RnnOutFwdReferenceIdeal.S_ .f32 0x3F4C422A#32)) (addf (part z) (mulf (broadcastInDim Cert.RnnOutFwdReferenceIdeal.S4096x1024 ![] Cert.RnnOutFwdReferenceIdeal.Facts₀.bcast_S_S4096x1024 (constant Cert.RnnOutFwdReferenceIdeal.S_ .f32 0x3D372713#32)) (mulf (mulf (part z) (part z)) (part z)))))))))) Cert.RnnOutFwdReferenceIdeal.Facts₀.bitsLt_bf16_f32

/-- A column of the gate branch, in the projection. -/
def at1 (x : Fin 1024) : Fin 4096 := ⟨1024 + x.val, by omega⟩

theorem part_at (z : FVec Ideal S4096x4096 .f32) (t : Fin 4096) (x : Fin 1024) : part z (ix2 t x) = z (ix2 t (at1 x)) := by
  pointwise [part, at1]
theorem prod_at (h : FVec Ideal S4096x1024 .f32) (z : FVec Ideal S4096x4096 .f32) (t : Fin 4096) (x : Fin 1024) :
    prod h z (ix2 t x) = h (ix2 t x) * (z (ix2 t (at1 x)) * half (z (ix2 t (at1 x)))) := by
  rw [← part_at z t x, half, th, mul_comm (part z (ix2 t x)) (part z (ix2 t x) * part z (ix2 t x))]
  rfl

/-- A point's block of the result. -/
theorem out_at (a b : FVec Ideal S512x1024 .f32) (r : Fin 512) (x : Fin 1024) :
    out0_2 (F := Ideal) a b (ix2 r x) = a (ix2 r x) * (b (ix2 r x) * half (b (ix2 r x))) := by
  unfold out0_2
  rw [View.canon_unit_zero Product.zero_two]
  simp only [View.ld_unit_zero (S := S512x1024) Product.zero_two]
  rfl

/-! ## The array after the run -/

variable (m : (ℓ : Loc nD τ sig) → Buf (Elt Ideal) ℓ) (c : Dev nD)

/-- The point of block `i` of the rows. -/
def pt (i : Fin 8) : Fin cfg0.N := ⟨i.val, lt_of_lt_of_eq (by omega) N_0.symm⟩
/-- Row `r` of block `i`. -/
def row (i : Fin 8) (r : Fin 512) : Fin 4096 := ⟨i.val * 512 + r.val, by omega⟩

theorem idx : ∀ i : Fin 8, win0_0.index (pt i) = ![i.val, 0] ∧ win0_1.index (pt i) = ![i.val, 1]
    ∧ win0_2.index (pt i) = ![i.val, 0] := by decide +kernel
theorem flush_all : ∀ t : Fin cfg0.N, (cfg0.win 2).flush t = true := (by decide +kernel : ∀ t : Fin grid0.N, _)

theorem read0 (X : FVec Ideal S4096x1024 .f32) (i : Fin 8) (r : Fin 512) (x : Fin 1024) :
    ((cfg0.win 0).blk (pt i)).view.read (Elt Ideal) X (ix2 r x) = X (ix2 (row i r) x) := by
  obtain ⟨e, -⟩ := idx i
  refine congrArg X (funext fun a => Fin.ext ?_)
  match a with
  | ⟨0, _⟩ => show win0_0.index (pt i) (0 : Fin 2) * 512 + 1 * r.val = i.val * 512 + r.val; rw [e]; simp
  | ⟨1, _⟩ => show win0_0.index (pt i) (1 : Fin 2) * 1024 + 1 * x.val = x.val; rw [e]; simp
theorem read1 (X : FVec Ideal S4096x4096 .f32) (i : Fin 8) (r : Fin 512) (x : Fin 1024) :
    ((cfg0.win 1).blk (pt i)).view.read (Elt Ideal) X (ix2 r x) = X (ix2 (row i r) (at1 x)) := by
  obtain ⟨-, e, -⟩ := idx i
  refine congrArg X (funext fun a => Fin.ext ?_)
  match a with
  | ⟨0, _⟩ => show win0_1.index (pt i) (0 : Fin 2) * 512 + 1 * r.val = i.val * 512 + r.val; rw [e]; simp
  | ⟨1, _⟩ => show win0_1.index (pt i) (1 : Fin 2) * 1024 + 1 * x.val = 1024 + x.val; rw [e]; simp
theorem read2 (X : FVec Ideal S4096x1024 .bf16) (i : Fin 8) (r : Fin 512) (x : Fin 1024) :
    ((cfg0.win 2).blk (pt i)).view.read (Elt Ideal) X (ix2 r x) = X (ix2 (row i r) x) := by
  obtain ⟨-, -, e⟩ := idx i
  refine congrArg X (funext fun a => Fin.ext ?_)
  match a with
  | ⟨0, _⟩ => show win0_2.index (pt i) (0 : Fin 2) * 512 + 1 * r.val = i.val * 512 + r.val; rw [e]; simp
  | ⟨1, _⟩ => show win0_2.index (pt i) (1 : Fin 2) * 1024 + 1 * x.val = x.val; rw [e]; simp

theorem state_block (i : Fin 8) (r : Fin 512) (x : Fin 1024) : (iblk m c 0 (pt i) : FVec Ideal S512x1024 .f32) (ix2 r x)
    = (m ((c : Thread nD τ).loc main_arg0) : FVec Ideal S4096x1024 .f32) (ix2 (row i r) x) := by
  refine (read0 (V m c main_arg0) i r x).trans ?_
  rw [V_main_arg0]
theorem gate_block (i : Fin 8) (r : Fin 512) (x : Fin 1024) : (iblk m c 1 (pt i) : FVec Ideal S512x1024 .f32) (ix2 r x)
    = (m ((c : Thread nD τ).loc main_arg1) : FVec Ideal S4096x4096 .f32) (ix2 (row i r) (at1 x)) := by
  refine (read1 (V m c main_arg1) i r x).trans ?_
  rw [V_main_arg1]

theorem final : (dats m 0 c).arrAt 2 cfg0.N = prod (m ((c : Thread nD τ).loc main_arg0)) (m ((c : Thread nD τ).loc main_arg1)) := by
  funext y
  obtain ⟨i, r, x, rfl⟩ : ∃ i r x, y = ix2 (row i r) x := by
    idx_vars y
    refine ⟨⟨y0.val / 512, by omega⟩, ⟨y0.val % 512, by omega⟩, y1, ?_⟩
    congr 1; apply Fin.ext; simp only [row]; omega
  refine (read2 _ i r x).symm.trans ((congrFun (Value.blocks2 m c (pt i) (flush_all _)) (ix2 r x)).trans ?_)
  rw [Value.flushed2]
  refine (out_at (iblk m c 0 (pt i)) (iblk m c 1 (pt i)) r x).trans (Eq.trans ?_ (prod_at _ _ (row i r) x).symm)
  exact congrArg₂ (fun s y => s * (y * half y)) (state_block m c i r x) (gate_block m c i r x)

/-! ## The claims -/

theorem frame_kernel : Cert.quiescent_RnnOutFwd := fun m ρ _ => Cert.RnnOutFwd.Gen.frame m ρ
theorem frame_ideal : Cert.quiescent_RnnOutFwdIdeal := fun m ρ _ => Cert.RnnOutFwdIdeal.Gen.frame m ρ
theorem frame_reference : Cert.quiescent_RnnOutFwdReferenceIdeal := fun m ρ _ =>
  (θ_run Cert.RnnOutFwdReferenceIdeal.defs _ _).mono (fun r h => ⟨fun c => (h c).2, sem_eq_zero_of_no_sems (by decide) r.2⟩)
    (Cert.RnnOutFwdReferenceIdeal.Value.run (F := Ideal) m ρ)

theorem same : Cert.algebraic_RnnOutFwdIdeal_RnnOutFwdReferenceIdeal (hRnnOutFwdIdeal := Cert.RnnOutFwdIdeal.Gen.facts)
    (hRnnOutFwdReferenceIdeal := Cert.RnnOutFwdReferenceIdeal.Gen.facts) := by
  intro m g m' g' _ hm
  refine ⟨fun c => prod (m ((c : Thread nD τ).loc main_arg0)) (m ((c : Thread nD τ).loc main_arg1)), ?_, ?_⟩
  · exact (θ_run Cert.RnnOutFwdIdeal.defs _ _).mono (fun r h c => ⟨(h c).1.trans (final m c), (h c).2⟩) (Value.run_blocks (F := Ideal) m g)
  · exact (θ_run Cert.RnnOutFwdReferenceIdeal.defs _ _).mono (fun r h c => ⟨(h c).1.trans (congrArg₂ prod (hm c).1 (hm c).2), (h c).2⟩)
      (Cert.RnnOutFwdReferenceIdeal.Value.run (F := Ideal) m' g')

end Cert.Row.RnnOutFwd

end
-- ==== Proof.RnnOutBwd.lean ====
/- The gradients of the recurrent branch's output, by the scanned state and by the gate branch, element by element. -/
module

public import proofs.«01_k».proof.Defs
public import proofs.«01_k».proof.Proof.RnnOutFwd
public import proofs.«01_k».proof.Proof.Gen.RnnOutBwd.Frame
public import proofs.«01_k».proof.Proof.Gen.RnnOutBwdIdeal.Value
public import proofs.«01_k».proof.Proof.Gen.RnnOutBwdReferenceIdeal.Run

@[expose] public section

set_option maxRecDepth 16384

noncomputable section

namespace Cert.Row.RnnOutBwd

open Cert.RnnOutBwdIdeal Cert.RnnOutBwdIdeal.Gen Idealize.ShloMosaic Idealize.ShloMosaic.TcCoe Idealize.SL.Sem
open Cert.Row.RnnOutFwd (k th half at1)

/-- The part of the gate's gradient that comes through the hyperbolic tangent. -/
def inner (h y d : EReal) : EReal :=
  k 0x3F4C422A#32 * (k 0x3F000000#32 * (y * (h * d)) * ((k 0x3F800000#32 + th y) * (k 0x3F800000#32 - th y)))
/-- The gate's gradient: from the state `h`, the gate `y` and the output's gradient `d`. -/
def toGate (h y d : EReal) : EReal :=
  h * d * half y + inner h y d + k 0x3D372713#32 * inner h y d * (k 0x40400000#32 * (y * y))
/-- The state's gradient. -/
def toState (y d : EReal) : EReal := d * (y * half y)

/-- The gate branch's columns of the projection. -/
def part (z : FVec Ideal S4096x4096 .f32) : FVec Ideal S4096x1024 .f32 :=
  extractStridedSlice Cert.RnnOutBwdReferenceIdeal.S4096x1024 ![0, 1024] z Cert.RnnOutBwdReferenceIdeal.Facts₀.slices_S4096x4096_S4096x1024_0_1024
/-- The array of one constant. -/
def full (b : BitVec 32) : FVec Ideal S4096x1024 .f32 :=
  broadcastInDim Cert.RnnOutBwdReferenceIdeal.S4096x1024 ![] Cert.RnnOutBwdReferenceIdeal.Facts₀.bcast_S_S4096x1024 (constant Cert.RnnOutBwdReferenceIdeal.S_ .f32 b)
/-- The hyperbolic tangent inside the gated unit. -/
def tanhs (y : FVec Ideal S4096x1024 .f32) : FVec Ideal S4096x1024 .f32 :=
  Host.tanh (mulf (full 0x3F4C422A#32) (addf y (mulf (full 0x3D372713#32) (mulf (mulf y y) y))))
/-- The factor of `y` in the gated unit. -/
def halves (y : FVec Ideal S4096x1024 .f32) : FVec Ideal S4096x1024 .f32 := mulf (full 0x3F000000#32) (addf (full 0x3F800000#32) (tanhs y))
/-- The part that comes through the hyperbolic tangent. -/
def inners (h y d : FVec Ideal S4096x1024 .f32) : FVec Ideal S4096x1024 .f32 :=
  mulf (full 0x3F4C422A#32) (mulf (mulf (full 0x3F000000#32) (mulf y (mulf h d))) (mulf (addf (full 0x3F800000#32) (tanhs y)) (subf (full 0x3F800000#32) (tanhs y))))
/-- The reference's two arrays. -/
def states (z : FVec Ideal S4096x4096 .f32) (d : FVec Ideal S4096x1024 .f32) : FVec Ideal S4096x1024 .f32 :=
  mulf d (mulf (part z) (halves (part z)))
def gates (h : FVec Ideal S4096x1024 .f32) (z : FVec Ideal S4096x4096 .f32) (d : FVec Ideal S4096x1024 .f32) : FVec Ideal S4096x1024 .bf16 :=
  truncf .bf16 (addf (addf (mulf (mulf h d) (halves (part z))) (inners h (part z) d)) (mulf (mulf (full 0x3D372713#32) (inners h (part z) d)) (mulf (full 0x40400000#32) (mulf (part z) (part z))))) Cert.RnnOutBwdReferenceIdeal.Facts₀.bitsLt_bf16_f32

theorem part_at (z : FVec Ideal S4096x4096 .f32) (t : Fin 4096) (x : Fin 1024) : part z (ix2 t x) = z (ix2 t (at1 x)) := by
  pointwise [part, at1]
theorem tanhs_at (y : FVec Ideal S4096x1024 .f32) (w : S4096x1024.Idx) : tanhs y w = th (y w) := by
  rw [th, mul_comm (y w) (y w * y w)]; rfl
theorem halves_at (y : FVec Ideal S4096x1024 .f32) (w : S4096x1024.Idx) : halves y w = half (y w) := by
  rw [half, ← tanhs_at]; rfl
theorem inners_at (h y d : FVec Ideal S4096x1024 .f32) (w : S4096x1024.Idx) : inners h y d w = inner (h w) (y w) (d w) := by
  rw [inner, ← tanhs_at]; rfl
theorem states_at (z : FVec Ideal S4096x4096 .f32) (d : FVec Ideal S4096x1024 .f32) (t : Fin 4096) (x : Fin 1024) :
    states z d (ix2 t x) = toState (z (ix2 t (at1 x))) (d (ix2 t x)) := by
  rw [toState, ← part_at z t x, ← halves_at]; rfl
theorem gates_at (h : FVec Ideal S4096x1024 .f32) (z : FVec Ideal S4096x4096 .f32) (d : FVec Ideal S4096x1024 .f32) (t : Fin 4096) (x : Fin 1024) :
    gates h z d (ix2 t x) = toGate (h (ix2 t x)) (z (ix2 t (at1 x))) (d (ix2 t x)) := by
  rw [toGate, ← part_at z t x, ← halves_at, ← inners_at]; rfl

/-! ## A point's blocks -/

theorem pay1_at (b : FVec Ideal S256x1024 .f32) (w : S256x1024.Idx) : k0_pay1 (F := Ideal) b w = th (b w) := rfl
theorem pay2_at (b : FVec Ideal S256x1024 .f32) (w : S256x1024.Idx) : k0_pay2 (F := Ideal) b w = half (b w) := by
  rw [half, ← pay1_at]; rfl
theorem out_state (a b d : FVec Ideal S256x1024 .f32) (w : S256x1024.Idx) : out0_3 (F := Ideal) a b d w = toState (b w) (d w) := by
  unfold out0_3
  rw [View.canon_unit_zero Product.zero_two, toState, ← pay2_at]
  simp only [View.ld_unit_zero (S := S256x1024) Product.zero_two]
  rfl
theorem out_gate (a b d : FVec Ideal S256x1024 .f32) (w : S256x1024.Idx) : out0_4 (F := Ideal) a b d w = toGate (a w) (b w) (d w) := by
  unfold out0_4
  rw [View.canon_unit_zero Product.zero_two, toGate, inner, ← pay2_at, ← pay1_at]
  simp only [View.ld_unit_zero (S := S256x1024) Product.zero_two]
  rfl

/-! ## The arrays after the run -/

variable (m : (ℓ : Loc nD τ sig) → Buf (Elt Ideal) ℓ) (c : Dev nD)

/-- The point of block `i` of the rows. -/
def pt (i : Fin 16) : Fin cfg0.N := ⟨i.val, lt_of_lt_of_eq (by omega) N_0.symm⟩
/-- Row `r` of block `i`. -/
def row (i : Fin 16) (r : Fin 256) : Fin 4096 := ⟨i.val * 256 + r.val, by omega⟩

theorem idx : ∀ i : Fin 16, win0_0.index (pt i) = ![i.val, 0] ∧ win0_1.index (pt i) = ![i.val, 1]
    ∧ win0_2.index (pt i) = ![i.val, 0] ∧ win0_3.index (pt i) = ![i.val, 0] ∧ win0_4.index (pt i) = ![i.val, 0] := by decide +kernel
theorem flush3 : ∀ t : Fin cfg0.N, (cfg0.win 3).flush t = true := (by decide +kernel : ∀ t : Fin grid0.N, _)
theorem flush4 : ∀ t : Fin cfg0.N, (cfg0.win 4).flush t = true := (by decide +kernel : ∀ t : Fin grid0.N, _)

theorem read0 (X : FVec Ideal S4096x1024 .f32) (i : Fin 16) (r : Fin 256) (x : Fin 1024) :
    ((cfg0.win 0).blk (pt i)).view.read (Elt Ideal) X (ix2 r x) = X (ix2 (row i r) x) := by
  obtain ⟨e, -⟩ := idx i
  refine congrArg X (funext fun a => Fin.ext ?_)
  match a with
  | ⟨0, _⟩ => show win0_0.index (pt i) (0 : Fin 2) * 256 + 1 * r.val = i.val * 256 + r.val; rw [e]; simp
  | ⟨1, _⟩ => show win0_0.index (pt i) (1 : Fin 2) * 1024 + 1 * x.val = x.val; rw [e]; simp
theorem read1 (X : FVec Ideal S4096x4096 .f32) (i : Fin 16) (r : Fin 256) (x : Fin 1024) :
    ((cfg0.win 1).blk (pt i)).view.read (Elt Ideal) X (ix2 r x) = X (ix2 (row i r) (at1 x)) := by
  obtain ⟨-, e, -⟩ := idx i
  refine congrArg X (funext fun a => Fin.ext ?_)
  match a with
  | ⟨0, _⟩ => show win0_1.index (pt i) (0 : Fin 2) * 256 + 1 * r.val = i.val * 256 + r.val; rw [e]; simp
  | ⟨1, _⟩ => show win0_1.index (pt i) (1 : Fin 2) * 1024 + 1 * x.val = 1024 + x.val; rw [e]; simp
theorem read2 (X : FVec Ideal S4096x1024 .f32) (i : Fin 16) (r : Fin 256) (x : Fin 1024) :
    ((cfg0.win 2).blk (pt i)).view.read (Elt Ideal) X (ix2 r x) = X (ix2 (row i r) x) := by
  obtain ⟨-, -, e, -⟩ := idx i
  refine congrArg X (funext fun a => Fin.ext ?_)
  match a with
  | ⟨0, _⟩ => show win0_2.index (pt i) (0 : Fin 2) * 256 + 1 * r.val = i.val * 256 + r.val; rw [e]; simp
  | ⟨1, _⟩ => show win0_2.index (pt i) (1 : Fin 2) * 1024 + 1 * x.val = x.val; rw [e]; simp
theorem read3 (X : FVec Ideal S4096x1024 .f32) (i : Fin 16) (r : Fin 256) (x : Fin 1024) :
    ((cfg0.win 3).blk (pt i)).view.read (Elt Ideal) X (ix2 r x) = X (ix2 (row i r) x) := by
  obtain ⟨-, -, -, e, -⟩ := idx i
  refine congrArg X (funext fun a => Fin.ext ?_)
  match a with
  | ⟨0, _⟩ => show win0_3.index (pt i) (0 : Fin 2) * 256 + 1 * r.val = i.val * 256 + r.val; rw [e]; simp
  | ⟨1, _⟩ => show win0_3.index (pt i) (1 : Fin 2) * 1024 + 1 * x.val = x.val; rw [e]; simp
theorem read4 (X : FVec Ideal S4096x1024 .bf16) (i : Fin 16) (r : Fin 256) (x : Fin 1024) :
    ((cfg0.win 4).blk (pt i)).view.read (Elt Ideal) X (ix2 r x) = X (ix2 (row i r) x) := by
  obtain ⟨-, -, -, -, e⟩ := idx i
  refine congrArg X (funext fun a => Fin.ext ?_)
  match a with
  | ⟨0, _⟩ => show win0_4.index (pt i) (0 : Fin 2) * 256 + 1 * r.val = i.val * 256 + r.val; rw [e]; simp
  | ⟨1, _⟩ => show win0_4.index (pt i) (1 : Fin 2) * 1024 + 1 * x.val = x.val; rw [e]; simp

theorem state_block (i : Fin 16) (r : Fin 256) (x : Fin 1024) : (iblk m c 0 (pt i) : FVec Ideal S256x1024 .f32) (ix2 r x)
    = (m ((c : Thread nD τ).loc main_arg0) : FVec Ideal S4096x1024 .f32) (ix2 (row i r) x) := by
  refine (read0 (V m c main_arg0) i r x).trans ?_
  rw [V_main_arg0]
theorem gate_block (i : Fin 16) (r : Fin 256) (x : Fin 1024) : (iblk m c 1 (pt i) : FVec Ideal S256x1024 .f32) (ix2 r x)
    = (m ((c : Thread nD τ).loc main_arg1) : FVec Ideal S4096x4096 .f32) (ix2 (row i r) (at1 x)) := by
  refine (read1 (V m c main_arg1) i r x).trans ?_
  rw [V_main_arg1]
theorem grad_block (i : Fin 16) (r : Fin 256) (x : Fin 1024) : (iblk m c 2 (pt i) : FVec Ideal S256x1024 .f32) (ix2 r x)
    = (m ((c : Thread nD τ).loc main_arg2) : FVec Ideal S4096x1024 .f32) (ix2 (row i r) x) := by
  refine (read2 (V m c main_arg2) i r x).trans ?_
  rw [V_main_arg2]

theorem io_surj (y : S4096x1024.Idx) : ∃ i r x, y = ix2 (row i r) x := by
  idx_vars y
  refine ⟨⟨y0.val / 256, by omega⟩, ⟨y0.val % 256, by omega⟩, y1, ?_⟩
  congr 1; apply Fin.ext; simp only [row]; omega
theorem final3 : (dats m 0 c).arrAt 3 cfg0.N = states (m ((c : Thread nD τ).loc main_arg1)) (m ((c : Thread nD τ).loc main_arg2)) := by
  funext y
  obtain ⟨i, r, x, rfl⟩ := io_surj y
  refine (read3 _ i r x).symm.trans ((congrFun (Value.blocks3 m c (pt i) (flush3 _)) (ix2 r x)).trans ?_)
  rw [Value.flushed3]
  refine (out_state (iblk m c 0 (pt i)) (iblk m c 1 (pt i)) (iblk m c 2 (pt i)) (ix2 r x)).trans (Eq.trans ?_ (states_at _ _ (row i r) x).symm)
  exact congrArg₂ toState (gate_block m c i r x) (grad_block m c i r x)
theorem gate_congr {h h' y y' d d' : EReal} (eh : h = h') (ey : y = y') (ed : d = d') : toGate h y d = toGate h' y' d' := by
  rw [eh, ey, ed]
theorem final4 : (dats m 0 c).arrAt 4 cfg0.N = gates (m ((c : Thread nD τ).loc main_arg0)) (m ((c : Thread nD τ).loc main_arg1)) (m ((c : Thread nD τ).loc main_arg2)) := by
  funext y
  obtain ⟨i, r, x, rfl⟩ := io_surj y
  refine (read4 _ i r x).symm.trans ((congrFun (Value.blocks4 m c (pt i) (flush4 _)) (ix2 r x)).trans ?_)
  rw [Value.flushed4]
  refine (out_gate (iblk m c 0 (pt i)) (iblk m c 1 (pt i)) (iblk m c 2 (pt i)) (ix2 r x)).trans (Eq.trans ?_ (gates_at _ _ _ (row i r) x).symm)
  exact gate_congr (state_block m c i r x) (gate_block m c i r x) (grad_block m c i r x)

theorem gates_congr {h h' : FVec Ideal S4096x1024 .f32} {z z' : FVec Ideal S4096x4096 .f32} {d d' : FVec Ideal S4096x1024 .f32}
    (eh : h = h') (ez : z = z') (ed : d = d') : gates h z d = gates h' z' d' := by subst eh ez ed; rfl

/-! ## The claims -/

theorem frame_kernel : Cert.quiescent_RnnOutBwd := fun m ρ _ => Cert.RnnOutBwd.Gen.frame m ρ
theorem frame_ideal : Cert.quiescent_RnnOutBwdIdeal := fun m ρ _ => Cert.RnnOutBwdIdeal.Gen.frame m ρ
theorem frame_reference : Cert.quiescent_RnnOutBwdReferenceIdeal := fun m ρ _ =>
  (θ_run Cert.RnnOutBwdReferenceIdeal.defs _ _).mono (fun r h => ⟨fun c => (h c).2.2, sem_eq_zero_of_no_sems (by decide) r.2⟩)
    (Cert.RnnOutBwdReferenceIdeal.Value.run (F := Ideal) m ρ)

theorem same : Cert.algebraic_RnnOutBwdIdeal_RnnOutBwdReferenceIdeal (hRnnOutBwdIdeal := Cert.RnnOutBwdIdeal.Gen.facts)
    (hRnnOutBwdReferenceIdeal := Cert.RnnOutBwdReferenceIdeal.Gen.facts) := by
  intro m g m' g' _ hm
  refine ⟨fun c => states (m ((c : Thread nD τ).loc main_arg1)) (m ((c : Thread nD τ).loc main_arg2)), fun c => gates (m ((c : Thread nD τ).loc main_arg0)) (m ((c : Thread nD τ).loc main_arg1)) (m ((c : Thread nD τ).loc main_arg2)), ?_, ?_⟩
  · exact (θ_run Cert.RnnOutBwdIdeal.defs _ _).mono (fun r h c => ⟨(h c).1.trans (final3 m c), (h c).2.1.trans (final4 m c), (h c).2.2⟩)
      (Value.run_blocks (F := Ideal) m g)
  · exact (θ_run Cert.RnnOutBwdReferenceIdeal.defs _ _).mono (fun r h c => ⟨(h c).1.trans (congrArg₂ states (hm c).2.1 (hm c).2.2),
        (h c).2.1.trans (gates_congr (hm c).1 (hm c).2.1 (hm c).2.2), (h c).2.2⟩)
      (Cert.RnnOutBwdReferenceIdeal.Value.run (F := Ideal) m' g')

end Cert.Row.RnnOutBwd

end
-- ==== Proof.MixOutDw.lean ====
/- The gradient of a square matrix: xᵀ d, in two blocks of rows. -/
module

public import proofs.«01_k».proof.Defs
public import proofs.«01_k».proof.Proof.Product
public import proofs.«01_k».proof.Proof.Gen.MixOutDw.Frame
public import proofs.«01_k».proof.Proof.Gen.MixOutDwIdeal.Value
public import proofs.«01_k».proof.Proof.Gen.MixOutDwReferenceIdeal.Run

@[expose] public section

set_option maxRecDepth 16384

noncomputable section

namespace Cert.Product.MixOutDw

open Cert.MixOutDwIdeal Cert.MixOutDwIdeal.Gen Idealize.ShloMosaic Idealize.ShloMosaic.TcCoe Idealize.SL.Sem

theorem first_at (a b : FVec Ideal S2048x1024 .bf16) (i j : Fin 1024) :
    k0_pay2 (F := Ideal) a b (ix2 i j) = ∑ t : Fin 2048, a (ix2 t i) * b (ix2 t j) := by
  pointwise [k0_pay2, k0_pay1]
theorem next_at (a b : FVec Ideal S2048x1024 .bf16) (s : FVec Ideal S1024x1024 .f32) (i j : Fin 1024) :
    k0_pay3 (F := Ideal) a b s (ix2 i j) = s (ix2 i j) + ∑ t : Fin 2048, a (ix2 t i) * b (ix2 t j) := by
  pointwise [k0_pay3, k0_pay1]
theorem last_at (s : FVec Ideal S1024x1024 .f32) (i j : Fin 1024) : k0_pay4 (F := Ideal) s (ix2 i j) = s (ix2 i j) := by
  pointwise [k0_pay4]

/-- The reference's array. -/
def prod (a : FVec Ideal S4096x1024 .bf16) (b : FVec Ideal S4096x1024 .bf16) : FVec Ideal S1024x1024 .bf16 :=
  truncf .bf16 (transpose Cert.MixOutDwReferenceIdeal.S1024x1024 [1, 0]
      (Host.dotGeneral (F := Ideal) Cert.MixOutDwReferenceIdeal.dot_S4096x1024_S4096x1024_S1024x1024_0_0_1_1_n_n none
        (extf .f32 b Cert.MixOutDwReferenceIdeal.Facts₀.bitsLt_bf16_f32) (extf .f32 a Cert.MixOutDwReferenceIdeal.Facts₀.bitsLt_bf16_f32))
      Cert.MixOutDwReferenceIdeal.Facts₀.transposes_S1024x1024_S1024x1024_1_0) Cert.MixOutDwReferenceIdeal.Facts₀.bitsLt_bf16_f32

theorem prod_at (a : FVec Ideal S4096x1024 .bf16) (b : FVec Ideal S4096x1024 .bf16) (i : Fin 1024) (j : Fin 1024) :
    prod a b (ix2 i j) = ∑ t : Fin 4096, a (ix2 t i) * b (ix2 t j) := by
  pointwise [prod]
  exact Finset.sum_congr rfl fun t _ => mul_comm _ _

/-! ## What the grid's points leave -/

variable (m : (ℓ : Loc nD τ sig) → Buf (Elt Ideal) ℓ) (c : Dev nD)

/-- After the first half of the rows the accumulator holds their product. -/
theorem half (t : Fin cfg0.N) (h : t.val % 2 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ fun _ => scover0_A_0 ..]
  unfold kernelRun0_A
  dsimp only
  rw [View.canon_unit_zero zero_two]
  simp only [View.readAt_eq_ld, (hs0_0 t).read_unread, (hs0_1 t).read_unread, View.ld_unit_zero (S := S2048x1024) zero_two]

/-- What a point of the second half writes back. -/
theorem whole (t : Fin cfg0.N) (h : t.val % 2 = 1) : (dats m 0 c).flushed 2 t
    = (cfg0.win 2).cut (grid0.coords t) (k0_pay4 (k0_pay3 (iblk m c 0 t) (iblk m c 1 t) (outsAt0 m c (t.val - 1) (Nat.lt_of_le_of_lt (Nat.sub_le _ _) t.isLt)).2)) := by
  rw [Value.flushed2_B m c t (by omega) h h]
  unfold out0_B_2
  rw [View.read_writes_eq_canon _ _ _ fun _ => cover0_B_2 ..]
  unfold kernelRun0_B
  dsimp only
  sl_unfold_words
  rw [View.canon_unit_zero zero_two, View.readCov_unit_zero _ zero_two]
  simp only [View.readAt_eq_ld, (hs0_0 t).read_unread, (hs0_1 t).read_unread, (Memref.isWhole_whole cc0_scratch0).read_unread,
    View.ld_unit_zero (S := S2048x1024) zero_two, View.ld_unit_zero (S := S1024x1024) zero_two]

/-! ## The array after the run -/

/-- The point of block `j` of the columns and half `k` of the rows. -/
def pt (j : Fin 1) (k : Fin 2) : Fin cfg0.N := ⟨2 * j.val + k.val, lt_of_lt_of_eq (by omega) N_0.symm⟩
/-- Row `t` of half `k`; column `x` of block `j`. -/
def row (k : Fin 2) (t : Fin 2048) : Fin 4096 := ⟨k.val * 2048 + t.val, by omega⟩
theorem row0 (t : Fin 2048) (h : t.val < 4096) : row 0 t = ⟨t.val, h⟩ := Fin.ext (by simp [row])
theorem row1 (t : Fin 2048) (h : 2048 + t.val < 4096) : row 1 t = ⟨2048 + t.val, h⟩ := Fin.ext (by simp [row])
def col (j : Fin 1) (x : Fin 1024) : Fin 1024 := ⟨j.val * 1024 + x.val, by omega⟩

theorem idx : ∀ (j : Fin 1) (k : Fin 2), win0_0.index (pt j k) = ![k.val, 0] ∧ win0_1.index (pt j k) = ![k.val, j.val]
    ∧ win0_2.index (pt j k) = ![0, j.val] := by decide +kernel

theorem read0 (X : FVec Ideal S4096x1024 .bf16) (j : Fin 1) (k : Fin 2) (t : Fin 2048) (i : Fin 1024) :
    ((cfg0.win 0).blk (pt j k)).view.read (Elt Ideal) X (ix2 t i) = X (ix2 (row k t) i) := by
  obtain ⟨e, -⟩ := idx j k
  refine congrArg X (funext fun a => Fin.ext ?_)
  match a with
  | ⟨0, _⟩ => show win0_0.index (pt j k) (0 : Fin 2) * 2048 + 1 * t.val = k.val * 2048 + t.val; rw [e]; simp
  | ⟨1, _⟩ => show win0_0.index (pt j k) (1 : Fin 2) * 1024 + 1 * i.val = i.val; rw [e]; simp
theorem read1 (X : FVec Ideal S4096x1024 .bf16) (j : Fin 1) (k : Fin 2) (t : Fin 2048) (x : Fin 1024) :
    ((cfg0.win 1).blk (pt j k)).view.read (Elt Ideal) X (ix2 t x) = X (ix2 (row k t) (col j x)) := by
  obtain ⟨-, e, -⟩ := idx j k
  refine congrArg X (funext fun a => Fin.ext ?_)
  match a with
  | ⟨0, _⟩ => show win0_1.index (pt j k) (0 : Fin 2) * 2048 + 1 * t.val = k.val * 2048 + t.val; rw [e]; simp
  | ⟨1, _⟩ => show win0_1.index (pt j k) (1 : Fin 2) * 1024 + 1 * x.val = j.val * 1024 + x.val; rw [e]; simp
theorem read2 (X : FVec Ideal S1024x1024 .bf16) (j : Fin 1) (k : Fin 2) (i : Fin 1024) (x : Fin 1024) :
    ((cfg0.win 2).blk (pt j k)).view.read (Elt Ideal) X (ix2 i x) = X (ix2 i (col j x)) := by
  obtain ⟨-, -, e⟩ := idx j k
  refine congrArg X (funext fun a => Fin.ext ?_)
  match a with
  | ⟨0, _⟩ => show win0_2.index (pt j k) (0 : Fin 2) * 1024 + 1 * i.val = i.val; rw [e]; simp
  | ⟨1, _⟩ => show win0_2.index (pt j k) (1 : Fin 2) * 1024 + 1 * x.val = j.val * 1024 + x.val; rw [e]; simp

theorem flush_last : ∀ j : Fin 1, (cfg0.win 2).flush (pt j 1) = true := (by decide +kernel : ∀ j : Fin 1, win0_2.flush (pt j 1) = true)

theorem final : (dats m 0 c).arrAt 2 cfg0.N = prod (m ((c : Thread nD τ).loc main_arg0)) (m ((c : Thread nD τ).loc main_arg1)) := by
  funext y
  obtain ⟨i, j, x, rfl⟩ : ∃ i j x, y = ix2 i (col j x) := by
    idx_vars y
    refine ⟨y0, ⟨y1.val / 1024, by omega⟩, ⟨y1.val % 1024, by omega⟩, ?_⟩
    congr 1; apply Fin.ext; simp only [col]; omega
  rw [Value.final2]
  refine (read2 _ j 1 i x).symm.trans ((congrFun (Value.flushed2_eq m c (pt j 1) (flush_last j)) (ix2 i x)).symm.trans ?_)
  rw [whole m c (pt j 1) (by show (2 * j.val + 1) % 2 = 1; omega)]
  have e := half m c (pt j 0) (by show (2 * j.val + 0) % 2 = 0; omega)
  refine (last_at _ i x).trans ((next_at _ _ _ i x).trans ?_)
  refine Eq.trans ?_ (prod_at _ _ i (col j x)).symm
  rw [sum_two 2048 rfl]
  refine congrArg₂ (· + ·) ((congrFun e (ix2 i x)).trans ((first_at _ _ i x).trans ?_)) ?_
  all_goals refine Finset.sum_congr rfl fun t _ => congrArg₂ (· * ·) ?_ ?_
  · refine (read0 (V m c main_arg0) j 0 t i).trans ?_
    rw [V_main_arg0, row0]
  · refine (read1 (V m c main_arg1) j 0 t x).trans ?_
    rw [V_main_arg1, row0]
  · refine (read0 (V m c main_arg0) j 1 t i).trans ?_
    rw [V_main_arg0, row1]
  · refine (read1 (V m c main_arg1) j 1 t x).trans ?_
    rw [V_main_arg1, row1]

/-! ## The claims -/

theorem frame_kernel : Cert.quiescent_MixOutDw := fun m ρ _ => Cert.MixOutDw.Gen.frame m ρ
theorem frame_ideal : Cert.quiescent_MixOutDwIdeal := fun m ρ _ => Cert.MixOutDwIdeal.Gen.frame m ρ
theorem frame_reference : Cert.quiescent_MixOutDwReferenceIdeal := fun m ρ _ =>
  (θ_run Cert.MixOutDwReferenceIdeal.defs _ _).mono (fun r h => ⟨fun c => (h c).2, sem_eq_zero_of_no_sems (by decide) r.2⟩)
    (Cert.MixOutDwReferenceIdeal.Value.run (F := Ideal) m ρ)

theorem same : Cert.algebraic_MixOutDwIdeal_MixOutDwReferenceIdeal (hMixOutDwIdeal := Cert.MixOutDwIdeal.Gen.facts)
    (hMixOutDwReferenceIdeal := Cert.MixOutDwReferenceIdeal.Gen.facts) := by
  intro m g m' g' _ hm
  refine ⟨fun c => prod (m ((c : Thread nD τ).loc main_arg0)) (m ((c : Thread nD τ).loc main_arg1)), ?_, ?_⟩
  · exact (θ_run Cert.MixOutDwIdeal.defs _ _).mono (fun r h c => ⟨(h c).1.trans (final m c), (h c).2⟩) (Value.run_blocks (F := Ideal) m g)
  · exact (θ_run Cert.MixOutDwReferenceIdeal.defs _ _).mono (fun r h c => ⟨(h c).1.trans (congrArg₂ prod (hm c).1 (hm c).2), (h c).2⟩)
      (Cert.MixOutDwReferenceIdeal.Value.run (F := Ideal) m' g')

end Cert.Product.MixOutDw

end
-- ==== Proof.MixOutDx.lean ====
/- The gradient of a square product's left factor, d wᵀ, in f32. -/
module

public import proofs.«01_k».proof.Defs
public import proofs.«01_k».proof.Proof.Product
public import proofs.«01_k».proof.Proof.Gen.MixOutDx.Frame
public import proofs.«01_k».proof.Proof.Gen.MixOutDxIdeal.Value
public import proofs.«01_k».proof.Proof.Gen.MixOutDxReferenceIdeal.Run

@[expose] public section

set_option maxRecDepth 16384

noncomputable section

namespace Cert.Product.MixOutDx

open Cert.MixOutDxIdeal Cert.MixOutDxIdeal.Gen Idealize.ShloMosaic Idealize.ShloMosaic.TcCoe Idealize.SL.Sem

/-- The reference's array. -/
def prod (a : FVec Ideal S4096x1024 .bf16) (b : FVec Ideal S1024x1024 .bf16) : FVec Ideal S4096x1024 .f32 :=
  Host.dotGeneral (F := Ideal) Cert.MixOutDxReferenceIdeal.dot_S4096x1024_S1024x1024_S4096x1024_1_1_0_0_n_n none (extf .f32 a Cert.MixOutDxReferenceIdeal.Facts₀.bitsLt_bf16_f32) (extf .f32 b Cert.MixOutDxReferenceIdeal.Facts₀.bitsLt_bf16_f32)

theorem prod_at (a : FVec Ideal S4096x1024 .bf16) (b : FVec Ideal S1024x1024 .bf16) (t : Fin 4096) (x : Fin 1024) :
    prod a b (ix2 t x) = ∑ d : Fin 1024, a (ix2 t d) * b (ix2 x d) := by
  pointwise [prod]

/-- A point's block of the result. -/
theorem out_at (a b : FVec Ideal S1024x1024 .bf16) (r x : Fin 1024) :
    out0_2 (F := Ideal) a b (ix2 r x) = ∑ d : Fin 1024, a (ix2 r d) * b (ix2 x d) := by
  unfold out0_2
  rw [View.canon_unit_zero zero_two]
  simp only [View.ld_unit_zero (S := S1024x1024) zero_two]
  pointwise [k0_pay1]

/-! ## The array after the run -/

variable (m : (ℓ : Loc nD τ sig) → Buf (Elt Ideal) ℓ) (c : Dev nD)

/-- The point of block `i` of the rows and block `j` of the columns. -/
def pt (i : Fin 4) (j : Fin 1) : Fin cfg0.N := ⟨1 * i.val + j.val, lt_of_lt_of_eq (by omega) N_0.symm⟩
/-- Row `r` of block `i`; column `x` of block `j`. -/
def row (i : Fin 4) (r : Fin 1024) : Fin 4096 := ⟨i.val * 1024 + r.val, by omega⟩
def col (j : Fin 1) (x : Fin 1024) : Fin 1024 := ⟨j.val * 1024 + x.val, by omega⟩

theorem idx : ∀ (i : Fin 4) (j : Fin 1), win0_0.index (pt i j) = ![i.val, 0] ∧ win0_1.index (pt i j) = ![j.val, 0]
    ∧ win0_2.index (pt i j) = ![i.val, j.val] := by decide +kernel
theorem flush_all : ∀ t : Fin cfg0.N, (cfg0.win 2).flush t = true := (by decide +kernel : ∀ t : Fin grid0.N, _)

theorem read0 (X : FVec Ideal S4096x1024 .bf16) (i : Fin 4) (j : Fin 1) (r d : Fin 1024) :
    ((cfg0.win 0).blk (pt i j)).view.read (Elt Ideal) X (ix2 r d) = X (ix2 (row i r) d) := by
  obtain ⟨e, -⟩ := idx i j
  refine congrArg X (funext fun a => Fin.ext ?_)
  match a with
  | ⟨0, _⟩ => show win0_0.index (pt i j) (0 : Fin 2) * 1024 + 1 * r.val = i.val * 1024 + r.val; rw [e]; simp
  | ⟨1, _⟩ => show win0_0.index (pt i j) (1 : Fin 2) * 1024 + 1 * d.val = d.val; rw [e]; simp
theorem read1 (X : FVec Ideal S1024x1024 .bf16) (i : Fin 4) (j : Fin 1) (x d : Fin 1024) :
    ((cfg0.win 1).blk (pt i j)).view.read (Elt Ideal) X (ix2 x d) = X (ix2 (col j x) d) := by
  obtain ⟨-, e, -⟩ := idx i j
  refine congrArg X (funext fun a => Fin.ext ?_)
  match a with
  | ⟨0, _⟩ => show win0_1.index (pt i j) (0 : Fin 2) * 1024 + 1 * x.val = j.val * 1024 + x.val; rw [e]; simp
  | ⟨1, _⟩ => show win0_1.index (pt i j) (1 : Fin 2) * 1024 + 1 * d.val = d.val; rw [e]; simp
theorem read2 (X : FVec Ideal S4096x1024 .f32) (i : Fin 4) (j : Fin 1) (r x : Fin 1024) :
    ((cfg0.win 2).blk (pt i j)).view.read (Elt Ideal) X (ix2 r x) = X (ix2 (row i r) (col j x)) := by
  obtain ⟨-, -, e⟩ := idx i j
  refine congrArg X (funext fun a => Fin.ext ?_)
  match a with
  | ⟨0, _⟩ => show win0_2.index (pt i j) (0 : Fin 2) * 1024 + 1 * r.val = i.val * 1024 + r.val; rw [e]; simp
  | ⟨1, _⟩ => show win0_2.index (pt i j) (1 : Fin 2) * 1024 + 1 * x.val = j.val * 1024 + x.val; rw [e]; simp

theorem final : (dats m 0 c).arrAt 2 cfg0.N = prod (m ((c : Thread nD τ).loc main_arg0)) (m ((c : Thread nD τ).loc main_arg1)) := by
  funext y
  obtain ⟨i, r, j, x, rfl⟩ : ∃ i r j x, y = ix2 (row i r) (col j x) := by
    idx_vars y
    refine ⟨⟨y0.val / 1024, by omega⟩, ⟨y0.val % 1024, by omega⟩, ⟨y1.val / 1024, by omega⟩, ⟨y1.val % 1024, by omega⟩, ?_⟩
    congr 1 <;> apply Fin.ext <;> simp only [row, col] <;> omega
  refine (read2 _ i j r x).symm.trans ((congrFun (Value.blocks2 m c (pt i j) (flush_all _)) (ix2 r x)).trans ?_)
  rw [Value.flushed2]
  refine (out_at (iblk m c 0 (pt i j)) (iblk m c 1 (pt i j)) r x).trans (Eq.trans ?_ (prod_at _ _ (row i r) (col j x)).symm)
  refine Finset.sum_congr rfl fun d _ => congrArg₂ (· * ·) ?_ ?_
  · refine (read0 (V m c main_arg0) i j r d).trans ?_
    rw [V_main_arg0]
  · refine (read1 (V m c main_arg1) i j x d).trans ?_
    rw [V_main_arg1]

/-! ## The claims -/

theorem frame_kernel : Cert.quiescent_MixOutDx := fun m ρ _ => Cert.MixOutDx.Gen.frame m ρ
theorem frame_ideal : Cert.quiescent_MixOutDxIdeal := fun m ρ _ => Cert.MixOutDxIdeal.Gen.frame m ρ
theorem frame_reference : Cert.quiescent_MixOutDxReferenceIdeal := fun m ρ _ =>
  (θ_run Cert.MixOutDxReferenceIdeal.defs _ _).mono (fun r h => ⟨fun c => (h c).2, sem_eq_zero_of_no_sems (by decide) r.2⟩)
    (Cert.MixOutDxReferenceIdeal.Value.run (F := Ideal) m ρ)

theorem same : Cert.algebraic_MixOutDxIdeal_MixOutDxReferenceIdeal (hMixOutDxIdeal := Cert.MixOutDxIdeal.Gen.facts)
    (hMixOutDxReferenceIdeal := Cert.MixOutDxReferenceIdeal.Gen.facts) := by
  intro m g m' g' _ hm
  refine ⟨fun c => prod (m ((c : Thread nD τ).loc main_arg0)) (m ((c : Thread nD τ).loc main_arg1)), ?_, ?_⟩
  · exact (θ_run Cert.MixOutDxIdeal.defs _ _).mono (fun r h c => ⟨(h c).1.trans (final m c), (h c).2⟩) (Value.run_blocks (F := Ideal) m g)
  · exact (θ_run Cert.MixOutDxReferenceIdeal.defs _ _).mono (fun r h c => ⟨(h c).1.trans (congrArg₂ prod (hm c).1 (hm c).2), (h c).2⟩)
      (Cert.MixOutDxReferenceIdeal.Value.run (F := Ideal) m' g')

end Cert.Product.MixOutDx

end
-- ==== Proof.MixOut.lean ====
/- A square product x w, in f32. -/
module

public import proofs.«01_k».proof.Defs
public import proofs.«01_k».proof.Proof.Product
public import proofs.«01_k».proof.Proof.Gen.MixOut.Frame
public import proofs.«01_k».proof.Proof.Gen.MixOutIdeal.Value
public import proofs.«01_k».proof.Proof.Gen.MixOutReferenceIdeal.Run

@[expose] public section

set_option maxRecDepth 16384

noncomputable section

namespace Cert.Product.MixOut

open Cert.MixOutIdeal Cert.MixOutIdeal.Gen Idealize.ShloMosaic Idealize.ShloMosaic.TcCoe Idealize.SL.Sem

/-- The reference's array. -/
def prod (a : FVec Ideal S4096x1024 .bf16) (b : FVec Ideal S1024x1024 .bf16) : FVec Ideal S4096x1024 .f32 :=
  Host.dotGeneral (F := Ideal) Cert.MixOutReferenceIdeal.dot_S4096x1024_S1024x1024_S4096x1024_1_0_0_1_n_n none (extf .f32 a Cert.MixOutReferenceIdeal.Facts₀.bitsLt_bf16_f32) (extf .f32 b Cert.MixOutReferenceIdeal.Facts₀.bitsLt_bf16_f32)

theorem prod_at (a : FVec Ideal S4096x1024 .bf16) (b : FVec Ideal S1024x1024 .bf16) (t : Fin 4096) (x : Fin 1024) :
    prod a b (ix2 t x) = ∑ d : Fin 1024, a (ix2 t d) * b (ix2 d x) := by
  pointwise [prod]

/-- A point's block of the result. -/
theorem out_at (a b : FVec Ideal S1024x1024 .bf16) (r x : Fin 1024) :
    out0_2 (F := Ideal) a b (ix2 r x) = ∑ d : Fin 1024, a (ix2 r d) * b (ix2 d x) := by
  unfold out0_2
  rw [View.canon_unit_zero zero_two]
  simp only [View.ld_unit_zero (S := S1024x1024) zero_two]
  pointwise [k0_pay1]

/-! ## The array after the run -/

variable (m : (ℓ : Loc nD τ sig) → Buf (Elt Ideal) ℓ) (c : Dev nD)

/-- The point of block `i` of the rows and block `j` of the columns. -/
def pt (i : Fin 4) (j : Fin 1) : Fin cfg0.N := ⟨1 * i.val + j.val, lt_of_lt_of_eq (by omega) N_0.symm⟩
/-- Row `r` of block `i`; column `x` of block `j`. -/
def row (i : Fin 4) (r : Fin 1024) : Fin 4096 := ⟨i.val * 1024 + r.val, by omega⟩
def col (j : Fin 1) (x : Fin 1024) : Fin 1024 := ⟨j.val * 1024 + x.val, by omega⟩

theorem idx : ∀ (i : Fin 4) (j : Fin 1), win0_0.index (pt i j) = ![i.val, 0] ∧ win0_1.index (pt i j) = ![0, j.val]
    ∧ win0_2.index (pt i j) = ![i.val, j.val] := by decide +kernel
theorem flush_all : ∀ t : Fin cfg0.N, (cfg0.win 2).flush t = true := (by decide +kernel : ∀ t : Fin grid0.N, _)

theorem read0 (X : FVec Ideal S4096x1024 .bf16) (i : Fin 4) (j : Fin 1) (r d : Fin 1024) :
    ((cfg0.win 0).blk (pt i j)).view.read (Elt Ideal) X (ix2 r d) = X (ix2 (row i r) d) := by
  obtain ⟨e, -⟩ := idx i j
  refine congrArg X (funext fun a => Fin.ext ?_)
  match a with
  | ⟨0, _⟩ => show win0_0.index (pt i j) (0 : Fin 2) * 1024 + 1 * r.val = i.val * 1024 + r.val; rw [e]; simp
  | ⟨1, _⟩ => show win0_0.index (pt i j) (1 : Fin 2) * 1024 + 1 * d.val = d.val; rw [e]; simp
theorem read1 (X : FVec Ideal S1024x1024 .bf16) (i : Fin 4) (j : Fin 1) (x d : Fin 1024) :
    ((cfg0.win 1).blk (pt i j)).view.read (Elt Ideal) X (ix2 d x) = X (ix2 d (col j x)) := by
  obtain ⟨-, e, -⟩ := idx i j
  refine congrArg X (funext fun a => Fin.ext ?_)
  match a with
  | ⟨0, _⟩ => show win0_1.index (pt i j) (0 : Fin 2) * 1024 + 1 * d.val = d.val; rw [e]; simp
  | ⟨1, _⟩ => show win0_1.index (pt i j) (1 : Fin 2) * 1024 + 1 * x.val = j.val * 1024 + x.val; rw [e]; simp
theorem read2 (X : FVec Ideal S4096x1024 .f32) (i : Fin 4) (j : Fin 1) (r x : Fin 1024) :
    ((cfg0.win 2).blk (pt i j)).view.read (Elt Ideal) X (ix2 r x) = X (ix2 (row i r) (col j x)) := by
  obtain ⟨-, -, e⟩ := idx i j
  refine congrArg X (funext fun a => Fin.ext ?_)
  match a with
  | ⟨0, _⟩ => show win0_2.index (pt i j) (0 : Fin 2) * 1024 + 1 * r.val = i.val * 1024 + r.val; rw [e]; simp
  | ⟨1, _⟩ => show win0_2.index (pt i j) (1 : Fin 2) * 1024 + 1 * x.val = j.val * 1024 + x.val; rw [e]; simp

theorem final : (dats m 0 c).arrAt 2 cfg0.N = prod (m ((c : Thread nD τ).loc main_arg0)) (m ((c : Thread nD τ).loc main_arg1)) := by
  funext y
  obtain ⟨i, r, j, x, rfl⟩ : ∃ i r j x, y = ix2 (row i r) (col j x) := by
    idx_vars y
    refine ⟨⟨y0.val / 1024, by omega⟩, ⟨y0.val % 1024, by omega⟩, ⟨y1.val / 1024, by omega⟩, ⟨y1.val % 1024, by omega⟩, ?_⟩
    congr 1 <;> apply Fin.ext <;> simp only [row, col] <;> omega
  refine (read2 _ i j r x).symm.trans ((congrFun (Value.blocks2 m c (pt i j) (flush_all _)) (ix2 r x)).trans ?_)
  rw [Value.flushed2]
  refine (out_at (iblk m c 0 (pt i j)) (iblk m c 1 (pt i j)) r x).trans (Eq.trans ?_ (prod_at _ _ (row i r) (col j x)).symm)
  refine Finset.sum_congr rfl fun d _ => congrArg₂ (· * ·) ?_ ?_
  · refine (read0 (V m c main_arg0) i j r d).trans ?_
    rw [V_main_arg0]
  · refine (read1 (V m c main_arg1) i j x d).trans ?_
    rw [V_main_arg1]

/-! ## The claims -/

theorem frame_kernel : Cert.quiescent_MixOut := fun m ρ _ => Cert.MixOut.Gen.frame m ρ
theorem frame_ideal : Cert.quiescent_MixOutIdeal := fun m ρ _ => Cert.MixOutIdeal.Gen.frame m ρ
theorem frame_reference : Cert.quiescent_MixOutReferenceIdeal := fun m ρ _ =>
  (θ_run Cert.MixOutReferenceIdeal.defs _ _).mono (fun r h => ⟨fun c => (h c).2, sem_eq_zero_of_no_sems (by decide) r.2⟩)
    (Cert.MixOutReferenceIdeal.Value.run (F := Ideal) m ρ)

theorem same : Cert.algebraic_MixOutIdeal_MixOutReferenceIdeal (hMixOutIdeal := Cert.MixOutIdeal.Gen.facts)
    (hMixOutReferenceIdeal := Cert.MixOutReferenceIdeal.Gen.facts) := by
  intro m g m' g' _ hm
  refine ⟨fun c => prod (m ((c : Thread nD τ).loc main_arg0)) (m ((c : Thread nD τ).loc main_arg1)), ?_, ?_⟩
  · exact (θ_run Cert.MixOutIdeal.defs _ _).mono (fun r h c => ⟨(h c).1.trans (final m c), (h c).2⟩) (Value.run_blocks (F := Ideal) m g)
  · exact (θ_run Cert.MixOutReferenceIdeal.defs _ _).mono (fun r h c => ⟨(h c).1.trans (congrArg₂ prod (hm c).1 (hm c).2), (h c).2⟩)
      (Cert.MixOutReferenceIdeal.Value.run (F := Ideal) m' g')

end Cert.Product.MixOut

end
-- ==== Proof.Names.lean ====
/- Calls that are another call under a different name: the same grid, blocks, types and body, so the same claims. -/
module

public import proofs.«01_k».proof.Defs
public import proofs.«01_k».proof.Proof.MixOutDw
public import proofs.«01_k».proof.Proof.MixOutDx
public import proofs.«01_k».proof.Proof.MixOut
public import proofs.«01_k».proof.Proof.Gen.BranchAttDw
public import proofs.«01_k».proof.Proof.Gen.BranchAttDwIdeal
public import proofs.«01_k».proof.Proof.Gen.BranchAttDwReferenceIdeal
public import proofs.«01_k».proof.Proof.Gen.BranchRnnDw
public import proofs.«01_k».proof.Proof.Gen.BranchRnnDwIdeal
public import proofs.«01_k».proof.Proof.Gen.BranchRnnDwReferenceIdeal
public import proofs.«01_k».proof.Proof.Gen.PleGateDw
public import proofs.«01_k».proof.Proof.Gen.PleGateDwIdeal
public import proofs.«01_k».proof.Proof.Gen.PleGateDwReferenceIdeal
public import proofs.«01_k».proof.Proof.Gen.BranchRnnDx
public import proofs.«01_k».proof.Proof.Gen.BranchRnnDxIdeal
public import proofs.«01_k».proof.Proof.Gen.BranchRnnDxReferenceIdeal
public import proofs.«01_k».proof.Proof.Gen.PleGateDx
public import proofs.«01_k».proof.Proof.Gen.PleGateDxIdeal
public import proofs.«01_k».proof.Proof.Gen.PleGateDxReferenceIdeal
public import proofs.«01_k».proof.Proof.Gen.BranchAtt
public import proofs.«01_k».proof.Proof.Gen.BranchAttIdeal
public import proofs.«01_k».proof.Proof.Gen.BranchAttReferenceIdeal
public import proofs.«01_k».proof.Proof.Gen.BranchRnn
public import proofs.«01_k».proof.Proof.Gen.BranchRnnIdeal
public import proofs.«01_k».proof.Proof.Gen.BranchRnnReferenceIdeal
public import proofs.«01_k».proof.Proof.Gen.PleGate
public import proofs.«01_k».proof.Proof.Gen.PleGateIdeal
public import proofs.«01_k».proof.Proof.Gen.PleGateReferenceIdeal

@[expose] public section

set_option maxRecDepth 16384
set_option smartUnfolding false

noncomputable section

namespace Cert.Product.BranchAttDw
theorem frame_kernel : Cert.quiescent_BranchAttDw := Cert.Product.MixOutDw.frame_kernel
theorem frame_ideal : Cert.quiescent_BranchAttDwIdeal := Cert.Product.MixOutDw.frame_ideal
theorem frame_reference : Cert.quiescent_BranchAttDwReferenceIdeal := Cert.Product.MixOutDw.frame_reference
theorem same : Cert.algebraic_BranchAttDwIdeal_BranchAttDwReferenceIdeal (hBranchAttDwIdeal := Cert.BranchAttDwIdeal.Gen.facts)
    (hBranchAttDwReferenceIdeal := Cert.BranchAttDwReferenceIdeal.Gen.facts) := Cert.Product.MixOutDw.same
end Cert.Product.BranchAttDw

namespace Cert.Product.BranchRnnDw
theorem frame_kernel : Cert.quiescent_BranchRnnDw := Cert.Product.MixOutDw.frame_kernel
theorem frame_ideal : Cert.quiescent_BranchRnnDwIdeal := Cert.Product.MixOutDw.frame_ideal
theorem frame_reference : Cert.quiescent_BranchRnnDwReferenceIdeal := Cert.Product.MixOutDw.frame_reference
theorem same : Cert.algebraic_BranchRnnDwIdeal_BranchRnnDwReferenceIdeal (hBranchRnnDwIdeal := Cert.BranchRnnDwIdeal.Gen.facts)
    (hBranchRnnDwReferenceIdeal := Cert.BranchRnnDwReferenceIdeal.Gen.facts) := Cert.Product.MixOutDw.same
end Cert.Product.BranchRnnDw

namespace Cert.Product.PleGateDw
theorem frame_kernel : Cert.quiescent_PleGateDw := Cert.Product.MixOutDw.frame_kernel
theorem frame_ideal : Cert.quiescent_PleGateDwIdeal := Cert.Product.MixOutDw.frame_ideal
theorem frame_reference : Cert.quiescent_PleGateDwReferenceIdeal := Cert.Product.MixOutDw.frame_reference
theorem same : Cert.algebraic_PleGateDwIdeal_PleGateDwReferenceIdeal (hPleGateDwIdeal := Cert.PleGateDwIdeal.Gen.facts)
    (hPleGateDwReferenceIdeal := Cert.PleGateDwReferenceIdeal.Gen.facts) := Cert.Product.MixOutDw.same
end Cert.Product.PleGateDw

namespace Cert.Product.BranchRnnDx
theorem frame_kernel : Cert.quiescent_BranchRnnDx := Cert.Product.MixOutDx.frame_kernel
theorem frame_ideal : Cert.quiescent_BranchRnnDxIdeal := Cert.Product.MixOutDx.frame_ideal
theorem frame_reference : Cert.quiescent_BranchRnnDxReferenceIdeal := Cert.Product.MixOutDx.frame_reference
theorem same : Cert.algebraic_BranchRnnDxIdeal_BranchRnnDxReferenceIdeal (hBranchRnnDxIdeal := Cert.BranchRnnDxIdeal.Gen.facts)
    (hBranchRnnDxReferenceIdeal := Cert.BranchRnnDxReferenceIdeal.Gen.facts) := Cert.Product.MixOutDx.same
end Cert.Product.BranchRnnDx

namespace Cert.Product.PleGateDx
theorem frame_kernel : Cert.quiescent_PleGateDx := Cert.Product.MixOutDx.frame_kernel
theorem frame_ideal : Cert.quiescent_PleGateDxIdeal := Cert.Product.MixOutDx.frame_ideal
theorem frame_reference : Cert.quiescent_PleGateDxReferenceIdeal := Cert.Product.MixOutDx.frame_reference
theorem same : Cert.algebraic_PleGateDxIdeal_PleGateDxReferenceIdeal (hPleGateDxIdeal := Cert.PleGateDxIdeal.Gen.facts)
    (hPleGateDxReferenceIdeal := Cert.PleGateDxReferenceIdeal.Gen.facts) := Cert.Product.MixOutDx.same
end Cert.Product.PleGateDx

namespace Cert.Product.BranchAtt
theorem frame_kernel : Cert.quiescent_BranchAtt := Cert.Product.MixOut.frame_kernel
theorem frame_ideal : Cert.quiescent_BranchAttIdeal := Cert.Product.MixOut.frame_ideal
theorem frame_reference : Cert.quiescent_BranchAttReferenceIdeal := Cert.Product.MixOut.frame_reference
theorem same : Cert.algebraic_BranchAttIdeal_BranchAttReferenceIdeal (hBranchAttIdeal := Cert.BranchAttIdeal.Gen.facts)
    (hBranchAttReferenceIdeal := Cert.BranchAttReferenceIdeal.Gen.facts) := Cert.Product.MixOut.same
end Cert.Product.BranchAtt

namespace Cert.Product.BranchRnn
theorem frame_kernel : Cert.quiescent_BranchRnn := Cert.Product.MixOut.frame_kernel
theorem frame_ideal : Cert.quiescent_BranchRnnIdeal := Cert.Product.MixOut.frame_ideal
theorem frame_reference : Cert.quiescent_BranchRnnReferenceIdeal := Cert.Product.MixOut.frame_reference
theorem same : Cert.algebraic_BranchRnnIdeal_BranchRnnReferenceIdeal (hBranchRnnIdeal := Cert.BranchRnnIdeal.Gen.facts)
    (hBranchRnnReferenceIdeal := Cert.BranchRnnReferenceIdeal.Gen.facts) := Cert.Product.MixOut.same
end Cert.Product.BranchRnn

namespace Cert.Product.PleGate
theorem frame_kernel : Cert.quiescent_PleGate := Cert.Product.MixOut.frame_kernel
theorem frame_ideal : Cert.quiescent_PleGateIdeal := Cert.Product.MixOut.frame_ideal
theorem frame_reference : Cert.quiescent_PleGateReferenceIdeal := Cert.Product.MixOut.frame_reference
theorem same : Cert.algebraic_PleGateIdeal_PleGateReferenceIdeal (hPleGateIdeal := Cert.PleGateIdeal.Gen.facts)
    (hPleGateReferenceIdeal := Cert.PleGateReferenceIdeal.Gen.facts) := Cert.Product.MixOut.same
end Cert.Product.PleGate

end
-- ==== Proof.FwdFrames.lean ====
/- The attention's forward call: the frames of its three programs, and the named constant. -/
module

public import proofs.«01_k».proof.Defs
public import proofs.«01_k».proof.Proof.Gen.AttnFwd.Frame
public import proofs.«01_k».proof.Proof.Gen.AttnFwdIdeal.Value
public import proofs.«01_k».proof.Proof.Gen.AttnFwdReferenceIdeal.Run

@[expose] public section

noncomputable section

namespace Cert.Fwd

open Idealize.ShloMosaic Idealize.SL.Sem

theorem frame_kernel : Cert.quiescent_AttnFwd := fun m ρ _ => Cert.AttnFwd.Gen.frame m ρ

theorem frame_ideal : Cert.quiescent_AttnFwdIdeal := fun m ρ _ => Cert.AttnFwdIdeal.Gen.frame m ρ

theorem frame_reference : Cert.quiescent_AttnFwdReferenceIdeal := fun m ρ _ =>
  (θ_run Cert.AttnFwdReferenceIdeal.defs _ _).mono (fun r h => ⟨fun c => (h c).2.2.2,
      Idealize.ShloMosaic.sem_eq_zero_of_no_sems (by decide) r.2⟩)
    (Cert.AttnFwdReferenceIdeal.Value.run (F := Ideal) m ρ)

theorem mask_named : Cert.preserves_AttnFwd_AttnFwdIdeal :=
  IdealRules.named_const.statement Cert.AttnFwdIdeal.κ "mask" .f32 0xF149F2CA#32 ⊥ rfl

end Cert.Fwd

end
-- ==== Proof.FwdTile.lean ====
/- One step of the attention's forward call on a row block and a key block, and the pieces its rows write. -/
module

public import proofs.«01_k».proof.Proof.Gen.AttnFwdIdeal.Value
public import proofs.«01_k».proof.Proof.Tile

@[expose] public section

set_option maxRecDepth 16384

noncomputable section

namespace Cert.Fwd

open Cert.AttnFwdIdeal Cert.AttnFwdIdeal.Gen Idealize.ShloMosaic
open Cert.Fox (Blk Sq Col Row tS tMask)

/-- A column of numbers, one to a row. -/
abbrev One := FVec Ideal S512x1 .f32

/-- The running largest score, sum and output of a row block. -/
structure Carry where
  m : One
  l : One
  a : Blk .f32

def wide (m : One) : Sq := broadcastTo S512x512 m broadcasts_S512x1_S512x512
def over (l : One) : Blk .f32 := broadcastTo S512x128 l broadcasts_S512x1_S512x128

def start : Carry where
  m := broadcast S512x1 (Named.named κ "mask" 0xF149F2CA#32)
  l := broadcast S512x1 (Scalar.ofBits .f32 0x00000000#32)
  a := broadcast S512x128 (Scalar.ofBits .f32 0x00000000#32)

def newM (m : One) (s : Sq) : One :=
  maximumf m (shapeCast S512x1 (multiReduction .maximumf [1] S512 s 0xFF800000#32 reduces_S512x512_S512 (.inl rfl) rfl) shapeCasts_S512_S512x1)
def wts (m : One) (s : Sq) : Sq := exp (subf s (wide m))
def low (p : Sq) : FVec Ideal S512x512 .bf16 := truncf .bf16 (subf p (extf .f32 (truncf .bf16 p bitsLt_bf16_f32) bitsLt_bf16_f32)) bitsLt_bf16_f32
def onV (p : FVec Ideal S512x512 .bf16) (v : Blk .bf16) : Blk .f32 :=
  matmul dot_S512x512_S512x128_S512x128_1_0_0_1_n_n none p v (constant S512x128 .f32 0x00000000#32)
def newL (α l : One) (p : Sq) : One :=
  addf (mulf α l) (shapeCast S512x1 (multiReduction .add [1] S512 p 0x00000000#32 reduces_S512x512_S512 (.inl rfl) rfl) shapeCasts_S512_S512x1)
def newA (α : One) (a : Blk .f32) (p : Sq) (v : Blk .bf16) : Blk .f32 :=
  addf (mulf (over α) a) (addf (onV (truncf .bf16 p bitsLt_bf16_f32) v) (onV (low p) v))

/-- A step on the scores `s` and the values `v`. -/
def step (C : Carry) (s : Sq) (v : Blk .bf16) : Carry where
  m := newM C.m s
  l := newL (exp (subf C.m (newM C.m s))) C.l (wts (newM C.m s) s)
  a := newA (exp (subf C.m (newM C.m s))) C.a (wts (newM C.m s) s) v

/-! ## A grid point's blocks -/

/-- Row block `i` of a point's head `h`, of its column; key row `j`. -/
def rI (h : Fin 2) (i : Fin 4) : Rect S2048x256 := Rect.unit ![512 * i.val, 128 * h.val] S512x128.size (by revert h i; decide)
def rC (h : Fin 2) (i : Fin 4) : Rect S1x2x2048x1 := Rect.unit ![0, h.val, 512 * i.val, 0] S1x1x512x1.size (by revert h i; decide)
def rR (h : Fin 2) (j : Fin 4) : Rect S1x2x4x512 := Rect.unit ![0, h.val, j.val, 0] S1x1x1x512.size (by revert h j; decide)

def pcI {e : EltTy} (h : Fin 2) (i : Fin 4) (w : S512x128.Idx → Elt Ideal e) : View.Piece (Elt Ideal) S2048x256 e := ⟨rI h i, w⟩
def pcC (h : Fin 2) (i : Fin 4) (w : Col) : View.Piece (Elt Ideal) S1x2x2048x1 .f32 := ⟨rC h i, w⟩

/-- What a head of a grid point loads, by block. -/
structure Tiles where
  q : Fin 4 → Blk .bf16
  k : Fin 4 → Blk .bf16
  v : Fin 4 → Blk .bf16
  cq : Fin 4 → Col
  ck : Fin 4 → Row

namespace Tiles
variable (T : Tiles)

def s (i j : Fin 4) : Sq := tS (T.q i) (T.k j) (T.cq i) (T.ck j)
/-- The key blocks before row block `i`. -/
def before : Fin 4 → List (Fin 4) := ![[], [0], [0, 1], [0, 1, 2]]
def carry (i : Fin 4) : Carry := step ((before i).foldl (fun C j => step C (T.s i j) (T.v j)) start) (tMask (T.s i i)) (T.v i)

def out (i : Fin 4) : Blk .f32 := divf (T.carry i).a (over (T.carry i).l)
def lse (i : Fin 4) : Col := shapeCast S1x1x512x1 (addf (T.carry i).m (log (T.carry i).l)) shapeCasts_S512x1_S1x1x512x1
end Tiles

/-- The row blocks of both heads, last first. -/
def blocks : List (Fin 2 × Fin 4) := [(1, 3), (1, 2), (1, 1), (1, 0), (0, 3), (0, 2), (0, 1), (0, 0)]

section
variable (x0 x1 x2 : Vec Ideal S2048x256 .bf16) (x3 : Vec Ideal S1x2x2048x1 .f32) (x4 : Vec Ideal S1x2x4x512 .f32)

def loads (h : Fin 2) : Tiles where
  q i := View.ld x0 (rI h i)
  k i := View.ld x1 (rI h i)
  v i := View.ld x2 (rI h i)
  cq i := View.ld x3 (rC h i)
  ck j := View.ld x4 (rR h j)

theorem out5_eq : out0_5 x0 x1 x2 x3 x4 = View.canon (blocks.map fun n => pcI (e := .f32) n.1 n.2 ((loads x0 x1 x2 x3 x4 n.1).out n.2)) := by
  sl_kernel_rfl
theorem out6_eq : out0_6 x0 x1 x2 x3 x4
    = View.canon (blocks.map fun n => pcI (e := .bf16) n.1 n.2 (truncf .bf16 ((loads x0 x1 x2 x3 x4 n.1).out n.2) bitsLt_bf16_f32)) := by
  sl_kernel_rfl
theorem out7_eq : out0_7 x0 x1 x2 x3 x4 = View.canon (blocks.map fun n => pcC n.1 n.2 ((loads x0 x1 x2 x3 x4 n.1).lse n.2)) := by
  sl_kernel_rfl
end

end Cert.Fwd

end
-- ==== Proof.FwdStep.lean ====
/- The attention's forward call: a step's numbers at an index, and what a row block's carry holds after its steps. -/
module

public import proofs.«01_k».proof.Proof.FwdTile
public import proofs.«01_k».proof.Proof.TileAt

@[expose] public section

set_option maxRecDepth 16384

noncomputable section

namespace Cert.Fwd

open Cert.AttnFwdIdeal Cert.AttnFwdIdeal.Gen Idealize.ShloMosaic
open Cert.Fox (Blk Sq Col Row tS tMask Data coe_sum ofBits_negInf fold_max_real bi)

/-! ## A step at an index -/

theorem newM_at (m : One) (s : Sq) (t : Fin 512) : newM m s (ix2 t 0) = max (m (ix2 t 0)) (Finset.univ.fold max ⊥ fun u => s (ix2 t u)) := by
  pointwise [newM]
  rw [ofBits_negInf]
theorem wts_at (m : One) (s : Sq) (t u : Fin 512) : wts m s (ix2 t u) = Ideal.exp (s (ix2 t u) - m (ix2 t 0)) := by
  pointwise [wts, wide]
theorem low_at (p : Sq) (t u : Fin 512) : low p (ix2 t u) = p (ix2 t u) - p (ix2 t u) := by
  pointwise [low]
theorem onV_at (p : FVec Ideal S512x512 .bf16) (v : Blk .bf16) (t : Fin 512) (x : Fin 128) :
    onV p v (ix2 t x) = ∑ u, p (ix2 t u) * v (ix2 u x) := by
  pointwise [onV]
theorem newL_at (α l : One) (p : Sq) (t : Fin 512) : newL α l p (ix2 t 0) = α (ix2 t 0) * l (ix2 t 0) + ∑ u, p (ix2 t u) := by
  pointwise [newL]
theorem over_at (l : One) (t : Fin 512) (x : Fin 128) : over l (ix2 t x) = l (ix2 t 0) := by
  pointwise [over]
theorem newA_at (α : One) (a : Blk .f32) (p : Sq) (v : Blk .bf16) (t : Fin 512) (x : Fin 128) :
    newA α a p v (ix2 t x) = α (ix2 t 0) * a (ix2 t x)
      + ((∑ u, p (ix2 t u) * v (ix2 u x)) + ∑ u, (p (ix2 t u) - p (ix2 t u)) * v (ix2 u x)) := by
  have h1 := onV_at (truncf .bf16 p bitsLt_bf16_f32) v t x
  have h2 := onV_at (low p) v t x
  simp only [low_at] at h2
  rw [← over_at α t x, ← h2]
  refine Eq.trans ?_ (congrArg (fun y => over α (ix2 t x) * a (ix2 t x) + (y + onV (low p) v (ix2 t x))) h1)
  rfl
theorem alpha_at (m n : One) (t : Fin 512) : exp (subf m n) (ix2 t 0) = Ideal.exp (m (ix2 t 0) - n (ix2 t 0)) := rfl
theorem start_m (t : Fin 512) : start.m (ix2 t 0) = ⊥ := by
  unfold start; exact IdealRules.named_const.ideal_named_scalar _ _ _ _ rfl
theorem start_l (t : Fin 512) : start.l (ix2 t 0) = 0 := by
  unfold start; pointwise
theorem start_a (t : Fin 512) (x : Fin 128) : start.a (ix2 t x) = 0 := by
  unfold start; pointwise

/-! ## What a carry holds -/

/-- Row `t` of a carry that has run: against some real `r` in the place of the largest score, the sum `a` and the output `w` so far. -/
def Ran (M : ℝ) (C : Carry) (t : Fin 512) (a : ℝ) (w : Fin 128 → ℝ) : Prop :=
  ∃ r : ℝ, C.m (ix2 t 0) = (r : EReal) ∧ C.l (ix2 t 0) = ((Real.exp (M - r) * a : ℝ) : EReal)
    ∧ ∀ x, C.a (ix2 t x) = ((Real.exp (M - r) * w x : ℝ) : EReal)
/-- … or has not started. -/
def Holds (M : ℝ) (C : Carry) (t : Fin 512) (a : ℝ) (w : Fin 128 → ℝ) : Prop :=
  (C.m (ix2 t 0) = ⊥ ∧ C.l (ix2 t 0) = 0 ∧ (∀ x, C.a (ix2 t x) = 0) ∧ a = 0 ∧ ∀ x, w x = 0) ∨ Ran M C t a w

theorem start_holds (M : ℝ) (t : Fin 512) : Holds M start t 0 (fun _ => 0) :=
  Or.inl ⟨start_m t, start_l t, start_a t, rfl, fun _ => rfl⟩

/-- What was summed against the old largest score, against the new one. -/
theorem rescale {M : ℝ} {C : Carry} {t : Fin 512} {a : ℝ} {w : Fin 128 → ℝ} (hC : Holds M C t a w) (r0 : ℝ) :
    ∃ r : ℝ, max (C.m (ix2 t 0)) (r0 : EReal) = (r : EReal)
      ∧ Ideal.exp (C.m (ix2 t 0) - (r : EReal)) * C.l (ix2 t 0) = ((Real.exp (M - r) * a : ℝ) : EReal)
      ∧ ∀ x, Ideal.exp (C.m (ix2 t 0) - (r : EReal)) * C.a (ix2 t x) = ((Real.exp (M - r) * w x : ℝ) : EReal) := by
  rcases hC with ⟨hm, hl, ha, h0, hw⟩ | ⟨r1, hm, hl, ha⟩
  · refine ⟨r0, by rw [hm]; exact max_eq_right bot_le, ?_, fun x => ?_⟩
    · rw [hl, h0, mul_zero, mul_zero]; rfl
    · rw [ha, hw, mul_zero, mul_zero]; rfl
  · have e : ∀ y : ℝ, Real.exp (r1 - max r1 r0) * (Real.exp (M - r1) * y) = Real.exp (M - max r1 r0) * y := fun y => by
      rw [← mul_assoc, ← Real.exp_add]; congr 2; ring
    refine ⟨max r1 r0, by rw [hm]; exact (EReal.coe_strictMono.monotone.map_max (a := r1) (b := r0)).symm, ?_, fun x => ?_⟩
    · rw [hm, hl, ← EReal.coe_sub, Ideal.exp_coe, ← EReal.coe_mul, e]
    · rw [hm, ha, ← EReal.coe_sub, Ideal.exp_coe, ← EReal.coe_mul, e]

/-- A step whose scores on the row hold a real, and whose exponentials against any `r` are the reals `e` rescaled. -/
theorem step_ran {M : ℝ} {C : Carry} {t : Fin 512} {a : ℝ} {w : Fin 128 → ℝ} (hC : Holds M C t a w) (s : Sq) (v : Blk .bf16)
    (e : Fin 512 → ℝ) (V : Fin 512 → Fin 128 → ℝ) (u0 : Fin 512) (hT : ∀ u, s (ix2 t u) ≠ ⊤) (hB : s (ix2 t u0) ≠ ⊥)
    (he : ∀ (r : ℝ) u, Ideal.exp (s (ix2 t u) - (r : EReal)) = ((Real.exp (M - r) * e u : ℝ) : EReal))
    (hV : ∀ u x, v (ix2 u x) = ((V u x : ℝ) : EReal)) :
    Ran M (step C s v) t (a + ∑ u, e u) (fun x => w x + ∑ u, e u * V u x) := by
  obtain ⟨r0, hr0⟩ := fold_max_real (fun u => s (ix2 t u)) u0 hT hB
  obtain ⟨r, hr, hl, ha⟩ := rescale hC r0
  have hm : newM C.m s (ix2 t 0) = (r : EReal) := by rw [newM_at, hr0, hr]
  have hp : ∀ u, wts (newM C.m s) s (ix2 t u) = ((Real.exp (M - r) * e u : ℝ) : EReal) := fun u => by rw [wts_at, hm, he]
  refine ⟨r, hm, ?_, fun x => ?_⟩
  · show newL _ _ _ (ix2 t 0) = _
    rw [newL_at, alpha_at, hm, hl]
    simp only [hp]
    rw [← coe_sum, ← EReal.coe_add, mul_add, Finset.mul_sum]
  · show newA _ _ _ _ (ix2 t x) = _
    rw [newA_at, alpha_at, hm, ha]
    simp only [hp, hV, ← EReal.coe_sub, sub_self, EReal.coe_zero, zero_mul, Finset.sum_const_zero, add_zero, ← EReal.coe_mul]
    rw [← coe_sum, ← EReal.coe_add, mul_add, Finset.mul_sum]
    simp only [mul_assoc]

/-! ## A head's loads -/

/-- The loads of head `h` of batch `b`. -/
structure Tiles.Of (T : Tiles) (A : Data) (b : Fin 2) (h : Fin 8) : Prop where
  q : ∀ i t x, T.q i (ix2 t x) = ((A.Q b h (bi i t) x : ℝ) : EReal)
  k : ∀ i t x, T.k i (ix2 t x) = ((A.K b h (bi i t) x : ℝ) : EReal)
  v : ∀ i t x, T.v i (ix2 t x) = ((A.V b h (bi i t) x : ℝ) : EReal)
  cq : ∀ i t, T.cq i (ix4 0 0 t 0) = ((A.c b h (bi i t) : ℝ) : EReal)
  ck : ∀ j u, T.ck j (ix4 0 0 0 u) = ((A.c b h (bi j u) : ℝ) : EReal)

section
variable {T : Tiles} {A : Data} {b : Fin 2} {h : Fin 8} (hT : T.Of A b h)
include hT

theorem s_val (i j : Fin 4) (t u : Fin 512) : T.s i j (ix2 t u) = ((A.S b h (bi i t) (bi j u) : ℝ) : EReal) := by
  unfold Tiles.s Data.S
  rw [Cert.Fox.tS_at]
  simp only [hT.q, hT.k, hT.cq, hT.ck, Cert.Fox.ofBits_scl, ← EReal.coe_mul, ← coe_sum, ← EReal.coe_add, ← EReal.coe_sub]

/-- The exponential of a score against any `r`. -/
theorem exp_at {i j : Fin 4} {t u : Fin 512} (hut : bi j u ≤ bi i t) (r : ℝ) :
    Ideal.exp (((A.S b h (bi i t) (bi j u) : ℝ) : EReal) - (r : EReal))
      = ((Real.exp (A.M b h (bi i t) - r) * A.E b h (bi i t) (bi j u) : ℝ) : EReal) := by
  rw [← EReal.coe_sub, Ideal.exp_coe]
  unfold Data.E Cert.Fox.eR
  rw [if_pos hut, ← Real.exp_add]
  congr 2; ring

/-- The sums of the key block `j` against row `t` of the row block `i`. -/
def sumE (A : Data) (b : Fin 2) (h : Fin 8) (i : Fin 4) (t : Fin 512) (j : Fin 4) : ℝ := ∑ u, A.E b h (bi i t) (bi j u)
def sumV (A : Data) (b : Fin 2) (h : Fin 8) (i : Fin 4) (t : Fin 512) (x : Fin 128) (j : Fin 4) : ℝ :=
  ∑ u, A.E b h (bi i t) (bi j u) * A.V b h (bi j u) x

/-- The steps before the diagonal. -/
theorem before_holds (i : Fin 4) (t : Fin 512) (L : List (Fin 4)) (hL : ∀ j ∈ L, j < i) (C : Carry) (a : ℝ) (w : Fin 128 → ℝ)
    (hC : Holds (A.M b h (bi i t)) C t a w) :
    Holds (A.M b h (bi i t)) (L.foldl (fun C j => step C (T.s i j) (T.v j)) C) t
      (a + (L.map (sumE A b h i t)).sum) (fun x => w x + (L.map (sumV A b h i t x)).sum) := by
  induction L generalizing C a w with
  | nil => simpa using hC
  | cons j L ih =>
    have hj := hL j List.mem_cons_self
    have := ih (fun k hk => hL k (List.mem_cons_of_mem _ hk)) _ _ _
      (Or.inr (step_ran hC (T.s i j) (T.v j) (fun u => A.E b h (bi i t) (bi j u)) (fun u x => A.V b h (bi j u) x) 0
        (fun u => by rw [s_val hT]; exact EReal.coe_ne_top _) (by rw [s_val hT]; exact EReal.coe_ne_bot _)
        (fun r u => by rw [s_val hT]; exact exp_at hT (Cert.Fox.bi_lt hj t u).le r) (hT.v j)))
    simpa only [List.foldl_cons, List.map_cons, List.sum_cons, ← add_assoc, sumE, sumV] using this

/-- … and the diagonal one. -/
theorem carry_ran (i : Fin 4) (t : Fin 512) :
    Ran (A.M b h (bi i t)) (T.carry i) t (((Tiles.before i).map (sumE A b h i t)).sum + sumE A b h i t i)
      (fun x => ((Tiles.before i).map (sumV A b h i t x)).sum + sumV A b h i t x i) := by
  have hb : ∀ j ∈ Tiles.before i, j < i := by fin_cases i <;> simp [Tiles.before]
  have h0 := before_holds hT i t _ hb _ _ _ (start_holds (A.M b h (bi i t)) t)
  simp only [zero_add] at h0
  have hs : ∀ u, tMask (T.s i i) (ix2 t u) = if u ≤ t then ((A.S b h (bi i t) (bi i u) : ℝ) : EReal) else ⊥ := fun u => by
    rw [Cert.Fox.tMask_at, s_val hT]
  refine step_ran h0 (tMask (T.s i i)) (T.v i) (fun u => A.E b h (bi i t) (bi i u)) (fun u x => A.V b h (bi i u) x) t
    (fun u => ?_) ?_ (fun r u => ?_) (hT.v i)
  · rw [hs]; split
    · exact EReal.coe_ne_top _
    · exact bot_ne_top
  · rw [hs, if_pos le_rfl]; exact EReal.coe_ne_bot _
  · rw [hs]
    by_cases hut : u ≤ t
    · rw [if_pos hut]; exact exp_at hT ((Cert.Fox.bi_le i t u).mpr hut) r
    · rw [if_neg hut, EReal.bot_sub]
      unfold Data.E Cert.Fox.eR
      rw [if_neg (fun hh => hut ((Cert.Fox.bi_le i t u).mp hh)), mul_zero]; rfl

omit hT in
/-- Adding the key blocks up to the diagonal is adding over all of them. -/
theorem upto_sum (i : Fin 4) (f : Fin 4 → ℝ) (hf : ∀ j > i, f j = 0) : ((Tiles.before i).map f).sum + f i = ∑ j, f j := by
  rw [Fin.sum_univ_four]
  fin_cases i
  · have h1 := hf 1 (by decide)
    have h2 := hf 2 (by decide)
    have h3 := hf 3 (by decide)
    simp [Tiles.before, h1, h2, h3]
  · have h2 := hf 2 (by decide)
    have h3 := hf 3 (by decide)
    simp [Tiles.before, h2, h3]
  · have h3 := hf 3 (by decide)
    simp [Tiles.before, h3]; try ring
  · simp [Tiles.before]; try ring

omit hT in
theorem E_above {i j : Fin 4} (hij : i < j) (t u : Fin 512) : A.E b h (bi i t) (bi j u) = 0 := by
  unfold Data.E Cert.Fox.eR; rw [if_neg (not_le.mpr (Cert.Fox.bi_lt hij u t))]

theorem carry_val (i : Fin 4) (t : Fin 512) :
    Ran (A.M b h (bi i t)) (T.carry i) t (A.L b h (bi i t)) (fun x => ∑ u, A.E b h (bi i t) u * A.V b h u x) := by
  have hE : ((Tiles.before i).map (sumE A b h i t)).sum + sumE A b h i t i = A.L b h (bi i t) := by
    rw [upto_sum i (sumE A b h i t) (fun j hj => Finset.sum_eq_zero fun u _ => E_above hj t u)]
    exact (Cert.Fox.sum_blocks (fun u => A.E b h (bi i t) u)).symm
  have hV : ∀ x, ((Tiles.before i).map (sumV A b h i t x)).sum + sumV A b h i t x i = ∑ u, A.E b h (bi i t) u * A.V b h u x := fun x => by
    rw [upto_sum i (sumV A b h i t x) (fun j hj => Finset.sum_eq_zero fun u _ => by rw [E_above hj t u, zero_mul])]
    exact (Cert.Fox.sum_blocks (fun u => A.E b h (bi i t) u * A.V b h u x)).symm
  have := carry_ran hT i t
  simpa only [hE, hV] using this

theorem out_val (i : Fin 4) (t : Fin 512) (x : Fin 128) :
    T.out i (ix2 t x) = ((∑ u, A.P b h (bi i t) u * A.V b h u x : ℝ) : EReal) := by
  obtain ⟨r, -, hl, ha⟩ := carry_val hT i t
  have e := over_at (T.carry i).l t x
  show Ideal.div ((T.carry i).a (ix2 t x)) (over (T.carry i).l (ix2 t x)) = _
  have hL := A.L_ne b h (bi i t)
  have hr := (Real.exp_pos (A.M b h (bi i t) - r)).ne'
  rw [e, hl, ha, Cert.Fox.div_real _ _ (mul_ne_zero hr hL), mul_div_mul_left _ _ hr, Finset.sum_div]
  exact congrArg _ (Finset.sum_congr rfl fun u _ => by unfold Data.P Cert.Fox.pR Data.E Data.L; ring)

theorem lse_val (i : Fin 4) (t : Fin 512) :
    T.lse i (ix4 0 0 t 0) = ((A.M b h (bi i t) + Real.log (A.L b h (bi i t)) : ℝ) : EReal) := by
  obtain ⟨r, hm, hl, -⟩ := carry_val hT i t
  have e : T.lse i (ix4 0 0 t 0) = (T.carry i).m (ix2 t 0) + Ideal.log ((T.carry i).l (ix2 t 0)) := by
    unfold Tiles.lse
    generalize T.carry i = C
    pointwise
  have hL : 0 < A.L b h (bi i t) := Cert.Fox.lR_pos (A.S b h) (A.M b h) _
  have hr := Real.exp_pos (A.M b h (bi i t) - r)
  rw [e, hm, hl, Ideal.log_coe, if_neg (not_le.mpr (mul_pos hr hL)), ← EReal.coe_add, Real.log_mul hr.ne' hL.ne', Real.log_exp]
  congr 1; ring
end

end Cert.Fwd

end
-- ==== Proof.FwdBlock.lean ====
/- The attention's forward call: what a grid point reads of the arguments and leaves in the results' blocks. -/
module

public import proofs.«01_k».proof.Proof.FwdStep
public import proofs.«01_k».proof.Proof.Block

@[expose] public section

set_option maxRecDepth 16384

noncomputable section

namespace Cert.Fwd

open Cert.AttnFwdIdeal Cert.AttnFwdIdeal.Gen Idealize.ShloMosaic Idealize.ShloMosaic.TcCoe
open Cert.Fox (Blk Col Row Data bi bi_surj rowi coli colz)

/-! ## A block's row blocks -/

/-- Column `x` of a point's head `h`. -/
def cx (h : Fin 2) (x : Fin 128) : Fin 256 := ⟨128 * h.val + x.val, by omega⟩

theorem rI_emb (h : Fin 2) (i : Fin 4) (t : Fin 512) (x : Fin 128) : (rI h i).emb (ix2 t x) = ix2 (bi i t) (cx h x) :=
  Rect.emb_eq_of_coords (rI h i) (x := ix2 t x) (y := ix2 (bi i t) (cx h x)) fun a => by
    fin_cases a
    · exact congrArg (512 * i.val + ·) (Nat.one_mul t.val).symm
    · exact congrArg (128 * h.val + ·) (Nat.one_mul x.val).symm
theorem rC_emb (h : Fin 2) (i : Fin 4) (t : Fin 512) : (rC h i).emb (ix4 0 0 t 0) = ix4 0 h (bi i t) 0 :=
  Rect.emb_eq_of_coords (rC h i) (x := ix4 0 0 t 0) (y := ix4 0 h (bi i t) 0) fun a => by
    fin_cases a
    · rfl
    · rfl
    · exact congrArg (512 * i.val + ·) (Nat.one_mul t.val).symm
    · rfl
theorem rR_emb (h : Fin 2) (j : Fin 4) (u : Fin 512) : (rR h j).emb (ix4 0 0 0 u) = ix4 0 h j u :=
  Rect.emb_eq_of_coords (rR h j) (x := ix4 0 0 0 u) (y := ix4 0 h j u) fun a => by
    fin_cases a
    · rfl
    · rfl
    · rfl
    · exact (Nat.zero_add _).symm.trans (congrArg (0 + ·) (Nat.one_mul u.val).symm)

theorem pcI_miss {e : EltTy} {h h' : Fin 2} {i i' : Fin 4} (hne : ¬(h' = h ∧ i' = i)) (w : S512x128.Idx → Elt Ideal e)
    (L : List (View.Piece (Elt Ideal) S2048x256 e)) (t : Fin 512) (x : Fin 128) :
    View.canon (pcI h' i' w :: L) (ix2 (bi i t) (cx h x)) = View.canon L (ix2 (bi i t) (cx h x)) := by
  refine View.canon_cons_of_not_mem (pcI h' i' w) L ?_
  have h1 : ((ix2 (bi i t) (cx h x) : S2048x256.Idx) 0).val = 512 * i.val + t.val := rfl
  have h2 : ((ix2 (bi i t) (cx h x) : S2048x256.Idx) 1).val = 128 * h.val + x.val := rfl
  by_cases hi : i' = i
  · have h3 : h'.val ≠ h.val := fun hh => hne ⟨Fin.ext hh, hi⟩
    exact Rect.not_mem_set_of_axis (rI h' i') (ix2 (bi i t) (cx h x)) 1 (128 * h'.val) 128 rfl rfl rfl (by rw [h2]; omega)
  · have h3 : i'.val ≠ i.val := fun hh => hi (Fin.ext hh)
    exact Rect.not_mem_set_of_axis (rI h' i') (ix2 (bi i t) (cx h x)) 0 (512 * i'.val) 512 rfl rfl rfl (by rw [h1]; omega)
theorem pcC_miss {h h' : Fin 2} {i i' : Fin 4} (hne : ¬(h' = h ∧ i' = i)) (w : Col) (L : List (View.Piece (Elt Ideal) S1x2x2048x1 .f32)) (t : Fin 512) :
    View.canon (pcC h' i' w :: L) (ix4 0 h (bi i t) 0) = View.canon L (ix4 0 h (bi i t) 0) := by
  refine View.canon_cons_of_not_mem (pcC h' i' w) L ?_
  have h1 : ((ix4 0 h (bi i t) 0 : S1x2x2048x1.Idx) 2).val = 512 * i.val + t.val := rfl
  have h2 : ((ix4 0 h (bi i t) 0 : S1x2x2048x1.Idx) 1).val = h.val := rfl
  by_cases hi : i' = i
  · have h3 : h'.val ≠ h.val := fun hh => hne ⟨Fin.ext hh, hi⟩
    exact Rect.not_mem_set_of_axis (rC h' i') (ix4 0 h (bi i t) 0) 1 h'.val 1 rfl rfl rfl (by rw [h2]; omega)
  · have h3 : i'.val ≠ i.val := fun hh => hi (Fin.ext hh)
    exact Rect.not_mem_set_of_axis (rC h' i') (ix4 0 h (bi i t) 0) 2 (512 * i'.val) 512 rfl rfl rfl (by rw [h1]; omega)

/-- Pieces of row blocks, read at the row block of one of them. -/
theorem canon_io {e : EltTy} (P : Fin 2 → Fin 4 → S512x128.Idx → Elt Ideal e) (h : Fin 2) (i : Fin 4) (t : Fin 512) (x : Fin 128) :
    ∀ (L : List (Fin 2 × Fin 4)) (_ : (h, i) ∈ L),
      View.canon (L.map fun n => pcI (e := e) n.1 n.2 (P n.1 n.2)) (ix2 (bi i t) (cx h x)) = P h i (ix2 t x)
  | (h', i') :: L, hm => by
    rw [List.map_cons]
    by_cases hn : h' = h ∧ i' = i
    · obtain ⟨rfl, rfl⟩ := hn
      exact Cert.Fox.canon_hit (rI h' i') (P h' i') _ (ix2 t x) _ (rI_emb h' i' t x)
    · rw [pcI_miss hn]
      exact canon_io P h i t x L ((List.mem_cons.mp hm).resolve_left fun hh => hn ⟨(congrArg Prod.fst hh).symm, (congrArg Prod.snd hh).symm⟩)
theorem canon_col (P : Fin 2 → Fin 4 → Col) (h : Fin 2) (i : Fin 4) (t : Fin 512) :
    ∀ (L : List (Fin 2 × Fin 4)) (_ : (h, i) ∈ L),
      View.canon (L.map fun n => pcC n.1 n.2 (P n.1 n.2)) (ix4 0 h (bi i t) 0) = P h i (ix4 0 0 t 0)
  | (h', i') :: L, hm => by
    rw [List.map_cons]
    by_cases hn : h' = h ∧ i' = i
    · obtain ⟨rfl, rfl⟩ := hn
      have e := Cert.Fox.canon_hit (rC h' i') (P h' i') (L.map fun n => pcC n.1 n.2 (P n.1 n.2)) (ix4 0 0 t 0) (ix4 0 h' (bi i' t) 0) (rC_emb h' i' t)
      exact e
    · rw [pcC_miss hn]
      exact canon_col P h i t L ((List.mem_cons.mp hm).resolve_left fun hh => hn ⟨(congrArg Prod.fst hh).symm, (congrArg Prod.snd hh).symm⟩)

theorem blocks_all : ∀ (h : Fin 2) (i : Fin 4), (h, i) ∈ blocks := by decide

section
variable (x0 x1 x2 : Vec Ideal S2048x256 .bf16) (x3 : Vec Ideal S1x2x2048x1 .f32) (x4 : Vec Ideal S1x2x4x512 .f32)
  {A : Data} {b : Fin 2} (k : Fin 2) {h : Fin 8}

theorem loads_of
    (h0 : ∀ t x, x0 (ix2 t (cx k x)) = ((A.Q b h t x : ℝ) : EReal)) (h1 : ∀ t x, x1 (ix2 t (cx k x)) = ((A.K b h t x : ℝ) : EReal))
    (h2 : ∀ t x, x2 (ix2 t (cx k x)) = ((A.V b h t x : ℝ) : EReal)) (h3 : ∀ t, x3 (ix4 0 k t 0) = ((A.c b h t : ℝ) : EReal))
    (h4 : ∀ j u, x4 (ix4 0 k j u) = ((A.c b h (bi j u) : ℝ) : EReal)) : (loads x0 x1 x2 x3 x4 k).Of A b h where
  q i t x := (congrArg x0 (rI_emb k i t x)).trans (h0 _ _)
  k i t x := (congrArg x1 (rI_emb k i t x)).trans (h1 _ _)
  v i t x := (congrArg x2 (rI_emb k i t x)).trans (h2 _ _)
  cq i t := (congrArg x3 (rC_emb k i t)).trans (h3 _)
  ck j u := (congrArg x4 (rR_emb k j u)).trans (h4 _ _)

variable (hT : (loads x0 x1 x2 x3 x4 k).Of A b h)
include hT

theorem out5_val (t : Fin 2048) (x : Fin 128) : out0_5 x0 x1 x2 x3 x4 (ix2 t (cx k x)) = ((∑ u, A.P b h t u * A.V b h u x : ℝ) : EReal) := by
  obtain ⟨i, t, rfl⟩ := bi_surj t
  rw [out5_eq]
  exact (canon_io (e := .f32) (fun n i => (loads x0 x1 x2 x3 x4 n).out i) k i t x blocks (blocks_all k i)).trans (out_val hT i t x)
theorem out6_val (t : Fin 2048) (x : Fin 128) : out0_6 x0 x1 x2 x3 x4 (ix2 t (cx k x)) = ((∑ u, A.P b h t u * A.V b h u x : ℝ) : EReal) := by
  obtain ⟨i, t, rfl⟩ := bi_surj t
  rw [out6_eq]
  exact (canon_io (e := .bf16) (fun n i => truncf .bf16 ((loads x0 x1 x2 x3 x4 n).out i) bitsLt_bf16_f32) k i t x blocks (blocks_all k i)).trans
    (out_val hT i t x)
theorem out7_val (t : Fin 2048) : out0_7 x0 x1 x2 x3 x4 (ix4 0 k t 0) = ((A.M b h t + Real.log (A.L b h t) : ℝ) : EReal) := by
  obtain ⟨i, t, rfl⟩ := bi_surj t
  rw [out7_eq, ← lse_val hT i t]
  exact canon_col (fun n i => (loads x0 x1 x2 x3 x4 n).lse i) k i t blocks (blocks_all k i)
end

/-! ## A grid point's place in the arrays -/

/-- The grid point of batch `b` and pair of heads `g`; the pair's head `k`. -/
def pt (b : Fin 2) (g : Fin 4) : Fin cfg0.N := ⟨b.val * 4 + g.val, by show _ < 8; omega⟩
def hd (g : Fin 4) (k : Fin 2) : Fin 8 := ⟨2 * g.val + k.val, by omega⟩
theorem hd_surj (h : Fin 8) : ∃ g k, h = hd g k :=
  ⟨⟨h.val / 2, by omega⟩, ⟨h.val % 2, by omega⟩, Fin.ext (by simp only [hd]; omega)⟩

theorem idx_io : ∀ (b : Fin 2) (g : Fin 4),
    (win0_0.index (pt b g) (0 : Fin 2) = b.val ∧ win0_0.index (pt b g) (1 : Fin 2) = g.val)
    ∧ (win0_1.index (pt b g) (0 : Fin 2) = b.val ∧ win0_1.index (pt b g) (1 : Fin 2) = 4 + g.val)
    ∧ (win0_2.index (pt b g) (0 : Fin 2) = b.val ∧ win0_2.index (pt b g) (1 : Fin 2) = 8 + g.val)
    ∧ (win0_5.index (pt b g) (0 : Fin 2) = b.val ∧ win0_5.index (pt b g) (1 : Fin 2) = g.val)
    ∧ (win0_6.index (pt b g) (0 : Fin 2) = b.val ∧ win0_6.index (pt b g) (1 : Fin 2) = g.val) := by decide +kernel

theorem idx_thin : ∀ (b : Fin 2) (g : Fin 4) (a : Fin 4),
    win0_3.index (pt b g) a = (![b.val, g.val, 0, 0] : Fin 4 → ℕ) a ∧ win0_4.index (pt b g) a = (![b.val, g.val, 0, 0] : Fin 4 → ℕ) a
    ∧ win0_7.index (pt b g) a = (![b.val, g.val, 0, 0] : Fin 4 → ℕ) a := by decide +kernel

theorem read0 (X : FVec Ideal S4096x3072 .bf16) (b : Fin 2) (g : Fin 4) (k : Fin 2) (t : Fin 2048) (x : Fin 128) :
    ((cfg0.win 0).blk (pt b g)).view.read (Elt Ideal) X (ix2 t (cx k x)) = X (ix2 (rowi b t) (colz (hd g k).val (by omega) x)) := by
  have e := (idx_io b g).1
  refine congrArg X (funext fun a => Fin.ext ?_)
  match a with
  | ⟨0, _⟩ => show win0_0.index (pt b g) (0 : Fin 2) * 2048 + 1 * t.val = b.val * 2048 + t.val; omega
  | ⟨1, _⟩ => show win0_0.index (pt b g) (1 : Fin 2) * 256 + 1 * (128 * k.val + x.val) = (2 * g.val + k.val) * 128 + x.val; omega
theorem read1 (X : FVec Ideal S4096x3072 .bf16) (b : Fin 2) (g : Fin 4) (k : Fin 2) (t : Fin 2048) (x : Fin 128) :
    ((cfg0.win 1).blk (pt b g)).view.read (Elt Ideal) X (ix2 t (cx k x)) = X (ix2 (rowi b t) (colz (8 + (hd g k).val) (by omega) x)) := by
  have e := (idx_io b g).2.1
  refine congrArg X (funext fun a => Fin.ext ?_)
  match a with
  | ⟨0, _⟩ => show win0_1.index (pt b g) (0 : Fin 2) * 2048 + 1 * t.val = b.val * 2048 + t.val; omega
  | ⟨1, _⟩ => show win0_1.index (pt b g) (1 : Fin 2) * 256 + 1 * (128 * k.val + x.val) = (8 + (2 * g.val + k.val)) * 128 + x.val; omega
theorem read2 (X : FVec Ideal S4096x3072 .bf16) (b : Fin 2) (g : Fin 4) (k : Fin 2) (t : Fin 2048) (x : Fin 128) :
    ((cfg0.win 2).blk (pt b g)).view.read (Elt Ideal) X (ix2 t (cx k x)) = X (ix2 (rowi b t) (colz (16 + (hd g k).val) (by omega) x)) := by
  have e := (idx_io b g).2.2.1
  refine congrArg X (funext fun a => Fin.ext ?_)
  match a with
  | ⟨0, _⟩ => show win0_2.index (pt b g) (0 : Fin 2) * 2048 + 1 * t.val = b.val * 2048 + t.val; omega
  | ⟨1, _⟩ => show win0_2.index (pt b g) (1 : Fin 2) * 256 + 1 * (128 * k.val + x.val) = (16 + (2 * g.val + k.val)) * 128 + x.val; omega
theorem read5 (X : FVec Ideal S4096x1024 .f32) (b : Fin 2) (g : Fin 4) (k : Fin 2) (t : Fin 2048) (x : Fin 128) :
    ((cfg0.win 5).blk (pt b g)).view.read (Elt Ideal) X (ix2 t (cx k x)) = X (ix2 (rowi b t) (coli (hd g k) x)) := by
  have e := (idx_io b g).2.2.2.1
  refine congrArg X (funext fun a => Fin.ext ?_)
  match a with
  | ⟨0, _⟩ => show win0_5.index (pt b g) (0 : Fin 2) * 2048 + 1 * t.val = b.val * 2048 + t.val; omega
  | ⟨1, _⟩ => show win0_5.index (pt b g) (1 : Fin 2) * 256 + 1 * (128 * k.val + x.val) = (2 * g.val + k.val) * 128 + x.val; omega
theorem read6 (X : FVec Ideal S4096x1024 .bf16) (b : Fin 2) (g : Fin 4) (k : Fin 2) (t : Fin 2048) (x : Fin 128) :
    ((cfg0.win 6).blk (pt b g)).view.read (Elt Ideal) X (ix2 t (cx k x)) = X (ix2 (rowi b t) (coli (hd g k) x)) := by
  have e := (idx_io b g).2.2.2.2
  refine congrArg X (funext fun a => Fin.ext ?_)
  match a with
  | ⟨0, _⟩ => show win0_6.index (pt b g) (0 : Fin 2) * 2048 + 1 * t.val = b.val * 2048 + t.val; omega
  | ⟨1, _⟩ => show win0_6.index (pt b g) (1 : Fin 2) * 256 + 1 * (128 * k.val + x.val) = (2 * g.val + k.val) * 128 + x.val; omega
theorem read3 (X : FVec Ideal S2x8x2048x1 .f32) (b : Fin 2) (g : Fin 4) (k : Fin 2) (t : Fin 2048) :
    ((cfg0.win 3).blk (pt b g)).view.read (Elt Ideal) X (ix4 0 k t 0) = X (ix4 b (hd g k) t 0) := by
  have e := fun a => (idx_thin b g a).1
  refine congrArg X (funext fun a => Fin.ext ?_)
  match a with
  | ⟨0, _⟩ => exact (congrArg (· * 1 + 1 * 0) (e 0)).trans (by show b.val * 1 + 1 * 0 = b.val; omega)
  | ⟨1, _⟩ => exact (congrArg (· * 2 + 1 * k.val) (e 1)).trans (by show g.val * 2 + 1 * k.val = 2 * g.val + k.val; omega)
  | ⟨2, _⟩ => exact (congrArg (· * 2048 + 1 * t.val) (e 2)).trans (by show 0 * 2048 + 1 * t.val = t.val; omega)
  | ⟨3, _⟩ => exact (congrArg (· * 1 + 1 * 0) (e 3)).trans (by show 0 * 1 + 1 * 0 = 0; omega)
theorem read7 (X : FVec Ideal S2x8x2048x1 .f32) (b : Fin 2) (g : Fin 4) (k : Fin 2) (t : Fin 2048) :
    ((cfg0.win 7).blk (pt b g)).view.read (Elt Ideal) X (ix4 0 k t 0) = X (ix4 b (hd g k) t 0) := by
  have e := fun a => (idx_thin b g a).2.2
  refine congrArg X (funext fun a => Fin.ext ?_)
  match a with
  | ⟨0, _⟩ => exact (congrArg (· * 1 + 1 * 0) (e 0)).trans (by show b.val * 1 + 1 * 0 = b.val; omega)
  | ⟨1, _⟩ => exact (congrArg (· * 2 + 1 * k.val) (e 1)).trans (by show g.val * 2 + 1 * k.val = 2 * g.val + k.val; omega)
  | ⟨2, _⟩ => exact (congrArg (· * 2048 + 1 * t.val) (e 2)).trans (by show 0 * 2048 + 1 * t.val = t.val; omega)
  | ⟨3, _⟩ => exact (congrArg (· * 1 + 1 * 0) (e 3)).trans (by show 0 * 1 + 1 * 0 = 0; omega)
theorem read4 (X : FVec Ideal S2x8x4x512 .f32) (b : Fin 2) (g : Fin 4) (k : Fin 2) (j : Fin 4) (u : Fin 512) :
    ((cfg0.win 4).blk (pt b g)).view.read (Elt Ideal) X (ix4 0 k j u) = X (ix4 b (hd g k) j u) := by
  have e := fun a => (idx_thin b g a).2.1
  refine congrArg X (funext fun a => Fin.ext ?_)
  match a with
  | ⟨0, _⟩ => exact (congrArg (· * 1 + 1 * 0) (e 0)).trans (by show b.val * 1 + 1 * 0 = b.val; omega)
  | ⟨1, _⟩ => exact (congrArg (· * 2 + 1 * k.val) (e 1)).trans (by show g.val * 2 + 1 * k.val = 2 * g.val + k.val; omega)
  | ⟨2, _⟩ => exact (congrArg (· * 4 + 1 * j.val) (e 2)).trans (by show 0 * 4 + 1 * j.val = j.val; omega)
  | ⟨3, _⟩ => exact (congrArg (· * 512 + 1 * u.val) (e 3)).trans (by show 0 * 512 + 1 * u.val = u.val; omega)

/-! ## The blocks a grid point reads -/

section
variable (m : (ℓ : Loc nD τ sig) → Buf (Elt Ideal) ℓ) (c : Dev nD)

theorem V_cq : V m c main_v0 = Cert.Fox.thin (m ((c : Thread nD τ).loc main_arg1)) := by
  unfold V
  simp only [hostOps0, List.flatten_cons, List.flatten_nil, List.append_nil, List.cons_append, List.nil_append, StableHlo.TRef.unary, StableHlo.TRef.toBuf, StableHlo.TRef.ofBuf, cast_eq]
  after_results_simp <;> rfl
theorem V_ck : V m c main_v2 = Cert.Fox.rows (m ((c : Thread nD τ).loc main_arg1)) := by
  unfold V
  simp only [hostOps0, List.flatten_cons, List.flatten_nil, List.append_nil, List.cons_append, List.nil_append, StableHlo.TRef.unary, StableHlo.TRef.toBuf, StableHlo.TRef.ofBuf, cast_eq]
  after_results_simp <;> rfl

variable {A : Data} {r : FVec Ideal Cert.ReferenceIdeal.S4096x1024 .bf16}
  (hA : A.Of (m ((c : Thread nD τ).loc main_arg0)) (m ((c : Thread nD τ).loc main_arg1)) r)
include hA

theorem tiles_of (b : Fin 2) (g : Fin 4) (k : Fin 2) :
    (loads (iblk m c 0 (pt b g)) (iblk m c 1 (pt b g)) (iblk m c 2 (pt b g)) (iblk m c 3 (pt b g)) (iblk m c 4 (pt b g)) k).Of A b (hd g k) := by
  refine loads_of _ _ _ _ _ k (fun t x => ?_) (fun t x => ?_) (fun t x => ?_) (fun t => ?_) (fun j u => ?_)
  · refine (read0 (V m c main_arg0) b g k t x).trans ?_
    rw [V_main_arg0]
    exact hA.hz _ _
  · refine (read1 (V m c main_arg0) b g k t x).trans ?_
    rw [V_main_arg0]
    refine (hA.hz _ _).trans (congrArg (fun j => ((A.z (rowi b t) j : ℝ) : EReal)) (Fin.ext ?_))
    show (8 + (hd g k).val) * 128 + x.val = 1024 + ((hd g k).val * 128 + x.val); omega
  · refine (read2 (V m c main_arg0) b g k t x).trans ?_
    rw [V_main_arg0]
    refine (hA.hz _ _).trans (congrArg (fun j => ((A.z (rowi b t) j : ℝ) : EReal)) (Fin.ext ?_))
    show (16 + (hd g k).val) * 128 + x.val = 2048 + ((hd g k).val * 128 + x.val); omega
  · refine (read3 (V m c main_v0) b g k t).trans ?_
    rw [V_cq, Cert.Fox.thin_at]
    exact hA.hc b _ t
  · refine (read4 (V m c main_v2) b g k j u).trans ?_
    rw [V_ck, Cert.Fox.rows_at]
    exact hA.hc b _ _
end

end Cert.Fwd

end
-- ==== Proof.FwdMeet.lean ====
/- The attention's forward call: the three arrays after the run are the reference's. -/
module

public import proofs.«01_k».proof.Proof.FwdFrames
public import proofs.«01_k».proof.Proof.FwdBlock
public import proofs.«01_k».proof.Proof.Results
public import proofs.«01_k».proof.Proof.Finite

@[expose] public section

set_option maxRecDepth 16384

noncomputable section

namespace Cert.Fwd

open Idealize.ShloMosaic Idealize.ShloMosaic.TcCoe Idealize.SL.Sem
open Cert.Fox (Data Lines Thin attOf hLse vh rE rL)

/-! ## The reference's three arrays at an index -/

/-- The attention's output and the log-sum-exp, from the two arguments. -/
def att (z : FVec Ideal Cert.ReferenceIdeal.S4096x3072 .bf16) (l : Lines) : FVec Ideal Cert.ReferenceIdeal.S4096x1024 .f32 := attOf (vh z) (rE z l) (rL z l)

section
variable {A : Data} {z : FVec Ideal Cert.ReferenceIdeal.S4096x3072 .bf16} {l : Lines} {r : FVec Ideal Cert.ReferenceIdeal.S4096x1024 .bf16} (hA : A.Of z l r)
include hA

theorem att_val (b : Fin 2) (t : Fin 2048) (h : Fin 8) (x : Fin 128) :
    att z l (ix2 (Cert.Fox.rowi b t) (Cert.Fox.coli h x)) = ((∑ u, A.P b h t u * A.V b h u x : ℝ) : EReal) := by
  unfold att
  rw [Cert.Fox.attOf_at]
  simp only [Cert.Fox.vh_val hA, Cert.Fox.rE_val hA, Cert.Fox.rL_val hA, fun u => Cert.Fox.div_real (A.E b h t u) _ (A.L_ne b h t), ← EReal.coe_mul,
    ← Cert.Fox.coe_sum]
  exact congrArg _ (Finset.sum_congr rfl fun u _ => mul_comm _ _)
end

section
open Cert.AttnFwdReferenceIdeal
variable (m' : (ℓ : Loc nD τ sig) → Buf (Elt Ideal) ℓ) (c : Dev nD)

theorem ref0_eq : Value.res_out0 m' c = att (m' ((c.tc : Thread nD τ).loc main_arg0)) (m' ((c.tc : Thread nD τ).loc main_arg1)) := rfl
theorem ref1_eq : Value.res_out1 m' c
    = truncf .bf16 (att (m' ((c.tc : Thread nD τ).loc main_arg0)) (m' ((c.tc : Thread nD τ).loc main_arg1))) Gen.facts.bitsLt_bf16_f32 := rfl
theorem ref2_eq : Value.res_out2 m' c = hLse (m' ((c.tc : Thread nD τ).loc main_arg0)) (m' ((c.tc : Thread nD τ).loc main_arg1)) := rfl
end

/-! ## The kernel's -/

section
open Cert.AttnFwdIdeal Cert.AttnFwdIdeal.Gen
variable (m : (ℓ : Loc nD τ sig) → Buf (Elt Ideal) ℓ) (c : Dev nD) {A : Data} {r : FVec Ideal Cert.ReferenceIdeal.S4096x1024 .bf16}
  (hA : A.Of (m ((c : Thread nD τ).loc main_arg0)) (m ((c : Thread nD τ).loc main_arg1)) r)
include hA

theorem final5 : (dats m 0 c).arrAt 5 cfg0.N = att (m ((c : Thread nD τ).loc main_arg0)) (m ((c : Thread nD τ).loc main_arg1)) := by
  funext y
  obtain ⟨b, t, h, x, rfl⟩ := Cert.Fox.io_surj y
  obtain ⟨g, k, rfl⟩ := hd_surj h
  refine (read5 _ b g k t x).symm.trans ?_
  have e := congrFun (Value.blocks5 m c (pt b g) (flush0_5 _)) (ix2 t (cx k x))
  refine e.trans ?_
  rw [Value.flushed5]
  refine Eq.trans ?_ (att_val hA b t (hd g k) x).symm
  exact out5_val (iblk m c 0 (pt b g)) (iblk m c 1 (pt b g)) (iblk m c 2 (pt b g)) (iblk m c 3 (pt b g)) (iblk m c 4 (pt b g)) k (tiles_of m c hA b g k) t x
theorem final6 : (dats m 0 c).arrAt 6 cfg0.N
    = truncf .bf16 (att (m ((c : Thread nD τ).loc main_arg0)) (m ((c : Thread nD τ).loc main_arg1))) bitsLt_bf16_f32 := by
  funext y
  obtain ⟨b, t, h, x, rfl⟩ := Cert.Fox.io_surj y
  obtain ⟨g, k, rfl⟩ := hd_surj h
  refine (read6 _ b g k t x).symm.trans ?_
  have e := congrFun (Value.blocks6 m c (pt b g) (flush0_6 _)) (ix2 t (cx k x))
  refine e.trans ?_
  rw [Value.flushed6]
  refine Eq.trans ?_ (att_val hA b t (hd g k) x).symm
  exact out6_val (iblk m c 0 (pt b g)) (iblk m c 1 (pt b g)) (iblk m c 2 (pt b g)) (iblk m c 3 (pt b g)) (iblk m c 4 (pt b g)) k (tiles_of m c hA b g k) t x
theorem final7 : (dats m 0 c).arrAt 7 cfg0.N = hLse (m ((c : Thread nD τ).loc main_arg0)) (m ((c : Thread nD τ).loc main_arg1)) := by
  funext y
  obtain ⟨b, h, t, rfl⟩ := Cert.Fox.col_surj y
  obtain ⟨g, k, rfl⟩ := hd_surj h
  refine (read7 _ b g k t).symm.trans ?_
  have e := congrFun (Value.blocks7 m c (pt b g) (flush0_7 _)) (ix4 0 k t 0)
  refine e.trans ?_
  rw [Value.flushed7]
  refine Eq.trans ?_ (Cert.Fox.hLse_val hA b (hd g k) t).symm
  exact out7_val (iblk m c 0 (pt b g)) (iblk m c 1 (pt b g)) (iblk m c 2 (pt b g)) (iblk m c 3 (pt b g)) (iblk m c 4 (pt b g)) k (tiles_of m c hA b g k) t
end

/-! ## The precondition -/

instance finite_facts : Cert.Pre_finite_pair.Facts where
  bitsLt_bf16_f32 := by decide
  bcast_S_S4096x3072 := by decide
  reducesTo_S4096x3072_S_d0_1 := by decide
  h_S_ := by decide
  bcast_S_S2x8x2048 := by decide
  reducesTo_S2x8x2048_S_d0_1_2 := by decide

theorem data_of (z : FVec Ideal Cert.ReferenceIdeal.S4096x3072 .bf16) (l : Lines) (h : Cert.Pre_finite_pair.fn (F := Ideal) z l = fun _ => 1#1) :
    ∃ A : Data, A.Of z l (fun _ => ((0 : ℝ) : EReal)) := by
  have h1 := congrFun h (Shape.Idx.first (s := Cert.Pre_finite_pair.S_) (by decide))
  unfold Cert.Pre_finite_pair.fn at h1
  obtain ⟨h2, h3⟩ := IntOp.andi_eq_one.1 h1
  haveI : Subsingleton Cert.Pre_finite_pair.S_.Idx := ⟨fun a b => funext fun x => x.elim0⟩
  exact ⟨⟨fun i j => (z (ix2 i j)).toReal, fun b h t => (l (ix3 b h t)).toReal, fun _ _ => 0⟩,
    fun _ _ => Cert.Fox.real_of_abs _ (Host.reduce_andi_all _ _ _ _ _ h2 _),
    fun _ _ _ => Cert.Fox.real_of_abs _ (Host.reduce_andi_all _ _ _ _ _ h3 _), fun _ _ => rfl⟩

/-! ## The claim -/

section
variable (m : (ℓ : Loc Cert.AttnFwdIdeal.nD Cert.AttnFwdIdeal.τ Cert.AttnFwdIdeal.sig) → Buf (Elt Ideal) ℓ)
  (m' : (ℓ : Loc Cert.AttnFwdReferenceIdeal.nD Cert.AttnFwdReferenceIdeal.τ Cert.AttnFwdReferenceIdeal.sig) → Buf (Elt Ideal) ℓ)
  (c : Dev Cert.AttnFwdIdeal.nD) {z : FVec Ideal Cert.ReferenceIdeal.S4096x3072 .bf16} {l : Lines} {A : Data}
  {r : FVec Ideal Cert.ReferenceIdeal.S4096x1024 .bf16} (hA : A.Of z l r)
  (k0 : m ((c.tc : Thread Cert.AttnFwdIdeal.nD Cert.AttnFwdIdeal.τ).loc Cert.AttnFwdIdeal.main_arg0) = z)
  (k1 : m ((c.tc : Thread Cert.AttnFwdIdeal.nD Cert.AttnFwdIdeal.τ).loc Cert.AttnFwdIdeal.main_arg1) = l)
  (r0 : m' ((c.tc : Thread Cert.AttnFwdReferenceIdeal.nD Cert.AttnFwdReferenceIdeal.τ).loc Cert.AttnFwdReferenceIdeal.main_arg0) = z)
  (r1 : m' ((c.tc : Thread Cert.AttnFwdReferenceIdeal.nD Cert.AttnFwdReferenceIdeal.τ).loc Cert.AttnFwdReferenceIdeal.main_arg1) = l)

section
include hA k0 k1
theorem kern0 : (Cert.AttnFwdIdeal.Gen.dats m 0 c).arrAt 5 Cert.AttnFwdIdeal.cfg0.N = att z l := by
  subst k0 k1; exact final5 m c hA
theorem kern1 : (Cert.AttnFwdIdeal.Gen.dats m 0 c).arrAt 6 Cert.AttnFwdIdeal.cfg0.N = truncf .bf16 (att z l) Cert.AttnFwdIdeal.Gen.facts.bitsLt_bf16_f32 := by
  subst k0 k1; exact final6 m c hA
theorem kern2 : (Cert.AttnFwdIdeal.Gen.dats m 0 c).arrAt 7 Cert.AttnFwdIdeal.cfg0.N = hLse z l := by
  subst k0 k1; exact final7 m c hA
end

section
include r0 r1
theorem ref0 : Cert.AttnFwdReferenceIdeal.Value.res_out0 m' c = att z l := by
  subst r0 r1; exact ref0_eq m' c
theorem ref1 : Cert.AttnFwdReferenceIdeal.Value.res_out1 m' c = truncf .bf16 (att z l) Cert.AttnFwdIdeal.Gen.facts.bitsLt_bf16_f32 := by
  subst r0 r1; exact ref1_eq m' c
theorem ref2 : Cert.AttnFwdReferenceIdeal.Value.res_out2 m' c = hLse z l := by
  subst r0 r1; exact ref2_eq m' c
end
end

theorem same : Cert.algebraic_AttnFwdIdeal_AttnFwdReferenceIdeal_pre_finite_pair (hAttnFwdIdeal := Cert.AttnFwdIdeal.Gen.facts)
    (hAttnFwdReferenceIdeal := Cert.AttnFwdReferenceIdeal.Gen.facts) (hPre_finite_pair := finite_facts) := by
  intro m g m' g' hp hm
  refine ⟨fun c => Cert.AttnFwdReferenceIdeal.Value.res_out0 m' c, fun c => Cert.AttnFwdReferenceIdeal.Value.res_out1 m' c,
    fun c => Cert.AttnFwdReferenceIdeal.Value.res_out2 m' c, ?_, ?_⟩
  · refine (θ_run Cert.AttnFwdIdeal.defs _ _).mono (fun r h c => ?_) (Cert.AttnFwdIdeal.Value.run_blocks (F := Ideal) m g)
    obtain ⟨e0, e1, e2, ea⟩ := h c
    obtain ⟨A, hA⟩ := data_of _ _ (hp c)
    obtain ⟨a0, a1⟩ := hm c
    exact ⟨e0.trans ((kern0 m c hA rfl rfl).trans (ref0 m' c a0 a1).symm), e1.trans ((kern1 m c hA rfl rfl).trans (ref1 m' c a0 a1).symm),
      e2.trans ((kern2 m c hA rfl rfl).trans (ref2 m' c a0 a1).symm), ea⟩
  · exact Cert.AttnFwdReferenceIdeal.Value.run (F := Ideal) m' g'

end Cert.Fwd

end
-- ==== Proof.ZProjDw.lean ====
/- The gradient of the gate projection's matrix: xᵀ dz, in blocks of 1024 columns and two blocks of rows. -/
module

public import proofs.«01_k».proof.Defs
public import proofs.«01_k».proof.Proof.Product
public import proofs.«01_k».proof.Proof.Gen.ZProjDw.Frame
public import proofs.«01_k».proof.Proof.Gen.ZProjDwIdeal.Value
public import proofs.«01_k».proof.Proof.Gen.ZProjDwReferenceIdeal.Run

@[expose] public section

set_option maxRecDepth 16384

noncomputable section

namespace Cert.Product.ZDw

open Cert.ZProjDwIdeal Cert.ZProjDwIdeal.Gen Idealize.ShloMosaic Idealize.ShloMosaic.TcCoe Idealize.SL.Sem

theorem first_at (a b : FVec Ideal S2048x1024 .bf16) (i j : Fin 1024) :
    k0_pay2 (F := Ideal) a b (ix2 i j) = ∑ t : Fin 2048, a (ix2 t i) * b (ix2 t j) := by
  pointwise [k0_pay2, k0_pay1]
theorem next_at (a b : FVec Ideal S2048x1024 .bf16) (s : FVec Ideal S1024x1024 .f32) (i j : Fin 1024) :
    k0_pay3 (F := Ideal) a b s (ix2 i j) = s (ix2 i j) + ∑ t : Fin 2048, a (ix2 t i) * b (ix2 t j) := by
  pointwise [k0_pay3, k0_pay1]
theorem last_at (s : FVec Ideal S1024x1024 .f32) (i j : Fin 1024) : k0_pay4 (F := Ideal) s (ix2 i j) = s (ix2 i j) := by
  pointwise [k0_pay4]

/-- The reference's array. -/
def prod (a : FVec Ideal S4096x1024 .bf16) (b : FVec Ideal S4096x7168 .bf16) : FVec Ideal S1024x7168 .bf16 :=
  truncf .bf16 (transpose Cert.ZProjDwReferenceIdeal.S1024x7168 [1, 0]
      (Host.dotGeneral (F := Ideal) Cert.ZProjDwReferenceIdeal.dot_S4096x7168_S4096x1024_S7168x1024_0_0_1_1_n_n none
        (extf .f32 b Cert.ZProjDwReferenceIdeal.Facts₀.bitsLt_bf16_f32) (extf .f32 a Cert.ZProjDwReferenceIdeal.Facts₀.bitsLt_bf16_f32))
      Cert.ZProjDwReferenceIdeal.Facts₀.transposes_S7168x1024_S1024x7168_1_0) Cert.ZProjDwReferenceIdeal.Facts₀.bitsLt_bf16_f32

theorem prod_at (a : FVec Ideal S4096x1024 .bf16) (b : FVec Ideal S4096x7168 .bf16) (i : Fin 1024) (j : Fin 7168) :
    prod a b (ix2 i j) = ∑ t : Fin 4096, a (ix2 t i) * b (ix2 t j) := by
  pointwise [prod]
  exact Finset.sum_congr rfl fun t _ => mul_comm _ _

/-! ## What the grid's points leave -/

variable (m : (ℓ : Loc nD τ sig) → Buf (Elt Ideal) ℓ) (c : Dev nD)

/-- After the first half of the rows the accumulator holds their product. -/
theorem half (t : Fin cfg0.N) (h : t.val % 2 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ fun _ => scover0_A_0 ..]
  unfold kernelRun0_A
  dsimp only
  rw [View.canon_unit_zero zero_two]
  simp only [View.readAt_eq_ld, (hs0_0 t).read_unread, (hs0_1 t).read_unread, View.ld_unit_zero (S := S2048x1024) zero_two]

/-- What a point of the second half writes back. -/
theorem whole (t : Fin cfg0.N) (h : t.val % 2 = 1) : (dats m 0 c).flushed 2 t
    = (cfg0.win 2).cut (grid0.coords t) (k0_pay4 (k0_pay3 (iblk m c 0 t) (iblk m c 1 t) (outsAt0 m c (t.val - 1) (Nat.lt_of_le_of_lt (Nat.sub_le _ _) t.isLt)).2)) := by
  rw [Value.flushed2_B m c t (by omega) h h]
  unfold out0_B_2
  rw [View.read_writes_eq_canon _ _ _ fun _ => cover0_B_2 ..]
  unfold kernelRun0_B
  dsimp only
  sl_unfold_words
  rw [View.canon_unit_zero zero_two, View.readCov_unit_zero _ zero_two]
  simp only [View.readAt_eq_ld, (hs0_0 t).read_unread, (hs0_1 t).read_unread, (Memref.isWhole_whole cc0_scratch0).read_unread,
    View.ld_unit_zero (S := S2048x1024) zero_two, View.ld_unit_zero (S := S1024x1024) zero_two]

/-! ## The array after the run -/

/-- The point of block `j` of the columns and half `k` of the rows. -/
def pt (j : Fin 7) (k : Fin 2) : Fin cfg0.N := ⟨2 * j.val + k.val, lt_of_lt_of_eq (by omega) N_0.symm⟩
/-- Row `t` of half `k`; column `x` of block `j`. -/
def row (k : Fin 2) (t : Fin 2048) : Fin 4096 := ⟨k.val * 2048 + t.val, by omega⟩
theorem row0 (t : Fin 2048) (h : t.val < 4096) : row 0 t = ⟨t.val, h⟩ := Fin.ext (by simp [row])
theorem row1 (t : Fin 2048) (h : 2048 + t.val < 4096) : row 1 t = ⟨2048 + t.val, h⟩ := Fin.ext (by simp [row])
def col (j : Fin 7) (x : Fin 1024) : Fin 7168 := ⟨j.val * 1024 + x.val, by omega⟩

theorem idx : ∀ (j : Fin 7) (k : Fin 2), win0_0.index (pt j k) = ![k.val, 0] ∧ win0_1.index (pt j k) = ![k.val, j.val]
    ∧ win0_2.index (pt j k) = ![0, j.val] := by decide +kernel

theorem read0 (X : FVec Ideal S4096x1024 .bf16) (j : Fin 7) (k : Fin 2) (t : Fin 2048) (i : Fin 1024) :
    ((cfg0.win 0).blk (pt j k)).view.read (Elt Ideal) X (ix2 t i) = X (ix2 (row k t) i) := by
  obtain ⟨e, -⟩ := idx j k
  refine congrArg X (funext fun a => Fin.ext ?_)
  match a with
  | ⟨0, _⟩ => show win0_0.index (pt j k) (0 : Fin 2) * 2048 + 1 * t.val = k.val * 2048 + t.val; rw [e]; simp
  | ⟨1, _⟩ => show win0_0.index (pt j k) (1 : Fin 2) * 1024 + 1 * i.val = i.val; rw [e]; simp
theorem read1 (X : FVec Ideal S4096x7168 .bf16) (j : Fin 7) (k : Fin 2) (t : Fin 2048) (x : Fin 1024) :
    ((cfg0.win 1).blk (pt j k)).view.read (Elt Ideal) X (ix2 t x) = X (ix2 (row k t) (col j x)) := by
  obtain ⟨-, e, -⟩ := idx j k
  refine congrArg X (funext fun a => Fin.ext ?_)
  match a with
  | ⟨0, _⟩ => show win0_1.index (pt j k) (0 : Fin 2) * 2048 + 1 * t.val = k.val * 2048 + t.val; rw [e]; simp
  | ⟨1, _⟩ => show win0_1.index (pt j k) (1 : Fin 2) * 1024 + 1 * x.val = j.val * 1024 + x.val; rw [e]; simp
theorem read2 (X : FVec Ideal S1024x7168 .bf16) (j : Fin 7) (k : Fin 2) (i : Fin 1024) (x : Fin 1024) :
    ((cfg0.win 2).blk (pt j k)).view.read (Elt Ideal) X (ix2 i x) = X (ix2 i (col j x)) := by
  obtain ⟨-, -, e⟩ := idx j k
  refine congrArg X (funext fun a => Fin.ext ?_)
  match a with
  | ⟨0, _⟩ => show win0_2.index (pt j k) (0 : Fin 2) * 1024 + 1 * i.val = i.val; rw [e]; simp
  | ⟨1, _⟩ => show win0_2.index (pt j k) (1 : Fin 2) * 1024 + 1 * x.val = j.val * 1024 + x.val; rw [e]; simp

theorem flush_last : ∀ j : Fin 7, (cfg0.win 2).flush (pt j 1) = true := (by decide +kernel : ∀ j : Fin 7, win0_2.flush (pt j 1) = true)

theorem final : (dats m 0 c).arrAt 2 cfg0.N = prod (m ((c : Thread nD τ).loc main_arg0)) (m ((c : Thread nD τ).loc main_arg1)) := by
  funext y
  obtain ⟨i, j, x, rfl⟩ : ∃ i j x, y = ix2 i (col j x) := by
    idx_vars y
    refine ⟨y0, ⟨y1.val / 1024, by omega⟩, ⟨y1.val % 1024, by omega⟩, ?_⟩
    congr 1; apply Fin.ext; simp only [col]; omega
  rw [Value.final2]
  refine (read2 _ j 1 i x).symm.trans ((congrFun (Value.flushed2_eq m c (pt j 1) (flush_last j)) (ix2 i x)).symm.trans ?_)
  rw [whole m c (pt j 1) (by show (2 * j.val + 1) % 2 = 1; omega)]
  have e := half m c (pt j 0) (by show (2 * j.val + 0) % 2 = 0; omega)
  refine (last_at _ i x).trans ((next_at _ _ _ i x).trans ?_)
  refine Eq.trans ?_ (prod_at _ _ i (col j x)).symm
  rw [sum_two 2048 rfl]
  refine congrArg₂ (· + ·) ((congrFun e (ix2 i x)).trans ((first_at _ _ i x).trans ?_)) ?_
  all_goals refine Finset.sum_congr rfl fun t _ => congrArg₂ (· * ·) ?_ ?_
  · refine (read0 (V m c main_arg0) j 0 t i).trans ?_
    rw [V_main_arg0, row0]
  · refine (read1 (V m c main_arg1) j 0 t x).trans ?_
    rw [V_main_arg1, row0]
  · refine (read0 (V m c main_arg0) j 1 t i).trans ?_
    rw [V_main_arg0, row1]
  · refine (read1 (V m c main_arg1) j 1 t x).trans ?_
    rw [V_main_arg1, row1]

/-! ## The claims -/

theorem frame_kernel : Cert.quiescent_ZProjDw := fun m ρ _ => Cert.ZProjDw.Gen.frame m ρ
theorem frame_ideal : Cert.quiescent_ZProjDwIdeal := fun m ρ _ => Cert.ZProjDwIdeal.Gen.frame m ρ
theorem frame_reference : Cert.quiescent_ZProjDwReferenceIdeal := fun m ρ _ =>
  (θ_run Cert.ZProjDwReferenceIdeal.defs _ _).mono (fun r h => ⟨fun c => (h c).2, sem_eq_zero_of_no_sems (by decide) r.2⟩)
    (Cert.ZProjDwReferenceIdeal.Value.run (F := Ideal) m ρ)

theorem same : Cert.algebraic_ZProjDwIdeal_ZProjDwReferenceIdeal (hZProjDwIdeal := Cert.ZProjDwIdeal.Gen.facts)
    (hZProjDwReferenceIdeal := Cert.ZProjDwReferenceIdeal.Gen.facts) := by
  intro m g m' g' _ hm
  refine ⟨fun c => prod (m ((c : Thread nD τ).loc main_arg0)) (m ((c : Thread nD τ).loc main_arg1)), ?_, ?_⟩
  · exact (θ_run Cert.ZProjDwIdeal.defs _ _).mono (fun r h c => ⟨(h c).1.trans (final m c), (h c).2⟩) (Value.run_blocks (F := Ideal) m g)
  · exact (θ_run Cert.ZProjDwReferenceIdeal.defs _ _).mono (fun r h c => ⟨(h c).1.trans (congrArg₂ prod (hm c).1 (hm c).2), (h c).2⟩)
      (Cert.ZProjDwReferenceIdeal.Value.run (F := Ideal) m' g')

end Cert.Product.ZDw

end
-- ==== Proof.ZProjDx.lean ====
/- The gradient of the gate projection's input, with the gradient of the other branch: dz wᵀ + dh, summed over seven blocks of columns in the result's own block. -/
module

public import proofs.«01_k».proof.Defs
public import proofs.«01_k».proof.Proof.Product
public import proofs.«01_k».proof.Proof.Gen.ZProjDx.Frame
public import proofs.«01_k».proof.Proof.Gen.ZProjDxIdeal.Value
public import proofs.«01_k».proof.Proof.Gen.ZProjDxReferenceIdeal.Run

@[expose] public section

set_option maxRecDepth 16384

noncomputable section

namespace Cert.Product.ZDx

open Cert.ZProjDxIdeal Cert.ZProjDxIdeal.Gen Idealize.ShloMosaic Idealize.ShloMosaic.TcCoe Idealize.SL.Sem

theorem coord (t : Fin cfg0.N) : (grid0.coords t 2).val = t.val % 7 := by
  have e : (grid0.coords t 2).val = t.val / 1 % 7 := Pipeline.Grid.coords_val t 2 (by decide) rfl
  rw [e, Nat.div_one]

/-- A block's part of the product at an index. -/
def part (a b : FVec Ideal S1024x1024 .bf16) (r x : Fin 1024) : EReal := ∑ u : Fin 1024, a (ix2 r u) * b (ix2 x u)

/-- The grid's first step adds `d`, the others do not. -/
theorem first_at (t : Fin cfg0.N) (h : t.val % 7 = 0) (a b : FVec Ideal S1024x1024 .bf16) (d : FVec Ideal S1024x1024 .f32) (r x : Fin 1024) :
    k0_pay1 (F := Ideal) (grid0.coords t) a b d (ix2 r x) = (∑ u : Fin 1024, a (ix2 r u) * b (ix2 x u)) + d (ix2 r x) := by
  have e : Scalar.cmpi .eq (BitVec.ofNat 32 (grid0.coords t 2).val) 0#32 = 1#1 := by rw [coord, h]; decide
  unfold k0_pay1
  dsimp only
  rw [e]
  pointwise
theorem next_at (t : Fin cfg0.N) (h : ¬t.val % 7 = 0) (a b : FVec Ideal S1024x1024 .bf16) (d s : FVec Ideal S1024x1024 .f32) (r x : Fin 1024) :
    k0_pay2 (F := Ideal) (grid0.coords t) a b d s (ix2 r x) = s (ix2 r x) + ∑ u : Fin 1024, a (ix2 r u) * b (ix2 x u) := by
  have e : Scalar.cmpi .eq (BitVec.ofNat 32 (grid0.coords t 2).val) 0#32 = 0#1 := by
    rw [coord]
    exact (by decide : ∀ n : Fin 7, ¬n.val = 0 → Scalar.cmpi .eq (BitVec.ofNat 32 n.val) 0#32 = 0#1) ⟨t.val % 7, Nat.mod_lt _ (by decide)⟩ h
  unfold k0_pay2 k0_pay1
  dsimp only
  rw [e]
  pointwise

/-- The reference's array. -/
def prod (a : FVec Ideal S4096x7168 .bf16) (b : FVec Ideal S1024x7168 .bf16) (d : FVec Ideal S4096x1024 .f32) : FVec Ideal S4096x1024 .f32 :=
  addf (Host.dotGeneral (F := Ideal) Cert.ZProjDxReferenceIdeal.dot_S4096x7168_S1024x7168_S4096x1024_1_1_0_0_n_n none
    (extf .f32 a Cert.ZProjDxReferenceIdeal.Facts₀.bitsLt_bf16_f32) (extf .f32 b Cert.ZProjDxReferenceIdeal.Facts₀.bitsLt_bf16_f32)) d

theorem prod_congr {a a' : FVec Ideal S4096x7168 .bf16} {b b' : FVec Ideal S1024x7168 .bf16} {d d' : FVec Ideal S4096x1024 .f32}
    (ha : a = a') (hb : b = b') (hd : d = d') : prod a b d = prod a' b' d' := by subst ha hb hd; rfl

/-- Column `u` of block `j`. -/
def col (j : Fin 7) (u : Fin 1024) : Fin 7168 := ⟨j.val * 1024 + u.val, by omega⟩

theorem prod_at (a : FVec Ideal S4096x7168 .bf16) (b : FVec Ideal S1024x7168 .bf16) (d : FVec Ideal S4096x1024 .f32) (t : Fin 4096) (x : Fin 1024) :
    prod a b d (ix2 t x) = (∑ j : Fin 7, ∑ u : Fin 1024, a (ix2 t (col j u)) * b (ix2 x (col j u))) + d (ix2 t x) := by
  have e : prod a b d (ix2 t x) = (∑ k : Fin 7168, a (ix2 t k) * b (ix2 x k)) + d (ix2 t x) := by
    pointwise [prod]
  rw [e]
  exact congrArg (· + d (ix2 t x)) (sum_run 7 1024 fun k => a (ix2 t k) * b (ix2 x k))

/-! ## What the grid's points leave -/

variable (m : (ℓ : Loc nD τ sig) → Buf (Elt Ideal) ℓ) (c : Dev nD)

theorem start (t : Fin cfg0.N) (h : t.val % 7 = 0) : outsAt0 m c t.val t.isLt = k0_pay1 (grid0.coords t) (iblk m c 0 t) (iblk m c 1 t) (iblk m c 2 t) := by
  rw [outsAt0_A m c t h (by omega)]
  unfold out0_A_3
  rw [View.read_writes_eq_canon _ _ _ fun _ => cover0_A_3 ..]
  unfold kernelRun0_A
  dsimp only
  rw [View.canon_unit_zero zero_two]
  simp only [View.readAt_eq_ld, (hs0_0 t).read_unread, (hs0_1 t).read_unread, (hs0_2 t).read_unread, View.ld_unit_zero (S := S1024x1024) zero_two]

theorem step (t : Fin cfg0.N) (h : ¬t.val % 7 = 0) : outsAt0 m c t.val t.isLt
    = k0_pay2 (grid0.coords t) (iblk m c 0 t) (iblk m c 1 t) (iblk m c 2 t) (outsAt0 m c (t.val - 1) (Nat.lt_of_le_of_lt (Nat.sub_le _ _) t.isLt)) := by
  rw [outsAt0_B m c t h (by omega)]
  unfold out0_B_3
  rw [View.read_writes_eq_canon _ _ _ fun _ => cover0_B_3 ..]
  unfold kernelRun0_B
  dsimp only
  rw [View.canon_unit_zero zero_two]
  simp only [View.readAt_eq_ld, (hs0_0 t).read_unread, (hs0_1 t).read_unread, (hs0_2 t).read_unread, (hs0_3 t).read_unread,
    View.ld_unit_zero (S := S1024x1024) zero_two]

theorem outs_congr (n n' : ℕ) (h : n < cfg0.N) (h' : n' < cfg0.N) (e : n = n') : outsAt0 m c n h = outsAt0 m c n' h' := by subst e; rfl

/-! ## The array after the run -/

/-- The point of block `i` of the rows and block `j` of the columns. -/
def pt (i : Fin 4) (j : Fin 7) : Fin cfg0.N := ⟨7 * i.val + j.val, lt_of_lt_of_eq (by omega) N_0.symm⟩
/-- Row `r` of block `i`. -/
def row (i : Fin 4) (r : Fin 1024) : Fin 4096 := ⟨i.val * 1024 + r.val, by omega⟩

theorem idx : ∀ (i : Fin 4) (j : Fin 7), win0_0.index (pt i j) = ![i.val, j.val] ∧ win0_1.index (pt i j) = ![0, j.val]
    ∧ win0_2.index (pt i j) = ![i.val, 0] ∧ win0_3.index (pt i j) = ![i.val, 0] := by decide +kernel

theorem read0 (X : FVec Ideal S4096x7168 .bf16) (i : Fin 4) (j : Fin 7) (r u : Fin 1024) :
    ((cfg0.win 0).blk (pt i j)).view.read (Elt Ideal) X (ix2 r u) = X (ix2 (row i r) (col j u)) := by
  obtain ⟨e, -⟩ := idx i j
  refine congrArg X (funext fun a => Fin.ext ?_)
  match a with
  | ⟨0, _⟩ => show win0_0.index (pt i j) (0 : Fin 2) * 1024 + 1 * r.val = i.val * 1024 + r.val; rw [e]; simp
  | ⟨1, _⟩ => show win0_0.index (pt i j) (1 : Fin 2) * 1024 + 1 * u.val = j.val * 1024 + u.val; rw [e]; simp
theorem read1 (X : FVec Ideal S1024x7168 .bf16) (i : Fin 4) (j : Fin 7) (x u : Fin 1024) :
    ((cfg0.win 1).blk (pt i j)).view.read (Elt Ideal) X (ix2 x u) = X (ix2 x (col j u)) := by
  obtain ⟨-, e, -⟩ := idx i j
  refine congrArg X (funext fun a => Fin.ext ?_)
  match a with
  | ⟨0, _⟩ => show win0_1.index (pt i j) (0 : Fin 2) * 1024 + 1 * x.val = x.val; rw [e]; simp
  | ⟨1, _⟩ => show win0_1.index (pt i j) (1 : Fin 2) * 1024 + 1 * u.val = j.val * 1024 + u.val; rw [e]; simp
theorem read2 (X : FVec Ideal S4096x1024 .f32) (i : Fin 4) (j : Fin 7) (r x : Fin 1024) :
    ((cfg0.win 2).blk (pt i j)).view.read (Elt Ideal) X (ix2 r x) = X (ix2 (row i r) x) := by
  obtain ⟨-, -, e, -⟩ := idx i j
  refine congrArg X (funext fun a => Fin.ext ?_)
  match a with
  | ⟨0, _⟩ => show win0_2.index (pt i j) (0 : Fin 2) * 1024 + 1 * r.val = i.val * 1024 + r.val; rw [e]; simp
  | ⟨1, _⟩ => show win0_2.index (pt i j) (1 : Fin 2) * 1024 + 1 * x.val = x.val; rw [e]; simp
theorem emb3 (i : Fin 4) (j : Fin 7) (r x : Fin 1024) : ((cfg0.win 3).blk (pt i j)).view.emb (ix2 r x) = ix2 (row i r) x := by
  obtain ⟨-, -, -, e⟩ := idx i j
  refine funext fun a => Fin.ext ?_
  match a with
  | ⟨0, _⟩ => show win0_3.index (pt i j) (0 : Fin 2) * 1024 + 1 * r.val = i.val * 1024 + r.val; rw [e]; simp
  | ⟨1, _⟩ => show win0_3.index (pt i j) (1 : Fin 2) * 1024 + 1 * x.val = x.val; rw [e]; simp

/-- The last block's point leaves the reference's rows. -/
theorem last (i : Fin 4) (r x : Fin 1024) : outsAt0 m c (pt i 6).val (pt i 6).isLt (ix2 r x)
    = prod (m ((c : Thread nD τ).loc main_arg0)) (m ((c : Thread nD τ).loc main_arg1)) (m ((c : Thread nD τ).loc main_arg2)) (ix2 (row i r) x) := by
  have e := acc_run (V m c main_arg2 (ix2 (row i r) x)) (n := 6)
    (fun j => part (iblk m c 0 (pt i j)) (iblk m c 1 (pt i j)) r x)
    (fun j => outsAt0 m c (pt i j).val (pt i j).isLt (ix2 r x)) ?_ fun j => ?_
  · refine e.trans (Eq.trans (congrArg₂ (· + ·) ?_ ?_) (prod_at _ _ _ _ _).symm)
    · refine Finset.sum_congr rfl fun j _ => Finset.sum_congr rfl fun u _ => congrArg₂ (· * ·) ?_ ?_
      · refine (read0 (V m c main_arg0) i j r u).trans ?_
        rw [V_main_arg0]
      · refine (read1 (V m c main_arg1) i j x u).trans ?_
        rw [V_main_arg1]
    · rw [V_main_arg2]
  · have h : (pt i 0).val % 7 = 0 := by show (7 * i.val + 0) % 7 = 0; omega
    refine (congrFun (start m c (pt i 0) h) _).trans ((first_at _ h _ _ _ r x).trans ?_)
    exact congrArg (_ + ·) (read2 (V m c main_arg2) i 0 r x)
  · have h : ¬(pt i j.succ).val % 7 = 0 := by show ¬(7 * i.val + (j.val + 1)) % 7 = 0; omega
    refine (congrFun (step m c (pt i j.succ) h) _).trans ((next_at _ h _ _ _ _ r x).trans ?_)
    exact congrArg (fun f => f (ix2 r x) + _) (outs_congr m c _ _ _ _ rfl)

theorem io_surj (y : S4096x1024.Idx) : ∃ i r x, y = ix2 (row i r) x := by
  idx_vars y
  refine ⟨⟨y0.val / 1024, by omega⟩, ⟨y0.val % 1024, by omega⟩, y1, ?_⟩
  congr 1; apply Fin.ext; simp only [row]; omega

theorem final : (dats m 0 c).arrAt 3 cfg0.N = prod (m ((c : Thread nD τ).loc main_arg0)) (m ((c : Thread nD τ).loc main_arg1)) (m ((c : Thread nD τ).loc main_arg2)) := by
  refine (dats m 0 c).arrAt_eq_of_cover 3 _ (fun t hf => ?_) fun y => ?_
  · have h6 := (flush0_3 t).mp hf
    have hN : t.val < 28 := lt_of_lt_of_eq t.isLt N_0
    obtain ⟨i, rfl⟩ : ∃ i, t = pt i 6 := ⟨⟨t.val / 7, by omega⟩, Fin.ext (by show t.val = 7 * (t.val / 7) + 6; omega)⟩
    rw [Value.flushed3]
    funext y
    obtain ⟨r, x, rfl⟩ : ∃ r x, y = ix2 r x := by
      idx_vars y
      exact ⟨y0, y1, rfl⟩
    exact (last m c i r x).trans (congrArg (prod _ _ _) (emb3 i 6 r x).symm)
  · obtain ⟨i, r, x, rfl⟩ := io_surj y
    exact ⟨pt i 6, (flush0_3 _).mpr (by show (7 * i.val + 6) % 7 = 6; omega), emb3 i 6 r x ▸ View.emb_mem_set _ _⟩

/-! ## The claims -/

theorem frame_kernel : Cert.quiescent_ZProjDx := fun m ρ _ => Cert.ZProjDx.Gen.frame m ρ
theorem frame_ideal : Cert.quiescent_ZProjDxIdeal := fun m ρ _ => Cert.ZProjDxIdeal.Gen.frame m ρ
theorem frame_reference : Cert.quiescent_ZProjDxReferenceIdeal := fun m ρ _ =>
  (θ_run Cert.ZProjDxReferenceIdeal.defs _ _).mono (fun r h => ⟨fun c => (h c).2, sem_eq_zero_of_no_sems (by decide) r.2⟩)
    (Cert.ZProjDxReferenceIdeal.Value.run (F := Ideal) m ρ)

theorem same : Cert.algebraic_ZProjDxIdeal_ZProjDxReferenceIdeal (hZProjDxIdeal := Cert.ZProjDxIdeal.Gen.facts)
    (hZProjDxReferenceIdeal := Cert.ZProjDxReferenceIdeal.Gen.facts) := by
  intro m g m' g' _ hm
  refine ⟨fun c => prod (m ((c : Thread nD τ).loc main_arg0)) (m ((c : Thread nD τ).loc main_arg1)) (m ((c : Thread nD τ).loc main_arg2)), ?_, ?_⟩
  · exact (θ_run Cert.ZProjDxIdeal.defs _ _).mono (fun r h c => ⟨(h c).1.trans (final m c), (h c).2⟩) (Value.run_blocks (F := Ideal) m g)
  · exact (θ_run Cert.ZProjDxReferenceIdeal.defs _ _).mono (fun r h c => ⟨(h c).1.trans (prod_congr (hm c).1 (hm c).2.1 (hm c).2.2), (h c).2⟩)
      (Cert.ZProjDxReferenceIdeal.Value.run (F := Ideal) m' g')

end Cert.Product.ZDx

end
-- ==== Proof.FfnInDw.lean ====
/- The gradient of the feed-forward's first matrix: xᵀ dh of each slab, in two blocks of rows. -/
module

public import proofs.«01_k».proof.Defs
public import proofs.«01_k».proof.Proof.Product
public import proofs.«01_k».proof.Proof.Gen.FfnInDw.Frame
public import proofs.«01_k».proof.Proof.Gen.FfnInDwIdeal.Value
public import proofs.«01_k».proof.Proof.Gen.FfnInDwReferenceIdeal.Run

@[expose] public section

set_option maxRecDepth 16384

noncomputable section

namespace Cert.Product.InDw

open Cert.FfnInDwIdeal Cert.FfnInDwIdeal.Gen Idealize.ShloMosaic Idealize.ShloMosaic.TcCoe Idealize.SL.Sem

theorem first_at (a : FVec Ideal S2048x1024 .bf16) (b : FVec Ideal S1x2048x704 .bf16) (i : Fin 1024) (x : Fin 704) :
    k0_pay2 (F := Ideal) a b (ix2 i x) = ∑ t : Fin 2048, a (ix2 t i) * b (ix3 0 t x) := by
  pointwise [k0_pay2, k0_pay1]
theorem next_at (a : FVec Ideal S2048x1024 .bf16) (b : FVec Ideal S1x2048x704 .bf16) (s : FVec Ideal S1024x704 .f32) (i : Fin 1024) (x : Fin 704) :
    k0_pay3 (F := Ideal) a b s (ix2 i x) = s (ix2 i x) + ∑ t : Fin 2048, a (ix2 t i) * b (ix3 0 t x) := by
  pointwise [k0_pay3, k0_pay1]
theorem last_at (s : FVec Ideal S1024x704 .f32) (i : Fin 1024) (x : Fin 704) : k0_pay4 (F := Ideal) s (ix3 0 i x) = s (ix2 i x) := by
  pointwise [k0_pay4]

/-- The reference's array. -/
def prod (a : FVec Ideal S4096x1024 .bf16) (b : FVec Ideal S8x4096x704 .bf16) : FVec Ideal S8x1024x704 .bf16 :=
  truncf .bf16 (transpose Cert.FfnInDwReferenceIdeal.S8x1024x704 [0, 2, 1]
      (Host.dotGeneral (F := Ideal) Cert.FfnInDwReferenceIdeal.dot_S8x704x4096_S4096x1024_S8x704x1024_2_0_01_1_n_n none
        (transpose Cert.FfnInDwReferenceIdeal.S8x704x4096 [0, 2, 1] (extf .f32 b Cert.FfnInDwReferenceIdeal.Facts₀.bitsLt_bf16_f32)
          Cert.FfnInDwReferenceIdeal.Facts₀.transposes_S8x4096x704_S8x704x4096_0_2_1)
        (extf .f32 a Cert.FfnInDwReferenceIdeal.Facts₀.bitsLt_bf16_f32))
      Cert.FfnInDwReferenceIdeal.Facts₀.transposes_S8x704x1024_S8x1024x704_0_2_1) Cert.FfnInDwReferenceIdeal.Facts₀.bitsLt_bf16_f32

theorem prod_at (a : FVec Ideal S4096x1024 .bf16) (b : FVec Ideal S8x4096x704 .bf16) (j : Fin 8) (i : Fin 1024) (x : Fin 704) :
    prod a b (ix3 j i x) = ∑ t : Fin 4096, a (ix2 t i) * b (ix3 j t x) := by
  pointwise [prod]
  exact Finset.sum_congr rfl fun t _ => mul_comm _ _

/-! ## What the grid's points leave -/

variable (m : (ℓ : Loc nD τ sig) → Buf (Elt Ideal) ℓ) (c : Dev nD)

/-- After the first half of the rows the accumulator holds their product. -/
theorem half (t : Fin cfg0.N) (h : t.val % 2 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ fun _ => scover0_A_0 ..]
  unfold kernelRun0_A
  dsimp only
  rw [View.canon_unit_zero zero_two]
  simp only [View.readAt_eq_ld, (hs0_0 t).read_unread, (hs0_1 t).read_unread, View.ld_unit_zero (S := S2048x1024) zero_two, View.ld_unit_zero (S := S1x2048x704) zero_three]

/-- What a point of the second half writes back. -/
theorem whole (t : Fin cfg0.N) (h : t.val % 2 = 1) : (dats m 0 c).flushed 2 t
    = (cfg0.win 2).cut (grid0.coords t) (k0_pay4 (k0_pay3 (iblk m c 0 t) (iblk m c 1 t) (outsAt0 m c (t.val - 1) (Nat.lt_of_le_of_lt (Nat.sub_le _ _) t.isLt)).2)) := by
  rw [Value.flushed2_B m c t (by omega) h h]
  unfold out0_B_2
  rw [View.read_writes_eq_canon _ _ _ fun _ => cover0_B_2 ..]
  unfold kernelRun0_B
  dsimp only
  sl_unfold_words
  rw [View.canon_unit_zero zero_three, View.readCov_unit_zero _ zero_two]
  simp only [View.readAt_eq_ld, (hs0_0 t).read_unread, (hs0_1 t).read_unread, (Memref.isWhole_whole cc0_scratch0).read_unread,
    View.ld_unit_zero (S := S2048x1024) zero_two, View.ld_unit_zero (S := S1x2048x704) zero_three,
    View.ld_unit_zero (S := S1024x704) zero_two]

/-! ## The array after the run -/

/-- The point of slab `j` and half `k` of the rows. -/
def pt (j : Fin 8) (k : Fin 2) : Fin cfg0.N := ⟨2 * j.val + k.val, lt_of_lt_of_eq (by omega) N_0.symm⟩
/-- Row `t` of half `k`. -/
def row (k : Fin 2) (t : Fin 2048) : Fin 4096 := ⟨k.val * 2048 + t.val, by omega⟩
theorem row0 (t : Fin 2048) (h : t.val < 4096) : row 0 t = ⟨t.val, h⟩ := Fin.ext (by simp [row])
theorem row1 (t : Fin 2048) (h : 2048 + t.val < 4096) : row 1 t = ⟨2048 + t.val, h⟩ := Fin.ext (by simp [row])

theorem idx : ∀ (j : Fin 8) (k : Fin 2), win0_0.index (pt j k) = ![k.val, 0] ∧ win0_1.index (pt j k) = ![j.val, k.val, 0]
    ∧ win0_2.index (pt j k) = ![j.val, 0, 0] := by decide +kernel

theorem read0 (X : FVec Ideal S4096x1024 .bf16) (j : Fin 8) (k : Fin 2) (t : Fin 2048) (i : Fin 1024) :
    ((cfg0.win 0).blk (pt j k)).view.read (Elt Ideal) X (ix2 t i) = X (ix2 (row k t) i) := by
  obtain ⟨e, -⟩ := idx j k
  refine congrArg X (funext fun a => Fin.ext ?_)
  match a with
  | ⟨0, _⟩ => show win0_0.index (pt j k) (0 : Fin 2) * 2048 + 1 * t.val = k.val * 2048 + t.val; rw [e]; simp
  | ⟨1, _⟩ => show win0_0.index (pt j k) (1 : Fin 2) * 1024 + 1 * i.val = i.val; rw [e]; simp
theorem read1 (X : FVec Ideal S8x4096x704 .bf16) (j : Fin 8) (k : Fin 2) (t : Fin 2048) (x : Fin 704) :
    ((cfg0.win 1).blk (pt j k)).view.read (Elt Ideal) X (ix3 0 t x) = X (ix3 j (row k t) x) := by
  obtain ⟨-, e, -⟩ := idx j k
  refine congrArg X (funext fun a => Fin.ext ?_)
  match a with
  | ⟨0, _⟩ => show win0_1.index (pt j k) (0 : Fin 3) * 1 + 1 * 0 = j.val; rw [e]; simp
  | ⟨1, _⟩ => show win0_1.index (pt j k) (1 : Fin 3) * 2048 + 1 * t.val = k.val * 2048 + t.val; rw [e]; simp
  | ⟨2, _⟩ => show win0_1.index (pt j k) (2 : Fin 3) * 704 + 1 * x.val = x.val; rw [e]; simp
theorem read2 (X : FVec Ideal S8x1024x704 .bf16) (j : Fin 8) (k : Fin 2) (i : Fin 1024) (x : Fin 704) :
    ((cfg0.win 2).blk (pt j k)).view.read (Elt Ideal) X (ix3 0 i x) = X (ix3 j i x) := by
  obtain ⟨-, -, e⟩ := idx j k
  refine congrArg X (funext fun a => Fin.ext ?_)
  match a with
  | ⟨0, _⟩ => show win0_2.index (pt j k) (0 : Fin 3) * 1 + 1 * 0 = j.val; rw [e]; simp
  | ⟨1, _⟩ => show win0_2.index (pt j k) (1 : Fin 3) * 1024 + 1 * i.val = i.val; rw [e]; simp
  | ⟨2, _⟩ => show win0_2.index (pt j k) (2 : Fin 3) * 704 + 1 * x.val = x.val; rw [e]; simp

theorem flush_last : ∀ j : Fin 8, (cfg0.win 2).flush (pt j 1) = true := (by decide +kernel : ∀ j : Fin 8, win0_2.flush (pt j 1) = true)

theorem final : (dats m 0 c).arrAt 2 cfg0.N = prod (m ((c : Thread nD τ).loc main_arg0)) (m ((c : Thread nD τ).loc main_arg1)) := by
  funext y
  obtain ⟨j, i, x, rfl⟩ : ∃ j i x, y = ix3 j i x := by
    idx_vars y
    exact ⟨y0, y1, y2, rfl⟩
  rw [Value.final2]
  refine (read2 _ j 1 i x).symm.trans ((congrFun (Value.flushed2_eq m c (pt j 1) (flush_last j)) (ix3 0 i x)).symm.trans ?_)
  rw [whole m c (pt j 1) (by show (2 * j.val + 1) % 2 = 1; omega)]
  have e := half m c (pt j 0) (by show (2 * j.val + 0) % 2 = 0; omega)
  refine (last_at _ i x).trans ((next_at _ _ _ i x).trans ?_)
  refine Eq.trans ?_ (prod_at _ _ j i x).symm
  rw [sum_two 2048 rfl]
  refine congrArg₂ (· + ·) ((congrFun e (ix2 i x)).trans ((first_at _ _ i x).trans ?_)) ?_
  all_goals refine Finset.sum_congr rfl fun t _ => congrArg₂ (· * ·) ?_ ?_
  · refine (read0 (V m c main_arg0) j 0 t i).trans ?_
    rw [V_main_arg0, row0]
  · refine (read1 (V m c main_arg1) j 0 t x).trans ?_
    rw [V_main_arg1, row0]
  · refine (read0 (V m c main_arg0) j 1 t i).trans ?_
    rw [V_main_arg0, row1]
  · refine (read1 (V m c main_arg1) j 1 t x).trans ?_
    rw [V_main_arg1, row1]

/-! ## The claims -/

theorem frame_kernel : Cert.quiescent_FfnInDw := fun m ρ _ => Cert.FfnInDw.Gen.frame m ρ
theorem frame_ideal : Cert.quiescent_FfnInDwIdeal := fun m ρ _ => Cert.FfnInDwIdeal.Gen.frame m ρ
theorem frame_reference : Cert.quiescent_FfnInDwReferenceIdeal := fun m ρ _ =>
  (θ_run Cert.FfnInDwReferenceIdeal.defs _ _).mono (fun r h => ⟨fun c => (h c).2, sem_eq_zero_of_no_sems (by decide) r.2⟩)
    (Cert.FfnInDwReferenceIdeal.Value.run (F := Ideal) m ρ)

theorem same : Cert.algebraic_FfnInDwIdeal_FfnInDwReferenceIdeal (hFfnInDwIdeal := Cert.FfnInDwIdeal.Gen.facts)
    (hFfnInDwReferenceIdeal := Cert.FfnInDwReferenceIdeal.Gen.facts) := by
  intro m g m' g' _ hm
  refine ⟨fun c => prod (m ((c : Thread nD τ).loc main_arg0)) (m ((c : Thread nD τ).loc main_arg1)), ?_, ?_⟩
  · exact (θ_run Cert.FfnInDwIdeal.defs _ _).mono (fun r h c => ⟨(h c).1.trans (final m c), (h c).2⟩) (Value.run_blocks (F := Ideal) m g)
  · exact (θ_run Cert.FfnInDwReferenceIdeal.defs _ _).mono (fun r h c => ⟨(h c).1.trans (congrArg₂ prod (hm c).1 (hm c).2), (h c).2⟩)
      (Cert.FfnInDwReferenceIdeal.Value.run (F := Ideal) m' g')

end Cert.Product.InDw

end
-- ==== Proof.FfnInDx.lean ====
/- The gradient of the feed-forward's input: dh wᵀ, summed over the eight slabs in the result's own block. -/
module

public import proofs.«01_k».proof.Defs
public import proofs.«01_k».proof.Proof.Product
public import proofs.«01_k».proof.Proof.Gen.FfnInDx.Frame
public import proofs.«01_k».proof.Proof.Gen.FfnInDxIdeal.Value
public import proofs.«01_k».proof.Proof.Gen.FfnInDxReferenceIdeal.Run

@[expose] public section

set_option maxRecDepth 16384

noncomputable section

namespace Cert.Product.InDx

open Cert.FfnInDxIdeal Cert.FfnInDxIdeal.Gen Idealize.ShloMosaic Idealize.ShloMosaic.TcCoe Idealize.SL.Sem

/-- A slab's part of the product at an index. -/
def part (a b : FVec Ideal S1x1024x704 .bf16) (r x : Fin 1024) : EReal := ∑ u : Fin 704, a (ix3 0 r u) * b (ix3 0 x u)

theorem first_at (a b : FVec Ideal S1x1024x704 .bf16) (r x : Fin 1024) :
    k0_pay1 (F := Ideal) a b (ix2 r x) = ∑ u : Fin 704, a (ix3 0 r u) * b (ix3 0 x u) := by
  pointwise [k0_pay1]
theorem next_at (a b : FVec Ideal S1x1024x704 .bf16) (s : FVec Ideal S1024x1024 .f32) (r x : Fin 1024) :
    k0_pay2 (F := Ideal) a b s (ix2 r x) = s (ix2 r x) + ∑ u : Fin 704, a (ix3 0 r u) * b (ix3 0 x u) := by
  pointwise [k0_pay2, k0_pay1]

/-- The reference's array. -/
def prod (a : FVec Ideal S8x4096x704 .bf16) (b : FVec Ideal S8x1024x704 .bf16) : FVec Ideal S4096x1024 .f32 :=
  Host.dotGeneral (F := Ideal) Cert.FfnInDxReferenceIdeal.dot_S8x704x4096_S8x1024x704_S4096x1024_01_02_2_1_n_n none
    (transpose Cert.FfnInDxReferenceIdeal.S8x704x4096 [0, 2, 1] (extf .f32 a Cert.FfnInDxReferenceIdeal.Facts₀.bitsLt_bf16_f32)
      Cert.FfnInDxReferenceIdeal.Facts₀.transposes_S8x4096x704_S8x704x4096_0_2_1)
    (extf .f32 b Cert.FfnInDxReferenceIdeal.Facts₀.bitsLt_bf16_f32)

theorem prod_at (a : FVec Ideal S8x4096x704 .bf16) (b : FVec Ideal S8x1024x704 .bf16) (t : Fin 4096) (x : Fin 1024) :
    prod a b (ix2 t x) = ∑ j : Fin 8, ∑ u : Fin 704, a (ix3 j t u) * b (ix3 j x u) := by
  pointwise [prod]

/-! ## What the grid's points leave -/

variable (m : (ℓ : Loc nD τ sig) → Buf (Elt Ideal) ℓ) (c : Dev nD)

theorem start (t : Fin cfg0.N) (h : t.val % 8 = 0) : outsAt0 m c t.val t.isLt = k0_pay1 (iblk m c 0 t) (iblk m c 1 t) := by
  rw [outsAt0_A m c t h (by omega)]
  unfold out0_A_2
  rw [View.read_writes_eq_canon _ _ _ fun _ => cover0_A_2 ..]
  unfold kernelRun0_A
  dsimp only
  rw [View.canon_unit_zero zero_two]
  simp only [View.readAt_eq_ld, (hs0_0 t).read_unread, (hs0_1 t).read_unread, View.ld_unit_zero (S := S1x1024x704) zero_three]

theorem step (t : Fin cfg0.N) (h : ¬t.val % 8 = 0) : outsAt0 m c t.val t.isLt
    = k0_pay2 (iblk m c 0 t) (iblk m c 1 t) (outsAt0 m c (t.val - 1) (Nat.lt_of_le_of_lt (Nat.sub_le _ _) t.isLt)) := by
  rw [outsAt0_B m c t h (by omega)]
  unfold out0_B_2
  rw [View.read_writes_eq_canon _ _ _ fun _ => cover0_B_2 ..]
  unfold kernelRun0_B
  dsimp only
  rw [View.canon_unit_zero zero_two]
  simp only [View.readAt_eq_ld, (hs0_0 t).read_unread, (hs0_1 t).read_unread, (hs0_2 t).read_unread,
    View.ld_unit_zero (S := S1x1024x704) zero_three, View.ld_unit_zero (S := S1024x1024) zero_two]

theorem outs_congr (n n' : ℕ) (h : n < cfg0.N) (h' : n' < cfg0.N) (e : n = n') : outsAt0 m c n h = outsAt0 m c n' h' := by subst e; rfl

/-! ## The array after the run -/

/-- The point of block `i` of the rows and slab `j`. -/
def pt (i : Fin 4) (j : Fin 8) : Fin cfg0.N := ⟨8 * i.val + j.val, lt_of_lt_of_eq (by omega) N_0.symm⟩
/-- Row `r` of block `i`. -/
def row (i : Fin 4) (r : Fin 1024) : Fin 4096 := ⟨i.val * 1024 + r.val, by omega⟩

theorem idx : ∀ (i : Fin 4) (j : Fin 8), win0_0.index (pt i j) = ![j.val, i.val, 0] ∧ win0_1.index (pt i j) = ![j.val, 0, 0]
    ∧ win0_2.index (pt i j) = ![i.val, 0] := by decide +kernel

theorem read0 (X : FVec Ideal S8x4096x704 .bf16) (i : Fin 4) (j : Fin 8) (r : Fin 1024) (u : Fin 704) :
    ((cfg0.win 0).blk (pt i j)).view.read (Elt Ideal) X (ix3 0 r u) = X (ix3 j (row i r) u) := by
  obtain ⟨e, -⟩ := idx i j
  refine congrArg X (funext fun a => Fin.ext ?_)
  match a with
  | ⟨0, _⟩ => show win0_0.index (pt i j) (0 : Fin 3) * 1 + 1 * 0 = j.val; rw [e]; simp
  | ⟨1, _⟩ => show win0_0.index (pt i j) (1 : Fin 3) * 1024 + 1 * r.val = i.val * 1024 + r.val; rw [e]; simp
  | ⟨2, _⟩ => show win0_0.index (pt i j) (2 : Fin 3) * 704 + 1 * u.val = u.val; rw [e]; simp
theorem read1 (X : FVec Ideal S8x1024x704 .bf16) (i : Fin 4) (j : Fin 8) (x : Fin 1024) (u : Fin 704) :
    ((cfg0.win 1).blk (pt i j)).view.read (Elt Ideal) X (ix3 0 x u) = X (ix3 j x u) := by
  obtain ⟨-, e, -⟩ := idx i j
  refine congrArg X (funext fun a => Fin.ext ?_)
  match a with
  | ⟨0, _⟩ => show win0_1.index (pt i j) (0 : Fin 3) * 1 + 1 * 0 = j.val; rw [e]; simp
  | ⟨1, _⟩ => show win0_1.index (pt i j) (1 : Fin 3) * 1024 + 1 * x.val = x.val; rw [e]; simp
  | ⟨2, _⟩ => show win0_1.index (pt i j) (2 : Fin 3) * 704 + 1 * u.val = u.val; rw [e]; simp
theorem emb2 (i : Fin 4) (j : Fin 8) (r x : Fin 1024) : ((cfg0.win 2).blk (pt i j)).view.emb (ix2 r x) = ix2 (row i r) x := by
  obtain ⟨-, -, e⟩ := idx i j
  refine funext fun a => Fin.ext ?_
  match a with
  | ⟨0, _⟩ => show win0_2.index (pt i j) (0 : Fin 2) * 1024 + 1 * r.val = i.val * 1024 + r.val; rw [e]; simp
  | ⟨1, _⟩ => show win0_2.index (pt i j) (1 : Fin 2) * 1024 + 1 * x.val = x.val; rw [e]; simp

/-- The last slab's point leaves the reference's rows. -/
theorem last (i : Fin 4) (r x : Fin 1024) : outsAt0 m c (pt i 7).val (pt i 7).isLt (ix2 r x)
    = prod (m ((c : Thread nD τ).loc main_arg0)) (m ((c : Thread nD τ).loc main_arg1)) (ix2 (row i r) x) := by
  have e := acc_run 0 (n := 7) (fun j => part (iblk m c 0 (pt i j)) (iblk m c 1 (pt i j)) r x)
    (fun j => outsAt0 m c (pt i j).val (pt i j).isLt (ix2 r x)) ?_ fun j => ?_
  · refine e.trans ((add_zero _).trans (Eq.trans ?_ (prod_at _ _ _ _).symm))
    refine Finset.sum_congr rfl fun j _ => Finset.sum_congr rfl fun u _ => congrArg₂ (· * ·) ?_ ?_
    · refine (read0 (V m c main_arg0) i j r u).trans ?_
      rw [V_main_arg0]
    · refine (read1 (V m c main_arg1) i j x u).trans ?_
      rw [V_main_arg1]
  · refine (congrFun (start m c (pt i 0) (by show (8 * i.val + 0) % 8 = 0; omega)) _).trans ((first_at _ _ r x).trans (add_zero _).symm)
  · refine (congrFun (step m c (pt i j.succ) (by show ¬(8 * i.val + (j.val + 1)) % 8 = 0; omega)) _).trans ((next_at _ _ _ r x).trans ?_)
    exact congrArg (fun f => f (ix2 r x) + _) (outs_congr m c _ _ _ _ rfl)

theorem io_surj (y : S4096x1024.Idx) : ∃ i r x, y = ix2 (row i r) x := by
  idx_vars y
  refine ⟨⟨y0.val / 1024, by omega⟩, ⟨y0.val % 1024, by omega⟩, y1, ?_⟩
  congr 1; apply Fin.ext; simp only [row]; omega

theorem final : (dats m 0 c).arrAt 2 cfg0.N = prod (m ((c : Thread nD τ).loc main_arg0)) (m ((c : Thread nD τ).loc main_arg1)) := by
  refine (dats m 0 c).arrAt_eq_of_cover 2 _ (fun t hf => ?_) fun y => ?_
  · have h7 := (flush0_2 t).mp hf
    have hN : t.val < 32 := lt_of_lt_of_eq t.isLt N_0
    obtain ⟨i, rfl⟩ : ∃ i, t = pt i 7 := ⟨⟨t.val / 8, by omega⟩, Fin.ext (by show t.val = 8 * (t.val / 8) + 7; omega)⟩
    rw [Value.flushed2]
    funext y
    obtain ⟨r, x, rfl⟩ : ∃ r x, y = ix2 r x := by
      idx_vars y
      exact ⟨y0, y1, rfl⟩
    exact (last m c i r x).trans (congrArg (prod _ _) (emb2 i 7 r x).symm)
  · obtain ⟨i, r, x, rfl⟩ := io_surj y
    exact ⟨pt i 7, (flush0_2 _).mpr (by show (8 * i.val + 7) % 8 = 7; omega), emb2 i 7 r x ▸ View.emb_mem_set _ _⟩

/-! ## The claims -/

theorem frame_kernel : Cert.quiescent_FfnInDx := fun m ρ _ => Cert.FfnInDx.Gen.frame m ρ
theorem frame_ideal : Cert.quiescent_FfnInDxIdeal := fun m ρ _ => Cert.FfnInDxIdeal.Gen.frame m ρ
theorem frame_reference : Cert.quiescent_FfnInDxReferenceIdeal := fun m ρ _ =>
  (θ_run Cert.FfnInDxReferenceIdeal.defs _ _).mono (fun r h => ⟨fun c => (h c).2, sem_eq_zero_of_no_sems (by decide) r.2⟩)
    (Cert.FfnInDxReferenceIdeal.Value.run (F := Ideal) m ρ)

theorem same : Cert.algebraic_FfnInDxIdeal_FfnInDxReferenceIdeal (hFfnInDxIdeal := Cert.FfnInDxIdeal.Gen.facts)
    (hFfnInDxReferenceIdeal := Cert.FfnInDxReferenceIdeal.Gen.facts) := by
  intro m g m' g' _ hm
  refine ⟨fun c => prod (m ((c : Thread nD τ).loc main_arg0)) (m ((c : Thread nD τ).loc main_arg1)), ?_, ?_⟩
  · exact (θ_run Cert.FfnInDxIdeal.defs _ _).mono (fun r h c => ⟨(h c).1.trans (final m c), (h c).2⟩) (Value.run_blocks (F := Ideal) m g)
  · exact (θ_run Cert.FfnInDxReferenceIdeal.defs _ _).mono (fun r h c => ⟨(h c).1.trans (congrArg₂ prod (hm c).1 (hm c).2), (h c).2⟩)
      (Cert.FfnInDxReferenceIdeal.Value.run (F := Ideal) m' g')

end Cert.Product.InDx

end
-- ==== Proof.FfnOutDw.lean ====
/- The gradient of the feed-forward's second matrix: aᵀ dy of each slab, in two blocks of rows. -/
module

public import proofs.«01_k».proof.Defs
public import proofs.«01_k».proof.Proof.Product
public import proofs.«01_k».proof.Proof.Gen.FfnOutDw.Frame
public import proofs.«01_k».proof.Proof.Gen.FfnOutDwIdeal.Value
public import proofs.«01_k».proof.Proof.Gen.FfnOutDwReferenceIdeal.Run

@[expose] public section

set_option maxRecDepth 16384

noncomputable section

namespace Cert.Product.OutDw

open Cert.FfnOutDwIdeal Cert.FfnOutDwIdeal.Gen Idealize.ShloMosaic Idealize.ShloMosaic.TcCoe Idealize.SL.Sem

theorem first_at (a : FVec Ideal S1x2048x704 .bf16) (b : FVec Ideal S2048x1024 .bf16) (x : Fin 704) (i : Fin 1024) :
    k0_pay2 (F := Ideal) a b (ix2 x i) = ∑ t : Fin 2048, a (ix3 0 t x) * b (ix2 t i) := by
  pointwise [k0_pay2, k0_pay1]
theorem next_at (a : FVec Ideal S1x2048x704 .bf16) (b : FVec Ideal S2048x1024 .bf16) (s : FVec Ideal S704x1024 .f32) (x : Fin 704) (i : Fin 1024) :
    k0_pay3 (F := Ideal) a b s (ix2 x i) = s (ix2 x i) + ∑ t : Fin 2048, a (ix3 0 t x) * b (ix2 t i) := by
  pointwise [k0_pay3, k0_pay1]
theorem last_at (s : FVec Ideal S704x1024 .f32) (x : Fin 704) (i : Fin 1024) : k0_pay4 (F := Ideal) s (ix3 0 x i) = s (ix2 x i) := by
  pointwise [k0_pay4]

/-- The reference's array. -/
def prod (a : FVec Ideal S4x4096x704 .bf16) (b : FVec Ideal S4096x1024 .bf16) : FVec Ideal S4x704x1024 .bf16 :=
  truncf .bf16 (transpose Cert.FfnOutDwReferenceIdeal.S4x704x1024 [1, 2, 0]
      (Host.dotGeneral (F := Ideal) Cert.FfnOutDwReferenceIdeal.dot_S4096x1024_S4x4096x704_S1024x4x704_0_1_1_02_n_n none
        (extf .f32 b Cert.FfnOutDwReferenceIdeal.Facts₀.bitsLt_bf16_f32) (extf .f32 a Cert.FfnOutDwReferenceIdeal.Facts₀.bitsLt_bf16_f32))
      Cert.FfnOutDwReferenceIdeal.Facts₀.transposes_S1024x4x704_S4x704x1024_1_2_0) Cert.FfnOutDwReferenceIdeal.Facts₀.bitsLt_bf16_f32

theorem prod_at (a : FVec Ideal S4x4096x704 .bf16) (b : FVec Ideal S4096x1024 .bf16) (j : Fin 4) (x : Fin 704) (i : Fin 1024) :
    prod a b (ix3 j x i) = ∑ t : Fin 4096, a (ix3 j t x) * b (ix2 t i) := by
  pointwise [prod]
  exact Finset.sum_congr rfl fun t _ => mul_comm _ _

/-! ## What the grid's points leave -/

variable (m : (ℓ : Loc nD τ sig) → Buf (Elt Ideal) ℓ) (c : Dev nD)

/-- After the first half of the rows the accumulator holds their product. -/
theorem half (t : Fin cfg0.N) (h : t.val % 2 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ fun _ => scover0_A_0 ..]
  unfold kernelRun0_A
  dsimp only
  rw [View.canon_unit_zero zero_two]
  simp only [View.readAt_eq_ld, (hs0_0 t).read_unread, (hs0_1 t).read_unread, View.ld_unit_zero (S := S2048x1024) zero_two, View.ld_unit_zero (S := S1x2048x704) zero_three]

/-- What a point of the second half writes back. -/
theorem whole (t : Fin cfg0.N) (h : t.val % 2 = 1) : (dats m 0 c).flushed 2 t
    = (cfg0.win 2).cut (grid0.coords t) (k0_pay4 (k0_pay3 (iblk m c 0 t) (iblk m c 1 t) (outsAt0 m c (t.val - 1) (Nat.lt_of_le_of_lt (Nat.sub_le _ _) t.isLt)).2)) := by
  rw [Value.flushed2_B m c t (by omega) h h]
  unfold out0_B_2
  rw [View.read_writes_eq_canon _ _ _ fun _ => cover0_B_2 ..]
  unfold kernelRun0_B
  dsimp only
  sl_unfold_words
  rw [View.canon_unit_zero zero_three, View.readCov_unit_zero _ zero_two]
  simp only [View.readAt_eq_ld, (hs0_0 t).read_unread, (hs0_1 t).read_unread, (Memref.isWhole_whole cc0_scratch0).read_unread,
    View.ld_unit_zero (S := S2048x1024) zero_two, View.ld_unit_zero (S := S1x2048x704) zero_three,
    View.ld_unit_zero (S := S704x1024) zero_two]

/-! ## The array after the run -/

/-- The point of slab `j` and half `k` of the rows. -/
def pt (j : Fin 4) (k : Fin 2) : Fin cfg0.N := ⟨2 * j.val + k.val, lt_of_lt_of_eq (by omega) N_0.symm⟩
/-- Row `t` of half `k`. -/
def row (k : Fin 2) (t : Fin 2048) : Fin 4096 := ⟨k.val * 2048 + t.val, by omega⟩
theorem row0 (t : Fin 2048) (h : t.val < 4096) : row 0 t = ⟨t.val, h⟩ := Fin.ext (by simp [row])
theorem row1 (t : Fin 2048) (h : 2048 + t.val < 4096) : row 1 t = ⟨2048 + t.val, h⟩ := Fin.ext (by simp [row])

theorem idx : ∀ (j : Fin 4) (k : Fin 2), win0_0.index (pt j k) = ![j.val, k.val, 0] ∧ win0_1.index (pt j k) = ![k.val, 0]
    ∧ win0_2.index (pt j k) = ![j.val, 0, 0] := by decide +kernel

theorem read0 (X : FVec Ideal S4x4096x704 .bf16) (j : Fin 4) (k : Fin 2) (t : Fin 2048) (x : Fin 704) :
    ((cfg0.win 0).blk (pt j k)).view.read (Elt Ideal) X (ix3 0 t x) = X (ix3 j (row k t) x) := by
  obtain ⟨e, -⟩ := idx j k
  refine congrArg X (funext fun a => Fin.ext ?_)
  match a with
  | ⟨0, _⟩ => show win0_0.index (pt j k) (0 : Fin 3) * 1 + 1 * 0 = j.val; rw [e]; simp
  | ⟨1, _⟩ => show win0_0.index (pt j k) (1 : Fin 3) * 2048 + 1 * t.val = k.val * 2048 + t.val; rw [e]; simp
  | ⟨2, _⟩ => show win0_0.index (pt j k) (2 : Fin 3) * 704 + 1 * x.val = x.val; rw [e]; simp
theorem read1 (X : FVec Ideal S4096x1024 .bf16) (j : Fin 4) (k : Fin 2) (t : Fin 2048) (i : Fin 1024) :
    ((cfg0.win 1).blk (pt j k)).view.read (Elt Ideal) X (ix2 t i) = X (ix2 (row k t) i) := by
  obtain ⟨-, e, -⟩ := idx j k
  refine congrArg X (funext fun a => Fin.ext ?_)
  match a with
  | ⟨0, _⟩ => show win0_1.index (pt j k) (0 : Fin 2) * 2048 + 1 * t.val = k.val * 2048 + t.val; rw [e]; simp
  | ⟨1, _⟩ => show win0_1.index (pt j k) (1 : Fin 2) * 1024 + 1 * i.val = i.val; rw [e]; simp
theorem read2 (X : FVec Ideal S4x704x1024 .bf16) (j : Fin 4) (k : Fin 2) (x : Fin 704) (i : Fin 1024) :
    ((cfg0.win 2).blk (pt j k)).view.read (Elt Ideal) X (ix3 0 x i) = X (ix3 j x i) := by
  obtain ⟨-, -, e⟩ := idx j k
  refine congrArg X (funext fun a => Fin.ext ?_)
  match a with
  | ⟨0, _⟩ => show win0_2.index (pt j k) (0 : Fin 3) * 1 + 1 * 0 = j.val; rw [e]; simp
  | ⟨1, _⟩ => show win0_2.index (pt j k) (1 : Fin 3) * 704 + 1 * x.val = x.val; rw [e]; simp
  | ⟨2, _⟩ => show win0_2.index (pt j k) (2 : Fin 3) * 1024 + 1 * i.val = i.val; rw [e]; simp

theorem flush_last : ∀ j : Fin 4, (cfg0.win 2).flush (pt j 1) = true := (by decide +kernel : ∀ j : Fin 4, win0_2.flush (pt j 1) = true)

theorem final : (dats m 0 c).arrAt 2 cfg0.N = prod (m ((c : Thread nD τ).loc main_arg0)) (m ((c : Thread nD τ).loc main_arg1)) := by
  funext y
  obtain ⟨j, x, i, rfl⟩ : ∃ j x i, y = ix3 j x i := by
    idx_vars y
    exact ⟨y0, y1, y2, rfl⟩
  rw [Value.final2]
  refine (read2 _ j 1 x i).symm.trans ((congrFun (Value.flushed2_eq m c (pt j 1) (flush_last j)) (ix3 0 x i)).symm.trans ?_)
  rw [whole m c (pt j 1) (by show (2 * j.val + 1) % 2 = 1; omega)]
  have e := half m c (pt j 0) (by show (2 * j.val + 0) % 2 = 0; omega)
  refine (last_at _ x i).trans ((next_at _ _ _ x i).trans ?_)
  refine Eq.trans ?_ (prod_at _ _ j x i).symm
  rw [sum_two 2048 rfl]
  refine congrArg₂ (· + ·) ((congrFun e (ix2 x i)).trans ((first_at _ _ x i).trans ?_)) ?_
  all_goals refine Finset.sum_congr rfl fun t _ => congrArg₂ (· * ·) ?_ ?_
  · refine (read0 (V m c main_arg0) j 0 t x).trans ?_
    rw [V_main_arg0, row0]
  · refine (read1 (V m c main_arg1) j 0 t i).trans ?_
    rw [V_main_arg1, row0]
  · refine (read0 (V m c main_arg0) j 1 t x).trans ?_
    rw [V_main_arg0, row1]
  · refine (read1 (V m c main_arg1) j 1 t i).trans ?_
    rw [V_main_arg1, row1]

/-! ## The claims -/

theorem frame_kernel : Cert.quiescent_FfnOutDw := fun m ρ _ => Cert.FfnOutDw.Gen.frame m ρ
theorem frame_ideal : Cert.quiescent_FfnOutDwIdeal := fun m ρ _ => Cert.FfnOutDwIdeal.Gen.frame m ρ
theorem frame_reference : Cert.quiescent_FfnOutDwReferenceIdeal := fun m ρ _ =>
  (θ_run Cert.FfnOutDwReferenceIdeal.defs _ _).mono (fun r h => ⟨fun c => (h c).2, sem_eq_zero_of_no_sems (by decide) r.2⟩)
    (Cert.FfnOutDwReferenceIdeal.Value.run (F := Ideal) m ρ)

theorem same : Cert.algebraic_FfnOutDwIdeal_FfnOutDwReferenceIdeal (hFfnOutDwIdeal := Cert.FfnOutDwIdeal.Gen.facts)
    (hFfnOutDwReferenceIdeal := Cert.FfnOutDwReferenceIdeal.Gen.facts) := by
  intro m g m' g' _ hm
  refine ⟨fun c => prod (m ((c : Thread nD τ).loc main_arg0)) (m ((c : Thread nD τ).loc main_arg1)), ?_, ?_⟩
  · exact (θ_run Cert.FfnOutDwIdeal.defs _ _).mono (fun r h c => ⟨(h c).1.trans (final m c), (h c).2⟩) (Value.run_blocks (F := Ideal) m g)
  · exact (θ_run Cert.FfnOutDwReferenceIdeal.defs _ _).mono (fun r h c => ⟨(h c).1.trans (congrArg₂ prod (hm c).1 (hm c).2), (h c).2⟩)
      (Cert.FfnOutDwReferenceIdeal.Value.run (F := Ideal) m' g')

end Cert.Product.OutDw

end
-- ==== Proof.FfnOutDx.lean ====
/- The gradients of the feed-forward's two pre-activations, from the gradient of its output: each point multiplies out one
   slab's rows and applies the derivative of the gated activation, both halves in one block of the result. -/
module

public import proofs.«01_k».proof.Defs
public import proofs.«01_k».proof.Proof.Product
public import proofs.«01_k».proof.Proof.Gen.FfnOutDx.Frame
public import proofs.«01_k».proof.Proof.Gen.FfnOutDxIdeal.Value
public import proofs.«01_k».proof.Proof.Gen.FfnOutDxReferenceIdeal.Run

@[expose] public section

set_option maxRecDepth 16384

noncomputable section

namespace Cert.Product.OutDx

open Cert.FfnOutDxIdeal Cert.FfnOutDxIdeal.Gen Idealize.ShloMosaic Idealize.ShloMosaic.TcCoe Idealize.SL.Sem

/-- The logistic function as both texts spell it. -/
def sg (g : EReal) : EReal := Ideal.logistic g
/-- The gradient of the gate's pre-activation: from the product's gradient `p`, the gate `g` and the other half `u`. -/
def toGate (p g u : EReal) : EReal := p * u * sg g + g * (p * u) * (sg g * (1 - sg g))
/-- The gradient of the other half. -/
def toUp (p g : EReal) : EReal := g * sg g * p
/-- A row of the product's gradient. -/
def dot (a : FVec Ideal S1024x1024 .bf16) (b : FVec Ideal S1x704x1024 .bf16) (r : Fin 1024) (f : Fin 704) : EReal :=
  ∑ d : Fin 1024, a (ix2 r d) * b (ix3 0 f d)

theorem pay1_at (a : FVec Ideal S1024x1024 .bf16) (b : FVec Ideal S1x704x1024 .bf16) (r : Fin 1024) (f : Fin 704) :
    k0_pay1 (F := Ideal) a b (ix2 r f) = ∑ d : Fin 1024, a (ix2 r d) * b (ix3 0 f d) := by pointwise [k0_pay1]
theorem pay2_at (g : FVec Ideal S1x1024x704 .f32) (r : Fin 1024) (f : Fin 704) :
    k0_pay2 (F := Ideal) g (ix2 r f) = g (ix3 0 r f) := by pointwise [k0_pay2]
theorem pay3_at (g : FVec Ideal S1x1024x704 .f32) (r : Fin 1024) (f : Fin 704) :
    k0_pay3 (F := Ideal) g (ix2 r f) = sg (g (ix3 0 r f)) := congrArg Ideal.logistic (pay2_at g r f)

theorem gate_at (a : FVec Ideal S1024x1024 .bf16) (b : FVec Ideal S1x704x1024 .bf16) (g u : FVec Ideal S1x1024x704 .f32)
    (r : Fin 1024) (f : Fin 704) :
    k0_pay4 (F := Ideal) a b g u (ix4 0 0 r f) = toGate (dot a b r f) (g (ix3 0 r f)) (u (ix3 0 r f)) := by
  unfold dot
  rw [toGate, ← pay3_at g r f, ← pay2_at g r f, ← pay1_at a b r f]
  unfold k0_pay4
  pointwise []
theorem up_at (a : FVec Ideal S1024x1024 .bf16) (b : FVec Ideal S1x704x1024 .bf16) (g : FVec Ideal S1x1024x704 .f32)
    (r : Fin 1024) (f : Fin 704) :
    k0_pay5 (F := Ideal) a b g (ix4 0 0 r f) = toUp (dot a b r f) (g (ix3 0 r f)) := by
  unfold dot
  rw [toUp, ← pay3_at g r f, ← pay2_at g r f, ← pay1_at a b r f]
  unfold k0_pay5
  pointwise []

/-- The gradient of the product's left factor, slab by slab. -/
def slabs (a : FVec Ideal S4096x1024 .bf16) (b : FVec Ideal S4x704x1024 .bf16) : FVec Ideal Cert.FfnOutDxReferenceIdeal.S4x4096x704 .f32 :=
  transpose Cert.FfnOutDxReferenceIdeal.S4x4096x704 [1, 0, 2] (Host.dotGeneral Cert.FfnOutDxReferenceIdeal.dot_S4096x1024_S4x704x1024_S4096x4x704_1_2_0_01_n_n none (extf .f32 a Cert.FfnOutDxReferenceIdeal.Facts₀.bitsLt_bf16_f32) (extf .f32 b Cert.FfnOutDxReferenceIdeal.Facts₀.bitsLt_bf16_f32)) Cert.FfnOutDxReferenceIdeal.Facts₀.transposes_S4096x4x704_S4x4096x704_1_0_2
/-- The gates' half of the saved array. -/
def gates (h : FVec Ideal S8x4096x704 .f32) : FVec Ideal Cert.FfnOutDxReferenceIdeal.S4x4096x704 .f32 := extractStridedSlice Cert.FfnOutDxReferenceIdeal.S4x4096x704 ![0, 0, 0] h Cert.FfnOutDxReferenceIdeal.Facts₀.slices_S8x4096x704_S4x4096x704_0_0_0
/-- The other half. -/
def ups (h : FVec Ideal S8x4096x704 .f32) : FVec Ideal Cert.FfnOutDxReferenceIdeal.S4x4096x704 .f32 := extractStridedSlice Cert.FfnOutDxReferenceIdeal.S4x4096x704 ![4, 0, 0] h Cert.FfnOutDxReferenceIdeal.Facts₀.slices_S8x4096x704_S4x4096x704_4_0_0
/-- The array of ones. -/
def ones : FVec Ideal Cert.FfnOutDxReferenceIdeal.S4x4096x704 .f32 := broadcastInDim Cert.FfnOutDxReferenceIdeal.S4x4096x704 ![] Cert.FfnOutDxReferenceIdeal.Facts₀.bcast_S_S4x4096x704 (constant Cert.FfnOutDxReferenceIdeal.S_ .f32 0x3F800000#32)
/-- The logistic function of the gates. -/
def lgt (h : FVec Ideal S8x4096x704 .f32) : FVec Ideal Cert.FfnOutDxReferenceIdeal.S4x4096x704 .f32 := Host.divf ones (addf ones (Host.exp (Host.negf (gates h))))
/-- The reference's array. -/
def prod (a : FVec Ideal S4096x1024 .bf16) (b : FVec Ideal S4x704x1024 .bf16) (h : FVec Ideal S8x4096x704 .f32) : FVec Ideal S2x4x4096x704 .bf16 :=
  truncf .bf16 (concatenate Cert.FfnOutDxReferenceIdeal.S2x4x4096x704 0 [⟨Cert.FfnOutDxReferenceIdeal.S1x4x4096x704, (broadcastInDim Cert.FfnOutDxReferenceIdeal.S1x4x4096x704 ![1, 2, 3] Cert.FfnOutDxReferenceIdeal.Facts₀.bcast_S4x4096x704_S1x4x4096x704_1_2_3 (addf (mulf (mulf (slabs a b) (ups h)) (lgt h)) (mulf (mulf (gates h) (mulf (slabs a b) (ups h))) (mulf (lgt h) (subf ones (lgt h))))))⟩, ⟨Cert.FfnOutDxReferenceIdeal.S1x4x4096x704, (broadcastInDim Cert.FfnOutDxReferenceIdeal.S1x4x4096x704 ![1, 2, 3] Cert.FfnOutDxReferenceIdeal.Facts₀.bcast_S4x4096x704_S1x4x4096x704_1_2_3 (mulf (mulf (gates h) (lgt h)) (slabs a b)))⟩] Cert.FfnOutDxReferenceIdeal.Facts₀.concatenates_S1x4x4096x704_S1x4x4096x704_S2x4x4096x704_d0) Cert.FfnOutDxReferenceIdeal.Facts₀.bitsLt_bf16_f32

/-- An entry of the product's gradient. -/
def entry (a : FVec Ideal S4096x1024 .bf16) (b : FVec Ideal S4x704x1024 .bf16) (s : Fin 4) (t : Fin 4096) (f : Fin 704) : EReal :=
  ∑ d : Fin 1024, a (ix2 t d) * b (ix3 s f d)

theorem slabs_at (a : FVec Ideal S4096x1024 .bf16) (b : FVec Ideal S4x704x1024 .bf16) (s : Fin 4) (t : Fin 4096) (f : Fin 704) :
    slabs a b (ix3 s t f) = entry a b s t f := by unfold entry; pointwise [slabs]
theorem gates_at (h : FVec Ideal S8x4096x704 .f32) (s : Fin 4) (t : Fin 4096) (f : Fin 704) :
    gates h (ix3 s t f) = h (ix3 ⟨s.val, by omega⟩ t f) := by pointwise [gates]
theorem ups_at (h : FVec Ideal S8x4096x704 .f32) (s : Fin 4) (t : Fin 4096) (f : Fin 704) :
    ups h (ix3 s t f) = h (ix3 ⟨4 + s.val, by omega⟩ t f) := by pointwise [ups]
theorem ones_at (y : Cert.FfnOutDxReferenceIdeal.S4x4096x704.Idx) : ones y = 1 := by
  unfold ones
  exact Ideal.ofBits_one_f32
theorem lgt_at (h : FVec Ideal S8x4096x704 .f32) (s : Fin 4) (t : Fin 4096) (f : Fin 704) :
    lgt h (ix3 s t f) = sg (h (ix3 ⟨s.val, by omega⟩ t f)) := by
  unfold lgt
  show Ideal.div (ones _) (ones _ + Ideal.exp (-(gates h (ix3 s t f)))) = _
  rw [ones_at, gates_at]; rfl
theorem prod_gate (a : FVec Ideal S4096x1024 .bf16) (b : FVec Ideal S4x704x1024 .bf16) (h : FVec Ideal S8x4096x704 .f32)
    (s : Fin 4) (t : Fin 4096) (f : Fin 704) :
    prod a b h (ix4 0 s t f) = toGate (entry a b s t f) (h (ix3 ⟨s.val, by omega⟩ t f)) (h (ix3 ⟨4 + s.val, by omega⟩ t f)) := by
  rw [toGate, ← lgt_at h s t f, ← gates_at h s t f, ← ups_at h s t f, ← slabs_at a b s t f, ← ones_at (ix3 s t f)]
  pointwise [prod]
theorem prod_up (a : FVec Ideal S4096x1024 .bf16) (b : FVec Ideal S4x704x1024 .bf16) (h : FVec Ideal S8x4096x704 .f32)
    (s : Fin 4) (t : Fin 4096) (f : Fin 704) :
    prod a b h (ix4 1 s t f) = toUp (entry a b s t f) (h (ix3 ⟨s.val, by omega⟩ t f)) := by
  rw [toUp, ← lgt_at h s t f, ← gates_at h s t f, ← slabs_at a b s t f]
  pointwise [prod]

/-! ## A point's block -/

theorem out_gate (a : FVec Ideal S1024x1024 .bf16) (b : FVec Ideal S1x704x1024 .bf16) (g u : FVec Ideal S1x1024x704 .f32)
    (r : Fin 1024) (f : Fin 704) :
    out0_4 (F := Ideal) a b g u (ix4 0 0 r f) = toGate (dot a b r f) (g (ix3 0 r f)) (u (ix3 0 r f)) := by
  have e : (ix4 0 0 r f : S2x1x1024x704.Idx) = r0_3.emb (ix4 0 0 r f) := by
    refine funext fun a => Fin.ext ?_
    match a with
    | ⟨0, _⟩ => rfl
    | ⟨1, _⟩ => rfl
    | ⟨2, _⟩ => show r.val = 0 + 1 * r.val; omega
    | ⟨3, _⟩ => show f.val = 0 + 1 * f.val; omega
  unfold out0_4
  rw [View.canon_cons_of_not_mem, e, View.canon_cons_emb, ← gate_at]
  · simp only [View.ld_unit_zero (S := S1024x1024) zero_two, View.ld_unit_zero (S := S1x704x1024) zero_three,
      View.ld_unit_zero (S := S1x1024x704) zero_three]
  · rintro hm
    obtain ⟨x, hx⟩ := r0_4.exists_idx_of_mem hm
    have := congrArg (fun y : S2x1x1024x704.Idx => (y 0).val) hx
    have h1 : 1 + 1 * (x 0).val = 0 := this
    omega
theorem out_up (a : FVec Ideal S1024x1024 .bf16) (b : FVec Ideal S1x704x1024 .bf16) (g u : FVec Ideal S1x1024x704 .f32)
    (r : Fin 1024) (f : Fin 704) :
    out0_4 (F := Ideal) a b g u (ix4 1 0 r f) = toUp (dot a b r f) (g (ix3 0 r f)) := by
  have e : (ix4 1 0 r f : S2x1x1024x704.Idx) = r0_4.emb (ix4 0 0 r f) := by
    refine funext fun a => Fin.ext ?_
    match a with
    | ⟨0, _⟩ => rfl
    | ⟨1, _⟩ => rfl
    | ⟨2, _⟩ => show r.val = 0 + 1 * r.val; omega
    | ⟨3, _⟩ => show f.val = 0 + 1 * f.val; omega
  unfold out0_4
  rw [e, View.canon_cons_emb, ← up_at]
  simp only [View.ld_unit_zero (S := S1024x1024) zero_two, View.ld_unit_zero (S := S1x704x1024) zero_three,
    View.ld_unit_zero (S := S1x1024x704) zero_three]

/-! ## The array after the run -/

variable (m : (ℓ : Loc nD τ sig) → Buf (Elt Ideal) ℓ) (c : Dev nD)

/-- The point of block `i` of the rows and slab `s`. -/
def pt (i : Fin 4) (s : Fin 4) : Fin cfg0.N := ⟨4 * i.val + s.val, lt_of_lt_of_eq (by omega) N_0.symm⟩
/-- Row `r` of block `i`. -/
def row (i : Fin 4) (r : Fin 1024) : Fin 4096 := ⟨i.val * 1024 + r.val, by omega⟩

theorem idx : ∀ (i : Fin 4) (s : Fin 4), win0_0.index (pt i s) = ![i.val, 0] ∧ win0_1.index (pt i s) = ![s.val, 0, 0]
    ∧ win0_2.index (pt i s) = ![s.val, i.val, 0] ∧ win0_3.index (pt i s) = ![4 + s.val, i.val, 0]
    ∧ win0_4.index (pt i s) = ![0, s.val, i.val, 0] := by decide +kernel
theorem flush_all : ∀ t : Fin cfg0.N, (cfg0.win 4).flush t = true := (by decide +kernel : ∀ t : Fin grid0.N, _)

theorem read0 (X : FVec Ideal S4096x1024 .bf16) (i s : Fin 4) (r d : Fin 1024) :
    ((cfg0.win 0).blk (pt i s)).view.read (Elt Ideal) X (ix2 r d) = X (ix2 (row i r) d) := by
  obtain ⟨e, -⟩ := idx i s
  refine congrArg X (funext fun a => Fin.ext ?_)
  match a with
  | ⟨0, _⟩ => show win0_0.index (pt i s) (0 : Fin 2) * 1024 + 1 * r.val = i.val * 1024 + r.val; rw [e]; simp
  | ⟨1, _⟩ => show win0_0.index (pt i s) (1 : Fin 2) * 1024 + 1 * d.val = d.val; rw [e]; simp
theorem read1 (X : FVec Ideal S4x704x1024 .bf16) (i s : Fin 4) (f : Fin 704) (d : Fin 1024) :
    ((cfg0.win 1).blk (pt i s)).view.read (Elt Ideal) X (ix3 0 f d) = X (ix3 s f d) := by
  obtain ⟨-, e, -⟩ := idx i s
  refine congrArg X (funext fun a => Fin.ext ?_)
  match a with
  | ⟨0, _⟩ => show win0_1.index (pt i s) (0 : Fin 3) * 1 + 1 * 0 = s.val; rw [e]; simp
  | ⟨1, _⟩ => show win0_1.index (pt i s) (1 : Fin 3) * 704 + 1 * f.val = f.val; rw [e]; simp
  | ⟨2, _⟩ => show win0_1.index (pt i s) (2 : Fin 3) * 1024 + 1 * d.val = d.val; rw [e]; simp
theorem read2 (X : FVec Ideal S8x4096x704 .f32) (i s : Fin 4) (r : Fin 1024) (f : Fin 704) :
    ((cfg0.win 2).blk (pt i s)).view.read (Elt Ideal) X (ix3 0 r f) = X (ix3 ⟨s.val, by omega⟩ (row i r) f) := by
  obtain ⟨-, -, e, -⟩ := idx i s
  refine congrArg X (funext fun a => Fin.ext ?_)
  match a with
  | ⟨0, _⟩ => show win0_2.index (pt i s) (0 : Fin 3) * 1 + 1 * 0 = s.val; rw [e]; simp
  | ⟨1, _⟩ => show win0_2.index (pt i s) (1 : Fin 3) * 1024 + 1 * r.val = i.val * 1024 + r.val; rw [e]; simp
  | ⟨2, _⟩ => show win0_2.index (pt i s) (2 : Fin 3) * 704 + 1 * f.val = f.val; rw [e]; simp
theorem read3 (X : FVec Ideal S8x4096x704 .f32) (i s : Fin 4) (r : Fin 1024) (f : Fin 704) :
    ((cfg0.win 3).blk (pt i s)).view.read (Elt Ideal) X (ix3 0 r f) = X (ix3 ⟨4 + s.val, by omega⟩ (row i r) f) := by
  obtain ⟨-, -, -, e, -⟩ := idx i s
  refine congrArg X (funext fun a => Fin.ext ?_)
  match a with
  | ⟨0, _⟩ => show win0_3.index (pt i s) (0 : Fin 3) * 1 + 1 * 0 = 4 + s.val; rw [e]; simp
  | ⟨1, _⟩ => show win0_3.index (pt i s) (1 : Fin 3) * 1024 + 1 * r.val = i.val * 1024 + r.val; rw [e]; simp
  | ⟨2, _⟩ => show win0_3.index (pt i s) (2 : Fin 3) * 704 + 1 * f.val = f.val; rw [e]; simp
theorem read4 (X : FVec Ideal S2x4x4096x704 .bf16) (i s : Fin 4) (q : Fin 2) (r : Fin 1024) (f : Fin 704) :
    ((cfg0.win 4).blk (pt i s)).view.read (Elt Ideal) X (ix4 q 0 r f) = X (ix4 q s (row i r) f) := by
  obtain ⟨-, -, -, -, e⟩ := idx i s
  refine congrArg X (funext fun a => Fin.ext ?_)
  match a with
  | ⟨0, _⟩ => show win0_4.index (pt i s) (0 : Fin 4) * 2 + 1 * q.val = q.val; rw [e]; simp
  | ⟨1, _⟩ => show win0_4.index (pt i s) (1 : Fin 4) * 1 + 1 * 0 = s.val; rw [e]; simp
  | ⟨2, _⟩ => show win0_4.index (pt i s) (2 : Fin 4) * 1024 + 1 * r.val = i.val * 1024 + r.val; rw [e]; simp
  | ⟨3, _⟩ => show win0_4.index (pt i s) (3 : Fin 4) * 704 + 1 * f.val = f.val; rw [e]; simp

theorem io_surj (y : S2x4x4096x704.Idx) : ∃ i s q r f, y = ix4 q s (row i r) f := by
  idx_vars y
  refine ⟨⟨y2.val / 1024, by omega⟩, y1, y0, ⟨y2.val % 1024, by omega⟩, y3, ?_⟩
  congr 1; apply Fin.ext; simp only [row]; omega

theorem dot_blocks (i s : Fin 4) (r : Fin 1024) (f : Fin 704) : dot (iblk m c 0 (pt i s)) (iblk m c 1 (pt i s)) r f
    = entry (m ((c : Thread nD τ).loc main_arg0)) (m ((c : Thread nD τ).loc main_arg1)) s (row i r) f := by
  refine Finset.sum_congr rfl fun d _ => congrArg₂ (· * ·) ?_ ?_
  · refine (read0 (V m c main_arg0) i s r d).trans ?_
    rw [V_main_arg0]
  · refine (read1 (V m c main_arg1) i s f d).trans ?_
    rw [V_main_arg1]
theorem gate_block (i s : Fin 4) (r : Fin 1024) (f : Fin 704) : (iblk m c 2 (pt i s) : FVec Ideal S1x1024x704 .f32) (ix3 0 r f)
    = (m ((c : Thread nD τ).loc main_arg2) : FVec Ideal S8x4096x704 .f32) (ix3 ⟨s.val, by omega⟩ (row i r) f) := by
  refine (read2 (V m c main_arg2) i s r f).trans ?_
  rw [V_main_arg2]
theorem up_block (i s : Fin 4) (r : Fin 1024) (f : Fin 704) : (iblk m c 3 (pt i s) : FVec Ideal S1x1024x704 .f32) (ix3 0 r f)
    = (m ((c : Thread nD τ).loc main_arg2) : FVec Ideal S8x4096x704 .f32) (ix3 ⟨4 + s.val, by omega⟩ (row i r) f) := by
  refine (read3 (V m c main_arg2) i s r f).trans ?_
  rw [V_main_arg2]

theorem gate_congr {p p' g g' u u' : EReal} (ep : p = p') (eg : g = g') (eu : u = u') : toGate p g u = toGate p' g' u' := by
  rw [ep, eg, eu]

theorem final : (dats m 0 c).arrAt 4 cfg0.N
    = prod (m ((c : Thread nD τ).loc main_arg0)) (m ((c : Thread nD τ).loc main_arg1)) (m ((c : Thread nD τ).loc main_arg2)) := by
  funext y
  obtain ⟨i, s, q, r, f, rfl⟩ := io_surj y
  refine (read4 _ i s q r f).symm.trans ?_
  refine (congrFun (Value.blocks4 m c (pt i s) (flush_all _)) (ix4 q 0 r f)).trans ?_
  rw [Value.flushed4]
  match q with
  | 0 => exact (out_gate (iblk m c 0 (pt i s)) (iblk m c 1 (pt i s)) (iblk m c 2 (pt i s)) (iblk m c 3 (pt i s)) r f).trans ((gate_congr (dot_blocks m c i s r f) (gate_block m c i s r f) (up_block m c i s r f)).trans
      (prod_gate _ _ _ s (row i r) f).symm)
  | 1 => exact (out_up (iblk m c 0 (pt i s)) (iblk m c 1 (pt i s)) (iblk m c 2 (pt i s)) (iblk m c 3 (pt i s)) r f).trans ((congrArg₂ toUp (dot_blocks m c i s r f) (gate_block m c i s r f)).trans
      (prod_up _ _ _ s (row i r) f).symm)

theorem prod_congr {a a' : FVec Ideal S4096x1024 .bf16} {b b' : FVec Ideal S4x704x1024 .bf16} {h h' : FVec Ideal S8x4096x704 .f32}
    (ea : a = a') (eb : b = b') (eh : h = h') : prod a b h = prod a' b' h' := by subst ea eb eh; rfl

/-! ## The claims -/

theorem frame_kernel : Cert.quiescent_FfnOutDx := fun m ρ _ => Cert.FfnOutDx.Gen.frame m ρ
theorem frame_ideal : Cert.quiescent_FfnOutDxIdeal := fun m ρ _ => Cert.FfnOutDxIdeal.Gen.frame m ρ
theorem frame_reference : Cert.quiescent_FfnOutDxReferenceIdeal := fun m ρ _ =>
  (θ_run Cert.FfnOutDxReferenceIdeal.defs _ _).mono (fun r h => ⟨fun c => (h c).2, sem_eq_zero_of_no_sems (by decide) r.2⟩)
    (Cert.FfnOutDxReferenceIdeal.Value.run (F := Ideal) m ρ)

theorem same : Cert.algebraic_FfnOutDxIdeal_FfnOutDxReferenceIdeal (hFfnOutDxIdeal := Cert.FfnOutDxIdeal.Gen.facts)
    (hFfnOutDxReferenceIdeal := Cert.FfnOutDxReferenceIdeal.Gen.facts) := by
  intro m g m' g' _ hm
  refine ⟨fun c => prod (m ((c : Thread nD τ).loc main_arg0)) (m ((c : Thread nD τ).loc main_arg1))
    (m ((c : Thread nD τ).loc main_arg2)), ?_, ?_⟩
  · exact (θ_run Cert.FfnOutDxIdeal.defs _ _).mono (fun r h c => ⟨(h c).1.trans (final m c), (h c).2⟩) (Value.run_blocks (F := Ideal) m g)
  · exact (θ_run Cert.FfnOutDxReferenceIdeal.defs _ _).mono (fun r h c => ⟨(h c).1.trans (prod_congr (hm c).1 (hm c).2.1 (hm c).2.2), (h c).2⟩)
      (Cert.FfnOutDxReferenceIdeal.Value.run (F := Ideal) m' g')

end Cert.Product.OutDx

end
-- ==== Proof.BranchAttDx.lean ====
/- The gradient of the attention branch's output, d wᵀ, in bf16. -/
module

public import proofs.«01_k».proof.Defs
public import proofs.«01_k».proof.Proof.Product
public import proofs.«01_k».proof.Proof.Gen.BranchAttDx.Frame
public import proofs.«01_k».proof.Proof.Gen.BranchAttDxIdeal.Value
public import proofs.«01_k».proof.Proof.Gen.BranchAttDxReferenceIdeal.Run

@[expose] public section

set_option maxRecDepth 16384

noncomputable section

namespace Cert.Product.BranchAttDx

open Cert.BranchAttDxIdeal Cert.BranchAttDxIdeal.Gen Idealize.ShloMosaic Idealize.ShloMosaic.TcCoe Idealize.SL.Sem

/-- The reference's array. -/
def prod (a : FVec Ideal S4096x1024 .bf16) (b : FVec Ideal S1024x1024 .bf16) : FVec Ideal S4096x1024 .bf16 :=
  truncf .bf16 (Host.dotGeneral (F := Ideal) Cert.BranchAttDxReferenceIdeal.dot_S4096x1024_S1024x1024_S4096x1024_1_1_0_0_n_n none (extf .f32 a Cert.BranchAttDxReferenceIdeal.Facts₀.bitsLt_bf16_f32) (extf .f32 b Cert.BranchAttDxReferenceIdeal.Facts₀.bitsLt_bf16_f32)) Cert.BranchAttDxReferenceIdeal.Facts₀.bitsLt_bf16_f32

theorem prod_at (a : FVec Ideal S4096x1024 .bf16) (b : FVec Ideal S1024x1024 .bf16) (t : Fin 4096) (x : Fin 1024) :
    prod a b (ix2 t x) = ∑ d : Fin 1024, a (ix2 t d) * b (ix2 x d) := by
  pointwise [prod]

/-- A point's block of the result. -/
theorem out_at (a b : FVec Ideal S1024x1024 .bf16) (r x : Fin 1024) :
    out0_2 (F := Ideal) a b (ix2 r x) = ∑ d : Fin 1024, a (ix2 r d) * b (ix2 x d) := by
  unfold out0_2
  rw [View.canon_unit_zero zero_two]
  simp only [View.ld_unit_zero (S := S1024x1024) zero_two]
  pointwise [k0_pay1]

/-! ## The array after the run -/

variable (m : (ℓ : Loc nD τ sig) → Buf (Elt Ideal) ℓ) (c : Dev nD)

/-- The point of block `i` of the rows and block `j` of the columns. -/
def pt (i : Fin 4) (j : Fin 1) : Fin cfg0.N := ⟨1 * i.val + j.val, lt_of_lt_of_eq (by omega) N_0.symm⟩
/-- Row `r` of block `i`; column `x` of block `j`. -/
def row (i : Fin 4) (r : Fin 1024) : Fin 4096 := ⟨i.val * 1024 + r.val, by omega⟩
def col (j : Fin 1) (x : Fin 1024) : Fin 1024 := ⟨j.val * 1024 + x.val, by omega⟩

theorem idx : ∀ (i : Fin 4) (j : Fin 1), win0_0.index (pt i j) = ![i.val, 0] ∧ win0_1.index (pt i j) = ![j.val, 0]
    ∧ win0_2.index (pt i j) = ![i.val, j.val] := by decide +kernel
theorem flush_all : ∀ t : Fin cfg0.N, (cfg0.win 2).flush t = true := (by decide +kernel : ∀ t : Fin grid0.N, _)

theorem read0 (X : FVec Ideal S4096x1024 .bf16) (i : Fin 4) (j : Fin 1) (r d : Fin 1024) :
    ((cfg0.win 0).blk (pt i j)).view.read (Elt Ideal) X (ix2 r d) = X (ix2 (row i r) d) := by
  obtain ⟨e, -⟩ := idx i j
  refine congrArg X (funext fun a => Fin.ext ?_)
  match a with
  | ⟨0, _⟩ => show win0_0.index (pt i j) (0 : Fin 2) * 1024 + 1 * r.val = i.val * 1024 + r.val; rw [e]; simp
  | ⟨1, _⟩ => show win0_0.index (pt i j) (1 : Fin 2) * 1024 + 1 * d.val = d.val; rw [e]; simp
theorem read1 (X : FVec Ideal S1024x1024 .bf16) (i : Fin 4) (j : Fin 1) (x d : Fin 1024) :
    ((cfg0.win 1).blk (pt i j)).view.read (Elt Ideal) X (ix2 x d) = X (ix2 (col j x) d) := by
  obtain ⟨-, e, -⟩ := idx i j
  refine congrArg X (funext fun a => Fin.ext ?_)
  match a with
  | ⟨0, _⟩ => show win0_1.index (pt i j) (0 : Fin 2) * 1024 + 1 * x.val = j.val * 1024 + x.val; rw [e]; simp
  | ⟨1, _⟩ => show win0_1.index (pt i j) (1 : Fin 2) * 1024 + 1 * d.val = d.val; rw [e]; simp
theorem read2 (X : FVec Ideal S4096x1024 .bf16) (i : Fin 4) (j : Fin 1) (r x : Fin 1024) :
    ((cfg0.win 2).blk (pt i j)).view.read (Elt Ideal) X (ix2 r x) = X (ix2 (row i r) (col j x)) := by
  obtain ⟨-, -, e⟩ := idx i j
  refine congrArg X (funext fun a => Fin.ext ?_)
  match a with
  | ⟨0, _⟩ => show win0_2.index (pt i j) (0 : Fin 2) * 1024 + 1 * r.val = i.val * 1024 + r.val; rw [e]; simp
  | ⟨1, _⟩ => show win0_2.index (pt i j) (1 : Fin 2) * 1024 + 1 * x.val = j.val * 1024 + x.val; rw [e]; simp

theorem final : (dats m 0 c).arrAt 2 cfg0.N = prod (m ((c : Thread nD τ).loc main_arg0)) (m ((c : Thread nD τ).loc main_arg1)) := by
  funext y
  obtain ⟨i, r, j, x, rfl⟩ : ∃ i r j x, y = ix2 (row i r) (col j x) := by
    idx_vars y
    refine ⟨⟨y0.val / 1024, by omega⟩, ⟨y0.val % 1024, by omega⟩, ⟨y1.val / 1024, by omega⟩, ⟨y1.val % 1024, by omega⟩, ?_⟩
    congr 1 <;> apply Fin.ext <;> simp only [row, col] <;> omega
  refine (read2 _ i j r x).symm.trans ((congrFun (Value.blocks2 m c (pt i j) (flush_all _)) (ix2 r x)).trans ?_)
  rw [Value.flushed2]
  refine (out_at (iblk m c 0 (pt i j)) (iblk m c 1 (pt i j)) r x).trans (Eq.trans ?_ (prod_at _ _ (row i r) (col j x)).symm)
  refine Finset.sum_congr rfl fun d _ => congrArg₂ (· * ·) ?_ ?_
  · refine (read0 (V m c main_arg0) i j r d).trans ?_
    rw [V_main_arg0]
  · refine (read1 (V m c main_arg1) i j x d).trans ?_
    rw [V_main_arg1]

/-! ## The claims -/

theorem frame_kernel : Cert.quiescent_BranchAttDx := fun m ρ _ => Cert.BranchAttDx.Gen.frame m ρ
theorem frame_ideal : Cert.quiescent_BranchAttDxIdeal := fun m ρ _ => Cert.BranchAttDxIdeal.Gen.frame m ρ
theorem frame_reference : Cert.quiescent_BranchAttDxReferenceIdeal := fun m ρ _ =>
  (θ_run Cert.BranchAttDxReferenceIdeal.defs _ _).mono (fun r h => ⟨fun c => (h c).2, sem_eq_zero_of_no_sems (by decide) r.2⟩)
    (Cert.BranchAttDxReferenceIdeal.Value.run (F := Ideal) m ρ)

theorem same : Cert.algebraic_BranchAttDxIdeal_BranchAttDxReferenceIdeal (hBranchAttDxIdeal := Cert.BranchAttDxIdeal.Gen.facts)
    (hBranchAttDxReferenceIdeal := Cert.BranchAttDxReferenceIdeal.Gen.facts) := by
  intro m g m' g' _ hm
  refine ⟨fun c => prod (m ((c : Thread nD τ).loc main_arg0)) (m ((c : Thread nD τ).loc main_arg1)), ?_, ?_⟩
  · exact (θ_run Cert.BranchAttDxIdeal.defs _ _).mono (fun r h c => ⟨(h c).1.trans (final m c), (h c).2⟩) (Value.run_blocks (F := Ideal) m g)
  · exact (θ_run Cert.BranchAttDxReferenceIdeal.defs _ _).mono (fun r h c => ⟨(h c).1.trans (congrArg₂ prod (hm c).1 (hm c).2), (h c).2⟩)
      (Cert.BranchAttDxReferenceIdeal.Value.run (F := Ideal) m' g')

end Cert.Product.BranchAttDx

end
-- ==== Proof.ZProjQkv.lean ====
/- The queries', keys' and values' part of the input projection: the first 3072 columns of x w. -/
module

public import proofs.«01_k».proof.Defs
public import proofs.«01_k».proof.Proof.Product
public import proofs.«01_k».proof.Proof.Gen.ZProjQkv.Frame
public import proofs.«01_k».proof.Proof.Gen.ZProjQkvIdeal.Value
public import proofs.«01_k».proof.Proof.Gen.ZProjQkvReferenceIdeal.Run

@[expose] public section

set_option maxRecDepth 16384

noncomputable section

namespace Cert.Product.ZProjQkv

open Cert.ZProjQkvIdeal Cert.ZProjQkvIdeal.Gen Idealize.ShloMosaic Idealize.ShloMosaic.TcCoe Idealize.SL.Sem

/-- The reference's array. -/
def prod (a : FVec Ideal S4096x1024 .bf16) (b : FVec Ideal S1024x7168 .bf16) : FVec Ideal S4096x3072 .bf16 :=
  truncf .bf16 (extractStridedSlice Cert.ZProjQkvReferenceIdeal.S4096x3072 ![0, 0] (Host.dotGeneral (F := Ideal) Cert.ZProjQkvReferenceIdeal.dot_S4096x1024_S1024x7168_S4096x7168_1_0_0_1_n_n none (extf .f32 a Cert.ZProjQkvReferenceIdeal.Facts₀.bitsLt_bf16_f32) (extf .f32 b Cert.ZProjQkvReferenceIdeal.Facts₀.bitsLt_bf16_f32)) Cert.ZProjQkvReferenceIdeal.Facts₀.slices_S4096x7168_S4096x3072_0_0) Cert.ZProjQkvReferenceIdeal.Facts₀.bitsLt_bf16_f32

theorem prod_at (a : FVec Ideal S4096x1024 .bf16) (b : FVec Ideal S1024x7168 .bf16) (t : Fin 4096) (x : Fin 3072) :
    prod a b (ix2 t x) = ∑ d : Fin 1024, a (ix2 t d) * b (ix2 d ⟨x.val, by omega⟩) := by
  pointwise [prod]

/-- A point's block of the result. -/
theorem out_at (a b : FVec Ideal S1024x1024 .bf16) (r x : Fin 1024) :
    out0_2 (F := Ideal) a b (ix2 r x) = ∑ d : Fin 1024, a (ix2 r d) * b (ix2 d x) := by
  unfold out0_2
  rw [View.canon_unit_zero zero_two]
  simp only [View.ld_unit_zero (S := S1024x1024) zero_two]
  pointwise [k0_pay1]

/-! ## The array after the run -/

variable (m : (ℓ : Loc nD τ sig) → Buf (Elt Ideal) ℓ) (c : Dev nD)

/-- The point of block `i` of the rows and block `j` of the columns. -/
def pt (i : Fin 4) (j : Fin 3) : Fin cfg0.N := ⟨3 * i.val + j.val, lt_of_lt_of_eq (by omega) N_0.symm⟩
/-- Row `r` of block `i`; column `x` of block `j`. -/
def row (i : Fin 4) (r : Fin 1024) : Fin 4096 := ⟨i.val * 1024 + r.val, by omega⟩
def col (j : Fin 3) (x : Fin 1024) : Fin 3072 := ⟨j.val * 1024 + x.val, by omega⟩

theorem idx : ∀ (i : Fin 4) (j : Fin 3), win0_0.index (pt i j) = ![i.val, 0] ∧ win0_1.index (pt i j) = ![0, j.val]
    ∧ win0_2.index (pt i j) = ![i.val, j.val] := by decide +kernel
theorem flush_all : ∀ t : Fin cfg0.N, (cfg0.win 2).flush t = true := (by decide +kernel : ∀ t : Fin grid0.N, _)

theorem read0 (X : FVec Ideal S4096x1024 .bf16) (i : Fin 4) (j : Fin 3) (r d : Fin 1024) :
    ((cfg0.win 0).blk (pt i j)).view.read (Elt Ideal) X (ix2 r d) = X (ix2 (row i r) d) := by
  obtain ⟨e, -⟩ := idx i j
  refine congrArg X (funext fun a => Fin.ext ?_)
  match a with
  | ⟨0, _⟩ => show win0_0.index (pt i j) (0 : Fin 2) * 1024 + 1 * r.val = i.val * 1024 + r.val; rw [e]; simp
  | ⟨1, _⟩ => show win0_0.index (pt i j) (1 : Fin 2) * 1024 + 1 * d.val = d.val; rw [e]; simp
theorem read1 (X : FVec Ideal S1024x7168 .bf16) (i : Fin 4) (j : Fin 3) (x d : Fin 1024) :
    ((cfg0.win 1).blk (pt i j)).view.read (Elt Ideal) X (ix2 d x) = X (ix2 d ⟨(col j x).val, by omega⟩) := by
  obtain ⟨-, e, -⟩ := idx i j
  refine congrArg X (funext fun a => Fin.ext ?_)
  match a with
  | ⟨0, _⟩ => show win0_1.index (pt i j) (0 : Fin 2) * 1024 + 1 * d.val = d.val; rw [e]; simp
  | ⟨1, _⟩ => show win0_1.index (pt i j) (1 : Fin 2) * 1024 + 1 * x.val = j.val * 1024 + x.val; rw [e]; simp
theorem read2 (X : FVec Ideal S4096x3072 .bf16) (i : Fin 4) (j : Fin 3) (r x : Fin 1024) :
    ((cfg0.win 2).blk (pt i j)).view.read (Elt Ideal) X (ix2 r x) = X (ix2 (row i r) (col j x)) := by
  obtain ⟨-, -, e⟩ := idx i j
  refine congrArg X (funext fun a => Fin.ext ?_)
  match a with
  | ⟨0, _⟩ => show win0_2.index (pt i j) (0 : Fin 2) * 1024 + 1 * r.val = i.val * 1024 + r.val; rw [e]; simp
  | ⟨1, _⟩ => show win0_2.index (pt i j) (1 : Fin 2) * 1024 + 1 * x.val = j.val * 1024 + x.val; rw [e]; simp

theorem final : (dats m 0 c).arrAt 2 cfg0.N = prod (m ((c : Thread nD τ).loc main_arg0)) (m ((c : Thread nD τ).loc main_arg1)) := by
  funext y
  obtain ⟨i, r, j, x, rfl⟩ : ∃ i r j x, y = ix2 (row i r) (col j x) := by
    idx_vars y
    refine ⟨⟨y0.val / 1024, by omega⟩, ⟨y0.val % 1024, by omega⟩, ⟨y1.val / 1024, by omega⟩, ⟨y1.val % 1024, by omega⟩, ?_⟩
    congr 1 <;> apply Fin.ext <;> simp only [row, col] <;> omega
  refine (read2 _ i j r x).symm.trans ((congrFun (Value.blocks2 m c (pt i j) (flush_all _)) (ix2 r x)).trans ?_)
  rw [Value.flushed2]
  refine (out_at (iblk m c 0 (pt i j)) (iblk m c 1 (pt i j)) r x).trans (Eq.trans ?_ (prod_at _ _ (row i r) (col j x)).symm)
  refine Finset.sum_congr rfl fun d _ => congrArg₂ (· * ·) ?_ ?_
  · refine (read0 (V m c main_arg0) i j r d).trans ?_
    rw [V_main_arg0]
  · refine (read1 (V m c main_arg1) i j x d).trans ?_
    rw [V_main_arg1]

/-! ## The claims -/

theorem frame_kernel : Cert.quiescent_ZProjQkv := fun m ρ _ => Cert.ZProjQkv.Gen.frame m ρ
theorem frame_ideal : Cert.quiescent_ZProjQkvIdeal := fun m ρ _ => Cert.ZProjQkvIdeal.Gen.frame m ρ
theorem frame_reference : Cert.quiescent_ZProjQkvReferenceIdeal := fun m ρ _ =>
  (θ_run Cert.ZProjQkvReferenceIdeal.defs _ _).mono (fun r h => ⟨fun c => (h c).2, sem_eq_zero_of_no_sems (by decide) r.2⟩)
    (Cert.ZProjQkvReferenceIdeal.Value.run (F := Ideal) m ρ)

theorem same : Cert.algebraic_ZProjQkvIdeal_ZProjQkvReferenceIdeal (hZProjQkvIdeal := Cert.ZProjQkvIdeal.Gen.facts)
    (hZProjQkvReferenceIdeal := Cert.ZProjQkvReferenceIdeal.Gen.facts) := by
  intro m g m' g' _ hm
  refine ⟨fun c => prod (m ((c : Thread nD τ).loc main_arg0)) (m ((c : Thread nD τ).loc main_arg1)), ?_, ?_⟩
  · exact (θ_run Cert.ZProjQkvIdeal.defs _ _).mono (fun r h c => ⟨(h c).1.trans (final m c), (h c).2⟩) (Value.run_blocks (F := Ideal) m g)
  · exact (θ_run Cert.ZProjQkvReferenceIdeal.defs _ _).mono (fun r h c => ⟨(h c).1.trans (congrArg₂ prod (hm c).1 (hm c).2), (h c).2⟩)
      (Cert.ZProjQkvReferenceIdeal.Value.run (F := Ideal) m' g')

end Cert.Product.ZProjQkv

end
-- ==== Proof.ZProjRest.lean ====
/- The rest of the input projection: the last 4096 columns of x w. -/
module

public import proofs.«01_k».proof.Defs
public import proofs.«01_k».proof.Proof.Product
public import proofs.«01_k».proof.Proof.Gen.ZProjRest.Frame
public import proofs.«01_k».proof.Proof.Gen.ZProjRestIdeal.Value
public import proofs.«01_k».proof.Proof.Gen.ZProjRestReferenceIdeal.Run

@[expose] public section

set_option maxRecDepth 16384

noncomputable section

namespace Cert.Product.ZProjRest

open Cert.ZProjRestIdeal Cert.ZProjRestIdeal.Gen Idealize.ShloMosaic Idealize.ShloMosaic.TcCoe Idealize.SL.Sem

/-- The reference's array. -/
def prod (a : FVec Ideal S4096x1024 .bf16) (b : FVec Ideal S1024x7168 .bf16) : FVec Ideal S4096x4096 .f32 :=
  extractStridedSlice Cert.ZProjRestReferenceIdeal.S4096x4096 ![0, 3072] (Host.dotGeneral (F := Ideal) Cert.ZProjRestReferenceIdeal.dot_S4096x1024_S1024x7168_S4096x7168_1_0_0_1_n_n none (extf .f32 a Cert.ZProjRestReferenceIdeal.Facts₀.bitsLt_bf16_f32) (extf .f32 b Cert.ZProjRestReferenceIdeal.Facts₀.bitsLt_bf16_f32)) Cert.ZProjRestReferenceIdeal.Facts₀.slices_S4096x7168_S4096x4096_0_3072

theorem prod_at (a : FVec Ideal S4096x1024 .bf16) (b : FVec Ideal S1024x7168 .bf16) (t : Fin 4096) (x : Fin 4096) :
    prod a b (ix2 t x) = ∑ d : Fin 1024, a (ix2 t d) * b (ix2 d ⟨3072 + x.val, by omega⟩) := by
  pointwise [prod]

/-- A point's block of the result. -/
theorem out_at (a b : FVec Ideal S1024x1024 .bf16) (r x : Fin 1024) :
    out0_2 (F := Ideal) a b (ix2 r x) = ∑ d : Fin 1024, a (ix2 r d) * b (ix2 d x) := by
  unfold out0_2
  rw [View.canon_unit_zero zero_two]
  simp only [View.ld_unit_zero (S := S1024x1024) zero_two]
  pointwise [k0_pay1]

/-! ## The array after the run -/

variable (m : (ℓ : Loc nD τ sig) → Buf (Elt Ideal) ℓ) (c : Dev nD)

/-- The point of block `i` of the rows and block `j` of the columns. -/
def pt (i : Fin 4) (j : Fin 4) : Fin cfg0.N := ⟨4 * i.val + j.val, lt_of_lt_of_eq (by omega) N_0.symm⟩
/-- Row `r` of block `i`; column `x` of block `j`. -/
def row (i : Fin 4) (r : Fin 1024) : Fin 4096 := ⟨i.val * 1024 + r.val, by omega⟩
def col (j : Fin 4) (x : Fin 1024) : Fin 4096 := ⟨j.val * 1024 + x.val, by omega⟩

theorem idx : ∀ (i : Fin 4) (j : Fin 4), win0_0.index (pt i j) = ![i.val, 0] ∧ win0_1.index (pt i j) = ![0, 3 + j.val]
    ∧ win0_2.index (pt i j) = ![i.val, j.val] := by decide +kernel
theorem flush_all : ∀ t : Fin cfg0.N, (cfg0.win 2).flush t = true := (by decide +kernel : ∀ t : Fin grid0.N, _)

theorem read0 (X : FVec Ideal S4096x1024 .bf16) (i : Fin 4) (j : Fin 4) (r d : Fin 1024) :
    ((cfg0.win 0).blk (pt i j)).view.read (Elt Ideal) X (ix2 r d) = X (ix2 (row i r) d) := by
  obtain ⟨e, -⟩ := idx i j
  refine congrArg X (funext fun a => Fin.ext ?_)
  match a with
  | ⟨0, _⟩ => show win0_0.index (pt i j) (0 : Fin 2) * 1024 + 1 * r.val = i.val * 1024 + r.val; rw [e]; simp
  | ⟨1, _⟩ => show win0_0.index (pt i j) (1 : Fin 2) * 1024 + 1 * d.val = d.val; rw [e]; simp
theorem read1 (X : FVec Ideal S1024x7168 .bf16) (i : Fin 4) (j : Fin 4) (x d : Fin 1024) :
    ((cfg0.win 1).blk (pt i j)).view.read (Elt Ideal) X (ix2 d x) = X (ix2 d ⟨3072 + (col j x).val, by omega⟩) := by
  obtain ⟨-, e, -⟩ := idx i j
  refine congrArg X (funext fun a => Fin.ext ?_)
  match a with
  | ⟨0, _⟩ => show win0_1.index (pt i j) (0 : Fin 2) * 1024 + 1 * d.val = d.val; rw [e]; simp
  | ⟨1, _⟩ => show win0_1.index (pt i j) (1 : Fin 2) * 1024 + 1 * x.val = 3072 + (j.val * 1024 + x.val); rw [e]; show (3 + j.val) * 1024 + 1 * x.val = _; omega
theorem read2 (X : FVec Ideal S4096x4096 .f32) (i : Fin 4) (j : Fin 4) (r x : Fin 1024) :
    ((cfg0.win 2).blk (pt i j)).view.read (Elt Ideal) X (ix2 r x) = X (ix2 (row i r) (col j x)) := by
  obtain ⟨-, -, e⟩ := idx i j
  refine congrArg X (funext fun a => Fin.ext ?_)
  match a with
  | ⟨0, _⟩ => show win0_2.index (pt i j) (0 : Fin 2) * 1024 + 1 * r.val = i.val * 1024 + r.val; rw [e]; simp
  | ⟨1, _⟩ => show win0_2.index (pt i j) (1 : Fin 2) * 1024 + 1 * x.val = j.val * 1024 + x.val; rw [e]; simp

theorem final : (dats m 0 c).arrAt 2 cfg0.N = prod (m ((c : Thread nD τ).loc main_arg0)) (m ((c : Thread nD τ).loc main_arg1)) := by
  funext y
  obtain ⟨i, r, j, x, rfl⟩ : ∃ i r j x, y = ix2 (row i r) (col j x) := by
    idx_vars y
    refine ⟨⟨y0.val / 1024, by omega⟩, ⟨y0.val % 1024, by omega⟩, ⟨y1.val / 1024, by omega⟩, ⟨y1.val % 1024, by omega⟩, ?_⟩
    congr 1 <;> apply Fin.ext <;> simp only [row, col] <;> omega
  refine (read2 _ i j r x).symm.trans ((congrFun (Value.blocks2 m c (pt i j) (flush_all _)) (ix2 r x)).trans ?_)
  rw [Value.flushed2]
  refine (out_at (iblk m c 0 (pt i j)) (iblk m c 1 (pt i j)) r x).trans (Eq.trans ?_ (prod_at _ _ (row i r) (col j x)).symm)
  refine Finset.sum_congr rfl fun d _ => congrArg₂ (· * ·) ?_ ?_
  · refine (read0 (V m c main_arg0) i j r d).trans ?_
    rw [V_main_arg0]
  · refine (read1 (V m c main_arg1) i j x d).trans ?_
    rw [V_main_arg1]

/-! ## The claims -/

theorem frame_kernel : Cert.quiescent_ZProjRest := fun m ρ _ => Cert.ZProjRest.Gen.frame m ρ
theorem frame_ideal : Cert.quiescent_ZProjRestIdeal := fun m ρ _ => Cert.ZProjRestIdeal.Gen.frame m ρ
theorem frame_reference : Cert.quiescent_ZProjRestReferenceIdeal := fun m ρ _ =>
  (θ_run Cert.ZProjRestReferenceIdeal.defs _ _).mono (fun r h => ⟨fun c => (h c).2, sem_eq_zero_of_no_sems (by decide) r.2⟩)
    (Cert.ZProjRestReferenceIdeal.Value.run (F := Ideal) m ρ)

theorem same : Cert.algebraic_ZProjRestIdeal_ZProjRestReferenceIdeal (hZProjRestIdeal := Cert.ZProjRestIdeal.Gen.facts)
    (hZProjRestReferenceIdeal := Cert.ZProjRestReferenceIdeal.Gen.facts) := by
  intro m g m' g' _ hm
  refine ⟨fun c => prod (m ((c : Thread nD τ).loc main_arg0)) (m ((c : Thread nD τ).loc main_arg1)), ?_, ?_⟩
  · exact (θ_run Cert.ZProjRestIdeal.defs _ _).mono (fun r h c => ⟨(h c).1.trans (final m c), (h c).2⟩) (Value.run_blocks (F := Ideal) m g)
  · exact (θ_run Cert.ZProjRestReferenceIdeal.defs _ _).mono (fun r h c => ⟨(h c).1.trans (congrArg₂ prod (hm c).1 (hm c).2), (h c).2⟩)
      (Cert.ZProjRestReferenceIdeal.Value.run (F := Ideal) m' g')

end Cert.Product.ZProjRest

end
-- ==== Proof.FfnIn.lean ====
/- The feed-forward's first product and its gated activation: each point makes one slab of both halves and their activation. -/
module

public import proofs.«01_k».proof.Defs
public import proofs.«01_k».proof.Proof.Product
public import proofs.«01_k».proof.Proof.Gen.FfnIn.Frame
public import proofs.«01_k».proof.Proof.Gen.FfnInIdeal.Value
public import proofs.«01_k».proof.Proof.Gen.FfnInReferenceIdeal.Run

@[expose] public section

set_option maxRecDepth 16384

noncomputable section

namespace Cert.Product.FfnIn

open Cert.FfnInIdeal Cert.FfnInIdeal.Gen Idealize.ShloMosaic Idealize.ShloMosaic.TcCoe Idealize.SL.Sem

/-- A slab's entry of the product. -/
def dot (a : FVec Ideal S1024x1024 .bf16) (b : FVec Ideal S1x1024x704 .bf16) (r : Fin 1024) (f : Fin 704) : EReal :=
  ∑ d : Fin 1024, a (ix2 r d) * b (ix3 0 d f)
/-- The gated activation. -/
def gated (g u : EReal) : EReal := g * Ideal.logistic g * u

theorem pay1_at (a : FVec Ideal S1024x1024 .bf16) (b : FVec Ideal S1x1024x704 .bf16) (r : Fin 1024) (f : Fin 704) :
    k0_pay1 (F := Ideal) a b (ix2 r f) = dot a b r f := by unfold dot; pointwise [k0_pay1]
theorem pay2_at (a : FVec Ideal S1024x1024 .bf16) (b : FVec Ideal S1x1024x704 .bf16) (r : Fin 1024) (f : Fin 704) :
    k0_pay2 (F := Ideal) a b (ix2 r f) = dot a b r f := by unfold dot; pointwise [k0_pay2]
theorem pay3_at (a : FVec Ideal S1024x1024 .bf16) (b : FVec Ideal S1x1024x704 .bf16) (r : Fin 1024) (f : Fin 704) :
    k0_pay3 (F := Ideal) a b (ix4 0 0 r f) = dot a b r f := by
  rw [← pay1_at]; unfold k0_pay3; pointwise []
theorem pay4_at (a : FVec Ideal S1024x1024 .bf16) (b : FVec Ideal S1x1024x704 .bf16) (r : Fin 1024) (f : Fin 704) :
    k0_pay4 (F := Ideal) a b (ix4 0 0 r f) = dot a b r f := by
  rw [← pay2_at]; unfold k0_pay4; pointwise []
theorem pay5_at (a : FVec Ideal S1024x1024 .bf16) (b b' : FVec Ideal S1x1024x704 .bf16) (r : Fin 1024) (f : Fin 704) :
    k0_pay5 (F := Ideal) a b b' (ix3 0 r f) = gated (dot a b r f) (dot a b' r f) := by
  rw [gated, ← pay1_at, ← pay2_at]; unfold k0_pay5; pointwise []

/-- The product, slab by slab. -/
def slabs (a : FVec Ideal S4096x1024 .bf16) (b : FVec Ideal S8x1024x704 .bf16) : FVec Ideal Cert.FfnInReferenceIdeal.S8x4096x704 .f32 :=
  transpose Cert.FfnInReferenceIdeal.S8x4096x704 [0, 2, 1] (Host.dotGeneral (F := Ideal) Cert.FfnInReferenceIdeal.dot_S8x1024x704_S4096x1024_S8x704x4096_1_1_02_0_n_n none
    (extf .f32 b Cert.FfnInReferenceIdeal.Facts₀.bitsLt_bf16_f32) (extf .f32 a Cert.FfnInReferenceIdeal.Facts₀.bitsLt_bf16_f32)) Cert.FfnInReferenceIdeal.Facts₀.transposes_S8x704x4096_S8x4096x704_0_2_1
/-- Its first half, the gates. -/
def gates (a : FVec Ideal S4096x1024 .bf16) (b : FVec Ideal S8x1024x704 .bf16) : FVec Ideal Cert.FfnInReferenceIdeal.S4x4096x704 .f32 :=
  extractStridedSlice Cert.FfnInReferenceIdeal.S4x4096x704 ![0, 0, 0] (slabs a b) Cert.FfnInReferenceIdeal.Facts₀.slices_S8x4096x704_S4x4096x704_0_0_0
/-- Its second half. -/
def ups (a : FVec Ideal S4096x1024 .bf16) (b : FVec Ideal S8x1024x704 .bf16) : FVec Ideal Cert.FfnInReferenceIdeal.S4x4096x704 .f32 :=
  extractStridedSlice Cert.FfnInReferenceIdeal.S4x4096x704 ![4, 0, 0] (slabs a b) Cert.FfnInReferenceIdeal.Facts₀.slices_S8x4096x704_S4x4096x704_4_0_0
/-- The array of ones. -/
def ones : FVec Ideal Cert.FfnInReferenceIdeal.S4x4096x704 .f32 :=
  broadcastInDim Cert.FfnInReferenceIdeal.S4x4096x704 ![] Cert.FfnInReferenceIdeal.Facts₀.bcast_S_S4x4096x704 (constant Cert.FfnInReferenceIdeal.S_ .f32 0x3F800000#32)
/-- The reference's first result: both halves. -/
def both (a : FVec Ideal S4096x1024 .bf16) (b : FVec Ideal S8x1024x704 .bf16) : FVec Ideal S2x4x4096x704 .f32 :=
  concatenate Cert.FfnInReferenceIdeal.S2x4x4096x704 0
    [⟨Cert.FfnInReferenceIdeal.S1x4x4096x704, broadcastInDim Cert.FfnInReferenceIdeal.S1x4x4096x704 ![1, 2, 3] Cert.FfnInReferenceIdeal.Facts₀.bcast_S4x4096x704_S1x4x4096x704_1_2_3 (gates a b)⟩,
      ⟨Cert.FfnInReferenceIdeal.S1x4x4096x704, broadcastInDim Cert.FfnInReferenceIdeal.S1x4x4096x704 ![1, 2, 3] Cert.FfnInReferenceIdeal.Facts₀.bcast_S4x4096x704_S1x4x4096x704_1_2_3 (ups a b)⟩]
    Cert.FfnInReferenceIdeal.Facts₀.concatenates_S1x4x4096x704_S1x4x4096x704_S2x4x4096x704_d0
/-- The reference's second result: the activation. -/
def act (a : FVec Ideal S4096x1024 .bf16) (b : FVec Ideal S8x1024x704 .bf16) : FVec Ideal S4x4096x704 .bf16 :=
  truncf .bf16 (mulf (mulf (gates a b) (Host.divf ones (addf ones (Host.exp (Host.negf (gates a b)))))) (ups a b)) Cert.FfnInReferenceIdeal.Facts₀.bitsLt_bf16_f32

/-- An entry of the product. -/
def entry (a : FVec Ideal S4096x1024 .bf16) (b : FVec Ideal S8x1024x704 .bf16) (s : Fin 8) (t : Fin 4096) (f : Fin 704) : EReal :=
  ∑ d : Fin 1024, a (ix2 t d) * b (ix3 s d f)

theorem slabs_at (a : FVec Ideal S4096x1024 .bf16) (b : FVec Ideal S8x1024x704 .bf16) (s : Fin 8) (t : Fin 4096) (f : Fin 704) :
    slabs a b (ix3 s t f) = entry a b s t f := by
  unfold entry
  pointwise [slabs]
  exact Finset.sum_congr rfl fun d _ => mul_comm _ _
/-- Slab `s` of half `q`. -/
def slab (q : Fin 2) (s : Fin 4) : Fin 8 := ⟨4 * q.val + s.val, by omega⟩
theorem gates_at (a : FVec Ideal S4096x1024 .bf16) (b : FVec Ideal S8x1024x704 .bf16) (s : Fin 4) (t : Fin 4096) (f : Fin 704) :
    gates a b (ix3 s t f) = entry a b (slab 0 s) t f := by
  rw [← slabs_at]
  pointwise [gates]
  exact congrArg (fun s => slabs a b (ix3 s t f)) (Fin.ext (by show s.val = 4 * 0 + s.val; omega))
theorem ups_at (a : FVec Ideal S4096x1024 .bf16) (b : FVec Ideal S8x1024x704 .bf16) (s : Fin 4) (t : Fin 4096) (f : Fin 704) :
    ups a b (ix3 s t f) = entry a b (slab 1 s) t f := by
  rw [← slabs_at]
  pointwise [ups]
  rfl
theorem ones_at (y : Cert.FfnInReferenceIdeal.S4x4096x704.Idx) : ones y = 1 := by
  unfold ones
  exact Ideal.ofBits_one_f32
theorem act_at (a : FVec Ideal S4096x1024 .bf16) (b : FVec Ideal S8x1024x704 .bf16) (s : Fin 4) (t : Fin 4096) (f : Fin 704) :
    act a b (ix3 s t f) = gated (entry a b (slab 0 s) t f) (entry a b (slab 1 s) t f) := by
  unfold act
  show gates a b (ix3 s t f) * Ideal.div (ones _) (ones _ + Ideal.exp (-(gates a b (ix3 s t f)))) * ups a b (ix3 s t f) = _
  rw [ones_at, gates_at, ups_at]; rfl
theorem both_at (a : FVec Ideal S4096x1024 .bf16) (b : FVec Ideal S8x1024x704 .bf16) (q : Fin 2) (s : Fin 4) (t : Fin 4096) (f : Fin 704) :
    both a b (ix4 q s t f) = entry a b (slab q s) t f := by
  match q with
  | 0 => refine Eq.trans ?_ (gates_at a b s t f); pointwise [both]
  | 1 => refine Eq.trans ?_ (ups_at a b s t f); pointwise [both]

/-! ## A point's blocks -/

theorem out_gate (a : FVec Ideal S1024x1024 .bf16) (b b' : FVec Ideal S1x1024x704 .bf16) (r : Fin 1024) (f : Fin 704) :
    out0_3 (F := Ideal) a b b' (ix4 0 0 r f) = dot a b r f := by
  have e : (ix4 0 0 r f : S2x1x1024x704.Idx) = r0_2.emb (ix4 0 0 r f) := by
    refine funext fun a => Fin.ext ?_
    match a with
    | ⟨0, _⟩ => rfl
    | ⟨1, _⟩ => rfl
    | ⟨2, _⟩ => show r.val = 0 + 1 * r.val; omega
    | ⟨3, _⟩ => show f.val = 0 + 1 * f.val; omega
  unfold out0_3
  rw [View.canon_cons_of_not_mem, e, View.canon_cons_emb, ← pay3_at]
  · simp only [View.ld_unit_zero (S := S1024x1024) zero_two, View.ld_unit_zero (S := S1x1024x704) zero_three]
  · rintro hm
    obtain ⟨x, hx⟩ := r0_3.exists_idx_of_mem hm
    have := congrArg (fun y : S2x1x1024x704.Idx => (y 0).val) hx
    have h1 : 1 + 1 * (x 0).val = 0 := this
    omega
theorem out_up (a : FVec Ideal S1024x1024 .bf16) (b b' : FVec Ideal S1x1024x704 .bf16) (r : Fin 1024) (f : Fin 704) :
    out0_3 (F := Ideal) a b b' (ix4 1 0 r f) = dot a b' r f := by
  have e : (ix4 1 0 r f : S2x1x1024x704.Idx) = r0_3.emb (ix4 0 0 r f) := by
    refine funext fun a => Fin.ext ?_
    match a with
    | ⟨0, _⟩ => rfl
    | ⟨1, _⟩ => rfl
    | ⟨2, _⟩ => show r.val = 0 + 1 * r.val; omega
    | ⟨3, _⟩ => show f.val = 0 + 1 * f.val; omega
  unfold out0_3
  rw [e, View.canon_cons_emb, ← pay4_at]
  simp only [View.ld_unit_zero (S := S1024x1024) zero_two, View.ld_unit_zero (S := S1x1024x704) zero_three]
theorem out_act (a : FVec Ideal S1024x1024 .bf16) (b b' : FVec Ideal S1x1024x704 .bf16) (r : Fin 1024) (f : Fin 704) :
    out0_4 (F := Ideal) a b b' (ix3 0 r f) = gated (dot a b r f) (dot a b' r f) := by
  unfold out0_4
  rw [View.canon_unit_zero zero_three]
  simp only [View.ld_unit_zero (S := S1024x1024) zero_two, View.ld_unit_zero (S := S1x1024x704) zero_three]
  exact pay5_at a b b' r f

/-! ## The arrays after the run -/

variable (m : (ℓ : Loc nD τ sig) → Buf (Elt Ideal) ℓ) (c : Dev nD)

/-- The point of block `i` of the rows and slab `s`. -/
def pt (i : Fin 4) (s : Fin 4) : Fin cfg0.N := ⟨4 * i.val + s.val, lt_of_lt_of_eq (by omega) N_0.symm⟩
/-- Row `r` of block `i`. -/
def row (i : Fin 4) (r : Fin 1024) : Fin 4096 := ⟨i.val * 1024 + r.val, by omega⟩

theorem idx : ∀ (i : Fin 4) (s : Fin 4), win0_0.index (pt i s) = ![i.val, 0] ∧ win0_1.index (pt i s) = ![s.val, 0, 0]
    ∧ win0_2.index (pt i s) = ![4 + s.val, 0, 0] ∧ win0_3.index (pt i s) = ![0, s.val, i.val, 0]
    ∧ win0_4.index (pt i s) = ![s.val, i.val, 0] := by decide +kernel
theorem flush_all : ∀ t : Fin cfg0.N, (cfg0.win 3).flush t = true ∧ (cfg0.win 4).flush t = true := (by decide +kernel : ∀ t : Fin grid0.N, _)

theorem read0 (X : FVec Ideal S4096x1024 .bf16) (i s : Fin 4) (r d : Fin 1024) :
    ((cfg0.win 0).blk (pt i s)).view.read (Elt Ideal) X (ix2 r d) = X (ix2 (row i r) d) := by
  obtain ⟨e, -⟩ := idx i s
  refine congrArg X (funext fun a => Fin.ext ?_)
  match a with
  | ⟨0, _⟩ => show win0_0.index (pt i s) (0 : Fin 2) * 1024 + 1 * r.val = i.val * 1024 + r.val; rw [e]; simp
  | ⟨1, _⟩ => show win0_0.index (pt i s) (1 : Fin 2) * 1024 + 1 * d.val = d.val; rw [e]; simp
theorem read1 (X : FVec Ideal S8x1024x704 .bf16) (i s : Fin 4) (d : Fin 1024) (f : Fin 704) :
    ((cfg0.win 1).blk (pt i s)).view.read (Elt Ideal) X (ix3 0 d f) = X (ix3 (slab 0 s) d f) := by
  obtain ⟨-, e, -⟩ := idx i s
  refine congrArg X (funext fun a => Fin.ext ?_)
  match a with
  | ⟨0, _⟩ => show win0_1.index (pt i s) (0 : Fin 3) * 1 + 1 * 0 = 4 * 0 + s.val; rw [e]; simp
  | ⟨1, _⟩ => show win0_1.index (pt i s) (1 : Fin 3) * 1024 + 1 * d.val = d.val; rw [e]; simp
  | ⟨2, _⟩ => show win0_1.index (pt i s) (2 : Fin 3) * 704 + 1 * f.val = f.val; rw [e]; simp
theorem read2 (X : FVec Ideal S8x1024x704 .bf16) (i s : Fin 4) (d : Fin 1024) (f : Fin 704) :
    ((cfg0.win 2).blk (pt i s)).view.read (Elt Ideal) X (ix3 0 d f) = X (ix3 (slab 1 s) d f) := by
  obtain ⟨-, -, e, -⟩ := idx i s
  refine congrArg X (funext fun a => Fin.ext ?_)
  match a with
  | ⟨0, _⟩ => show win0_2.index (pt i s) (0 : Fin 3) * 1 + 1 * 0 = 4 * 1 + s.val; rw [e]; simp
  | ⟨1, _⟩ => show win0_2.index (pt i s) (1 : Fin 3) * 1024 + 1 * d.val = d.val; rw [e]; simp
  | ⟨2, _⟩ => show win0_2.index (pt i s) (2 : Fin 3) * 704 + 1 * f.val = f.val; rw [e]; simp
theorem read3 (X : FVec Ideal S2x4x4096x704 .f32) (i s : Fin 4) (q : Fin 2) (r : Fin 1024) (f : Fin 704) :
    ((cfg0.win 3).blk (pt i s)).view.read (Elt Ideal) X (ix4 q 0 r f) = X (ix4 q s (row i r) f) := by
  obtain ⟨-, -, -, e, -⟩ := idx i s
  refine congrArg X (funext fun a => Fin.ext ?_)
  match a with
  | ⟨0, _⟩ => show win0_3.index (pt i s) (0 : Fin 4) * 2 + 1 * q.val = q.val; rw [e]; simp
  | ⟨1, _⟩ => show win0_3.index (pt i s) (1 : Fin 4) * 1 + 1 * 0 = s.val; rw [e]; simp
  | ⟨2, _⟩ => show win0_3.index (pt i s) (2 : Fin 4) * 1024 + 1 * r.val = i.val * 1024 + r.val; rw [e]; simp
  | ⟨3, _⟩ => show win0_3.index (pt i s) (3 : Fin 4) * 704 + 1 * f.val = f.val; rw [e]; simp
theorem read4 (X : FVec Ideal S4x4096x704 .bf16) (i s : Fin 4) (r : Fin 1024) (f : Fin 704) :
    ((cfg0.win 4).blk (pt i s)).view.read (Elt Ideal) X (ix3 0 r f) = X (ix3 s (row i r) f) := by
  obtain ⟨-, -, -, -, e⟩ := idx i s
  refine congrArg X (funext fun a => Fin.ext ?_)
  match a with
  | ⟨0, _⟩ => show win0_4.index (pt i s) (0 : Fin 3) * 1 + 1 * 0 = s.val; rw [e]; simp
  | ⟨1, _⟩ => show win0_4.index (pt i s) (1 : Fin 3) * 1024 + 1 * r.val = i.val * 1024 + r.val; rw [e]; simp
  | ⟨2, _⟩ => show win0_4.index (pt i s) (2 : Fin 3) * 704 + 1 * f.val = f.val; rw [e]; simp

theorem gate_block (i s : Fin 4) (r : Fin 1024) (f : Fin 704) : dot (iblk m c 0 (pt i s)) (iblk m c 1 (pt i s)) r f
    = entry (m ((c : Thread nD τ).loc main_arg0)) (m ((c : Thread nD τ).loc main_arg1)) (slab 0 s) (row i r) f := by
  refine Finset.sum_congr rfl fun d _ => congrArg₂ (· * ·) ?_ ?_
  · refine (read0 (V m c main_arg0) i s r d).trans ?_
    rw [V_main_arg0]
  · refine (read1 (V m c main_arg1) i s d f).trans ?_
    rw [V_main_arg1]
theorem up_block (i s : Fin 4) (r : Fin 1024) (f : Fin 704) : dot (iblk m c 0 (pt i s)) (iblk m c 2 (pt i s)) r f
    = entry (m ((c : Thread nD τ).loc main_arg0)) (m ((c : Thread nD τ).loc main_arg1)) (slab 1 s) (row i r) f := by
  refine Finset.sum_congr rfl fun d _ => congrArg₂ (· * ·) ?_ ?_
  · refine (read0 (V m c main_arg0) i s r d).trans ?_
    rw [V_main_arg0]
  · refine (read2 (V m c main_arg1) i s d f).trans ?_
    rw [V_main_arg1]

theorem final3 : (dats m 0 c).arrAt 3 cfg0.N = both (m ((c : Thread nD τ).loc main_arg0)) (m ((c : Thread nD τ).loc main_arg1)) := by
  funext y
  obtain ⟨i, s, q, r, f, rfl⟩ : ∃ i s q r f, y = ix4 q s (row i r) f := by
    idx_vars y
    refine ⟨⟨y2.val / 1024, by omega⟩, y1, y0, ⟨y2.val % 1024, by omega⟩, y3, ?_⟩
    congr 1; apply Fin.ext; simp only [row]; omega
  refine (read3 _ i s q r f).symm.trans ?_
  refine (congrFun (Value.blocks3 m c (pt i s) (flush_all _).1) (ix4 q 0 r f)).trans ?_
  rw [Value.flushed3]
  refine Eq.trans ?_ (both_at _ _ q s (row i r) f).symm
  match q with
  | 0 => exact (out_gate (iblk m c 0 (pt i s)) (iblk m c 1 (pt i s)) (iblk m c 2 (pt i s)) r f).trans (gate_block m c i s r f)
  | 1 => exact (out_up (iblk m c 0 (pt i s)) (iblk m c 1 (pt i s)) (iblk m c 2 (pt i s)) r f).trans (up_block m c i s r f)
theorem final4 : (dats m 0 c).arrAt 4 cfg0.N = act (m ((c : Thread nD τ).loc main_arg0)) (m ((c : Thread nD τ).loc main_arg1)) := by
  funext y
  obtain ⟨i, s, r, f, rfl⟩ : ∃ i s r f, y = ix3 s (row i r) f := by
    idx_vars y
    refine ⟨⟨y1.val / 1024, by omega⟩, y0, ⟨y1.val % 1024, by omega⟩, y2, ?_⟩
    congr 1; apply Fin.ext; simp only [row]; omega
  refine (read4 _ i s r f).symm.trans ?_
  refine (congrFun (Value.blocks4 m c (pt i s) (flush_all _).2) (ix3 0 r f)).trans ?_
  rw [Value.flushed4]
  refine Eq.trans ?_ (act_at _ _ s (row i r) f).symm
  exact (out_act (iblk m c 0 (pt i s)) (iblk m c 1 (pt i s)) (iblk m c 2 (pt i s)) r f).trans
    (congrArg₂ gated (gate_block m c i s r f) (up_block m c i s r f))

/-! ## The claims -/

theorem frame_kernel : Cert.quiescent_FfnIn := fun m ρ _ => Cert.FfnIn.Gen.frame m ρ
theorem frame_ideal : Cert.quiescent_FfnInIdeal := fun m ρ _ => Cert.FfnInIdeal.Gen.frame m ρ
theorem frame_reference : Cert.quiescent_FfnInReferenceIdeal := fun m ρ _ =>
  (θ_run Cert.FfnInReferenceIdeal.defs _ _).mono (fun r h => ⟨fun c => (h c).2.2, sem_eq_zero_of_no_sems (by decide) r.2⟩)
    (Cert.FfnInReferenceIdeal.Value.run (F := Ideal) m ρ)

theorem same : Cert.algebraic_FfnInIdeal_FfnInReferenceIdeal (hFfnInIdeal := Cert.FfnInIdeal.Gen.facts)
    (hFfnInReferenceIdeal := Cert.FfnInReferenceIdeal.Gen.facts) := by
  intro m g m' g' _ hm
  refine ⟨fun c => both (m ((c : Thread nD τ).loc main_arg0)) (m ((c : Thread nD τ).loc main_arg1)),
    fun c => act (m ((c : Thread nD τ).loc main_arg0)) (m ((c : Thread nD τ).loc main_arg1)), ?_, ?_⟩
  · exact (θ_run Cert.FfnInIdeal.defs _ _).mono (fun r h c => ⟨(h c).1.trans (final3 m c), (h c).2.1.trans (final4 m c), (h c).2.2⟩)
      (Value.run_blocks (F := Ideal) m g)
  · exact (θ_run Cert.FfnInReferenceIdeal.defs _ _).mono (fun r h c => ⟨(h c).1.trans (congrArg₂ both (hm c).1 (hm c).2),
      (h c).2.1.trans (congrArg₂ act (hm c).1 (hm c).2), (h c).2.2⟩) (Cert.FfnInReferenceIdeal.Value.run (F := Ideal) m' g')

end Cert.Product.FfnIn

end
-- ==== Proof.FfnOut.lean ====
/- The feed-forward's second product: its four slabs' parts summed in the result's own block. -/
module

public import proofs.«01_k».proof.Defs
public import proofs.«01_k».proof.Proof.Product
public import proofs.«01_k».proof.Proof.Gen.FfnOut.Frame
public import proofs.«01_k».proof.Proof.Gen.FfnOutIdeal.Value
public import proofs.«01_k».proof.Proof.Gen.FfnOutReferenceIdeal.Run

@[expose] public section

set_option maxRecDepth 16384

noncomputable section

namespace Cert.Product.FfnOut

open Cert.FfnOutIdeal Cert.FfnOutIdeal.Gen Idealize.ShloMosaic Idealize.ShloMosaic.TcCoe Idealize.SL.Sem

/-- A slab's part of the product at an index. -/
def part (a : FVec Ideal S1x1024x704 .bf16) (b : FVec Ideal S1x704x1024 .bf16) (r x : Fin 1024) : EReal := ∑ u : Fin 704, a (ix3 0 r u) * b (ix3 0 u x)

theorem first_at (a : FVec Ideal S1x1024x704 .bf16) (b : FVec Ideal S1x704x1024 .bf16) (r x : Fin 1024) :
    k0_pay1 (F := Ideal) a b (ix2 r x) = ∑ u : Fin 704, a (ix3 0 r u) * b (ix3 0 u x) := by
  pointwise [k0_pay1]
theorem next_at (a : FVec Ideal S1x1024x704 .bf16) (b : FVec Ideal S1x704x1024 .bf16) (s : FVec Ideal S1024x1024 .f32) (r x : Fin 1024) :
    k0_pay2 (F := Ideal) a b s (ix2 r x) = s (ix2 r x) + ∑ u : Fin 704, a (ix3 0 r u) * b (ix3 0 u x) := by
  pointwise [k0_pay2, k0_pay1]

/-- The reference's array. -/
def prod (a : FVec Ideal S4x4096x704 .bf16) (b : FVec Ideal S4x704x1024 .bf16) : FVec Ideal S4096x1024 .f32 :=
  Host.dotGeneral (F := Ideal) Cert.FfnOutReferenceIdeal.dot_S4x4096x704_S4x704x1024_S4096x1024_20_10_1_2_n_n none
    (extf .f32 a Cert.FfnOutReferenceIdeal.Facts₀.bitsLt_bf16_f32) (extf .f32 b Cert.FfnOutReferenceIdeal.Facts₀.bitsLt_bf16_f32)

theorem prod_at (a : FVec Ideal S4x4096x704 .bf16) (b : FVec Ideal S4x704x1024 .bf16) (t : Fin 4096) (x : Fin 1024) :
    prod a b (ix2 t x) = ∑ j : Fin 4, ∑ u : Fin 704, a (ix3 j t u) * b (ix3 j u x) := by
  pointwise [prod]
  exact Finset.sum_comm

/-! ## What the grid's points leave -/

variable (m : (ℓ : Loc nD τ sig) → Buf (Elt Ideal) ℓ) (c : Dev nD)

theorem start (t : Fin cfg0.N) (h : t.val % 4 = 0) : outsAt0 m c t.val t.isLt = k0_pay1 (iblk m c 0 t) (iblk m c 1 t) := by
  rw [outsAt0_A m c t h (by omega)]
  unfold out0_A_2
  rw [View.read_writes_eq_canon _ _ _ fun _ => cover0_A_2 ..]
  unfold kernelRun0_A
  dsimp only
  rw [View.canon_unit_zero zero_two]
  simp only [View.readAt_eq_ld, (hs0_0 t).read_unread, (hs0_1 t).read_unread, View.ld_unit_zero (S := S1x1024x704) zero_three,
    View.ld_unit_zero (S := S1x704x1024) zero_three]

theorem step (t : Fin cfg0.N) (h : ¬t.val % 4 = 0) : outsAt0 m c t.val t.isLt
    = k0_pay2 (iblk m c 0 t) (iblk m c 1 t) (outsAt0 m c (t.val - 1) (Nat.lt_of_le_of_lt (Nat.sub_le _ _) t.isLt)) := by
  rw [outsAt0_B m c t h (by omega)]
  unfold out0_B_2
  rw [View.read_writes_eq_canon _ _ _ fun _ => cover0_B_2 ..]
  unfold kernelRun0_B
  dsimp only
  rw [View.canon_unit_zero zero_two]
  simp only [View.readAt_eq_ld, (hs0_0 t).read_unread, (hs0_1 t).read_unread, (hs0_2 t).read_unread,
    View.ld_unit_zero (S := S1x1024x704) zero_three, View.ld_unit_zero (S := S1x704x1024) zero_three, View.ld_unit_zero (S := S1024x1024) zero_two]

theorem outs_congr (n n' : ℕ) (h : n < cfg0.N) (h' : n' < cfg0.N) (e : n = n') : outsAt0 m c n h = outsAt0 m c n' h' := by subst e; rfl

/-! ## The array after the run -/

/-- The point of block `i` of the rows and slab `j`. -/
def pt (i : Fin 4) (j : Fin 4) : Fin cfg0.N := ⟨4 * i.val + j.val, lt_of_lt_of_eq (by omega) N_0.symm⟩
/-- Row `r` of block `i`. -/
def row (i : Fin 4) (r : Fin 1024) : Fin 4096 := ⟨i.val * 1024 + r.val, by omega⟩

theorem idx : ∀ (i : Fin 4) (j : Fin 4), win0_0.index (pt i j) = ![j.val, i.val, 0] ∧ win0_1.index (pt i j) = ![j.val, 0, 0]
    ∧ win0_2.index (pt i j) = ![i.val, 0] := by decide +kernel

theorem read0 (X : FVec Ideal S4x4096x704 .bf16) (i : Fin 4) (j : Fin 4) (r : Fin 1024) (u : Fin 704) :
    ((cfg0.win 0).blk (pt i j)).view.read (Elt Ideal) X (ix3 0 r u) = X (ix3 j (row i r) u) := by
  obtain ⟨e, -⟩ := idx i j
  refine congrArg X (funext fun a => Fin.ext ?_)
  match a with
  | ⟨0, _⟩ => show win0_0.index (pt i j) (0 : Fin 3) * 1 + 1 * 0 = j.val; rw [e]; simp
  | ⟨1, _⟩ => show win0_0.index (pt i j) (1 : Fin 3) * 1024 + 1 * r.val = i.val * 1024 + r.val; rw [e]; simp
  | ⟨2, _⟩ => show win0_0.index (pt i j) (2 : Fin 3) * 704 + 1 * u.val = u.val; rw [e]; simp
theorem read1 (X : FVec Ideal S4x704x1024 .bf16) (i : Fin 4) (j : Fin 4) (x : Fin 1024) (u : Fin 704) :
    ((cfg0.win 1).blk (pt i j)).view.read (Elt Ideal) X (ix3 0 u x) = X (ix3 j u x) := by
  obtain ⟨-, e, -⟩ := idx i j
  refine congrArg X (funext fun a => Fin.ext ?_)
  match a with
  | ⟨0, _⟩ => show win0_1.index (pt i j) (0 : Fin 3) * 1 + 1 * 0 = j.val; rw [e]; simp
  | ⟨1, _⟩ => show win0_1.index (pt i j) (1 : Fin 3) * 704 + 1 * u.val = u.val; rw [e]; simp
  | ⟨2, _⟩ => show win0_1.index (pt i j) (2 : Fin 3) * 1024 + 1 * x.val = x.val; rw [e]; simp
theorem emb2 (i : Fin 4) (j : Fin 4) (r x : Fin 1024) : ((cfg0.win 2).blk (pt i j)).view.emb (ix2 r x) = ix2 (row i r) x := by
  obtain ⟨-, -, e⟩ := idx i j
  refine funext fun a => Fin.ext ?_
  match a with
  | ⟨0, _⟩ => show win0_2.index (pt i j) (0 : Fin 2) * 1024 + 1 * r.val = i.val * 1024 + r.val; rw [e]; simp
  | ⟨1, _⟩ => show win0_2.index (pt i j) (1 : Fin 2) * 1024 + 1 * x.val = x.val; rw [e]; simp

/-- The last slab's point leaves the reference's rows. -/
theorem last (i : Fin 4) (r x : Fin 1024) : outsAt0 m c (pt i 3).val (pt i 3).isLt (ix2 r x)
    = prod (m ((c : Thread nD τ).loc main_arg0)) (m ((c : Thread nD τ).loc main_arg1)) (ix2 (row i r) x) := by
  have e := acc_run 0 (n := 3) (fun j => part (iblk m c 0 (pt i j)) (iblk m c 1 (pt i j)) r x)
    (fun j => outsAt0 m c (pt i j).val (pt i j).isLt (ix2 r x)) ?_ fun j => ?_
  · refine e.trans ((add_zero _).trans (Eq.trans ?_ (prod_at _ _ _ _).symm))
    refine Finset.sum_congr rfl fun j _ => Finset.sum_congr rfl fun u _ => congrArg₂ (· * ·) ?_ ?_
    · refine (read0 (V m c main_arg0) i j r u).trans ?_
      rw [V_main_arg0]
    · refine (read1 (V m c main_arg1) i j x u).trans ?_
      rw [V_main_arg1]
  · refine (congrFun (start m c (pt i 0) (by show (4 * i.val + 0) % 4 = 0; omega)) _).trans ((first_at _ _ r x).trans (add_zero _).symm)
  · refine (congrFun (step m c (pt i j.succ) (by show ¬(4 * i.val + (j.val + 1)) % 4 = 0; omega)) _).trans ((next_at _ _ _ r x).trans ?_)
    exact congrArg (fun f => f (ix2 r x) + _) (outs_congr m c _ _ _ _ rfl)

theorem io_surj (y : S4096x1024.Idx) : ∃ i r x, y = ix2 (row i r) x := by
  idx_vars y
  refine ⟨⟨y0.val / 1024, by omega⟩, ⟨y0.val % 1024, by omega⟩, y1, ?_⟩
  congr 1; apply Fin.ext; simp only [row]; omega

theorem final : (dats m 0 c).arrAt 2 cfg0.N = prod (m ((c : Thread nD τ).loc main_arg0)) (m ((c : Thread nD τ).loc main_arg1)) := by
  refine (dats m 0 c).arrAt_eq_of_cover 2 _ (fun t hf => ?_) fun y => ?_
  · have h7 := (flush0_2 t).mp hf
    have hN : t.val < 16 := lt_of_lt_of_eq t.isLt N_0
    obtain ⟨i, rfl⟩ : ∃ i, t = pt i 3 := ⟨⟨t.val / 4, by omega⟩, Fin.ext (by show t.val = 4 * (t.val / 4) + 3; omega)⟩
    rw [Value.flushed2]
    funext y
    obtain ⟨r, x, rfl⟩ : ∃ r x, y = ix2 r x := by
      idx_vars y
      exact ⟨y0, y1, rfl⟩
    exact (last m c i r x).trans (congrArg (prod _ _) (emb2 i 3 r x).symm)
  · obtain ⟨i, r, x, rfl⟩ := io_surj y
    exact ⟨pt i 3, (flush0_2 _).mpr (by show (4 * i.val + 3) % 4 = 3; omega), emb2 i 3 r x ▸ View.emb_mem_set _ _⟩

/-! ## The claims -/

theorem frame_kernel : Cert.quiescent_FfnOut := fun m ρ _ => Cert.FfnOut.Gen.frame m ρ
theorem frame_ideal : Cert.quiescent_FfnOutIdeal := fun m ρ _ => Cert.FfnOutIdeal.Gen.frame m ρ
theorem frame_reference : Cert.quiescent_FfnOutReferenceIdeal := fun m ρ _ =>
  (θ_run Cert.FfnOutReferenceIdeal.defs _ _).mono (fun r h => ⟨fun c => (h c).2, sem_eq_zero_of_no_sems (by decide) r.2⟩)
    (Cert.FfnOutReferenceIdeal.Value.run (F := Ideal) m ρ)

theorem same : Cert.algebraic_FfnOutIdeal_FfnOutReferenceIdeal (hFfnOutIdeal := Cert.FfnOutIdeal.Gen.facts)
    (hFfnOutReferenceIdeal := Cert.FfnOutReferenceIdeal.Gen.facts) := by
  intro m g m' g' _ hm
  refine ⟨fun c => prod (m ((c : Thread nD τ).loc main_arg0)) (m ((c : Thread nD τ).loc main_arg1)), ?_, ?_⟩
  · exact (θ_run Cert.FfnOutIdeal.defs _ _).mono (fun r h c => ⟨(h c).1.trans (final m c), (h c).2⟩) (Value.run_blocks (F := Ideal) m g)
  · exact (θ_run Cert.FfnOutReferenceIdeal.defs _ _).mono (fun r h c => ⟨(h c).1.trans (congrArg₂ prod (hm c).1 (hm c).2), (h c).2⟩)
      (Cert.FfnOutReferenceIdeal.Value.run (F := Ideal) m' g')

end Cert.Product.FfnOut

end
-- ==== Proof.PleProj.lean ====
/- The per-layer embedding's projection. -/
module

public import proofs.«01_k».proof.Defs
public import proofs.«01_k».proof.Proof.Product
public import proofs.«01_k».proof.Proof.Gen.PleProj.Frame
public import proofs.«01_k».proof.Proof.Gen.PleProjIdeal.Value
public import proofs.«01_k».proof.Proof.Gen.PleProjReferenceIdeal.Run

@[expose] public section

set_option maxRecDepth 16384

noncomputable section

namespace Cert.Product.PleProj

open Cert.PleProjIdeal Cert.PleProjIdeal.Gen Idealize.ShloMosaic Idealize.ShloMosaic.TcCoe Idealize.SL.Sem

/-- The reference's array. -/
def prod (a : FVec Ideal S4096x256 .bf16) (b : FVec Ideal S256x1024 .bf16) : FVec Ideal S4096x1024 .f32 :=
  Host.dotGeneral (F := Ideal) Cert.PleProjReferenceIdeal.dot_S4096x256_S256x1024_S4096x1024_1_0_0_1_n_n none (extf .f32 a Cert.PleProjReferenceIdeal.Facts₀.bitsLt_bf16_f32) (extf .f32 b Cert.PleProjReferenceIdeal.Facts₀.bitsLt_bf16_f32)

theorem prod_at (a : FVec Ideal S4096x256 .bf16) (b : FVec Ideal S256x1024 .bf16) (t : Fin 4096) (x : Fin 1024) :
    prod a b (ix2 t x) = ∑ d : Fin 256, a (ix2 t d) * b (ix2 d x) := by
  pointwise [prod]

/-- A point's block of the result. -/
theorem out_at (a : FVec Ideal S1024x256 .bf16) (b : FVec Ideal S256x1024 .bf16) (r : Fin 1024) (x : Fin 1024) :
    out0_2 (F := Ideal) a b (ix2 r x) = ∑ d : Fin 256, a (ix2 r d) * b (ix2 d x) := by
  unfold out0_2
  rw [View.canon_unit_zero zero_two]
  simp only [View.ld_unit_zero (S := S1024x256) zero_two, View.ld_unit_zero (S := S256x1024) zero_two]
  pointwise [k0_pay1]

/-! ## The array after the run -/

variable (m : (ℓ : Loc nD τ sig) → Buf (Elt Ideal) ℓ) (c : Dev nD)

/-- The point of block `i` of the rows and block `j` of the columns. -/
def pt (i : Fin 4) (j : Fin 1) : Fin cfg0.N := ⟨1 * i.val + j.val, lt_of_lt_of_eq (by omega) N_0.symm⟩
/-- Row `r` of block `i`; column `x` of block `j`. -/
def row (i : Fin 4) (r : Fin 1024) : Fin 4096 := ⟨i.val * 1024 + r.val, by omega⟩
def col (j : Fin 1) (x : Fin 1024) : Fin 1024 := ⟨j.val * 1024 + x.val, by omega⟩

theorem idx : ∀ (i : Fin 4) (j : Fin 1), win0_0.index (pt i j) = ![i.val, 0] ∧ win0_1.index (pt i j) = ![0, j.val]
    ∧ win0_2.index (pt i j) = ![i.val, j.val] := by decide +kernel
theorem flush_all : ∀ t : Fin cfg0.N, (cfg0.win 2).flush t = true := (by decide +kernel : ∀ t : Fin grid0.N, _)

theorem read0 (X : FVec Ideal S4096x256 .bf16) (i : Fin 4) (j : Fin 1) (r : Fin 1024) (d : Fin 256) :
    ((cfg0.win 0).blk (pt i j)).view.read (Elt Ideal) X (ix2 r d) = X (ix2 (row i r) d) := by
  obtain ⟨e, -⟩ := idx i j
  refine congrArg X (funext fun a => Fin.ext ?_)
  match a with
  | ⟨0, _⟩ => show win0_0.index (pt i j) (0 : Fin 2) * 1024 + 1 * r.val = i.val * 1024 + r.val; rw [e]; simp
  | ⟨1, _⟩ => show win0_0.index (pt i j) (1 : Fin 2) * 256 + 1 * d.val = d.val; rw [e]; simp
theorem read1 (X : FVec Ideal S256x1024 .bf16) (i : Fin 4) (j : Fin 1) (x : Fin 1024) (d : Fin 256) :
    ((cfg0.win 1).blk (pt i j)).view.read (Elt Ideal) X (ix2 d x) = X (ix2 d (col j x)) := by
  obtain ⟨-, e, -⟩ := idx i j
  refine congrArg X (funext fun a => Fin.ext ?_)
  match a with
  | ⟨0, _⟩ => show win0_1.index (pt i j) (0 : Fin 2) * 256 + 1 * d.val = d.val; rw [e]; simp
  | ⟨1, _⟩ => show win0_1.index (pt i j) (1 : Fin 2) * 1024 + 1 * x.val = j.val * 1024 + x.val; rw [e]; simp
theorem read2 (X : FVec Ideal S4096x1024 .f32) (i : Fin 4) (j : Fin 1) (r : Fin 1024) (x : Fin 1024) :
    ((cfg0.win 2).blk (pt i j)).view.read (Elt Ideal) X (ix2 r x) = X (ix2 (row i r) (col j x)) := by
  obtain ⟨-, -, e⟩ := idx i j
  refine congrArg X (funext fun a => Fin.ext ?_)
  match a with
  | ⟨0, _⟩ => show win0_2.index (pt i j) (0 : Fin 2) * 1024 + 1 * r.val = i.val * 1024 + r.val; rw [e]; simp
  | ⟨1, _⟩ => show win0_2.index (pt i j) (1 : Fin 2) * 1024 + 1 * x.val = j.val * 1024 + x.val; rw [e]; simp

theorem final : (dats m 0 c).arrAt 2 cfg0.N = prod (m ((c : Thread nD τ).loc main_arg0)) (m ((c : Thread nD τ).loc main_arg1)) := by
  funext y
  obtain ⟨i, r, j, x, rfl⟩ : ∃ i r j x, y = ix2 (row i r) (col j x) := by
    idx_vars y
    refine ⟨⟨y0.val / 1024, by omega⟩, ⟨y0.val % 1024, by omega⟩, ⟨y1.val / 1024, by omega⟩, ⟨y1.val % 1024, by omega⟩, ?_⟩
    congr 1 <;> apply Fin.ext <;> simp only [row, col] <;> omega
  refine (read2 _ i j r x).symm.trans ((congrFun (Value.blocks2 m c (pt i j) (flush_all _)) (ix2 r x)).trans ?_)
  rw [Value.flushed2]
  refine (out_at (iblk m c 0 (pt i j)) (iblk m c 1 (pt i j)) r x).trans (Eq.trans ?_ (prod_at _ _ (row i r) (col j x)).symm)
  refine Finset.sum_congr rfl fun d _ => congrArg₂ (· * ·) ?_ ?_
  · refine (read0 (V m c main_arg0) i j r d).trans ?_
    rw [V_main_arg0]
  · refine (read1 (V m c main_arg1) i j x d).trans ?_
    rw [V_main_arg1]

/-! ## The claims -/

theorem frame_kernel : Cert.quiescent_PleProj := fun m ρ _ => Cert.PleProj.Gen.frame m ρ
theorem frame_ideal : Cert.quiescent_PleProjIdeal := fun m ρ _ => Cert.PleProjIdeal.Gen.frame m ρ
theorem frame_reference : Cert.quiescent_PleProjReferenceIdeal := fun m ρ _ =>
  (θ_run Cert.PleProjReferenceIdeal.defs _ _).mono (fun r h => ⟨fun c => (h c).2, sem_eq_zero_of_no_sems (by decide) r.2⟩)
    (Cert.PleProjReferenceIdeal.Value.run (F := Ideal) m ρ)

theorem same : Cert.algebraic_PleProjIdeal_PleProjReferenceIdeal (hPleProjIdeal := Cert.PleProjIdeal.Gen.facts)
    (hPleProjReferenceIdeal := Cert.PleProjReferenceIdeal.Gen.facts) := by
  intro m g m' g' _ hm
  refine ⟨fun c => prod (m ((c : Thread nD τ).loc main_arg0)) (m ((c : Thread nD τ).loc main_arg1)), ?_, ?_⟩
  · exact (θ_run Cert.PleProjIdeal.defs _ _).mono (fun r h c => ⟨(h c).1.trans (final m c), (h c).2⟩) (Value.run_blocks (F := Ideal) m g)
  · exact (θ_run Cert.PleProjReferenceIdeal.defs _ _).mono (fun r h c => ⟨(h c).1.trans (congrArg₂ prod (hm c).1 (hm c).2), (h c).2⟩)
      (Cert.PleProjReferenceIdeal.Value.run (F := Ideal) m' g')

end Cert.Product.PleProj

end
-- ==== Proof.PleProjDw.lean ====
/- The weight gradient of the per-layer embedding's projection. -/
module

public import proofs.«01_k».proof.Defs
public import proofs.«01_k».proof.Proof.Product
public import proofs.«01_k».proof.Proof.Gen.PleProjDw.Frame
public import proofs.«01_k».proof.Proof.Gen.PleProjDwIdeal.Value
public import proofs.«01_k».proof.Proof.Gen.PleProjDwReferenceIdeal.Run

@[expose] public section

set_option maxRecDepth 16384

noncomputable section

namespace Cert.Product.PleProjDw

open Cert.PleProjDwIdeal Cert.PleProjDwIdeal.Gen Idealize.ShloMosaic Idealize.ShloMosaic.TcCoe Idealize.SL.Sem

theorem first_at (a : FVec Ideal S2048x256 .bf16) (b : FVec Ideal S2048x1024 .bf16) (i : Fin 256) (j : Fin 1024) :
    k0_pay2 (F := Ideal) a b (ix2 i j) = ∑ t : Fin 2048, a (ix2 t i) * b (ix2 t j) := by
  pointwise [k0_pay2, k0_pay1]
theorem next_at (a : FVec Ideal S2048x256 .bf16) (b : FVec Ideal S2048x1024 .bf16) (s : FVec Ideal S256x1024 .f32) (i : Fin 256) (j : Fin 1024) :
    k0_pay3 (F := Ideal) a b s (ix2 i j) = s (ix2 i j) + ∑ t : Fin 2048, a (ix2 t i) * b (ix2 t j) := by
  pointwise [k0_pay3, k0_pay1]
theorem last_at (s : FVec Ideal S256x1024 .f32) (i : Fin 256) (j : Fin 1024) : k0_pay4 (F := Ideal) s (ix2 i j) = s (ix2 i j) := by
  pointwise [k0_pay4]

/-- The reference's array. -/
def prod (a : FVec Ideal S4096x256 .bf16) (b : FVec Ideal S4096x1024 .bf16) : FVec Ideal S256x1024 .bf16 :=
  truncf .bf16 (transpose Cert.PleProjDwReferenceIdeal.S256x1024 [1, 0]
      (Host.dotGeneral (F := Ideal) Cert.PleProjDwReferenceIdeal.dot_S4096x1024_S4096x256_S1024x256_0_0_1_1_n_n none
        (extf .f32 b Cert.PleProjDwReferenceIdeal.Facts₀.bitsLt_bf16_f32) (extf .f32 a Cert.PleProjDwReferenceIdeal.Facts₀.bitsLt_bf16_f32))
      Cert.PleProjDwReferenceIdeal.Facts₀.transposes_S1024x256_S256x1024_1_0) Cert.PleProjDwReferenceIdeal.Facts₀.bitsLt_bf16_f32

theorem prod_at (a : FVec Ideal S4096x256 .bf16) (b : FVec Ideal S4096x1024 .bf16) (i : Fin 256) (j : Fin 1024) :
    prod a b (ix2 i j) = ∑ t : Fin 4096, a (ix2 t i) * b (ix2 t j) := by
  pointwise [prod]
  exact Finset.sum_congr rfl fun t _ => mul_comm _ _

/-! ## What the grid's points leave -/

variable (m : (ℓ : Loc nD τ sig) → Buf (Elt Ideal) ℓ) (c : Dev nD)

/-- After the first half of the rows the accumulator holds their product. -/
theorem half (t : Fin cfg0.N) (h : t.val % 2 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ fun _ => scover0_A_0 ..]
  unfold kernelRun0_A
  dsimp only
  rw [View.canon_unit_zero zero_two]
  simp only [View.readAt_eq_ld, (hs0_0 t).read_unread, (hs0_1 t).read_unread, View.ld_unit_zero (S := S2048x256) zero_two, View.ld_unit_zero (S := S2048x1024) zero_two]

/-- What a point of the second half writes back. -/
theorem whole (t : Fin cfg0.N) (h : t.val % 2 = 1) : (dats m 0 c).flushed 2 t
    = (cfg0.win 2).cut (grid0.coords t) (k0_pay4 (k0_pay3 (iblk m c 0 t) (iblk m c 1 t) (outsAt0 m c (t.val - 1) (Nat.lt_of_le_of_lt (Nat.sub_le _ _) t.isLt)).2)) := by
  rw [Value.flushed2_B m c t (by omega) h h]
  unfold out0_B_2
  rw [View.read_writes_eq_canon _ _ _ fun _ => cover0_B_2 ..]
  unfold kernelRun0_B
  dsimp only
  sl_unfold_words
  rw [View.canon_unit_zero zero_two, View.readCov_unit_zero _ zero_two]
  simp only [View.readAt_eq_ld, (hs0_0 t).read_unread, (hs0_1 t).read_unread, (Memref.isWhole_whole cc0_scratch0).read_unread,
    View.ld_unit_zero (S := S2048x256) zero_two, View.ld_unit_zero (S := S2048x1024) zero_two, View.ld_unit_zero (S := S256x1024) zero_two]

/-! ## The array after the run -/

/-- The point of block `j` of the columns and half `k` of the rows. -/
def pt (j : Fin 1) (k : Fin 2) : Fin cfg0.N := ⟨2 * j.val + k.val, lt_of_lt_of_eq (by omega) N_0.symm⟩
/-- Row `t` of half `k`; column `x` of block `j`. -/
def row (k : Fin 2) (t : Fin 2048) : Fin 4096 := ⟨k.val * 2048 + t.val, by omega⟩
theorem row0 (t : Fin 2048) (h : t.val < 4096) : row 0 t = ⟨t.val, h⟩ := Fin.ext (by simp [row])
theorem row1 (t : Fin 2048) (h : 2048 + t.val < 4096) : row 1 t = ⟨2048 + t.val, h⟩ := Fin.ext (by simp [row])
def col (j : Fin 1) (x : Fin 1024) : Fin 1024 := ⟨j.val * 1024 + x.val, by omega⟩

theorem idx : ∀ (j : Fin 1) (k : Fin 2), win0_0.index (pt j k) = ![k.val, 0] ∧ win0_1.index (pt j k) = ![k.val, j.val]
    ∧ win0_2.index (pt j k) = ![0, j.val] := by decide +kernel

theorem read0 (X : FVec Ideal S4096x256 .bf16) (j : Fin 1) (k : Fin 2) (t : Fin 2048) (i : Fin 256) :
    ((cfg0.win 0).blk (pt j k)).view.read (Elt Ideal) X (ix2 t i) = X (ix2 (row k t) i) := by
  obtain ⟨e, -⟩ := idx j k
  refine congrArg X (funext fun a => Fin.ext ?_)
  match a with
  | ⟨0, _⟩ => show win0_0.index (pt j k) (0 : Fin 2) * 2048 + 1 * t.val = k.val * 2048 + t.val; rw [e]; simp
  | ⟨1, _⟩ => show win0_0.index (pt j k) (1 : Fin 2) * 256 + 1 * i.val = i.val; rw [e]; simp
theorem read1 (X : FVec Ideal S4096x1024 .bf16) (j : Fin 1) (k : Fin 2) (t : Fin 2048) (x : Fin 1024) :
    ((cfg0.win 1).blk (pt j k)).view.read (Elt Ideal) X (ix2 t x) = X (ix2 (row k t) (col j x)) := by
  obtain ⟨-, e, -⟩ := idx j k
  refine congrArg X (funext fun a => Fin.ext ?_)
  match a with
  | ⟨0, _⟩ => show win0_1.index (pt j k) (0 : Fin 2) * 2048 + 1 * t.val = k.val * 2048 + t.val; rw [e]; simp
  | ⟨1, _⟩ => show win0_1.index (pt j k) (1 : Fin 2) * 1024 + 1 * x.val = j.val * 1024 + x.val; rw [e]; simp
theorem read2 (X : FVec Ideal S256x1024 .bf16) (j : Fin 1) (k : Fin 2) (i : Fin 256) (x : Fin 1024) :
    ((cfg0.win 2).blk (pt j k)).view.read (Elt Ideal) X (ix2 i x) = X (ix2 i (col j x)) := by
  obtain ⟨-, -, e⟩ := idx j k
  refine congrArg X (funext fun a => Fin.ext ?_)
  match a with
  | ⟨0, _⟩ => show win0_2.index (pt j k) (0 : Fin 2) * 256 + 1 * i.val = i.val; rw [e]; simp
  | ⟨1, _⟩ => show win0_2.index (pt j k) (1 : Fin 2) * 1024 + 1 * x.val = j.val * 1024 + x.val; rw [e]; simp

theorem flush_last : ∀ j : Fin 1, (cfg0.win 2).flush (pt j 1) = true := (by decide +kernel : ∀ j : Fin 1, win0_2.flush (pt j 1) = true)

theorem final : (dats m 0 c).arrAt 2 cfg0.N = prod (m ((c : Thread nD τ).loc main_arg0)) (m ((c : Thread nD τ).loc main_arg1)) := by
  funext y
  obtain ⟨i, j, x, rfl⟩ : ∃ i j x, y = ix2 i (col j x) := by
    idx_vars y
    refine ⟨y0, ⟨y1.val / 1024, by omega⟩, ⟨y1.val % 1024, by omega⟩, ?_⟩
    congr 1; apply Fin.ext; simp only [col]; omega
  rw [Value.final2]
  refine (read2 _ j 1 i x).symm.trans ((congrFun (Value.flushed2_eq m c (pt j 1) (flush_last j)) (ix2 i x)).symm.trans ?_)
  rw [whole m c (pt j 1) (by show (2 * j.val + 1) % 2 = 1; omega)]
  have e := half m c (pt j 0) (by show (2 * j.val + 0) % 2 = 0; omega)
  refine (last_at _ i x).trans ((next_at _ _ _ i x).trans ?_)
  refine Eq.trans ?_ (prod_at _ _ i (col j x)).symm
  rw [sum_two 2048 rfl]
  refine congrArg₂ (· + ·) ((congrFun e (ix2 i x)).trans ((first_at _ _ i x).trans ?_)) ?_
  all_goals refine Finset.sum_congr rfl fun t _ => congrArg₂ (· * ·) ?_ ?_
  · refine (read0 (V m c main_arg0) j 0 t i).trans ?_
    rw [V_main_arg0, row0]
  · refine (read1 (V m c main_arg1) j 0 t x).trans ?_
    rw [V_main_arg1, row0]
  · refine (read0 (V m c main_arg0) j 1 t i).trans ?_
    rw [V_main_arg0, row1]
  · refine (read1 (V m c main_arg1) j 1 t x).trans ?_
    rw [V_main_arg1, row1]

/-! ## The claims -/

theorem frame_kernel : Cert.quiescent_PleProjDw := fun m ρ _ => Cert.PleProjDw.Gen.frame m ρ
theorem frame_ideal : Cert.quiescent_PleProjDwIdeal := fun m ρ _ => Cert.PleProjDwIdeal.Gen.frame m ρ
theorem frame_reference : Cert.quiescent_PleProjDwReferenceIdeal := fun m ρ _ =>
  (θ_run Cert.PleProjDwReferenceIdeal.defs _ _).mono (fun r h => ⟨fun c => (h c).2, sem_eq_zero_of_no_sems (by decide) r.2⟩)
    (Cert.PleProjDwReferenceIdeal.Value.run (F := Ideal) m ρ)

theorem same : Cert.algebraic_PleProjDwIdeal_PleProjDwReferenceIdeal (hPleProjDwIdeal := Cert.PleProjDwIdeal.Gen.facts)
    (hPleProjDwReferenceIdeal := Cert.PleProjDwReferenceIdeal.Gen.facts) := by
  intro m g m' g' _ hm
  refine ⟨fun c => prod (m ((c : Thread nD τ).loc main_arg0)) (m ((c : Thread nD τ).loc main_arg1)), ?_, ?_⟩
  · exact (θ_run Cert.PleProjDwIdeal.defs _ _).mono (fun r h c => ⟨(h c).1.trans (final m c), (h c).2⟩) (Value.run_blocks (F := Ideal) m g)
  · exact (θ_run Cert.PleProjDwReferenceIdeal.defs _ _).mono (fun r h c => ⟨(h c).1.trans (congrArg₂ prod (hm c).1 (hm c).2), (h c).2⟩)
      (Cert.PleProjDwReferenceIdeal.Value.run (F := Ideal) m' g')

end Cert.Product.PleProjDw

end
-- ==== Proof.FProj.lean ====
/- The forget gate's columns of the input projection. -/
module

public import proofs.«01_k».proof.Defs
public import proofs.«01_k».proof.Proof.Product
public import proofs.«01_k».proof.Proof.Gen.FProj.Frame
public import proofs.«01_k».proof.Proof.Gen.FProjIdeal.Value
public import proofs.«01_k».proof.Proof.Gen.FProjReferenceIdeal.Run

@[expose] public section

set_option maxRecDepth 16384

noncomputable section

namespace Cert.Product.FProj

open Cert.FProjIdeal Cert.FProjIdeal.Gen Idealize.ShloMosaic Idealize.ShloMosaic.TcCoe Idealize.SL.Sem

/-- The reference's array. -/
def prod (a : FVec Ideal S4096x1024 .bf16) (b : FVec Ideal S1024x128 .bf16) : FVec Ideal S4096x128 .f32 :=
  Host.dotGeneral (F := Ideal) Cert.FProjReferenceIdeal.dot_S4096x1024_S1024x128_S4096x128_1_0_0_1_n_n none (extf .f32 a Cert.FProjReferenceIdeal.Facts₀.bitsLt_bf16_f32) (extf .f32 b Cert.FProjReferenceIdeal.Facts₀.bitsLt_bf16_f32)

theorem prod_at (a : FVec Ideal S4096x1024 .bf16) (b : FVec Ideal S1024x128 .bf16) (t : Fin 4096) (x : Fin 128) :
    prod a b (ix2 t x) = ∑ d : Fin 1024, a (ix2 t d) * b (ix2 d x) := by
  pointwise [prod]

/-- A point's block of the result. -/
theorem out_at (a : FVec Ideal S1024x1024 .bf16) (b : FVec Ideal S1024x128 .bf16) (r : Fin 1024) (x : Fin 128) :
    out0_2 (F := Ideal) a b (ix2 r x) = ∑ d : Fin 1024, a (ix2 r d) * b (ix2 d x) := by
  unfold out0_2
  rw [View.canon_unit_zero zero_two]
  simp only [View.ld_unit_zero (S := S1024x1024) zero_two, View.ld_unit_zero (S := S1024x128) zero_two]
  pointwise [k0_pay1]

/-! ## The array after the run -/

variable (m : (ℓ : Loc nD τ sig) → Buf (Elt Ideal) ℓ) (c : Dev nD)

/-- The point of block `i` of the rows and block `j` of the columns. -/
def pt (i : Fin 4) (j : Fin 1) : Fin cfg0.N := ⟨1 * i.val + j.val, lt_of_lt_of_eq (by omega) N_0.symm⟩
/-- Row `r` of block `i`; column `x` of block `j`. -/
def row (i : Fin 4) (r : Fin 1024) : Fin 4096 := ⟨i.val * 1024 + r.val, by omega⟩
def col (j : Fin 1) (x : Fin 128) : Fin 128 := ⟨j.val * 128 + x.val, by omega⟩

theorem idx : ∀ (i : Fin 4) (j : Fin 1), win0_0.index (pt i j) = ![i.val, 0] ∧ win0_1.index (pt i j) = ![0, j.val]
    ∧ win0_2.index (pt i j) = ![i.val, j.val] := by decide +kernel
theorem flush_all : ∀ t : Fin cfg0.N, (cfg0.win 2).flush t = true := (by decide +kernel : ∀ t : Fin grid0.N, _)

theorem read0 (X : FVec Ideal S4096x1024 .bf16) (i : Fin 4) (j : Fin 1) (r : Fin 1024) (d : Fin 1024) :
    ((cfg0.win 0).blk (pt i j)).view.read (Elt Ideal) X (ix2 r d) = X (ix2 (row i r) d) := by
  obtain ⟨e, -⟩ := idx i j
  refine congrArg X (funext fun a => Fin.ext ?_)
  match a with
  | ⟨0, _⟩ => show win0_0.index (pt i j) (0 : Fin 2) * 1024 + 1 * r.val = i.val * 1024 + r.val; rw [e]; simp
  | ⟨1, _⟩ => show win0_0.index (pt i j) (1 : Fin 2) * 1024 + 1 * d.val = d.val; rw [e]; simp
theorem read1 (X : FVec Ideal S1024x128 .bf16) (i : Fin 4) (j : Fin 1) (x : Fin 128) (d : Fin 1024) :
    ((cfg0.win 1).blk (pt i j)).view.read (Elt Ideal) X (ix2 d x) = X (ix2 d (col j x)) := by
  obtain ⟨-, e, -⟩ := idx i j
  refine congrArg X (funext fun a => Fin.ext ?_)
  match a with
  | ⟨0, _⟩ => show win0_1.index (pt i j) (0 : Fin 2) * 1024 + 1 * d.val = d.val; rw [e]; simp
  | ⟨1, _⟩ => show win0_1.index (pt i j) (1 : Fin 2) * 128 + 1 * x.val = j.val * 128 + x.val; rw [e]; simp
theorem read2 (X : FVec Ideal S4096x128 .f32) (i : Fin 4) (j : Fin 1) (r : Fin 1024) (x : Fin 128) :
    ((cfg0.win 2).blk (pt i j)).view.read (Elt Ideal) X (ix2 r x) = X (ix2 (row i r) (col j x)) := by
  obtain ⟨-, -, e⟩ := idx i j
  refine congrArg X (funext fun a => Fin.ext ?_)
  match a with
  | ⟨0, _⟩ => show win0_2.index (pt i j) (0 : Fin 2) * 1024 + 1 * r.val = i.val * 1024 + r.val; rw [e]; simp
  | ⟨1, _⟩ => show win0_2.index (pt i j) (1 : Fin 2) * 128 + 1 * x.val = j.val * 128 + x.val; rw [e]; simp

theorem final : (dats m 0 c).arrAt 2 cfg0.N = prod (m ((c : Thread nD τ).loc main_arg0)) (m ((c : Thread nD τ).loc main_arg1)) := by
  funext y
  obtain ⟨i, r, j, x, rfl⟩ : ∃ i r j x, y = ix2 (row i r) (col j x) := by
    idx_vars y
    refine ⟨⟨y0.val / 1024, by omega⟩, ⟨y0.val % 1024, by omega⟩, ⟨y1.val / 128, by omega⟩, ⟨y1.val % 128, by omega⟩, ?_⟩
    congr 1 <;> apply Fin.ext <;> simp only [row, col] <;> omega
  refine (read2 _ i j r x).symm.trans ((congrFun (Value.blocks2 m c (pt i j) (flush_all _)) (ix2 r x)).trans ?_)
  rw [Value.flushed2]
  refine (out_at (iblk m c 0 (pt i j)) (iblk m c 1 (pt i j)) r x).trans (Eq.trans ?_ (prod_at _ _ (row i r) (col j x)).symm)
  refine Finset.sum_congr rfl fun d _ => congrArg₂ (· * ·) ?_ ?_
  · refine (read0 (V m c main_arg0) i j r d).trans ?_
    rw [V_main_arg0]
  · refine (read1 (V m c main_arg1) i j x d).trans ?_
    rw [V_main_arg1]

/-! ## The claims -/

theorem frame_kernel : Cert.quiescent_FProj := fun m ρ _ => Cert.FProj.Gen.frame m ρ
theorem frame_ideal : Cert.quiescent_FProjIdeal := fun m ρ _ => Cert.FProjIdeal.Gen.frame m ρ
theorem frame_reference : Cert.quiescent_FProjReferenceIdeal := fun m ρ _ =>
  (θ_run Cert.FProjReferenceIdeal.defs _ _).mono (fun r h => ⟨fun c => (h c).2, sem_eq_zero_of_no_sems (by decide) r.2⟩)
    (Cert.FProjReferenceIdeal.Value.run (F := Ideal) m ρ)

theorem same : Cert.algebraic_FProjIdeal_FProjReferenceIdeal (hFProjIdeal := Cert.FProjIdeal.Gen.facts)
    (hFProjReferenceIdeal := Cert.FProjReferenceIdeal.Gen.facts) := by
  intro m g m' g' _ hm
  refine ⟨fun c => prod (m ((c : Thread nD τ).loc main_arg0)) (m ((c : Thread nD τ).loc main_arg1)), ?_, ?_⟩
  · exact (θ_run Cert.FProjIdeal.defs _ _).mono (fun r h c => ⟨(h c).1.trans (final m c), (h c).2⟩) (Value.run_blocks (F := Ideal) m g)
  · exact (θ_run Cert.FProjReferenceIdeal.defs _ _).mono (fun r h c => ⟨(h c).1.trans (congrArg₂ prod (hm c).1 (hm c).2), (h c).2⟩)
      (Cert.FProjReferenceIdeal.Value.run (F := Ideal) m' g')

end Cert.Product.FProj

end
-- ==== Proof.FProjDw.lean ====
/- The weight gradient of the forget gate's columns. -/
module

public import proofs.«01_k».proof.Defs
public import proofs.«01_k».proof.Proof.Product
public import proofs.«01_k».proof.Proof.Gen.FProjDw.Frame
public import proofs.«01_k».proof.Proof.Gen.FProjDwIdeal.Value
public import proofs.«01_k».proof.Proof.Gen.FProjDwReferenceIdeal.Run

@[expose] public section

set_option maxRecDepth 16384

noncomputable section

namespace Cert.Product.FProjDw

open Cert.FProjDwIdeal Cert.FProjDwIdeal.Gen Idealize.ShloMosaic Idealize.ShloMosaic.TcCoe Idealize.SL.Sem

theorem first_at (a : FVec Ideal S2048x1024 .bf16) (b : FVec Ideal S2048x128 .bf16) (i : Fin 1024) (j : Fin 128) :
    k0_pay2 (F := Ideal) a b (ix2 i j) = ∑ t : Fin 2048, a (ix2 t i) * b (ix2 t j) := by
  pointwise [k0_pay2, k0_pay1]
theorem next_at (a : FVec Ideal S2048x1024 .bf16) (b : FVec Ideal S2048x128 .bf16) (s : FVec Ideal S1024x128 .f32) (i : Fin 1024) (j : Fin 128) :
    k0_pay3 (F := Ideal) a b s (ix2 i j) = s (ix2 i j) + ∑ t : Fin 2048, a (ix2 t i) * b (ix2 t j) := by
  pointwise [k0_pay3, k0_pay1]
theorem last_at (s : FVec Ideal S1024x128 .f32) (i : Fin 1024) (j : Fin 128) : k0_pay4 (F := Ideal) s (ix2 i j) = s (ix2 i j) := by
  pointwise [k0_pay4]

/-- The reference's array. -/
def prod (a : FVec Ideal S4096x1024 .bf16) (b : FVec Ideal S4096x128 .bf16) : FVec Ideal S1024x128 .bf16 :=
  truncf .bf16 (transpose Cert.FProjDwReferenceIdeal.S1024x128 [1, 0]
      (Host.dotGeneral (F := Ideal) Cert.FProjDwReferenceIdeal.dot_S4096x128_S4096x1024_S128x1024_0_0_1_1_n_n none
        (extf .f32 b Cert.FProjDwReferenceIdeal.Facts₀.bitsLt_bf16_f32) (extf .f32 a Cert.FProjDwReferenceIdeal.Facts₀.bitsLt_bf16_f32))
      Cert.FProjDwReferenceIdeal.Facts₀.transposes_S128x1024_S1024x128_1_0) Cert.FProjDwReferenceIdeal.Facts₀.bitsLt_bf16_f32

theorem prod_at (a : FVec Ideal S4096x1024 .bf16) (b : FVec Ideal S4096x128 .bf16) (i : Fin 1024) (j : Fin 128) :
    prod a b (ix2 i j) = ∑ t : Fin 4096, a (ix2 t i) * b (ix2 t j) := by
  pointwise [prod]
  exact Finset.sum_congr rfl fun t _ => mul_comm _ _

/-! ## What the grid's points leave -/

variable (m : (ℓ : Loc nD τ sig) → Buf (Elt Ideal) ℓ) (c : Dev nD)

/-- After the first half of the rows the accumulator holds their product. -/
theorem half (t : Fin cfg0.N) (h : t.val % 2 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ fun _ => scover0_A_0 ..]
  unfold kernelRun0_A
  dsimp only
  rw [View.canon_unit_zero zero_two]
  simp only [View.readAt_eq_ld, (hs0_0 t).read_unread, (hs0_1 t).read_unread, View.ld_unit_zero (S := S2048x1024) zero_two, View.ld_unit_zero (S := S2048x128) zero_two]

/-- What a point of the second half writes back. -/
theorem whole (t : Fin cfg0.N) (h : t.val % 2 = 1) : (dats m 0 c).flushed 2 t
    = (cfg0.win 2).cut (grid0.coords t) (k0_pay4 (k0_pay3 (iblk m c 0 t) (iblk m c 1 t) (outsAt0 m c (t.val - 1) (Nat.lt_of_le_of_lt (Nat.sub_le _ _) t.isLt)).2)) := by
  rw [Value.flushed2_B m c t (by omega) h h]
  unfold out0_B_2
  rw [View.read_writes_eq_canon _ _ _ fun _ => cover0_B_2 ..]
  unfold kernelRun0_B
  dsimp only
  sl_unfold_words
  rw [View.canon_unit_zero zero_two, View.readCov_unit_zero _ zero_two]
  simp only [View.readAt_eq_ld, (hs0_0 t).read_unread, (hs0_1 t).read_unread, (Memref.isWhole_whole cc0_scratch0).read_unread,
    View.ld_unit_zero (S := S2048x1024) zero_two, View.ld_unit_zero (S := S2048x128) zero_two, View.ld_unit_zero (S := S1024x128) zero_two]

/-! ## The array after the run -/

/-- The point of block `j` of the columns and half `k` of the rows. -/
def pt (j : Fin 1) (k : Fin 2) : Fin cfg0.N := ⟨2 * j.val + k.val, lt_of_lt_of_eq (by omega) N_0.symm⟩
/-- Row `t` of half `k`; column `x` of block `j`. -/
def row (k : Fin 2) (t : Fin 2048) : Fin 4096 := ⟨k.val * 2048 + t.val, by omega⟩
theorem row0 (t : Fin 2048) (h : t.val < 4096) : row 0 t = ⟨t.val, h⟩ := Fin.ext (by simp [row])
theorem row1 (t : Fin 2048) (h : 2048 + t.val < 4096) : row 1 t = ⟨2048 + t.val, h⟩ := Fin.ext (by simp [row])
def col (j : Fin 1) (x : Fin 128) : Fin 128 := ⟨j.val * 128 + x.val, by omega⟩

theorem idx : ∀ (j : Fin 1) (k : Fin 2), win0_0.index (pt j k) = ![k.val, 0] ∧ win0_1.index (pt j k) = ![k.val, j.val]
    ∧ win0_2.index (pt j k) = ![0, j.val] := by decide +kernel

theorem read0 (X : FVec Ideal S4096x1024 .bf16) (j : Fin 1) (k : Fin 2) (t : Fin 2048) (i : Fin 1024) :
    ((cfg0.win 0).blk (pt j k)).view.read (Elt Ideal) X (ix2 t i) = X (ix2 (row k t) i) := by
  obtain ⟨e, -⟩ := idx j k
  refine congrArg X (funext fun a => Fin.ext ?_)
  match a with
  | ⟨0, _⟩ => show win0_0.index (pt j k) (0 : Fin 2) * 2048 + 1 * t.val = k.val * 2048 + t.val; rw [e]; simp
  | ⟨1, _⟩ => show win0_0.index (pt j k) (1 : Fin 2) * 1024 + 1 * i.val = i.val; rw [e]; simp
theorem read1 (X : FVec Ideal S4096x128 .bf16) (j : Fin 1) (k : Fin 2) (t : Fin 2048) (x : Fin 128) :
    ((cfg0.win 1).blk (pt j k)).view.read (Elt Ideal) X (ix2 t x) = X (ix2 (row k t) (col j x)) := by
  obtain ⟨-, e, -⟩ := idx j k
  refine congrArg X (funext fun a => Fin.ext ?_)
  match a with
  | ⟨0, _⟩ => show win0_1.index (pt j k) (0 : Fin 2) * 2048 + 1 * t.val = k.val * 2048 + t.val; rw [e]; simp
  | ⟨1, _⟩ => show win0_1.index (pt j k) (1 : Fin 2) * 128 + 1 * x.val = j.val * 128 + x.val; rw [e]; simp
theorem read2 (X : FVec Ideal S1024x128 .bf16) (j : Fin 1) (k : Fin 2) (i : Fin 1024) (x : Fin 128) :
    ((cfg0.win 2).blk (pt j k)).view.read (Elt Ideal) X (ix2 i x) = X (ix2 i (col j x)) := by
  obtain ⟨-, -, e⟩ := idx j k
  refine congrArg X (funext fun a => Fin.ext ?_)
  match a with
  | ⟨0, _⟩ => show win0_2.index (pt j k) (0 : Fin 2) * 1024 + 1 * i.val = i.val; rw [e]; simp
  | ⟨1, _⟩ => show win0_2.index (pt j k) (1 : Fin 2) * 128 + 1 * x.val = j.val * 128 + x.val; rw [e]; simp

theorem flush_last : ∀ j : Fin 1, (cfg0.win 2).flush (pt j 1) = true := (by decide +kernel : ∀ j : Fin 1, win0_2.flush (pt j 1) = true)

theorem final : (dats m 0 c).arrAt 2 cfg0.N = prod (m ((c : Thread nD τ).loc main_arg0)) (m ((c : Thread nD τ).loc main_arg1)) := by
  funext y
  obtain ⟨i, j, x, rfl⟩ : ∃ i j x, y = ix2 i (col j x) := by
    idx_vars y
    refine ⟨y0, ⟨y1.val / 128, by omega⟩, ⟨y1.val % 128, by omega⟩, ?_⟩
    congr 1; apply Fin.ext; simp only [col]; omega
  rw [Value.final2]
  refine (read2 _ j 1 i x).symm.trans ((congrFun (Value.flushed2_eq m c (pt j 1) (flush_last j)) (ix2 i x)).symm.trans ?_)
  rw [whole m c (pt j 1) (by show (2 * j.val + 1) % 2 = 1; omega)]
  have e := half m c (pt j 0) (by show (2 * j.val + 0) % 2 = 0; omega)
  refine (last_at _ i x).trans ((next_at _ _ _ i x).trans ?_)
  refine Eq.trans ?_ (prod_at _ _ i (col j x)).symm
  rw [sum_two 2048 rfl]
  refine congrArg₂ (· + ·) ((congrFun e (ix2 i x)).trans ((first_at _ _ i x).trans ?_)) ?_
  all_goals refine Finset.sum_congr rfl fun t _ => congrArg₂ (· * ·) ?_ ?_
  · refine (read0 (V m c main_arg0) j 0 t i).trans ?_
    rw [V_main_arg0, row0]
  · refine (read1 (V m c main_arg1) j 0 t x).trans ?_
    rw [V_main_arg1, row0]
  · refine (read0 (V m c main_arg0) j 1 t i).trans ?_
    rw [V_main_arg0, row1]
  · refine (read1 (V m c main_arg1) j 1 t x).trans ?_
    rw [V_main_arg1, row1]

/-! ## The claims -/

theorem frame_kernel : Cert.quiescent_FProjDw := fun m ρ _ => Cert.FProjDw.Gen.frame m ρ
theorem frame_ideal : Cert.quiescent_FProjDwIdeal := fun m ρ _ => Cert.FProjDwIdeal.Gen.frame m ρ
theorem frame_reference : Cert.quiescent_FProjDwReferenceIdeal := fun m ρ _ =>
  (θ_run Cert.FProjDwReferenceIdeal.defs _ _).mono (fun r h => ⟨fun c => (h c).2, sem_eq_zero_of_no_sems (by decide) r.2⟩)
    (Cert.FProjDwReferenceIdeal.Value.run (F := Ideal) m ρ)

theorem same : Cert.algebraic_FProjDwIdeal_FProjDwReferenceIdeal (hFProjDwIdeal := Cert.FProjDwIdeal.Gen.facts)
    (hFProjDwReferenceIdeal := Cert.FProjDwReferenceIdeal.Gen.facts) := by
  intro m g m' g' _ hm
  refine ⟨fun c => prod (m ((c : Thread nD τ).loc main_arg0)) (m ((c : Thread nD τ).loc main_arg1)), ?_, ?_⟩
  · exact (θ_run Cert.FProjDwIdeal.defs _ _).mono (fun r h c => ⟨(h c).1.trans (final m c), (h c).2⟩) (Value.run_blocks (F := Ideal) m g)
  · exact (θ_run Cert.FProjDwReferenceIdeal.defs _ _).mono (fun r h c => ⟨(h c).1.trans (congrArg₂ prod (hm c).1 (hm c).2), (h c).2⟩)
      (Cert.FProjDwReferenceIdeal.Value.run (F := Ideal) m' g')

end Cert.Product.FProjDw

end
-- ==== Proof.FProjDx.lean ====
/- The gradient through the forget gate's columns, added to the gradient that is already there. -/
module

public import proofs.«01_k».proof.Defs
public import proofs.«01_k».proof.Proof.Product
public import proofs.«01_k».proof.Proof.Gen.FProjDx.Frame
public import proofs.«01_k».proof.Proof.Gen.FProjDxIdeal.Value
public import proofs.«01_k».proof.Proof.Gen.FProjDxReferenceIdeal.Run

@[expose] public section

set_option maxRecDepth 16384

noncomputable section

namespace Cert.Product.FProjDx

open Cert.FProjDxIdeal Cert.FProjDxIdeal.Gen Idealize.ShloMosaic Idealize.ShloMosaic.TcCoe Idealize.SL.Sem

/-- The reference's array. -/
def prod (a : FVec Ideal S4096x128 .bf16) (b : FVec Ideal S1024x128 .bf16) (s : FVec Ideal S4096x1024 .f32) : FVec Ideal S4096x1024 .f32 :=
  addf (Host.dotGeneral (F := Ideal) Cert.FProjDxReferenceIdeal.dot_S4096x128_S1024x128_S4096x1024_1_1_0_0_n_n none (extf .f32 a Cert.FProjDxReferenceIdeal.Facts₀.bitsLt_bf16_f32) (extf .f32 b Cert.FProjDxReferenceIdeal.Facts₀.bitsLt_bf16_f32)) s

theorem prod_congr {a a' : FVec Ideal S4096x128 .bf16} {b b' : FVec Ideal S1024x128 .bf16} {s s' : FVec Ideal S4096x1024 .f32}
    (ha : a = a') (hb : b = b') (hs : s = s') : prod a b s = prod a' b' s' := by rw [ha, hb, hs]

theorem prod_at (a : FVec Ideal S4096x128 .bf16) (b : FVec Ideal S1024x128 .bf16) (s : FVec Ideal S4096x1024 .f32) (t : Fin 4096) (x : Fin 1024) :
    prod a b s (ix2 t x) = ∑ d : Fin 128, a (ix2 t d) * b (ix2 x d) + s (ix2 t x) := by
  pointwise [prod]

/-- A point's block of the result. -/
theorem out_at (a b : FVec Ideal S1024x128 .bf16) (s : FVec Ideal S1024x1024 .f32) (r x : Fin 1024) :
    out0_3 (F := Ideal) a b s (ix2 r x) = ∑ d : Fin 128, a (ix2 r d) * b (ix2 x d) + s (ix2 r x) := by
  unfold out0_3
  rw [View.canon_unit_zero zero_two]
  simp only [View.ld_unit_zero (S := S1024x128) zero_two, View.ld_unit_zero (S := S1024x1024) zero_two]
  pointwise [k0_pay1]

/-! ## The array after the run -/

variable (m : (ℓ : Loc nD τ sig) → Buf (Elt Ideal) ℓ) (c : Dev nD)

/-- The point of block `i` of the rows and block `j` of the columns. -/
def pt (i : Fin 4) (j : Fin 1) : Fin cfg0.N := ⟨1 * i.val + j.val, lt_of_lt_of_eq (by omega) N_0.symm⟩
/-- Row `r` of block `i`; column `x` of block `j`. -/
def row (i : Fin 4) (r : Fin 1024) : Fin 4096 := ⟨i.val * 1024 + r.val, by omega⟩
def col (j : Fin 1) (x : Fin 1024) : Fin 1024 := ⟨j.val * 1024 + x.val, by omega⟩

theorem idx : ∀ (i : Fin 4) (j : Fin 1), win0_0.index (pt i j) = ![i.val, 0] ∧ win0_1.index (pt i j) = ![j.val, 0]
    ∧ win0_2.index (pt i j) = ![i.val, j.val] ∧ win0_3.index (pt i j) = ![i.val, j.val] := by decide +kernel
theorem flush_all : ∀ t : Fin cfg0.N, (cfg0.win 3).flush t = true := (by decide +kernel : ∀ t : Fin grid0.N, _)

theorem read0 (X : FVec Ideal S4096x128 .bf16) (i : Fin 4) (j : Fin 1) (r : Fin 1024) (d : Fin 128) :
    ((cfg0.win 0).blk (pt i j)).view.read (Elt Ideal) X (ix2 r d) = X (ix2 (row i r) d) := by
  obtain ⟨e, -⟩ := idx i j
  refine congrArg X (funext fun a => Fin.ext ?_)
  match a with
  | ⟨0, _⟩ => show win0_0.index (pt i j) (0 : Fin 2) * 1024 + 1 * r.val = i.val * 1024 + r.val; rw [e]; simp
  | ⟨1, _⟩ => show win0_0.index (pt i j) (1 : Fin 2) * 128 + 1 * d.val = d.val; rw [e]; simp
theorem read1 (X : FVec Ideal S1024x128 .bf16) (i : Fin 4) (j : Fin 1) (x : Fin 1024) (d : Fin 128) :
    ((cfg0.win 1).blk (pt i j)).view.read (Elt Ideal) X (ix2 x d) = X (ix2 (col j x) d) := by
  obtain ⟨-, e, -⟩ := idx i j
  refine congrArg X (funext fun a => Fin.ext ?_)
  match a with
  | ⟨0, _⟩ => show win0_1.index (pt i j) (0 : Fin 2) * 1024 + 1 * x.val = j.val * 1024 + x.val; rw [e]; simp
  | ⟨1, _⟩ => show win0_1.index (pt i j) (1 : Fin 2) * 128 + 1 * d.val = d.val; rw [e]; simp
theorem read2 (X : FVec Ideal S4096x1024 .f32) (i : Fin 4) (j : Fin 1) (r x : Fin 1024) :
    ((cfg0.win 2).blk (pt i j)).view.read (Elt Ideal) X (ix2 r x) = X (ix2 (row i r) (col j x)) := by
  obtain ⟨-, -, e, -⟩ := idx i j
  refine congrArg X (funext fun a => Fin.ext ?_)
  match a with
  | ⟨0, _⟩ => show win0_2.index (pt i j) (0 : Fin 2) * 1024 + 1 * r.val = i.val * 1024 + r.val; rw [e]; simp
  | ⟨1, _⟩ => show win0_2.index (pt i j) (1 : Fin 2) * 1024 + 1 * x.val = j.val * 1024 + x.val; rw [e]; simp

theorem read3 (X : FVec Ideal S4096x1024 .f32) (i : Fin 4) (j : Fin 1) (r x : Fin 1024) :
    ((cfg0.win 3).blk (pt i j)).view.read (Elt Ideal) X (ix2 r x) = X (ix2 (row i r) (col j x)) := by
  obtain ⟨-, -, -, e⟩ := idx i j
  refine congrArg X (funext fun a => Fin.ext ?_)
  match a with
  | ⟨0, _⟩ => show win0_3.index (pt i j) (0 : Fin 2) * 1024 + 1 * r.val = i.val * 1024 + r.val; rw [e]; simp
  | ⟨1, _⟩ => show win0_3.index (pt i j) (1 : Fin 2) * 1024 + 1 * x.val = j.val * 1024 + x.val; rw [e]; simp

theorem final : (dats m 0 c).arrAt 3 cfg0.N = prod (m ((c : Thread nD τ).loc main_arg0)) (m ((c : Thread nD τ).loc main_arg1)) (m ((c : Thread nD τ).loc main_arg2)) := by
  funext y
  obtain ⟨i, r, j, x, rfl⟩ : ∃ i r j x, y = ix2 (row i r) (col j x) := by
    idx_vars y
    refine ⟨⟨y0.val / 1024, by omega⟩, ⟨y0.val % 1024, by omega⟩, ⟨y1.val / 1024, by omega⟩, ⟨y1.val % 1024, by omega⟩, ?_⟩
    congr 1 <;> apply Fin.ext <;> simp only [row, col] <;> omega
  refine (read3 _ i j r x).symm.trans ((congrFun (Value.blocks3 m c (pt i j) (flush_all _)) (ix2 r x)).trans ?_)
  rw [Value.flushed3]
  refine (out_at (iblk m c 0 (pt i j)) (iblk m c 1 (pt i j)) (iblk m c 2 (pt i j)) r x).trans (Eq.trans ?_ (prod_at _ _ _ (row i r) (col j x)).symm)
  refine congrArg₂ (· + ·) (Finset.sum_congr rfl fun d _ => congrArg₂ (· * ·) ?_ ?_) ?_
  · refine (read0 (V m c main_arg0) i j r d).trans ?_
    rw [V_main_arg0]
  · refine (read1 (V m c main_arg1) i j x d).trans ?_
    rw [V_main_arg1]
  · refine (read2 (V m c main_arg2) i j r x).trans ?_
    rw [V_main_arg2]

/-! ## The claims -/

theorem frame_kernel : Cert.quiescent_FProjDx := fun m ρ _ => Cert.FProjDx.Gen.frame m ρ
theorem frame_ideal : Cert.quiescent_FProjDxIdeal := fun m ρ _ => Cert.FProjDxIdeal.Gen.frame m ρ
theorem frame_reference : Cert.quiescent_FProjDxReferenceIdeal := fun m ρ _ =>
  (θ_run Cert.FProjDxReferenceIdeal.defs _ _).mono (fun r h => ⟨fun c => (h c).2, sem_eq_zero_of_no_sems (by decide) r.2⟩)
    (Cert.FProjDxReferenceIdeal.Value.run (F := Ideal) m ρ)

theorem same : Cert.algebraic_FProjDxIdeal_FProjDxReferenceIdeal (hFProjDxIdeal := Cert.FProjDxIdeal.Gen.facts)
    (hFProjDxReferenceIdeal := Cert.FProjDxReferenceIdeal.Gen.facts) := by
  intro m g m' g' _ hm
  refine ⟨fun c => prod (m ((c : Thread nD τ).loc main_arg0)) (m ((c : Thread nD τ).loc main_arg1)) (m ((c : Thread nD τ).loc main_arg2)), ?_, ?_⟩
  · exact (θ_run Cert.FProjDxIdeal.defs _ _).mono (fun r h c => ⟨(h c).1.trans (final m c), (h c).2⟩) (Value.run_blocks (F := Ideal) m g)
  · exact (θ_run Cert.FProjDxReferenceIdeal.defs _ _).mono (fun r h c => ⟨(h c).1.trans (prod_congr (hm c).1 (hm c).2.1 (hm c).2.2), (h c).2⟩)
      (Cert.FProjDxReferenceIdeal.Value.run (F := Ideal) m' g')

end Cert.Product.FProjDx

end
-- ==== Proof.lean ====
/- The certificate's claim, assembled. -/
module

public import proofs.«01_k».proof.Defs
public import proofs.«01_k».proof.Proof.Frames
public import proofs.«01_k».proof.Proof.Finite
public import proofs.«01_k».proof.Proof.Meet
public import proofs.«01_k».proof.Proof.Gen.Kernel
public import proofs.«01_k».proof.Proof.Gen.KernelIdeal
public import proofs.«01_k».proof.Proof.Gen.ReferenceIdeal
public import proofs.«01_k».proof.Proof.Gen.KernelIdeal.Value
public import proofs.«01_k».proof.Proof.Gen.ReferenceIdeal.Run
public import proofs.«01_k».proof.Proof.MergeBwd
public import proofs.«01_k».proof.Proof.Gen.MergeBwd.Frame
public import proofs.«01_k».proof.Proof.Gen.MergeBwdIdeal.Value
public import proofs.«01_k».proof.Proof.Gen.MergeBwdReferenceIdeal.Run
public import proofs.«01_k».proof.Proof.Gen.MergeBwd
public import proofs.«01_k».proof.Proof.Gen.MergeBwdIdeal
public import proofs.«01_k».proof.Proof.Gen.MergeBwdReferenceIdeal
public import proofs.«01_k».proof.Proof.RnnOutBwd
public import proofs.«01_k».proof.Proof.Gen.RnnOutBwd.Frame
public import proofs.«01_k».proof.Proof.Gen.RnnOutBwdIdeal.Value
public import proofs.«01_k».proof.Proof.Gen.RnnOutBwdReferenceIdeal.Run
public import proofs.«01_k».proof.Proof.Gen.RnnOutBwd
public import proofs.«01_k».proof.Proof.Gen.RnnOutBwdIdeal
public import proofs.«01_k».proof.Proof.Gen.RnnOutBwdReferenceIdeal
public import proofs.«01_k».proof.Proof.MergeFwd
public import proofs.«01_k».proof.Proof.Gen.MergeFwd.Frame
public import proofs.«01_k».proof.Proof.Gen.MergeFwdIdeal.Value
public import proofs.«01_k».proof.Proof.Gen.MergeFwdReferenceIdeal.Run
public import proofs.«01_k».proof.Proof.Gen.MergeFwd
public import proofs.«01_k».proof.Proof.Gen.MergeFwdIdeal
public import proofs.«01_k».proof.Proof.Gen.MergeFwdReferenceIdeal
public import proofs.«01_k».proof.Proof.RnnOutFwd
public import proofs.«01_k».proof.Proof.Gen.RnnOutFwd.Frame
public import proofs.«01_k».proof.Proof.Gen.RnnOutFwdIdeal.Value
public import proofs.«01_k».proof.Proof.Gen.RnnOutFwdReferenceIdeal.Run
public import proofs.«01_k».proof.Proof.Gen.RnnOutFwd
public import proofs.«01_k».proof.Proof.Gen.RnnOutFwdIdeal
public import proofs.«01_k».proof.Proof.Gen.RnnOutFwdReferenceIdeal
public import proofs.«01_k».proof.Proof.Names
public import proofs.«01_k».proof.Proof.FwdMeet
public import proofs.«01_k».proof.Proof.Gen.AttnFwd
public import proofs.«01_k».proof.Proof.Gen.AttnFwdIdeal
public import proofs.«01_k».proof.Proof.Gen.AttnFwdReferenceIdeal
public import proofs.«01_k».proof.Proof.ZProjDw
public import proofs.«01_k».proof.Proof.Gen.ZProjDw.Frame
public import proofs.«01_k».proof.Proof.Gen.ZProjDwIdeal.Value
public import proofs.«01_k».proof.Proof.Gen.ZProjDwReferenceIdeal.Run
public import proofs.«01_k».proof.Proof.Gen.ZProjDw
public import proofs.«01_k».proof.Proof.Gen.ZProjDwIdeal
public import proofs.«01_k».proof.Proof.Gen.ZProjDwReferenceIdeal
public import proofs.«01_k».proof.Proof.ZProjDx
public import proofs.«01_k».proof.Proof.Gen.ZProjDx.Frame
public import proofs.«01_k».proof.Proof.Gen.ZProjDxIdeal.Value
public import proofs.«01_k».proof.Proof.Gen.ZProjDxReferenceIdeal.Run
public import proofs.«01_k».proof.Proof.Gen.ZProjDx
public import proofs.«01_k».proof.Proof.Gen.ZProjDxIdeal
public import proofs.«01_k».proof.Proof.Gen.ZProjDxReferenceIdeal
public import proofs.«01_k».proof.Proof.FfnInDw
public import proofs.«01_k».proof.Proof.Gen.FfnInDw.Frame
public import proofs.«01_k».proof.Proof.Gen.FfnInDwIdeal.Value
public import proofs.«01_k».proof.Proof.Gen.FfnInDwReferenceIdeal.Run
public import proofs.«01_k».proof.Proof.Gen.FfnInDw
public import proofs.«01_k».proof.Proof.Gen.FfnInDwIdeal
public import proofs.«01_k».proof.Proof.Gen.FfnInDwReferenceIdeal
public import proofs.«01_k».proof.Proof.FfnInDx
public import proofs.«01_k».proof.Proof.Gen.FfnInDx.Frame
public import proofs.«01_k».proof.Proof.Gen.FfnInDxIdeal.Value
public import proofs.«01_k».proof.Proof.Gen.FfnInDxReferenceIdeal.Run
public import proofs.«01_k».proof.Proof.Gen.FfnInDx
public import proofs.«01_k».proof.Proof.Gen.FfnInDxIdeal
public import proofs.«01_k».proof.Proof.Gen.FfnInDxReferenceIdeal
public import proofs.«01_k».proof.Proof.FfnOutDw
public import proofs.«01_k».proof.Proof.Gen.FfnOutDw.Frame
public import proofs.«01_k».proof.Proof.Gen.FfnOutDwIdeal.Value
public import proofs.«01_k».proof.Proof.Gen.FfnOutDwReferenceIdeal.Run
public import proofs.«01_k».proof.Proof.Gen.FfnOutDw
public import proofs.«01_k».proof.Proof.Gen.FfnOutDwIdeal
public import proofs.«01_k».proof.Proof.Gen.FfnOutDwReferenceIdeal
public import proofs.«01_k».proof.Proof.FfnOutDx
public import proofs.«01_k».proof.Proof.Gen.FfnOutDx.Frame
public import proofs.«01_k».proof.Proof.Gen.FfnOutDxIdeal.Value
public import proofs.«01_k».proof.Proof.Gen.FfnOutDxReferenceIdeal.Run
public import proofs.«01_k».proof.Proof.Gen.FfnOutDx
public import proofs.«01_k».proof.Proof.Gen.FfnOutDxIdeal
public import proofs.«01_k».proof.Proof.Gen.FfnOutDxReferenceIdeal
public import proofs.«01_k».proof.Proof.MixOutDw
public import proofs.«01_k».proof.Proof.Gen.MixOutDw.Frame
public import proofs.«01_k».proof.Proof.Gen.MixOutDwIdeal.Value
public import proofs.«01_k».proof.Proof.Gen.MixOutDwReferenceIdeal.Run
public import proofs.«01_k».proof.Proof.Gen.MixOutDw
public import proofs.«01_k».proof.Proof.Gen.MixOutDwIdeal
public import proofs.«01_k».proof.Proof.Gen.MixOutDwReferenceIdeal
public import proofs.«01_k».proof.Proof.MixOutDx
public import proofs.«01_k».proof.Proof.Gen.MixOutDx.Frame
public import proofs.«01_k».proof.Proof.Gen.MixOutDxIdeal.Value
public import proofs.«01_k».proof.Proof.Gen.MixOutDxReferenceIdeal.Run
public import proofs.«01_k».proof.Proof.Gen.MixOutDx
public import proofs.«01_k».proof.Proof.Gen.MixOutDxIdeal
public import proofs.«01_k».proof.Proof.Gen.MixOutDxReferenceIdeal
public import proofs.«01_k».proof.Proof.BranchAttDx
public import proofs.«01_k».proof.Proof.Gen.BranchAttDx.Frame
public import proofs.«01_k».proof.Proof.Gen.BranchAttDxIdeal.Value
public import proofs.«01_k».proof.Proof.Gen.BranchAttDxReferenceIdeal.Run
public import proofs.«01_k».proof.Proof.Gen.BranchAttDx
public import proofs.«01_k».proof.Proof.Gen.BranchAttDxIdeal
public import proofs.«01_k».proof.Proof.Gen.BranchAttDxReferenceIdeal
public import proofs.«01_k».proof.Proof.MixOut
public import proofs.«01_k».proof.Proof.Gen.MixOut.Frame
public import proofs.«01_k».proof.Proof.Gen.MixOutIdeal.Value
public import proofs.«01_k».proof.Proof.Gen.MixOutReferenceIdeal.Run
public import proofs.«01_k».proof.Proof.Gen.MixOut
public import proofs.«01_k».proof.Proof.Gen.MixOutIdeal
public import proofs.«01_k».proof.Proof.Gen.MixOutReferenceIdeal
public import proofs.«01_k».proof.Proof.ZProjQkv
public import proofs.«01_k».proof.Proof.Gen.ZProjQkv.Frame
public import proofs.«01_k».proof.Proof.Gen.ZProjQkvIdeal.Value
public import proofs.«01_k».proof.Proof.Gen.ZProjQkvReferenceIdeal.Run
public import proofs.«01_k».proof.Proof.Gen.ZProjQkv
public import proofs.«01_k».proof.Proof.Gen.ZProjQkvIdeal
public import proofs.«01_k».proof.Proof.Gen.ZProjQkvReferenceIdeal
public import proofs.«01_k».proof.Proof.ZProjRest
public import proofs.«01_k».proof.Proof.Gen.ZProjRest.Frame
public import proofs.«01_k».proof.Proof.Gen.ZProjRestIdeal.Value
public import proofs.«01_k».proof.Proof.Gen.ZProjRestReferenceIdeal.Run
public import proofs.«01_k».proof.Proof.Gen.ZProjRest
public import proofs.«01_k».proof.Proof.Gen.ZProjRestIdeal
public import proofs.«01_k».proof.Proof.Gen.ZProjRestReferenceIdeal
public import proofs.«01_k».proof.Proof.FfnIn
public import proofs.«01_k».proof.Proof.Gen.FfnIn.Frame
public import proofs.«01_k».proof.Proof.Gen.FfnInIdeal.Value
public import proofs.«01_k».proof.Proof.Gen.FfnInReferenceIdeal.Run
public import proofs.«01_k».proof.Proof.Gen.FfnIn
public import proofs.«01_k».proof.Proof.Gen.FfnInIdeal
public import proofs.«01_k».proof.Proof.Gen.FfnInReferenceIdeal
public import proofs.«01_k».proof.Proof.FfnOut
public import proofs.«01_k».proof.Proof.Gen.FfnOut.Frame
public import proofs.«01_k».proof.Proof.Gen.FfnOutIdeal.Value
public import proofs.«01_k».proof.Proof.Gen.FfnOutReferenceIdeal.Run
public import proofs.«01_k».proof.Proof.Gen.FfnOut
public import proofs.«01_k».proof.Proof.Gen.FfnOutIdeal
public import proofs.«01_k».proof.Proof.Gen.FfnOutReferenceIdeal
public import proofs.«01_k».proof.Proof.Gen.BranchAttDw
public import proofs.«01_k».proof.Proof.Gen.BranchAttDwIdeal
public import proofs.«01_k».proof.Proof.Gen.BranchAttDwReferenceIdeal
public import proofs.«01_k».proof.Proof.Gen.BranchRnnDw
public import proofs.«01_k».proof.Proof.Gen.BranchRnnDwIdeal
public import proofs.«01_k».proof.Proof.Gen.BranchRnnDwReferenceIdeal
public import proofs.«01_k».proof.Proof.Gen.PleGateDw
public import proofs.«01_k».proof.Proof.Gen.PleGateDwIdeal
public import proofs.«01_k».proof.Proof.Gen.PleGateDwReferenceIdeal
public import proofs.«01_k».proof.Proof.Gen.BranchRnnDx
public import proofs.«01_k».proof.Proof.Gen.BranchRnnDxIdeal
public import proofs.«01_k».proof.Proof.Gen.BranchRnnDxReferenceIdeal
public import proofs.«01_k».proof.Proof.Gen.PleGateDx
public import proofs.«01_k».proof.Proof.Gen.PleGateDxIdeal
public import proofs.«01_k».proof.Proof.Gen.PleGateDxReferenceIdeal
public import proofs.«01_k».proof.Proof.Gen.BranchAtt
public import proofs.«01_k».proof.Proof.Gen.BranchAttIdeal
public import proofs.«01_k».proof.Proof.Gen.BranchAttReferenceIdeal
public import proofs.«01_k».proof.Proof.Gen.BranchRnn
public import proofs.«01_k».proof.Proof.Gen.BranchRnnIdeal
public import proofs.«01_k».proof.Proof.Gen.BranchRnnReferenceIdeal
public import proofs.«01_k».proof.Proof.Gen.PleGate
public import proofs.«01_k».proof.Proof.Gen.PleGateIdeal
public import proofs.«01_k».proof.Proof.Gen.PleGateReferenceIdeal
public import proofs.«01_k».proof.Proof.PleProj
public import proofs.«01_k».proof.Proof.Gen.PleProj.Frame
public import proofs.«01_k».proof.Proof.Gen.PleProjIdeal.Value
public import proofs.«01_k».proof.Proof.Gen.PleProjReferenceIdeal.Run
public import proofs.«01_k».proof.Proof.Gen.PleProj
public import proofs.«01_k».proof.Proof.Gen.PleProjIdeal
public import proofs.«01_k».proof.Proof.Gen.PleProjReferenceIdeal
public import proofs.«01_k».proof.Proof.PleProjDw
public import proofs.«01_k».proof.Proof.Gen.PleProjDw.Frame
public import proofs.«01_k».proof.Proof.Gen.PleProjDwIdeal.Value
public import proofs.«01_k».proof.Proof.Gen.PleProjDwReferenceIdeal.Run
public import proofs.«01_k».proof.Proof.Gen.PleProjDw
public import proofs.«01_k».proof.Proof.Gen.PleProjDwIdeal
public import proofs.«01_k».proof.Proof.Gen.PleProjDwReferenceIdeal
public import proofs.«01_k».proof.Proof.FProj
public import proofs.«01_k».proof.Proof.Gen.FProj.Frame
public import proofs.«01_k».proof.Proof.Gen.FProjIdeal.Value
public import proofs.«01_k».proof.Proof.Gen.FProjReferenceIdeal.Run
public import proofs.«01_k».proof.Proof.Gen.FProj
public import proofs.«01_k».proof.Proof.Gen.FProjIdeal
public import proofs.«01_k».proof.Proof.Gen.FProjReferenceIdeal
public import proofs.«01_k».proof.Proof.FProjDw
public import proofs.«01_k».proof.Proof.Gen.FProjDw.Frame
public import proofs.«01_k».proof.Proof.Gen.FProjDwIdeal.Value
public import proofs.«01_k».proof.Proof.Gen.FProjDwReferenceIdeal.Run
public import proofs.«01_k».proof.Proof.Gen.FProjDw
public import proofs.«01_k».proof.Proof.Gen.FProjDwIdeal
public import proofs.«01_k».proof.Proof.Gen.FProjDwReferenceIdeal
public import proofs.«01_k».proof.Proof.FProjDx
public import proofs.«01_k».proof.Proof.Gen.FProjDx.Frame
public import proofs.«01_k».proof.Proof.Gen.FProjDxIdeal.Value
public import proofs.«01_k».proof.Proof.Gen.FProjDxReferenceIdeal.Run
public import proofs.«01_k».proof.Proof.Gen.FProjDx
public import proofs.«01_k».proof.Proof.Gen.FProjDxIdeal
public import proofs.«01_k».proof.Proof.Gen.FProjDxReferenceIdeal
public import Idealize.ShloMosaic.Adequacy
public import Idealize.ShloMosaic.Init

@[expose] public section

noncomputable section

namespace Cert.Proof

open Idealize.ShloMosaic Idealize.ShloMosaic.TcCoe Idealize.SL.Sem

/-- The kernel and the reference, from memories agreeing on the arguments, end with equal results. -/
theorem same_results : Cert.algebraic_KernelIdeal_ReferenceIdeal_pre_finite (hKernelIdeal := Cert.KernelIdeal.Gen.facts)
    (hReferenceIdeal := Cert.ReferenceIdeal.Gen.facts) (hPre_finite := Cert.Fox.finite_facts) := by
  intro m g m' g' hp hm
  refine ⟨fun c => Cert.ReferenceIdeal.Value.res_out0 m' c, fun c => Cert.ReferenceIdeal.Value.res_out1 m' c,
    fun c => Cert.ReferenceIdeal.Value.res_out2 m' c, fun c => Cert.ReferenceIdeal.Value.res_out3 m' c,
    fun c => Cert.ReferenceIdeal.Value.res_out4 m' c, ?_, ?_⟩
  · refine (θ_run Cert.KernelIdeal.defs _ _).mono (fun r h c => ?_) (Cert.KernelIdeal.Value.run_blocks (F := Ideal) m g)
    obtain ⟨e0, e1, e2, e3, e4, ea⟩ := h c
    obtain ⟨A, hA⟩ := Cert.Fox.data_of _ _ _ (hp c)
    obtain ⟨a0, a1, a2⟩ := hm c
    exact ⟨e0.trans ((Cert.Fox.kern0 m c hA rfl rfl rfl).trans (Cert.Fox.ref0 m' c a0 a1 a2).symm),
      e1.trans ((Cert.Fox.kern1 m c hA rfl rfl rfl).trans (Cert.Fox.ref1 m' c a0 a1 a2).symm),
      e2.trans ((Cert.Fox.kern2 m c hA rfl rfl rfl).trans (Cert.Fox.ref2 m' c a0 a1 a2).symm),
      e3.trans ((Cert.Fox.kern3 m c hA rfl rfl rfl).trans (Cert.Fox.ref3 m' c a0 a1 a2).symm),
      e4.trans ((Cert.Fox.kern4 m c hA rfl rfl rfl).trans (Cert.Fox.ref4 m' c a0 a1 a2).symm), ea⟩
  · exact Cert.ReferenceIdeal.Value.run (F := Ideal) m' g'

theorem claim : Cert.Claim := ⟨Cert.Kernel.Gen.facts, Cert.KernelIdeal.Gen.facts, Cert.ReferenceIdeal.Gen.facts,
  Cert.AttnFwd.Gen.facts, Cert.AttnFwdIdeal.Gen.facts, Cert.AttnFwdReferenceIdeal.Gen.facts,
  Cert.ZProjDw.Gen.facts, Cert.ZProjDwIdeal.Gen.facts, Cert.ZProjDwReferenceIdeal.Gen.facts,
  Cert.ZProjDx.Gen.facts, Cert.ZProjDxIdeal.Gen.facts, Cert.ZProjDxReferenceIdeal.Gen.facts,
  Cert.FfnInDw.Gen.facts, Cert.FfnInDwIdeal.Gen.facts, Cert.FfnInDwReferenceIdeal.Gen.facts,
  Cert.FfnInDx.Gen.facts, Cert.FfnInDxIdeal.Gen.facts, Cert.FfnInDxReferenceIdeal.Gen.facts,
  Cert.FfnOutDw.Gen.facts, Cert.FfnOutDwIdeal.Gen.facts, Cert.FfnOutDwReferenceIdeal.Gen.facts,
  Cert.FfnOutDx.Gen.facts, Cert.FfnOutDxIdeal.Gen.facts, Cert.FfnOutDxReferenceIdeal.Gen.facts,
  Cert.MixOutDw.Gen.facts, Cert.MixOutDwIdeal.Gen.facts, Cert.MixOutDwReferenceIdeal.Gen.facts,
  Cert.MixOutDx.Gen.facts, Cert.MixOutDxIdeal.Gen.facts, Cert.MixOutDxReferenceIdeal.Gen.facts,
  Cert.BranchAttDx.Gen.facts, Cert.BranchAttDxIdeal.Gen.facts, Cert.BranchAttDxReferenceIdeal.Gen.facts,
  Cert.MixOut.Gen.facts, Cert.MixOutIdeal.Gen.facts, Cert.MixOutReferenceIdeal.Gen.facts,
  Cert.ZProjQkv.Gen.facts, Cert.ZProjQkvIdeal.Gen.facts, Cert.ZProjQkvReferenceIdeal.Gen.facts,
  Cert.ZProjRest.Gen.facts, Cert.ZProjRestIdeal.Gen.facts, Cert.ZProjRestReferenceIdeal.Gen.facts,
  Cert.FfnIn.Gen.facts, Cert.FfnInIdeal.Gen.facts, Cert.FfnInReferenceIdeal.Gen.facts,
  Cert.FfnOut.Gen.facts, Cert.FfnOutIdeal.Gen.facts, Cert.FfnOutReferenceIdeal.Gen.facts,
  Cert.BranchAttDw.Gen.facts, Cert.BranchAttDwIdeal.Gen.facts, Cert.BranchAttDwReferenceIdeal.Gen.facts,
  Cert.BranchRnnDw.Gen.facts, Cert.BranchRnnDwIdeal.Gen.facts, Cert.BranchRnnDwReferenceIdeal.Gen.facts,
  Cert.PleGateDw.Gen.facts, Cert.PleGateDwIdeal.Gen.facts, Cert.PleGateDwReferenceIdeal.Gen.facts,
  Cert.BranchRnnDx.Gen.facts, Cert.BranchRnnDxIdeal.Gen.facts, Cert.BranchRnnDxReferenceIdeal.Gen.facts,
  Cert.PleGateDx.Gen.facts, Cert.PleGateDxIdeal.Gen.facts, Cert.PleGateDxReferenceIdeal.Gen.facts,
  Cert.BranchAtt.Gen.facts, Cert.BranchAttIdeal.Gen.facts, Cert.BranchAttReferenceIdeal.Gen.facts,
  Cert.BranchRnn.Gen.facts, Cert.BranchRnnIdeal.Gen.facts, Cert.BranchRnnReferenceIdeal.Gen.facts,
  Cert.PleGate.Gen.facts, Cert.PleGateIdeal.Gen.facts, Cert.PleGateReferenceIdeal.Gen.facts,
  Cert.PleProj.Gen.facts, Cert.PleProjIdeal.Gen.facts, Cert.PleProjReferenceIdeal.Gen.facts,
  Cert.PleProjDw.Gen.facts, Cert.PleProjDwIdeal.Gen.facts, Cert.PleProjDwReferenceIdeal.Gen.facts,
  Cert.FProj.Gen.facts, Cert.FProjIdeal.Gen.facts, Cert.FProjReferenceIdeal.Gen.facts,
  Cert.FProjDw.Gen.facts, Cert.FProjDwIdeal.Gen.facts, Cert.FProjDwReferenceIdeal.Gen.facts,
  Cert.FProjDx.Gen.facts, Cert.FProjDxIdeal.Gen.facts, Cert.FProjDxReferenceIdeal.Gen.facts,
  Cert.MergeBwd.Gen.facts, Cert.MergeBwdIdeal.Gen.facts, Cert.MergeBwdReferenceIdeal.Gen.facts,
  Cert.RnnOutBwd.Gen.facts, Cert.RnnOutBwdIdeal.Gen.facts, Cert.RnnOutBwdReferenceIdeal.Gen.facts,
  Cert.MergeFwd.Gen.facts, Cert.MergeFwdIdeal.Gen.facts, Cert.MergeFwdReferenceIdeal.Gen.facts,
  Cert.RnnOutFwd.Gen.facts, Cert.RnnOutFwdIdeal.Gen.facts, Cert.RnnOutFwdReferenceIdeal.Gen.facts,
  Cert.Fox.finite_facts, Cert.Fwd.finite_facts,
  Cert.Fox.frame_kernel, Cert.Fox.frame_ideal, fun m g _ => Cert.Fox.frame_ideal m g trivial,
  Cert.Fox.frame_reference, fun m g _ => Cert.Fox.frame_reference m g trivial,
  Cert.Fwd.frame_kernel, Cert.Fwd.frame_ideal, fun m g _ => Cert.Fwd.frame_ideal m g trivial,
  Cert.Fwd.frame_reference, fun m g _ => Cert.Fwd.frame_reference m g trivial,
  Cert.Product.ZDw.frame_kernel, Cert.Product.ZDw.frame_ideal, Cert.Product.ZDw.frame_reference,
  Cert.Product.ZDx.frame_kernel, Cert.Product.ZDx.frame_ideal, Cert.Product.ZDx.frame_reference,
  Cert.Product.InDw.frame_kernel, Cert.Product.InDw.frame_ideal, Cert.Product.InDw.frame_reference,
  Cert.Product.InDx.frame_kernel, Cert.Product.InDx.frame_ideal, Cert.Product.InDx.frame_reference,
  Cert.Product.OutDw.frame_kernel, Cert.Product.OutDw.frame_ideal, Cert.Product.OutDw.frame_reference,
  Cert.Product.OutDx.frame_kernel, Cert.Product.OutDx.frame_ideal, Cert.Product.OutDx.frame_reference,
  Cert.Product.MixOutDw.frame_kernel, Cert.Product.MixOutDw.frame_ideal, Cert.Product.MixOutDw.frame_reference,
  Cert.Product.MixOutDx.frame_kernel, Cert.Product.MixOutDx.frame_ideal, Cert.Product.MixOutDx.frame_reference,
  Cert.Product.BranchAttDx.frame_kernel, Cert.Product.BranchAttDx.frame_ideal, Cert.Product.BranchAttDx.frame_reference,
  Cert.Product.MixOut.frame_kernel, Cert.Product.MixOut.frame_ideal, Cert.Product.MixOut.frame_reference,
  Cert.Product.ZProjQkv.frame_kernel, Cert.Product.ZProjQkv.frame_ideal, Cert.Product.ZProjQkv.frame_reference,
  Cert.Product.ZProjRest.frame_kernel, Cert.Product.ZProjRest.frame_ideal, Cert.Product.ZProjRest.frame_reference,
  Cert.Product.FfnIn.frame_kernel, Cert.Product.FfnIn.frame_ideal, Cert.Product.FfnIn.frame_reference,
  Cert.Product.FfnOut.frame_kernel, Cert.Product.FfnOut.frame_ideal, Cert.Product.FfnOut.frame_reference,
  Cert.Product.BranchAttDw.frame_kernel, Cert.Product.BranchAttDw.frame_ideal, Cert.Product.BranchAttDw.frame_reference,
  Cert.Product.BranchRnnDw.frame_kernel, Cert.Product.BranchRnnDw.frame_ideal, Cert.Product.BranchRnnDw.frame_reference,
  Cert.Product.PleGateDw.frame_kernel, Cert.Product.PleGateDw.frame_ideal, Cert.Product.PleGateDw.frame_reference,
  Cert.Product.BranchRnnDx.frame_kernel, Cert.Product.BranchRnnDx.frame_ideal, Cert.Product.BranchRnnDx.frame_reference,
  Cert.Product.PleGateDx.frame_kernel, Cert.Product.PleGateDx.frame_ideal, Cert.Product.PleGateDx.frame_reference,
  Cert.Product.BranchAtt.frame_kernel, Cert.Product.BranchAtt.frame_ideal, Cert.Product.BranchAtt.frame_reference,
  Cert.Product.BranchRnn.frame_kernel, Cert.Product.BranchRnn.frame_ideal, Cert.Product.BranchRnn.frame_reference,
  Cert.Product.PleGate.frame_kernel, Cert.Product.PleGate.frame_ideal, Cert.Product.PleGate.frame_reference,
  Cert.Product.PleProj.frame_kernel, Cert.Product.PleProj.frame_ideal, Cert.Product.PleProj.frame_reference,
  Cert.Product.PleProjDw.frame_kernel, Cert.Product.PleProjDw.frame_ideal, Cert.Product.PleProjDw.frame_reference,
  Cert.Product.FProj.frame_kernel, Cert.Product.FProj.frame_ideal, Cert.Product.FProj.frame_reference,
  Cert.Product.FProjDw.frame_kernel, Cert.Product.FProjDw.frame_ideal, Cert.Product.FProjDw.frame_reference,
  Cert.Product.FProjDx.frame_kernel, Cert.Product.FProjDx.frame_ideal, Cert.Product.FProjDx.frame_reference,
  Cert.Row.MergeBwd.frame_kernel, Cert.Row.MergeBwd.frame_ideal, Cert.Row.MergeBwd.frame_reference,
  Cert.Row.RnnOutBwd.frame_kernel, Cert.Row.RnnOutBwd.frame_ideal, Cert.Row.RnnOutBwd.frame_reference,
  Cert.Row.MergeFwd.frame_kernel, Cert.Row.MergeFwd.frame_ideal, Cert.Row.MergeFwd.frame_reference,
  Cert.Row.RnnOutFwd.frame_kernel, Cert.Row.RnnOutFwd.frame_ideal, Cert.Row.RnnOutFwd.frame_reference,
  Cert.Fox.mask_named, same_results, Cert.Fwd.mask_named, Cert.Fwd.same,
  trivial, Cert.Product.ZDw.same,
  trivial, Cert.Product.ZDx.same,
  trivial, Cert.Product.InDw.same,
  trivial, Cert.Product.InDx.same,
  trivial, Cert.Product.OutDw.same,
  trivial, Cert.Product.OutDx.same,
  trivial, Cert.Product.MixOutDw.same,
  trivial, Cert.Product.MixOutDx.same,
  trivial, Cert.Product.BranchAttDx.same,
  trivial, Cert.Product.MixOut.same,
  trivial, Cert.Product.ZProjQkv.same,
  trivial, Cert.Product.ZProjRest.same,
  trivial, Cert.Product.FfnIn.same,
  trivial, Cert.Product.FfnOut.same,
  trivial, Cert.Product.BranchAttDw.same,
  trivial, Cert.Product.BranchRnnDw.same,
  trivial, Cert.Product.PleGateDw.same,
  trivial, Cert.Product.BranchRnnDx.same,
  trivial, Cert.Product.PleGateDx.same,
  trivial, Cert.Product.BranchAtt.same,
  trivial, Cert.Product.BranchRnn.same,
  trivial, Cert.Product.PleGate.same,
  trivial, Cert.Product.PleProj.same,
  trivial, Cert.Product.PleProjDw.same,
  trivial, Cert.Product.FProj.same,
  trivial, Cert.Product.FProjDw.same,
  trivial, Cert.Product.FProjDx.same,
  trivial, Cert.Row.MergeBwd.same,
  trivial, Cert.Row.RnnOutBwd.same,
  trivial, Cert.Row.MergeFwd.same,
  trivial, Cert.Row.RnnOutFwd.same⟩

end Cert.Proof

end
